-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_AdamWIn (m : (ℓ : Loc Cert.AdamWIn.nD Cert.AdamWIn.τ Cert.AdamWIn.sig) → Buf (Elt Bits) ℓ) : Prop :=
  True

def Pre_AdamWInIdeal (m : (ℓ : Loc Cert.AdamWInIdeal.nD Cert.AdamWInIdeal.τ Cert.AdamWInIdeal.sig) → Buf (Elt Ideal) ℓ) : Prop :=
  True

def Pre_StepWInIdeal (m : (ℓ : Loc Cert.StepWInIdeal.nD Cert.StepWInIdeal.τ Cert.StepWInIdeal.sig) → Buf (Elt Ideal) ℓ) : Prop :=
  True

def Pre_AdamS5WGlu (m : (ℓ : Loc Cert.AdamS5WGlu.nD Cert.AdamS5WGlu.τ Cert.AdamS5WGlu.sig) → Buf (Elt Bits) ℓ) : Prop :=
  True

def Pre_AdamS5WGluIdeal (m : (ℓ : Loc Cert.AdamS5WGluIdeal.nD Cert.AdamS5WGluIdeal.τ Cert.AdamS5WGluIdeal.sig) → Buf (Elt Ideal) ℓ) : Prop :=
  True

def Pre_StepS5WGluIdeal (m : (ℓ : Loc Cert.StepS5WGluIdeal.nD Cert.StepS5WGluIdeal.τ Cert.StepS5WGluIdeal.sig) → Buf (Elt Ideal) ℓ) : Prop :=
  True

def Pre_AdamS5WUp (m : (ℓ : Loc Cert.AdamS5WUp.nD Cert.AdamS5WUp.τ Cert.AdamS5WUp.sig) → Buf (Elt Bits) ℓ) : Prop :=
  True

def Pre_AdamS5WUpIdeal (m : (ℓ : Loc Cert.AdamS5WUpIdeal.nD Cert.AdamS5WUpIdeal.τ Cert.AdamS5WUpIdeal.sig) → Buf (Elt Ideal) ℓ) : Prop :=
  True

def Pre_StepS5WUpIdeal (m : (ℓ : Loc Cert.StepS5WUpIdeal.nD Cert.StepS5WUpIdeal.τ Cert.StepS5WUpIdeal.sig) → Buf (Elt Ideal) ℓ) : Prop :=
  True

def Pre_AdamWOut (m : (ℓ : Loc Cert.AdamWOut.nD Cert.AdamWOut.τ Cert.AdamWOut.sig) → Buf (Elt Bits) ℓ) : Prop :=
  True

def Pre_AdamWOutIdeal (m : (ℓ : Loc Cert.AdamWOutIdeal.nD Cert.AdamWOutIdeal.τ Cert.AdamWOutIdeal.sig) → Buf (Elt Ideal) ℓ) : Prop :=
  True

def Pre_StepWOutIdeal (m : (ℓ : Loc Cert.StepWOutIdeal.nD Cert.StepWOutIdeal.τ Cert.StepWOutIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_StepSmallIdeal (m : (ℓ : Loc Cert.StepSmallIdeal.nD Cert.StepSmallIdeal.τ Cert.StepSmallIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_PlainSumIdeal (m : (ℓ : Loc Cert.PlainSumIdeal.nD Cert.PlainSumIdeal.τ Cert.PlainSumIdeal.sig) → Buf (Elt Ideal) ℓ) : Prop :=
  True

def Pre_GatherWeights (m : (ℓ : Loc Cert.GatherWeights.nD Cert.GatherWeights.τ Cert.GatherWeights.sig) → Buf (Elt Bits) ℓ) : Prop :=
  True

def Pre_GatherWeightsIdeal (m : (ℓ : Loc Cert.GatherWeightsIdeal.nD Cert.GatherWeightsIdeal.τ Cert.GatherWeightsIdeal.sig) → Buf (Elt Ideal) ℓ) : Prop :=
  True

def Pre_AllGatherWeightsIdeal (m : (ℓ : Loc Cert.AllGatherWeightsIdeal.nD Cert.AllGatherWeightsIdeal.τ Cert.AllGatherWeightsIdeal.sig) → Buf (Elt Ideal) ℓ) : Prop :=
  True

def Pre_AllGatherWeights (m : (ℓ : Loc Cert.AllGatherWeights.nD Cert.AllGatherWeights.τ Cert.AllGatherWeights.sig) → Buf (Elt Bits) ℓ) : Prop :=
  True

def Pre_GatherSmallGrads (m : (ℓ : Loc Cert.GatherSmallGrads.nD Cert.GatherSmallGrads.τ Cert.GatherSmallGrads.sig) → Buf (Elt Bits) ℓ) : Prop :=
  True

def Pre_GatherSmallGradsIdeal (m : (ℓ : Loc Cert.GatherSmallGradsIdeal.nD Cert.GatherSmallGradsIdeal.τ Cert.GatherSmallGradsIdeal.sig) → Buf (Elt Ideal) ℓ) : Prop :=
  True

def Pre_AllGatherSmallGradsIdeal (m : (ℓ : Loc Cert.AllGatherSmallGradsIdeal.nD Cert.AllGatherSmallGradsIdeal.τ Cert.AllGatherSmallGradsIdeal.sig) → Buf (Elt Ideal) ℓ) : Prop :=
  True

def Pre_AllGatherSmallGrads (m : (ℓ : Loc Cert.AllGatherSmallGrads.nD Cert.AllGatherSmallGrads.τ Cert.AllGatherSmallGrads.sig) → Buf (Elt Bits) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_PulledBackIdeal (m : (ℓ : Loc Cert.PulledBackIdeal.nD Cert.PulledBackIdeal.τ Cert.PulledBackIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_PlainFinalIdeal (m : (ℓ : Loc Cert.PlainFinalIdeal.nD Cert.PlainFinalIdeal.τ Cert.PlainFinalIdeal.sig) → Buf (Elt Ideal) ℓ) : Prop :=
  True

def Pre_Total (m : (ℓ : Loc Cert.Total.nD Cert.Total.τ Cert.Total.sig) → Buf (Elt Bits) ℓ) : Prop :=
  True

def Pre_TotalIdeal (m : (ℓ : Loc Cert.TotalIdeal.nD Cert.TotalIdeal.τ Cert.TotalIdeal.sig) → Buf (Elt Ideal) ℓ) : Prop :=
  True

def Pre_PlainTotalIdeal (m : (ℓ : Loc Cert.PlainTotalIdeal.nD Cert.PlainTotalIdeal.τ Cert.PlainTotalIdeal.sig) → Buf (Elt Ideal) ℓ) : Prop :=
  True

def Pre_ProductWOut (m : (ℓ : Loc Cert.ProductWOut.nD Cert.ProductWOut.τ Cert.ProductWOut.sig) → Buf (Elt Bits) ℓ) : Prop :=
  True

def Pre_ProductWOutIdeal (m : (ℓ : Loc Cert.ProductWOutIdeal.nD Cert.ProductWOutIdeal.τ Cert.ProductWOutIdeal.sig) → Buf (Elt Ideal) ℓ) : Prop :=
  True

def Pre_PlainWOutIdeal (m : (ℓ : Loc Cert.PlainWOutIdeal.nD Cert.PlainWOutIdeal.τ Cert.PlainWOutIdeal.sig) → Buf (Elt Ideal) ℓ) : Prop :=
  True

def Pre_ProductGradWOut (m : (ℓ : Loc Cert.ProductGradWOut.nD Cert.ProductGradWOut.τ Cert.ProductGradWOut.sig) → Buf (Elt Bits) ℓ) : Prop :=
  True

def Pre_ProductGradWOutIdeal (m : (ℓ : Loc Cert.ProductGradWOutIdeal.nD Cert.ProductGradWOutIdeal.τ Cert.ProductGradWOutIdeal.sig) → Buf (Elt Ideal) ℓ) : Prop :=
  True

def Pre_PlainGradWOutIdeal (m : (ℓ : Loc Cert.PlainGradWOutIdeal.nD Cert.PlainGradWOutIdeal.τ Cert.PlainGradWOutIdeal.sig) → Buf (Elt Ideal) ℓ) : Prop :=
  True

def Pre_ProductDMixed (m : (ℓ : Loc Cert.ProductDMixed.nD Cert.ProductDMixed.τ Cert.ProductDMixed.sig) → Buf (Elt Bits) ℓ) : Prop :=
  True

def Pre_ProductDMixedIdeal (m : (ℓ : Loc Cert.ProductDMixedIdeal.nD Cert.ProductDMixedIdeal.τ Cert.ProductDMixedIdeal.sig) → Buf (Elt Ideal) ℓ) : Prop :=
  True

def Pre_PlainDMixedIdeal (m : (ℓ : Loc Cert.PlainDMixedIdeal.nD Cert.PlainDMixedIdeal.τ Cert.PlainDMixedIdeal.sig) → Buf (Elt Ideal) ℓ) : Prop :=
  True

def Pre_ProductS5Up (m : (ℓ : Loc Cert.ProductS5Up.nD Cert.ProductS5Up.τ Cert.ProductS5Up.sig) → Buf (Elt Bits) ℓ) : Prop :=
  True

def Pre_ProductS5UpIdeal (m : (ℓ : Loc Cert.ProductS5UpIdeal.nD Cert.ProductS5UpIdeal.τ Cert.ProductS5UpIdeal.sig) → Buf (Elt Ideal) ℓ) : Prop :=
  True

def Pre_PlainS5UpIdeal (m : (ℓ : Loc Cert.PlainS5UpIdeal.nD Cert.PlainS5UpIdeal.τ Cert.PlainS5UpIdeal.sig) → Buf (Elt Ideal) ℓ) : Prop :=
  True

def Pre_ProductGradS5Up (m : (ℓ : Loc Cert.ProductGradS5Up.nD Cert.ProductGradS5Up.τ Cert.ProductGradS5Up.sig) → Buf (Elt Bits) ℓ) : Prop :=
  True

def Pre_ProductGradS5UpIdeal (m : (ℓ : Loc Cert.ProductGradS5UpIdeal.nD Cert.ProductGradS5UpIdeal.τ Cert.ProductGradS5UpIdeal.sig) → Buf (Elt Ideal) ℓ) : Prop :=
  True

def Pre_PlainGradS5UpIdeal (m : (ℓ : Loc Cert.PlainGradS5UpIdeal.nD Cert.PlainGradS5UpIdeal.τ Cert.PlainGradS5UpIdeal.sig) → Buf (Elt Ideal) ℓ) : Prop :=
  True

def Pre_ProductDOutS (m : (ℓ : Loc Cert.ProductDOutS.nD Cert.ProductDOutS.τ Cert.ProductDOutS.sig) → Buf (Elt Bits) ℓ) : Prop :=
  True

def Pre_ProductDOutSIdeal (m : (ℓ : Loc Cert.ProductDOutSIdeal.nD Cert.ProductDOutSIdeal.τ Cert.ProductDOutSIdeal.sig) → Buf (Elt Ideal) ℓ) : Prop :=
  True

def Pre_PlainDOutSIdeal (m : (ℓ : Loc Cert.PlainDOutSIdeal.nD Cert.PlainDOutSIdeal.τ Cert.PlainDOutSIdeal.sig) → Buf (Elt Ideal) ℓ) : Prop :=
  True

def Pre_ProductProj (m : (ℓ : Loc Cert.ProductProj.nD Cert.ProductProj.τ Cert.ProductProj.sig) → Buf (Elt Bits) ℓ) : Prop :=
  True

def Pre_ProductProjIdeal (m : (ℓ : Loc Cert.ProductProjIdeal.nD Cert.ProductProjIdeal.τ Cert.ProductProjIdeal.sig) → Buf (Elt Ideal) ℓ) : Prop :=
  True

def Pre_PlainProjIdeal (m : (ℓ : Loc Cert.PlainProjIdeal.nD Cert.PlainProjIdeal.τ Cert.PlainProjIdeal.sig) → Buf (Elt Ideal) ℓ) : Prop :=
  True

def Pre_ProductGradWIn (m : (ℓ : Loc Cert.ProductGradWIn.nD Cert.ProductGradWIn.τ Cert.ProductGradWIn.sig) → Buf (Elt Bits) ℓ) : Prop :=
  True

def Pre_ProductGradWInIdeal (m : (ℓ : Loc Cert.ProductGradWInIdeal.nD Cert.ProductGradWInIdeal.τ Cert.ProductGradWInIdeal.sig) → Buf (Elt Ideal) ℓ) : Prop :=
  True

def Pre_PlainGradWInIdeal (m : (ℓ : Loc Cert.PlainGradWInIdeal.nD Cert.PlainGradWInIdeal.τ Cert.PlainGradWInIdeal.sig) → Buf (Elt Ideal) ℓ) : Prop :=
  True

def Pre_ProductDH (m : (ℓ : Loc Cert.ProductDH.nD Cert.ProductDH.τ Cert.ProductDH.sig) → Buf (Elt Bits) ℓ) : Prop :=
  True

def Pre_ProductDHIdeal (m : (ℓ : Loc Cert.ProductDHIdeal.nD Cert.ProductDHIdeal.τ Cert.ProductDHIdeal.sig) → Buf (Elt Ideal) ℓ) : Prop :=
  True

def Pre_PlainDHIdeal (m : (ℓ : Loc Cert.PlainDHIdeal.nD Cert.PlainDHIdeal.τ Cert.PlainDHIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_NormedIdeal (m : (ℓ : Loc Cert.NormedIdeal.nD Cert.NormedIdeal.τ Cert.NormedIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergedIdeal (m : (ℓ : Loc Cert.MergedIdeal.nD Cert.MergedIdeal.τ Cert.MergedIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergePulledBackIdeal (m : (ℓ : Loc Cert.MergePulledBackIdeal.nD Cert.MergePulledBackIdeal.τ Cert.MergePulledBackIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def quiescent_AdamWIn [hAdamWIn : Cert.AdamWIn.Facts] : Prop :=
  ∀ (m : (ℓ : Loc Cert.AdamWIn.nD Cert.AdamWIn.τ Cert.AdamWIn.sig) → Buf (Elt Bits) ℓ) (g : Dev Cert.AdamWIn.nD → PrngReg), Pre_AdamWIn m →
    θ_run (Cert.AdamWIn.defs (F := Bits)) (onTc (τ := Cert.AdamWIn.τ) (Cert.AdamWIn.main (F := Bits))) ⟨m, fun _ => 0, g⟩ (fun r => (∀ c : Dev Cert.AdamWIn.nD,
      r.2.mem ((c.tc : Thread Cert.AdamWIn.nD Cert.AdamWIn.τ).loc Cert.AdamWIn.main_arg0) = m ((c.tc : Thread Cert.AdamWIn.nD Cert.AdamWIn.τ).loc Cert.AdamWIn.main_arg0)
      ∧ r.2.mem ((c.tc : Thread Cert.AdamWIn.nD Cert.AdamWIn.τ).loc Cert.AdamWIn.main_arg1) = m ((c.tc : Thread Cert.AdamWIn.nD Cert.AdamWIn.τ).loc Cert.AdamWIn.main_arg1)
      ∧ r.2.mem ((c.tc : Thread Cert.AdamWIn.nD Cert.AdamWIn.τ).loc Cert.AdamWIn.main_arg2) = m ((c.tc : Thread Cert.AdamWIn.nD Cert.AdamWIn.τ).loc Cert.AdamWIn.main_arg2)
      ∧ r.2.mem ((c.tc : Thread Cert.AdamWIn.nD Cert.AdamWIn.τ).loc Cert.AdamWIn.main_arg3) = m ((c.tc : Thread Cert.AdamWIn.nD Cert.AdamWIn.τ).loc Cert.AdamWIn.main_arg3))
      ∧ r.2.sem = fun _ => 0)

def quiescent_AdamWInIdeal [hAdamWInIdeal : Cert.AdamWInIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg), Pre_AdamWInIdeal m →
    θ_run (Cert.AdamWInIdeal.defs (F := Ideal)) (onTc (τ := Cert.AdamWInIdeal.τ) (Cert.AdamWInIdeal.main (F := Ideal))) ⟨m, fun _ => 0, g⟩ (fun r => (∀ c : Dev Cert.AdamWInIdeal.nD,
      r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
      ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
      ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
      ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ r.2.sem = fun _ => 0)

def quiescent_StepWInIdeal [hStepWInIdeal : Cert.StepWInIdeal.Facts] : Prop :=
  ∀ (m : (ℓ : Loc Cert.StepWInIdeal.nD Cert.StepWInIdeal.τ Cert.StepWInIdeal.sig) → Buf (Elt Ideal) ℓ) (g : Dev Cert.StepWInIdeal.nD → PrngReg), Pre_StepWInIdeal m →
    θ_run (Cert.StepWInIdeal.defs (F := Ideal)) (onTc (τ := Cert.StepWInIdeal.τ) (Cert.StepWInIdeal.main (F := Ideal))) ⟨m, fun _ => 0, g⟩ (fun r => (∀ c : Dev Cert.StepWInIdeal.nD,
      r.2.mem ((c.tc : Thread Cert.StepWInIdeal.nD Cert.StepWInIdeal.τ).loc Cert.StepWInIdeal.main_arg0) = m ((c.tc : Thread Cert.StepWInIdeal.nD Cert.StepWInIdeal.τ).loc Cert.StepWInIdeal.main_arg0)
      ∧ r.2.mem ((c.tc : Thread Cert.StepWInIdeal.nD Cert.StepWInIdeal.τ).loc Cert.StepWInIdeal.main_arg1) = m ((c.tc : Thread Cert.StepWInIdeal.nD Cert.StepWInIdeal.τ).loc Cert.StepWInIdeal.main_arg1)
      ∧ r.2.mem ((c.tc : Thread Cert.StepWInIdeal.nD Cert.StepWInIdeal.τ).loc Cert.StepWInIdeal.main_arg2) = m ((c.tc : Thread Cert.StepWInIdeal.nD Cert.StepWInIdeal.τ).loc Cert.StepWInIdeal.main_arg2)
      ∧ r.2.mem ((c.tc : Thread Cert.StepWInIdeal.nD Cert.StepWInIdeal.τ).loc Cert.StepWInIdeal.main_arg3) = m ((c.tc : Thread Cert.StepWInIdeal.nD Cert.StepWInIdeal.τ).loc Cert.StepWInIdeal.main_arg3))
      ∧ r.2.sem = fun _ => 0)

def quiescent_AdamS5WGlu [hAdamS5WGlu : Cert.AdamS5WGlu.Facts] : Prop :=
  ∀ (m : (ℓ : Loc Cert.AdamS5WGlu.nD Cert.AdamS5WGlu.τ Cert.AdamS5WGlu.sig) → Buf (Elt Bits) ℓ) (g : Dev Cert.AdamS5WGlu.nD → PrngReg), Pre_AdamS5WGlu m →
    θ_run (Cert.AdamS5WGlu.defs (F := Bits)) (onTc (τ := Cert.AdamS5WGlu.τ) (Cert.AdamS5WGlu.main (F := Bits))) ⟨m, fun _ => 0, g⟩ (fun r => (∀ c : Dev Cert.AdamS5WGlu.nD,
      r.2.mem ((c.tc : Thread Cert.AdamS5WGlu.nD Cert.AdamS5WGlu.τ).loc Cert.AdamS5WGlu.main_arg0) = m ((c.tc : Thread Cert.AdamS5WGlu.nD Cert.AdamS5WGlu.τ).loc Cert.AdamS5WGlu.main_arg0)
      ∧ r.2.mem ((c.tc : Thread Cert.AdamS5WGlu.nD Cert.AdamS5WGlu.τ).loc Cert.AdamS5WGlu.main_arg1) = m ((c.tc : Thread Cert.AdamS5WGlu.nD Cert.AdamS5WGlu.τ).loc Cert.AdamS5WGlu.main_arg1)
      ∧ r.2.mem ((c.tc : Thread Cert.AdamS5WGlu.nD Cert.AdamS5WGlu.τ).loc Cert.AdamS5WGlu.main_arg2) = m ((c.tc : Thread Cert.AdamS5WGlu.nD Cert.AdamS5WGlu.τ).loc Cert.AdamS5WGlu.main_arg2)
      ∧ r.2.mem ((c.tc : Thread Cert.AdamS5WGlu.nD Cert.AdamS5WGlu.τ).loc Cert.AdamS5WGlu.main_arg3) = m ((c.tc : Thread Cert.AdamS5WGlu.nD Cert.AdamS5WGlu.τ).loc Cert.AdamS5WGlu.main_arg3))
      ∧ r.2.sem = fun _ => 0)

def quiescent_AdamS5WGluIdeal [hAdamS5WGluIdeal : Cert.AdamS5WGluIdeal.Facts] : Prop :=
  ∀ (m : (ℓ : Loc Cert.AdamS5WGluIdeal.nD Cert.AdamS5WGluIdeal.τ Cert.AdamS5WGluIdeal.sig) → Buf (Elt Ideal) ℓ) (g : Dev Cert.AdamS5WGluIdeal.nD → PrngReg), Pre_AdamS5WGluIdeal m →
    θ_run (Cert.AdamS5WGluIdeal.defs (F := Ideal)) (onTc (τ := Cert.AdamS5WGluIdeal.τ) (Cert.AdamS5WGluIdeal.main (F := Ideal))) ⟨m, fun _ => 0, g⟩ (fun r => (∀ c : Dev Cert.AdamS5WGluIdeal.nD,
      r.2.mem ((c.tc : Thread Cert.AdamS5WGluIdeal.nD Cert.AdamS5WGluIdeal.τ).loc Cert.AdamS5WGluIdeal.main_arg0) = m ((c.tc : Thread Cert.AdamS5WGluIdeal.nD Cert.AdamS5WGluIdeal.τ).loc Cert.AdamS5WGluIdeal.main_arg0)
      ∧ r.2.mem ((c.tc : Thread Cert.AdamS5WGluIdeal.nD Cert.AdamS5WGluIdeal.τ).loc Cert.AdamS5WGluIdeal.main_arg1) = m ((c.tc : Thread Cert.AdamS5WGluIdeal.nD Cert.AdamS5WGluIdeal.τ).loc Cert.AdamS5WGluIdeal.main_arg1)
      ∧ r.2.mem ((c.tc : Thread Cert.AdamS5WGluIdeal.nD Cert.AdamS5WGluIdeal.τ).loc Cert.AdamS5WGluIdeal.main_arg2) = m ((c.tc : Thread Cert.AdamS5WGluIdeal.nD Cert.AdamS5WGluIdeal.τ).loc Cert.AdamS5WGluIdeal.main_arg2)
      ∧ r.2.mem ((c.tc : Thread Cert.AdamS5WGluIdeal.nD Cert.AdamS5WGluIdeal.τ).loc Cert.AdamS5WGluIdeal.main_arg3) = m ((c.tc : Thread Cert.AdamS5WGluIdeal.nD Cert.AdamS5WGluIdeal.τ).loc Cert.AdamS5WGluIdeal.main_arg3))
      ∧ r.2.sem = fun _ => 0)

def quiescent_StepS5WGluIdeal [hStepS5WGluIdeal : Cert.StepS5WGluIdeal.Facts] : Prop :=
  ∀ (m : (ℓ : Loc Cert.StepS5WGluIdeal.nD Cert.StepS5WGluIdeal.τ Cert.StepS5WGluIdeal.sig) → Buf (Elt Ideal) ℓ) (g : Dev Cert.StepS5WGluIdeal.nD → PrngReg), Pre_StepS5WGluIdeal m →
    θ_run (Cert.StepS5WGluIdeal.defs (F := Ideal)) (onTc (τ := Cert.StepS5WGluIdeal.τ) (Cert.StepS5WGluIdeal.main (F := Ideal))) ⟨m, fun _ => 0, g⟩ (fun r => (∀ c : Dev Cert.StepS5WGluIdeal.nD,
      r.2.mem ((c.tc : Thread Cert.StepS5WGluIdeal.nD Cert.StepS5WGluIdeal.τ).loc Cert.StepS5WGluIdeal.main_arg0) = m ((c.tc : Thread Cert.StepS5WGluIdeal.nD Cert.StepS5WGluIdeal.τ).loc Cert.StepS5WGluIdeal.main_arg0)
      ∧ r.2.mem ((c.tc : Thread Cert.StepS5WGluIdeal.nD Cert.StepS5WGluIdeal.τ).loc Cert.StepS5WGluIdeal.main_arg1) = m ((c.tc : Thread Cert.StepS5WGluIdeal.nD Cert.StepS5WGluIdeal.τ).loc Cert.StepS5WGluIdeal.main_arg1)
      ∧ r.2.mem ((c.tc : Thread Cert.StepS5WGluIdeal.nD Cert.StepS5WGluIdeal.τ).loc Cert.StepS5WGluIdeal.main_arg2) = m ((c.tc : Thread Cert.StepS5WGluIdeal.nD Cert.StepS5WGluIdeal.τ).loc Cert.StepS5WGluIdeal.main_arg2)
      ∧ r.2.mem ((c.tc : Thread Cert.StepS5WGluIdeal.nD Cert.StepS5WGluIdeal.τ).loc Cert.StepS5WGluIdeal.main_arg3) = m ((c.tc : Thread Cert.StepS5WGluIdeal.nD Cert.StepS5WGluIdeal.τ).loc Cert.StepS5WGluIdeal.main_arg3))
      ∧ r.2.sem = fun _ => 0)

def quiescent_AdamS5WUp [hAdamS5WUp : Cert.AdamS5WUp.Facts] : Prop :=
  ∀ (m : (ℓ : Loc Cert.AdamS5WUp.nD Cert.AdamS5WUp.τ Cert.AdamS5WUp.sig) → Buf (Elt Bits) ℓ) (g : Dev Cert.AdamS5WUp.nD → PrngReg), Pre_AdamS5WUp m →
    θ_run (Cert.AdamS5WUp.defs (F := Bits)) (onTc (τ := Cert.AdamS5WUp.τ) (Cert.AdamS5WUp.main (F := Bits))) ⟨m, fun _ => 0, g⟩ (fun r => (∀ c : Dev Cert.AdamS5WUp.nD,
      r.2.mem ((c.tc : Thread Cert.AdamS5WUp.nD Cert.AdamS5WUp.τ).loc Cert.AdamS5WUp.main_arg0) = m ((c.tc : Thread Cert.AdamS5WUp.nD Cert.AdamS5WUp.τ).loc Cert.AdamS5WUp.main_arg0)
      ∧ r.2.mem ((c.tc : Thread Cert.AdamS5WUp.nD Cert.AdamS5WUp.τ).loc Cert.AdamS5WUp.main_arg1) = m ((c.tc : Thread Cert.AdamS5WUp.nD Cert.AdamS5WUp.τ).loc Cert.AdamS5WUp.main_arg1)
      ∧ r.2.mem ((c.tc : Thread Cert.AdamS5WUp.nD Cert.AdamS5WUp.τ).loc Cert.AdamS5WUp.main_arg2) = m ((c.tc : Thread Cert.AdamS5WUp.nD Cert.AdamS5WUp.τ).loc Cert.AdamS5WUp.main_arg2)
      ∧ r.2.mem ((c.tc : Thread Cert.AdamS5WUp.nD Cert.AdamS5WUp.τ).loc Cert.AdamS5WUp.main_arg3) = m ((c.tc : Thread Cert.AdamS5WUp.nD Cert.AdamS5WUp.τ).loc Cert.AdamS5WUp.main_arg3))
      ∧ r.2.sem = fun _ => 0)

def quiescent_AdamS5WUpIdeal [hAdamS5WUpIdeal : Cert.AdamS5WUpIdeal.Facts] : Prop :=
  ∀ (m : (ℓ : Loc Cert.AdamS5WUpIdeal.nD Cert.AdamS5WUpIdeal.τ Cert.AdamS5WUpIdeal.sig) → Buf (Elt Ideal) ℓ) (g : Dev Cert.AdamS5WUpIdeal.nD → PrngReg), Pre_AdamS5WUpIdeal m →
    θ_run (Cert.AdamS5WUpIdeal.defs (F := Ideal)) (onTc (τ := Cert.AdamS5WUpIdeal.τ) (Cert.AdamS5WUpIdeal.main (F := Ideal))) ⟨m, fun _ => 0, g⟩ (fun r => (∀ c : Dev Cert.AdamS5WUpIdeal.nD,
      r.2.mem ((c.tc : Thread Cert.AdamS5WUpIdeal.nD Cert.AdamS5WUpIdeal.τ).loc Cert.AdamS5WUpIdeal.main_arg0) = m ((c.tc : Thread Cert.AdamS5WUpIdeal.nD Cert.AdamS5WUpIdeal.τ).loc Cert.AdamS5WUpIdeal.main_arg0)
      ∧ r.2.mem ((c.tc : Thread Cert.AdamS5WUpIdeal.nD Cert.AdamS5WUpIdeal.τ).loc Cert.AdamS5WUpIdeal.main_arg1) = m ((c.tc : Thread Cert.AdamS5WUpIdeal.nD Cert.AdamS5WUpIdeal.τ).loc Cert.AdamS5WUpIdeal.main_arg1)
      ∧ r.2.mem ((c.tc : Thread Cert.AdamS5WUpIdeal.nD Cert.AdamS5WUpIdeal.τ).loc Cert.AdamS5WUpIdeal.main_arg2) = m ((c.tc : Thread Cert.AdamS5WUpIdeal.nD Cert.AdamS5WUpIdeal.τ).loc Cert.AdamS5WUpIdeal.main_arg2)
      ∧ r.2.mem ((c.tc : Thread Cert.AdamS5WUpIdeal.nD Cert.AdamS5WUpIdeal.τ).loc Cert.AdamS5WUpIdeal.main_arg3) = m ((c.tc : Thread Cert.AdamS5WUpIdeal.nD Cert.AdamS5WUpIdeal.τ).loc Cert.AdamS5WUpIdeal.main_arg3))
      ∧ r.2.sem = fun _ => 0)

def quiescent_StepS5WUpIdeal [hStepS5WUpIdeal : Cert.StepS5WUpIdeal.Facts] : Prop :=
  ∀ (m : (ℓ : Loc Cert.StepS5WUpIdeal.nD Cert.StepS5WUpIdeal.τ Cert.StepS5WUpIdeal.sig) → Buf (Elt Ideal) ℓ) (g : Dev Cert.StepS5WUpIdeal.nD → PrngReg), Pre_StepS5WUpIdeal m →
    θ_run (Cert.StepS5WUpIdeal.defs (F := Ideal)) (onTc (τ := Cert.StepS5WUpIdeal.τ) (Cert.StepS5WUpIdeal.main (F := Ideal))) ⟨m, fun _ => 0, g⟩ (fun r => (∀ c : Dev Cert.StepS5WUpIdeal.nD,
      r.2.mem ((c.tc : Thread Cert.StepS5WUpIdeal.nD Cert.StepS5WUpIdeal.τ).loc Cert.StepS5WUpIdeal.main_arg0) = m ((c.tc : Thread Cert.StepS5WUpIdeal.nD Cert.StepS5WUpIdeal.τ).loc Cert.StepS5WUpIdeal.main_arg0)
      ∧ r.2.mem ((c.tc : Thread Cert.StepS5WUpIdeal.nD Cert.StepS5WUpIdeal.τ).loc Cert.StepS5WUpIdeal.main_arg1) = m ((c.tc : Thread Cert.StepS5WUpIdeal.nD Cert.StepS5WUpIdeal.τ).loc Cert.StepS5WUpIdeal.main_arg1)
      ∧ r.2.mem ((c.tc : Thread Cert.StepS5WUpIdeal.nD Cert.StepS5WUpIdeal.τ).loc Cert.StepS5WUpIdeal.main_arg2) = m ((c.tc : Thread Cert.StepS5WUpIdeal.nD Cert.StepS5WUpIdeal.τ).loc Cert.StepS5WUpIdeal.main_arg2)
      ∧ r.2.mem ((c.tc : Thread Cert.StepS5WUpIdeal.nD Cert.StepS5WUpIdeal.τ).loc Cert.StepS5WUpIdeal.main_arg3) = m ((c.tc : Thread Cert.StepS5WUpIdeal.nD Cert.StepS5WUpIdeal.τ).loc Cert.StepS5WUpIdeal.main_arg3))
      ∧ r.2.sem = fun _ => 0)

def quiescent_AdamWOut [hAdamWOut : Cert.AdamWOut.Facts] : Prop :=
  ∀ (m : (ℓ : Loc Cert.AdamWOut.nD Cert.AdamWOut.τ Cert.AdamWOut.sig) → Buf (Elt Bits) ℓ) (g : Dev Cert.AdamWOut.nD → PrngReg), Pre_AdamWOut m →
    θ_run (Cert.AdamWOut.defs (F := Bits)) (onTc (τ := Cert.AdamWOut.τ) (Cert.AdamWOut.main (F := Bits))) ⟨m, fun _ => 0, g⟩ (fun r => (∀ c : Dev Cert.AdamWOut.nD,
      r.2.mem ((c.tc : Thread Cert.AdamWOut.nD Cert.AdamWOut.τ).loc Cert.AdamWOut.main_arg0) = m ((c.tc : Thread Cert.AdamWOut.nD Cert.AdamWOut.τ).loc Cert.AdamWOut.main_arg0)
      ∧ r.2.mem ((c.tc : Thread Cert.AdamWOut.nD Cert.AdamWOut.τ).loc Cert.AdamWOut.main_arg1) = m ((c.tc : Thread Cert.AdamWOut.nD Cert.AdamWOut.τ).loc Cert.AdamWOut.main_arg1)
      ∧ r.2.mem ((c.tc : Thread Cert.AdamWOut.nD Cert.AdamWOut.τ).loc Cert.AdamWOut.main_arg2) = m ((c.tc : Thread Cert.AdamWOut.nD Cert.AdamWOut.τ).loc Cert.AdamWOut.main_arg2)
      ∧ r.2.mem ((c.tc : Thread Cert.AdamWOut.nD Cert.AdamWOut.τ).loc Cert.AdamWOut.main_arg3) = m ((c.tc : Thread Cert.AdamWOut.nD Cert.AdamWOut.τ).loc Cert.AdamWOut.main_arg3))
      ∧ r.2.sem = fun _ => 0)

def quiescent_AdamWOutIdeal [hAdamWOutIdeal : Cert.AdamWOutIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg), Pre_AdamWOutIdeal m →
    θ_run (Cert.AdamWOutIdeal.defs (F := Ideal)) (onTc (τ := Cert.AdamWOutIdeal.τ) (Cert.AdamWOutIdeal.main (F := Ideal))) ⟨m, fun _ => 0, g⟩ (fun r => (∀ c : Dev Cert.AdamWOutIdeal.nD,
      r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
      ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
      ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
      ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ r.2.sem = fun _ => 0)

def quiescent_StepWOutIdeal [hStepWOutIdeal : Cert.StepWOutIdeal.Facts] : Prop :=
  ∀ (m : (ℓ : Loc Cert.StepWOutIdeal.nD Cert.StepWOutIdeal.τ Cert.StepWOutIdeal.sig) → Buf (Elt Ideal) ℓ) (g : Dev Cert.StepWOutIdeal.nD → PrngReg), Pre_StepWOutIdeal m →
    θ_run (Cert.StepWOutIdeal.defs (F := Ideal)) (onTc (τ := Cert.StepWOutIdeal.τ) (Cert.StepWOutIdeal.main (F := Ideal))) ⟨m, fun _ => 0, g⟩ (fun r => (∀ c : Dev Cert.StepWOutIdeal.nD,
      r.2.mem ((c.tc : Thread Cert.StepWOutIdeal.nD Cert.StepWOutIdeal.τ).loc Cert.StepWOutIdeal.main_arg0) = m ((c.tc : Thread Cert.StepWOutIdeal.nD Cert.StepWOutIdeal.τ).loc Cert.StepWOutIdeal.main_arg0)
      ∧ r.2.mem ((c.tc : Thread Cert.StepWOutIdeal.nD Cert.StepWOutIdeal.τ).loc Cert.StepWOutIdeal.main_arg1) = m ((c.tc : Thread Cert.StepWOutIdeal.nD Cert.StepWOutIdeal.τ).loc Cert.StepWOutIdeal.main_arg1)
      ∧ r.2.mem ((c.tc : Thread Cert.StepWOutIdeal.nD Cert.StepWOutIdeal.τ).loc Cert.StepWOutIdeal.main_arg2) = m ((c.tc : Thread Cert.StepWOutIdeal.nD Cert.StepWOutIdeal.τ).loc Cert.StepWOutIdeal.main_arg2)
      ∧ r.2.mem ((c.tc : Thread Cert.StepWOutIdeal.nD Cert.StepWOutIdeal.τ).loc Cert.StepWOutIdeal.main_arg3) = m ((c.tc : Thread Cert.StepWOutIdeal.nD Cert.StepWOutIdeal.τ).loc Cert.StepWOutIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_StepSmallIdeal [hStepSmallIdeal : Cert.StepSmallIdeal.Facts] : Prop :=
  ∀ (m : (ℓ : Loc Cert.StepSmallIdeal.nD Cert.StepSmallIdeal.τ Cert.StepSmallIdeal.sig) → Buf (Elt Ideal) ℓ) (g : Dev Cert.StepSmallIdeal.nD → PrngReg), Pre_StepSmallIdeal m →
    θ_run (Cert.StepSmallIdeal.defs (F := Ideal)) (onTc (τ := Cert.StepSmallIdeal.τ) (Cert.StepSmallIdeal.main (F := Ideal))) ⟨m, fun _ => 0, g⟩ (fun r => (∀ c : Dev Cert.StepSmallIdeal.nD,
      r.2.mem ((c.tc : Thread Cert.StepSmallIdeal.nD Cert.StepSmallIdeal.τ).loc Cert.StepSmallIdeal.main_arg0) = m ((c.tc : Thread Cert.StepSmallIdeal.nD Cert.StepSmallIdeal.τ).loc Cert.StepSmallIdeal.main_arg0)
      ∧ r.2.mem ((c.tc : Thread Cert.StepSmallIdeal.nD Cert.StepSmallIdeal.τ).loc Cert.StepSmallIdeal.main_arg1) = m ((c.tc : Thread Cert.StepSmallIdeal.nD Cert.StepSmallIdeal.τ).loc Cert.StepSmallIdeal.main_arg1)
      ∧ r.2.mem ((c.tc : Thread Cert.StepSmallIdeal.nD Cert.StepSmallIdeal.τ).loc Cert.StepSmallIdeal.main_arg2) = m ((c.tc : Thread Cert.StepSmallIdeal.nD Cert.StepSmallIdeal.τ).loc Cert.StepSmallIdeal.main_arg2)
      ∧ r.2.mem ((c.tc : Thread Cert.StepSmallIdeal.nD Cert.StepSmallIdeal.τ).loc Cert.StepSmallIdeal.main_arg3) = m ((c.tc : Thread Cert.StepSmallIdeal.nD Cert.StepSmallIdeal.τ).loc Cert.StepSmallIdeal.main_arg3))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_PlainSumIdeal [hPlainSumIdeal : Cert.PlainSumIdeal.Facts] : Prop :=
  ∀ (m : (ℓ : Loc Cert.PlainSumIdeal.nD Cert.PlainSumIdeal.τ Cert.PlainSumIdeal.sig) → Buf (Elt Ideal) ℓ) (g : Dev Cert.PlainSumIdeal.nD → PrngReg), Pre_PlainSumIdeal m →
    θ_run (Cert.PlainSumIdeal.defs (F := Ideal)) (onTc (τ := Cert.PlainSumIdeal.τ) (Cert.PlainSumIdeal.main (F := Ideal))) ⟨m, fun _ => 0, g⟩ (fun r => (∀ c : Dev Cert.PlainSumIdeal.nD,
      r.2.mem ((c.tc : Thread Cert.PlainSumIdeal.nD Cert.PlainSumIdeal.τ).loc Cert.PlainSumIdeal.main_arg0) = m ((c.tc : Thread Cert.PlainSumIdeal.nD Cert.PlainSumIdeal.τ).loc Cert.PlainSumIdeal.main_arg0))
      ∧ r.2.sem = fun _ => 0)

def quiescent_GatherWeights [hGatherWeights : Cert.GatherWeights.Facts] : Prop :=
  ∀ (m : (ℓ : Loc Cert.GatherWeights.nD Cert.GatherWeights.τ Cert.GatherWeights.sig) → Buf (Elt Bits) ℓ) (g : Dev Cert.GatherWeights.nD → PrngReg), Pre_GatherWeights m →
    θ_run (Cert.GatherWeights.defs (F := Bits)) (onTc (τ := Cert.GatherWeights.τ) (Cert.GatherWeights.main (F := Bits))) ⟨m, fun _ => 0, g⟩ (fun r => (∀ c : Dev Cert.GatherWeights.nD,
      r.2.mem ((c.tc : Thread Cert.GatherWeights.nD Cert.GatherWeights.τ).loc Cert.GatherWeights.main_arg0) = m ((c.tc : Thread Cert.GatherWeights.nD Cert.GatherWeights.τ).loc Cert.GatherWeights.main_arg0)
      ∧ r.2.mem ((c.tc : Thread Cert.GatherWeights.nD Cert.GatherWeights.τ).loc Cert.GatherWeights.main_arg1) = m ((c.tc : Thread Cert.GatherWeights.nD Cert.GatherWeights.τ).loc Cert.GatherWeights.main_arg1)
      ∧ r.2.mem ((c.tc : Thread Cert.GatherWeights.nD Cert.GatherWeights.τ).loc Cert.GatherWeights.main_arg2) = m ((c.tc : Thread Cert.GatherWeights.nD Cert.GatherWeights.τ).loc Cert.GatherWeights.main_arg2)
      ∧ r.2.mem ((c.tc : Thread Cert.GatherWeights.nD Cert.GatherWeights.τ).loc Cert.GatherWeights.main_arg3) = m ((c.tc : Thread Cert.GatherWeights.nD Cert.GatherWeights.τ).loc Cert.GatherWeights.main_arg3)
      ∧ r.2.mem ((c.tc : Thread Cert.GatherWeights.nD Cert.GatherWeights.τ).loc Cert.GatherWeights.main_arg4) = m ((c.tc : Thread Cert.GatherWeights.nD Cert.GatherWeights.τ).loc Cert.GatherWeights.main_arg4)
      ∧ r.2.mem ((c.tc : Thread Cert.GatherWeights.nD Cert.GatherWeights.τ).loc Cert.GatherWeights.main_arg5) = m ((c.tc : Thread Cert.GatherWeights.nD Cert.GatherWeights.τ).loc Cert.GatherWeights.main_arg5))
      ∧ r.2.sem = fun _ => 0)

def quiescent_GatherWeightsIdeal [hGatherWeightsIdeal : Cert.GatherWeightsIdeal.Facts] : Prop :=
  ∀ (m : (ℓ : Loc Cert.GatherWeightsIdeal.nD Cert.GatherWeightsIdeal.τ Cert.GatherWeightsIdeal.sig) → Buf (Elt Ideal) ℓ) (g : Dev Cert.GatherWeightsIdeal.nD → PrngReg), Pre_GatherWeightsIdeal m →
    θ_run (Cert.GatherWeightsIdeal.defs (F := Ideal)) (onTc (τ := Cert.GatherWeightsIdeal.τ) (Cert.GatherWeightsIdeal.main (F := Ideal))) ⟨m, fun _ => 0, g⟩ (fun r => (∀ c : Dev Cert.GatherWeightsIdeal.nD,
      r.2.mem ((c.tc : Thread Cert.GatherWeightsIdeal.nD Cert.GatherWeightsIdeal.τ).loc Cert.GatherWeightsIdeal.main_arg0) = m ((c.tc : Thread Cert.GatherWeightsIdeal.nD Cert.GatherWeightsIdeal.τ).loc Cert.GatherWeightsIdeal.main_arg0)
      ∧ r.2.mem ((c.tc : Thread Cert.GatherWeightsIdeal.nD Cert.GatherWeightsIdeal.τ).loc Cert.GatherWeightsIdeal.main_arg1) = m ((c.tc : Thread Cert.GatherWeightsIdeal.nD Cert.GatherWeightsIdeal.τ).loc Cert.GatherWeightsIdeal.main_arg1)
      ∧ r.2.mem ((c.tc : Thread Cert.GatherWeightsIdeal.nD Cert.GatherWeightsIdeal.τ).loc Cert.GatherWeightsIdeal.main_arg2) = m ((c.tc : Thread Cert.GatherWeightsIdeal.nD Cert.GatherWeightsIdeal.τ).loc Cert.GatherWeightsIdeal.main_arg2)
      ∧ r.2.mem ((c.tc : Thread Cert.GatherWeightsIdeal.nD Cert.GatherWeightsIdeal.τ).loc Cert.GatherWeightsIdeal.main_arg3) = m ((c.tc : Thread Cert.GatherWeightsIdeal.nD Cert.GatherWeightsIdeal.τ).loc Cert.GatherWeightsIdeal.main_arg3)
      ∧ r.2.mem ((c.tc : Thread Cert.GatherWeightsIdeal.nD Cert.GatherWeightsIdeal.τ).loc Cert.GatherWeightsIdeal.main_arg4) = m ((c.tc : Thread Cert.GatherWeightsIdeal.nD Cert.GatherWeightsIdeal.τ).loc Cert.GatherWeightsIdeal.main_arg4)
      ∧ r.2.mem ((c.tc : Thread Cert.GatherWeightsIdeal.nD Cert.GatherWeightsIdeal.τ).loc Cert.GatherWeightsIdeal.main_arg5) = m ((c.tc : Thread Cert.GatherWeightsIdeal.nD Cert.GatherWeightsIdeal.τ).loc Cert.GatherWeightsIdeal.main_arg5))
      ∧ r.2.sem = fun _ => 0)

def quiescent_AllGatherWeightsIdeal [hAllGatherWeightsIdeal : Cert.AllGatherWeightsIdeal.Facts] : Prop :=
  ∀ (m : (ℓ : Loc Cert.AllGatherWeightsIdeal.nD Cert.AllGatherWeightsIdeal.τ Cert.AllGatherWeightsIdeal.sig) → Buf (Elt Ideal) ℓ) (g : Dev Cert.AllGatherWeightsIdeal.nD → PrngReg), Pre_AllGatherWeightsIdeal m →
    θ_run (Cert.AllGatherWeightsIdeal.defs (F := Ideal)) (onTc (τ := Cert.AllGatherWeightsIdeal.τ) (Cert.AllGatherWeightsIdeal.main (F := Ideal))) ⟨m, fun _ => 0, g⟩ (fun r => (∀ c : Dev Cert.AllGatherWeightsIdeal.nD,
      r.2.mem ((c.tc : Thread Cert.AllGatherWeightsIdeal.nD Cert.AllGatherWeightsIdeal.τ).loc Cert.AllGatherWeightsIdeal.main_arg0) = m ((c.tc : Thread Cert.AllGatherWeightsIdeal.nD Cert.AllGatherWeightsIdeal.τ).loc Cert.AllGatherWeightsIdeal.main_arg0)
      ∧ r.2.mem ((c.tc : Thread Cert.AllGatherWeightsIdeal.nD Cert.AllGatherWeightsIdeal.τ).loc Cert.AllGatherWeightsIdeal.main_arg1) = m ((c.tc : Thread Cert.AllGatherWeightsIdeal.nD Cert.AllGatherWeightsIdeal.τ).loc Cert.AllGatherWeightsIdeal.main_arg1)
      ∧ r.2.mem ((c.tc : Thread Cert.AllGatherWeightsIdeal.nD Cert.AllGatherWeightsIdeal.τ).loc Cert.AllGatherWeightsIdeal.main_arg2) = m ((c.tc : Thread Cert.AllGatherWeightsIdeal.nD Cert.AllGatherWeightsIdeal.τ).loc Cert.AllGatherWeightsIdeal.main_arg2)
      ∧ r.2.mem ((c.tc : Thread Cert.AllGatherWeightsIdeal.nD Cert.AllGatherWeightsIdeal.τ).loc Cert.AllGatherWeightsIdeal.main_arg3) = m ((c.tc : Thread Cert.AllGatherWeightsIdeal.nD Cert.AllGatherWeightsIdeal.τ).loc Cert.AllGatherWeightsIdeal.main_arg3)
      ∧ r.2.mem ((c.tc : Thread Cert.AllGatherWeightsIdeal.nD Cert.AllGatherWeightsIdeal.τ).loc Cert.AllGatherWeightsIdeal.main_arg4) = m ((c.tc : Thread Cert.AllGatherWeightsIdeal.nD Cert.AllGatherWeightsIdeal.τ).loc Cert.AllGatherWeightsIdeal.main_arg4)
      ∧ r.2.mem ((c.tc : Thread Cert.AllGatherWeightsIdeal.nD Cert.AllGatherWeightsIdeal.τ).loc Cert.AllGatherWeightsIdeal.main_arg5) = m ((c.tc : Thread Cert.AllGatherWeightsIdeal.nD Cert.AllGatherWeightsIdeal.τ).loc Cert.AllGatherWeightsIdeal.main_arg5))
      ∧ r.2.sem = fun _ => 0)

def quiescent_AllGatherWeights [hAllGatherWeights : Cert.AllGatherWeights.Facts] : Prop :=
  ∀ (m : (ℓ : Loc Cert.AllGatherWeights.nD Cert.AllGatherWeights.τ Cert.AllGatherWeights.sig) → Buf (Elt Bits) ℓ) (g : Dev Cert.AllGatherWeights.nD → PrngReg), Pre_AllGatherWeights m →
    θ_run (Cert.AllGatherWeights.defs (F := Bits)) (onTc (τ := Cert.AllGatherWeights.τ) (Cert.AllGatherWeights.main (F := Bits))) ⟨m, fun _ => 0, g⟩ (fun r => (∀ c : Dev Cert.AllGatherWeights.nD,
      r.2.mem ((c.tc : Thread Cert.AllGatherWeights.nD Cert.AllGatherWeights.τ).loc Cert.AllGatherWeights.main_arg0) = m ((c.tc : Thread Cert.AllGatherWeights.nD Cert.AllGatherWeights.τ).loc Cert.AllGatherWeights.main_arg0)
      ∧ r.2.mem ((c.tc : Thread Cert.AllGatherWeights.nD Cert.AllGatherWeights.τ).loc Cert.AllGatherWeights.main_arg1) = m ((c.tc : Thread Cert.AllGatherWeights.nD Cert.AllGatherWeights.τ).loc Cert.AllGatherWeights.main_arg1)
      ∧ r.2.mem ((c.tc : Thread Cert.AllGatherWeights.nD Cert.AllGatherWeights.τ).loc Cert.AllGatherWeights.main_arg2) = m ((c.tc : Thread Cert.AllGatherWeights.nD Cert.AllGatherWeights.τ).loc Cert.AllGatherWeights.main_arg2)
      ∧ r.2.mem ((c.tc : Thread Cert.AllGatherWeights.nD Cert.AllGatherWeights.τ).loc Cert.AllGatherWeights.main_arg3) = m ((c.tc : Thread Cert.AllGatherWeights.nD Cert.AllGatherWeights.τ).loc Cert.AllGatherWeights.main_arg3)
      ∧ r.2.mem ((c.tc : Thread Cert.AllGatherWeights.nD Cert.AllGatherWeights.τ).loc Cert.AllGatherWeights.main_arg4) = m ((c.tc : Thread Cert.AllGatherWeights.nD Cert.AllGatherWeights.τ).loc Cert.AllGatherWeights.main_arg4)
      ∧ r.2.mem ((c.tc : Thread Cert.AllGatherWeights.nD Cert.AllGatherWeights.τ).loc Cert.AllGatherWeights.main_arg5) = m ((c.tc : Thread Cert.AllGatherWeights.nD Cert.AllGatherWeights.τ).loc Cert.AllGatherWeights.main_arg5))
      ∧ r.2.sem = fun _ => 0)

def quiescent_GatherSmallGrads [hGatherSmallGrads : Cert.GatherSmallGrads.Facts] : Prop :=
  ∀ (m : (ℓ : Loc Cert.GatherSmallGrads.nD Cert.GatherSmallGrads.τ Cert.GatherSmallGrads.sig) → Buf (Elt Bits) ℓ) (g : Dev Cert.GatherSmallGrads.nD → PrngReg), Pre_GatherSmallGrads m →
    θ_run (Cert.GatherSmallGrads.defs (F := Bits)) (onTc (τ := Cert.GatherSmallGrads.τ) (Cert.GatherSmallGrads.main (F := Bits))) ⟨m, fun _ => 0, g⟩ (fun r => (∀ c : Dev Cert.GatherSmallGrads.nD,
      r.2.mem ((c.tc : Thread Cert.GatherSmallGrads.nD Cert.GatherSmallGrads.τ).loc Cert.GatherSmallGrads.main_arg0) = m ((c.tc : Thread Cert.GatherSmallGrads.nD Cert.GatherSmallGrads.τ).loc Cert.GatherSmallGrads.main_arg0))
      ∧ r.2.sem = fun _ => 0)

def quiescent_GatherSmallGradsIdeal [hGatherSmallGradsIdeal : Cert.GatherSmallGradsIdeal.Facts] : Prop :=
  ∀ (m : (ℓ : Loc Cert.GatherSmallGradsIdeal.nD Cert.GatherSmallGradsIdeal.τ Cert.GatherSmallGradsIdeal.sig) → Buf (Elt Ideal) ℓ) (g : Dev Cert.GatherSmallGradsIdeal.nD → PrngReg), Pre_GatherSmallGradsIdeal m →
    θ_run (Cert.GatherSmallGradsIdeal.defs (F := Ideal)) (onTc (τ := Cert.GatherSmallGradsIdeal.τ) (Cert.GatherSmallGradsIdeal.main (F := Ideal))) ⟨m, fun _ => 0, g⟩ (fun r => (∀ c : Dev Cert.GatherSmallGradsIdeal.nD,
      r.2.mem ((c.tc : Thread Cert.GatherSmallGradsIdeal.nD Cert.GatherSmallGradsIdeal.τ).loc Cert.GatherSmallGradsIdeal.main_arg0) = m ((c.tc : Thread Cert.GatherSmallGradsIdeal.nD Cert.GatherSmallGradsIdeal.τ).loc Cert.GatherSmallGradsIdeal.main_arg0))
      ∧ r.2.sem = fun _ => 0)

def quiescent_AllGatherSmallGradsIdeal [hAllGatherSmallGradsIdeal : Cert.AllGatherSmallGradsIdeal.Facts] : Prop :=
  ∀ (m : (ℓ : Loc Cert.AllGatherSmallGradsIdeal.nD Cert.AllGatherSmallGradsIdeal.τ Cert.AllGatherSmallGradsIdeal.sig) → Buf (Elt Ideal) ℓ) (g : Dev Cert.AllGatherSmallGradsIdeal.nD → PrngReg), Pre_AllGatherSmallGradsIdeal m →
    θ_run (Cert.AllGatherSmallGradsIdeal.defs (F := Ideal)) (onTc (τ := Cert.AllGatherSmallGradsIdeal.τ) (Cert.AllGatherSmallGradsIdeal.main (F := Ideal))) ⟨m, fun _ => 0, g⟩ (fun r => (∀ c : Dev Cert.AllGatherSmallGradsIdeal.nD,
      r.2.mem ((c.tc : Thread Cert.AllGatherSmallGradsIdeal.nD Cert.AllGatherSmallGradsIdeal.τ).loc Cert.AllGatherSmallGradsIdeal.main_arg0) = m ((c.tc : Thread Cert.AllGatherSmallGradsIdeal.nD Cert.AllGatherSmallGradsIdeal.τ).loc Cert.AllGatherSmallGradsIdeal.main_arg0))
      ∧ r.2.sem = fun _ => 0)

def quiescent_AllGatherSmallGrads [hAllGatherSmallGrads : Cert.AllGatherSmallGrads.Facts] : Prop :=
  ∀ (m : (ℓ : Loc Cert.AllGatherSmallGrads.nD Cert.AllGatherSmallGrads.τ Cert.AllGatherSmallGrads.sig) → Buf (Elt Bits) ℓ) (g : Dev Cert.AllGatherSmallGrads.nD → PrngReg), Pre_AllGatherSmallGrads m →
    θ_run (Cert.AllGatherSmallGrads.defs (F := Bits)) (onTc (τ := Cert.AllGatherSmallGrads.τ) (Cert.AllGatherSmallGrads.main (F := Bits))) ⟨m, fun _ => 0, g⟩ (fun r => (∀ c : Dev Cert.AllGatherSmallGrads.nD,
      r.2.mem ((c.tc : Thread Cert.AllGatherSmallGrads.nD Cert.AllGatherSmallGrads.τ).loc Cert.AllGatherSmallGrads.main_arg0) = m ((c.tc : Thread Cert.AllGatherSmallGrads.nD Cert.AllGatherSmallGrads.τ).loc Cert.AllGatherSmallGrads.main_arg0))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_PulledBackIdeal [hPulledBackIdeal : Cert.PulledBackIdeal.Facts] : Prop :=
  ∀ (m : (ℓ : Loc Cert.PulledBackIdeal.nD Cert.PulledBackIdeal.τ Cert.PulledBackIdeal.sig) → Buf (Elt Ideal) ℓ) (g : Dev Cert.PulledBackIdeal.nD → PrngReg), Pre_PulledBackIdeal m →
    θ_run (Cert.PulledBackIdeal.defs (F := Ideal)) (onTc (τ := Cert.PulledBackIdeal.τ) (Cert.PulledBackIdeal.main (F := Ideal))) ⟨m, fun _ => 0, g⟩ (fun r => (∀ c : Dev Cert.PulledBackIdeal.nD,
      r.2.mem ((c.tc : Thread Cert.PulledBackIdeal.nD Cert.PulledBackIdeal.τ).loc Cert.PulledBackIdeal.main_arg0) = m ((c.tc : Thread Cert.PulledBackIdeal.nD Cert.PulledBackIdeal.τ).loc Cert.PulledBackIdeal.main_arg0)
      ∧ r.2.mem ((c.tc : Thread Cert.PulledBackIdeal.nD Cert.PulledBackIdeal.τ).loc Cert.PulledBackIdeal.main_arg1) = m ((c.tc : Thread Cert.PulledBackIdeal.nD Cert.PulledBackIdeal.τ).loc Cert.PulledBackIdeal.main_arg1)
      ∧ r.2.mem ((c.tc : Thread Cert.PulledBackIdeal.nD Cert.PulledBackIdeal.τ).loc Cert.PulledBackIdeal.main_arg2) = m ((c.tc : Thread Cert.PulledBackIdeal.nD Cert.PulledBackIdeal.τ).loc Cert.PulledBackIdeal.main_arg2)
      ∧ r.2.mem ((c.tc : Thread Cert.PulledBackIdeal.nD Cert.PulledBackIdeal.τ).loc Cert.PulledBackIdeal.main_arg3) = m ((c.tc : Thread Cert.PulledBackIdeal.nD Cert.PulledBackIdeal.τ).loc Cert.PulledBackIdeal.main_arg3))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ r.2.sem = fun _ => 0)

def quiescent_PlainFinalIdeal [hPlainFinalIdeal : Cert.PlainFinalIdeal.Facts] : Prop :=
  ∀ (m : (ℓ : Loc Cert.PlainFinalIdeal.nD Cert.PlainFinalIdeal.τ Cert.PlainFinalIdeal.sig) → Buf (Elt Ideal) ℓ) (g : Dev Cert.PlainFinalIdeal.nD → PrngReg), Pre_PlainFinalIdeal m →
    θ_run (Cert.PlainFinalIdeal.defs (F := Ideal)) (onTc (τ := Cert.PlainFinalIdeal.τ) (Cert.PlainFinalIdeal.main (F := Ideal))) ⟨m, fun _ => 0, g⟩ (fun r => (∀ c : Dev Cert.PlainFinalIdeal.nD,
      r.2.mem ((c.tc : Thread Cert.PlainFinalIdeal.nD Cert.PlainFinalIdeal.τ).loc Cert.PlainFinalIdeal.main_arg0) = m ((c.tc : Thread Cert.PlainFinalIdeal.nD Cert.PlainFinalIdeal.τ).loc Cert.PlainFinalIdeal.main_arg0)
      ∧ r.2.mem ((c.tc : Thread Cert.PlainFinalIdeal.nD Cert.PlainFinalIdeal.τ).loc Cert.PlainFinalIdeal.main_arg1) = m ((c.tc : Thread Cert.PlainFinalIdeal.nD Cert.PlainFinalIdeal.τ).loc Cert.PlainFinalIdeal.main_arg1)
      ∧ r.2.mem ((c.tc : Thread Cert.PlainFinalIdeal.nD Cert.PlainFinalIdeal.τ).loc Cert.PlainFinalIdeal.main_arg2) = m ((c.tc : Thread Cert.PlainFinalIdeal.nD Cert.PlainFinalIdeal.τ).loc Cert.PlainFinalIdeal.main_arg2)
      ∧ r.2.mem ((c.tc : Thread Cert.PlainFinalIdeal.nD Cert.PlainFinalIdeal.τ).loc Cert.PlainFinalIdeal.main_arg3) = m ((c.tc : Thread Cert.PlainFinalIdeal.nD Cert.PlainFinalIdeal.τ).loc Cert.PlainFinalIdeal.main_arg3))
      ∧ r.2.sem = fun _ => 0)

def quiescent_Total [hTotal : Cert.Total.Facts] : Prop :=
  ∀ (m : (ℓ : Loc Cert.Total.nD Cert.Total.τ Cert.Total.sig) → Buf (Elt Bits) ℓ) (g : Dev Cert.Total.nD → PrngReg), Pre_Total m →
    θ_run (Cert.Total.defs (F := Bits)) (onTc (τ := Cert.Total.τ) (Cert.Total.main (F := Bits))) ⟨m, fun _ => 0, g⟩ (fun r => (∀ c : Dev Cert.Total.nD,
      r.2.mem ((c.tc : Thread Cert.Total.nD Cert.Total.τ).loc Cert.Total.main_arg0) = m ((c.tc : Thread Cert.Total.nD Cert.Total.τ).loc Cert.Total.main_arg0))
      ∧ r.2.sem = fun _ => 0)

def quiescent_TotalIdeal [hTotalIdeal : Cert.TotalIdeal.Facts] : Prop :=
  ∀ (m : (ℓ : Loc Cert.TotalIdeal.nD Cert.TotalIdeal.τ Cert.TotalIdeal.sig) → Buf (Elt Ideal) ℓ) (g : Dev Cert.TotalIdeal.nD → PrngReg), Pre_TotalIdeal m →
    θ_run (Cert.TotalIdeal.defs (F := Ideal)) (onTc (τ := Cert.TotalIdeal.τ) (Cert.TotalIdeal.main (F := Ideal))) ⟨m, fun _ => 0, g⟩ (fun r => (∀ c : Dev Cert.TotalIdeal.nD,
      r.2.mem ((c.tc : Thread Cert.TotalIdeal.nD Cert.TotalIdeal.τ).loc Cert.TotalIdeal.main_arg0) = m ((c.tc : Thread Cert.TotalIdeal.nD Cert.TotalIdeal.τ).loc Cert.TotalIdeal.main_arg0))
      ∧ r.2.sem = fun _ => 0)

def quiescent_PlainTotalIdeal [hPlainTotalIdeal : Cert.PlainTotalIdeal.Facts] : Prop :=
  ∀ (m : (ℓ : Loc Cert.PlainTotalIdeal.nD Cert.PlainTotalIdeal.τ Cert.PlainTotalIdeal.sig) → Buf (Elt Ideal) ℓ) (g : Dev Cert.PlainTotalIdeal.nD → PrngReg), Pre_PlainTotalIdeal m →
    θ_run (Cert.PlainTotalIdeal.defs (F := Ideal)) (onTc (τ := Cert.PlainTotalIdeal.τ) (Cert.PlainTotalIdeal.main (F := Ideal))) ⟨m, fun _ => 0, g⟩ (fun r => (∀ c : Dev Cert.PlainTotalIdeal.nD,
      r.2.mem ((c.tc : Thread Cert.PlainTotalIdeal.nD Cert.PlainTotalIdeal.τ).loc Cert.PlainTotalIdeal.main_arg0) = m ((c.tc : Thread Cert.PlainTotalIdeal.nD Cert.PlainTotalIdeal.τ).loc Cert.PlainTotalIdeal.main_arg0))
      ∧ r.2.sem = fun _ => 0)

def quiescent_ProductWOut [hProductWOut : Cert.ProductWOut.Facts] : Prop :=
  ∀ (m : (ℓ : Loc Cert.ProductWOut.nD Cert.ProductWOut.τ Cert.ProductWOut.sig) → Buf (Elt Bits) ℓ) (g : Dev Cert.ProductWOut.nD → PrngReg), Pre_ProductWOut m →
    θ_run (Cert.ProductWOut.defs (F := Bits)) (onTc (τ := Cert.ProductWOut.τ) (Cert.ProductWOut.main (F := Bits))) ⟨m, fun _ => 0, g⟩ (fun r => (∀ c : Dev Cert.ProductWOut.nD,
      r.2.mem ((c.tc : Thread Cert.ProductWOut.nD Cert.ProductWOut.τ).loc Cert.ProductWOut.main_arg0) = m ((c.tc : Thread Cert.ProductWOut.nD Cert.ProductWOut.τ).loc Cert.ProductWOut.main_arg0)
      ∧ r.2.mem ((c.tc : Thread Cert.ProductWOut.nD Cert.ProductWOut.τ).loc Cert.ProductWOut.main_arg1) = m ((c.tc : Thread Cert.ProductWOut.nD Cert.ProductWOut.τ).loc Cert.ProductWOut.main_arg1))
      ∧ r.2.sem = fun _ => 0)

def quiescent_ProductWOutIdeal [hProductWOutIdeal : Cert.ProductWOutIdeal.Facts] : Prop :=
  ∀ (m : (ℓ : Loc Cert.ProductWOutIdeal.nD Cert.ProductWOutIdeal.τ Cert.ProductWOutIdeal.sig) → Buf (Elt Ideal) ℓ) (g : Dev Cert.ProductWOutIdeal.nD → PrngReg), Pre_ProductWOutIdeal m →
    θ_run (Cert.ProductWOutIdeal.defs (F := Ideal)) (onTc (τ := Cert.ProductWOutIdeal.τ) (Cert.ProductWOutIdeal.main (F := Ideal))) ⟨m, fun _ => 0, g⟩ (fun r => (∀ c : Dev Cert.ProductWOutIdeal.nD,
      r.2.mem ((c.tc : Thread Cert.ProductWOutIdeal.nD Cert.ProductWOutIdeal.τ).loc Cert.ProductWOutIdeal.main_arg0) = m ((c.tc : Thread Cert.ProductWOutIdeal.nD Cert.ProductWOutIdeal.τ).loc Cert.ProductWOutIdeal.main_arg0)
      ∧ r.2.mem ((c.tc : Thread Cert.ProductWOutIdeal.nD Cert.ProductWOutIdeal.τ).loc Cert.ProductWOutIdeal.main_arg1) = m ((c.tc : Thread Cert.ProductWOutIdeal.nD Cert.ProductWOutIdeal.τ).loc Cert.ProductWOutIdeal.main_arg1))
      ∧ r.2.sem = fun _ => 0)

def quiescent_PlainWOutIdeal [hPlainWOutIdeal : Cert.PlainWOutIdeal.Facts] : Prop :=
  ∀ (m : (ℓ : Loc Cert.PlainWOutIdeal.nD Cert.PlainWOutIdeal.τ Cert.PlainWOutIdeal.sig) → Buf (Elt Ideal) ℓ) (g : Dev Cert.PlainWOutIdeal.nD → PrngReg), Pre_PlainWOutIdeal m →
    θ_run (Cert.PlainWOutIdeal.defs (F := Ideal)) (onTc (τ := Cert.PlainWOutIdeal.τ) (Cert.PlainWOutIdeal.main (F := Ideal))) ⟨m, fun _ => 0, g⟩ (fun r => (∀ c : Dev Cert.PlainWOutIdeal.nD,
      r.2.mem ((c.tc : Thread Cert.PlainWOutIdeal.nD Cert.PlainWOutIdeal.τ).loc Cert.PlainWOutIdeal.main_arg0) = m ((c.tc : Thread Cert.PlainWOutIdeal.nD Cert.PlainWOutIdeal.τ).loc Cert.PlainWOutIdeal.main_arg0)
      ∧ r.2.mem ((c.tc : Thread Cert.PlainWOutIdeal.nD Cert.PlainWOutIdeal.τ).loc Cert.PlainWOutIdeal.main_arg1) = m ((c.tc : Thread Cert.PlainWOutIdeal.nD Cert.PlainWOutIdeal.τ).loc Cert.PlainWOutIdeal.main_arg1))
      ∧ r.2.sem = fun _ => 0)

def quiescent_ProductGradWOut [hProductGradWOut : Cert.ProductGradWOut.Facts] : Prop :=
  ∀ (m : (ℓ : Loc Cert.ProductGradWOut.nD Cert.ProductGradWOut.τ Cert.ProductGradWOut.sig) → Buf (Elt Bits) ℓ) (g : Dev Cert.ProductGradWOut.nD → PrngReg), Pre_ProductGradWOut m →
    θ_run (Cert.ProductGradWOut.defs (F := Bits)) (onTc (τ := Cert.ProductGradWOut.τ) (Cert.ProductGradWOut.main (F := Bits))) ⟨m, fun _ => 0, g⟩ (fun r => (∀ c : Dev Cert.ProductGradWOut.nD,
      r.2.mem ((c.tc : Thread Cert.ProductGradWOut.nD Cert.ProductGradWOut.τ).loc Cert.ProductGradWOut.main_arg0) = m ((c.tc : Thread Cert.ProductGradWOut.nD Cert.ProductGradWOut.τ).loc Cert.ProductGradWOut.main_arg0)
      ∧ r.2.mem ((c.tc : Thread Cert.ProductGradWOut.nD Cert.ProductGradWOut.τ).loc Cert.ProductGradWOut.main_arg1) = m ((c.tc : Thread Cert.ProductGradWOut.nD Cert.ProductGradWOut.τ).loc Cert.ProductGradWOut.main_arg1))
      ∧ r.2.sem = fun _ => 0)

def quiescent_ProductGradWOutIdeal [hProductGradWOutIdeal : Cert.ProductGradWOutIdeal.Facts] : Prop :=
  ∀ (m : (ℓ : Loc Cert.ProductGradWOutIdeal.nD Cert.ProductGradWOutIdeal.τ Cert.ProductGradWOutIdeal.sig) → Buf (Elt Ideal) ℓ) (g : Dev Cert.ProductGradWOutIdeal.nD → PrngReg), Pre_ProductGradWOutIdeal m →
    θ_run (Cert.ProductGradWOutIdeal.defs (F := Ideal)) (onTc (τ := Cert.ProductGradWOutIdeal.τ) (Cert.ProductGradWOutIdeal.main (F := Ideal))) ⟨m, fun _ => 0, g⟩ (fun r => (∀ c : Dev Cert.ProductGradWOutIdeal.nD,
      r.2.mem ((c.tc : Thread Cert.ProductGradWOutIdeal.nD Cert.ProductGradWOutIdeal.τ).loc Cert.ProductGradWOutIdeal.main_arg0) = m ((c.tc : Thread Cert.ProductGradWOutIdeal.nD Cert.ProductGradWOutIdeal.τ).loc Cert.ProductGradWOutIdeal.main_arg0)
      ∧ r.2.mem ((c.tc : Thread Cert.ProductGradWOutIdeal.nD Cert.ProductGradWOutIdeal.τ).loc Cert.ProductGradWOutIdeal.main_arg1) = m ((c.tc : Thread Cert.ProductGradWOutIdeal.nD Cert.ProductGradWOutIdeal.τ).loc Cert.ProductGradWOutIdeal.main_arg1))
      ∧ r.2.sem = fun _ => 0)

def quiescent_PlainGradWOutIdeal [hPlainGradWOutIdeal : Cert.PlainGradWOutIdeal.Facts] : Prop :=
  ∀ (m : (ℓ : Loc Cert.PlainGradWOutIdeal.nD Cert.PlainGradWOutIdeal.τ Cert.PlainGradWOutIdeal.sig) → Buf (Elt Ideal) ℓ) (g : Dev Cert.PlainGradWOutIdeal.nD → PrngReg), Pre_PlainGradWOutIdeal m →
    θ_run (Cert.PlainGradWOutIdeal.defs (F := Ideal)) (onTc (τ := Cert.PlainGradWOutIdeal.τ) (Cert.PlainGradWOutIdeal.main (F := Ideal))) ⟨m, fun _ => 0, g⟩ (fun r => (∀ c : Dev Cert.PlainGradWOutIdeal.nD,
      r.2.mem ((c.tc : Thread Cert.PlainGradWOutIdeal.nD Cert.PlainGradWOutIdeal.τ).loc Cert.PlainGradWOutIdeal.main_arg0) = m ((c.tc : Thread Cert.PlainGradWOutIdeal.nD Cert.PlainGradWOutIdeal.τ).loc Cert.PlainGradWOutIdeal.main_arg0)
      ∧ r.2.mem ((c.tc : Thread Cert.PlainGradWOutIdeal.nD Cert.PlainGradWOutIdeal.τ).loc Cert.PlainGradWOutIdeal.main_arg1) = m ((c.tc : Thread Cert.PlainGradWOutIdeal.nD Cert.PlainGradWOutIdeal.τ).loc Cert.PlainGradWOutIdeal.main_arg1))
      ∧ r.2.sem = fun _ => 0)

def quiescent_ProductDMixed [hProductDMixed : Cert.ProductDMixed.Facts] : Prop :=
  ∀ (m : (ℓ : Loc Cert.ProductDMixed.nD Cert.ProductDMixed.τ Cert.ProductDMixed.sig) → Buf (Elt Bits) ℓ) (g : Dev Cert.ProductDMixed.nD → PrngReg), Pre_ProductDMixed m →
    θ_run (Cert.ProductDMixed.defs (F := Bits)) (onTc (τ := Cert.ProductDMixed.τ) (Cert.ProductDMixed.main (F := Bits))) ⟨m, fun _ => 0, g⟩ (fun r => (∀ c : Dev Cert.ProductDMixed.nD,
      r.2.mem ((c.tc : Thread Cert.ProductDMixed.nD Cert.ProductDMixed.τ).loc Cert.ProductDMixed.main_arg0) = m ((c.tc : Thread Cert.ProductDMixed.nD Cert.ProductDMixed.τ).loc Cert.ProductDMixed.main_arg0)
      ∧ r.2.mem ((c.tc : Thread Cert.ProductDMixed.nD Cert.ProductDMixed.τ).loc Cert.ProductDMixed.main_arg1) = m ((c.tc : Thread Cert.ProductDMixed.nD Cert.ProductDMixed.τ).loc Cert.ProductDMixed.main_arg1))
      ∧ r.2.sem = fun _ => 0)

def quiescent_ProductDMixedIdeal [hProductDMixedIdeal : Cert.ProductDMixedIdeal.Facts] : Prop :=
  ∀ (m : (ℓ : Loc Cert.ProductDMixedIdeal.nD Cert.ProductDMixedIdeal.τ Cert.ProductDMixedIdeal.sig) → Buf (Elt Ideal) ℓ) (g : Dev Cert.ProductDMixedIdeal.nD → PrngReg), Pre_ProductDMixedIdeal m →
    θ_run (Cert.ProductDMixedIdeal.defs (F := Ideal)) (onTc (τ := Cert.ProductDMixedIdeal.τ) (Cert.ProductDMixedIdeal.main (F := Ideal))) ⟨m, fun _ => 0, g⟩ (fun r => (∀ c : Dev Cert.ProductDMixedIdeal.nD,
      r.2.mem ((c.tc : Thread Cert.ProductDMixedIdeal.nD Cert.ProductDMixedIdeal.τ).loc Cert.ProductDMixedIdeal.main_arg0) = m ((c.tc : Thread Cert.ProductDMixedIdeal.nD Cert.ProductDMixedIdeal.τ).loc Cert.ProductDMixedIdeal.main_arg0)
      ∧ r.2.mem ((c.tc : Thread Cert.ProductDMixedIdeal.nD Cert.ProductDMixedIdeal.τ).loc Cert.ProductDMixedIdeal.main_arg1) = m ((c.tc : Thread Cert.ProductDMixedIdeal.nD Cert.ProductDMixedIdeal.τ).loc Cert.ProductDMixedIdeal.main_arg1))
      ∧ r.2.sem = fun _ => 0)

def quiescent_PlainDMixedIdeal [hPlainDMixedIdeal : Cert.PlainDMixedIdeal.Facts] : Prop :=
  ∀ (m : (ℓ : Loc Cert.PlainDMixedIdeal.nD Cert.PlainDMixedIdeal.τ Cert.PlainDMixedIdeal.sig) → Buf (Elt Ideal) ℓ) (g : Dev Cert.PlainDMixedIdeal.nD → PrngReg), Pre_PlainDMixedIdeal m →
    θ_run (Cert.PlainDMixedIdeal.defs (F := Ideal)) (onTc (τ := Cert.PlainDMixedIdeal.τ) (Cert.PlainDMixedIdeal.main (F := Ideal))) ⟨m, fun _ => 0, g⟩ (fun r => (∀ c : Dev Cert.PlainDMixedIdeal.nD,
      r.2.mem ((c.tc : Thread Cert.PlainDMixedIdeal.nD Cert.PlainDMixedIdeal.τ).loc Cert.PlainDMixedIdeal.main_arg0) = m ((c.tc : Thread Cert.PlainDMixedIdeal.nD Cert.PlainDMixedIdeal.τ).loc Cert.PlainDMixedIdeal.main_arg0)
      ∧ r.2.mem ((c.tc : Thread Cert.PlainDMixedIdeal.nD Cert.PlainDMixedIdeal.τ).loc Cert.PlainDMixedIdeal.main_arg1) = m ((c.tc : Thread Cert.PlainDMixedIdeal.nD Cert.PlainDMixedIdeal.τ).loc Cert.PlainDMixedIdeal.main_arg1))
      ∧ r.2.sem = fun _ => 0)

def quiescent_ProductS5Up [hProductS5Up : Cert.ProductS5Up.Facts] : Prop :=
  ∀ (m : (ℓ : Loc Cert.ProductS5Up.nD Cert.ProductS5Up.τ Cert.ProductS5Up.sig) → Buf (Elt Bits) ℓ) (g : Dev Cert.ProductS5Up.nD → PrngReg), Pre_ProductS5Up m →
    θ_run (Cert.ProductS5Up.defs (F := Bits)) (onTc (τ := Cert.ProductS5Up.τ) (Cert.ProductS5Up.main (F := Bits))) ⟨m, fun _ => 0, g⟩ (fun r => (∀ c : Dev Cert.ProductS5Up.nD,
      r.2.mem ((c.tc : Thread Cert.ProductS5Up.nD Cert.ProductS5Up.τ).loc Cert.ProductS5Up.main_arg0) = m ((c.tc : Thread Cert.ProductS5Up.nD Cert.ProductS5Up.τ).loc Cert.ProductS5Up.main_arg0)
      ∧ r.2.mem ((c.tc : Thread Cert.ProductS5Up.nD Cert.ProductS5Up.τ).loc Cert.ProductS5Up.main_arg1) = m ((c.tc : Thread Cert.ProductS5Up.nD Cert.ProductS5Up.τ).loc Cert.ProductS5Up.main_arg1))
      ∧ r.2.sem = fun _ => 0)

def quiescent_ProductS5UpIdeal [hProductS5UpIdeal : Cert.ProductS5UpIdeal.Facts] : Prop :=
  ∀ (m : (ℓ : Loc Cert.ProductS5UpIdeal.nD Cert.ProductS5UpIdeal.τ Cert.ProductS5UpIdeal.sig) → Buf (Elt Ideal) ℓ) (g : Dev Cert.ProductS5UpIdeal.nD → PrngReg), Pre_ProductS5UpIdeal m →
    θ_run (Cert.ProductS5UpIdeal.defs (F := Ideal)) (onTc (τ := Cert.ProductS5UpIdeal.τ) (Cert.ProductS5UpIdeal.main (F := Ideal))) ⟨m, fun _ => 0, g⟩ (fun r => (∀ c : Dev Cert.ProductS5UpIdeal.nD,
      r.2.mem ((c.tc : Thread Cert.ProductS5UpIdeal.nD Cert.ProductS5UpIdeal.τ).loc Cert.ProductS5UpIdeal.main_arg0) = m ((c.tc : Thread Cert.ProductS5UpIdeal.nD Cert.ProductS5UpIdeal.τ).loc Cert.ProductS5UpIdeal.main_arg0)
      ∧ r.2.mem ((c.tc : Thread Cert.ProductS5UpIdeal.nD Cert.ProductS5UpIdeal.τ).loc Cert.ProductS5UpIdeal.main_arg1) = m ((c.tc : Thread Cert.ProductS5UpIdeal.nD Cert.ProductS5UpIdeal.τ).loc Cert.ProductS5UpIdeal.main_arg1))
      ∧ r.2.sem = fun _ => 0)

def quiescent_PlainS5UpIdeal [hPlainS5UpIdeal : Cert.PlainS5UpIdeal.Facts] : Prop :=
  ∀ (m : (ℓ : Loc Cert.PlainS5UpIdeal.nD Cert.PlainS5UpIdeal.τ Cert.PlainS5UpIdeal.sig) → Buf (Elt Ideal) ℓ) (g : Dev Cert.PlainS5UpIdeal.nD → PrngReg), Pre_PlainS5UpIdeal m →
    θ_run (Cert.PlainS5UpIdeal.defs (F := Ideal)) (onTc (τ := Cert.PlainS5UpIdeal.τ) (Cert.PlainS5UpIdeal.main (F := Ideal))) ⟨m, fun _ => 0, g⟩ (fun r => (∀ c : Dev Cert.PlainS5UpIdeal.nD,
      r.2.mem ((c.tc : Thread Cert.PlainS5UpIdeal.nD Cert.PlainS5UpIdeal.τ).loc Cert.PlainS5UpIdeal.main_arg0) = m ((c.tc : Thread Cert.PlainS5UpIdeal.nD Cert.PlainS5UpIdeal.τ).loc Cert.PlainS5UpIdeal.main_arg0)
      ∧ r.2.mem ((c.tc : Thread Cert.PlainS5UpIdeal.nD Cert.PlainS5UpIdeal.τ).loc Cert.PlainS5UpIdeal.main_arg1) = m ((c.tc : Thread Cert.PlainS5UpIdeal.nD Cert.PlainS5UpIdeal.τ).loc Cert.PlainS5UpIdeal.main_arg1))
      ∧ r.2.sem = fun _ => 0)

def quiescent_ProductGradS5Up [hProductGradS5Up : Cert.ProductGradS5Up.Facts] : Prop :=
  ∀ (m : (ℓ : Loc Cert.ProductGradS5Up.nD Cert.ProductGradS5Up.τ Cert.ProductGradS5Up.sig) → Buf (Elt Bits) ℓ) (g : Dev Cert.ProductGradS5Up.nD → PrngReg), Pre_ProductGradS5Up m →
    θ_run (Cert.ProductGradS5Up.defs (F := Bits)) (onTc (τ := Cert.ProductGradS5Up.τ) (Cert.ProductGradS5Up.main (F := Bits))) ⟨m, fun _ => 0, g⟩ (fun r => (∀ c : Dev Cert.ProductGradS5Up.nD,
      r.2.mem ((c.tc : Thread Cert.ProductGradS5Up.nD Cert.ProductGradS5Up.τ).loc Cert.ProductGradS5Up.main_arg0) = m ((c.tc : Thread Cert.ProductGradS5Up.nD Cert.ProductGradS5Up.τ).loc Cert.ProductGradS5Up.main_arg0)
      ∧ r.2.mem ((c.tc : Thread Cert.ProductGradS5Up.nD Cert.ProductGradS5Up.τ).loc Cert.ProductGradS5Up.main_arg1) = m ((c.tc : Thread Cert.ProductGradS5Up.nD Cert.ProductGradS5Up.τ).loc Cert.ProductGradS5Up.main_arg1))
      ∧ r.2.sem = fun _ => 0)

def quiescent_ProductGradS5UpIdeal [hProductGradS5UpIdeal : Cert.ProductGradS5UpIdeal.Facts] : Prop :=
  ∀ (m : (ℓ : Loc Cert.ProductGradS5UpIdeal.nD Cert.ProductGradS5UpIdeal.τ Cert.ProductGradS5UpIdeal.sig) → Buf (Elt Ideal) ℓ) (g : Dev Cert.ProductGradS5UpIdeal.nD → PrngReg), Pre_ProductGradS5UpIdeal m →
    θ_run (Cert.ProductGradS5UpIdeal.defs (F := Ideal)) (onTc (τ := Cert.ProductGradS5UpIdeal.τ) (Cert.ProductGradS5UpIdeal.main (F := Ideal))) ⟨m, fun _ => 0, g⟩ (fun r => (∀ c : Dev Cert.ProductGradS5UpIdeal.nD,
      r.2.mem ((c.tc : Thread Cert.ProductGradS5UpIdeal.nD Cert.ProductGradS5UpIdeal.τ).loc Cert.ProductGradS5UpIdeal.main_arg0) = m ((c.tc : Thread Cert.ProductGradS5UpIdeal.nD Cert.ProductGradS5UpIdeal.τ).loc Cert.ProductGradS5UpIdeal.main_arg0)
      ∧ r.2.mem ((c.tc : Thread Cert.ProductGradS5UpIdeal.nD Cert.ProductGradS5UpIdeal.τ).loc Cert.ProductGradS5UpIdeal.main_arg1) = m ((c.tc : Thread Cert.ProductGradS5UpIdeal.nD Cert.ProductGradS5UpIdeal.τ).loc Cert.ProductGradS5UpIdeal.main_arg1))
      ∧ r.2.sem = fun _ => 0)

def quiescent_PlainGradS5UpIdeal [hPlainGradS5UpIdeal : Cert.PlainGradS5UpIdeal.Facts] : Prop :=
  ∀ (m : (ℓ : Loc Cert.PlainGradS5UpIdeal.nD Cert.PlainGradS5UpIdeal.τ Cert.PlainGradS5UpIdeal.sig) → Buf (Elt Ideal) ℓ) (g : Dev Cert.PlainGradS5UpIdeal.nD → PrngReg), Pre_PlainGradS5UpIdeal m →
    θ_run (Cert.PlainGradS5UpIdeal.defs (F := Ideal)) (onTc (τ := Cert.PlainGradS5UpIdeal.τ) (Cert.PlainGradS5UpIdeal.main (F := Ideal))) ⟨m, fun _ => 0, g⟩ (fun r => (∀ c : Dev Cert.PlainGradS5UpIdeal.nD,
      r.2.mem ((c.tc : Thread Cert.PlainGradS5UpIdeal.nD Cert.PlainGradS5UpIdeal.τ).loc Cert.PlainGradS5UpIdeal.main_arg0) = m ((c.tc : Thread Cert.PlainGradS5UpIdeal.nD Cert.PlainGradS5UpIdeal.τ).loc Cert.PlainGradS5UpIdeal.main_arg0)
      ∧ r.2.mem ((c.tc : Thread Cert.PlainGradS5UpIdeal.nD Cert.PlainGradS5UpIdeal.τ).loc Cert.PlainGradS5UpIdeal.main_arg1) = m ((c.tc : Thread Cert.PlainGradS5UpIdeal.nD Cert.PlainGradS5UpIdeal.τ).loc Cert.PlainGradS5UpIdeal.main_arg1))
      ∧ r.2.sem = fun _ => 0)

def quiescent_ProductDOutS [hProductDOutS : Cert.ProductDOutS.Facts] : Prop :=
  ∀ (m : (ℓ : Loc Cert.ProductDOutS.nD Cert.ProductDOutS.τ Cert.ProductDOutS.sig) → Buf (Elt Bits) ℓ) (g : Dev Cert.ProductDOutS.nD → PrngReg), Pre_ProductDOutS m →
    θ_run (Cert.ProductDOutS.defs (F := Bits)) (onTc (τ := Cert.ProductDOutS.τ) (Cert.ProductDOutS.main (F := Bits))) ⟨m, fun _ => 0, g⟩ (fun r => (∀ c : Dev Cert.ProductDOutS.nD,
      r.2.mem ((c.tc : Thread Cert.ProductDOutS.nD Cert.ProductDOutS.τ).loc Cert.ProductDOutS.main_arg0) = m ((c.tc : Thread Cert.ProductDOutS.nD Cert.ProductDOutS.τ).loc Cert.ProductDOutS.main_arg0)
      ∧ r.2.mem ((c.tc : Thread Cert.ProductDOutS.nD Cert.ProductDOutS.τ).loc Cert.ProductDOutS.main_arg1) = m ((c.tc : Thread Cert.ProductDOutS.nD Cert.ProductDOutS.τ).loc Cert.ProductDOutS.main_arg1))
      ∧ r.2.sem = fun _ => 0)

def quiescent_ProductDOutSIdeal [hProductDOutSIdeal : Cert.ProductDOutSIdeal.Facts] : Prop :=
  ∀ (m : (ℓ : Loc Cert.ProductDOutSIdeal.nD Cert.ProductDOutSIdeal.τ Cert.ProductDOutSIdeal.sig) → Buf (Elt Ideal) ℓ) (g : Dev Cert.ProductDOutSIdeal.nD → PrngReg), Pre_ProductDOutSIdeal m →
    θ_run (Cert.ProductDOutSIdeal.defs (F := Ideal)) (onTc (τ := Cert.ProductDOutSIdeal.τ) (Cert.ProductDOutSIdeal.main (F := Ideal))) ⟨m, fun _ => 0, g⟩ (fun r => (∀ c : Dev Cert.ProductDOutSIdeal.nD,
      r.2.mem ((c.tc : Thread Cert.ProductDOutSIdeal.nD Cert.ProductDOutSIdeal.τ).loc Cert.ProductDOutSIdeal.main_arg0) = m ((c.tc : Thread Cert.ProductDOutSIdeal.nD Cert.ProductDOutSIdeal.τ).loc Cert.ProductDOutSIdeal.main_arg0)
      ∧ r.2.mem ((c.tc : Thread Cert.ProductDOutSIdeal.nD Cert.ProductDOutSIdeal.τ).loc Cert.ProductDOutSIdeal.main_arg1) = m ((c.tc : Thread Cert.ProductDOutSIdeal.nD Cert.ProductDOutSIdeal.τ).loc Cert.ProductDOutSIdeal.main_arg1))
      ∧ r.2.sem = fun _ => 0)

def quiescent_PlainDOutSIdeal [hPlainDOutSIdeal : Cert.PlainDOutSIdeal.Facts] : Prop :=
  ∀ (m : (ℓ : Loc Cert.PlainDOutSIdeal.nD Cert.PlainDOutSIdeal.τ Cert.PlainDOutSIdeal.sig) → Buf (Elt Ideal) ℓ) (g : Dev Cert.PlainDOutSIdeal.nD → PrngReg), Pre_PlainDOutSIdeal m →
    θ_run (Cert.PlainDOutSIdeal.defs (F := Ideal)) (onTc (τ := Cert.PlainDOutSIdeal.τ) (Cert.PlainDOutSIdeal.main (F := Ideal))) ⟨m, fun _ => 0, g⟩ (fun r => (∀ c : Dev Cert.PlainDOutSIdeal.nD,
      r.2.mem ((c.tc : Thread Cert.PlainDOutSIdeal.nD Cert.PlainDOutSIdeal.τ).loc Cert.PlainDOutSIdeal.main_arg0) = m ((c.tc : Thread Cert.PlainDOutSIdeal.nD Cert.PlainDOutSIdeal.τ).loc Cert.PlainDOutSIdeal.main_arg0)
      ∧ r.2.mem ((c.tc : Thread Cert.PlainDOutSIdeal.nD Cert.PlainDOutSIdeal.τ).loc Cert.PlainDOutSIdeal.main_arg1) = m ((c.tc : Thread Cert.PlainDOutSIdeal.nD Cert.PlainDOutSIdeal.τ).loc Cert.PlainDOutSIdeal.main_arg1))
      ∧ r.2.sem = fun _ => 0)

def quiescent_ProductProj [hProductProj : Cert.ProductProj.Facts] : Prop :=
  ∀ (m : (ℓ : Loc Cert.ProductProj.nD Cert.ProductProj.τ Cert.ProductProj.sig) → Buf (Elt Bits) ℓ) (g : Dev Cert.ProductProj.nD → PrngReg), Pre_ProductProj m →
    θ_run (Cert.ProductProj.defs (F := Bits)) (onTc (τ := Cert.ProductProj.τ) (Cert.ProductProj.main (F := Bits))) ⟨m, fun _ => 0, g⟩ (fun r => (∀ c : Dev Cert.ProductProj.nD,
      r.2.mem ((c.tc : Thread Cert.ProductProj.nD Cert.ProductProj.τ).loc Cert.ProductProj.main_arg0) = m ((c.tc : Thread Cert.ProductProj.nD Cert.ProductProj.τ).loc Cert.ProductProj.main_arg0)
      ∧ r.2.mem ((c.tc : Thread Cert.ProductProj.nD Cert.ProductProj.τ).loc Cert.ProductProj.main_arg1) = m ((c.tc : Thread Cert.ProductProj.nD Cert.ProductProj.τ).loc Cert.ProductProj.main_arg1))
      ∧ r.2.sem = fun _ => 0)

def quiescent_ProductProjIdeal [hProductProjIdeal : Cert.ProductProjIdeal.Facts] : Prop :=
  ∀ (m : (ℓ : Loc Cert.ProductProjIdeal.nD Cert.ProductProjIdeal.τ Cert.ProductProjIdeal.sig) → Buf (Elt Ideal) ℓ) (g : Dev Cert.ProductProjIdeal.nD → PrngReg), Pre_ProductProjIdeal m →
    θ_run (Cert.ProductProjIdeal.defs (F := Ideal)) (onTc (τ := Cert.ProductProjIdeal.τ) (Cert.ProductProjIdeal.main (F := Ideal))) ⟨m, fun _ => 0, g⟩ (fun r => (∀ c : Dev Cert.ProductProjIdeal.nD,
      r.2.mem ((c.tc : Thread Cert.ProductProjIdeal.nD Cert.ProductProjIdeal.τ).loc Cert.ProductProjIdeal.main_arg0) = m ((c.tc : Thread Cert.ProductProjIdeal.nD Cert.ProductProjIdeal.τ).loc Cert.ProductProjIdeal.main_arg0)
      ∧ r.2.mem ((c.tc : Thread Cert.ProductProjIdeal.nD Cert.ProductProjIdeal.τ).loc Cert.ProductProjIdeal.main_arg1) = m ((c.tc : Thread Cert.ProductProjIdeal.nD Cert.ProductProjIdeal.τ).loc Cert.ProductProjIdeal.main_arg1))
      ∧ r.2.sem = fun _ => 0)

def quiescent_PlainProjIdeal [hPlainProjIdeal : Cert.PlainProjIdeal.Facts] : Prop :=
  ∀ (m : (ℓ : Loc Cert.PlainProjIdeal.nD Cert.PlainProjIdeal.τ Cert.PlainProjIdeal.sig) → Buf (Elt Ideal) ℓ) (g : Dev Cert.PlainProjIdeal.nD → PrngReg), Pre_PlainProjIdeal m →
    θ_run (Cert.PlainProjIdeal.defs (F := Ideal)) (onTc (τ := Cert.PlainProjIdeal.τ) (Cert.PlainProjIdeal.main (F := Ideal))) ⟨m, fun _ => 0, g⟩ (fun r => (∀ c : Dev Cert.PlainProjIdeal.nD,
      r.2.mem ((c.tc : Thread Cert.PlainProjIdeal.nD Cert.PlainProjIdeal.τ).loc Cert.PlainProjIdeal.main_arg0) = m ((c.tc : Thread Cert.PlainProjIdeal.nD Cert.PlainProjIdeal.τ).loc Cert.PlainProjIdeal.main_arg0)
      ∧ r.2.mem ((c.tc : Thread Cert.PlainProjIdeal.nD Cert.PlainProjIdeal.τ).loc Cert.PlainProjIdeal.main_arg1) = m ((c.tc : Thread Cert.PlainProjIdeal.nD Cert.PlainProjIdeal.τ).loc Cert.PlainProjIdeal.main_arg1))
      ∧ r.2.sem = fun _ => 0)

def quiescent_ProductGradWIn [hProductGradWIn : Cert.ProductGradWIn.Facts] : Prop :=
  ∀ (m : (ℓ : Loc Cert.ProductGradWIn.nD Cert.ProductGradWIn.τ Cert.ProductGradWIn.sig) → Buf (Elt Bits) ℓ) (g : Dev Cert.ProductGradWIn.nD → PrngReg), Pre_ProductGradWIn m →
    θ_run (Cert.ProductGradWIn.defs (F := Bits)) (onTc (τ := Cert.ProductGradWIn.τ) (Cert.ProductGradWIn.main (F := Bits))) ⟨m, fun _ => 0, g⟩ (fun r => (∀ c : Dev Cert.ProductGradWIn.nD,
      r.2.mem ((c.tc : Thread Cert.ProductGradWIn.nD Cert.ProductGradWIn.τ).loc Cert.ProductGradWIn.main_arg0) = m ((c.tc : Thread Cert.ProductGradWIn.nD Cert.ProductGradWIn.τ).loc Cert.ProductGradWIn.main_arg0)
      ∧ r.2.mem ((c.tc : Thread Cert.ProductGradWIn.nD Cert.ProductGradWIn.τ).loc Cert.ProductGradWIn.main_arg1) = m ((c.tc : Thread Cert.ProductGradWIn.nD Cert.ProductGradWIn.τ).loc Cert.ProductGradWIn.main_arg1))
      ∧ r.2.sem = fun _ => 0)

def quiescent_ProductGradWInIdeal [hProductGradWInIdeal : Cert.ProductGradWInIdeal.Facts] : Prop :=
  ∀ (m : (ℓ : Loc Cert.ProductGradWInIdeal.nD Cert.ProductGradWInIdeal.τ Cert.ProductGradWInIdeal.sig) → Buf (Elt Ideal) ℓ) (g : Dev Cert.ProductGradWInIdeal.nD → PrngReg), Pre_ProductGradWInIdeal m →
    θ_run (Cert.ProductGradWInIdeal.defs (F := Ideal)) (onTc (τ := Cert.ProductGradWInIdeal.τ) (Cert.ProductGradWInIdeal.main (F := Ideal))) ⟨m, fun _ => 0, g⟩ (fun r => (∀ c : Dev Cert.ProductGradWInIdeal.nD,
      r.2.mem ((c.tc : Thread Cert.ProductGradWInIdeal.nD Cert.ProductGradWInIdeal.τ).loc Cert.ProductGradWInIdeal.main_arg0) = m ((c.tc : Thread Cert.ProductGradWInIdeal.nD Cert.ProductGradWInIdeal.τ).loc Cert.ProductGradWInIdeal.main_arg0)
      ∧ r.2.mem ((c.tc : Thread Cert.ProductGradWInIdeal.nD Cert.ProductGradWInIdeal.τ).loc Cert.ProductGradWInIdeal.main_arg1) = m ((c.tc : Thread Cert.ProductGradWInIdeal.nD Cert.ProductGradWInIdeal.τ).loc Cert.ProductGradWInIdeal.main_arg1))
      ∧ r.2.sem = fun _ => 0)

def quiescent_PlainGradWInIdeal [hPlainGradWInIdeal : Cert.PlainGradWInIdeal.Facts] : Prop :=
  ∀ (m : (ℓ : Loc Cert.PlainGradWInIdeal.nD Cert.PlainGradWInIdeal.τ Cert.PlainGradWInIdeal.sig) → Buf (Elt Ideal) ℓ) (g : Dev Cert.PlainGradWInIdeal.nD → PrngReg), Pre_PlainGradWInIdeal m →
    θ_run (Cert.PlainGradWInIdeal.defs (F := Ideal)) (onTc (τ := Cert.PlainGradWInIdeal.τ) (Cert.PlainGradWInIdeal.main (F := Ideal))) ⟨m, fun _ => 0, g⟩ (fun r => (∀ c : Dev Cert.PlainGradWInIdeal.nD,
      r.2.mem ((c.tc : Thread Cert.PlainGradWInIdeal.nD Cert.PlainGradWInIdeal.τ).loc Cert.PlainGradWInIdeal.main_arg0) = m ((c.tc : Thread Cert.PlainGradWInIdeal.nD Cert.PlainGradWInIdeal.τ).loc Cert.PlainGradWInIdeal.main_arg0)
      ∧ r.2.mem ((c.tc : Thread Cert.PlainGradWInIdeal.nD Cert.PlainGradWInIdeal.τ).loc Cert.PlainGradWInIdeal.main_arg1) = m ((c.tc : Thread Cert.PlainGradWInIdeal.nD Cert.PlainGradWInIdeal.τ).loc Cert.PlainGradWInIdeal.main_arg1))
      ∧ r.2.sem = fun _ => 0)

def quiescent_ProductDH [hProductDH : Cert.ProductDH.Facts] : Prop :=
  ∀ (m : (ℓ : Loc Cert.ProductDH.nD Cert.ProductDH.τ Cert.ProductDH.sig) → Buf (Elt Bits) ℓ) (g : Dev Cert.ProductDH.nD → PrngReg), Pre_ProductDH m →
    θ_run (Cert.ProductDH.defs (F := Bits)) (onTc (τ := Cert.ProductDH.τ) (Cert.ProductDH.main (F := Bits))) ⟨m, fun _ => 0, g⟩ (fun r => (∀ c : Dev Cert.ProductDH.nD,
      r.2.mem ((c.tc : Thread Cert.ProductDH.nD Cert.ProductDH.τ).loc Cert.ProductDH.main_arg0) = m ((c.tc : Thread Cert.ProductDH.nD Cert.ProductDH.τ).loc Cert.ProductDH.main_arg0)
      ∧ r.2.mem ((c.tc : Thread Cert.ProductDH.nD Cert.ProductDH.τ).loc Cert.ProductDH.main_arg1) = m ((c.tc : Thread Cert.ProductDH.nD Cert.ProductDH.τ).loc Cert.ProductDH.main_arg1))
      ∧ r.2.sem = fun _ => 0)

def quiescent_ProductDHIdeal [hProductDHIdeal : Cert.ProductDHIdeal.Facts] : Prop :=
  ∀ (m : (ℓ : Loc Cert.ProductDHIdeal.nD Cert.ProductDHIdeal.τ Cert.ProductDHIdeal.sig) → Buf (Elt Ideal) ℓ) (g : Dev Cert.ProductDHIdeal.nD → PrngReg), Pre_ProductDHIdeal m →
    θ_run (Cert.ProductDHIdeal.defs (F := Ideal)) (onTc (τ := Cert.ProductDHIdeal.τ) (Cert.ProductDHIdeal.main (F := Ideal))) ⟨m, fun _ => 0, g⟩ (fun r => (∀ c : Dev Cert.ProductDHIdeal.nD,
      r.2.mem ((c.tc : Thread Cert.ProductDHIdeal.nD Cert.ProductDHIdeal.τ).loc Cert.ProductDHIdeal.main_arg0) = m ((c.tc : Thread Cert.ProductDHIdeal.nD Cert.ProductDHIdeal.τ).loc Cert.ProductDHIdeal.main_arg0)
      ∧ r.2.mem ((c.tc : Thread Cert.ProductDHIdeal.nD Cert.ProductDHIdeal.τ).loc Cert.ProductDHIdeal.main_arg1) = m ((c.tc : Thread Cert.ProductDHIdeal.nD Cert.ProductDHIdeal.τ).loc Cert.ProductDHIdeal.main_arg1))
      ∧ r.2.sem = fun _ => 0)

def quiescent_PlainDHIdeal [hPlainDHIdeal : Cert.PlainDHIdeal.Facts] : Prop :=
  ∀ (m : (ℓ : Loc Cert.PlainDHIdeal.nD Cert.PlainDHIdeal.τ Cert.PlainDHIdeal.sig) → Buf (Elt Ideal) ℓ) (g : Dev Cert.PlainDHIdeal.nD → PrngReg), Pre_PlainDHIdeal m →
    θ_run (Cert.PlainDHIdeal.defs (F := Ideal)) (onTc (τ := Cert.PlainDHIdeal.τ) (Cert.PlainDHIdeal.main (F := Ideal))) ⟨m, fun _ => 0, g⟩ (fun r => (∀ c : Dev Cert.PlainDHIdeal.nD,
      r.2.mem ((c.tc : Thread Cert.PlainDHIdeal.nD Cert.PlainDHIdeal.τ).loc Cert.PlainDHIdeal.main_arg0) = m ((c.tc : Thread Cert.PlainDHIdeal.nD Cert.PlainDHIdeal.τ).loc Cert.PlainDHIdeal.main_arg0)
      ∧ r.2.mem ((c.tc : Thread Cert.PlainDHIdeal.nD Cert.PlainDHIdeal.τ).loc Cert.PlainDHIdeal.main_arg1) = m ((c.tc : Thread Cert.PlainDHIdeal.nD Cert.PlainDHIdeal.τ).loc Cert.PlainDHIdeal.main_arg1))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_NormedIdeal [hNormedIdeal : Cert.NormedIdeal.Facts] : Prop :=
  ∀ (m : (ℓ : Loc Cert.NormedIdeal.nD Cert.NormedIdeal.τ Cert.NormedIdeal.sig) → Buf (Elt Ideal) ℓ) (g : Dev Cert.NormedIdeal.nD → PrngReg), Pre_NormedIdeal m →
    θ_run (Cert.NormedIdeal.defs (F := Ideal)) (onTc (τ := Cert.NormedIdeal.τ) (Cert.NormedIdeal.main (F := Ideal))) ⟨m, fun _ => 0, g⟩ (fun r => (∀ c : Dev Cert.NormedIdeal.nD,
      r.2.mem ((c.tc : Thread Cert.NormedIdeal.nD Cert.NormedIdeal.τ).loc Cert.NormedIdeal.main_arg0) = m ((c.tc : Thread Cert.NormedIdeal.nD Cert.NormedIdeal.τ).loc Cert.NormedIdeal.main_arg0)
      ∧ r.2.mem ((c.tc : Thread Cert.NormedIdeal.nD Cert.NormedIdeal.τ).loc Cert.NormedIdeal.main_arg1) = m ((c.tc : Thread Cert.NormedIdeal.nD Cert.NormedIdeal.τ).loc Cert.NormedIdeal.main_arg1))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2))
      ∧ r.2.sem = fun _ => 0)

def quiescent_MergedIdeal [hMergedIdeal : Cert.MergedIdeal.Facts] : Prop :=
  ∀ (m : (ℓ : Loc Cert.MergedIdeal.nD Cert.MergedIdeal.τ Cert.MergedIdeal.sig) → Buf (Elt Ideal) ℓ) (g : Dev Cert.MergedIdeal.nD → PrngReg), Pre_MergedIdeal m →
    θ_run (Cert.MergedIdeal.defs (F := Ideal)) (onTc (τ := Cert.MergedIdeal.τ) (Cert.MergedIdeal.main (F := Ideal))) ⟨m, fun _ => 0, g⟩ (fun r => (∀ c : Dev Cert.MergedIdeal.nD,
      r.2.mem ((c.tc : Thread Cert.MergedIdeal.nD Cert.MergedIdeal.τ).loc Cert.MergedIdeal.main_arg0) = m ((c.tc : Thread Cert.MergedIdeal.nD Cert.MergedIdeal.τ).loc Cert.MergedIdeal.main_arg0)
      ∧ r.2.mem ((c.tc : Thread Cert.MergedIdeal.nD Cert.MergedIdeal.τ).loc Cert.MergedIdeal.main_arg1) = m ((c.tc : Thread Cert.MergedIdeal.nD Cert.MergedIdeal.τ).loc Cert.MergedIdeal.main_arg1)
      ∧ r.2.mem ((c.tc : Thread Cert.MergedIdeal.nD Cert.MergedIdeal.τ).loc Cert.MergedIdeal.main_arg2) = m ((c.tc : Thread Cert.MergedIdeal.nD Cert.MergedIdeal.τ).loc Cert.MergedIdeal.main_arg2))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ r.2.sem = fun _ => 0)

def quiescent_MergePulledBackIdeal [hMergePulledBackIdeal : Cert.MergePulledBackIdeal.Facts] : Prop :=
  ∀ (m : (ℓ : Loc Cert.MergePulledBackIdeal.nD Cert.MergePulledBackIdeal.τ Cert.MergePulledBackIdeal.sig) → Buf (Elt Ideal) ℓ) (g : Dev Cert.MergePulledBackIdeal.nD → PrngReg), Pre_MergePulledBackIdeal m →
    θ_run (Cert.MergePulledBackIdeal.defs (F := Ideal)) (onTc (τ := Cert.MergePulledBackIdeal.τ) (Cert.MergePulledBackIdeal.main (F := Ideal))) ⟨m, fun _ => 0, g⟩ (fun r => (∀ c : Dev Cert.MergePulledBackIdeal.nD,
      r.2.mem ((c.tc : Thread Cert.MergePulledBackIdeal.nD Cert.MergePulledBackIdeal.τ).loc Cert.MergePulledBackIdeal.main_arg0) = m ((c.tc : Thread Cert.MergePulledBackIdeal.nD Cert.MergePulledBackIdeal.τ).loc Cert.MergePulledBackIdeal.main_arg0)
      ∧ r.2.mem ((c.tc : Thread Cert.MergePulledBackIdeal.nD Cert.MergePulledBackIdeal.τ).loc Cert.MergePulledBackIdeal.main_arg1) = m ((c.tc : Thread Cert.MergePulledBackIdeal.nD Cert.MergePulledBackIdeal.τ).loc Cert.MergePulledBackIdeal.main_arg1)
      ∧ r.2.mem ((c.tc : Thread Cert.MergePulledBackIdeal.nD Cert.MergePulledBackIdeal.τ).loc Cert.MergePulledBackIdeal.main_arg2) = m ((c.tc : Thread Cert.MergePulledBackIdeal.nD Cert.MergePulledBackIdeal.τ).loc Cert.MergePulledBackIdeal.main_arg2)
      ∧ r.2.mem ((c.tc : Thread Cert.MergePulledBackIdeal.nD Cert.MergePulledBackIdeal.τ).loc Cert.MergePulledBackIdeal.main_arg3) = m ((c.tc : Thread Cert.MergePulledBackIdeal.nD Cert.MergePulledBackIdeal.τ).loc Cert.MergePulledBackIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![8, 2048, 1282]⟩ ⟨3, ![64, 2048, 1282]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨3, ![8, 128, 1024]⟩ ⟨3, ![64, 128, 1024]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨3, ![8, 1024, 256]⟩ ⟨3, ![64, 1024, 256]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![8, 1024, 256]⟩ ⟨3, ![64, 1024, 256]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨3, ![8, 256, 2048]⟩ ⟨3, ![64, 256, 2048]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v2)) (v1 : Buf (Elt Ideal) (((0 : Dev Cert.ReferenceIdeal.nD).tc : Thread Cert.ReferenceIdeal.nD Cert.ReferenceIdeal.τ).loc Cert.ReferenceIdeal.main_v5)) (v2 : Buf (Elt Ideal) (((0 : Dev Cert.ReferenceIdeal.nD).tc : Thread Cert.ReferenceIdeal.nD Cert.ReferenceIdeal.τ).loc Cert.ReferenceIdeal.main_v8)) (v3 : Buf (Elt Ideal) (((0 : Dev Cert.ReferenceIdeal.nD).tc : Thread Cert.ReferenceIdeal.nD Cert.ReferenceIdeal.τ).loc Cert.ReferenceIdeal.main_v11)) (v4 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨3, ![8, 2048, 1282]⟩ ⟨3, ![64, 2048, 1282]⟩ 0 8 c v0
          ∧ r.2.mem ((c.tc : Thread Cert.KernelIdeal.nD Cert.KernelIdeal.τ).loc Cert.KernelIdeal.main_v1_1) = Layout.block ⟨3, ![8, 128, 1024]⟩ ⟨3, ![64, 128, 1024]⟩ 0 8 c v1
          ∧ r.2.mem ((c.tc : Thread Cert.KernelIdeal.nD Cert.KernelIdeal.τ).loc Cert.KernelIdeal.main_v1_2) = Layout.block ⟨3, ![8, 1024, 256]⟩ ⟨3, ![64, 1024, 256]⟩ 0 8 c v2
          ∧ r.2.mem ((c.tc : Thread Cert.KernelIdeal.nD Cert.KernelIdeal.τ).loc Cert.KernelIdeal.main_v1_3) = Layout.block ⟨3, ![8, 1024, 256]⟩ ⟨3, ![64, 1024, 256]⟩ 0 8 c v3
          ∧ r.2.mem ((c.tc : Thread Cert.KernelIdeal.nD Cert.KernelIdeal.τ).loc Cert.KernelIdeal.main_v1_4) = Layout.block ⟨3, ![8, 256, 2048]⟩ ⟨3, ![64, 256, 2048]⟩ 0 8 c v4
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_v5) = v1
          ∧ r.2.mem (((0 : Dev Cert.ReferenceIdeal.nD).tc : Thread Cert.ReferenceIdeal.nD Cert.ReferenceIdeal.τ).loc Cert.ReferenceIdeal.main_v8) = v2
          ∧ r.2.mem (((0 : Dev Cert.ReferenceIdeal.nD).tc : Thread Cert.ReferenceIdeal.nD Cert.ReferenceIdeal.τ).loc Cert.ReferenceIdeal.main_v11) = v3
          ∧ r.2.mem (((0 : Dev Cert.ReferenceIdeal.nD).tc : Thread Cert.ReferenceIdeal.nD Cert.ReferenceIdeal.τ).loc Cert.ReferenceIdeal.main_v14) = v4
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.block ⟨3, ![8, 2048, 1282]⟩ ⟨3, ![64, 2048, 1282]⟩ 0 8 c (m' (((0 : Dev Cert.Reference.nD).tc : Thread Cert.Reference.nD Cert.Reference.τ).loc Cert.Reference.main_arg0))
      ∧ m ((c.tc : Thread Cert.Kernel.nD Cert.Kernel.τ).loc Cert.Kernel.main_arg1) = Layout.block ⟨3, ![8, 128, 1024]⟩ ⟨3, ![64, 128, 1024]⟩ 0 8 c (m' (((0 : Dev Cert.Reference.nD).tc : Thread Cert.Reference.nD Cert.Reference.τ).loc Cert.Reference.main_arg1))
      ∧ m ((c.tc : Thread Cert.Kernel.nD Cert.Kernel.τ).loc Cert.Kernel.main_arg2) = Layout.block ⟨3, ![8, 1024, 256]⟩ ⟨3, ![64, 1024, 256]⟩ 0 8 c (m' (((0 : Dev Cert.Reference.nD).tc : Thread Cert.Reference.nD Cert.Reference.τ).loc Cert.Reference.main_arg2))
      ∧ m ((c.tc : Thread Cert.Kernel.nD Cert.Kernel.τ).loc Cert.Kernel.main_arg3) = Layout.block ⟨3, ![8, 1024, 256]⟩ ⟨3, ![64, 1024, 256]⟩ 0 8 c (m' (((0 : Dev Cert.Reference.nD).tc : Thread Cert.Reference.nD Cert.Reference.τ).loc Cert.Reference.main_arg3))
      ∧ m ((c.tc : Thread Cert.Kernel.nD Cert.Kernel.τ).loc Cert.Kernel.main_arg4) = Layout.block ⟨3, ![8, 256, 2048]⟩ ⟨3, ![64, 256, 2048]⟩ 0 8 c (m' (((0 : Dev Cert.Reference.nD).tc : Thread Cert.Reference.nD Cert.Reference.τ).loc Cert.Reference.main_arg4))) →
    ∃ (v0 : Buf (Elt Bits) (((0 : Dev Cert.Reference.nD).tc : Thread Cert.Reference.nD Cert.Reference.τ).loc Cert.Reference.main_v2)) (v1 : Buf (Elt Bits) (((0 : Dev Cert.Reference.nD).tc : Thread Cert.Reference.nD Cert.Reference.τ).loc Cert.Reference.main_v5)) (v2 : Buf (Elt Bits) (((0 : Dev Cert.Reference.nD).tc : Thread Cert.Reference.nD Cert.Reference.τ).loc Cert.Reference.main_v8)) (v3 : Buf (Elt Bits) (((0 : Dev Cert.Reference.nD).tc : Thread Cert.Reference.nD Cert.Reference.τ).loc Cert.Reference.main_v11)) (v4 : Buf (Elt Bits) (((0 : Dev Cert.Reference.nD).tc : Thread Cert.Reference.nD Cert.Reference.τ).loc Cert.Reference.main_v14)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1_0) = Layout.block ⟨3, ![8, 2048, 1282]⟩ ⟨3, ![64, 2048, 1282]⟩ 0 8 c v0
          ∧ r.2.mem ((c.tc : Thread Cert.Kernel.nD Cert.Kernel.τ).loc Cert.Kernel.main_v1_1) = Layout.block ⟨3, ![8, 128, 1024]⟩ ⟨3, ![64, 128, 1024]⟩ 0 8 c v1
          ∧ r.2.mem ((c.tc : Thread Cert.Kernel.nD Cert.Kernel.τ).loc Cert.Kernel.main_v1_2) = Layout.block ⟨3, ![8, 1024, 256]⟩ ⟨3, ![64, 1024, 256]⟩ 0 8 c v2
          ∧ r.2.mem ((c.tc : Thread Cert.Kernel.nD Cert.Kernel.τ).loc Cert.Kernel.main_v1_3) = Layout.block ⟨3, ![8, 1024, 256]⟩ ⟨3, ![64, 1024, 256]⟩ 0 8 c v3
          ∧ r.2.mem ((c.tc : Thread Cert.Kernel.nD Cert.Kernel.τ).loc Cert.Kernel.main_v1_4) = Layout.block ⟨3, ![8, 256, 2048]⟩ ⟨3, ![64, 256, 2048]⟩ 0 8 c v4
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v2) = v0
          ∧ r.2.mem (((0 : Dev Cert.Reference.nD).tc : Thread Cert.Reference.nD Cert.Reference.τ).loc Cert.Reference.main_v5) = v1
          ∧ r.2.mem (((0 : Dev Cert.Reference.nD).tc : Thread Cert.Reference.nD Cert.Reference.τ).loc Cert.Reference.main_v8) = v2
          ∧ r.2.mem (((0 : Dev Cert.Reference.nD).tc : Thread Cert.Reference.nD Cert.Reference.τ).loc Cert.Reference.main_v11) = v3
          ∧ r.2.mem (((0 : Dev Cert.Reference.nD).tc : Thread Cert.Reference.nD Cert.Reference.τ).loc Cert.Reference.main_v14) = v4
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1)
          ∧ r.2.mem (((0 : Dev Cert.Reference.nD).tc : Thread Cert.Reference.nD Cert.Reference.τ).loc Cert.Reference.main_arg2) = m' (((0 : Dev Cert.Reference.nD).tc : Thread Cert.Reference.nD Cert.Reference.τ).loc Cert.Reference.main_arg2)
          ∧ r.2.mem (((0 : Dev Cert.Reference.nD).tc : Thread Cert.Reference.nD Cert.Reference.τ).loc Cert.Reference.main_arg3) = m' (((0 : Dev Cert.Reference.nD).tc : Thread Cert.Reference.nD Cert.Reference.τ).loc Cert.Reference.main_arg3)
          ∧ r.2.mem (((0 : Dev Cert.Reference.nD).tc : Thread Cert.Reference.nD Cert.Reference.τ).loc Cert.Reference.main_arg4) = m' (((0 : Dev Cert.Reference.nD).tc : Thread Cert.Reference.nD Cert.Reference.τ).loc Cert.Reference.main_arg4))

def preserves_AdamWIn_AdamWInIdeal : Prop :=
  IdealRules.named_const.Statement Cert.AdamWInIdeal.κ "inv_left1" .f32 0x3FC48605#32 ((8388608 / 5463681 : ℝ) : EReal)
  ∧ IdealRules.named_const.Statement Cert.AdamWInIdeal.κ "inv_left2" .f32 0x42C8E6D3#32 ((268435456 / 2672307 : ℝ) : EReal)

def algebraic_AdamWInIdeal_StepWInIdeal [hAdamWInIdeal : Cert.AdamWInIdeal.Facts] [hStepWInIdeal : Cert.StepWInIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg)
    (m' : (ℓ : Loc Cert.StepWInIdeal.nD Cert.StepWInIdeal.τ Cert.StepWInIdeal.sig) → Buf (Elt Ideal) ℓ) (g' : Dev Cert.StepWInIdeal.nD → PrngReg), Pre_AdamWInIdeal m →
    (∀ c : Dev Cert.AdamWInIdeal.nD,
      m' ((c.tc : Thread Cert.StepWInIdeal.nD Cert.StepWInIdeal.τ).loc Cert.StepWInIdeal.main_arg0) = m ((c.tc : Thread Cert.AdamWInIdeal.nD Cert.AdamWInIdeal.τ).loc Cert.AdamWInIdeal.main_arg0)
      ∧ m' ((c.tc : Thread Cert.StepWInIdeal.nD Cert.StepWInIdeal.τ).loc Cert.StepWInIdeal.main_arg1) = m ((c.tc : Thread Cert.AdamWInIdeal.nD Cert.AdamWInIdeal.τ).loc Cert.AdamWInIdeal.main_arg1)
      ∧ m' ((c.tc : Thread Cert.StepWInIdeal.nD Cert.StepWInIdeal.τ).loc Cert.StepWInIdeal.main_arg2) = m ((c.tc : Thread Cert.AdamWInIdeal.nD Cert.AdamWInIdeal.τ).loc Cert.AdamWInIdeal.main_arg2)
      ∧ m' ((c.tc : Thread Cert.StepWInIdeal.nD Cert.StepWInIdeal.τ).loc Cert.StepWInIdeal.main_arg3) = m ((c.tc : Thread Cert.AdamWInIdeal.nD Cert.AdamWInIdeal.τ).loc Cert.AdamWInIdeal.main_arg3)) →
    ∃ (v0 : (c : Dev Cert.AdamWInIdeal.nD) → Buf (Elt Ideal) ((c.tc : Thread Cert.AdamWInIdeal.nD Cert.AdamWInIdeal.τ).loc Cert.AdamWInIdeal.main_v0_0)) (v1 : (c : Dev Cert.AdamWInIdeal.nD) → Buf (Elt Ideal) ((c.tc : Thread Cert.AdamWInIdeal.nD Cert.AdamWInIdeal.τ).loc Cert.AdamWInIdeal.main_v0_1)) (v2 : (c : Dev Cert.AdamWInIdeal.nD) → Buf (Elt Ideal) ((c.tc : Thread Cert.AdamWInIdeal.nD Cert.AdamWInIdeal.τ).loc Cert.AdamWInIdeal.main_v0_2)) (v3 : (c : Dev Cert.AdamWInIdeal.nD) → Buf (Elt Ideal) ((c.tc : Thread Cert.AdamWInIdeal.nD Cert.AdamWInIdeal.τ).loc Cert.AdamWInIdeal.main_v0_3)),
      θ_run (Cert.AdamWInIdeal.defs (F := Ideal)) (onTc (τ := Cert.AdamWInIdeal.τ) (Cert.AdamWInIdeal.main (F := Ideal))) ⟨m, fun _ => 0, g⟩ (fun r => ∀ c : Dev Cert.AdamWInIdeal.nD,
          r.2.mem ((c.tc : Thread Cert.AdamWInIdeal.nD Cert.AdamWInIdeal.τ).loc Cert.AdamWInIdeal.main_v0_0) = v0 c
          ∧ r.2.mem ((c.tc : Thread Cert.AdamWInIdeal.nD Cert.AdamWInIdeal.τ).loc Cert.AdamWInIdeal.main_v0_1) = v1 c
          ∧ r.2.mem ((c.tc : Thread Cert.AdamWInIdeal.nD Cert.AdamWInIdeal.τ).loc Cert.AdamWInIdeal.main_v0_2) = v2 c
          ∧ r.2.mem ((c.tc : Thread Cert.AdamWInIdeal.nD Cert.AdamWInIdeal.τ).loc Cert.AdamWInIdeal.main_v0_3) = v3 c
          ∧ r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
          ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
          ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
          ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ θ_run (Cert.StepWInIdeal.defs (F := Ideal)) (onTc (τ := Cert.StepWInIdeal.τ) (Cert.StepWInIdeal.main (F := Ideal))) ⟨m', fun _ => 0, g'⟩ (fun r => ∀ c : Dev Cert.StepWInIdeal.nD,
          r.2.mem ((c.tc : Thread Cert.StepWInIdeal.nD Cert.StepWInIdeal.τ).loc Cert.StepWInIdeal.main_v1) = v0 c
          ∧ r.2.mem ((c.tc : Thread Cert.StepWInIdeal.nD Cert.StepWInIdeal.τ).loc Cert.StepWInIdeal.main_v25) = v1 c
          ∧ r.2.mem ((c.tc : Thread Cert.StepWInIdeal.nD Cert.StepWInIdeal.τ).loc Cert.StepWInIdeal.main_v6) = v2 c
          ∧ r.2.mem ((c.tc : Thread Cert.StepWInIdeal.nD Cert.StepWInIdeal.τ).loc Cert.StepWInIdeal.main_v12) = v3 c
          ∧ r.2.mem ((c.tc : Thread Cert.StepWInIdeal.nD Cert.StepWInIdeal.τ).loc Cert.StepWInIdeal.main_arg0) = m' ((c.tc : Thread Cert.StepWInIdeal.nD Cert.StepWInIdeal.τ).loc Cert.StepWInIdeal.main_arg0)
          ∧ r.2.mem ((c.tc : Thread Cert.StepWInIdeal.nD Cert.StepWInIdeal.τ).loc Cert.StepWInIdeal.main_arg1) = m' ((c.tc : Thread Cert.StepWInIdeal.nD Cert.StepWInIdeal.τ).loc Cert.StepWInIdeal.main_arg1)
          ∧ r.2.mem ((c.tc : Thread Cert.StepWInIdeal.nD Cert.StepWInIdeal.τ).loc Cert.StepWInIdeal.main_arg2) = m' ((c.tc : Thread Cert.StepWInIdeal.nD Cert.StepWInIdeal.τ).loc Cert.StepWInIdeal.main_arg2)
          ∧ r.2.mem ((c.tc : Thread Cert.StepWInIdeal.nD Cert.StepWInIdeal.τ).loc Cert.StepWInIdeal.main_arg3) = m' ((c.tc : Thread Cert.StepWInIdeal.nD Cert.StepWInIdeal.τ).loc Cert.StepWInIdeal.main_arg3))

def preserves_AdamS5WGlu_AdamS5WGluIdeal : Prop :=
  IdealRules.named_const.Statement Cert.AdamS5WGluIdeal.κ "inv_left1" .f32 0x3FC48605#32 ((8388608 / 5463681 : ℝ) : EReal)
  ∧ IdealRules.named_const.Statement Cert.AdamS5WGluIdeal.κ "inv_left2" .f32 0x42C8E6D3#32 ((268435456 / 2672307 : ℝ) : EReal)

def algebraic_AdamS5WGluIdeal_StepS5WGluIdeal [hAdamS5WGluIdeal : Cert.AdamS5WGluIdeal.Facts] [hStepS5WGluIdeal : Cert.StepS5WGluIdeal.Facts] : Prop :=
  ∀ (m : (ℓ : Loc Cert.AdamS5WGluIdeal.nD Cert.AdamS5WGluIdeal.τ Cert.AdamS5WGluIdeal.sig) → Buf (Elt Ideal) ℓ) (g : Dev Cert.AdamS5WGluIdeal.nD → PrngReg)
    (m' : (ℓ : Loc Cert.StepS5WGluIdeal.nD Cert.StepS5WGluIdeal.τ Cert.StepS5WGluIdeal.sig) → Buf (Elt Ideal) ℓ) (g' : Dev Cert.StepS5WGluIdeal.nD → PrngReg), Pre_AdamS5WGluIdeal m →
    (∀ c : Dev Cert.AdamS5WGluIdeal.nD,
      m' ((c.tc : Thread Cert.StepS5WGluIdeal.nD Cert.StepS5WGluIdeal.τ).loc Cert.StepS5WGluIdeal.main_arg0) = m ((c.tc : Thread Cert.AdamS5WGluIdeal.nD Cert.AdamS5WGluIdeal.τ).loc Cert.AdamS5WGluIdeal.main_arg0)
      ∧ m' ((c.tc : Thread Cert.StepS5WGluIdeal.nD Cert.StepS5WGluIdeal.τ).loc Cert.StepS5WGluIdeal.main_arg1) = m ((c.tc : Thread Cert.AdamS5WGluIdeal.nD Cert.AdamS5WGluIdeal.τ).loc Cert.AdamS5WGluIdeal.main_arg1)
      ∧ m' ((c.tc : Thread Cert.StepS5WGluIdeal.nD Cert.StepS5WGluIdeal.τ).loc Cert.StepS5WGluIdeal.main_arg2) = m ((c.tc : Thread Cert.AdamS5WGluIdeal.nD Cert.AdamS5WGluIdeal.τ).loc Cert.AdamS5WGluIdeal.main_arg2)
      ∧ m' ((c.tc : Thread Cert.StepS5WGluIdeal.nD Cert.StepS5WGluIdeal.τ).loc Cert.StepS5WGluIdeal.main_arg3) = m ((c.tc : Thread Cert.AdamS5WGluIdeal.nD Cert.AdamS5WGluIdeal.τ).loc Cert.AdamS5WGluIdeal.main_arg3)) →
    ∃ (v0 : (c : Dev Cert.AdamS5WGluIdeal.nD) → Buf (Elt Ideal) ((c.tc : Thread Cert.AdamS5WGluIdeal.nD Cert.AdamS5WGluIdeal.τ).loc Cert.AdamS5WGluIdeal.main_v0_0)) (v1 : (c : Dev Cert.AdamS5WGluIdeal.nD) → Buf (Elt Ideal) ((c.tc : Thread Cert.AdamS5WGluIdeal.nD Cert.AdamS5WGluIdeal.τ).loc Cert.AdamS5WGluIdeal.main_v0_1)) (v2 : (c : Dev Cert.AdamS5WGluIdeal.nD) → Buf (Elt Ideal) ((c.tc : Thread Cert.AdamS5WGluIdeal.nD Cert.AdamS5WGluIdeal.τ).loc Cert.AdamS5WGluIdeal.main_v0_2)) (v3 : (c : Dev Cert.AdamS5WGluIdeal.nD) → Buf (Elt Ideal) ((c.tc : Thread Cert.AdamS5WGluIdeal.nD Cert.AdamS5WGluIdeal.τ).loc Cert.AdamS5WGluIdeal.main_v0_3)),
      θ_run (Cert.AdamS5WGluIdeal.defs (F := Ideal)) (onTc (τ := Cert.AdamS5WGluIdeal.τ) (Cert.AdamS5WGluIdeal.main (F := Ideal))) ⟨m, fun _ => 0, g⟩ (fun r => ∀ c : Dev Cert.AdamS5WGluIdeal.nD,
          r.2.mem ((c.tc : Thread Cert.AdamS5WGluIdeal.nD Cert.AdamS5WGluIdeal.τ).loc Cert.AdamS5WGluIdeal.main_v0_0) = v0 c
          ∧ r.2.mem ((c.tc : Thread Cert.AdamS5WGluIdeal.nD Cert.AdamS5WGluIdeal.τ).loc Cert.AdamS5WGluIdeal.main_v0_1) = v1 c
          ∧ r.2.mem ((c.tc : Thread Cert.AdamS5WGluIdeal.nD Cert.AdamS5WGluIdeal.τ).loc Cert.AdamS5WGluIdeal.main_v0_2) = v2 c
          ∧ r.2.mem ((c.tc : Thread Cert.AdamS5WGluIdeal.nD Cert.AdamS5WGluIdeal.τ).loc Cert.AdamS5WGluIdeal.main_v0_3) = v3 c
          ∧ r.2.mem ((c.tc : Thread Cert.AdamS5WGluIdeal.nD Cert.AdamS5WGluIdeal.τ).loc Cert.AdamS5WGluIdeal.main_arg0) = m ((c.tc : Thread Cert.AdamS5WGluIdeal.nD Cert.AdamS5WGluIdeal.τ).loc Cert.AdamS5WGluIdeal.main_arg0)
          ∧ r.2.mem ((c.tc : Thread Cert.AdamS5WGluIdeal.nD Cert.AdamS5WGluIdeal.τ).loc Cert.AdamS5WGluIdeal.main_arg1) = m ((c.tc : Thread Cert.AdamS5WGluIdeal.nD Cert.AdamS5WGluIdeal.τ).loc Cert.AdamS5WGluIdeal.main_arg1)
          ∧ r.2.mem ((c.tc : Thread Cert.AdamS5WGluIdeal.nD Cert.AdamS5WGluIdeal.τ).loc Cert.AdamS5WGluIdeal.main_arg2) = m ((c.tc : Thread Cert.AdamS5WGluIdeal.nD Cert.AdamS5WGluIdeal.τ).loc Cert.AdamS5WGluIdeal.main_arg2)
          ∧ r.2.mem ((c.tc : Thread Cert.AdamS5WGluIdeal.nD Cert.AdamS5WGluIdeal.τ).loc Cert.AdamS5WGluIdeal.main_arg3) = m ((c.tc : Thread Cert.AdamS5WGluIdeal.nD Cert.AdamS5WGluIdeal.τ).loc Cert.AdamS5WGluIdeal.main_arg3))
      ∧ θ_run (Cert.StepS5WGluIdeal.defs (F := Ideal)) (onTc (τ := Cert.StepS5WGluIdeal.τ) (Cert.StepS5WGluIdeal.main (F := Ideal))) ⟨m', fun _ => 0, g'⟩ (fun r => ∀ c : Dev Cert.StepS5WGluIdeal.nD,
          r.2.mem ((c.tc : Thread Cert.StepS5WGluIdeal.nD Cert.StepS5WGluIdeal.τ).loc Cert.StepS5WGluIdeal.main_v1) = v0 c
          ∧ r.2.mem ((c.tc : Thread Cert.StepS5WGluIdeal.nD Cert.StepS5WGluIdeal.τ).loc Cert.StepS5WGluIdeal.main_v25) = v1 c
          ∧ r.2.mem ((c.tc : Thread Cert.StepS5WGluIdeal.nD Cert.StepS5WGluIdeal.τ).loc Cert.StepS5WGluIdeal.main_v6) = v2 c
          ∧ r.2.mem ((c.tc : Thread Cert.StepS5WGluIdeal.nD Cert.StepS5WGluIdeal.τ).loc Cert.StepS5WGluIdeal.main_v12) = v3 c
          ∧ r.2.mem ((c.tc : Thread Cert.StepS5WGluIdeal.nD Cert.StepS5WGluIdeal.τ).loc Cert.StepS5WGluIdeal.main_arg0) = m' ((c.tc : Thread Cert.StepS5WGluIdeal.nD Cert.StepS5WGluIdeal.τ).loc Cert.StepS5WGluIdeal.main_arg0)
          ∧ r.2.mem ((c.tc : Thread Cert.StepS5WGluIdeal.nD Cert.StepS5WGluIdeal.τ).loc Cert.StepS5WGluIdeal.main_arg1) = m' ((c.tc : Thread Cert.StepS5WGluIdeal.nD Cert.StepS5WGluIdeal.τ).loc Cert.StepS5WGluIdeal.main_arg1)
          ∧ r.2.mem ((c.tc : Thread Cert.StepS5WGluIdeal.nD Cert.StepS5WGluIdeal.τ).loc Cert.StepS5WGluIdeal.main_arg2) = m' ((c.tc : Thread Cert.StepS5WGluIdeal.nD Cert.StepS5WGluIdeal.τ).loc Cert.StepS5WGluIdeal.main_arg2)
          ∧ r.2.mem ((c.tc : Thread Cert.StepS5WGluIdeal.nD Cert.StepS5WGluIdeal.τ).loc Cert.StepS5WGluIdeal.main_arg3) = m' ((c.tc : Thread Cert.StepS5WGluIdeal.nD Cert.StepS5WGluIdeal.τ).loc Cert.StepS5WGluIdeal.main_arg3))

def preserves_AdamS5WUp_AdamS5WUpIdeal : Prop :=
  IdealRules.named_const.Statement Cert.AdamS5WUpIdeal.κ "inv_left1" .f32 0x3FC48605#32 ((8388608 / 5463681 : ℝ) : EReal)
  ∧ IdealRules.named_const.Statement Cert.AdamS5WUpIdeal.κ "inv_left2" .f32 0x42C8E6D3#32 ((268435456 / 2672307 : ℝ) : EReal)

def algebraic_AdamS5WUpIdeal_StepS5WUpIdeal [hAdamS5WUpIdeal : Cert.AdamS5WUpIdeal.Facts] [hStepS5WUpIdeal : Cert.StepS5WUpIdeal.Facts] : Prop :=
  ∀ (m : (ℓ : Loc Cert.AdamS5WUpIdeal.nD Cert.AdamS5WUpIdeal.τ Cert.AdamS5WUpIdeal.sig) → Buf (Elt Ideal) ℓ) (g : Dev Cert.AdamS5WUpIdeal.nD → PrngReg)
    (m' : (ℓ : Loc Cert.StepS5WUpIdeal.nD Cert.StepS5WUpIdeal.τ Cert.StepS5WUpIdeal.sig) → Buf (Elt Ideal) ℓ) (g' : Dev Cert.StepS5WUpIdeal.nD → PrngReg), Pre_AdamS5WUpIdeal m →
    (∀ c : Dev Cert.AdamS5WUpIdeal.nD,
      m' ((c.tc : Thread Cert.StepS5WUpIdeal.nD Cert.StepS5WUpIdeal.τ).loc Cert.StepS5WUpIdeal.main_arg0) = m ((c.tc : Thread Cert.AdamS5WUpIdeal.nD Cert.AdamS5WUpIdeal.τ).loc Cert.AdamS5WUpIdeal.main_arg0)
      ∧ m' ((c.tc : Thread Cert.StepS5WUpIdeal.nD Cert.StepS5WUpIdeal.τ).loc Cert.StepS5WUpIdeal.main_arg1) = m ((c.tc : Thread Cert.AdamS5WUpIdeal.nD Cert.AdamS5WUpIdeal.τ).loc Cert.AdamS5WUpIdeal.main_arg1)
      ∧ m' ((c.tc : Thread Cert.StepS5WUpIdeal.nD Cert.StepS5WUpIdeal.τ).loc Cert.StepS5WUpIdeal.main_arg2) = m ((c.tc : Thread Cert.AdamS5WUpIdeal.nD Cert.AdamS5WUpIdeal.τ).loc Cert.AdamS5WUpIdeal.main_arg2)
      ∧ m' ((c.tc : Thread Cert.StepS5WUpIdeal.nD Cert.StepS5WUpIdeal.τ).loc Cert.StepS5WUpIdeal.main_arg3) = m ((c.tc : Thread Cert.AdamS5WUpIdeal.nD Cert.AdamS5WUpIdeal.τ).loc Cert.AdamS5WUpIdeal.main_arg3)) →
    ∃ (v0 : (c : Dev Cert.AdamS5WUpIdeal.nD) → Buf (Elt Ideal) ((c.tc : Thread Cert.AdamS5WUpIdeal.nD Cert.AdamS5WUpIdeal.τ).loc Cert.AdamS5WUpIdeal.main_v0_0)) (v1 : (c : Dev Cert.AdamS5WUpIdeal.nD) → Buf (Elt Ideal) ((c.tc : Thread Cert.AdamS5WUpIdeal.nD Cert.AdamS5WUpIdeal.τ).loc Cert.AdamS5WUpIdeal.main_v0_1)) (v2 : (c : Dev Cert.AdamS5WUpIdeal.nD) → Buf (Elt Ideal) ((c.tc : Thread Cert.AdamS5WUpIdeal.nD Cert.AdamS5WUpIdeal.τ).loc Cert.AdamS5WUpIdeal.main_v0_2)) (v3 : (c : Dev Cert.AdamS5WUpIdeal.nD) → Buf (Elt Ideal) ((c.tc : Thread Cert.AdamS5WUpIdeal.nD Cert.AdamS5WUpIdeal.τ).loc Cert.AdamS5WUpIdeal.main_v0_3)),
      θ_run (Cert.AdamS5WUpIdeal.defs (F := Ideal)) (onTc (τ := Cert.AdamS5WUpIdeal.τ) (Cert.AdamS5WUpIdeal.main (F := Ideal))) ⟨m, fun _ => 0, g⟩ (fun r => ∀ c : Dev Cert.AdamS5WUpIdeal.nD,
          r.2.mem ((c.tc : Thread Cert.AdamS5WUpIdeal.nD Cert.AdamS5WUpIdeal.τ).loc Cert.AdamS5WUpIdeal.main_v0_0) = v0 c
          ∧ r.2.mem ((c.tc : Thread Cert.AdamS5WUpIdeal.nD Cert.AdamS5WUpIdeal.τ).loc Cert.AdamS5WUpIdeal.main_v0_1) = v1 c
          ∧ r.2.mem ((c.tc : Thread Cert.AdamS5WUpIdeal.nD Cert.AdamS5WUpIdeal.τ).loc Cert.AdamS5WUpIdeal.main_v0_2) = v2 c
          ∧ r.2.mem ((c.tc : Thread Cert.AdamS5WUpIdeal.nD Cert.AdamS5WUpIdeal.τ).loc Cert.AdamS5WUpIdeal.main_v0_3) = v3 c
          ∧ r.2.mem ((c.tc : Thread Cert.AdamS5WUpIdeal.nD Cert.AdamS5WUpIdeal.τ).loc Cert.AdamS5WUpIdeal.main_arg0) = m ((c.tc : Thread Cert.AdamS5WUpIdeal.nD Cert.AdamS5WUpIdeal.τ).loc Cert.AdamS5WUpIdeal.main_arg0)
          ∧ r.2.mem ((c.tc : Thread Cert.AdamS5WUpIdeal.nD Cert.AdamS5WUpIdeal.τ).loc Cert.AdamS5WUpIdeal.main_arg1) = m ((c.tc : Thread Cert.AdamS5WUpIdeal.nD Cert.AdamS5WUpIdeal.τ).loc Cert.AdamS5WUpIdeal.main_arg1)
          ∧ r.2.mem ((c.tc : Thread Cert.AdamS5WUpIdeal.nD Cert.AdamS5WUpIdeal.τ).loc Cert.AdamS5WUpIdeal.main_arg2) = m ((c.tc : Thread Cert.AdamS5WUpIdeal.nD Cert.AdamS5WUpIdeal.τ).loc Cert.AdamS5WUpIdeal.main_arg2)
          ∧ r.2.mem ((c.tc : Thread Cert.AdamS5WUpIdeal.nD Cert.AdamS5WUpIdeal.τ).loc Cert.AdamS5WUpIdeal.main_arg3) = m ((c.tc : Thread Cert.AdamS5WUpIdeal.nD Cert.AdamS5WUpIdeal.τ).loc Cert.AdamS5WUpIdeal.main_arg3))
      ∧ θ_run (Cert.StepS5WUpIdeal.defs (F := Ideal)) (onTc (τ := Cert.StepS5WUpIdeal.τ) (Cert.StepS5WUpIdeal.main (F := Ideal))) ⟨m', fun _ => 0, g'⟩ (fun r => ∀ c : Dev Cert.StepS5WUpIdeal.nD,
          r.2.mem ((c.tc : Thread Cert.StepS5WUpIdeal.nD Cert.StepS5WUpIdeal.τ).loc Cert.StepS5WUpIdeal.main_v1) = v0 c
          ∧ r.2.mem ((c.tc : Thread Cert.StepS5WUpIdeal.nD Cert.StepS5WUpIdeal.τ).loc Cert.StepS5WUpIdeal.main_v25) = v1 c
          ∧ r.2.mem ((c.tc : Thread Cert.StepS5WUpIdeal.nD Cert.StepS5WUpIdeal.τ).loc Cert.StepS5WUpIdeal.main_v6) = v2 c
          ∧ r.2.mem ((c.tc : Thread Cert.StepS5WUpIdeal.nD Cert.StepS5WUpIdeal.τ).loc Cert.StepS5WUpIdeal.main_v12) = v3 c
          ∧ r.2.mem ((c.tc : Thread Cert.StepS5WUpIdeal.nD Cert.StepS5WUpIdeal.τ).loc Cert.StepS5WUpIdeal.main_arg0) = m' ((c.tc : Thread Cert.StepS5WUpIdeal.nD Cert.StepS5WUpIdeal.τ).loc Cert.StepS5WUpIdeal.main_arg0)
          ∧ r.2.mem ((c.tc : Thread Cert.StepS5WUpIdeal.nD Cert.StepS5WUpIdeal.τ).loc Cert.StepS5WUpIdeal.main_arg1) = m' ((c.tc : Thread Cert.StepS5WUpIdeal.nD Cert.StepS5WUpIdeal.τ).loc Cert.StepS5WUpIdeal.main_arg1)
          ∧ r.2.mem ((c.tc : Thread Cert.StepS5WUpIdeal.nD Cert.StepS5WUpIdeal.τ).loc Cert.StepS5WUpIdeal.main_arg2) = m' ((c.tc : Thread Cert.StepS5WUpIdeal.nD Cert.StepS5WUpIdeal.τ).loc Cert.StepS5WUpIdeal.main_arg2)
          ∧ r.2.mem ((c.tc : Thread Cert.StepS5WUpIdeal.nD Cert.StepS5WUpIdeal.τ).loc Cert.StepS5WUpIdeal.main_arg3) = m' ((c.tc : Thread Cert.StepS5WUpIdeal.nD Cert.StepS5WUpIdeal.τ).loc Cert.StepS5WUpIdeal.main_arg3))

def preserves_AdamWOut_AdamWOutIdeal : Prop :=
  IdealRules.named_const.Statement Cert.AdamWOutIdeal.κ "inv_left1" .f32 0x3FC48605#32 ((8388608 / 5463681 : ℝ) : EReal)
  ∧ IdealRules.named_const.Statement Cert.AdamWOutIdeal.κ "inv_left2" .f32 0x42C8E6D3#32 ((268435456 / 2672307 : ℝ) : EReal)

def algebraic_AdamWOutIdeal_StepWOutIdeal [hAdamWOutIdeal : Cert.AdamWOutIdeal.Facts] [hStepWOutIdeal : Cert.StepWOutIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg)
    (m' : (ℓ : Loc Cert.StepWOutIdeal.nD Cert.StepWOutIdeal.τ Cert.StepWOutIdeal.sig) → Buf (Elt Ideal) ℓ) (g' : Dev Cert.StepWOutIdeal.nD → PrngReg), Pre_AdamWOutIdeal m →
    (∀ c : Dev Cert.AdamWOutIdeal.nD,
      m' ((c.tc : Thread Cert.StepWOutIdeal.nD Cert.StepWOutIdeal.τ).loc Cert.StepWOutIdeal.main_arg0) = m ((c.tc : Thread Cert.AdamWOutIdeal.nD Cert.AdamWOutIdeal.τ).loc Cert.AdamWOutIdeal.main_arg0)
      ∧ m' ((c.tc : Thread Cert.StepWOutIdeal.nD Cert.StepWOutIdeal.τ).loc Cert.StepWOutIdeal.main_arg1) = m ((c.tc : Thread Cert.AdamWOutIdeal.nD Cert.AdamWOutIdeal.τ).loc Cert.AdamWOutIdeal.main_arg1)
      ∧ m' ((c.tc : Thread Cert.StepWOutIdeal.nD Cert.StepWOutIdeal.τ).loc Cert.StepWOutIdeal.main_arg2) = m ((c.tc : Thread Cert.AdamWOutIdeal.nD Cert.AdamWOutIdeal.τ).loc Cert.AdamWOutIdeal.main_arg2)
      ∧ m' ((c.tc : Thread Cert.StepWOutIdeal.nD Cert.StepWOutIdeal.τ).loc Cert.StepWOutIdeal.main_arg3) = m ((c.tc : Thread Cert.AdamWOutIdeal.nD Cert.AdamWOutIdeal.τ).loc Cert.AdamWOutIdeal.main_arg3)) →
    ∃ (v0 : (c : Dev Cert.AdamWOutIdeal.nD) → Buf (Elt Ideal) ((c.tc : Thread Cert.AdamWOutIdeal.nD Cert.AdamWOutIdeal.τ).loc Cert.AdamWOutIdeal.main_v0_0)) (v1 : (c : Dev Cert.AdamWOutIdeal.nD) → Buf (Elt Ideal) ((c.tc : Thread Cert.AdamWOutIdeal.nD Cert.AdamWOutIdeal.τ).loc Cert.AdamWOutIdeal.main_v0_1)) (v2 : (c : Dev Cert.AdamWOutIdeal.nD) → Buf (Elt Ideal) ((c.tc : Thread Cert.AdamWOutIdeal.nD Cert.AdamWOutIdeal.τ).loc Cert.AdamWOutIdeal.main_v0_2)) (v3 : (c : Dev Cert.AdamWOutIdeal.nD) → Buf (Elt Ideal) ((c.tc : Thread Cert.AdamWOutIdeal.nD Cert.AdamWOutIdeal.τ).loc Cert.AdamWOutIdeal.main_v0_3)),
      θ_run (Cert.AdamWOutIdeal.defs (F := Ideal)) (onTc (τ := Cert.AdamWOutIdeal.τ) (Cert.AdamWOutIdeal.main (F := Ideal))) ⟨m, fun _ => 0, g⟩ (fun r => ∀ c : Dev Cert.AdamWOutIdeal.nD,
          r.2.mem ((c.tc : Thread Cert.AdamWOutIdeal.nD Cert.AdamWOutIdeal.τ).loc Cert.AdamWOutIdeal.main_v0_0) = v0 c
          ∧ r.2.mem ((c.tc : Thread Cert.AdamWOutIdeal.nD Cert.AdamWOutIdeal.τ).loc Cert.AdamWOutIdeal.main_v0_1) = v1 c
          ∧ r.2.mem ((c.tc : Thread Cert.AdamWOutIdeal.nD Cert.AdamWOutIdeal.τ).loc Cert.AdamWOutIdeal.main_v0_2) = v2 c
          ∧ r.2.mem ((c.tc : Thread Cert.AdamWOutIdeal.nD Cert.AdamWOutIdeal.τ).loc Cert.AdamWOutIdeal.main_v0_3) = v3 c
          ∧ r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
          ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
          ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
          ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ θ_run (Cert.StepWOutIdeal.defs (F := Ideal)) (onTc (τ := Cert.StepWOutIdeal.τ) (Cert.StepWOutIdeal.main (F := Ideal))) ⟨m', fun _ => 0, g'⟩ (fun r => ∀ c : Dev Cert.StepWOutIdeal.nD,
          r.2.mem ((c.tc : Thread Cert.StepWOutIdeal.nD Cert.StepWOutIdeal.τ).loc Cert.StepWOutIdeal.main_v1) = v0 c
          ∧ r.2.mem ((c.tc : Thread Cert.StepWOutIdeal.nD Cert.StepWOutIdeal.τ).loc Cert.StepWOutIdeal.main_v25) = v1 c
          ∧ r.2.mem ((c.tc : Thread Cert.StepWOutIdeal.nD Cert.StepWOutIdeal.τ).loc Cert.StepWOutIdeal.main_v6) = v2 c
          ∧ r.2.mem ((c.tc : Thread Cert.StepWOutIdeal.nD Cert.StepWOutIdeal.τ).loc Cert.StepWOutIdeal.main_v12) = v3 c
          ∧ r.2.mem ((c.tc : Thread Cert.StepWOutIdeal.nD Cert.StepWOutIdeal.τ).loc Cert.StepWOutIdeal.main_arg0) = m' ((c.tc : Thread Cert.StepWOutIdeal.nD Cert.StepWOutIdeal.τ).loc Cert.StepWOutIdeal.main_arg0)
          ∧ r.2.mem ((c.tc : Thread Cert.StepWOutIdeal.nD Cert.StepWOutIdeal.τ).loc Cert.StepWOutIdeal.main_arg1) = m' ((c.tc : Thread Cert.StepWOutIdeal.nD Cert.StepWOutIdeal.τ).loc Cert.StepWOutIdeal.main_arg1)
          ∧ r.2.mem ((c.tc : Thread Cert.StepWOutIdeal.nD Cert.StepWOutIdeal.τ).loc Cert.StepWOutIdeal.main_arg2) = m' ((c.tc : Thread Cert.StepWOutIdeal.nD Cert.StepWOutIdeal.τ).loc Cert.StepWOutIdeal.main_arg2)
          ∧ r.2.mem ((c.tc : Thread Cert.StepWOutIdeal.nD Cert.StepWOutIdeal.τ).loc Cert.StepWOutIdeal.main_arg3) = m' ((c.tc : Thread Cert.StepWOutIdeal.nD Cert.StepWOutIdeal.τ).loc Cert.StepWOutIdeal.main_arg3))

def preserves_AdamSmall_AdamSmallIdeal : Prop :=
  IdealRules.named_const.Statement Cert.AdamSmallIdeal.κ "inv_left1" .f32 0x3FC48605#32 ((8388608 / 5463681 : ℝ) : EReal)
  ∧ IdealRules.named_const.Statement Cert.AdamSmallIdeal.κ "inv_left2" .f32 0x42C8E6D3#32 ((268435456 / 2672307 : ℝ) : EReal)

def algebraic_AdamSmallIdeal_StepSmallIdeal [hAdamSmallIdeal : Cert.AdamSmallIdeal.Facts] [hStepSmallIdeal : Cert.StepSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.StepSmallIdeal.nD Cert.StepSmallIdeal.τ Cert.StepSmallIdeal.sig) → Buf (Elt Ideal) ℓ) (g' : Dev Cert.StepSmallIdeal.nD → PrngReg), Pre_AdamSmallIdeal m →
    (∀ c : Dev Cert.AdamSmallIdeal.nD,
      m' ((c.tc : Thread Cert.StepSmallIdeal.nD Cert.StepSmallIdeal.τ).loc Cert.StepSmallIdeal.main_arg0) = m ((c.tc : Thread Cert.AdamSmallIdeal.nD Cert.AdamSmallIdeal.τ).loc Cert.AdamSmallIdeal.main_arg0)
      ∧ m' ((c.tc : Thread Cert.StepSmallIdeal.nD Cert.StepSmallIdeal.τ).loc Cert.StepSmallIdeal.main_arg1) = m ((c.tc : Thread Cert.AdamSmallIdeal.nD Cert.AdamSmallIdeal.τ).loc Cert.AdamSmallIdeal.main_arg1)
      ∧ m' ((c.tc : Thread Cert.StepSmallIdeal.nD Cert.StepSmallIdeal.τ).loc Cert.StepSmallIdeal.main_arg2) = m ((c.tc : Thread Cert.AdamSmallIdeal.nD Cert.AdamSmallIdeal.τ).loc Cert.AdamSmallIdeal.main_arg2)
      ∧ m' ((c.tc : Thread Cert.StepSmallIdeal.nD Cert.StepSmallIdeal.τ).loc Cert.StepSmallIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.StepSmallIdeal.defs (F := Ideal)) (onTc (τ := Cert.StepSmallIdeal.τ) (Cert.StepSmallIdeal.main (F := Ideal))) ⟨m', fun _ => 0, g'⟩ (fun r => ∀ c : Dev Cert.StepSmallIdeal.nD,
          r.2.mem ((c.tc : Thread Cert.StepSmallIdeal.nD Cert.StepSmallIdeal.τ).loc Cert.StepSmallIdeal.main_v0) = v0 c
          ∧ r.2.mem ((c.tc : Thread Cert.StepSmallIdeal.nD Cert.StepSmallIdeal.τ).loc Cert.StepSmallIdeal.main_v24) = v1 c
          ∧ r.2.mem ((c.tc : Thread Cert.StepSmallIdeal.nD Cert.StepSmallIdeal.τ).loc Cert.StepSmallIdeal.main_v5) = v2 c
          ∧ r.2.mem ((c.tc : Thread Cert.StepSmallIdeal.nD Cert.StepSmallIdeal.τ).loc Cert.StepSmallIdeal.main_v11) = v3 c
          ∧ r.2.mem ((c.tc : Thread Cert.StepSmallIdeal.nD Cert.StepSmallIdeal.τ).loc Cert.StepSmallIdeal.main_arg0) = m' ((c.tc : Thread Cert.StepSmallIdeal.nD Cert.StepSmallIdeal.τ).loc Cert.StepSmallIdeal.main_arg0)
          ∧ r.2.mem ((c.tc : Thread Cert.StepSmallIdeal.nD Cert.StepSmallIdeal.τ).loc Cert.StepSmallIdeal.main_arg1) = m' ((c.tc : Thread Cert.StepSmallIdeal.nD Cert.StepSmallIdeal.τ).loc Cert.StepSmallIdeal.main_arg1)
          ∧ r.2.mem ((c.tc : Thread Cert.StepSmallIdeal.nD Cert.StepSmallIdeal.τ).loc Cert.StepSmallIdeal.main_arg2) = m' ((c.tc : Thread Cert.StepSmallIdeal.nD Cert.StepSmallIdeal.τ).loc Cert.StepSmallIdeal.main_arg2)
          ∧ r.2.mem ((c.tc : Thread Cert.StepSmallIdeal.nD Cert.StepSmallIdeal.τ).loc Cert.StepSmallIdeal.main_arg3) = m' ((c.tc : Thread Cert.StepSmallIdeal.nD Cert.StepSmallIdeal.τ).loc Cert.StepSmallIdeal.main_arg3))

def preserves_SumSmall_SumSmallIdeal : Prop :=
  True

def algebraic_SumSmallIdeal_PlainSumIdeal [hSumSmallIdeal : Cert.SumSmallIdeal.Facts] [hPlainSumIdeal : Cert.PlainSumIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.PlainSumIdeal.nD Cert.PlainSumIdeal.τ Cert.PlainSumIdeal.sig) → Buf (Elt Ideal) ℓ) (g' : Dev Cert.PlainSumIdeal.nD → PrngReg), Pre_SumSmallIdeal m →
    (∀ c : Dev Cert.SumSmallIdeal.nD,
      m' ((c.tc : Thread Cert.PlainSumIdeal.nD Cert.PlainSumIdeal.τ).loc Cert.PlainSumIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.PlainSumIdeal.defs (F := Ideal)) (onTc (τ := Cert.PlainSumIdeal.τ) (Cert.PlainSumIdeal.main (F := Ideal))) ⟨m', fun _ => 0, g'⟩ (fun r => ∀ c : Dev Cert.PlainSumIdeal.nD,
          r.2.mem ((c.tc : Thread Cert.PlainSumIdeal.nD Cert.PlainSumIdeal.τ).loc Cert.PlainSumIdeal.main_v0) = v0 c
          ∧ r.2.mem ((c.tc : Thread Cert.PlainSumIdeal.nD Cert.PlainSumIdeal.τ).loc Cert.PlainSumIdeal.main_arg0) = m' ((c.tc : Thread Cert.PlainSumIdeal.nD Cert.PlainSumIdeal.τ).loc Cert.PlainSumIdeal.main_arg0))

def preserves_GatherWeights_GatherWeightsIdeal : Prop :=
  True

def algebraic_GatherWeightsIdeal_AllGatherWeightsIdeal [hGatherWeightsIdeal : Cert.GatherWeightsIdeal.Facts] [hAllGatherWeightsIdeal : Cert.AllGatherWeightsIdeal.Facts] : Prop :=
  ∀ (m : (ℓ : Loc Cert.GatherWeightsIdeal.nD Cert.GatherWeightsIdeal.τ Cert.GatherWeightsIdeal.sig) → Buf (Elt Ideal) ℓ) (g : Dev Cert.GatherWeightsIdeal.nD → PrngReg)
    (m' : (ℓ : Loc Cert.AllGatherWeightsIdeal.nD Cert.AllGatherWeightsIdeal.τ Cert.AllGatherWeightsIdeal.sig) → Buf (Elt Ideal) ℓ) (g' : Dev Cert.AllGatherWeightsIdeal.nD → PrngReg), Pre_GatherWeightsIdeal m →
    (∀ c : Dev Cert.GatherWeightsIdeal.nD,
      m ((c.tc : Thread Cert.GatherWeightsIdeal.nD Cert.GatherWeightsIdeal.τ).loc Cert.GatherWeightsIdeal.main_arg0) = Layout.block ⟨2, ![2048, 1282]⟩ ⟨2, ![16384, 1282]⟩ 0 8 c (m' (((0 : Dev Cert.AllGatherWeightsIdeal.nD).tc : Thread Cert.AllGatherWeightsIdeal.nD Cert.AllGatherWeightsIdeal.τ).loc Cert.AllGatherWeightsIdeal.main_arg0))
      ∧ m ((c.tc : Thread Cert.GatherWeightsIdeal.nD Cert.GatherWeightsIdeal.τ).loc Cert.GatherWeightsIdeal.main_arg1) = Layout.block ⟨2, ![128, 1024]⟩ ⟨2, ![1024, 1024]⟩ 0 8 c (m' (((0 : Dev Cert.AllGatherWeightsIdeal.nD).tc : Thread Cert.AllGatherWeightsIdeal.nD Cert.AllGatherWeightsIdeal.τ).loc Cert.AllGatherWeightsIdeal.main_arg1))
      ∧ m ((c.tc : Thread Cert.GatherWeightsIdeal.nD Cert.GatherWeightsIdeal.τ).loc Cert.GatherWeightsIdeal.main_arg2) = Layout.block ⟨2, ![1024, 256]⟩ ⟨2, ![8192, 256]⟩ 0 8 c (m' (((0 : Dev Cert.AllGatherWeightsIdeal.nD).tc : Thread Cert.AllGatherWeightsIdeal.nD Cert.AllGatherWeightsIdeal.τ).loc Cert.AllGatherWeightsIdeal.main_arg2))
      ∧ m ((c.tc : Thread Cert.GatherWeightsIdeal.nD Cert.GatherWeightsIdeal.τ).loc Cert.GatherWeightsIdeal.main_arg3) = Layout.block ⟨2, ![1024, 256]⟩ ⟨2, ![8192, 256]⟩ 0 8 c (m' (((0 : Dev Cert.AllGatherWeightsIdeal.nD).tc : Thread Cert.AllGatherWeightsIdeal.nD Cert.AllGatherWeightsIdeal.τ).loc Cert.AllGatherWeightsIdeal.main_arg3))
      ∧ m ((c.tc : Thread Cert.GatherWeightsIdeal.nD Cert.GatherWeightsIdeal.τ).loc Cert.GatherWeightsIdeal.main_arg4) = Layout.block ⟨2, ![256, 2048]⟩ ⟨2, ![2048, 2048]⟩ 0 8 c (m' (((0 : Dev Cert.AllGatherWeightsIdeal.nD).tc : Thread Cert.AllGatherWeightsIdeal.nD Cert.AllGatherWeightsIdeal.τ).loc Cert.AllGatherWeightsIdeal.main_arg4))
      ∧ m ((c.tc : Thread Cert.GatherWeightsIdeal.nD Cert.GatherWeightsIdeal.τ).loc Cert.GatherWeightsIdeal.main_arg5) = Layout.block ⟨2, ![4, 384]⟩ ⟨2, ![32, 384]⟩ 0 8 c (m' (((0 : Dev Cert.AllGatherWeightsIdeal.nD).tc : Thread Cert.AllGatherWeightsIdeal.nD Cert.AllGatherWeightsIdeal.τ).loc Cert.AllGatherWeightsIdeal.main_arg5))) →
    ∃ (v0 : Buf (Elt Ideal) (((0 : Dev Cert.AllGatherWeightsIdeal.nD).tc : Thread Cert.AllGatherWeightsIdeal.nD Cert.AllGatherWeightsIdeal.τ).loc Cert.AllGatherWeightsIdeal.main_v0)) (v1 : Buf (Elt Ideal) (((0 : Dev Cert.AllGatherWeightsIdeal.nD).tc : Thread Cert.AllGatherWeightsIdeal.nD Cert.AllGatherWeightsIdeal.τ).loc Cert.AllGatherWeightsIdeal.main_v1)) (v2 : Buf (Elt Ideal) (((0 : Dev Cert.AllGatherWeightsIdeal.nD).tc : Thread Cert.AllGatherWeightsIdeal.nD Cert.AllGatherWeightsIdeal.τ).loc Cert.AllGatherWeightsIdeal.main_v2)) (v3 : Buf (Elt Ideal) (((0 : Dev Cert.AllGatherWeightsIdeal.nD).tc : Thread Cert.AllGatherWeightsIdeal.nD Cert.AllGatherWeightsIdeal.τ).loc Cert.AllGatherWeightsIdeal.main_v3)) (v4 : Buf (Elt Ideal) (((0 : Dev Cert.AllGatherWeightsIdeal.nD).tc : Thread Cert.AllGatherWeightsIdeal.nD Cert.AllGatherWeightsIdeal.τ).loc Cert.AllGatherWeightsIdeal.main_v4)) (v5 : Buf (Elt Ideal) (((0 : Dev Cert.AllGatherWeightsIdeal.nD).tc : Thread Cert.AllGatherWeightsIdeal.nD Cert.AllGatherWeightsIdeal.τ).loc Cert.AllGatherWeightsIdeal.main_v5)),
      θ_run (Cert.GatherWeightsIdeal.defs (F := Ideal)) (onTc (τ := Cert.GatherWeightsIdeal.τ) (Cert.GatherWeightsIdeal.main (F := Ideal))) ⟨m, fun _ => 0, g⟩ (fun r => ∀ c : Dev Cert.GatherWeightsIdeal.nD,
          r.2.mem ((c.tc : Thread Cert.GatherWeightsIdeal.nD Cert.GatherWeightsIdeal.τ).loc Cert.GatherWeightsIdeal.main_v1_0) = v0
          ∧ r.2.mem ((c.tc : Thread Cert.GatherWeightsIdeal.nD Cert.GatherWeightsIdeal.τ).loc Cert.GatherWeightsIdeal.main_v1_1) = v1
          ∧ r.2.mem ((c.tc : Thread Cert.GatherWeightsIdeal.nD Cert.GatherWeightsIdeal.τ).loc Cert.GatherWeightsIdeal.main_v1_2) = v2
          ∧ r.2.mem ((c.tc : Thread Cert.GatherWeightsIdeal.nD Cert.GatherWeightsIdeal.τ).loc Cert.GatherWeightsIdeal.main_v1_3) = v3
          ∧ r.2.mem ((c.tc : Thread Cert.GatherWeightsIdeal.nD Cert.GatherWeightsIdeal.τ).loc Cert.GatherWeightsIdeal.main_v1_4) = v4
          ∧ r.2.mem ((c.tc : Thread Cert.GatherWeightsIdeal.nD Cert.GatherWeightsIdeal.τ).loc Cert.GatherWeightsIdeal.main_v1_5) = v5
          ∧ r.2.mem ((c.tc : Thread Cert.GatherWeightsIdeal.nD Cert.GatherWeightsIdeal.τ).loc Cert.GatherWeightsIdeal.main_arg0) = m ((c.tc : Thread Cert.GatherWeightsIdeal.nD Cert.GatherWeightsIdeal.τ).loc Cert.GatherWeightsIdeal.main_arg0)
          ∧ r.2.mem ((c.tc : Thread Cert.GatherWeightsIdeal.nD Cert.GatherWeightsIdeal.τ).loc Cert.GatherWeightsIdeal.main_arg1) = m ((c.tc : Thread Cert.GatherWeightsIdeal.nD Cert.GatherWeightsIdeal.τ).loc Cert.GatherWeightsIdeal.main_arg1)
          ∧ r.2.mem ((c.tc : Thread Cert.GatherWeightsIdeal.nD Cert.GatherWeightsIdeal.τ).loc Cert.GatherWeightsIdeal.main_arg2) = m ((c.tc : Thread Cert.GatherWeightsIdeal.nD Cert.GatherWeightsIdeal.τ).loc Cert.GatherWeightsIdeal.main_arg2)
          ∧ r.2.mem ((c.tc : Thread Cert.GatherWeightsIdeal.nD Cert.GatherWeightsIdeal.τ).loc Cert.GatherWeightsIdeal.main_arg3) = m ((c.tc : Thread Cert.GatherWeightsIdeal.nD Cert.GatherWeightsIdeal.τ).loc Cert.GatherWeightsIdeal.main_arg3)
          ∧ r.2.mem ((c.tc : Thread Cert.GatherWeightsIdeal.nD Cert.GatherWeightsIdeal.τ).loc Cert.GatherWeightsIdeal.main_arg4) = m ((c.tc : Thread Cert.GatherWeightsIdeal.nD Cert.GatherWeightsIdeal.τ).loc Cert.GatherWeightsIdeal.main_arg4)
          ∧ r.2.mem ((c.tc : Thread Cert.GatherWeightsIdeal.nD Cert.GatherWeightsIdeal.τ).loc Cert.GatherWeightsIdeal.main_arg5) = m ((c.tc : Thread Cert.GatherWeightsIdeal.nD Cert.GatherWeightsIdeal.τ).loc Cert.GatherWeightsIdeal.main_arg5))
      ∧ θ_run (Cert.AllGatherWeightsIdeal.defs (F := Ideal)) (onTc (τ := Cert.AllGatherWeightsIdeal.τ) (Cert.AllGatherWeightsIdeal.main (F := Ideal))) ⟨m', fun _ => 0, g'⟩ (fun r =>
          r.2.mem (((0 : Dev Cert.AllGatherWeightsIdeal.nD).tc : Thread Cert.AllGatherWeightsIdeal.nD Cert.AllGatherWeightsIdeal.τ).loc Cert.AllGatherWeightsIdeal.main_v0) = v0
          ∧ r.2.mem (((0 : Dev Cert.AllGatherWeightsIdeal.nD).tc : Thread Cert.AllGatherWeightsIdeal.nD Cert.AllGatherWeightsIdeal.τ).loc Cert.AllGatherWeightsIdeal.main_v1) = v1
          ∧ r.2.mem (((0 : Dev Cert.AllGatherWeightsIdeal.nD).tc : Thread Cert.AllGatherWeightsIdeal.nD Cert.AllGatherWeightsIdeal.τ).loc Cert.AllGatherWeightsIdeal.main_v2) = v2
          ∧ r.2.mem (((0 : Dev Cert.AllGatherWeightsIdeal.nD).tc : Thread Cert.AllGatherWeightsIdeal.nD Cert.AllGatherWeightsIdeal.τ).loc Cert.AllGatherWeightsIdeal.main_v3) = v3
          ∧ r.2.mem (((0 : Dev Cert.AllGatherWeightsIdeal.nD).tc : Thread Cert.AllGatherWeightsIdeal.nD Cert.AllGatherWeightsIdeal.τ).loc Cert.AllGatherWeightsIdeal.main_v4) = v4
          ∧ r.2.mem (((0 : Dev Cert.AllGatherWeightsIdeal.nD).tc : Thread Cert.AllGatherWeightsIdeal.nD Cert.AllGatherWeightsIdeal.τ).loc Cert.AllGatherWeightsIdeal.main_v5) = v5
          ∧ r.2.mem (((0 : Dev Cert.AllGatherWeightsIdeal.nD).tc : Thread Cert.AllGatherWeightsIdeal.nD Cert.AllGatherWeightsIdeal.τ).loc Cert.AllGatherWeightsIdeal.main_arg0) = m' (((0 : Dev Cert.AllGatherWeightsIdeal.nD).tc : Thread Cert.AllGatherWeightsIdeal.nD Cert.AllGatherWeightsIdeal.τ).loc Cert.AllGatherWeightsIdeal.main_arg0)
          ∧ r.2.mem (((0 : Dev Cert.AllGatherWeightsIdeal.nD).tc : Thread Cert.AllGatherWeightsIdeal.nD Cert.AllGatherWeightsIdeal.τ).loc Cert.AllGatherWeightsIdeal.main_arg1) = m' (((0 : Dev Cert.AllGatherWeightsIdeal.nD).tc : Thread Cert.AllGatherWeightsIdeal.nD Cert.AllGatherWeightsIdeal.τ).loc Cert.AllGatherWeightsIdeal.main_arg1)
          ∧ r.2.mem (((0 : Dev Cert.AllGatherWeightsIdeal.nD).tc : Thread Cert.AllGatherWeightsIdeal.nD Cert.AllGatherWeightsIdeal.τ).loc Cert.AllGatherWeightsIdeal.main_arg2) = m' (((0 : Dev Cert.AllGatherWeightsIdeal.nD).tc : Thread Cert.AllGatherWeightsIdeal.nD Cert.AllGatherWeightsIdeal.τ).loc Cert.AllGatherWeightsIdeal.main_arg2)
          ∧ r.2.mem (((0 : Dev Cert.AllGatherWeightsIdeal.nD).tc : Thread Cert.AllGatherWeightsIdeal.nD Cert.AllGatherWeightsIdeal.τ).loc Cert.AllGatherWeightsIdeal.main_arg3) = m' (((0 : Dev Cert.AllGatherWeightsIdeal.nD).tc : Thread Cert.AllGatherWeightsIdeal.nD Cert.AllGatherWeightsIdeal.τ).loc Cert.AllGatherWeightsIdeal.main_arg3)
          ∧ r.2.mem (((0 : Dev Cert.AllGatherWeightsIdeal.nD).tc : Thread Cert.AllGatherWeightsIdeal.nD Cert.AllGatherWeightsIdeal.τ).loc Cert.AllGatherWeightsIdeal.main_arg4) = m' (((0 : Dev Cert.AllGatherWeightsIdeal.nD).tc : Thread Cert.AllGatherWeightsIdeal.nD Cert.AllGatherWeightsIdeal.τ).loc Cert.AllGatherWeightsIdeal.main_arg4)
          ∧ r.2.mem (((0 : Dev Cert.AllGatherWeightsIdeal.nD).tc : Thread Cert.AllGatherWeightsIdeal.nD Cert.AllGatherWeightsIdeal.τ).loc Cert.AllGatherWeightsIdeal.main_arg5) = m' (((0 : Dev Cert.AllGatherWeightsIdeal.nD).tc : Thread Cert.AllGatherWeightsIdeal.nD Cert.AllGatherWeightsIdeal.τ).loc Cert.AllGatherWeightsIdeal.main_arg5))

def bitexact_GatherWeights_AllGatherWeights [hGatherWeights : Cert.GatherWeights.Facts] [hAllGatherWeights : Cert.AllGatherWeights.Facts] : Prop :=
  ∀ (m : (ℓ : Loc Cert.GatherWeights.nD Cert.GatherWeights.τ Cert.GatherWeights.sig) → Buf (Elt Bits) ℓ) (g : Dev Cert.GatherWeights.nD → PrngReg)
    (m' : (ℓ : Loc Cert.AllGatherWeights.nD Cert.AllGatherWeights.τ Cert.AllGatherWeights.sig) → Buf (Elt Bits) ℓ) (g' : Dev Cert.AllGatherWeights.nD → PrngReg), Pre_GatherWeights m →
    (∀ c : Dev Cert.GatherWeights.nD,
      m ((c.tc : Thread Cert.GatherWeights.nD Cert.GatherWeights.τ).loc Cert.GatherWeights.main_arg0) = Layout.block ⟨2, ![2048, 1282]⟩ ⟨2, ![16384, 1282]⟩ 0 8 c (m' (((0 : Dev Cert.AllGatherWeights.nD).tc : Thread Cert.AllGatherWeights.nD Cert.AllGatherWeights.τ).loc Cert.AllGatherWeights.main_arg0))
      ∧ m ((c.tc : Thread Cert.GatherWeights.nD Cert.GatherWeights.τ).loc Cert.GatherWeights.main_arg1) = Layout.block ⟨2, ![128, 1024]⟩ ⟨2, ![1024, 1024]⟩ 0 8 c (m' (((0 : Dev Cert.AllGatherWeights.nD).tc : Thread Cert.AllGatherWeights.nD Cert.AllGatherWeights.τ).loc Cert.AllGatherWeights.main_arg1))
      ∧ m ((c.tc : Thread Cert.GatherWeights.nD Cert.GatherWeights.τ).loc Cert.GatherWeights.main_arg2) = Layout.block ⟨2, ![1024, 256]⟩ ⟨2, ![8192, 256]⟩ 0 8 c (m' (((0 : Dev Cert.AllGatherWeights.nD).tc : Thread Cert.AllGatherWeights.nD Cert.AllGatherWeights.τ).loc Cert.AllGatherWeights.main_arg2))
      ∧ m ((c.tc : Thread Cert.GatherWeights.nD Cert.GatherWeights.τ).loc Cert.GatherWeights.main_arg3) = Layout.block ⟨2, ![1024, 256]⟩ ⟨2, ![8192, 256]⟩ 0 8 c (m' (((0 : Dev Cert.AllGatherWeights.nD).tc : Thread Cert.AllGatherWeights.nD Cert.AllGatherWeights.τ).loc Cert.AllGatherWeights.main_arg3))
      ∧ m ((c.tc : Thread Cert.GatherWeights.nD Cert.GatherWeights.τ).loc Cert.GatherWeights.main_arg4) = Layout.block ⟨2, ![256, 2048]⟩ ⟨2, ![2048, 2048]⟩ 0 8 c (m' (((0 : Dev Cert.AllGatherWeights.nD).tc : Thread Cert.AllGatherWeights.nD Cert.AllGatherWeights.τ).loc Cert.AllGatherWeights.main_arg4))
      ∧ m ((c.tc : Thread Cert.GatherWeights.nD Cert.GatherWeights.τ).loc Cert.GatherWeights.main_arg5) = Layout.block ⟨2, ![4, 384]⟩ ⟨2, ![32, 384]⟩ 0 8 c (m' (((0 : Dev Cert.AllGatherWeights.nD).tc : Thread Cert.AllGatherWeights.nD Cert.AllGatherWeights.τ).loc Cert.AllGatherWeights.main_arg5))) →
    ∃ (v0 : Buf (Elt Bits) (((0 : Dev Cert.AllGatherWeights.nD).tc : Thread Cert.AllGatherWeights.nD Cert.AllGatherWeights.τ).loc Cert.AllGatherWeights.main_v0)) (v1 : Buf (Elt Bits) (((0 : Dev Cert.AllGatherWeights.nD).tc : Thread Cert.AllGatherWeights.nD Cert.AllGatherWeights.τ).loc Cert.AllGatherWeights.main_v1)) (v2 : Buf (Elt Bits) (((0 : Dev Cert.AllGatherWeights.nD).tc : Thread Cert.AllGatherWeights.nD Cert.AllGatherWeights.τ).loc Cert.AllGatherWeights.main_v2)) (v3 : Buf (Elt Bits) (((0 : Dev Cert.AllGatherWeights.nD).tc : Thread Cert.AllGatherWeights.nD Cert.AllGatherWeights.τ).loc Cert.AllGatherWeights.main_v3)) (v4 : Buf (Elt Bits) (((0 : Dev Cert.AllGatherWeights.nD).tc : Thread Cert.AllGatherWeights.nD Cert.AllGatherWeights.τ).loc Cert.AllGatherWeights.main_v4)) (v5 : Buf (Elt Bits) (((0 : Dev Cert.AllGatherWeights.nD).tc : Thread Cert.AllGatherWeights.nD Cert.AllGatherWeights.τ).loc Cert.AllGatherWeights.main_v5)),
      θ_run (Cert.GatherWeights.defs (F := Bits)) (onTc (τ := Cert.GatherWeights.τ) (Cert.GatherWeights.main (F := Bits))) ⟨m, fun _ => 0, g⟩ (fun r => ∀ c : Dev Cert.GatherWeights.nD,
          r.2.mem ((c.tc : Thread Cert.GatherWeights.nD Cert.GatherWeights.τ).loc Cert.GatherWeights.main_v1_0) = v0
          ∧ r.2.mem ((c.tc : Thread Cert.GatherWeights.nD Cert.GatherWeights.τ).loc Cert.GatherWeights.main_v1_1) = v1
          ∧ r.2.mem ((c.tc : Thread Cert.GatherWeights.nD Cert.GatherWeights.τ).loc Cert.GatherWeights.main_v1_2) = v2
          ∧ r.2.mem ((c.tc : Thread Cert.GatherWeights.nD Cert.GatherWeights.τ).loc Cert.GatherWeights.main_v1_3) = v3
          ∧ r.2.mem ((c.tc : Thread Cert.GatherWeights.nD Cert.GatherWeights.τ).loc Cert.GatherWeights.main_v1_4) = v4
          ∧ r.2.mem ((c.tc : Thread Cert.GatherWeights.nD Cert.GatherWeights.τ).loc Cert.GatherWeights.main_v1_5) = v5
          ∧ r.2.mem ((c.tc : Thread Cert.GatherWeights.nD Cert.GatherWeights.τ).loc Cert.GatherWeights.main_arg0) = m ((c.tc : Thread Cert.GatherWeights.nD Cert.GatherWeights.τ).loc Cert.GatherWeights.main_arg0)
          ∧ r.2.mem ((c.tc : Thread Cert.GatherWeights.nD Cert.GatherWeights.τ).loc Cert.GatherWeights.main_arg1) = m ((c.tc : Thread Cert.GatherWeights.nD Cert.GatherWeights.τ).loc Cert.GatherWeights.main_arg1)
          ∧ r.2.mem ((c.tc : Thread Cert.GatherWeights.nD Cert.GatherWeights.τ).loc Cert.GatherWeights.main_arg2) = m ((c.tc : Thread Cert.GatherWeights.nD Cert.GatherWeights.τ).loc Cert.GatherWeights.main_arg2)
          ∧ r.2.mem ((c.tc : Thread Cert.GatherWeights.nD Cert.GatherWeights.τ).loc Cert.GatherWeights.main_arg3) = m ((c.tc : Thread Cert.GatherWeights.nD Cert.GatherWeights.τ).loc Cert.GatherWeights.main_arg3)
          ∧ r.2.mem ((c.tc : Thread Cert.GatherWeights.nD Cert.GatherWeights.τ).loc Cert.GatherWeights.main_arg4) = m ((c.tc : Thread Cert.GatherWeights.nD Cert.GatherWeights.τ).loc Cert.GatherWeights.main_arg4)
          ∧ r.2.mem ((c.tc : Thread Cert.GatherWeights.nD Cert.GatherWeights.τ).loc Cert.GatherWeights.main_arg5) = m ((c.tc : Thread Cert.GatherWeights.nD Cert.GatherWeights.τ).loc Cert.GatherWeights.main_arg5))
      ∧ θ_run (Cert.AllGatherWeights.defs (F := Bits)) (onTc (τ := Cert.AllGatherWeights.τ) (Cert.AllGatherWeights.main (F := Bits))) ⟨m', fun _ => 0, g'⟩ (fun r =>
          r.2.mem (((0 : Dev Cert.AllGatherWeights.nD).tc : Thread Cert.AllGatherWeights.nD Cert.AllGatherWeights.τ).loc Cert.AllGatherWeights.main_v0) = v0
          ∧ r.2.mem (((0 : Dev Cert.AllGatherWeights.nD).tc : Thread Cert.AllGatherWeights.nD Cert.AllGatherWeights.τ).loc Cert.AllGatherWeights.main_v1) = v1
          ∧ r.2.mem (((0 : Dev Cert.AllGatherWeights.nD).tc : Thread Cert.AllGatherWeights.nD Cert.AllGatherWeights.τ).loc Cert.AllGatherWeights.main_v2) = v2
          ∧ r.2.mem (((0 : Dev Cert.AllGatherWeights.nD).tc : Thread Cert.AllGatherWeights.nD Cert.AllGatherWeights.τ).loc Cert.AllGatherWeights.main_v3) = v3
          ∧ r.2.mem (((0 : Dev Cert.AllGatherWeights.nD).tc : Thread Cert.AllGatherWeights.nD Cert.AllGatherWeights.τ).loc Cert.AllGatherWeights.main_v4) = v4
          ∧ r.2.mem (((0 : Dev Cert.AllGatherWeights.nD).tc : Thread Cert.AllGatherWeights.nD Cert.AllGatherWeights.τ).loc Cert.AllGatherWeights.main_v5) = v5
          ∧ r.2.mem (((0 : Dev Cert.AllGatherWeights.nD).tc : Thread Cert.AllGatherWeights.nD Cert.AllGatherWeights.τ).loc Cert.AllGatherWeights.main_arg0) = m' (((0 : Dev Cert.AllGatherWeights.nD).tc : Thread Cert.AllGatherWeights.nD Cert.AllGatherWeights.τ).loc Cert.AllGatherWeights.main_arg0)
          ∧ r.2.mem (((0 : Dev Cert.AllGatherWeights.nD).tc : Thread Cert.AllGatherWeights.nD Cert.AllGatherWeights.τ).loc Cert.AllGatherWeights.main_arg1) = m' (((0 : Dev Cert.AllGatherWeights.nD).tc : Thread Cert.AllGatherWeights.nD Cert.AllGatherWeights.τ).loc Cert.AllGatherWeights.main_arg1)
          ∧ r.2.mem (((0 : Dev Cert.AllGatherWeights.nD).tc : Thread Cert.AllGatherWeights.nD Cert.AllGatherWeights.τ).loc Cert.AllGatherWeights.main_arg2) = m' (((0 : Dev Cert.AllGatherWeights.nD).tc : Thread Cert.AllGatherWeights.nD Cert.AllGatherWeights.τ).loc Cert.AllGatherWeights.main_arg2)
          ∧ r.2.mem (((0 : Dev Cert.AllGatherWeights.nD).tc : Thread Cert.AllGatherWeights.nD Cert.AllGatherWeights.τ).loc Cert.AllGatherWeights.main_arg3) = m' (((0 : Dev Cert.AllGatherWeights.nD).tc : Thread Cert.AllGatherWeights.nD Cert.AllGatherWeights.τ).loc Cert.AllGatherWeights.main_arg3)
          ∧ r.2.mem (((0 : Dev Cert.AllGatherWeights.nD).tc : Thread Cert.AllGatherWeights.nD Cert.AllGatherWeights.τ).loc Cert.AllGatherWeights.main_arg4) = m' (((0 : Dev Cert.AllGatherWeights.nD).tc : Thread Cert.AllGatherWeights.nD Cert.AllGatherWeights.τ).loc Cert.AllGatherWeights.main_arg4)
          ∧ r.2.mem (((0 : Dev Cert.AllGatherWeights.nD).tc : Thread Cert.AllGatherWeights.nD Cert.AllGatherWeights.τ).loc Cert.AllGatherWeights.main_arg5) = m' (((0 : Dev Cert.AllGatherWeights.nD).tc : Thread Cert.AllGatherWeights.nD Cert.AllGatherWeights.τ).loc Cert.AllGatherWeights.main_arg5))

def preserves_GatherSmallGrads_GatherSmallGradsIdeal : Prop :=
  True

def algebraic_GatherSmallGradsIdeal_AllGatherSmallGradsIdeal [hGatherSmallGradsIdeal : Cert.GatherSmallGradsIdeal.Facts] [hAllGatherSmallGradsIdeal : Cert.AllGatherSmallGradsIdeal.Facts] : Prop :=
  ∀ (m : (ℓ : Loc Cert.GatherSmallGradsIdeal.nD Cert.GatherSmallGradsIdeal.τ Cert.GatherSmallGradsIdeal.sig) → Buf (Elt Ideal) ℓ) (g : Dev Cert.GatherSmallGradsIdeal.nD → PrngReg)
    (m' : (ℓ : Loc Cert.AllGatherSmallGradsIdeal.nD Cert.AllGatherSmallGradsIdeal.τ Cert.AllGatherSmallGradsIdeal.sig) → Buf (Elt Ideal) ℓ) (g' : Dev Cert.AllGatherSmallGradsIdeal.nD → PrngReg), Pre_GatherSmallGradsIdeal m →
    (∀ c : Dev Cert.GatherSmallGradsIdeal.nD,
      m ((c.tc : Thread Cert.GatherSmallGradsIdeal.nD Cert.GatherSmallGradsIdeal.τ).loc Cert.GatherSmallGradsIdeal.main_arg0) = Layout.block ⟨2, ![2304, 128]⟩ ⟨2, ![18432, 128]⟩ 0 8 c (m' (((0 : Dev Cert.AllGatherSmallGradsIdeal.nD).tc : Thread Cert.AllGatherSmallGradsIdeal.nD Cert.AllGatherSmallGradsIdeal.τ).loc Cert.AllGatherSmallGradsIdeal.main_arg0))) →
    ∃ (v0 : Buf (Elt Ideal) (((0 : Dev Cert.AllGatherSmallGradsIdeal.nD).tc : Thread Cert.AllGatherSmallGradsIdeal.nD Cert.AllGatherSmallGradsIdeal.τ).loc Cert.AllGatherSmallGradsIdeal.main_v0)),
      θ_run (Cert.GatherSmallGradsIdeal.defs (F := Ideal)) (onTc (τ := Cert.GatherSmallGradsIdeal.τ) (Cert.GatherSmallGradsIdeal.main (F := Ideal))) ⟨m, fun _ => 0, g⟩ (fun r => ∀ c : Dev Cert.GatherSmallGradsIdeal.nD,
          r.2.mem ((c.tc : Thread Cert.GatherSmallGradsIdeal.nD Cert.GatherSmallGradsIdeal.τ).loc Cert.GatherSmallGradsIdeal.main_v1) = v0
          ∧ r.2.mem ((c.tc : Thread Cert.GatherSmallGradsIdeal.nD Cert.GatherSmallGradsIdeal.τ).loc Cert.GatherSmallGradsIdeal.main_arg0) = m ((c.tc : Thread Cert.GatherSmallGradsIdeal.nD Cert.GatherSmallGradsIdeal.τ).loc Cert.GatherSmallGradsIdeal.main_arg0))
      ∧ θ_run (Cert.AllGatherSmallGradsIdeal.defs (F := Ideal)) (onTc (τ := Cert.AllGatherSmallGradsIdeal.τ) (Cert.AllGatherSmallGradsIdeal.main (F := Ideal))) ⟨m', fun _ => 0, g'⟩ (fun r =>
          r.2.mem (((0 : Dev Cert.AllGatherSmallGradsIdeal.nD).tc : Thread Cert.AllGatherSmallGradsIdeal.nD Cert.AllGatherSmallGradsIdeal.τ).loc Cert.AllGatherSmallGradsIdeal.main_v0) = v0
          ∧ r.2.mem (((0 : Dev Cert.AllGatherSmallGradsIdeal.nD).tc : Thread Cert.AllGatherSmallGradsIdeal.nD Cert.AllGatherSmallGradsIdeal.τ).loc Cert.AllGatherSmallGradsIdeal.main_arg0) = m' (((0 : Dev Cert.AllGatherSmallGradsIdeal.nD).tc : Thread Cert.AllGatherSmallGradsIdeal.nD Cert.AllGatherSmallGradsIdeal.τ).loc Cert.AllGatherSmallGradsIdeal.main_arg0))

def bitexact_GatherSmallGrads_AllGatherSmallGrads [hGatherSmallGrads : Cert.GatherSmallGrads.Facts] [hAllGatherSmallGrads : Cert.AllGatherSmallGrads.Facts] : Prop :=
  ∀ (m : (ℓ : Loc Cert.GatherSmallGrads.nD Cert.GatherSmallGrads.τ Cert.GatherSmallGrads.sig) → Buf (Elt Bits) ℓ) (g : Dev Cert.GatherSmallGrads.nD → PrngReg)
    (m' : (ℓ : Loc Cert.AllGatherSmallGrads.nD Cert.AllGatherSmallGrads.τ Cert.AllGatherSmallGrads.sig) → Buf (Elt Bits) ℓ) (g' : Dev Cert.AllGatherSmallGrads.nD → PrngReg), Pre_GatherSmallGrads m →
    (∀ c : Dev Cert.GatherSmallGrads.nD,
      m ((c.tc : Thread Cert.GatherSmallGrads.nD Cert.GatherSmallGrads.τ).loc Cert.GatherSmallGrads.main_arg0) = Layout.block ⟨2, ![2304, 128]⟩ ⟨2, ![18432, 128]⟩ 0 8 c (m' (((0 : Dev Cert.AllGatherSmallGrads.nD).tc : Thread Cert.AllGatherSmallGrads.nD Cert.AllGatherSmallGrads.τ).loc Cert.AllGatherSmallGrads.main_arg0))) →
    ∃ (v0 : Buf (Elt Bits) (((0 : Dev Cert.AllGatherSmallGrads.nD).tc : Thread Cert.AllGatherSmallGrads.nD Cert.AllGatherSmallGrads.τ).loc Cert.AllGatherSmallGrads.main_v0)),
      θ_run (Cert.GatherSmallGrads.defs (F := Bits)) (onTc (τ := Cert.GatherSmallGrads.τ) (Cert.GatherSmallGrads.main (F := Bits))) ⟨m, fun _ => 0, g⟩ (fun r => ∀ c : Dev Cert.GatherSmallGrads.nD,
          r.2.mem ((c.tc : Thread Cert.GatherSmallGrads.nD Cert.GatherSmallGrads.τ).loc Cert.GatherSmallGrads.main_v1) = v0
          ∧ r.2.mem ((c.tc : Thread Cert.GatherSmallGrads.nD Cert.GatherSmallGrads.τ).loc Cert.GatherSmallGrads.main_arg0) = m ((c.tc : Thread Cert.GatherSmallGrads.nD Cert.GatherSmallGrads.τ).loc Cert.GatherSmallGrads.main_arg0))
      ∧ θ_run (Cert.AllGatherSmallGrads.defs (F := Bits)) (onTc (τ := Cert.AllGatherSmallGrads.τ) (Cert.AllGatherSmallGrads.main (F := Bits))) ⟨m', fun _ => 0, g'⟩ (fun r =>
          r.2.mem (((0 : Dev Cert.AllGatherSmallGrads.nD).tc : Thread Cert.AllGatherSmallGrads.nD Cert.AllGatherSmallGrads.τ).loc Cert.AllGatherSmallGrads.main_v0) = v0
          ∧ r.2.mem (((0 : Dev Cert.AllGatherSmallGrads.nD).tc : Thread Cert.AllGatherSmallGrads.nD Cert.AllGatherSmallGrads.τ).loc Cert.AllGatherSmallGrads.main_arg0) = m' (((0 : Dev Cert.AllGatherSmallGrads.nD).tc : Thread Cert.AllGatherSmallGrads.nD Cert.AllGatherSmallGrads.τ).loc Cert.AllGatherSmallGrads.main_arg0))

def preserves_RmsBwd_RmsBwdIdeal : Prop :=
  True

def algebraic_RmsBwdIdeal_PulledBackIdeal [hRmsBwdIdeal : Cert.RmsBwdIdeal.Facts] [hPulledBackIdeal : Cert.PulledBackIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.PulledBackIdeal.nD Cert.PulledBackIdeal.τ Cert.PulledBackIdeal.sig) → Buf (Elt Ideal) ℓ) (g' : Dev Cert.PulledBackIdeal.nD → PrngReg), Pre_RmsBwdIdeal m →
    (∀ c : Dev Cert.RmsBwdIdeal.nD,
      m' ((c.tc : Thread Cert.PulledBackIdeal.nD Cert.PulledBackIdeal.τ).loc Cert.PulledBackIdeal.main_arg0) = m ((c.tc : Thread Cert.RmsBwdIdeal.nD Cert.RmsBwdIdeal.τ).loc Cert.RmsBwdIdeal.main_arg0)
      ∧ m' ((c.tc : Thread Cert.PulledBackIdeal.nD Cert.PulledBackIdeal.τ).loc Cert.PulledBackIdeal.main_arg1) = m ((c.tc : Thread Cert.RmsBwdIdeal.nD Cert.RmsBwdIdeal.τ).loc Cert.RmsBwdIdeal.main_arg1)
      ∧ m' ((c.tc : Thread Cert.PulledBackIdeal.nD Cert.PulledBackIdeal.τ).loc Cert.PulledBackIdeal.main_arg2) = m ((c.tc : Thread Cert.RmsBwdIdeal.nD Cert.RmsBwdIdeal.τ).loc Cert.RmsBwdIdeal.main_arg2)
      ∧ m' ((c.tc : Thread Cert.PulledBackIdeal.nD Cert.PulledBackIdeal.τ).loc Cert.PulledBackIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v0_0)) (v1 : (c : Dev Cert.RmsBwdIdeal.nD) → Buf (Elt Ideal) ((c.tc : Thread Cert.RmsBwdIdeal.nD Cert.RmsBwdIdeal.τ).loc Cert.RmsBwdIdeal.main_v0_1)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v0_0) = v0 c
          ∧ r.2.mem ((c.tc : Thread Cert.RmsBwdIdeal.nD Cert.RmsBwdIdeal.τ).loc Cert.RmsBwdIdeal.main_v0_1) = v1 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.PulledBackIdeal.defs (F := Ideal)) (onTc (τ := Cert.PulledBackIdeal.τ) (Cert.PulledBackIdeal.main (F := Ideal))) ⟨m', fun _ => 0, g'⟩ (fun r => ∀ c : Dev Cert.PulledBackIdeal.nD,
          r.2.mem ((c.tc : Thread Cert.PulledBackIdeal.nD Cert.PulledBackIdeal.τ).loc Cert.PulledBackIdeal.main_v34) = v0 c
          ∧ r.2.mem ((c.tc : Thread Cert.PulledBackIdeal.nD Cert.PulledBackIdeal.τ).loc Cert.PulledBackIdeal.main_v17) = v1 c
          ∧ r.2.mem ((c.tc : Thread Cert.PulledBackIdeal.nD Cert.PulledBackIdeal.τ).loc Cert.PulledBackIdeal.main_arg0) = m' ((c.tc : Thread Cert.PulledBackIdeal.nD Cert.PulledBackIdeal.τ).loc Cert.PulledBackIdeal.main_arg0)
          ∧ r.2.mem ((c.tc : Thread Cert.PulledBackIdeal.nD Cert.PulledBackIdeal.τ).loc Cert.PulledBackIdeal.main_arg1) = m' ((c.tc : Thread Cert.PulledBackIdeal.nD Cert.PulledBackIdeal.τ).loc Cert.PulledBackIdeal.main_arg1)
          ∧ r.2.mem ((c.tc : Thread Cert.PulledBackIdeal.nD Cert.PulledBackIdeal.τ).loc Cert.PulledBackIdeal.main_arg2) = m' ((c.tc : Thread Cert.PulledBackIdeal.nD Cert.PulledBackIdeal.τ).loc Cert.PulledBackIdeal.main_arg2)
          ∧ r.2.mem ((c.tc : Thread Cert.PulledBackIdeal.nD Cert.PulledBackIdeal.τ).loc Cert.PulledBackIdeal.main_arg3) = m' ((c.tc : Thread Cert.PulledBackIdeal.nD Cert.PulledBackIdeal.τ).loc Cert.PulledBackIdeal.main_arg3))

def preserves_Final_FinalIdeal : Prop :=
  True

def algebraic_FinalIdeal_PlainFinalIdeal [hFinalIdeal : Cert.FinalIdeal.Facts] [hPlainFinalIdeal : Cert.PlainFinalIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.PlainFinalIdeal.nD Cert.PlainFinalIdeal.τ Cert.PlainFinalIdeal.sig) → Buf (Elt Ideal) ℓ) (g' : Dev Cert.PlainFinalIdeal.nD → PrngReg), Pre_FinalIdeal m →
    (∀ c : Dev Cert.FinalIdeal.nD,
      m' ((c.tc : Thread Cert.PlainFinalIdeal.nD Cert.PlainFinalIdeal.τ).loc Cert.PlainFinalIdeal.main_arg0) = m ((c.tc : Thread Cert.FinalIdeal.nD Cert.FinalIdeal.τ).loc Cert.FinalIdeal.main_arg0)
      ∧ m' ((c.tc : Thread Cert.PlainFinalIdeal.nD Cert.PlainFinalIdeal.τ).loc Cert.PlainFinalIdeal.main_arg1) = m ((c.tc : Thread Cert.FinalIdeal.nD Cert.FinalIdeal.τ).loc Cert.FinalIdeal.main_arg1)
      ∧ m' ((c.tc : Thread Cert.PlainFinalIdeal.nD Cert.PlainFinalIdeal.τ).loc Cert.PlainFinalIdeal.main_arg2) = m ((c.tc : Thread Cert.FinalIdeal.nD Cert.FinalIdeal.τ).loc Cert.FinalIdeal.main_arg2)
      ∧ m' ((c.tc : Thread Cert.PlainFinalIdeal.nD Cert.PlainFinalIdeal.τ).loc Cert.PlainFinalIdeal.main_arg3) = m ((c.tc : Thread Cert.FinalIdeal.nD Cert.FinalIdeal.τ).loc Cert.FinalIdeal.main_arg3)) →
    ∃ (v0 : (c : Dev Cert.FinalIdeal.nD) → Buf (Elt Ideal) ((c.tc : Thread Cert.FinalIdeal.nD Cert.FinalIdeal.τ).loc Cert.FinalIdeal.main_v0_0)) (v1 : (c : Dev Cert.FinalIdeal.nD) → Buf (Elt Ideal) ((c.tc : Thread Cert.FinalIdeal.nD Cert.FinalIdeal.τ).loc Cert.FinalIdeal.main_v0_1)) (v2 : (c : Dev Cert.FinalIdeal.nD) → Buf (Elt Ideal) ((c.tc : Thread Cert.FinalIdeal.nD Cert.FinalIdeal.τ).loc Cert.FinalIdeal.main_v0_2)) (v3 : (c : Dev Cert.FinalIdeal.nD) → Buf (Elt Ideal) ((c.tc : Thread Cert.FinalIdeal.nD Cert.FinalIdeal.τ).loc Cert.FinalIdeal.main_v0_3)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v0_0) = v0 c
          ∧ r.2.mem ((c.tc : Thread Cert.FinalIdeal.nD Cert.FinalIdeal.τ).loc Cert.FinalIdeal.main_v0_1) = v1 c
          ∧ r.2.mem ((c.tc : Thread Cert.FinalIdeal.nD Cert.FinalIdeal.τ).loc Cert.FinalIdeal.main_v0_2) = v2 c
          ∧ r.2.mem ((c.tc : Thread Cert.FinalIdeal.nD Cert.FinalIdeal.τ).loc Cert.FinalIdeal.main_v0_3) = v3 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ θ_run (Cert.PlainFinalIdeal.defs (F := Ideal)) (onTc (τ := Cert.PlainFinalIdeal.τ) (Cert.PlainFinalIdeal.main (F := Ideal))) ⟨m', fun _ => 0, g'⟩ (fun r => ∀ c : Dev Cert.PlainFinalIdeal.nD,
          r.2.mem ((c.tc : Thread Cert.PlainFinalIdeal.nD Cert.PlainFinalIdeal.τ).loc Cert.PlainFinalIdeal.main_v49) = v0 c
          ∧ r.2.mem ((c.tc : Thread Cert.PlainFinalIdeal.nD Cert.PlainFinalIdeal.τ).loc Cert.PlainFinalIdeal.main_v50) = v1 c
          ∧ r.2.mem ((c.tc : Thread Cert.PlainFinalIdeal.nD Cert.PlainFinalIdeal.τ).loc Cert.PlainFinalIdeal.main_v51) = v2 c
          ∧ r.2.mem ((c.tc : Thread Cert.PlainFinalIdeal.nD Cert.PlainFinalIdeal.τ).loc Cert.PlainFinalIdeal.main_v33) = v3 c
          ∧ r.2.mem ((c.tc : Thread Cert.PlainFinalIdeal.nD Cert.PlainFinalIdeal.τ).loc Cert.PlainFinalIdeal.main_arg0) = m' ((c.tc : Thread Cert.PlainFinalIdeal.nD Cert.PlainFinalIdeal.τ).loc Cert.PlainFinalIdeal.main_arg0)
          ∧ r.2.mem ((c.tc : Thread Cert.PlainFinalIdeal.nD Cert.PlainFinalIdeal.τ).loc Cert.PlainFinalIdeal.main_arg1) = m' ((c.tc : Thread Cert.PlainFinalIdeal.nD Cert.PlainFinalIdeal.τ).loc Cert.PlainFinalIdeal.main_arg1)
          ∧ r.2.mem ((c.tc : Thread Cert.PlainFinalIdeal.nD Cert.PlainFinalIdeal.τ).loc Cert.PlainFinalIdeal.main_arg2) = m' ((c.tc : Thread Cert.PlainFinalIdeal.nD Cert.PlainFinalIdeal.τ).loc Cert.PlainFinalIdeal.main_arg2)
          ∧ r.2.mem ((c.tc : Thread Cert.PlainFinalIdeal.nD Cert.PlainFinalIdeal.τ).loc Cert.PlainFinalIdeal.main_arg3) = m' ((c.tc : Thread Cert.PlainFinalIdeal.nD Cert.PlainFinalIdeal.τ).loc Cert.PlainFinalIdeal.main_arg3))

def preserves_Total_TotalIdeal : Prop :=
  True

def algebraic_TotalIdeal_PlainTotalIdeal [hTotalIdeal : Cert.TotalIdeal.Facts] [hPlainTotalIdeal : Cert.PlainTotalIdeal.Facts] : Prop :=
  ∀ (m : (ℓ : Loc Cert.TotalIdeal.nD Cert.TotalIdeal.τ Cert.TotalIdeal.sig) → Buf (Elt Ideal) ℓ) (g : Dev Cert.TotalIdeal.nD → PrngReg)
    (m' : (ℓ : Loc Cert.PlainTotalIdeal.nD Cert.PlainTotalIdeal.τ Cert.PlainTotalIdeal.sig) → Buf (Elt Ideal) ℓ) (g' : Dev Cert.PlainTotalIdeal.nD → PrngReg), Pre_TotalIdeal m →
    (∀ c : Dev Cert.TotalIdeal.nD,
      m ((c.tc : Thread Cert.TotalIdeal.nD Cert.TotalIdeal.τ).loc Cert.TotalIdeal.main_arg0) = Layout.block ⟨2, ![1, 1]⟩ ⟨2, ![8, 1]⟩ 0 8 c (m' (((0 : Dev Cert.PlainTotalIdeal.nD).tc : Thread Cert.PlainTotalIdeal.nD Cert.PlainTotalIdeal.τ).loc Cert.PlainTotalIdeal.main_arg0))) →
    ∃ (v0 : Buf (Elt Ideal) (((0 : Dev Cert.PlainTotalIdeal.nD).tc : Thread Cert.PlainTotalIdeal.nD Cert.PlainTotalIdeal.τ).loc Cert.PlainTotalIdeal.main_v0)),
      θ_run (Cert.TotalIdeal.defs (F := Ideal)) (onTc (τ := Cert.TotalIdeal.τ) (Cert.TotalIdeal.main (F := Ideal))) ⟨m, fun _ => 0, g⟩ (fun r => ∀ c : Dev Cert.TotalIdeal.nD,
          r.2.mem ((c.tc : Thread Cert.TotalIdeal.nD Cert.TotalIdeal.τ).loc Cert.TotalIdeal.main_v2) = v0
          ∧ r.2.mem ((c.tc : Thread Cert.TotalIdeal.nD Cert.TotalIdeal.τ).loc Cert.TotalIdeal.main_arg0) = m ((c.tc : Thread Cert.TotalIdeal.nD Cert.TotalIdeal.τ).loc Cert.TotalIdeal.main_arg0))
      ∧ θ_run (Cert.PlainTotalIdeal.defs (F := Ideal)) (onTc (τ := Cert.PlainTotalIdeal.τ) (Cert.PlainTotalIdeal.main (F := Ideal))) ⟨m', fun _ => 0, g'⟩ (fun r =>
          r.2.mem (((0 : Dev Cert.PlainTotalIdeal.nD).tc : Thread Cert.PlainTotalIdeal.nD Cert.PlainTotalIdeal.τ).loc Cert.PlainTotalIdeal.main_v0) = v0
          ∧ r.2.mem (((0 : Dev Cert.PlainTotalIdeal.nD).tc : Thread Cert.PlainTotalIdeal.nD Cert.PlainTotalIdeal.τ).loc Cert.PlainTotalIdeal.main_arg0) = m' (((0 : Dev Cert.PlainTotalIdeal.nD).tc : Thread Cert.PlainTotalIdeal.nD Cert.PlainTotalIdeal.τ).loc Cert.PlainTotalIdeal.main_arg0))

def preserves_ProductWOut_ProductWOutIdeal : Prop :=
  True

def algebraic_ProductWOutIdeal_PlainWOutIdeal [hProductWOutIdeal : Cert.ProductWOutIdeal.Facts] [hPlainWOutIdeal : Cert.PlainWOutIdeal.Facts] : Prop :=
  ∀ (m : (ℓ : Loc Cert.ProductWOutIdeal.nD Cert.ProductWOutIdeal.τ Cert.ProductWOutIdeal.sig) → Buf (Elt Ideal) ℓ) (g : Dev Cert.ProductWOutIdeal.nD → PrngReg)
    (m' : (ℓ : Loc Cert.PlainWOutIdeal.nD Cert.PlainWOutIdeal.τ Cert.PlainWOutIdeal.sig) → Buf (Elt Ideal) ℓ) (g' : Dev Cert.PlainWOutIdeal.nD → PrngReg), Pre_ProductWOutIdeal m →
    (∀ c : Dev Cert.ProductWOutIdeal.nD,
      m' ((c.tc : Thread Cert.PlainWOutIdeal.nD Cert.PlainWOutIdeal.τ).loc Cert.PlainWOutIdeal.main_arg0) = m ((c.tc : Thread Cert.ProductWOutIdeal.nD Cert.ProductWOutIdeal.τ).loc Cert.ProductWOutIdeal.main_arg0)
      ∧ m' ((c.tc : Thread Cert.PlainWOutIdeal.nD Cert.PlainWOutIdeal.τ).loc Cert.PlainWOutIdeal.main_arg1) = m ((c.tc : Thread Cert.ProductWOutIdeal.nD Cert.ProductWOutIdeal.τ).loc Cert.ProductWOutIdeal.main_arg1)) →
    ∃ (v0 : (c : Dev Cert.ProductWOutIdeal.nD) → Buf (Elt Ideal) ((c.tc : Thread Cert.ProductWOutIdeal.nD Cert.ProductWOutIdeal.τ).loc Cert.ProductWOutIdeal.main_v0)),
      θ_run (Cert.ProductWOutIdeal.defs (F := Ideal)) (onTc (τ := Cert.ProductWOutIdeal.τ) (Cert.ProductWOutIdeal.main (F := Ideal))) ⟨m, fun _ => 0, g⟩ (fun r => ∀ c : Dev Cert.ProductWOutIdeal.nD,
          r.2.mem ((c.tc : Thread Cert.ProductWOutIdeal.nD Cert.ProductWOutIdeal.τ).loc Cert.ProductWOutIdeal.main_v0) = v0 c
          ∧ r.2.mem ((c.tc : Thread Cert.ProductWOutIdeal.nD Cert.ProductWOutIdeal.τ).loc Cert.ProductWOutIdeal.main_arg0) = m ((c.tc : Thread Cert.ProductWOutIdeal.nD Cert.ProductWOutIdeal.τ).loc Cert.ProductWOutIdeal.main_arg0)
          ∧ r.2.mem ((c.tc : Thread Cert.ProductWOutIdeal.nD Cert.ProductWOutIdeal.τ).loc Cert.ProductWOutIdeal.main_arg1) = m ((c.tc : Thread Cert.ProductWOutIdeal.nD Cert.ProductWOutIdeal.τ).loc Cert.ProductWOutIdeal.main_arg1))
      ∧ θ_run (Cert.PlainWOutIdeal.defs (F := Ideal)) (onTc (τ := Cert.PlainWOutIdeal.τ) (Cert.PlainWOutIdeal.main (F := Ideal))) ⟨m', fun _ => 0, g'⟩ (fun r => ∀ c : Dev Cert.PlainWOutIdeal.nD,
          r.2.mem ((c.tc : Thread Cert.PlainWOutIdeal.nD Cert.PlainWOutIdeal.τ).loc Cert.PlainWOutIdeal.main_v2) = v0 c
          ∧ r.2.mem ((c.tc : Thread Cert.PlainWOutIdeal.nD Cert.PlainWOutIdeal.τ).loc Cert.PlainWOutIdeal.main_arg0) = m' ((c.tc : Thread Cert.PlainWOutIdeal.nD Cert.PlainWOutIdeal.τ).loc Cert.PlainWOutIdeal.main_arg0)
          ∧ r.2.mem ((c.tc : Thread Cert.PlainWOutIdeal.nD Cert.PlainWOutIdeal.τ).loc Cert.PlainWOutIdeal.main_arg1) = m' ((c.tc : Thread Cert.PlainWOutIdeal.nD Cert.PlainWOutIdeal.τ).loc Cert.PlainWOutIdeal.main_arg1))

def preserves_ProductGradWOut_ProductGradWOutIdeal : Prop :=
  True

def algebraic_ProductGradWOutIdeal_PlainGradWOutIdeal [hProductGradWOutIdeal : Cert.ProductGradWOutIdeal.Facts] [hPlainGradWOutIdeal : Cert.PlainGradWOutIdeal.Facts] : Prop :=
  ∀ (m : (ℓ : Loc Cert.ProductGradWOutIdeal.nD Cert.ProductGradWOutIdeal.τ Cert.ProductGradWOutIdeal.sig) → Buf (Elt Ideal) ℓ) (g : Dev Cert.ProductGradWOutIdeal.nD → PrngReg)
    (m' : (ℓ : Loc Cert.PlainGradWOutIdeal.nD Cert.PlainGradWOutIdeal.τ Cert.PlainGradWOutIdeal.sig) → Buf (Elt Ideal) ℓ) (g' : Dev Cert.PlainGradWOutIdeal.nD → PrngReg), Pre_ProductGradWOutIdeal m →
    (∀ c : Dev Cert.ProductGradWOutIdeal.nD,
      m' ((c.tc : Thread Cert.PlainGradWOutIdeal.nD Cert.PlainGradWOutIdeal.τ).loc Cert.PlainGradWOutIdeal.main_arg0) = m ((c.tc : Thread Cert.ProductGradWOutIdeal.nD Cert.ProductGradWOutIdeal.τ).loc Cert.ProductGradWOutIdeal.main_arg0)
      ∧ m' ((c.tc : Thread Cert.PlainGradWOutIdeal.nD Cert.PlainGradWOutIdeal.τ).loc Cert.PlainGradWOutIdeal.main_arg1) = m ((c.tc : Thread Cert.ProductGradWOutIdeal.nD Cert.ProductGradWOutIdeal.τ).loc Cert.ProductGradWOutIdeal.main_arg1)) →
    ∃ (v0 : (c : Dev Cert.ProductGradWOutIdeal.nD) → Buf (Elt Ideal) ((c.tc : Thread Cert.ProductGradWOutIdeal.nD Cert.ProductGradWOutIdeal.τ).loc Cert.ProductGradWOutIdeal.main_v0)),
      θ_run (Cert.ProductGradWOutIdeal.defs (F := Ideal)) (onTc (τ := Cert.ProductGradWOutIdeal.τ) (Cert.ProductGradWOutIdeal.main (F := Ideal))) ⟨m, fun _ => 0, g⟩ (fun r => ∀ c : Dev Cert.ProductGradWOutIdeal.nD,
          r.2.mem ((c.tc : Thread Cert.ProductGradWOutIdeal.nD Cert.ProductGradWOutIdeal.τ).loc Cert.ProductGradWOutIdeal.main_v0) = v0 c
          ∧ r.2.mem ((c.tc : Thread Cert.ProductGradWOutIdeal.nD Cert.ProductGradWOutIdeal.τ).loc Cert.ProductGradWOutIdeal.main_arg0) = m ((c.tc : Thread Cert.ProductGradWOutIdeal.nD Cert.ProductGradWOutIdeal.τ).loc Cert.ProductGradWOutIdeal.main_arg0)
          ∧ r.2.mem ((c.tc : Thread Cert.ProductGradWOutIdeal.nD Cert.ProductGradWOutIdeal.τ).loc Cert.ProductGradWOutIdeal.main_arg1) = m ((c.tc : Thread Cert.ProductGradWOutIdeal.nD Cert.ProductGradWOutIdeal.τ).loc Cert.ProductGradWOutIdeal.main_arg1))
      ∧ θ_run (Cert.PlainGradWOutIdeal.defs (F := Ideal)) (onTc (τ := Cert.PlainGradWOutIdeal.τ) (Cert.PlainGradWOutIdeal.main (F := Ideal))) ⟨m', fun _ => 0, g'⟩ (fun r => ∀ c : Dev Cert.PlainGradWOutIdeal.nD,
          r.2.mem ((c.tc : Thread Cert.PlainGradWOutIdeal.nD Cert.PlainGradWOutIdeal.τ).loc Cert.PlainGradWOutIdeal.main_v4) = v0 c
          ∧ r.2.mem ((c.tc : Thread Cert.PlainGradWOutIdeal.nD Cert.PlainGradWOutIdeal.τ).loc Cert.PlainGradWOutIdeal.main_arg0) = m' ((c.tc : Thread Cert.PlainGradWOutIdeal.nD Cert.PlainGradWOutIdeal.τ).loc Cert.PlainGradWOutIdeal.main_arg0)
          ∧ r.2.mem ((c.tc : Thread Cert.PlainGradWOutIdeal.nD Cert.PlainGradWOutIdeal.τ).loc Cert.PlainGradWOutIdeal.main_arg1) = m' ((c.tc : Thread Cert.PlainGradWOutIdeal.nD Cert.PlainGradWOutIdeal.τ).loc Cert.PlainGradWOutIdeal.main_arg1))

def preserves_ProductDMixed_ProductDMixedIdeal : Prop :=
  True

def algebraic_ProductDMixedIdeal_PlainDMixedIdeal [hProductDMixedIdeal : Cert.ProductDMixedIdeal.Facts] [hPlainDMixedIdeal : Cert.PlainDMixedIdeal.Facts] : Prop :=
  ∀ (m : (ℓ : Loc Cert.ProductDMixedIdeal.nD Cert.ProductDMixedIdeal.τ Cert.ProductDMixedIdeal.sig) → Buf (Elt Ideal) ℓ) (g : Dev Cert.ProductDMixedIdeal.nD → PrngReg)
    (m' : (ℓ : Loc Cert.PlainDMixedIdeal.nD Cert.PlainDMixedIdeal.τ Cert.PlainDMixedIdeal.sig) → Buf (Elt Ideal) ℓ) (g' : Dev Cert.PlainDMixedIdeal.nD → PrngReg), Pre_ProductDMixedIdeal m →
    (∀ c : Dev Cert.ProductDMixedIdeal.nD,
      m' ((c.tc : Thread Cert.PlainDMixedIdeal.nD Cert.PlainDMixedIdeal.τ).loc Cert.PlainDMixedIdeal.main_arg0) = m ((c.tc : Thread Cert.ProductDMixedIdeal.nD Cert.ProductDMixedIdeal.τ).loc Cert.ProductDMixedIdeal.main_arg0)
      ∧ m' ((c.tc : Thread Cert.PlainDMixedIdeal.nD Cert.PlainDMixedIdeal.τ).loc Cert.PlainDMixedIdeal.main_arg1) = m ((c.tc : Thread Cert.ProductDMixedIdeal.nD Cert.ProductDMixedIdeal.τ).loc Cert.ProductDMixedIdeal.main_arg1)) →
    ∃ (v0 : (c : Dev Cert.ProductDMixedIdeal.nD) → Buf (Elt Ideal) ((c.tc : Thread Cert.ProductDMixedIdeal.nD Cert.ProductDMixedIdeal.τ).loc Cert.ProductDMixedIdeal.main_v0)),
      θ_run (Cert.ProductDMixedIdeal.defs (F := Ideal)) (onTc (τ := Cert.ProductDMixedIdeal.τ) (Cert.ProductDMixedIdeal.main (F := Ideal))) ⟨m, fun _ => 0, g⟩ (fun r => ∀ c : Dev Cert.ProductDMixedIdeal.nD,
          r.2.mem ((c.tc : Thread Cert.ProductDMixedIdeal.nD Cert.ProductDMixedIdeal.τ).loc Cert.ProductDMixedIdeal.main_v0) = v0 c
          ∧ r.2.mem ((c.tc : Thread Cert.ProductDMixedIdeal.nD Cert.ProductDMixedIdeal.τ).loc Cert.ProductDMixedIdeal.main_arg0) = m ((c.tc : Thread Cert.ProductDMixedIdeal.nD Cert.ProductDMixedIdeal.τ).loc Cert.ProductDMixedIdeal.main_arg0)
          ∧ r.2.mem ((c.tc : Thread Cert.ProductDMixedIdeal.nD Cert.ProductDMixedIdeal.τ).loc Cert.ProductDMixedIdeal.main_arg1) = m ((c.tc : Thread Cert.ProductDMixedIdeal.nD Cert.ProductDMixedIdeal.τ).loc Cert.ProductDMixedIdeal.main_arg1))
      ∧ θ_run (Cert.PlainDMixedIdeal.defs (F := Ideal)) (onTc (τ := Cert.PlainDMixedIdeal.τ) (Cert.PlainDMixedIdeal.main (F := Ideal))) ⟨m', fun _ => 0, g'⟩ (fun r => ∀ c : Dev Cert.PlainDMixedIdeal.nD,
          r.2.mem ((c.tc : Thread Cert.PlainDMixedIdeal.nD Cert.PlainDMixedIdeal.τ).loc Cert.PlainDMixedIdeal.main_v3) = v0 c
          ∧ r.2.mem ((c.tc : Thread Cert.PlainDMixedIdeal.nD Cert.PlainDMixedIdeal.τ).loc Cert.PlainDMixedIdeal.main_arg0) = m' ((c.tc : Thread Cert.PlainDMixedIdeal.nD Cert.PlainDMixedIdeal.τ).loc Cert.PlainDMixedIdeal.main_arg0)
          ∧ r.2.mem ((c.tc : Thread Cert.PlainDMixedIdeal.nD Cert.PlainDMixedIdeal.τ).loc Cert.PlainDMixedIdeal.main_arg1) = m' ((c.tc : Thread Cert.PlainDMixedIdeal.nD Cert.PlainDMixedIdeal.τ).loc Cert.PlainDMixedIdeal.main_arg1))

def preserves_ProductS5Up_ProductS5UpIdeal : Prop :=
  True

def algebraic_ProductS5UpIdeal_PlainS5UpIdeal [hProductS5UpIdeal : Cert.ProductS5UpIdeal.Facts] [hPlainS5UpIdeal : Cert.PlainS5UpIdeal.Facts] : Prop :=
  ∀ (m : (ℓ : Loc Cert.ProductS5UpIdeal.nD Cert.ProductS5UpIdeal.τ Cert.ProductS5UpIdeal.sig) → Buf (Elt Ideal) ℓ) (g : Dev Cert.ProductS5UpIdeal.nD → PrngReg)
    (m' : (ℓ : Loc Cert.PlainS5UpIdeal.nD Cert.PlainS5UpIdeal.τ Cert.PlainS5UpIdeal.sig) → Buf (Elt Ideal) ℓ) (g' : Dev Cert.PlainS5UpIdeal.nD → PrngReg), Pre_ProductS5UpIdeal m →
    (∀ c : Dev Cert.ProductS5UpIdeal.nD,
      m' ((c.tc : Thread Cert.PlainS5UpIdeal.nD Cert.PlainS5UpIdeal.τ).loc Cert.PlainS5UpIdeal.main_arg0) = m ((c.tc : Thread Cert.ProductS5UpIdeal.nD Cert.ProductS5UpIdeal.τ).loc Cert.ProductS5UpIdeal.main_arg0)
      ∧ m' ((c.tc : Thread Cert.PlainS5UpIdeal.nD Cert.PlainS5UpIdeal.τ).loc Cert.PlainS5UpIdeal.main_arg1) = m ((c.tc : Thread Cert.ProductS5UpIdeal.nD Cert.ProductS5UpIdeal.τ).loc Cert.ProductS5UpIdeal.main_arg1)) →
    ∃ (v0 : (c : Dev Cert.ProductS5UpIdeal.nD) → Buf (Elt Ideal) ((c.tc : Thread Cert.ProductS5UpIdeal.nD Cert.ProductS5UpIdeal.τ).loc Cert.ProductS5UpIdeal.main_v0)),
      θ_run (Cert.ProductS5UpIdeal.defs (F := Ideal)) (onTc (τ := Cert.ProductS5UpIdeal.τ) (Cert.ProductS5UpIdeal.main (F := Ideal))) ⟨m, fun _ => 0, g⟩ (fun r => ∀ c : Dev Cert.ProductS5UpIdeal.nD,
          r.2.mem ((c.tc : Thread Cert.ProductS5UpIdeal.nD Cert.ProductS5UpIdeal.τ).loc Cert.ProductS5UpIdeal.main_v0) = v0 c
          ∧ r.2.mem ((c.tc : Thread Cert.ProductS5UpIdeal.nD Cert.ProductS5UpIdeal.τ).loc Cert.ProductS5UpIdeal.main_arg0) = m ((c.tc : Thread Cert.ProductS5UpIdeal.nD Cert.ProductS5UpIdeal.τ).loc Cert.ProductS5UpIdeal.main_arg0)
          ∧ r.2.mem ((c.tc : Thread Cert.ProductS5UpIdeal.nD Cert.ProductS5UpIdeal.τ).loc Cert.ProductS5UpIdeal.main_arg1) = m ((c.tc : Thread Cert.ProductS5UpIdeal.nD Cert.ProductS5UpIdeal.τ).loc Cert.ProductS5UpIdeal.main_arg1))
      ∧ θ_run (Cert.PlainS5UpIdeal.defs (F := Ideal)) (onTc (τ := Cert.PlainS5UpIdeal.τ) (Cert.PlainS5UpIdeal.main (F := Ideal))) ⟨m', fun _ => 0, g'⟩ (fun r => ∀ c : Dev Cert.PlainS5UpIdeal.nD,
          r.2.mem ((c.tc : Thread Cert.PlainS5UpIdeal.nD Cert.PlainS5UpIdeal.τ).loc Cert.PlainS5UpIdeal.main_v2) = v0 c
          ∧ r.2.mem ((c.tc : Thread Cert.PlainS5UpIdeal.nD Cert.PlainS5UpIdeal.τ).loc Cert.PlainS5UpIdeal.main_arg0) = m' ((c.tc : Thread Cert.PlainS5UpIdeal.nD Cert.PlainS5UpIdeal.τ).loc Cert.PlainS5UpIdeal.main_arg0)
          ∧ r.2.mem ((c.tc : Thread Cert.PlainS5UpIdeal.nD Cert.PlainS5UpIdeal.τ).loc Cert.PlainS5UpIdeal.main_arg1) = m' ((c.tc : Thread Cert.PlainS5UpIdeal.nD Cert.PlainS5UpIdeal.τ).loc Cert.PlainS5UpIdeal.main_arg1))

def preserves_ProductGradS5Up_ProductGradS5UpIdeal : Prop :=
  True

def algebraic_ProductGradS5UpIdeal_PlainGradS5UpIdeal [hProductGradS5UpIdeal : Cert.ProductGradS5UpIdeal.Facts] [hPlainGradS5UpIdeal : Cert.PlainGradS5UpIdeal.Facts] : Prop :=
  ∀ (m : (ℓ : Loc Cert.ProductGradS5UpIdeal.nD Cert.ProductGradS5UpIdeal.τ Cert.ProductGradS5UpIdeal.sig) → Buf (Elt Ideal) ℓ) (g : Dev Cert.ProductGradS5UpIdeal.nD → PrngReg)
    (m' : (ℓ : Loc Cert.PlainGradS5UpIdeal.nD Cert.PlainGradS5UpIdeal.τ Cert.PlainGradS5UpIdeal.sig) → Buf (Elt Ideal) ℓ) (g' : Dev Cert.PlainGradS5UpIdeal.nD → PrngReg), Pre_ProductGradS5UpIdeal m →
    (∀ c : Dev Cert.ProductGradS5UpIdeal.nD,
      m' ((c.tc : Thread Cert.PlainGradS5UpIdeal.nD Cert.PlainGradS5UpIdeal.τ).loc Cert.PlainGradS5UpIdeal.main_arg0) = m ((c.tc : Thread Cert.ProductGradS5UpIdeal.nD Cert.ProductGradS5UpIdeal.τ).loc Cert.ProductGradS5UpIdeal.main_arg0)
      ∧ m' ((c.tc : Thread Cert.PlainGradS5UpIdeal.nD Cert.PlainGradS5UpIdeal.τ).loc Cert.PlainGradS5UpIdeal.main_arg1) = m ((c.tc : Thread Cert.ProductGradS5UpIdeal.nD Cert.ProductGradS5UpIdeal.τ).loc Cert.ProductGradS5UpIdeal.main_arg1)) →
    ∃ (v0 : (c : Dev Cert.ProductGradS5UpIdeal.nD) → Buf (Elt Ideal) ((c.tc : Thread Cert.ProductGradS5UpIdeal.nD Cert.ProductGradS5UpIdeal.τ).loc Cert.ProductGradS5UpIdeal.main_v0)),
      θ_run (Cert.ProductGradS5UpIdeal.defs (F := Ideal)) (onTc (τ := Cert.ProductGradS5UpIdeal.τ) (Cert.ProductGradS5UpIdeal.main (F := Ideal))) ⟨m, fun _ => 0, g⟩ (fun r => ∀ c : Dev Cert.ProductGradS5UpIdeal.nD,
          r.2.mem ((c.tc : Thread Cert.ProductGradS5UpIdeal.nD Cert.ProductGradS5UpIdeal.τ).loc Cert.ProductGradS5UpIdeal.main_v0) = v0 c
          ∧ r.2.mem ((c.tc : Thread Cert.ProductGradS5UpIdeal.nD Cert.ProductGradS5UpIdeal.τ).loc Cert.ProductGradS5UpIdeal.main_arg0) = m ((c.tc : Thread Cert.ProductGradS5UpIdeal.nD Cert.ProductGradS5UpIdeal.τ).loc Cert.ProductGradS5UpIdeal.main_arg0)
          ∧ r.2.mem ((c.tc : Thread Cert.ProductGradS5UpIdeal.nD Cert.ProductGradS5UpIdeal.τ).loc Cert.ProductGradS5UpIdeal.main_arg1) = m ((c.tc : Thread Cert.ProductGradS5UpIdeal.nD Cert.ProductGradS5UpIdeal.τ).loc Cert.ProductGradS5UpIdeal.main_arg1))
      ∧ θ_run (Cert.PlainGradS5UpIdeal.defs (F := Ideal)) (onTc (τ := Cert.PlainGradS5UpIdeal.τ) (Cert.PlainGradS5UpIdeal.main (F := Ideal))) ⟨m', fun _ => 0, g'⟩ (fun r => ∀ c : Dev Cert.PlainGradS5UpIdeal.nD,
          r.2.mem ((c.tc : Thread Cert.PlainGradS5UpIdeal.nD Cert.PlainGradS5UpIdeal.τ).loc Cert.PlainGradS5UpIdeal.main_v4) = v0 c
          ∧ r.2.mem ((c.tc : Thread Cert.PlainGradS5UpIdeal.nD Cert.PlainGradS5UpIdeal.τ).loc Cert.PlainGradS5UpIdeal.main_arg0) = m' ((c.tc : Thread Cert.PlainGradS5UpIdeal.nD Cert.PlainGradS5UpIdeal.τ).loc Cert.PlainGradS5UpIdeal.main_arg0)
          ∧ r.2.mem ((c.tc : Thread Cert.PlainGradS5UpIdeal.nD Cert.PlainGradS5UpIdeal.τ).loc Cert.PlainGradS5UpIdeal.main_arg1) = m' ((c.tc : Thread Cert.PlainGradS5UpIdeal.nD Cert.PlainGradS5UpIdeal.τ).loc Cert.PlainGradS5UpIdeal.main_arg1))

def preserves_ProductDOutS_ProductDOutSIdeal : Prop :=
  True

def algebraic_ProductDOutSIdeal_PlainDOutSIdeal [hProductDOutSIdeal : Cert.ProductDOutSIdeal.Facts] [hPlainDOutSIdeal : Cert.PlainDOutSIdeal.Facts] : Prop :=
  ∀ (m : (ℓ : Loc Cert.ProductDOutSIdeal.nD Cert.ProductDOutSIdeal.τ Cert.ProductDOutSIdeal.sig) → Buf (Elt Ideal) ℓ) (g : Dev Cert.ProductDOutSIdeal.nD → PrngReg)
    (m' : (ℓ : Loc Cert.PlainDOutSIdeal.nD Cert.PlainDOutSIdeal.τ Cert.PlainDOutSIdeal.sig) → Buf (Elt Ideal) ℓ) (g' : Dev Cert.PlainDOutSIdeal.nD → PrngReg), Pre_ProductDOutSIdeal m →
    (∀ c : Dev Cert.ProductDOutSIdeal.nD,
      m' ((c.tc : Thread Cert.PlainDOutSIdeal.nD Cert.PlainDOutSIdeal.τ).loc Cert.PlainDOutSIdeal.main_arg0) = m ((c.tc : Thread Cert.ProductDOutSIdeal.nD Cert.ProductDOutSIdeal.τ).loc Cert.ProductDOutSIdeal.main_arg0)
      ∧ m' ((c.tc : Thread Cert.PlainDOutSIdeal.nD Cert.PlainDOutSIdeal.τ).loc Cert.PlainDOutSIdeal.main_arg1) = m ((c.tc : Thread Cert.ProductDOutSIdeal.nD Cert.ProductDOutSIdeal.τ).loc Cert.ProductDOutSIdeal.main_arg1)) →
    ∃ (v0 : (c : Dev Cert.ProductDOutSIdeal.nD) → Buf (Elt Ideal) ((c.tc : Thread Cert.ProductDOutSIdeal.nD Cert.ProductDOutSIdeal.τ).loc Cert.ProductDOutSIdeal.main_v0)),
      θ_run (Cert.ProductDOutSIdeal.defs (F := Ideal)) (onTc (τ := Cert.ProductDOutSIdeal.τ) (Cert.ProductDOutSIdeal.main (F := Ideal))) ⟨m, fun _ => 0, g⟩ (fun r => ∀ c : Dev Cert.ProductDOutSIdeal.nD,
          r.2.mem ((c.tc : Thread Cert.ProductDOutSIdeal.nD Cert.ProductDOutSIdeal.τ).loc Cert.ProductDOutSIdeal.main_v0) = v0 c
          ∧ r.2.mem ((c.tc : Thread Cert.ProductDOutSIdeal.nD Cert.ProductDOutSIdeal.τ).loc Cert.ProductDOutSIdeal.main_arg0) = m ((c.tc : Thread Cert.ProductDOutSIdeal.nD Cert.ProductDOutSIdeal.τ).loc Cert.ProductDOutSIdeal.main_arg0)
          ∧ r.2.mem ((c.tc : Thread Cert.ProductDOutSIdeal.nD Cert.ProductDOutSIdeal.τ).loc Cert.ProductDOutSIdeal.main_arg1) = m ((c.tc : Thread Cert.ProductDOutSIdeal.nD Cert.ProductDOutSIdeal.τ).loc Cert.ProductDOutSIdeal.main_arg1))
      ∧ θ_run (Cert.PlainDOutSIdeal.defs (F := Ideal)) (onTc (τ := Cert.PlainDOutSIdeal.τ) (Cert.PlainDOutSIdeal.main (F := Ideal))) ⟨m', fun _ => 0, g'⟩ (fun r => ∀ c : Dev Cert.PlainDOutSIdeal.nD,
          r.2.mem ((c.tc : Thread Cert.PlainDOutSIdeal.nD Cert.PlainDOutSIdeal.τ).loc Cert.PlainDOutSIdeal.main_v3) = v0 c
          ∧ r.2.mem ((c.tc : Thread Cert.PlainDOutSIdeal.nD Cert.PlainDOutSIdeal.τ).loc Cert.PlainDOutSIdeal.main_arg0) = m' ((c.tc : Thread Cert.PlainDOutSIdeal.nD Cert.PlainDOutSIdeal.τ).loc Cert.PlainDOutSIdeal.main_arg0)
          ∧ r.2.mem ((c.tc : Thread Cert.PlainDOutSIdeal.nD Cert.PlainDOutSIdeal.τ).loc Cert.PlainDOutSIdeal.main_arg1) = m' ((c.tc : Thread Cert.PlainDOutSIdeal.nD Cert.PlainDOutSIdeal.τ).loc Cert.PlainDOutSIdeal.main_arg1))

def preserves_ProductProj_ProductProjIdeal : Prop :=
  True

def algebraic_ProductProjIdeal_PlainProjIdeal [hProductProjIdeal : Cert.ProductProjIdeal.Facts] [hPlainProjIdeal : Cert.PlainProjIdeal.Facts] : Prop :=
  ∀ (m : (ℓ : Loc Cert.ProductProjIdeal.nD Cert.ProductProjIdeal.τ Cert.ProductProjIdeal.sig) → Buf (Elt Ideal) ℓ) (g : Dev Cert.ProductProjIdeal.nD → PrngReg)
    (m' : (ℓ : Loc Cert.PlainProjIdeal.nD Cert.PlainProjIdeal.τ Cert.PlainProjIdeal.sig) → Buf (Elt Ideal) ℓ) (g' : Dev Cert.PlainProjIdeal.nD → PrngReg), Pre_ProductProjIdeal m →
    (∀ c : Dev Cert.ProductProjIdeal.nD,
      m' ((c.tc : Thread Cert.PlainProjIdeal.nD Cert.PlainProjIdeal.τ).loc Cert.PlainProjIdeal.main_arg0) = m ((c.tc : Thread Cert.ProductProjIdeal.nD Cert.ProductProjIdeal.τ).loc Cert.ProductProjIdeal.main_arg0)
      ∧ m' ((c.tc : Thread Cert.PlainProjIdeal.nD Cert.PlainProjIdeal.τ).loc Cert.PlainProjIdeal.main_arg1) = m ((c.tc : Thread Cert.ProductProjIdeal.nD Cert.ProductProjIdeal.τ).loc Cert.ProductProjIdeal.main_arg1)) →
    ∃ (v0 : (c : Dev Cert.ProductProjIdeal.nD) → Buf (Elt Ideal) ((c.tc : Thread Cert.ProductProjIdeal.nD Cert.ProductProjIdeal.τ).loc Cert.ProductProjIdeal.main_v0)),
      θ_run (Cert.ProductProjIdeal.defs (F := Ideal)) (onTc (τ := Cert.ProductProjIdeal.τ) (Cert.ProductProjIdeal.main (F := Ideal))) ⟨m, fun _ => 0, g⟩ (fun r => ∀ c : Dev Cert.ProductProjIdeal.nD,
          r.2.mem ((c.tc : Thread Cert.ProductProjIdeal.nD Cert.ProductProjIdeal.τ).loc Cert.ProductProjIdeal.main_v0) = v0 c
          ∧ r.2.mem ((c.tc : Thread Cert.ProductProjIdeal.nD Cert.ProductProjIdeal.τ).loc Cert.ProductProjIdeal.main_arg0) = m ((c.tc : Thread Cert.ProductProjIdeal.nD Cert.ProductProjIdeal.τ).loc Cert.ProductProjIdeal.main_arg0)
          ∧ r.2.mem ((c.tc : Thread Cert.ProductProjIdeal.nD Cert.ProductProjIdeal.τ).loc Cert.ProductProjIdeal.main_arg1) = m ((c.tc : Thread Cert.ProductProjIdeal.nD Cert.ProductProjIdeal.τ).loc Cert.ProductProjIdeal.main_arg1))
      ∧ θ_run (Cert.PlainProjIdeal.defs (F := Ideal)) (onTc (τ := Cert.PlainProjIdeal.τ) (Cert.PlainProjIdeal.main (F := Ideal))) ⟨m', fun _ => 0, g'⟩ (fun r => ∀ c : Dev Cert.PlainProjIdeal.nD,
          r.2.mem ((c.tc : Thread Cert.PlainProjIdeal.nD Cert.PlainProjIdeal.τ).loc Cert.PlainProjIdeal.main_v2) = v0 c
          ∧ r.2.mem ((c.tc : Thread Cert.PlainProjIdeal.nD Cert.PlainProjIdeal.τ).loc Cert.PlainProjIdeal.main_arg0) = m' ((c.tc : Thread Cert.PlainProjIdeal.nD Cert.PlainProjIdeal.τ).loc Cert.PlainProjIdeal.main_arg0)
          ∧ r.2.mem ((c.tc : Thread Cert.PlainProjIdeal.nD Cert.PlainProjIdeal.τ).loc Cert.PlainProjIdeal.main_arg1) = m' ((c.tc : Thread Cert.PlainProjIdeal.nD Cert.PlainProjIdeal.τ).loc Cert.PlainProjIdeal.main_arg1))

def preserves_ProductGradWIn_ProductGradWInIdeal : Prop :=
  True

def algebraic_ProductGradWInIdeal_PlainGradWInIdeal [hProductGradWInIdeal : Cert.ProductGradWInIdeal.Facts] [hPlainGradWInIdeal : Cert.PlainGradWInIdeal.Facts] : Prop :=
  ∀ (m : (ℓ : Loc Cert.ProductGradWInIdeal.nD Cert.ProductGradWInIdeal.τ Cert.ProductGradWInIdeal.sig) → Buf (Elt Ideal) ℓ) (g : Dev Cert.ProductGradWInIdeal.nD → PrngReg)
    (m' : (ℓ : Loc Cert.PlainGradWInIdeal.nD Cert.PlainGradWInIdeal.τ Cert.PlainGradWInIdeal.sig) → Buf (Elt Ideal) ℓ) (g' : Dev Cert.PlainGradWInIdeal.nD → PrngReg), Pre_ProductGradWInIdeal m →
    (∀ c : Dev Cert.ProductGradWInIdeal.nD,
      m' ((c.tc : Thread Cert.PlainGradWInIdeal.nD Cert.PlainGradWInIdeal.τ).loc Cert.PlainGradWInIdeal.main_arg0) = m ((c.tc : Thread Cert.ProductGradWInIdeal.nD Cert.ProductGradWInIdeal.τ).loc Cert.ProductGradWInIdeal.main_arg0)
      ∧ m' ((c.tc : Thread Cert.PlainGradWInIdeal.nD Cert.PlainGradWInIdeal.τ).loc Cert.PlainGradWInIdeal.main_arg1) = m ((c.tc : Thread Cert.ProductGradWInIdeal.nD Cert.ProductGradWInIdeal.τ).loc Cert.ProductGradWInIdeal.main_arg1)) →
    ∃ (v0 : (c : Dev Cert.ProductGradWInIdeal.nD) → Buf (Elt Ideal) ((c.tc : Thread Cert.ProductGradWInIdeal.nD Cert.ProductGradWInIdeal.τ).loc Cert.ProductGradWInIdeal.main_v0)),
      θ_run (Cert.ProductGradWInIdeal.defs (F := Ideal)) (onTc (τ := Cert.ProductGradWInIdeal.τ) (Cert.ProductGradWInIdeal.main (F := Ideal))) ⟨m, fun _ => 0, g⟩ (fun r => ∀ c : Dev Cert.ProductGradWInIdeal.nD,
          r.2.mem ((c.tc : Thread Cert.ProductGradWInIdeal.nD Cert.ProductGradWInIdeal.τ).loc Cert.ProductGradWInIdeal.main_v0) = v0 c
          ∧ r.2.mem ((c.tc : Thread Cert.ProductGradWInIdeal.nD Cert.ProductGradWInIdeal.τ).loc Cert.ProductGradWInIdeal.main_arg0) = m ((c.tc : Thread Cert.ProductGradWInIdeal.nD Cert.ProductGradWInIdeal.τ).loc Cert.ProductGradWInIdeal.main_arg0)
          ∧ r.2.mem ((c.tc : Thread Cert.ProductGradWInIdeal.nD Cert.ProductGradWInIdeal.τ).loc Cert.ProductGradWInIdeal.main_arg1) = m ((c.tc : Thread Cert.ProductGradWInIdeal.nD Cert.ProductGradWInIdeal.τ).loc Cert.ProductGradWInIdeal.main_arg1))
      ∧ θ_run (Cert.PlainGradWInIdeal.defs (F := Ideal)) (onTc (τ := Cert.PlainGradWInIdeal.τ) (Cert.PlainGradWInIdeal.main (F := Ideal))) ⟨m', fun _ => 0, g'⟩ (fun r => ∀ c : Dev Cert.PlainGradWInIdeal.nD,
          r.2.mem ((c.tc : Thread Cert.PlainGradWInIdeal.nD Cert.PlainGradWInIdeal.τ).loc Cert.PlainGradWInIdeal.main_v4) = v0 c
          ∧ r.2.mem ((c.tc : Thread Cert.PlainGradWInIdeal.nD Cert.PlainGradWInIdeal.τ).loc Cert.PlainGradWInIdeal.main_arg0) = m' ((c.tc : Thread Cert.PlainGradWInIdeal.nD Cert.PlainGradWInIdeal.τ).loc Cert.PlainGradWInIdeal.main_arg0)
          ∧ r.2.mem ((c.tc : Thread Cert.PlainGradWInIdeal.nD Cert.PlainGradWInIdeal.τ).loc Cert.PlainGradWInIdeal.main_arg1) = m' ((c.tc : Thread Cert.PlainGradWInIdeal.nD Cert.PlainGradWInIdeal.τ).loc Cert.PlainGradWInIdeal.main_arg1))

def preserves_ProductDH_ProductDHIdeal : Prop :=
  True

def algebraic_ProductDHIdeal_PlainDHIdeal [hProductDHIdeal : Cert.ProductDHIdeal.Facts] [hPlainDHIdeal : Cert.PlainDHIdeal.Facts] : Prop :=
  ∀ (m : (ℓ : Loc Cert.ProductDHIdeal.nD Cert.ProductDHIdeal.τ Cert.ProductDHIdeal.sig) → Buf (Elt Ideal) ℓ) (g : Dev Cert.ProductDHIdeal.nD → PrngReg)
    (m' : (ℓ : Loc Cert.PlainDHIdeal.nD Cert.PlainDHIdeal.τ Cert.PlainDHIdeal.sig) → Buf (Elt Ideal) ℓ) (g' : Dev Cert.PlainDHIdeal.nD → PrngReg), Pre_ProductDHIdeal m →
    (∀ c : Dev Cert.ProductDHIdeal.nD,
      m' ((c.tc : Thread Cert.PlainDHIdeal.nD Cert.PlainDHIdeal.τ).loc Cert.PlainDHIdeal.main_arg0) = m ((c.tc : Thread Cert.ProductDHIdeal.nD Cert.ProductDHIdeal.τ).loc Cert.ProductDHIdeal.main_arg0)
      ∧ m' ((c.tc : Thread Cert.PlainDHIdeal.nD Cert.PlainDHIdeal.τ).loc Cert.PlainDHIdeal.main_arg1) = m ((c.tc : Thread Cert.ProductDHIdeal.nD Cert.ProductDHIdeal.τ).loc Cert.ProductDHIdeal.main_arg1)) →
    ∃ (v0 : (c : Dev Cert.ProductDHIdeal.nD) → Buf (Elt Ideal) ((c.tc : Thread Cert.ProductDHIdeal.nD Cert.ProductDHIdeal.τ).loc Cert.ProductDHIdeal.main_v0)),
      θ_run (Cert.ProductDHIdeal.defs (F := Ideal)) (onTc (τ := Cert.ProductDHIdeal.τ) (Cert.ProductDHIdeal.main (F := Ideal))) ⟨m, fun _ => 0, g⟩ (fun r => ∀ c : Dev Cert.ProductDHIdeal.nD,
          r.2.mem ((c.tc : Thread Cert.ProductDHIdeal.nD Cert.ProductDHIdeal.τ).loc Cert.ProductDHIdeal.main_v0) = v0 c
          ∧ r.2.mem ((c.tc : Thread Cert.ProductDHIdeal.nD Cert.ProductDHIdeal.τ).loc Cert.ProductDHIdeal.main_arg0) = m ((c.tc : Thread Cert.ProductDHIdeal.nD Cert.ProductDHIdeal.τ).loc Cert.ProductDHIdeal.main_arg0)
          ∧ r.2.mem ((c.tc : Thread Cert.ProductDHIdeal.nD Cert.ProductDHIdeal.τ).loc Cert.ProductDHIdeal.main_arg1) = m ((c.tc : Thread Cert.ProductDHIdeal.nD Cert.ProductDHIdeal.τ).loc Cert.ProductDHIdeal.main_arg1))
      ∧ θ_run (Cert.PlainDHIdeal.defs (F := Ideal)) (onTc (τ := Cert.PlainDHIdeal.τ) (Cert.PlainDHIdeal.main (F := Ideal))) ⟨m', fun _ => 0, g'⟩ (fun r => ∀ c : Dev Cert.PlainDHIdeal.nD,
          r.2.mem ((c.tc : Thread Cert.PlainDHIdeal.nD Cert.PlainDHIdeal.τ).loc Cert.PlainDHIdeal.main_v3) = v0 c
          ∧ r.2.mem ((c.tc : Thread Cert.PlainDHIdeal.nD Cert.PlainDHIdeal.τ).loc Cert.PlainDHIdeal.main_arg0) = m' ((c.tc : Thread Cert.PlainDHIdeal.nD Cert.PlainDHIdeal.τ).loc Cert.PlainDHIdeal.main_arg0)
          ∧ r.2.mem ((c.tc : Thread Cert.PlainDHIdeal.nD Cert.PlainDHIdeal.τ).loc Cert.PlainDHIdeal.main_arg1) = m' ((c.tc : Thread Cert.PlainDHIdeal.nD Cert.PlainDHIdeal.τ).loc Cert.PlainDHIdeal.main_arg1))

def preserves_RmsFwd_RmsFwdIdeal : Prop :=
  True

def algebraic_RmsFwdIdeal_NormedIdeal [hRmsFwdIdeal : Cert.RmsFwdIdeal.Facts] [hNormedIdeal : Cert.NormedIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.NormedIdeal.nD Cert.NormedIdeal.τ Cert.NormedIdeal.sig) → Buf (Elt Ideal) ℓ) (g' : Dev Cert.NormedIdeal.nD → PrngReg), Pre_RmsFwdIdeal m →
    (∀ c : Dev Cert.RmsFwdIdeal.nD,
      m' ((c.tc : Thread Cert.NormedIdeal.nD Cert.NormedIdeal.τ).loc Cert.NormedIdeal.main_arg0) = m ((c.tc : Thread Cert.RmsFwdIdeal.nD Cert.RmsFwdIdeal.τ).loc Cert.RmsFwdIdeal.main_arg0)
      ∧ m' ((c.tc : Thread Cert.NormedIdeal.nD Cert.NormedIdeal.τ).loc Cert.NormedIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v0)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v0) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.NormedIdeal.defs (F := Ideal)) (onTc (τ := Cert.NormedIdeal.τ) (Cert.NormedIdeal.main (F := Ideal))) ⟨m', fun _ => 0, g'⟩ (fun r => ∀ c : Dev Cert.NormedIdeal.nD,
          r.2.mem ((c.tc : Thread Cert.NormedIdeal.nD Cert.NormedIdeal.τ).loc Cert.NormedIdeal.main_v12) = v0 c
          ∧ r.2.mem ((c.tc : Thread Cert.NormedIdeal.nD Cert.NormedIdeal.τ).loc Cert.NormedIdeal.main_arg0) = m' ((c.tc : Thread Cert.NormedIdeal.nD Cert.NormedIdeal.τ).loc Cert.NormedIdeal.main_arg0)
          ∧ r.2.mem ((c.tc : Thread Cert.NormedIdeal.nD Cert.NormedIdeal.τ).loc Cert.NormedIdeal.main_arg1) = m' ((c.tc : Thread Cert.NormedIdeal.nD Cert.NormedIdeal.τ).loc Cert.NormedIdeal.main_arg1))

def preserves_MergeFwd_MergeFwdIdeal : Prop :=
  True

def algebraic_MergeFwdIdeal_MergedIdeal [hMergeFwdIdeal : Cert.MergeFwdIdeal.Facts] [hMergedIdeal : Cert.MergedIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergedIdeal.nD Cert.MergedIdeal.τ Cert.MergedIdeal.sig) → Buf (Elt Ideal) ℓ) (g' : Dev Cert.MergedIdeal.nD → PrngReg), Pre_MergeFwdIdeal m →
    (∀ c : Dev Cert.MergeFwdIdeal.nD,
      m' ((c.tc : Thread Cert.MergedIdeal.nD Cert.MergedIdeal.τ).loc Cert.MergedIdeal.main_arg0) = m ((c.tc : Thread Cert.MergeFwdIdeal.nD Cert.MergeFwdIdeal.τ).loc Cert.MergeFwdIdeal.main_arg0)
      ∧ m' ((c.tc : Thread Cert.MergedIdeal.nD Cert.MergedIdeal.τ).loc Cert.MergedIdeal.main_arg1) = m ((c.tc : Thread Cert.MergeFwdIdeal.nD Cert.MergeFwdIdeal.τ).loc Cert.MergeFwdIdeal.main_arg1)
      ∧ m' ((c.tc : Thread Cert.MergedIdeal.nD Cert.MergedIdeal.τ).loc Cert.MergedIdeal.main_arg2) = m ((c.tc : Thread Cert.MergeFwdIdeal.nD Cert.MergeFwdIdeal.τ).loc Cert.MergeFwdIdeal.main_arg2)) →
    ∃ (v0 : (c : Dev Cert.MergeFwdIdeal.nD) → Buf (Elt Ideal) ((c.tc : Thread Cert.MergeFwdIdeal.nD Cert.MergeFwdIdeal.τ).loc Cert.MergeFwdIdeal.main_v0)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2))
      ∧ θ_run (Cert.MergedIdeal.defs (F := Ideal)) (onTc (τ := Cert.MergedIdeal.τ) (Cert.MergedIdeal.main (F := Ideal))) ⟨m', fun _ => 0, g'⟩ (fun r => ∀ c : Dev Cert.MergedIdeal.nD,
          r.2.mem ((c.tc : Thread Cert.MergedIdeal.nD Cert.MergedIdeal.τ).loc Cert.MergedIdeal.main_v17) = v0 c
          ∧ r.2.mem ((c.tc : Thread Cert.MergedIdeal.nD Cert.MergedIdeal.τ).loc Cert.MergedIdeal.main_arg0) = m' ((c.tc : Thread Cert.MergedIdeal.nD Cert.MergedIdeal.τ).loc Cert.MergedIdeal.main_arg0)
          ∧ r.2.mem ((c.tc : Thread Cert.MergedIdeal.nD Cert.MergedIdeal.τ).loc Cert.MergedIdeal.main_arg1) = m' ((c.tc : Thread Cert.MergedIdeal.nD Cert.MergedIdeal.τ).loc Cert.MergedIdeal.main_arg1)
          ∧ r.2.mem ((c.tc : Thread Cert.MergedIdeal.nD Cert.MergedIdeal.τ).loc Cert.MergedIdeal.main_arg2) = m' ((c.tc : Thread Cert.MergedIdeal.nD Cert.MergedIdeal.τ).loc Cert.MergedIdeal.main_arg2))

def preserves_MergeBwd_MergeBwdIdeal : Prop :=
  True

def algebraic_MergeBwdIdeal_MergePulledBackIdeal [hMergeBwdIdeal : Cert.MergeBwdIdeal.Facts] [hMergePulledBackIdeal : Cert.MergePulledBackIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergePulledBackIdeal.nD Cert.MergePulledBackIdeal.τ Cert.MergePulledBackIdeal.sig) → Buf (Elt Ideal) ℓ) (g' : Dev Cert.MergePulledBackIdeal.nD → PrngReg), Pre_MergeBwdIdeal m →
    (∀ c : Dev Cert.MergeBwdIdeal.nD,
      m' ((c.tc : Thread Cert.MergePulledBackIdeal.nD Cert.MergePulledBackIdeal.τ).loc Cert.MergePulledBackIdeal.main_arg0) = m ((c.tc : Thread Cert.MergeBwdIdeal.nD Cert.MergeBwdIdeal.τ).loc Cert.MergeBwdIdeal.main_arg0)
      ∧ m' ((c.tc : Thread Cert.MergePulledBackIdeal.nD Cert.MergePulledBackIdeal.τ).loc Cert.MergePulledBackIdeal.main_arg1) = m ((c.tc : Thread Cert.MergeBwdIdeal.nD Cert.MergeBwdIdeal.τ).loc Cert.MergeBwdIdeal.main_arg1)
      ∧ m' ((c.tc : Thread Cert.MergePulledBackIdeal.nD Cert.MergePulledBackIdeal.τ).loc Cert.MergePulledBackIdeal.main_arg2) = m ((c.tc : Thread Cert.MergeBwdIdeal.nD Cert.MergeBwdIdeal.τ).loc Cert.MergeBwdIdeal.main_arg2)
      ∧ m' ((c.tc : Thread Cert.MergePulledBackIdeal.nD Cert.MergePulledBackIdeal.τ).loc Cert.MergePulledBackIdeal.main_arg3) = m ((c.tc : Thread Cert.MergeBwdIdeal.nD Cert.MergeBwdIdeal.τ).loc Cert.MergeBwdIdeal.main_arg3)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)) (v3 : (c : Dev Cert.MergeBwdIdeal.nD) → Buf (Elt Ideal) ((c.tc : Thread Cert.MergeBwdIdeal.nD Cert.MergeBwdIdeal.τ).loc Cert.MergeBwdIdeal.main_v0_3)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v0_2) = v2 c
          ∧ r.2.mem ((c.tc : Thread Cert.MergeBwdIdeal.nD Cert.MergeBwdIdeal.τ).loc Cert.MergeBwdIdeal.main_v0_3) = v3 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ θ_run (Cert.MergePulledBackIdeal.defs (F := Ideal)) (onTc (τ := Cert.MergePulledBackIdeal.τ) (Cert.MergePulledBackIdeal.main (F := Ideal))) ⟨m', fun _ => 0, g'⟩ (fun r => ∀ c : Dev Cert.MergePulledBackIdeal.nD,
          r.2.mem ((c.tc : Thread Cert.MergePulledBackIdeal.nD Cert.MergePulledBackIdeal.τ).loc Cert.MergePulledBackIdeal.main_v31) = v0 c
          ∧ r.2.mem ((c.tc : Thread Cert.MergePulledBackIdeal.nD Cert.MergePulledBackIdeal.τ).loc Cert.MergePulledBackIdeal.main_v32) = v1 c
          ∧ r.2.mem ((c.tc : Thread Cert.MergePulledBackIdeal.nD Cert.MergePulledBackIdeal.τ).loc Cert.MergePulledBackIdeal.main_v33) = v2 c
          ∧ r.2.mem ((c.tc : Thread Cert.MergePulledBackIdeal.nD Cert.MergePulledBackIdeal.τ).loc Cert.MergePulledBackIdeal.main_v34) = v3 c
          ∧ r.2.mem ((c.tc : Thread Cert.MergePulledBackIdeal.nD Cert.MergePulledBackIdeal.τ).loc Cert.MergePulledBackIdeal.main_arg0) = m' ((c.tc : Thread Cert.MergePulledBackIdeal.nD Cert.MergePulledBackIdeal.τ).loc Cert.MergePulledBackIdeal.main_arg0)
          ∧ r.2.mem ((c.tc : Thread Cert.MergePulledBackIdeal.nD Cert.MergePulledBackIdeal.τ).loc Cert.MergePulledBackIdeal.main_arg1) = m' ((c.tc : Thread Cert.MergePulledBackIdeal.nD Cert.MergePulledBackIdeal.τ).loc Cert.MergePulledBackIdeal.main_arg1)
          ∧ r.2.mem ((c.tc : Thread Cert.MergePulledBackIdeal.nD Cert.MergePulledBackIdeal.τ).loc Cert.MergePulledBackIdeal.main_arg2) = m' ((c.tc : Thread Cert.MergePulledBackIdeal.nD Cert.MergePulledBackIdeal.τ).loc Cert.MergePulledBackIdeal.main_arg2)
          ∧ r.2.mem ((c.tc : Thread Cert.MergePulledBackIdeal.nD Cert.MergePulledBackIdeal.τ).loc Cert.MergePulledBackIdeal.main_arg3) = m' ((c.tc : Thread Cert.MergePulledBackIdeal.nD Cert.MergePulledBackIdeal.τ).loc Cert.MergePulledBackIdeal.main_arg3))

def Claim : Prop :=
  ∃ (hKernel : Cert.Kernel.Facts) (hKernelIdeal : Cert.KernelIdeal.Facts) (hReferenceIdeal : Cert.ReferenceIdeal.Facts) (hReference : Cert.Reference.Facts) (hAdamWIn : Cert.AdamWIn.Facts) (hAdamWInIdeal : Cert.AdamWInIdeal.Facts) (hStepWInIdeal : Cert.StepWInIdeal.Facts) (hAdamS5WGlu : Cert.AdamS5WGlu.Facts) (hAdamS5WGluIdeal : Cert.AdamS5WGluIdeal.Facts) (hStepS5WGluIdeal : Cert.StepS5WGluIdeal.Facts) (hAdamS5WUp : Cert.AdamS5WUp.Facts) (hAdamS5WUpIdeal : Cert.AdamS5WUpIdeal.Facts) (hStepS5WUpIdeal : Cert.StepS5WUpIdeal.Facts) (hAdamWOut : Cert.AdamWOut.Facts) (hAdamWOutIdeal : Cert.AdamWOutIdeal.Facts) (hStepWOutIdeal : Cert.StepWOutIdeal.Facts) (hAdamSmall : Cert.AdamSmall.Facts) (hAdamSmallIdeal : Cert.AdamSmallIdeal.Facts) (hStepSmallIdeal : Cert.StepSmallIdeal.Facts) (hSumSmall : Cert.SumSmall.Facts) (hSumSmallIdeal : Cert.SumSmallIdeal.Facts) (hPlainSumIdeal : Cert.PlainSumIdeal.Facts) (hGatherWeights : Cert.GatherWeights.Facts) (hGatherWeightsIdeal : Cert.GatherWeightsIdeal.Facts) (hAllGatherWeightsIdeal : Cert.AllGatherWeightsIdeal.Facts) (hAllGatherWeights : Cert.AllGatherWeights.Facts) (hGatherSmallGrads : Cert.GatherSmallGrads.Facts) (hGatherSmallGradsIdeal : Cert.GatherSmallGradsIdeal.Facts) (hAllGatherSmallGradsIdeal : Cert.AllGatherSmallGradsIdeal.Facts) (hAllGatherSmallGrads : Cert.AllGatherSmallGrads.Facts) (hRmsBwd : Cert.RmsBwd.Facts) (hRmsBwdIdeal : Cert.RmsBwdIdeal.Facts) (hPulledBackIdeal : Cert.PulledBackIdeal.Facts) (hFinal : Cert.Final.Facts) (hFinalIdeal : Cert.FinalIdeal.Facts) (hPlainFinalIdeal : Cert.PlainFinalIdeal.Facts) (hTotal : Cert.Total.Facts) (hTotalIdeal : Cert.TotalIdeal.Facts) (hPlainTotalIdeal : Cert.PlainTotalIdeal.Facts) (hProductWOut : Cert.ProductWOut.Facts) (hProductWOutIdeal : Cert.ProductWOutIdeal.Facts) (hPlainWOutIdeal : Cert.PlainWOutIdeal.Facts) (hProductGradWOut : Cert.ProductGradWOut.Facts) (hProductGradWOutIdeal : Cert.ProductGradWOutIdeal.Facts) (hPlainGradWOutIdeal : Cert.PlainGradWOutIdeal.Facts) (hProductDMixed : Cert.ProductDMixed.Facts) (hProductDMixedIdeal : Cert.ProductDMixedIdeal.Facts) (hPlainDMixedIdeal : Cert.PlainDMixedIdeal.Facts) (hProductS5Up : Cert.ProductS5Up.Facts) (hProductS5UpIdeal : Cert.ProductS5UpIdeal.Facts) (hPlainS5UpIdeal : Cert.PlainS5UpIdeal.Facts) (hProductGradS5Up : Cert.ProductGradS5Up.Facts) (hProductGradS5UpIdeal : Cert.ProductGradS5UpIdeal.Facts) (hPlainGradS5UpIdeal : Cert.PlainGradS5UpIdeal.Facts) (hProductDOutS : Cert.ProductDOutS.Facts) (hProductDOutSIdeal : Cert.ProductDOutSIdeal.Facts) (hPlainDOutSIdeal : Cert.PlainDOutSIdeal.Facts) (hProductProj : Cert.ProductProj.Facts) (hProductProjIdeal : Cert.ProductProjIdeal.Facts) (hPlainProjIdeal : Cert.PlainProjIdeal.Facts) (hProductGradWIn : Cert.ProductGradWIn.Facts) (hProductGradWInIdeal : Cert.ProductGradWInIdeal.Facts) (hPlainGradWInIdeal : Cert.PlainGradWInIdeal.Facts) (hProductDH : Cert.ProductDH.Facts) (hProductDHIdeal : Cert.ProductDHIdeal.Facts) (hPlainDHIdeal : Cert.PlainDHIdeal.Facts) (hRmsFwd : Cert.RmsFwd.Facts) (hRmsFwdIdeal : Cert.RmsFwdIdeal.Facts) (hNormedIdeal : Cert.NormedIdeal.Facts) (hMergeFwd : Cert.MergeFwd.Facts) (hMergeFwdIdeal : Cert.MergeFwdIdeal.Facts) (hMergedIdeal : Cert.MergedIdeal.Facts) (hMergeBwd : Cert.MergeBwd.Facts) (hMergeBwdIdeal : Cert.MergeBwdIdeal.Facts) (hMergePulledBackIdeal : Cert.MergePulledBackIdeal.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_AdamWIn (hAdamWIn := hAdamWIn)
    ∧ quiescent_AdamWInIdeal (hAdamWInIdeal := hAdamWInIdeal)
    ∧ quiescent_StepWInIdeal (hStepWInIdeal := hStepWInIdeal)
    ∧ quiescent_AdamS5WGlu (hAdamS5WGlu := hAdamS5WGlu)
    ∧ quiescent_AdamS5WGluIdeal (hAdamS5WGluIdeal := hAdamS5WGluIdeal)
    ∧ quiescent_StepS5WGluIdeal (hStepS5WGluIdeal := hStepS5WGluIdeal)
    ∧ quiescent_AdamS5WUp (hAdamS5WUp := hAdamS5WUp)
    ∧ quiescent_AdamS5WUpIdeal (hAdamS5WUpIdeal := hAdamS5WUpIdeal)
    ∧ quiescent_StepS5WUpIdeal (hStepS5WUpIdeal := hStepS5WUpIdeal)
    ∧ quiescent_AdamWOut (hAdamWOut := hAdamWOut)
    ∧ quiescent_AdamWOutIdeal (hAdamWOutIdeal := hAdamWOutIdeal)
    ∧ quiescent_StepWOutIdeal (hStepWOutIdeal := hStepWOutIdeal)
    ∧ quiescent_AdamSmall (hAdamSmall := hAdamSmall)
    ∧ quiescent_AdamSmallIdeal (hAdamSmallIdeal := hAdamSmallIdeal)
    ∧ quiescent_StepSmallIdeal (hStepSmallIdeal := hStepSmallIdeal)
    ∧ quiescent_SumSmall (hSumSmall := hSumSmall)
    ∧ quiescent_SumSmallIdeal (hSumSmallIdeal := hSumSmallIdeal)
    ∧ quiescent_PlainSumIdeal (hPlainSumIdeal := hPlainSumIdeal)
    ∧ quiescent_GatherWeights (hGatherWeights := hGatherWeights)
    ∧ quiescent_GatherWeightsIdeal (hGatherWeightsIdeal := hGatherWeightsIdeal)
    ∧ quiescent_AllGatherWeightsIdeal (hAllGatherWeightsIdeal := hAllGatherWeightsIdeal)
    ∧ quiescent_AllGatherWeights (hAllGatherWeights := hAllGatherWeights)
    ∧ quiescent_GatherSmallGrads (hGatherSmallGrads := hGatherSmallGrads)
    ∧ quiescent_GatherSmallGradsIdeal (hGatherSmallGradsIdeal := hGatherSmallGradsIdeal)
    ∧ quiescent_AllGatherSmallGradsIdeal (hAllGatherSmallGradsIdeal := hAllGatherSmallGradsIdeal)
    ∧ quiescent_AllGatherSmallGrads (hAllGatherSmallGrads := hAllGatherSmallGrads)
    ∧ quiescent_RmsBwd (hRmsBwd := hRmsBwd)
    ∧ quiescent_RmsBwdIdeal (hRmsBwdIdeal := hRmsBwdIdeal)
    ∧ quiescent_PulledBackIdeal (hPulledBackIdeal := hPulledBackIdeal)
    ∧ quiescent_Final (hFinal := hFinal)
    ∧ quiescent_FinalIdeal (hFinalIdeal := hFinalIdeal)
    ∧ quiescent_PlainFinalIdeal (hPlainFinalIdeal := hPlainFinalIdeal)
    ∧ quiescent_Total (hTotal := hTotal)
    ∧ quiescent_TotalIdeal (hTotalIdeal := hTotalIdeal)
    ∧ quiescent_PlainTotalIdeal (hPlainTotalIdeal := hPlainTotalIdeal)
    ∧ quiescent_ProductWOut (hProductWOut := hProductWOut)
    ∧ quiescent_ProductWOutIdeal (hProductWOutIdeal := hProductWOutIdeal)
    ∧ quiescent_PlainWOutIdeal (hPlainWOutIdeal := hPlainWOutIdeal)
    ∧ quiescent_ProductGradWOut (hProductGradWOut := hProductGradWOut)
    ∧ quiescent_ProductGradWOutIdeal (hProductGradWOutIdeal := hProductGradWOutIdeal)
    ∧ quiescent_PlainGradWOutIdeal (hPlainGradWOutIdeal := hPlainGradWOutIdeal)
    ∧ quiescent_ProductDMixed (hProductDMixed := hProductDMixed)
    ∧ quiescent_ProductDMixedIdeal (hProductDMixedIdeal := hProductDMixedIdeal)
    ∧ quiescent_PlainDMixedIdeal (hPlainDMixedIdeal := hPlainDMixedIdeal)
    ∧ quiescent_ProductS5Up (hProductS5Up := hProductS5Up)
    ∧ quiescent_ProductS5UpIdeal (hProductS5UpIdeal := hProductS5UpIdeal)
    ∧ quiescent_PlainS5UpIdeal (hPlainS5UpIdeal := hPlainS5UpIdeal)
    ∧ quiescent_ProductGradS5Up (hProductGradS5Up := hProductGradS5Up)
    ∧ quiescent_ProductGradS5UpIdeal (hProductGradS5UpIdeal := hProductGradS5UpIdeal)
    ∧ quiescent_PlainGradS5UpIdeal (hPlainGradS5UpIdeal := hPlainGradS5UpIdeal)
    ∧ quiescent_ProductDOutS (hProductDOutS := hProductDOutS)
    ∧ quiescent_ProductDOutSIdeal (hProductDOutSIdeal := hProductDOutSIdeal)
    ∧ quiescent_PlainDOutSIdeal (hPlainDOutSIdeal := hPlainDOutSIdeal)
    ∧ quiescent_ProductProj (hProductProj := hProductProj)
    ∧ quiescent_ProductProjIdeal (hProductProjIdeal := hProductProjIdeal)
    ∧ quiescent_PlainProjIdeal (hPlainProjIdeal := hPlainProjIdeal)
    ∧ quiescent_ProductGradWIn (hProductGradWIn := hProductGradWIn)
    ∧ quiescent_ProductGradWInIdeal (hProductGradWInIdeal := hProductGradWInIdeal)
    ∧ quiescent_PlainGradWInIdeal (hPlainGradWInIdeal := hPlainGradWInIdeal)
    ∧ quiescent_ProductDH (hProductDH := hProductDH)
    ∧ quiescent_ProductDHIdeal (hProductDHIdeal := hProductDHIdeal)
    ∧ quiescent_PlainDHIdeal (hPlainDHIdeal := hPlainDHIdeal)
    ∧ quiescent_RmsFwd (hRmsFwd := hRmsFwd)
    ∧ quiescent_RmsFwdIdeal (hRmsFwdIdeal := hRmsFwdIdeal)
    ∧ quiescent_NormedIdeal (hNormedIdeal := hNormedIdeal)
    ∧ quiescent_MergeFwd (hMergeFwd := hMergeFwd)
    ∧ quiescent_MergeFwdIdeal (hMergeFwdIdeal := hMergeFwdIdeal)
    ∧ quiescent_MergedIdeal (hMergedIdeal := hMergedIdeal)
    ∧ quiescent_MergeBwd (hMergeBwd := hMergeBwd)
    ∧ quiescent_MergeBwdIdeal (hMergeBwdIdeal := hMergeBwdIdeal)
    ∧ quiescent_MergePulledBackIdeal (hMergePulledBackIdeal := hMergePulledBackIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_AdamWIn_AdamWInIdeal
    ∧ algebraic_AdamWInIdeal_StepWInIdeal (hAdamWInIdeal := hAdamWInIdeal) (hStepWInIdeal := hStepWInIdeal)
    ∧ preserves_AdamS5WGlu_AdamS5WGluIdeal
    ∧ algebraic_AdamS5WGluIdeal_StepS5WGluIdeal (hAdamS5WGluIdeal := hAdamS5WGluIdeal) (hStepS5WGluIdeal := hStepS5WGluIdeal)
    ∧ preserves_AdamS5WUp_AdamS5WUpIdeal
    ∧ algebraic_AdamS5WUpIdeal_StepS5WUpIdeal (hAdamS5WUpIdeal := hAdamS5WUpIdeal) (hStepS5WUpIdeal := hStepS5WUpIdeal)
    ∧ preserves_AdamWOut_AdamWOutIdeal
    ∧ algebraic_AdamWOutIdeal_StepWOutIdeal (hAdamWOutIdeal := hAdamWOutIdeal) (hStepWOutIdeal := hStepWOutIdeal)
    ∧ preserves_AdamSmall_AdamSmallIdeal
    ∧ algebraic_AdamSmallIdeal_StepSmallIdeal (hAdamSmallIdeal := hAdamSmallIdeal) (hStepSmallIdeal := hStepSmallIdeal)
    ∧ preserves_SumSmall_SumSmallIdeal
    ∧ algebraic_SumSmallIdeal_PlainSumIdeal (hSumSmallIdeal := hSumSmallIdeal) (hPlainSumIdeal := hPlainSumIdeal)
    ∧ preserves_GatherWeights_GatherWeightsIdeal
    ∧ algebraic_GatherWeightsIdeal_AllGatherWeightsIdeal (hGatherWeightsIdeal := hGatherWeightsIdeal) (hAllGatherWeightsIdeal := hAllGatherWeightsIdeal)
    ∧ bitexact_GatherWeights_AllGatherWeights (hGatherWeights := hGatherWeights) (hAllGatherWeights := hAllGatherWeights)
    ∧ preserves_GatherSmallGrads_GatherSmallGradsIdeal
    ∧ algebraic_GatherSmallGradsIdeal_AllGatherSmallGradsIdeal (hGatherSmallGradsIdeal := hGatherSmallGradsIdeal) (hAllGatherSmallGradsIdeal := hAllGatherSmallGradsIdeal)
    ∧ bitexact_GatherSmallGrads_AllGatherSmallGrads (hGatherSmallGrads := hGatherSmallGrads) (hAllGatherSmallGrads := hAllGatherSmallGrads)
    ∧ preserves_RmsBwd_RmsBwdIdeal
    ∧ algebraic_RmsBwdIdeal_PulledBackIdeal (hRmsBwdIdeal := hRmsBwdIdeal) (hPulledBackIdeal := hPulledBackIdeal)
    ∧ preserves_Final_FinalIdeal
    ∧ algebraic_FinalIdeal_PlainFinalIdeal (hFinalIdeal := hFinalIdeal) (hPlainFinalIdeal := hPlainFinalIdeal)
    ∧ preserves_Total_TotalIdeal
    ∧ algebraic_TotalIdeal_PlainTotalIdeal (hTotalIdeal := hTotalIdeal) (hPlainTotalIdeal := hPlainTotalIdeal)
    ∧ preserves_ProductWOut_ProductWOutIdeal
    ∧ algebraic_ProductWOutIdeal_PlainWOutIdeal (hProductWOutIdeal := hProductWOutIdeal) (hPlainWOutIdeal := hPlainWOutIdeal)
    ∧ preserves_ProductGradWOut_ProductGradWOutIdeal
    ∧ algebraic_ProductGradWOutIdeal_PlainGradWOutIdeal (hProductGradWOutIdeal := hProductGradWOutIdeal) (hPlainGradWOutIdeal := hPlainGradWOutIdeal)
    ∧ preserves_ProductDMixed_ProductDMixedIdeal
    ∧ algebraic_ProductDMixedIdeal_PlainDMixedIdeal (hProductDMixedIdeal := hProductDMixedIdeal) (hPlainDMixedIdeal := hPlainDMixedIdeal)
    ∧ preserves_ProductS5Up_ProductS5UpIdeal
    ∧ algebraic_ProductS5UpIdeal_PlainS5UpIdeal (hProductS5UpIdeal := hProductS5UpIdeal) (hPlainS5UpIdeal := hPlainS5UpIdeal)
    ∧ preserves_ProductGradS5Up_ProductGradS5UpIdeal
    ∧ algebraic_ProductGradS5UpIdeal_PlainGradS5UpIdeal (hProductGradS5UpIdeal := hProductGradS5UpIdeal) (hPlainGradS5UpIdeal := hPlainGradS5UpIdeal)
    ∧ preserves_ProductDOutS_ProductDOutSIdeal
    ∧ algebraic_ProductDOutSIdeal_PlainDOutSIdeal (hProductDOutSIdeal := hProductDOutSIdeal) (hPlainDOutSIdeal := hPlainDOutSIdeal)
    ∧ preserves_ProductProj_ProductProjIdeal
    ∧ algebraic_ProductProjIdeal_PlainProjIdeal (hProductProjIdeal := hProductProjIdeal) (hPlainProjIdeal := hPlainProjIdeal)
    ∧ preserves_ProductGradWIn_ProductGradWInIdeal
    ∧ algebraic_ProductGradWInIdeal_PlainGradWInIdeal (hProductGradWInIdeal := hProductGradWInIdeal) (hPlainGradWInIdeal := hPlainGradWInIdeal)
    ∧ preserves_ProductDH_ProductDHIdeal
    ∧ algebraic_ProductDHIdeal_PlainDHIdeal (hProductDHIdeal := hProductDHIdeal) (hPlainDHIdeal := hPlainDHIdeal)
    ∧ preserves_RmsFwd_RmsFwdIdeal
    ∧ algebraic_RmsFwdIdeal_NormedIdeal (hRmsFwdIdeal := hRmsFwdIdeal) (hNormedIdeal := hNormedIdeal)
    ∧ preserves_MergeFwd_MergeFwdIdeal
    ∧ algebraic_MergeFwdIdeal_MergedIdeal (hMergeFwdIdeal := hMergeFwdIdeal) (hMergedIdeal := hMergedIdeal)
    ∧ preserves_MergeBwd_MergeBwdIdeal
    ∧ algebraic_MergeBwdIdeal_MergePulledBackIdeal (hMergeBwdIdeal := hMergeBwdIdeal) (hMergePulledBackIdeal := hMergePulledBackIdeal)
-- ==== Kernel.lean ====
abbrev S8x2048x1282 : Shape := ⟨3, ![8, 2048, 1282]⟩
abbrev S8x128x1024 : Shape := ⟨3, ![8, 128, 1024]⟩
abbrev S8x1024x256 : Shape := ⟨3, ![8, 1024, 256]⟩
abbrev S8x256x2048 : Shape := ⟨3, ![8, 256, 2048]⟩
abbrev S5x7 : Shape := ⟨2, ![5, 7]⟩
abbrev S5 : Shape := ⟨1, ![5]⟩
abbrev S1 : Shape := ⟨1, ![1]⟩
abbrev S_ : Shape := ⟨0, ![]⟩
abbrev S1x2048x1282 : Shape := ⟨3, ![1, 2048, 1282]⟩
abbrev S2048x1282 : Shape := ⟨2, ![2048, 1282]⟩
abbrev S1x128x1024 : Shape := ⟨3, ![1, 128, 1024]⟩
abbrev S128x1024 : Shape := ⟨2, ![128, 1024]⟩
abbrev S1x1024x256 : Shape := ⟨3, ![1, 1024, 256]⟩
abbrev S1024x256 : Shape := ⟨2, ![1024, 256]⟩
abbrev S1x256x2048 : Shape := ⟨3, ![1, 256, 2048]⟩
abbrev S256x2048 : Shape := ⟨2, ![256, 2048]⟩
abbrev S1x1 : Shape := ⟨2, ![1, 1]⟩

abbrev nBuf : Space → Nat
  | .hbm => 10
  | .vmem => 0
  | .smem => 0
  | _ => 0

abbrev bufTy : (tb : Table) → Fin (tcTables nBuf tb) → BufTy
  | .hbm, ⟨0, _⟩ => ⟨S8x2048x1282, .bf16⟩
  | .hbm, ⟨1, _⟩ => ⟨S8x128x1024, .bf16⟩
  | .hbm, ⟨2, _⟩ => ⟨S8x1024x256, .bf16⟩
  | .hbm, ⟨3, _⟩ => ⟨S8x1024x256, .bf16⟩
  | .hbm, ⟨4, _⟩ => ⟨S8x256x2048, .bf16⟩
  | .hbm, ⟨5, _⟩ => ⟨S8x2048x1282, .bf16⟩
  | .hbm, ⟨6, _⟩ => ⟨S8x128x1024, .bf16⟩
  | .hbm, ⟨7, _⟩ => ⟨S8x1024x256, .bf16⟩
  | .hbm, ⟨8, _⟩ => ⟨S8x1024x256, .bf16⟩
  | .hbm, ⟨9, _⟩ => ⟨S8x256x2048, .bf16⟩
  | _, _ => ⟨S8x2048x1282, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_off2 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_10 : BitVec 32 := 0#32
  let c0_i32_11 : BitVec 32 := 0#32
  ![v12.toNat, 0, 0]
def k0_off3 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_15 : BitVec 32 := 0#32
  let c0_i32_16 : BitVec 32 := 0#32
  ![v12.toNat, 0, 0]
def k0_off4 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_24 : BitVec 32 := 0#32
  let c0_i32_25 : BitVec 32 := 0#32
  ![v12.toNat, 0, 0]
def k0_off5 (d0 : Dev nD) : Fin 3 → Nat :=
  let c4_i32_29 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v44 : BitVec 32 := Scalar.muli c4_i32_29 v2
  let c2_i32_30 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v45 : BitVec 32 := Scalar.muli c2_i32_30 v5
  let v46 : BitVec 32 := Scalar.addi v44 v45
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_28 v8
  let v47 : BitVec 32 := Scalar.addi v46 v43
  let c0_i32_64 : BitVec 32 := 0#32
  let c0_i32_65 : BitVec 32 := 0#32
  ![v47.toNat, 0, 0]
def k0_dev1 (d0 : Dev nD) : Nat :=
  let c0_i32_59 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_58 : BitVec 32 := 4#32
  let v83 : BitVec 32 := Scalar.muli v2 c4_i32_58
  let v84 : BitVec 32 := Scalar.addi c0_i32_59 v83
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_60 : BitVec 32 := 2#32
  let v85 : BitVec 32 := Scalar.muli v5 c2_i32_60
  let v86 : BitVec 32 := Scalar.addi v84 v85
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_28 v8
  let c1_i32_61 : BitVec 32 := 1#32
  let v87 : BitVec 32 := Scalar.muli v43 c1_i32_61
  let v88 : BitVec 32 := Scalar.addi v86 v87
  v88.toNat
def k0_off6 (d0 : Dev nD) : Fin 3 → Nat :=
  let c4_i32_29 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v44 : BitVec 32 := Scalar.muli c4_i32_29 v2
  let c2_i32_30 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v45 : BitVec 32 := Scalar.muli c2_i32_30 v5
  let v46 : BitVec 32 := Scalar.addi v44 v45
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_28 v8
  let v47 : BitVec 32 := Scalar.addi v46 v43
  let c0_i32_76 : BitVec 32 := 0#32
  let c0_i32_77 : BitVec 32 := 0#32
  ![v47.toNat, 0, 0]
def k0_dev2 (d0 : Dev nD) : Nat :=
  let c0_i32_71 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_70 : BitVec 32 := 4#32
  let v97 : BitVec 32 := Scalar.muli v2 c4_i32_70
  let v98 : BitVec 32 := Scalar.addi c0_i32_71 v97
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_72 : BitVec 32 := 2#32
  let v99 : BitVec 32 := Scalar.muli v5 c2_i32_72
  let v100 : BitVec 32 := Scalar.addi v98 v99
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_28 v8
  let c1_i32_73 : BitVec 32 := 1#32
  let v101 : BitVec 32 := Scalar.muli v43 c1_i32_73
  let v102 : BitVec 32 := Scalar.addi v100 v101
  v102.toNat
def k0_off7 (d0 : Dev nD) : Fin 3 → Nat :=
  let c4_i32_29 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v44 : BitVec 32 := Scalar.muli c4_i32_29 v2
  let c2_i32_30 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v45 : BitVec 32 := Scalar.muli c2_i32_30 v5
  let v46 : BitVec 32 := Scalar.addi v44 v45
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_28 v8
  let v47 : BitVec 32 := Scalar.addi v46 v43
  let c0_i32_88 : BitVec 32 := 0#32
  let c0_i32_89 : BitVec 32 := 0#32
  ![v47.toNat, 0, 0]
def k0_dev3 (d0 : Dev nD) : Nat :=
  let c0_i32_83 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_82 : BitVec 32 := 4#32
  let v111 : BitVec 32 := Scalar.muli v2 c4_i32_82
  let v112 : BitVec 32 := Scalar.addi c0_i32_83 v111
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_84 : BitVec 32 := 2#32
  let v113 : BitVec 32 := Scalar.muli v5 c2_i32_84
  let v114 : BitVec 32 := Scalar.addi v112 v113
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_28 v8
  let c1_i32_85 : BitVec 32 := 1#32
  let v115 : BitVec 32 := Scalar.muli v43 c1_i32_85
  let v116 : BitVec 32 := Scalar.addi v114 v115
  v116.toNat
def k0_dev4 (d0 : Dev nD) : Nat :=
  let c0_i32_95 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_94 : BitVec 32 := 4#32
  let v125 : BitVec 32 := Scalar.muli v2 c4_i32_94
  let v126 : BitVec 32 := Scalar.addi c0_i32_95 v125
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_96 : BitVec 32 := 2#32
  let v127 : BitVec 32 := Scalar.muli v5 c2_i32_96
  let v128 : BitVec 32 := Scalar.addi v126 v127
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_28 v8
  let c1_i32_97 : BitVec 32 := 1#32
  let v129 : BitVec 32 := Scalar.muli v43 c1_i32_97
  let v130 : BitVec 32 := Scalar.addi v128 v129
  v130.toNat
def k0_off8 (d0 : Dev nD) : Fin 3 → Nat :=
  let c4_i32_29 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v44 : BitVec 32 := Scalar.muli c4_i32_29 v2
  let c2_i32_30 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v45 : BitVec 32 := Scalar.muli c2_i32_30 v5
  let v46 : BitVec 32 := Scalar.addi v44 v45
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_28 v8
  let v47 : BitVec 32 := Scalar.addi v46 v43
  let c0_i32_112 : BitVec 32 := 0#32
  let c0_i32_113 : BitVec 32 := 0#32
  ![v47.toNat, 0, 0]
def k0_dev5 (d0 : Dev nD) : Nat :=
  let c0_i32_107 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_106 : BitVec 32 := 4#32
  let v139 : BitVec 32 := Scalar.muli v2 c4_i32_106
  let v140 : BitVec 32 := Scalar.addi c0_i32_107 v139
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_108 : BitVec 32 := 2#32
  let v141 : BitVec 32 := Scalar.muli v5 c2_i32_108
  let v142 : BitVec 32 := Scalar.addi v140 v141
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_28 v8
  let c1_i32_109 : BitVec 32 := 1#32
  let v143 : BitVec 32 := Scalar.muli v43 c1_i32_109
  let v144 : BitVec 32 := Scalar.addi v142 v143
  v144.toNat
def k0_off9 (d0 : Dev nD) : Fin 3 → Nat :=
  let c4_i32_32 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v49 : BitVec 32 := Scalar.muli c4_i32_32 v2
  let c2_i32_33 : BitVec 32 := 2#32
  let c1_i32_31 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_31 v5
  let v50 : BitVec 32 := Scalar.muli c2_i32_33 v48
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.addi v51 v8
  let c0_i32_124 : BitVec 32 := 0#32
  let c0_i32_125 : BitVec 32 := 0#32
  ![v52.toNat, 0, 0]
def k0_dev6 (d0 : Dev nD) : Nat :=
  let c0_i32_119 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_118 : BitVec 32 := 4#32
  let v153 : BitVec 32 := Scalar.muli v2 c4_i32_118
  let v154 : BitVec 32 := Scalar.addi c0_i32_119 v153
  let c1_i32_31 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_31 v5
  let c2_i32_120 : BitVec 32 := 2#32
  let v155 : BitVec 32 := Scalar.muli v48 c2_i32_120
  let v156 : BitVec 32 := Scalar.addi v154 v155
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_121 : BitVec 32 := 1#32
  let v157 : BitVec 32 := Scalar.muli v8 c1_i32_121
  let v158 : BitVec 32 := Scalar.addi v156 v157
  v158.toNat
def k0_off10 (d0 : Dev nD) : Fin 3 → Nat :=
  let c4_i32_32 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v49 : BitVec 32 := Scalar.muli c4_i32_32 v2
  let c2_i32_33 : BitVec 32 := 2#32
  let c1_i32_31 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_31 v5
  let v50 : BitVec 32 := Scalar.muli c2_i32_33 v48
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.addi v51 v8
  let c0_i32_136 : BitVec 32 := 0#32
  let c0_i32_137 : BitVec 32 := 0#32
  ![v52.toNat, 0, 0]
def k0_dev7 (d0 : Dev nD) : Nat :=
  let c0_i32_131 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_130 : BitVec 32 := 4#32
  let v167 : BitVec 32 := Scalar.muli v2 c4_i32_130
  let v168 : BitVec 32 := Scalar.addi c0_i32_131 v167
  let c1_i32_31 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_31 v5
  let c2_i32_132 : BitVec 32 := 2#32
  let v169 : BitVec 32 := Scalar.muli v48 c2_i32_132
  let v170 : BitVec 32 := Scalar.addi v168 v169
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_133 : BitVec 32 := 1#32
  let v171 : BitVec 32 := Scalar.muli v8 c1_i32_133
  let v172 : BitVec 32 := Scalar.addi v170 v171
  v172.toNat
def k0_off11 (d0 : Dev nD) : Fin 3 → Nat :=
  let c4_i32_32 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v49 : BitVec 32 := Scalar.muli c4_i32_32 v2
  let c2_i32_33 : BitVec 32 := 2#32
  let c1_i32_31 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_31 v5
  let v50 : BitVec 32 := Scalar.muli c2_i32_33 v48
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.addi v51 v8
  let c0_i32_148 : BitVec 32 := 0#32
  let c0_i32_149 : BitVec 32 := 0#32
  ![v52.toNat, 0, 0]
def k0_dev8 (d0 : Dev nD) : Nat :=
  let c0_i32_143 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_142 : BitVec 32 := 4#32
  let v181 : BitVec 32 := Scalar.muli v2 c4_i32_142
  let v182 : BitVec 32 := Scalar.addi c0_i32_143 v181
  let c1_i32_31 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_31 v5
  let c2_i32_144 : BitVec 32 := 2#32
  let v183 : BitVec 32 := Scalar.muli v48 c2_i32_144
  let v184 : BitVec 32 := Scalar.addi v182 v183
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_145 : BitVec 32 := 1#32
  let v185 : BitVec 32 := Scalar.muli v8 c1_i32_145
  let v186 : BitVec 32 := Scalar.addi v184 v185
  v186.toNat
def k0_dev9 (d0 : Dev nD) : Nat :=
  let c0_i32_155 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_154 : BitVec 32 := 4#32
  let v195 : BitVec 32 := Scalar.muli v2 c4_i32_154
  let v196 : BitVec 32 := Scalar.addi c0_i32_155 v195
  let c1_i32_31 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_31 v5
  let c2_i32_156 : BitVec 32 := 2#32
  let v197 : BitVec 32 := Scalar.muli v48 c2_i32_156
  let v198 : BitVec 32 := Scalar.addi v196 v197
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_157 : BitVec 32 := 1#32
  let v199 : BitVec 32 := Scalar.muli v8 c1_i32_157
  let v200 : BitVec 32 := Scalar.addi v198 v199
  v200.toNat
def k0_off12 (d0 : Dev nD) : Fin 3 → Nat :=
  let c4_i32_32 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v49 : BitVec 32 := Scalar.muli c4_i32_32 v2
  let c2_i32_33 : BitVec 32 := 2#32
  let c1_i32_31 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_31 v5
  let v50 : BitVec 32 := Scalar.muli c2_i32_33 v48
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.addi v51 v8
  let c0_i32_172 : BitVec 32 := 0#32
  let c0_i32_173 : BitVec 32 := 0#32
  ![v52.toNat, 0, 0]
def k0_dev10 (d0 : Dev nD) : Nat :=
  let c0_i32_167 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_166 : BitVec 32 := 4#32
  let v209 : BitVec 32 := Scalar.muli v2 c4_i32_166
  let v210 : BitVec 32 := Scalar.addi c0_i32_167 v209
  let c1_i32_31 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_31 v5
  let c2_i32_168 : BitVec 32 := 2#32
  let v211 : BitVec 32 := Scalar.muli v48 c2_i32_168
  let v212 : BitVec 32 := Scalar.addi v210 v211
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_169 : BitVec 32 := 1#32
  let v213 : BitVec 32 := Scalar.muli v8 c1_i32_169
  let v214 : BitVec 32 := Scalar.addi v212 v213
  v214.toNat
def k0_off13 (d0 : Dev nD) : Fin 3 → Nat :=
  let c4_i32_36 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v55 : BitVec 32 := Scalar.muli c4_i32_36 v2
  let c2_i32_37 : BitVec 32 := 2#32
  let c1_i32_34 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v53 : BitVec 32 := Scalar.subi c1_i32_34 v5
  let v56 : BitVec 32 := Scalar.muli c2_i32_37 v53
  let v57 : BitVec 32 := Scalar.addi v55 v56
  let c1_i32_35 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v54 : BitVec 32 := Scalar.subi c1_i32_35 v8
  let v58 : BitVec 32 := Scalar.addi v57 v54
  let c0_i32_184 : BitVec 32 := 0#32
  let c0_i32_185 : BitVec 32 := 0#32
  ![v58.toNat, 0, 0]
def k0_dev11 (d0 : Dev nD) : Nat :=
  let c0_i32_179 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_178 : BitVec 32 := 4#32
  let v223 : BitVec 32 := Scalar.muli v2 c4_i32_178
  let v224 : BitVec 32 := Scalar.addi c0_i32_179 v223
  let c1_i32_34 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v53 : BitVec 32 := Scalar.subi c1_i32_34 v5
  let c2_i32_180 : BitVec 32 := 2#32
  let v225 : BitVec 32 := Scalar.muli v53 c2_i32_180
  let v226 : BitVec 32 := Scalar.addi v224 v225
  let c1_i32_35 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v54 : BitVec 32 := Scalar.subi c1_i32_35 v8
  let c1_i32_181 : BitVec 32 := 1#32
  let v227 : BitVec 32 := Scalar.muli v54 c1_i32_181
  let v228 : BitVec 32 := Scalar.addi v226 v227
  v228.toNat
def k0_off14 (d0 : Dev nD) : Fin 3 → Nat :=
  let c4_i32_36 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v55 : BitVec 32 := Scalar.muli c4_i32_36 v2
  let c2_i32_37 : BitVec 32 := 2#32
  let c1_i32_34 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v53 : BitVec 32 := Scalar.subi c1_i32_34 v5
  let v56 : BitVec 32 := Scalar.muli c2_i32_37 v53
  let v57 : BitVec 32 := Scalar.addi v55 v56
  let c1_i32_35 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v54 : BitVec 32 := Scalar.subi c1_i32_35 v8
  let v58 : BitVec 32 := Scalar.addi v57 v54
  let c0_i32_196 : BitVec 32 := 0#32
  let c0_i32_197 : BitVec 32 := 0#32
  ![v58.toNat, 0, 0]
def k0_dev12 (d0 : Dev nD) : Nat :=
  let c0_i32_191 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_190 : BitVec 32 := 4#32
  let v237 : BitVec 32 := Scalar.muli v2 c4_i32_190
  let v238 : BitVec 32 := Scalar.addi c0_i32_191 v237
  let c1_i32_34 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v53 : BitVec 32 := Scalar.subi c1_i32_34 v5
  let c2_i32_192 : BitVec 32 := 2#32
  let v239 : BitVec 32 := Scalar.muli v53 c2_i32_192
  let v240 : BitVec 32 := Scalar.addi v238 v239
  let c1_i32_35 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v54 : BitVec 32 := Scalar.subi c1_i32_35 v8
  let c1_i32_193 : BitVec 32 := 1#32
  let v241 : BitVec 32 := Scalar.muli v54 c1_i32_193
  let v242 : BitVec 32 := Scalar.addi v240 v241
  v242.toNat
def k0_off15 (d0 : Dev nD) : Fin 3 → Nat :=
  let c4_i32_36 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v55 : BitVec 32 := Scalar.muli c4_i32_36 v2
  let c2_i32_37 : BitVec 32 := 2#32
  let c1_i32_34 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v53 : BitVec 32 := Scalar.subi c1_i32_34 v5
  let v56 : BitVec 32 := Scalar.muli c2_i32_37 v53
  let v57 : BitVec 32 := Scalar.addi v55 v56
  let c1_i32_35 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v54 : BitVec 32 := Scalar.subi c1_i32_35 v8
  let v58 : BitVec 32 := Scalar.addi v57 v54
  let c0_i32_208 : BitVec 32 := 0#32
  let c0_i32_209 : BitVec 32 := 0#32
  ![v58.toNat, 0, 0]
def k0_dev13 (d0 : Dev nD) : Nat :=
  let c0_i32_203 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_202 : BitVec 32 := 4#32
  let v251 : BitVec 32 := Scalar.muli v2 c4_i32_202
  let v252 : BitVec 32 := Scalar.addi c0_i32_203 v251
  let c1_i32_34 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v53 : BitVec 32 := Scalar.subi c1_i32_34 v5
  let c2_i32_204 : BitVec 32 := 2#32
  let v253 : BitVec 32 := Scalar.muli v53 c2_i32_204
  let v254 : BitVec 32 := Scalar.addi v252 v253
  let c1_i32_35 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v54 : BitVec 32 := Scalar.subi c1_i32_35 v8
  let c1_i32_205 : BitVec 32 := 1#32
  let v255 : BitVec 32 := Scalar.muli v54 c1_i32_205
  let v256 : BitVec 32 := Scalar.addi v254 v255
  v256.toNat
def k0_dev14 (d0 : Dev nD) : Nat :=
  let c0_i32_215 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_214 : BitVec 32 := 4#32
  let v265 : BitVec 32 := Scalar.muli v2 c4_i32_214
  let v266 : BitVec 32 := Scalar.addi c0_i32_215 v265
  let c1_i32_34 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v53 : BitVec 32 := Scalar.subi c1_i32_34 v5
  let c2_i32_216 : BitVec 32 := 2#32
  let v267 : BitVec 32 := Scalar.muli v53 c2_i32_216
  let v268 : BitVec 32 := Scalar.addi v266 v267
  let c1_i32_35 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v54 : BitVec 32 := Scalar.subi c1_i32_35 v8
  let c1_i32_217 : BitVec 32 := 1#32
  let v269 : BitVec 32 := Scalar.muli v54 c1_i32_217
  let v270 : BitVec 32 := Scalar.addi v268 v269
  v270.toNat
def k0_off16 (d0 : Dev nD) : Fin 3 → Nat :=
  let c4_i32_36 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v55 : BitVec 32 := Scalar.muli c4_i32_36 v2
  let c2_i32_37 : BitVec 32 := 2#32
  let c1_i32_34 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v53 : BitVec 32 := Scalar.subi c1_i32_34 v5
  let v56 : BitVec 32 := Scalar.muli c2_i32_37 v53
  let v57 : BitVec 32 := Scalar.addi v55 v56
  let c1_i32_35 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v54 : BitVec 32 := Scalar.subi c1_i32_35 v8
  let v58 : BitVec 32 := Scalar.addi v57 v54
  let c0_i32_232 : BitVec 32 := 0#32
  let c0_i32_233 : BitVec 32 := 0#32
  ![v58.toNat, 0, 0]
def k0_dev15 (d0 : Dev nD) : Nat :=
  let c0_i32_227 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_226 : BitVec 32 := 4#32
  let v279 : BitVec 32 := Scalar.muli v2 c4_i32_226
  let v280 : BitVec 32 := Scalar.addi c0_i32_227 v279
  let c1_i32_34 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v53 : BitVec 32 := Scalar.subi c1_i32_34 v5
  let c2_i32_228 : BitVec 32 := 2#32
  let v281 : BitVec 32 := Scalar.muli v53 c2_i32_228
  let v282 : BitVec 32 := Scalar.addi v280 v281
  let c1_i32_35 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v54 : BitVec 32 := Scalar.subi c1_i32_35 v8
  let c1_i32_229 : BitVec 32 := 1#32
  let v283 : BitVec 32 := Scalar.muli v54 c1_i32_229
  let v284 : BitVec 32 := Scalar.addi v282 v283
  v284.toNat
def k0_off17 (d0 : Dev nD) : Fin 3 → Nat :=
  let c4_i32_39 : BitVec 32 := 4#32
  let c1_i32_38 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v59 : BitVec 32 := Scalar.subi c1_i32_38 v2
  let v60 : BitVec 32 := Scalar.muli c4_i32_39 v59
  let c2_i32_40 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v61 : BitVec 32 := Scalar.muli c2_i32_40 v5
  let v62 : BitVec 32 := Scalar.addi v60 v61
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v63 : BitVec 32 := Scalar.addi v62 v8
  let c0_i32_244 : BitVec 32 := 0#32
  let c0_i32_245 : BitVec 32 := 0#32
  ![v63.toNat, 0, 0]
def k0_dev16 (d0 : Dev nD) : Nat :=
  let c0_i32_239 : BitVec 32 := 0#32
  let c1_i32_38 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v59 : BitVec 32 := Scalar.subi c1_i32_38 v2
  let c4_i32_238 : BitVec 32 := 4#32
  let v293 : BitVec 32 := Scalar.muli v59 c4_i32_238
  let v294 : BitVec 32 := Scalar.addi c0_i32_239 v293
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_240 : BitVec 32 := 2#32
  let v295 : BitVec 32 := Scalar.muli v5 c2_i32_240
  let v296 : BitVec 32 := Scalar.addi v294 v295
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_241 : BitVec 32 := 1#32
  let v297 : BitVec 32 := Scalar.muli v8 c1_i32_241
  let v298 : BitVec 32 := Scalar.addi v296 v297
  v298.toNat
def k0_off18 (d0 : Dev nD) : Fin 3 → Nat :=
  let c4_i32_39 : BitVec 32 := 4#32
  let c1_i32_38 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v59 : BitVec 32 := Scalar.subi c1_i32_38 v2
  let v60 : BitVec 32 := Scalar.muli c4_i32_39 v59
  let c2_i32_40 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v61 : BitVec 32 := Scalar.muli c2_i32_40 v5
  let v62 : BitVec 32 := Scalar.addi v60 v61
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v63 : BitVec 32 := Scalar.addi v62 v8
  let c0_i32_256 : BitVec 32 := 0#32
  let c0_i32_257 : BitVec 32 := 0#32
  ![v63.toNat, 0, 0]
def k0_dev17 (d0 : Dev nD) : Nat :=
  let c0_i32_251 : BitVec 32 := 0#32
  let c1_i32_38 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v59 : BitVec 32 := Scalar.subi c1_i32_38 v2
  let c4_i32_250 : BitVec 32 := 4#32
  let v307 : BitVec 32 := Scalar.muli v59 c4_i32_250
  let v308 : BitVec 32 := Scalar.addi c0_i32_251 v307
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_252 : BitVec 32 := 2#32
  let v309 : BitVec 32 := Scalar.muli v5 c2_i32_252
  let v310 : BitVec 32 := Scalar.addi v308 v309
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_253 : BitVec 32 := 1#32
  let v311 : BitVec 32 := Scalar.muli v8 c1_i32_253
  let v312 : BitVec 32 := Scalar.addi v310 v311
  v312.toNat
def k0_off19 (d0 : Dev nD) : Fin 3 → Nat :=
  let c4_i32_39 : BitVec 32 := 4#32
  let c1_i32_38 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v59 : BitVec 32 := Scalar.subi c1_i32_38 v2
  let v60 : BitVec 32 := Scalar.muli c4_i32_39 v59
  let c2_i32_40 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v61 : BitVec 32 := Scalar.muli c2_i32_40 v5
  let v62 : BitVec 32 := Scalar.addi v60 v61
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v63 : BitVec 32 := Scalar.addi v62 v8
  let c0_i32_268 : BitVec 32 := 0#32
  let c0_i32_269 : BitVec 32 := 0#32
  ![v63.toNat, 0, 0]
def k0_dev18 (d0 : Dev nD) : Nat :=
  let c0_i32_263 : BitVec 32 := 0#32
  let c1_i32_38 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v59 : BitVec 32 := Scalar.subi c1_i32_38 v2
  let c4_i32_262 : BitVec 32 := 4#32
  let v321 : BitVec 32 := Scalar.muli v59 c4_i32_262
  let v322 : BitVec 32 := Scalar.addi c0_i32_263 v321
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_264 : BitVec 32 := 2#32
  let v323 : BitVec 32 := Scalar.muli v5 c2_i32_264
  let v324 : BitVec 32 := Scalar.addi v322 v323
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_265 : BitVec 32 := 1#32
  let v325 : BitVec 32 := Scalar.muli v8 c1_i32_265
  let v326 : BitVec 32 := Scalar.addi v324 v325
  v326.toNat
def k0_dev19 (d0 : Dev nD) : Nat :=
  let c0_i32_275 : BitVec 32 := 0#32
  let c1_i32_38 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v59 : BitVec 32 := Scalar.subi c1_i32_38 v2
  let c4_i32_274 : BitVec 32 := 4#32
  let v335 : BitVec 32 := Scalar.muli v59 c4_i32_274
  let v336 : BitVec 32 := Scalar.addi c0_i32_275 v335
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_276 : BitVec 32 := 2#32
  let v337 : BitVec 32 := Scalar.muli v5 c2_i32_276
  let v338 : BitVec 32 := Scalar.addi v336 v337
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_277 : BitVec 32 := 1#32
  let v339 : BitVec 32 := Scalar.muli v8 c1_i32_277
  let v340 : BitVec 32 := Scalar.addi v338 v339
  v340.toNat
def k0_off20 (d0 : Dev nD) : Fin 3 → Nat :=
  let c4_i32_39 : BitVec 32 := 4#32
  let c1_i32_38 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v59 : BitVec 32 := Scalar.subi c1_i32_38 v2
  let v60 : BitVec 32 := Scalar.muli c4_i32_39 v59
  let c2_i32_40 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v61 : BitVec 32 := Scalar.muli c2_i32_40 v5
  let v62 : BitVec 32 := Scalar.addi v60 v61
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v63 : BitVec 32 := Scalar.addi v62 v8
  let c0_i32_292 : BitVec 32 := 0#32
  let c0_i32_293 : BitVec 32 := 0#32
  ![v63.toNat, 0, 0]
def k0_dev20 (d0 : Dev nD) : Nat :=
  let c0_i32_287 : BitVec 32 := 0#32
  let c1_i32_38 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v59 : BitVec 32 := Scalar.subi c1_i32_38 v2
  let c4_i32_286 : BitVec 32 := 4#32
  let v349 : BitVec 32 := Scalar.muli v59 c4_i32_286
  let v350 : BitVec 32 := Scalar.addi c0_i32_287 v349
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_288 : BitVec 32 := 2#32
  let v351 : BitVec 32 := Scalar.muli v5 c2_i32_288
  let v352 : BitVec 32 := Scalar.addi v350 v351
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_289 : BitVec 32 := 1#32
  let v353 : BitVec 32 := Scalar.muli v8 c1_i32_289
  let v354 : BitVec 32 := Scalar.addi v352 v353
  v354.toNat
def k0_off21 (d0 : Dev nD) : Fin 3 → Nat :=
  let c4_i32_43 : BitVec 32 := 4#32
  let c1_i32_41 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v64 : BitVec 32 := Scalar.subi c1_i32_41 v2
  let v66 : BitVec 32 := Scalar.muli c4_i32_43 v64
  let c2_i32_44 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v67 : BitVec 32 := Scalar.muli c2_i32_44 v5
  let v68 : BitVec 32 := Scalar.addi v66 v67
  let c1_i32_42 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v65 : BitVec 32 := Scalar.subi c1_i32_42 v8
  let v69 : BitVec 32 := Scalar.addi v68 v65
  let c0_i32_304 : BitVec 32 := 0#32
  let c0_i32_305 : BitVec 32 := 0#32
  ![v69.toNat, 0, 0]
def k0_dev21 (d0 : Dev nD) : Nat :=
  let c0_i32_299 : BitVec 32 := 0#32
  let c1_i32_41 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v64 : BitVec 32 := Scalar.subi c1_i32_41 v2
  let c4_i32_298 : BitVec 32 := 4#32
  let v363 : BitVec 32 := Scalar.muli v64 c4_i32_298
  let v364 : BitVec 32 := Scalar.addi c0_i32_299 v363
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_300 : BitVec 32 := 2#32
  let v365 : BitVec 32 := Scalar.muli v5 c2_i32_300
  let v366 : BitVec 32 := Scalar.addi v364 v365
  let c1_i32_42 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v65 : BitVec 32 := Scalar.subi c1_i32_42 v8
  let c1_i32_301 : BitVec 32 := 1#32
  let v367 : BitVec 32 := Scalar.muli v65 c1_i32_301
  let v368 : BitVec 32 := Scalar.addi v366 v367
  v368.toNat
def k0_off22 (d0 : Dev nD) : Fin 3 → Nat :=
  let c4_i32_43 : BitVec 32 := 4#32
  let c1_i32_41 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v64 : BitVec 32 := Scalar.subi c1_i32_41 v2
  let v66 : BitVec 32 := Scalar.muli c4_i32_43 v64
  let c2_i32_44 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v67 : BitVec 32 := Scalar.muli c2_i32_44 v5
  let v68 : BitVec 32 := Scalar.addi v66 v67
  let c1_i32_42 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v65 : BitVec 32 := Scalar.subi c1_i32_42 v8
  let v69 : BitVec 32 := Scalar.addi v68 v65
  let c0_i32_316 : BitVec 32 := 0#32
  let c0_i32_317 : BitVec 32 := 0#32
  ![v69.toNat, 0, 0]
def k0_dev22 (d0 : Dev nD) : Nat :=
  let c0_i32_311 : BitVec 32 := 0#32
  let c1_i32_41 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v64 : BitVec 32 := Scalar.subi c1_i32_41 v2
  let c4_i32_310 : BitVec 32 := 4#32
  let v377 : BitVec 32 := Scalar.muli v64 c4_i32_310
  let v378 : BitVec 32 := Scalar.addi c0_i32_311 v377
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_312 : BitVec 32 := 2#32
  let v379 : BitVec 32 := Scalar.muli v5 c2_i32_312
  let v380 : BitVec 32 := Scalar.addi v378 v379
  let c1_i32_42 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v65 : BitVec 32 := Scalar.subi c1_i32_42 v8
  let c1_i32_313 : BitVec 32 := 1#32
  let v381 : BitVec 32 := Scalar.muli v65 c1_i32_313
  let v382 : BitVec 32 := Scalar.addi v380 v381
  v382.toNat
def k0_off23 (d0 : Dev nD) : Fin 3 → Nat :=
  let c4_i32_43 : BitVec 32 := 4#32
  let c1_i32_41 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v64 : BitVec 32 := Scalar.subi c1_i32_41 v2
  let v66 : BitVec 32 := Scalar.muli c4_i32_43 v64
  let c2_i32_44 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v67 : BitVec 32 := Scalar.muli c2_i32_44 v5
  let v68 : BitVec 32 := Scalar.addi v66 v67
  let c1_i32_42 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v65 : BitVec 32 := Scalar.subi c1_i32_42 v8
  let v69 : BitVec 32 := Scalar.addi v68 v65
  let c0_i32_328 : BitVec 32 := 0#32
  let c0_i32_329 : BitVec 32 := 0#32
  ![v69.toNat, 0, 0]
def k0_dev23 (d0 : Dev nD) : Nat :=
  let c0_i32_323 : BitVec 32 := 0#32
  let c1_i32_41 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v64 : BitVec 32 := Scalar.subi c1_i32_41 v2
  let c4_i32_322 : BitVec 32 := 4#32
  let v391 : BitVec 32 := Scalar.muli v64 c4_i32_322
  let v392 : BitVec 32 := Scalar.addi c0_i32_323 v391
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_324 : BitVec 32 := 2#32
  let v393 : BitVec 32 := Scalar.muli v5 c2_i32_324
  let v394 : BitVec 32 := Scalar.addi v392 v393
  let c1_i32_42 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v65 : BitVec 32 := Scalar.subi c1_i32_42 v8
  let c1_i32_325 : BitVec 32 := 1#32
  let v395 : BitVec 32 := Scalar.muli v65 c1_i32_325
  let v396 : BitVec 32 := Scalar.addi v394 v395
  v396.toNat
def k0_dev24 (d0 : Dev nD) : Nat :=
  let c0_i32_335 : BitVec 32 := 0#32
  let c1_i32_41 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v64 : BitVec 32 := Scalar.subi c1_i32_41 v2
  let c4_i32_334 : BitVec 32 := 4#32
  let v405 : BitVec 32 := Scalar.muli v64 c4_i32_334
  let v406 : BitVec 32 := Scalar.addi c0_i32_335 v405
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_336 : BitVec 32 := 2#32
  let v407 : BitVec 32 := Scalar.muli v5 c2_i32_336
  let v408 : BitVec 32 := Scalar.addi v406 v407
  let c1_i32_42 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v65 : BitVec 32 := Scalar.subi c1_i32_42 v8
  let c1_i32_337 : BitVec 32 := 1#32
  let v409 : BitVec 32 := Scalar.muli v65 c1_i32_337
  let v410 : BitVec 32 := Scalar.addi v408 v409
  v410.toNat
def k0_off24 (d0 : Dev nD) : Fin 3 → Nat :=
  let c4_i32_43 : BitVec 32 := 4#32
  let c1_i32_41 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v64 : BitVec 32 := Scalar.subi c1_i32_41 v2
  let v66 : BitVec 32 := Scalar.muli c4_i32_43 v64
  let c2_i32_44 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v67 : BitVec 32 := Scalar.muli c2_i32_44 v5
  let v68 : BitVec 32 := Scalar.addi v66 v67
  let c1_i32_42 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v65 : BitVec 32 := Scalar.subi c1_i32_42 v8
  let v69 : BitVec 32 := Scalar.addi v68 v65
  let c0_i32_352 : BitVec 32 := 0#32
  let c0_i32_353 : BitVec 32 := 0#32
  ![v69.toNat, 0, 0]
def k0_dev25 (d0 : Dev nD) : Nat :=
  let c0_i32_347 : BitVec 32 := 0#32
  let c1_i32_41 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v64 : BitVec 32 := Scalar.subi c1_i32_41 v2
  let c4_i32_346 : BitVec 32 := 4#32
  let v419 : BitVec 32 := Scalar.muli v64 c4_i32_346
  let v420 : BitVec 32 := Scalar.addi c0_i32_347 v419
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_348 : BitVec 32 := 2#32
  let v421 : BitVec 32 := Scalar.muli v5 c2_i32_348
  let v422 : BitVec 32 := Scalar.addi v420 v421
  let c1_i32_42 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v65 : BitVec 32 := Scalar.subi c1_i32_42 v8
  let c1_i32_349 : BitVec 32 := 1#32
  let v423 : BitVec 32 := Scalar.muli v65 c1_i32_349
  let v424 : BitVec 32 := Scalar.addi v422 v423
  v424.toNat
def k0_off25 (d0 : Dev nD) : Fin 3 → Nat :=
  let c4_i32_47 : BitVec 32 := 4#32
  let c1_i32_45 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v70 : BitVec 32 := Scalar.subi c1_i32_45 v2
  let v72 : BitVec 32 := Scalar.muli c4_i32_47 v70
  let c2_i32_48 : BitVec 32 := 2#32
  let c1_i32_46 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v71 : BitVec 32 := Scalar.subi c1_i32_46 v5
  let v73 : BitVec 32 := Scalar.muli c2_i32_48 v71
  let v74 : BitVec 32 := Scalar.addi v72 v73
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v75 : BitVec 32 := Scalar.addi v74 v8
  let c0_i32_363 : BitVec 32 := 0#32
  let c0_i32_364 : BitVec 32 := 0#32
  ![v75.toNat, 0, 0]
def k0_dev26 (d0 : Dev nD) : Nat :=
  let c0_i32_358 : BitVec 32 := 0#32
  let c1_i32_45 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v70 : BitVec 32 := Scalar.subi c1_i32_45 v2
  let c4_i32_357 : BitVec 32 := 4#32
  let v433 : BitVec 32 := Scalar.muli v70 c4_i32_357
  let v434 : BitVec 32 := Scalar.addi c0_i32_358 v433
  let c1_i32_46 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v71 : BitVec 32 := Scalar.subi c1_i32_46 v5
  let c2_i32_359 : BitVec 32 := 2#32
  let v435 : BitVec 32 := Scalar.muli v71 c2_i32_359
  let v436 : BitVec 32 := Scalar.addi v434 v435
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_360 : BitVec 32 := 1#32
  let v437 : BitVec 32 := Scalar.muli v8 c1_i32_360
  let v438 : BitVec 32 := Scalar.addi v436 v437
  v438.toNat
def k0_off26 (d0 : Dev nD) : Fin 3 → Nat :=
  let c4_i32_47 : BitVec 32 := 4#32
  let c1_i32_45 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v70 : BitVec 32 := Scalar.subi c1_i32_45 v2
  let v72 : BitVec 32 := Scalar.muli c4_i32_47 v70
  let c2_i32_48 : BitVec 32 := 2#32
  let c1_i32_46 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v71 : BitVec 32 := Scalar.subi c1_i32_46 v5
  let v73 : BitVec 32 := Scalar.muli c2_i32_48 v71
  let v74 : BitVec 32 := Scalar.addi v72 v73
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v75 : BitVec 32 := Scalar.addi v74 v8
  let c0_i32_375 : BitVec 32 := 0#32
  let c0_i32_376 : BitVec 32 := 0#32
  ![v75.toNat, 0, 0]
def k0_dev27 (d0 : Dev nD) : Nat :=
  let c0_i32_370 : BitVec 32 := 0#32
  let c1_i32_45 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v70 : BitVec 32 := Scalar.subi c1_i32_45 v2
  let c4_i32_369 : BitVec 32 := 4#32
  let v447 : BitVec 32 := Scalar.muli v70 c4_i32_369
  let v448 : BitVec 32 := Scalar.addi c0_i32_370 v447
  let c1_i32_46 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v71 : BitVec 32 := Scalar.subi c1_i32_46 v5
  let c2_i32_371 : BitVec 32 := 2#32
  let v449 : BitVec 32 := Scalar.muli v71 c2_i32_371
  let v450 : BitVec 32 := Scalar.addi v448 v449
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_372 : BitVec 32 := 1#32
  let v451 : BitVec 32 := Scalar.muli v8 c1_i32_372
  let v452 : BitVec 32 := Scalar.addi v450 v451
  v452.toNat
def k0_off27 (d0 : Dev nD) : Fin 3 → Nat :=
  let c4_i32_47 : BitVec 32 := 4#32
  let c1_i32_45 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v70 : BitVec 32 := Scalar.subi c1_i32_45 v2
  let v72 : BitVec 32 := Scalar.muli c4_i32_47 v70
  let c2_i32_48 : BitVec 32 := 2#32
  let c1_i32_46 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v71 : BitVec 32 := Scalar.subi c1_i32_46 v5
  let v73 : BitVec 32 := Scalar.muli c2_i32_48 v71
  let v74 : BitVec 32 := Scalar.addi v72 v73
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v75 : BitVec 32 := Scalar.addi v74 v8
  let c0_i32_387 : BitVec 32 := 0#32
  let c0_i32_388 : BitVec 32 := 0#32
  ![v75.toNat, 0, 0]
def k0_dev28 (d0 : Dev nD) : Nat :=
  let c0_i32_382 : BitVec 32 := 0#32
  let c1_i32_45 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v70 : BitVec 32 := Scalar.subi c1_i32_45 v2
  let c4_i32_381 : BitVec 32 := 4#32
  let v461 : BitVec 32 := Scalar.muli v70 c4_i32_381
  let v462 : BitVec 32 := Scalar.addi c0_i32_382 v461
  let c1_i32_46 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v71 : BitVec 32 := Scalar.subi c1_i32_46 v5
  let c2_i32_383 : BitVec 32 := 2#32
  let v463 : BitVec 32 := Scalar.muli v71 c2_i32_383
  let v464 : BitVec 32 := Scalar.addi v462 v463
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_384 : BitVec 32 := 1#32
  let v465 : BitVec 32 := Scalar.muli v8 c1_i32_384
  let v466 : BitVec 32 := Scalar.addi v464 v465
  v466.toNat
def k0_dev29 (d0 : Dev nD) : Nat :=
  let c0_i32_394 : BitVec 32 := 0#32
  let c1_i32_45 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v70 : BitVec 32 := Scalar.subi c1_i32_45 v2
  let c4_i32_393 : BitVec 32 := 4#32
  let v475 : BitVec 32 := Scalar.muli v70 c4_i32_393
  let v476 : BitVec 32 := Scalar.addi c0_i32_394 v475
  let c1_i32_46 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v71 : BitVec 32 := Scalar.subi c1_i32_46 v5
  let c2_i32_395 : BitVec 32 := 2#32
  let v477 : BitVec 32 := Scalar.muli v71 c2_i32_395
  let v478 : BitVec 32 := Scalar.addi v476 v477
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_396 : BitVec 32 := 1#32
  let v479 : BitVec 32 := Scalar.muli v8 c1_i32_396
  let v480 : BitVec 32 := Scalar.addi v478 v479
  v480.toNat
def k0_off28 (d0 : Dev nD) : Fin 3 → Nat :=
  let c4_i32_47 : BitVec 32 := 4#32
  let c1_i32_45 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v70 : BitVec 32 := Scalar.subi c1_i32_45 v2
  let v72 : BitVec 32 := Scalar.muli c4_i32_47 v70
  let c2_i32_48 : BitVec 32 := 2#32
  let c1_i32_46 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v71 : BitVec 32 := Scalar.subi c1_i32_46 v5
  let v73 : BitVec 32 := Scalar.muli c2_i32_48 v71
  let v74 : BitVec 32 := Scalar.addi v72 v73
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v75 : BitVec 32 := Scalar.addi v74 v8
  let c0_i32_411 : BitVec 32 := 0#32
  let c0_i32_412 : BitVec 32 := 0#32
  ![v75.toNat, 0, 0]
def k0_dev30 (d0 : Dev nD) : Nat :=
  let c0_i32_406 : BitVec 32 := 0#32
  let c1_i32_45 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v70 : BitVec 32 := Scalar.subi c1_i32_45 v2
  let c4_i32_405 : BitVec 32 := 4#32
  let v489 : BitVec 32 := Scalar.muli v70 c4_i32_405
  let v490 : BitVec 32 := Scalar.addi c0_i32_406 v489
  let c1_i32_46 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v71 : BitVec 32 := Scalar.subi c1_i32_46 v5
  let c2_i32_407 : BitVec 32 := 2#32
  let v491 : BitVec 32 := Scalar.muli v71 c2_i32_407
  let v492 : BitVec 32 := Scalar.addi v490 v491
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_408 : BitVec 32 := 1#32
  let v493 : BitVec 32 := Scalar.muli v8 c1_i32_408
  let v494 : BitVec 32 := Scalar.addi v492 v493
  v494.toNat
def k0_off29 (d0 : Dev nD) : Fin 3 → Nat :=
  let c4_i32_52 : BitVec 32 := 4#32
  let c1_i32_49 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v76 : BitVec 32 := Scalar.subi c1_i32_49 v2
  let v79 : BitVec 32 := Scalar.muli c4_i32_52 v76
  let c2_i32_53 : BitVec 32 := 2#32
  let c1_i32_50 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v77 : BitVec 32 := Scalar.subi c1_i32_50 v5
  let v80 : BitVec 32 := Scalar.muli c2_i32_53 v77
  let v81 : BitVec 32 := Scalar.addi v79 v80
  let c1_i32_51 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v78 : BitVec 32 := Scalar.subi c1_i32_51 v8
  let v82 : BitVec 32 := Scalar.addi v81 v78
  let c0_i32_422 : BitVec 32 := 0#32
  let c0_i32_423 : BitVec 32 := 0#32
  ![v82.toNat, 0, 0]
def k0_dev31 (d0 : Dev nD) : Nat :=
  let c0_i32_417 : BitVec 32 := 0#32
  let c1_i32_49 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v76 : BitVec 32 := Scalar.subi c1_i32_49 v2
  let c4_i32_416 : BitVec 32 := 4#32
  let v503 : BitVec 32 := Scalar.muli v76 c4_i32_416
  let v504 : BitVec 32 := Scalar.addi c0_i32_417 v503
  let c1_i32_50 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v77 : BitVec 32 := Scalar.subi c1_i32_50 v5
  let c2_i32_418 : BitVec 32 := 2#32
  let v505 : BitVec 32 := Scalar.muli v77 c2_i32_418
  let v506 : BitVec 32 := Scalar.addi v504 v505
  let c1_i32_51 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v78 : BitVec 32 := Scalar.subi c1_i32_51 v8
  let c1_i32_419 : BitVec 32 := 1#32
  let v507 : BitVec 32 := Scalar.muli v78 c1_i32_419
  let v508 : BitVec 32 := Scalar.addi v506 v507
  v508.toNat
def k0_off30 (d0 : Dev nD) : Fin 3 → Nat :=
  let c4_i32_52 : BitVec 32 := 4#32
  let c1_i32_49 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v76 : BitVec 32 := Scalar.subi c1_i32_49 v2
  let v79 : BitVec 32 := Scalar.muli c4_i32_52 v76
  let c2_i32_53 : BitVec 32 := 2#32
  let c1_i32_50 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v77 : BitVec 32 := Scalar.subi c1_i32_50 v5
  let v80 : BitVec 32 := Scalar.muli c2_i32_53 v77
  let v81 : BitVec 32 := Scalar.addi v79 v80
  let c1_i32_51 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v78 : BitVec 32 := Scalar.subi c1_i32_51 v8
  let v82 : BitVec 32 := Scalar.addi v81 v78
  let c0_i32_434 : BitVec 32 := 0#32
  let c0_i32_435 : BitVec 32 := 0#32
  ![v82.toNat, 0, 0]
def k0_dev32 (d0 : Dev nD) : Nat :=
  let c0_i32_429 : BitVec 32 := 0#32
  let c1_i32_49 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v76 : BitVec 32 := Scalar.subi c1_i32_49 v2
  let c4_i32_428 : BitVec 32 := 4#32
  let v517 : BitVec 32 := Scalar.muli v76 c4_i32_428
  let v518 : BitVec 32 := Scalar.addi c0_i32_429 v517
  let c1_i32_50 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v77 : BitVec 32 := Scalar.subi c1_i32_50 v5
  let c2_i32_430 : BitVec 32 := 2#32
  let v519 : BitVec 32 := Scalar.muli v77 c2_i32_430
  let v520 : BitVec 32 := Scalar.addi v518 v519
  let c1_i32_51 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v78 : BitVec 32 := Scalar.subi c1_i32_51 v8
  let c1_i32_431 : BitVec 32 := 1#32
  let v521 : BitVec 32 := Scalar.muli v78 c1_i32_431
  let v522 : BitVec 32 := Scalar.addi v520 v521
  v522.toNat
def k0_off31 (d0 : Dev nD) : Fin 3 → Nat :=
  let c4_i32_52 : BitVec 32 := 4#32
  let c1_i32_49 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v76 : BitVec 32 := Scalar.subi c1_i32_49 v2
  let v79 : BitVec 32 := Scalar.muli c4_i32_52 v76
  let c2_i32_53 : BitVec 32 := 2#32
  let c1_i32_50 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v77 : BitVec 32 := Scalar.subi c1_i32_50 v5
  let v80 : BitVec 32 := Scalar.muli c2_i32_53 v77
  let v81 : BitVec 32 := Scalar.addi v79 v80
  let c1_i32_51 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v78 : BitVec 32 := Scalar.subi c1_i32_51 v8
  let v82 : BitVec 32 := Scalar.addi v81 v78
  let c0_i32_446 : BitVec 32 := 0#32
  let c0_i32_447 : BitVec 32 := 0#32
  ![v82.toNat, 0, 0]
def k0_dev33 (d0 : Dev nD) : Nat :=
  let c0_i32_441 : BitVec 32 := 0#32
  let c1_i32_49 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v76 : BitVec 32 := Scalar.subi c1_i32_49 v2
  let c4_i32_440 : BitVec 32 := 4#32
  let v531 : BitVec 32 := Scalar.muli v76 c4_i32_440
  let v532 : BitVec 32 := Scalar.addi c0_i32_441 v531
  let c1_i32_50 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v77 : BitVec 32 := Scalar.subi c1_i32_50 v5
  let c2_i32_442 : BitVec 32 := 2#32
  let v533 : BitVec 32 := Scalar.muli v77 c2_i32_442
  let v534 : BitVec 32 := Scalar.addi v532 v533
  let c1_i32_51 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v78 : BitVec 32 := Scalar.subi c1_i32_51 v8
  let c1_i32_443 : BitVec 32 := 1#32
  let v535 : BitVec 32 := Scalar.muli v78 c1_i32_443
  let v536 : BitVec 32 := Scalar.addi v534 v535
  v536.toNat
def k0_dev34 (d0 : Dev nD) : Nat :=
  let c0_i32_453 : BitVec 32 := 0#32
  let c1_i32_49 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v76 : BitVec 32 := Scalar.subi c1_i32_49 v2
  let c4_i32_452 : BitVec 32 := 4#32
  let v545 : BitVec 32 := Scalar.muli v76 c4_i32_452
  let v546 : BitVec 32 := Scalar.addi c0_i32_453 v545
  let c1_i32_50 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v77 : BitVec 32 := Scalar.subi c1_i32_50 v5
  let c2_i32_454 : BitVec 32 := 2#32
  let v547 : BitVec 32 := Scalar.muli v77 c2_i32_454
  let v548 : BitVec 32 := Scalar.addi v546 v547
  let c1_i32_51 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v78 : BitVec 32 := Scalar.subi c1_i32_51 v8
  let c1_i32_455 : BitVec 32 := 1#32
  let v549 : BitVec 32 := Scalar.muli v78 c1_i32_455
  let v550 : BitVec 32 := Scalar.addi v548 v549
  v550.toNat
def k0_off32 (d0 : Dev nD) : Fin 3 → Nat :=
  let c4_i32_52 : BitVec 32 := 4#32
  let c1_i32_49 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v76 : BitVec 32 := Scalar.subi c1_i32_49 v2
  let v79 : BitVec 32 := Scalar.muli c4_i32_52 v76
  let c2_i32_53 : BitVec 32 := 2#32
  let c1_i32_50 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v77 : BitVec 32 := Scalar.subi c1_i32_50 v5
  let v80 : BitVec 32 := Scalar.muli c2_i32_53 v77
  let v81 : BitVec 32 := Scalar.addi v79 v80
  let c1_i32_51 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v78 : BitVec 32 := Scalar.subi c1_i32_51 v8
  let v82 : BitVec 32 := Scalar.addi v81 v78
  let c0_i32_470 : BitVec 32 := 0#32
  let c0_i32_471 : BitVec 32 := 0#32
  ![v82.toNat, 0, 0]
def k0_dev35 (d0 : Dev nD) : Nat :=
  let c0_i32_465 : BitVec 32 := 0#32
  let c1_i32_49 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v76 : BitVec 32 := Scalar.subi c1_i32_49 v2
  let c4_i32_464 : BitVec 32 := 4#32
  let v559 : BitVec 32 := Scalar.muli v76 c4_i32_464
  let v560 : BitVec 32 := Scalar.addi c0_i32_465 v559
  let c1_i32_50 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v77 : BitVec 32 := Scalar.subi c1_i32_50 v5
  let c2_i32_466 : BitVec 32 := 2#32
  let v561 : BitVec 32 := Scalar.muli v77 c2_i32_466
  let v562 : BitVec 32 := Scalar.addi v560 v561
  let c1_i32_51 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v78 : BitVec 32 := Scalar.subi c1_i32_51 v8
  let c1_i32_467 : BitVec 32 := 1#32
  let v563 : BitVec 32 := Scalar.muli v78 c1_i32_467
  let v564 : BitVec 32 := Scalar.addi v562 v563
  v564.toNat
-- ==== KernelIdeal.lean ====
abbrev S8x2048x1282 : Shape := ⟨3, ![8, 2048, 1282]⟩
abbrev S8x128x1024 : Shape := ⟨3, ![8, 128, 1024]⟩
abbrev S8x1024x256 : Shape := ⟨3, ![8, 1024, 256]⟩
abbrev S8x256x2048 : Shape := ⟨3, ![8, 256, 2048]⟩
abbrev S5x7 : Shape := ⟨2, ![5, 7]⟩
abbrev S5 : Shape := ⟨1, ![5]⟩
abbrev S1 : Shape := ⟨1, ![1]⟩
abbrev S_ : Shape := ⟨0, ![]⟩
abbrev S1x2048x1282 : Shape := ⟨3, ![1, 2048, 1282]⟩
abbrev S2048x1282 : Shape := ⟨2, ![2048, 1282]⟩
abbrev S1x128x1024 : Shape := ⟨3, ![1, 128, 1024]⟩
abbrev S128x1024 : Shape := ⟨2, ![128, 1024]⟩
abbrev S1x1024x256 : Shape := ⟨3, ![1, 1024, 256]⟩
abbrev S1024x256 : Shape := ⟨2, ![1024, 256]⟩
abbrev S1x256x2048 : Shape := ⟨3, ![1, 256, 2048]⟩
abbrev S256x2048 : Shape := ⟨2, ![256, 2048]⟩
abbrev S1x1 : Shape := ⟨2, ![1, 1]⟩

abbrev nBuf : Space → Nat
  | .hbm => 10
  | .vmem => 0
  | .smem => 0
  | _ => 0

abbrev bufTy : (tb : Table) → Fin (tcTables nBuf tb) → BufTy
  | .hbm, ⟨0, _⟩ => ⟨S8x2048x1282, .bf16⟩
  | .hbm, ⟨1, _⟩ => ⟨S8x128x1024, .bf16⟩
  | .hbm, ⟨2, _⟩ => ⟨S8x1024x256, .bf16⟩
  | .hbm, ⟨3, _⟩ => ⟨S8x1024x256, .bf16⟩
  | .hbm, ⟨4, _⟩ => ⟨S8x256x2048, .bf16⟩
  | .hbm, ⟨5, _⟩ => ⟨S8x2048x1282, .bf16⟩
  | .hbm, ⟨6, _⟩ => ⟨S8x128x1024, .bf16⟩
  | .hbm, ⟨7, _⟩ => ⟨S8x1024x256, .bf16⟩
  | .hbm, ⟨8, _⟩ => ⟨S8x1024x256, .bf16⟩
  | .hbm, ⟨9, _⟩ => ⟨S8x256x2048, .bf16⟩
  | _, _ => ⟨S8x2048x1282, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_off2 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_10 : BitVec 32 := 0#32
  let c0_i32_11 : BitVec 32 := 0#32
  ![v12.toNat, 0, 0]
def k0_off3 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_15 : BitVec 32 := 0#32
  let c0_i32_16 : BitVec 32 := 0#32
  ![v12.toNat, 0, 0]
def k0_off4 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_24 : BitVec 32 := 0#32
  let c0_i32_25 : BitVec 32 := 0#32
  ![v12.toNat, 0, 0]
def k0_off5 (d0 : Dev nD) : Fin 3 → Nat :=
  let c4_i32_29 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v44 : BitVec 32 := Scalar.muli c4_i32_29 v2
  let c2_i32_30 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v45 : BitVec 32 := Scalar.muli c2_i32_30 v5
  let v46 : BitVec 32 := Scalar.addi v44 v45
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_28 v8
  let v47 : BitVec 32 := Scalar.addi v46 v43
  let c0_i32_64 : BitVec 32 := 0#32
  let c0_i32_65 : BitVec 32 := 0#32
  ![v47.toNat, 0, 0]
def k0_dev1 (d0 : Dev nD) : Nat :=
  let c0_i32_59 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_58 : BitVec 32 := 4#32
  let v83 : BitVec 32 := Scalar.muli v2 c4_i32_58
  let v84 : BitVec 32 := Scalar.addi c0_i32_59 v83
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_60 : BitVec 32 := 2#32
  let v85 : BitVec 32 := Scalar.muli v5 c2_i32_60
  let v86 : BitVec 32 := Scalar.addi v84 v85
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_28 v8
  let c1_i32_61 : BitVec 32 := 1#32
  let v87 : BitVec 32 := Scalar.muli v43 c1_i32_61
  let v88 : BitVec 32 := Scalar.addi v86 v87
  v88.toNat
def k0_off6 (d0 : Dev nD) : Fin 3 → Nat :=
  let c4_i32_29 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v44 : BitVec 32 := Scalar.muli c4_i32_29 v2
  let c2_i32_30 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v45 : BitVec 32 := Scalar.muli c2_i32_30 v5
  let v46 : BitVec 32 := Scalar.addi v44 v45
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_28 v8
  let v47 : BitVec 32 := Scalar.addi v46 v43
  let c0_i32_76 : BitVec 32 := 0#32
  let c0_i32_77 : BitVec 32 := 0#32
  ![v47.toNat, 0, 0]
def k0_dev2 (d0 : Dev nD) : Nat :=
  let c0_i32_71 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_70 : BitVec 32 := 4#32
  let v97 : BitVec 32 := Scalar.muli v2 c4_i32_70
  let v98 : BitVec 32 := Scalar.addi c0_i32_71 v97
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_72 : BitVec 32 := 2#32
  let v99 : BitVec 32 := Scalar.muli v5 c2_i32_72
  let v100 : BitVec 32 := Scalar.addi v98 v99
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_28 v8
  let c1_i32_73 : BitVec 32 := 1#32
  let v101 : BitVec 32 := Scalar.muli v43 c1_i32_73
  let v102 : BitVec 32 := Scalar.addi v100 v101
  v102.toNat
def k0_off7 (d0 : Dev nD) : Fin 3 → Nat :=
  let c4_i32_29 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v44 : BitVec 32 := Scalar.muli c4_i32_29 v2
  let c2_i32_30 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v45 : BitVec 32 := Scalar.muli c2_i32_30 v5
  let v46 : BitVec 32 := Scalar.addi v44 v45
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_28 v8
  let v47 : BitVec 32 := Scalar.addi v46 v43
  let c0_i32_88 : BitVec 32 := 0#32
  let c0_i32_89 : BitVec 32 := 0#32
  ![v47.toNat, 0, 0]
def k0_dev3 (d0 : Dev nD) : Nat :=
  let c0_i32_83 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_82 : BitVec 32 := 4#32
  let v111 : BitVec 32 := Scalar.muli v2 c4_i32_82
  let v112 : BitVec 32 := Scalar.addi c0_i32_83 v111
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_84 : BitVec 32 := 2#32
  let v113 : BitVec 32 := Scalar.muli v5 c2_i32_84
  let v114 : BitVec 32 := Scalar.addi v112 v113
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_28 v8
  let c1_i32_85 : BitVec 32 := 1#32
  let v115 : BitVec 32 := Scalar.muli v43 c1_i32_85
  let v116 : BitVec 32 := Scalar.addi v114 v115
  v116.toNat
def k0_dev4 (d0 : Dev nD) : Nat :=
  let c0_i32_95 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_94 : BitVec 32 := 4#32
  let v125 : BitVec 32 := Scalar.muli v2 c4_i32_94
  let v126 : BitVec 32 := Scalar.addi c0_i32_95 v125
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_96 : BitVec 32 := 2#32
  let v127 : BitVec 32 := Scalar.muli v5 c2_i32_96
  let v128 : BitVec 32 := Scalar.addi v126 v127
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_28 v8
  let c1_i32_97 : BitVec 32 := 1#32
  let v129 : BitVec 32 := Scalar.muli v43 c1_i32_97
  let v130 : BitVec 32 := Scalar.addi v128 v129
  v130.toNat
def k0_off8 (d0 : Dev nD) : Fin 3 → Nat :=
  let c4_i32_29 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v44 : BitVec 32 := Scalar.muli c4_i32_29 v2
  let c2_i32_30 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v45 : BitVec 32 := Scalar.muli c2_i32_30 v5
  let v46 : BitVec 32 := Scalar.addi v44 v45
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_28 v8
  let v47 : BitVec 32 := Scalar.addi v46 v43
  let c0_i32_112 : BitVec 32 := 0#32
  let c0_i32_113 : BitVec 32 := 0#32
  ![v47.toNat, 0, 0]
def k0_dev5 (d0 : Dev nD) : Nat :=
  let c0_i32_107 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_106 : BitVec 32 := 4#32
  let v139 : BitVec 32 := Scalar.muli v2 c4_i32_106
  let v140 : BitVec 32 := Scalar.addi c0_i32_107 v139
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_108 : BitVec 32 := 2#32
  let v141 : BitVec 32 := Scalar.muli v5 c2_i32_108
  let v142 : BitVec 32 := Scalar.addi v140 v141
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_28 v8
  let c1_i32_109 : BitVec 32 := 1#32
  let v143 : BitVec 32 := Scalar.muli v43 c1_i32_109
  let v144 : BitVec 32 := Scalar.addi v142 v143
  v144.toNat
def k0_off9 (d0 : Dev nD) : Fin 3 → Nat :=
  let c4_i32_32 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v49 : BitVec 32 := Scalar.muli c4_i32_32 v2
  let c2_i32_33 : BitVec 32 := 2#32
  let c1_i32_31 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_31 v5
  let v50 : BitVec 32 := Scalar.muli c2_i32_33 v48
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.addi v51 v8
  let c0_i32_124 : BitVec 32 := 0#32
  let c0_i32_125 : BitVec 32 := 0#32
  ![v52.toNat, 0, 0]
def k0_dev6 (d0 : Dev nD) : Nat :=
  let c0_i32_119 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_118 : BitVec 32 := 4#32
  let v153 : BitVec 32 := Scalar.muli v2 c4_i32_118
  let v154 : BitVec 32 := Scalar.addi c0_i32_119 v153
  let c1_i32_31 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_31 v5
  let c2_i32_120 : BitVec 32 := 2#32
  let v155 : BitVec 32 := Scalar.muli v48 c2_i32_120
  let v156 : BitVec 32 := Scalar.addi v154 v155
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_121 : BitVec 32 := 1#32
  let v157 : BitVec 32 := Scalar.muli v8 c1_i32_121
  let v158 : BitVec 32 := Scalar.addi v156 v157
  v158.toNat
def k0_off10 (d0 : Dev nD) : Fin 3 → Nat :=
  let c4_i32_32 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v49 : BitVec 32 := Scalar.muli c4_i32_32 v2
  let c2_i32_33 : BitVec 32 := 2#32
  let c1_i32_31 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_31 v5
  let v50 : BitVec 32 := Scalar.muli c2_i32_33 v48
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.addi v51 v8
  let c0_i32_136 : BitVec 32 := 0#32
  let c0_i32_137 : BitVec 32 := 0#32
  ![v52.toNat, 0, 0]
def k0_dev7 (d0 : Dev nD) : Nat :=
  let c0_i32_131 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_130 : BitVec 32 := 4#32
  let v167 : BitVec 32 := Scalar.muli v2 c4_i32_130
  let v168 : BitVec 32 := Scalar.addi c0_i32_131 v167
  let c1_i32_31 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_31 v5
  let c2_i32_132 : BitVec 32 := 2#32
  let v169 : BitVec 32 := Scalar.muli v48 c2_i32_132
  let v170 : BitVec 32 := Scalar.addi v168 v169
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_133 : BitVec 32 := 1#32
  let v171 : BitVec 32 := Scalar.muli v8 c1_i32_133
  let v172 : BitVec 32 := Scalar.addi v170 v171
  v172.toNat
def k0_off11 (d0 : Dev nD) : Fin 3 → Nat :=
  let c4_i32_32 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v49 : BitVec 32 := Scalar.muli c4_i32_32 v2
  let c2_i32_33 : BitVec 32 := 2#32
  let c1_i32_31 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_31 v5
  let v50 : BitVec 32 := Scalar.muli c2_i32_33 v48
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.addi v51 v8
  let c0_i32_148 : BitVec 32 := 0#32
  let c0_i32_149 : BitVec 32 := 0#32
  ![v52.toNat, 0, 0]
def k0_dev8 (d0 : Dev nD) : Nat :=
  let c0_i32_143 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_142 : BitVec 32 := 4#32
  let v181 : BitVec 32 := Scalar.muli v2 c4_i32_142
  let v182 : BitVec 32 := Scalar.addi c0_i32_143 v181
  let c1_i32_31 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_31 v5
  let c2_i32_144 : BitVec 32 := 2#32
  let v183 : BitVec 32 := Scalar.muli v48 c2_i32_144
  let v184 : BitVec 32 := Scalar.addi v182 v183
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_145 : BitVec 32 := 1#32
  let v185 : BitVec 32 := Scalar.muli v8 c1_i32_145
  let v186 : BitVec 32 := Scalar.addi v184 v185
  v186.toNat
def k0_dev9 (d0 : Dev nD) : Nat :=
  let c0_i32_155 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_154 : BitVec 32 := 4#32
  let v195 : BitVec 32 := Scalar.muli v2 c4_i32_154
  let v196 : BitVec 32 := Scalar.addi c0_i32_155 v195
  let c1_i32_31 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_31 v5
  let c2_i32_156 : BitVec 32 := 2#32
  let v197 : BitVec 32 := Scalar.muli v48 c2_i32_156
  let v198 : BitVec 32 := Scalar.addi v196 v197
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_157 : BitVec 32 := 1#32
  let v199 : BitVec 32 := Scalar.muli v8 c1_i32_157
  let v200 : BitVec 32 := Scalar.addi v198 v199
  v200.toNat
def k0_off12 (d0 : Dev nD) : Fin 3 → Nat :=
  let c4_i32_32 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v49 : BitVec 32 := Scalar.muli c4_i32_32 v2
  let c2_i32_33 : BitVec 32 := 2#32
  let c1_i32_31 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_31 v5
  let v50 : BitVec 32 := Scalar.muli c2_i32_33 v48
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.addi v51 v8
  let c0_i32_172 : BitVec 32 := 0#32
  let c0_i32_173 : BitVec 32 := 0#32
  ![v52.toNat, 0, 0]
def k0_dev10 (d0 : Dev nD) : Nat :=
  let c0_i32_167 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_166 : BitVec 32 := 4#32
  let v209 : BitVec 32 := Scalar.muli v2 c4_i32_166
  let v210 : BitVec 32 := Scalar.addi c0_i32_167 v209
  let c1_i32_31 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_31 v5
  let c2_i32_168 : BitVec 32 := 2#32
  let v211 : BitVec 32 := Scalar.muli v48 c2_i32_168
  let v212 : BitVec 32 := Scalar.addi v210 v211
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_169 : BitVec 32 := 1#32
  let v213 : BitVec 32 := Scalar.muli v8 c1_i32_169
  let v214 : BitVec 32 := Scalar.addi v212 v213
  v214.toNat
def k0_off13 (d0 : Dev nD) : Fin 3 → Nat :=
  let c4_i32_36 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v55 : BitVec 32 := Scalar.muli c4_i32_36 v2
  let c2_i32_37 : BitVec 32 := 2#32
  let c1_i32_34 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v53 : BitVec 32 := Scalar.subi c1_i32_34 v5
  let v56 : BitVec 32 := Scalar.muli c2_i32_37 v53
  let v57 : BitVec 32 := Scalar.addi v55 v56
  let c1_i32_35 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v54 : BitVec 32 := Scalar.subi c1_i32_35 v8
  let v58 : BitVec 32 := Scalar.addi v57 v54
  let c0_i32_184 : BitVec 32 := 0#32
  let c0_i32_185 : BitVec 32 := 0#32
  ![v58.toNat, 0, 0]
def k0_dev11 (d0 : Dev nD) : Nat :=
  let c0_i32_179 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_178 : BitVec 32 := 4#32
  let v223 : BitVec 32 := Scalar.muli v2 c4_i32_178
  let v224 : BitVec 32 := Scalar.addi c0_i32_179 v223
  let c1_i32_34 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v53 : BitVec 32 := Scalar.subi c1_i32_34 v5
  let c2_i32_180 : BitVec 32 := 2#32
  let v225 : BitVec 32 := Scalar.muli v53 c2_i32_180
  let v226 : BitVec 32 := Scalar.addi v224 v225
  let c1_i32_35 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v54 : BitVec 32 := Scalar.subi c1_i32_35 v8
  let c1_i32_181 : BitVec 32 := 1#32
  let v227 : BitVec 32 := Scalar.muli v54 c1_i32_181
  let v228 : BitVec 32 := Scalar.addi v226 v227
  v228.toNat
def k0_off14 (d0 : Dev nD) : Fin 3 → Nat :=
  let c4_i32_36 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v55 : BitVec 32 := Scalar.muli c4_i32_36 v2
  let c2_i32_37 : BitVec 32 := 2#32
  let c1_i32_34 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v53 : BitVec 32 := Scalar.subi c1_i32_34 v5
  let v56 : BitVec 32 := Scalar.muli c2_i32_37 v53
  let v57 : BitVec 32 := Scalar.addi v55 v56
  let c1_i32_35 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v54 : BitVec 32 := Scalar.subi c1_i32_35 v8
  let v58 : BitVec 32 := Scalar.addi v57 v54
  let c0_i32_196 : BitVec 32 := 0#32
  let c0_i32_197 : BitVec 32 := 0#32
  ![v58.toNat, 0, 0]
def k0_dev12 (d0 : Dev nD) : Nat :=
  let c0_i32_191 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_190 : BitVec 32 := 4#32
  let v237 : BitVec 32 := Scalar.muli v2 c4_i32_190
  let v238 : BitVec 32 := Scalar.addi c0_i32_191 v237
  let c1_i32_34 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v53 : BitVec 32 := Scalar.subi c1_i32_34 v5
  let c2_i32_192 : BitVec 32 := 2#32
  let v239 : BitVec 32 := Scalar.muli v53 c2_i32_192
  let v240 : BitVec 32 := Scalar.addi v238 v239
  let c1_i32_35 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v54 : BitVec 32 := Scalar.subi c1_i32_35 v8
  let c1_i32_193 : BitVec 32 := 1#32
  let v241 : BitVec 32 := Scalar.muli v54 c1_i32_193
  let v242 : BitVec 32 := Scalar.addi v240 v241
  v242.toNat
def k0_off15 (d0 : Dev nD) : Fin 3 → Nat :=
  let c4_i32_36 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v55 : BitVec 32 := Scalar.muli c4_i32_36 v2
  let c2_i32_37 : BitVec 32 := 2#32
  let c1_i32_34 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v53 : BitVec 32 := Scalar.subi c1_i32_34 v5
  let v56 : BitVec 32 := Scalar.muli c2_i32_37 v53
  let v57 : BitVec 32 := Scalar.addi v55 v56
  let c1_i32_35 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v54 : BitVec 32 := Scalar.subi c1_i32_35 v8
  let v58 : BitVec 32 := Scalar.addi v57 v54
  let c0_i32_208 : BitVec 32 := 0#32
  let c0_i32_209 : BitVec 32 := 0#32
  ![v58.toNat, 0, 0]
def k0_dev13 (d0 : Dev nD) : Nat :=
  let c0_i32_203 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_202 : BitVec 32 := 4#32
  let v251 : BitVec 32 := Scalar.muli v2 c4_i32_202
  let v252 : BitVec 32 := Scalar.addi c0_i32_203 v251
  let c1_i32_34 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v53 : BitVec 32 := Scalar.subi c1_i32_34 v5
  let c2_i32_204 : BitVec 32 := 2#32
  let v253 : BitVec 32 := Scalar.muli v53 c2_i32_204
  let v254 : BitVec 32 := Scalar.addi v252 v253
  let c1_i32_35 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v54 : BitVec 32 := Scalar.subi c1_i32_35 v8
  let c1_i32_205 : BitVec 32 := 1#32
  let v255 : BitVec 32 := Scalar.muli v54 c1_i32_205
  let v256 : BitVec 32 := Scalar.addi v254 v255
  v256.toNat
def k0_dev14 (d0 : Dev nD) : Nat :=
  let c0_i32_215 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_214 : BitVec 32 := 4#32
  let v265 : BitVec 32 := Scalar.muli v2 c4_i32_214
  let v266 : BitVec 32 := Scalar.addi c0_i32_215 v265
  let c1_i32_34 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v53 : BitVec 32 := Scalar.subi c1_i32_34 v5
  let c2_i32_216 : BitVec 32 := 2#32
  let v267 : BitVec 32 := Scalar.muli v53 c2_i32_216
  let v268 : BitVec 32 := Scalar.addi v266 v267
  let c1_i32_35 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v54 : BitVec 32 := Scalar.subi c1_i32_35 v8
  let c1_i32_217 : BitVec 32 := 1#32
  let v269 : BitVec 32 := Scalar.muli v54 c1_i32_217
  let v270 : BitVec 32 := Scalar.addi v268 v269
  v270.toNat
def k0_off16 (d0 : Dev nD) : Fin 3 → Nat :=
  let c4_i32_36 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v55 : BitVec 32 := Scalar.muli c4_i32_36 v2
  let c2_i32_37 : BitVec 32 := 2#32
  let c1_i32_34 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v53 : BitVec 32 := Scalar.subi c1_i32_34 v5
  let v56 : BitVec 32 := Scalar.muli c2_i32_37 v53
  let v57 : BitVec 32 := Scalar.addi v55 v56
  let c1_i32_35 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v54 : BitVec 32 := Scalar.subi c1_i32_35 v8
  let v58 : BitVec 32 := Scalar.addi v57 v54
  let c0_i32_232 : BitVec 32 := 0#32
  let c0_i32_233 : BitVec 32 := 0#32
  ![v58.toNat, 0, 0]
def k0_dev15 (d0 : Dev nD) : Nat :=
  let c0_i32_227 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_226 : BitVec 32 := 4#32
  let v279 : BitVec 32 := Scalar.muli v2 c4_i32_226
  let v280 : BitVec 32 := Scalar.addi c0_i32_227 v279
  let c1_i32_34 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v53 : BitVec 32 := Scalar.subi c1_i32_34 v5
  let c2_i32_228 : BitVec 32 := 2#32
  let v281 : BitVec 32 := Scalar.muli v53 c2_i32_228
  let v282 : BitVec 32 := Scalar.addi v280 v281
  let c1_i32_35 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v54 : BitVec 32 := Scalar.subi c1_i32_35 v8
  let c1_i32_229 : BitVec 32 := 1#32
  let v283 : BitVec 32 := Scalar.muli v54 c1_i32_229
  let v284 : BitVec 32 := Scalar.addi v282 v283
  v284.toNat
def k0_off17 (d0 : Dev nD) : Fin 3 → Nat :=
  let c4_i32_39 : BitVec 32 := 4#32
  let c1_i32_38 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v59 : BitVec 32 := Scalar.subi c1_i32_38 v2
  let v60 : BitVec 32 := Scalar.muli c4_i32_39 v59
  let c2_i32_40 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v61 : BitVec 32 := Scalar.muli c2_i32_40 v5
  let v62 : BitVec 32 := Scalar.addi v60 v61
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v63 : BitVec 32 := Scalar.addi v62 v8
  let c0_i32_244 : BitVec 32 := 0#32
  let c0_i32_245 : BitVec 32 := 0#32
  ![v63.toNat, 0, 0]
def k0_dev16 (d0 : Dev nD) : Nat :=
  let c0_i32_239 : BitVec 32 := 0#32
  let c1_i32_38 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v59 : BitVec 32 := Scalar.subi c1_i32_38 v2
  let c4_i32_238 : BitVec 32 := 4#32
  let v293 : BitVec 32 := Scalar.muli v59 c4_i32_238
  let v294 : BitVec 32 := Scalar.addi c0_i32_239 v293
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_240 : BitVec 32 := 2#32
  let v295 : BitVec 32 := Scalar.muli v5 c2_i32_240
  let v296 : BitVec 32 := Scalar.addi v294 v295
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_241 : BitVec 32 := 1#32
  let v297 : BitVec 32 := Scalar.muli v8 c1_i32_241
  let v298 : BitVec 32 := Scalar.addi v296 v297
  v298.toNat
def k0_off18 (d0 : Dev nD) : Fin 3 → Nat :=
  let c4_i32_39 : BitVec 32 := 4#32
  let c1_i32_38 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v59 : BitVec 32 := Scalar.subi c1_i32_38 v2
  let v60 : BitVec 32 := Scalar.muli c4_i32_39 v59
  let c2_i32_40 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v61 : BitVec 32 := Scalar.muli c2_i32_40 v5
  let v62 : BitVec 32 := Scalar.addi v60 v61
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v63 : BitVec 32 := Scalar.addi v62 v8
  let c0_i32_256 : BitVec 32 := 0#32
  let c0_i32_257 : BitVec 32 := 0#32
  ![v63.toNat, 0, 0]
def k0_dev17 (d0 : Dev nD) : Nat :=
  let c0_i32_251 : BitVec 32 := 0#32
  let c1_i32_38 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v59 : BitVec 32 := Scalar.subi c1_i32_38 v2
  let c4_i32_250 : BitVec 32 := 4#32
  let v307 : BitVec 32 := Scalar.muli v59 c4_i32_250
  let v308 : BitVec 32 := Scalar.addi c0_i32_251 v307
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_252 : BitVec 32 := 2#32
  let v309 : BitVec 32 := Scalar.muli v5 c2_i32_252
  let v310 : BitVec 32 := Scalar.addi v308 v309
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_253 : BitVec 32 := 1#32
  let v311 : BitVec 32 := Scalar.muli v8 c1_i32_253
  let v312 : BitVec 32 := Scalar.addi v310 v311
  v312.toNat
def k0_off19 (d0 : Dev nD) : Fin 3 → Nat :=
  let c4_i32_39 : BitVec 32 := 4#32
  let c1_i32_38 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v59 : BitVec 32 := Scalar.subi c1_i32_38 v2
  let v60 : BitVec 32 := Scalar.muli c4_i32_39 v59
  let c2_i32_40 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v61 : BitVec 32 := Scalar.muli c2_i32_40 v5
  let v62 : BitVec 32 := Scalar.addi v60 v61
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v63 : BitVec 32 := Scalar.addi v62 v8
  let c0_i32_268 : BitVec 32 := 0#32
  let c0_i32_269 : BitVec 32 := 0#32
  ![v63.toNat, 0, 0]
def k0_dev18 (d0 : Dev nD) : Nat :=
  let c0_i32_263 : BitVec 32 := 0#32
  let c1_i32_38 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v59 : BitVec 32 := Scalar.subi c1_i32_38 v2
  let c4_i32_262 : BitVec 32 := 4#32
  let v321 : BitVec 32 := Scalar.muli v59 c4_i32_262
  let v322 : BitVec 32 := Scalar.addi c0_i32_263 v321
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_264 : BitVec 32 := 2#32
  let v323 : BitVec 32 := Scalar.muli v5 c2_i32_264
  let v324 : BitVec 32 := Scalar.addi v322 v323
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_265 : BitVec 32 := 1#32
  let v325 : BitVec 32 := Scalar.muli v8 c1_i32_265
  let v326 : BitVec 32 := Scalar.addi v324 v325
  v326.toNat
def k0_dev19 (d0 : Dev nD) : Nat :=
  let c0_i32_275 : BitVec 32 := 0#32
  let c1_i32_38 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v59 : BitVec 32 := Scalar.subi c1_i32_38 v2
  let c4_i32_274 : BitVec 32 := 4#32
  let v335 : BitVec 32 := Scalar.muli v59 c4_i32_274
  let v336 : BitVec 32 := Scalar.addi c0_i32_275 v335
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_276 : BitVec 32 := 2#32
  let v337 : BitVec 32 := Scalar.muli v5 c2_i32_276
  let v338 : BitVec 32 := Scalar.addi v336 v337
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_277 : BitVec 32 := 1#32
  let v339 : BitVec 32 := Scalar.muli v8 c1_i32_277
  let v340 : BitVec 32 := Scalar.addi v338 v339
  v340.toNat
def k0_off20 (d0 : Dev nD) : Fin 3 → Nat :=
  let c4_i32_39 : BitVec 32 := 4#32
  let c1_i32_38 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v59 : BitVec 32 := Scalar.subi c1_i32_38 v2
  let v60 : BitVec 32 := Scalar.muli c4_i32_39 v59
  let c2_i32_40 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v61 : BitVec 32 := Scalar.muli c2_i32_40 v5
  let v62 : BitVec 32 := Scalar.addi v60 v61
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v63 : BitVec 32 := Scalar.addi v62 v8
  let c0_i32_292 : BitVec 32 := 0#32
  let c0_i32_293 : BitVec 32 := 0#32
  ![v63.toNat, 0, 0]
def k0_dev20 (d0 : Dev nD) : Nat :=
  let c0_i32_287 : BitVec 32 := 0#32
  let c1_i32_38 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v59 : BitVec 32 := Scalar.subi c1_i32_38 v2
  let c4_i32_286 : BitVec 32 := 4#32
  let v349 : BitVec 32 := Scalar.muli v59 c4_i32_286
  let v350 : BitVec 32 := Scalar.addi c0_i32_287 v349
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_288 : BitVec 32 := 2#32
  let v351 : BitVec 32 := Scalar.muli v5 c2_i32_288
  let v352 : BitVec 32 := Scalar.addi v350 v351
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_289 : BitVec 32 := 1#32
  let v353 : BitVec 32 := Scalar.muli v8 c1_i32_289
  let v354 : BitVec 32 := Scalar.addi v352 v353
  v354.toNat
def k0_off21 (d0 : Dev nD) : Fin 3 → Nat :=
  let c4_i32_43 : BitVec 32 := 4#32
  let c1_i32_41 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v64 : BitVec 32 := Scalar.subi c1_i32_41 v2
  let v66 : BitVec 32 := Scalar.muli c4_i32_43 v64
  let c2_i32_44 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v67 : BitVec 32 := Scalar.muli c2_i32_44 v5
  let v68 : BitVec 32 := Scalar.addi v66 v67
  let c1_i32_42 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v65 : BitVec 32 := Scalar.subi c1_i32_42 v8
  let v69 : BitVec 32 := Scalar.addi v68 v65
  let c0_i32_304 : BitVec 32 := 0#32
  let c0_i32_305 : BitVec 32 := 0#32
  ![v69.toNat, 0, 0]
def k0_dev21 (d0 : Dev nD) : Nat :=
  let c0_i32_299 : BitVec 32 := 0#32
  let c1_i32_41 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v64 : BitVec 32 := Scalar.subi c1_i32_41 v2
  let c4_i32_298 : BitVec 32 := 4#32
  let v363 : BitVec 32 := Scalar.muli v64 c4_i32_298
  let v364 : BitVec 32 := Scalar.addi c0_i32_299 v363
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_300 : BitVec 32 := 2#32
  let v365 : BitVec 32 := Scalar.muli v5 c2_i32_300
  let v366 : BitVec 32 := Scalar.addi v364 v365
  let c1_i32_42 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v65 : BitVec 32 := Scalar.subi c1_i32_42 v8
  let c1_i32_301 : BitVec 32 := 1#32
  let v367 : BitVec 32 := Scalar.muli v65 c1_i32_301
  let v368 : BitVec 32 := Scalar.addi v366 v367
  v368.toNat
def k0_off22 (d0 : Dev nD) : Fin 3 → Nat :=
  let c4_i32_43 : BitVec 32 := 4#32
  let c1_i32_41 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v64 : BitVec 32 := Scalar.subi c1_i32_41 v2
  let v66 : BitVec 32 := Scalar.muli c4_i32_43 v64
  let c2_i32_44 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v67 : BitVec 32 := Scalar.muli c2_i32_44 v5
  let v68 : BitVec 32 := Scalar.addi v66 v67
  let c1_i32_42 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v65 : BitVec 32 := Scalar.subi c1_i32_42 v8
  let v69 : BitVec 32 := Scalar.addi v68 v65
  let c0_i32_316 : BitVec 32 := 0#32
  let c0_i32_317 : BitVec 32 := 0#32
  ![v69.toNat, 0, 0]
def k0_dev22 (d0 : Dev nD) : Nat :=
  let c0_i32_311 : BitVec 32 := 0#32
  let c1_i32_41 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v64 : BitVec 32 := Scalar.subi c1_i32_41 v2
  let c4_i32_310 : BitVec 32 := 4#32
  let v377 : BitVec 32 := Scalar.muli v64 c4_i32_310
  let v378 : BitVec 32 := Scalar.addi c0_i32_311 v377
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_312 : BitVec 32 := 2#32
  let v379 : BitVec 32 := Scalar.muli v5 c2_i32_312
  let v380 : BitVec 32 := Scalar.addi v378 v379
  let c1_i32_42 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v65 : BitVec 32 := Scalar.subi c1_i32_42 v8
  let c1_i32_313 : BitVec 32 := 1#32
  let v381 : BitVec 32 := Scalar.muli v65 c1_i32_313
  let v382 : BitVec 32 := Scalar.addi v380 v381
  v382.toNat
def k0_off23 (d0 : Dev nD) : Fin 3 → Nat :=
  let c4_i32_43 : BitVec 32 := 4#32
  let c1_i32_41 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v64 : BitVec 32 := Scalar.subi c1_i32_41 v2
  let v66 : BitVec 32 := Scalar.muli c4_i32_43 v64
  let c2_i32_44 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v67 : BitVec 32 := Scalar.muli c2_i32_44 v5
  let v68 : BitVec 32 := Scalar.addi v66 v67
  let c1_i32_42 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v65 : BitVec 32 := Scalar.subi c1_i32_42 v8
  let v69 : BitVec 32 := Scalar.addi v68 v65
  let c0_i32_328 : BitVec 32 := 0#32
  let c0_i32_329 : BitVec 32 := 0#32
  ![v69.toNat, 0, 0]
def k0_dev23 (d0 : Dev nD) : Nat :=
  let c0_i32_323 : BitVec 32 := 0#32
  let c1_i32_41 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v64 : BitVec 32 := Scalar.subi c1_i32_41 v2
  let c4_i32_322 : BitVec 32 := 4#32
  let v391 : BitVec 32 := Scalar.muli v64 c4_i32_322
  let v392 : BitVec 32 := Scalar.addi c0_i32_323 v391
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_324 : BitVec 32 := 2#32
  let v393 : BitVec 32 := Scalar.muli v5 c2_i32_324
  let v394 : BitVec 32 := Scalar.addi v392 v393
  let c1_i32_42 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v65 : BitVec 32 := Scalar.subi c1_i32_42 v8
  let c1_i32_325 : BitVec 32 := 1#32
  let v395 : BitVec 32 := Scalar.muli v65 c1_i32_325
  let v396 : BitVec 32 := Scalar.addi v394 v395
  v396.toNat
def k0_dev24 (d0 : Dev nD) : Nat :=
  let c0_i32_335 : BitVec 32 := 0#32
  let c1_i32_41 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v64 : BitVec 32 := Scalar.subi c1_i32_41 v2
  let c4_i32_334 : BitVec 32 := 4#32
  let v405 : BitVec 32 := Scalar.muli v64 c4_i32_334
  let v406 : BitVec 32 := Scalar.addi c0_i32_335 v405
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_336 : BitVec 32 := 2#32
  let v407 : BitVec 32 := Scalar.muli v5 c2_i32_336
  let v408 : BitVec 32 := Scalar.addi v406 v407
  let c1_i32_42 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v65 : BitVec 32 := Scalar.subi c1_i32_42 v8
  let c1_i32_337 : BitVec 32 := 1#32
  let v409 : BitVec 32 := Scalar.muli v65 c1_i32_337
  let v410 : BitVec 32 := Scalar.addi v408 v409
  v410.toNat
def k0_off24 (d0 : Dev nD) : Fin 3 → Nat :=
  let c4_i32_43 : BitVec 32 := 4#32
  let c1_i32_41 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v64 : BitVec 32 := Scalar.subi c1_i32_41 v2
  let v66 : BitVec 32 := Scalar.muli c4_i32_43 v64
  let c2_i32_44 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v67 : BitVec 32 := Scalar.muli c2_i32_44 v5
  let v68 : BitVec 32 := Scalar.addi v66 v67
  let c1_i32_42 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v65 : BitVec 32 := Scalar.subi c1_i32_42 v8
  let v69 : BitVec 32 := Scalar.addi v68 v65
  let c0_i32_352 : BitVec 32 := 0#32
  let c0_i32_353 : BitVec 32 := 0#32
  ![v69.toNat, 0, 0]
def k0_dev25 (d0 : Dev nD) : Nat :=
  let c0_i32_347 : BitVec 32 := 0#32
  let c1_i32_41 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v64 : BitVec 32 := Scalar.subi c1_i32_41 v2
  let c4_i32_346 : BitVec 32 := 4#32
  let v419 : BitVec 32 := Scalar.muli v64 c4_i32_346
  let v420 : BitVec 32 := Scalar.addi c0_i32_347 v419
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_348 : BitVec 32 := 2#32
  let v421 : BitVec 32 := Scalar.muli v5 c2_i32_348
  let v422 : BitVec 32 := Scalar.addi v420 v421
  let c1_i32_42 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v65 : BitVec 32 := Scalar.subi c1_i32_42 v8
  let c1_i32_349 : BitVec 32 := 1#32
  let v423 : BitVec 32 := Scalar.muli v65 c1_i32_349
  let v424 : BitVec 32 := Scalar.addi v422 v423
  v424.toNat
def k0_off25 (d0 : Dev nD) : Fin 3 → Nat :=
  let c4_i32_47 : BitVec 32 := 4#32
  let c1_i32_45 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v70 : BitVec 32 := Scalar.subi c1_i32_45 v2
  let v72 : BitVec 32 := Scalar.muli c4_i32_47 v70
  let c2_i32_48 : BitVec 32 := 2#32
  let c1_i32_46 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v71 : BitVec 32 := Scalar.subi c1_i32_46 v5
  let v73 : BitVec 32 := Scalar.muli c2_i32_48 v71
  let v74 : BitVec 32 := Scalar.addi v72 v73
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v75 : BitVec 32 := Scalar.addi v74 v8
  let c0_i32_363 : BitVec 32 := 0#32
  let c0_i32_364 : BitVec 32 := 0#32
  ![v75.toNat, 0, 0]
def k0_dev26 (d0 : Dev nD) : Nat :=
  let c0_i32_358 : BitVec 32 := 0#32
  let c1_i32_45 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v70 : BitVec 32 := Scalar.subi c1_i32_45 v2
  let c4_i32_357 : BitVec 32 := 4#32
  let v433 : BitVec 32 := Scalar.muli v70 c4_i32_357
  let v434 : BitVec 32 := Scalar.addi c0_i32_358 v433
  let c1_i32_46 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v71 : BitVec 32 := Scalar.subi c1_i32_46 v5
  let c2_i32_359 : BitVec 32 := 2#32
  let v435 : BitVec 32 := Scalar.muli v71 c2_i32_359
  let v436 : BitVec 32 := Scalar.addi v434 v435
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_360 : BitVec 32 := 1#32
  let v437 : BitVec 32 := Scalar.muli v8 c1_i32_360
  let v438 : BitVec 32 := Scalar.addi v436 v437
  v438.toNat
def k0_off26 (d0 : Dev nD) : Fin 3 → Nat :=
  let c4_i32_47 : BitVec 32 := 4#32
  let c1_i32_45 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v70 : BitVec 32 := Scalar.subi c1_i32_45 v2
  let v72 : BitVec 32 := Scalar.muli c4_i32_47 v70
  let c2_i32_48 : BitVec 32 := 2#32
  let c1_i32_46 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v71 : BitVec 32 := Scalar.subi c1_i32_46 v5
  let v73 : BitVec 32 := Scalar.muli c2_i32_48 v71
  let v74 : BitVec 32 := Scalar.addi v72 v73
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v75 : BitVec 32 := Scalar.addi v74 v8
  let c0_i32_375 : BitVec 32 := 0#32
  let c0_i32_376 : BitVec 32 := 0#32
  ![v75.toNat, 0, 0]
def k0_dev27 (d0 : Dev nD) : Nat :=
  let c0_i32_370 : BitVec 32 := 0#32
  let c1_i32_45 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v70 : BitVec 32 := Scalar.subi c1_i32_45 v2
  let c4_i32_369 : BitVec 32 := 4#32
  let v447 : BitVec 32 := Scalar.muli v70 c4_i32_369
  let v448 : BitVec 32 := Scalar.addi c0_i32_370 v447
  let c1_i32_46 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v71 : BitVec 32 := Scalar.subi c1_i32_46 v5
  let c2_i32_371 : BitVec 32 := 2#32
  let v449 : BitVec 32 := Scalar.muli v71 c2_i32_371
  let v450 : BitVec 32 := Scalar.addi v448 v449
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_372 : BitVec 32 := 1#32
  let v451 : BitVec 32 := Scalar.muli v8 c1_i32_372
  let v452 : BitVec 32 := Scalar.addi v450 v451
  v452.toNat
def k0_off27 (d0 : Dev nD) : Fin 3 → Nat :=
  let c4_i32_47 : BitVec 32 := 4#32
  let c1_i32_45 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v70 : BitVec 32 := Scalar.subi c1_i32_45 v2
  let v72 : BitVec 32 := Scalar.muli c4_i32_47 v70
  let c2_i32_48 : BitVec 32 := 2#32
  let c1_i32_46 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v71 : BitVec 32 := Scalar.subi c1_i32_46 v5
  let v73 : BitVec 32 := Scalar.muli c2_i32_48 v71
  let v74 : BitVec 32 := Scalar.addi v72 v73
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v75 : BitVec 32 := Scalar.addi v74 v8
  let c0_i32_387 : BitVec 32 := 0#32
  let c0_i32_388 : BitVec 32 := 0#32
  ![v75.toNat, 0, 0]
def k0_dev28 (d0 : Dev nD) : Nat :=
  let c0_i32_382 : BitVec 32 := 0#32
  let c1_i32_45 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v70 : BitVec 32 := Scalar.subi c1_i32_45 v2
  let c4_i32_381 : BitVec 32 := 4#32
  let v461 : BitVec 32 := Scalar.muli v70 c4_i32_381
  let v462 : BitVec 32 := Scalar.addi c0_i32_382 v461
  let c1_i32_46 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v71 : BitVec 32 := Scalar.subi c1_i32_46 v5
  let c2_i32_383 : BitVec 32 := 2#32
  let v463 : BitVec 32 := Scalar.muli v71 c2_i32_383
  let v464 : BitVec 32 := Scalar.addi v462 v463
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_384 : BitVec 32 := 1#32
  let v465 : BitVec 32 := Scalar.muli v8 c1_i32_384
  let v466 : BitVec 32 := Scalar.addi v464 v465
  v466.toNat
def k0_dev29 (d0 : Dev nD) : Nat :=
  let c0_i32_394 : BitVec 32 := 0#32
  let c1_i32_45 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v70 : BitVec 32 := Scalar.subi c1_i32_45 v2
  let c4_i32_393 : BitVec 32 := 4#32
  let v475 : BitVec 32 := Scalar.muli v70 c4_i32_393
  let v476 : BitVec 32 := Scalar.addi c0_i32_394 v475
  let c1_i32_46 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v71 : BitVec 32 := Scalar.subi c1_i32_46 v5
  let c2_i32_395 : BitVec 32 := 2#32
  let v477 : BitVec 32 := Scalar.muli v71 c2_i32_395
  let v478 : BitVec 32 := Scalar.addi v476 v477
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_396 : BitVec 32 := 1#32
  let v479 : BitVec 32 := Scalar.muli v8 c1_i32_396
  let v480 : BitVec 32 := Scalar.addi v478 v479
  v480.toNat
def k0_off28 (d0 : Dev nD) : Fin 3 → Nat :=
  let c4_i32_47 : BitVec 32 := 4#32
  let c1_i32_45 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v70 : BitVec 32 := Scalar.subi c1_i32_45 v2
  let v72 : BitVec 32 := Scalar.muli c4_i32_47 v70
  let c2_i32_48 : BitVec 32 := 2#32
  let c1_i32_46 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v71 : BitVec 32 := Scalar.subi c1_i32_46 v5
  let v73 : BitVec 32 := Scalar.muli c2_i32_48 v71
  let v74 : BitVec 32 := Scalar.addi v72 v73
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v75 : BitVec 32 := Scalar.addi v74 v8
  let c0_i32_411 : BitVec 32 := 0#32
  let c0_i32_412 : BitVec 32 := 0#32
  ![v75.toNat, 0, 0]
def k0_dev30 (d0 : Dev nD) : Nat :=
  let c0_i32_406 : BitVec 32 := 0#32
  let c1_i32_45 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v70 : BitVec 32 := Scalar.subi c1_i32_45 v2
  let c4_i32_405 : BitVec 32 := 4#32
  let v489 : BitVec 32 := Scalar.muli v70 c4_i32_405
  let v490 : BitVec 32 := Scalar.addi c0_i32_406 v489
  let c1_i32_46 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v71 : BitVec 32 := Scalar.subi c1_i32_46 v5
  let c2_i32_407 : BitVec 32 := 2#32
  let v491 : BitVec 32 := Scalar.muli v71 c2_i32_407
  let v492 : BitVec 32 := Scalar.addi v490 v491
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_408 : BitVec 32 := 1#32
  let v493 : BitVec 32 := Scalar.muli v8 c1_i32_408
  let v494 : BitVec 32 := Scalar.addi v492 v493
  v494.toNat
def k0_off29 (d0 : Dev nD) : Fin 3 → Nat :=
  let c4_i32_52 : BitVec 32 := 4#32
  let c1_i32_49 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v76 : BitVec 32 := Scalar.subi c1_i32_49 v2
  let v79 : BitVec 32 := Scalar.muli c4_i32_52 v76
  let c2_i32_53 : BitVec 32 := 2#32
  let c1_i32_50 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v77 : BitVec 32 := Scalar.subi c1_i32_50 v5
  let v80 : BitVec 32 := Scalar.muli c2_i32_53 v77
  let v81 : BitVec 32 := Scalar.addi v79 v80
  let c1_i32_51 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v78 : BitVec 32 := Scalar.subi c1_i32_51 v8
  let v82 : BitVec 32 := Scalar.addi v81 v78
  let c0_i32_422 : BitVec 32 := 0#32
  let c0_i32_423 : BitVec 32 := 0#32
  ![v82.toNat, 0, 0]
def k0_dev31 (d0 : Dev nD) : Nat :=
  let c0_i32_417 : BitVec 32 := 0#32
  let c1_i32_49 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v76 : BitVec 32 := Scalar.subi c1_i32_49 v2
  let c4_i32_416 : BitVec 32 := 4#32
  let v503 : BitVec 32 := Scalar.muli v76 c4_i32_416
  let v504 : BitVec 32 := Scalar.addi c0_i32_417 v503
  let c1_i32_50 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v77 : BitVec 32 := Scalar.subi c1_i32_50 v5
  let c2_i32_418 : BitVec 32 := 2#32
  let v505 : BitVec 32 := Scalar.muli v77 c2_i32_418
  let v506 : BitVec 32 := Scalar.addi v504 v505
  let c1_i32_51 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v78 : BitVec 32 := Scalar.subi c1_i32_51 v8
  let c1_i32_419 : BitVec 32 := 1#32
  let v507 : BitVec 32 := Scalar.muli v78 c1_i32_419
  let v508 : BitVec 32 := Scalar.addi v506 v507
  v508.toNat
def k0_off30 (d0 : Dev nD) : Fin 3 → Nat :=
  let c4_i32_52 : BitVec 32 := 4#32
  let c1_i32_49 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v76 : BitVec 32 := Scalar.subi c1_i32_49 v2
  let v79 : BitVec 32 := Scalar.muli c4_i32_52 v76
  let c2_i32_53 : BitVec 32 := 2#32
  let c1_i32_50 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v77 : BitVec 32 := Scalar.subi c1_i32_50 v5
  let v80 : BitVec 32 := Scalar.muli c2_i32_53 v77
  let v81 : BitVec 32 := Scalar.addi v79 v80
  let c1_i32_51 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v78 : BitVec 32 := Scalar.subi c1_i32_51 v8
  let v82 : BitVec 32 := Scalar.addi v81 v78
  let c0_i32_434 : BitVec 32 := 0#32
  let c0_i32_435 : BitVec 32 := 0#32
  ![v82.toNat, 0, 0]
def k0_dev32 (d0 : Dev nD) : Nat :=
  let c0_i32_429 : BitVec 32 := 0#32
  let c1_i32_49 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v76 : BitVec 32 := Scalar.subi c1_i32_49 v2
  let c4_i32_428 : BitVec 32 := 4#32
  let v517 : BitVec 32 := Scalar.muli v76 c4_i32_428
  let v518 : BitVec 32 := Scalar.addi c0_i32_429 v517
  let c1_i32_50 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v77 : BitVec 32 := Scalar.subi c1_i32_50 v5
  let c2_i32_430 : BitVec 32 := 2#32
  let v519 : BitVec 32 := Scalar.muli v77 c2_i32_430
  let v520 : BitVec 32 := Scalar.addi v518 v519
  let c1_i32_51 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v78 : BitVec 32 := Scalar.subi c1_i32_51 v8
  let c1_i32_431 : BitVec 32 := 1#32
  let v521 : BitVec 32 := Scalar.muli v78 c1_i32_431
  let v522 : BitVec 32 := Scalar.addi v520 v521
  v522.toNat
def k0_off31 (d0 : Dev nD) : Fin 3 → Nat :=
  let c4_i32_52 : BitVec 32 := 4#32
  let c1_i32_49 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v76 : BitVec 32 := Scalar.subi c1_i32_49 v2
  let v79 : BitVec 32 := Scalar.muli c4_i32_52 v76
  let c2_i32_53 : BitVec 32 := 2#32
  let c1_i32_50 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v77 : BitVec 32 := Scalar.subi c1_i32_50 v5
  let v80 : BitVec 32 := Scalar.muli c2_i32_53 v77
  let v81 : BitVec 32 := Scalar.addi v79 v80
  let c1_i32_51 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v78 : BitVec 32 := Scalar.subi c1_i32_51 v8
  let v82 : BitVec 32 := Scalar.addi v81 v78
  let c0_i32_446 : BitVec 32 := 0#32
  let c0_i32_447 : BitVec 32 := 0#32
  ![v82.toNat, 0, 0]
def k0_dev33 (d0 : Dev nD) : Nat :=
  let c0_i32_441 : BitVec 32 := 0#32
  let c1_i32_49 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v76 : BitVec 32 := Scalar.subi c1_i32_49 v2
  let c4_i32_440 : BitVec 32 := 4#32
  let v531 : BitVec 32 := Scalar.muli v76 c4_i32_440
  let v532 : BitVec 32 := Scalar.addi c0_i32_441 v531
  let c1_i32_50 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v77 : BitVec 32 := Scalar.subi c1_i32_50 v5
  let c2_i32_442 : BitVec 32 := 2#32
  let v533 : BitVec 32 := Scalar.muli v77 c2_i32_442
  let v534 : BitVec 32 := Scalar.addi v532 v533
  let c1_i32_51 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v78 : BitVec 32 := Scalar.subi c1_i32_51 v8
  let c1_i32_443 : BitVec 32 := 1#32
  let v535 : BitVec 32 := Scalar.muli v78 c1_i32_443
  let v536 : BitVec 32 := Scalar.addi v534 v535
  v536.toNat
def k0_dev34 (d0 : Dev nD) : Nat :=
  let c0_i32_453 : BitVec 32 := 0#32
  let c1_i32_49 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v76 : BitVec 32 := Scalar.subi c1_i32_49 v2
  let c4_i32_452 : BitVec 32 := 4#32
  let v545 : BitVec 32 := Scalar.muli v76 c4_i32_452
  let v546 : BitVec 32 := Scalar.addi c0_i32_453 v545
  let c1_i32_50 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v77 : BitVec 32 := Scalar.subi c1_i32_50 v5
  let c2_i32_454 : BitVec 32 := 2#32
  let v547 : BitVec 32 := Scalar.muli v77 c2_i32_454
  let v548 : BitVec 32 := Scalar.addi v546 v547
  let c1_i32_51 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v78 : BitVec 32 := Scalar.subi c1_i32_51 v8
  let c1_i32_455 : BitVec 32 := 1#32
  let v549 : BitVec 32 := Scalar.muli v78 c1_i32_455
  let v550 : BitVec 32 := Scalar.addi v548 v549
  v550.toNat
def k0_off32 (d0 : Dev nD) : Fin 3 → Nat :=
  let c4_i32_52 : BitVec 32 := 4#32
  let c1_i32_49 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v76 : BitVec 32 := Scalar.subi c1_i32_49 v2
  let v79 : BitVec 32 := Scalar.muli c4_i32_52 v76
  let c2_i32_53 : BitVec 32 := 2#32
  let c1_i32_50 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v77 : BitVec 32 := Scalar.subi c1_i32_50 v5
  let v80 : BitVec 32 := Scalar.muli c2_i32_53 v77
  let v81 : BitVec 32 := Scalar.addi v79 v80
  let c1_i32_51 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v78 : BitVec 32 := Scalar.subi c1_i32_51 v8
  let v82 : BitVec 32 := Scalar.addi v81 v78
  let c0_i32_470 : BitVec 32 := 0#32
  let c0_i32_471 : BitVec 32 := 0#32
  ![v82.toNat, 0, 0]
def k0_dev35 (d0 : Dev nD) : Nat :=
  let c0_i32_465 : BitVec 32 := 0#32
  let c1_i32_49 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v76 : BitVec 32 := Scalar.subi c1_i32_49 v2
  let c4_i32_464 : BitVec 32 := 4#32
  let v559 : BitVec 32 := Scalar.muli v76 c4_i32_464
  let v560 : BitVec 32 := Scalar.addi c0_i32_465 v559
  let c1_i32_50 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v77 : BitVec 32 := Scalar.subi c1_i32_50 v5
  let c2_i32_466 : BitVec 32 := 2#32
  let v561 : BitVec 32 := Scalar.muli v77 c2_i32_466
  let v562 : BitVec 32 := Scalar.addi v560 v561
  let c1_i32_51 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v78 : BitVec 32 := Scalar.subi c1_i32_51 v8
  let c1_i32_467 : BitVec 32 := 1#32
  let v563 : BitVec 32 := Scalar.muli v78 c1_i32_467
  let v564 : BitVec 32 := Scalar.addi v562 v563
  v564.toNat
-- ==== ReferenceIdeal.lean ====
abbrev S64x2048x1282 : Shape := ⟨3, ![64, 2048, 1282]⟩
abbrev S64x128x1024 : Shape := ⟨3, ![64, 128, 1024]⟩
abbrev S64x1024x256 : Shape := ⟨3, ![64, 1024, 256]⟩
abbrev S64x256x2048 : Shape := ⟨3, ![64, 256, 2048]⟩
abbrev S8x8x2048x1282 : Shape := ⟨4, ![8, 8, 2048, 1282]⟩
abbrev S8x8x128x1024 : Shape := ⟨4, ![8, 8, 128, 1024]⟩
abbrev S8x8x1024x256 : Shape := ⟨4, ![8, 8, 1024, 256]⟩
abbrev S8x8x256x2048 : Shape := ⟨4, ![8, 8, 256, 2048]⟩

abbrev nBuf : Space → Nat
  | .hbm => 20
  | .vmem => 0
  | .smem => 0
  | _ => 0

abbrev bufTy : (tb : Table) → Fin (tcTables nBuf tb) → BufTy
  | .hbm, ⟨0, _⟩ => ⟨S64x2048x1282, .bf16⟩
  | .hbm, ⟨1, _⟩ => ⟨S64x128x1024, .bf16⟩
  | .hbm, ⟨2, _⟩ => ⟨S64x1024x256, .bf16⟩
  | .hbm, ⟨3, _⟩ => ⟨S64x1024x256, .bf16⟩
  | .hbm, ⟨4, _⟩ => ⟨S64x256x2048, .bf16⟩
  | .hbm, ⟨5, _⟩ => ⟨S8x8x2048x1282, .bf16⟩
  | .hbm, ⟨6, _⟩ => ⟨S8x8x2048x1282, .bf16⟩
  | .hbm, ⟨7, _⟩ => ⟨S64x2048x1282, .bf16⟩
  | .hbm, ⟨8, _⟩ => ⟨S8x8x128x1024, .bf16⟩
  | .hbm, ⟨9, _⟩ => ⟨S8x8x128x1024, .bf16⟩
  | .hbm, ⟨10, _⟩ => ⟨S64x128x1024, .bf16⟩
  | .hbm, ⟨11, _⟩ => ⟨S8x8x1024x256, .bf16⟩
  | .hbm, ⟨12, _⟩ => ⟨S8x8x1024x256, .bf16⟩
  | .hbm, ⟨13, _⟩ => ⟨S64x1024x256, .bf16⟩
  | .hbm, ⟨14, _⟩ => ⟨S8x8x1024x256, .bf16⟩
  | .hbm, ⟨15, _⟩ => ⟨S8x8x1024x256, .bf16⟩
  | .hbm, ⟨16, _⟩ => ⟨S64x1024x256, .bf16⟩
  | .hbm, ⟨17, _⟩ => ⟨S8x8x256x2048, .bf16⟩
  | .hbm, ⟨18, _⟩ => ⟨S8x8x256x2048, .bf16⟩
  | .hbm, ⟨19, _⟩ => ⟨S64x256x2048, .bf16⟩
  | _, _ => ⟨S64x2048x1282, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Reference.lean ====
abbrev S64x2048x1282 : Shape := ⟨3, ![64, 2048, 1282]⟩
abbrev S64x128x1024 : Shape := ⟨3, ![64, 128, 1024]⟩
abbrev S64x1024x256 : Shape := ⟨3, ![64, 1024, 256]⟩
abbrev S64x256x2048 : Shape := ⟨3, ![64, 256, 2048]⟩
abbrev S8x8x2048x1282 : Shape := ⟨4, ![8, 8, 2048, 1282]⟩
abbrev S8x8x128x1024 : Shape := ⟨4, ![8, 8, 128, 1024]⟩
abbrev S8x8x1024x256 : Shape := ⟨4, ![8, 8, 1024, 256]⟩
abbrev S8x8x256x2048 : Shape := ⟨4, ![8, 8, 256, 2048]⟩

abbrev nBuf : Space → Nat
  | .hbm => 20
  | .vmem => 0
  | .smem => 0
  | _ => 0

abbrev bufTy : (tb : Table) → Fin (tcTables nBuf tb) → BufTy
  | .hbm, ⟨0, _⟩ => ⟨S64x2048x1282, .bf16⟩
  | .hbm, ⟨1, _⟩ => ⟨S64x128x1024, .bf16⟩
  | .hbm, ⟨2, _⟩ => ⟨S64x1024x256, .bf16⟩
  | .hbm, ⟨3, _⟩ => ⟨S64x1024x256, .bf16⟩
  | .hbm, ⟨4, _⟩ => ⟨S64x256x2048, .bf16⟩
  | .hbm, ⟨5, _⟩ => ⟨S8x8x2048x1282, .bf16⟩
  | .hbm, ⟨6, _⟩ => ⟨S8x8x2048x1282, .bf16⟩
  | .hbm, ⟨7, _⟩ => ⟨S64x2048x1282, .bf16⟩
  | .hbm, ⟨8, _⟩ => ⟨S8x8x128x1024, .bf16⟩
  | .hbm, ⟨9, _⟩ => ⟨S8x8x128x1024, .bf16⟩
  | .hbm, ⟨10, _⟩ => ⟨S64x128x1024, .bf16⟩
  | .hbm, ⟨11, _⟩ => ⟨S8x8x1024x256, .bf16⟩
  | .hbm, ⟨12, _⟩ => ⟨S8x8x1024x256, .bf16⟩
  | .hbm, ⟨13, _⟩ => ⟨S64x1024x256, .bf16⟩
  | .hbm, ⟨14, _⟩ => ⟨S8x8x1024x256, .bf16⟩
  | .hbm, ⟨15, _⟩ => ⟨S8x8x1024x256, .bf16⟩
  | .hbm, ⟨16, _⟩ => ⟨S64x1024x256, .bf16⟩
  | .hbm, ⟨17, _⟩ => ⟨S8x8x256x2048, .bf16⟩
  | .hbm, ⟨18, _⟩ => ⟨S8x8x256x2048, .bf16⟩
  | .hbm, ⟨19, _⟩ => ⟨S64x256x2048, .bf16⟩
  | _, _ => ⟨S64x2048x1282, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== AdamWIn.lean ====
abbrev S2048x1282 : Shape := ⟨2, ![2048, 1282]⟩
abbrev S8x2048x1282 : Shape := ⟨3, ![8, 2048, 1282]⟩
abbrev S128x1282 : Shape := ⟨2, ![128, 1282]⟩
abbrev S8x128x1282 : Shape := ⟨3, ![8, 128, 1282]⟩
abbrev S1x128x1282 : Shape := ⟨3, ![1, 128, 1282]⟩

abbrev nBuf : Space → Nat
  | .hbm => 8
  | .vmem => 16
  | .smem => 0
  | _ => 0

abbrev bufTy : (tb : Table) → Fin (tcTables nBuf tb) → BufTy
  | .hbm, ⟨0, _⟩ => ⟨S2048x1282, .f32⟩
  | .hbm, ⟨1, _⟩ => ⟨S2048x1282, .f32⟩
  | .hbm, ⟨2, _⟩ => ⟨S2048x1282, .f32⟩
  | .hbm, ⟨3, _⟩ => ⟨S8x2048x1282, .bf16⟩
  | .hbm, ⟨4, _⟩ => ⟨S2048x1282, .f32⟩
  | .hbm, ⟨5, _⟩ => ⟨S2048x1282, .f32⟩
  | .hbm, ⟨6, _⟩ => ⟨S2048x1282, .f32⟩
  | .hbm, ⟨7, _⟩ => ⟨S2048x1282, .f32⟩
  | .local _ .vmem, ⟨0, _⟩ => ⟨S128x1282, .f32⟩
  | .local _ .vmem, ⟨1, _⟩ => ⟨S128x1282, .f32⟩
  | .local _ .vmem, ⟨2, _⟩ => ⟨S128x1282, .f32⟩
  | .local _ .vmem, ⟨3, _⟩ => ⟨S128x1282, .f32⟩
  | .local _ .vmem, ⟨4, _⟩ => ⟨S128x1282, .f32⟩
  | .local _ .vmem, ⟨5, _⟩ => ⟨S128x1282, .f32⟩
  | .local _ .vmem, ⟨6, _⟩ => ⟨S8x128x1282, .bf16⟩
  | .local _ .vmem, ⟨7, _⟩ => ⟨S8x128x1282, .bf16⟩
  | .local _ .vmem, ⟨8, _⟩ => ⟨S128x1282, .f32⟩
  | .local _ .vmem, ⟨9, _⟩ => ⟨S128x1282, .f32⟩
  | .local _ .vmem, ⟨10, _⟩ => ⟨S128x1282, .f32⟩
  | .local _ .vmem, ⟨11, _⟩ => ⟨S128x1282, .f32⟩
  | .local _ .vmem, ⟨12, _⟩ => ⟨S128x1282, .f32⟩
  | .local _ .vmem, ⟨13, _⟩ => ⟨S128x1282, .f32⟩
  | .local _ .vmem, ⟨14, _⟩ => ⟨S128x1282, .f32⟩
  | .local _ .vmem, ⟨15, _⟩ => ⟨S128x1282, .f32⟩
  | _, _ => ⟨S2048x1282, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1282 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1282 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1282 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x1282 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1282 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1282 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1282 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1282 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWInIdeal.lean ====
abbrev S2048x1282 : Shape := ⟨2, ![2048, 1282]⟩
abbrev S8x2048x1282 : Shape := ⟨3, ![8, 2048, 1282]⟩
abbrev S128x1282 : Shape := ⟨2, ![128, 1282]⟩
abbrev S8x128x1282 : Shape := ⟨3, ![8, 128, 1282]⟩
abbrev S1x128x1282 : Shape := ⟨3, ![1, 128, 1282]⟩

abbrev nBuf : Space → Nat
  | .hbm => 8
  | .vmem => 16
  | .smem => 0
  | _ => 0

abbrev bufTy : (tb : Table) → Fin (tcTables nBuf tb) → BufTy
  | .hbm, ⟨0, _⟩ => ⟨S2048x1282, .f32⟩
  | .hbm, ⟨1, _⟩ => ⟨S2048x1282, .f32⟩
  | .hbm, ⟨2, _⟩ => ⟨S2048x1282, .f32⟩
  | .hbm, ⟨3, _⟩ => ⟨S8x2048x1282, .bf16⟩
  | .hbm, ⟨4, _⟩ => ⟨S2048x1282, .f32⟩
  | .hbm, ⟨5, _⟩ => ⟨S2048x1282, .f32⟩
  | .hbm, ⟨6, _⟩ => ⟨S2048x1282, .f32⟩
  | .hbm, ⟨7, _⟩ => ⟨S2048x1282, .f32⟩
  | .local _ .vmem, ⟨0, _⟩ => ⟨S128x1282, .f32⟩
  | .local _ .vmem, ⟨1, _⟩ => ⟨S128x1282, .f32⟩
  | .local _ .vmem, ⟨2, _⟩ => ⟨S128x1282, .f32⟩
  | .local _ .vmem, ⟨3, _⟩ => ⟨S128x1282, .f32⟩
  | .local _ .vmem, ⟨4, _⟩ => ⟨S128x1282, .f32⟩
  | .local _ .vmem, ⟨5, _⟩ => ⟨S128x1282, .f32⟩
  | .local _ .vmem, ⟨6, _⟩ => ⟨S8x128x1282, .bf16⟩
  | .local _ .vmem, ⟨7, _⟩ => ⟨S8x128x1282, .bf16⟩
  | .local _ .vmem, ⟨8, _⟩ => ⟨S128x1282, .f32⟩
  | .local _ .vmem, ⟨9, _⟩ => ⟨S128x1282, .f32⟩
  | .local _ .vmem, ⟨10, _⟩ => ⟨S128x1282, .f32⟩
  | .local _ .vmem, ⟨11, _⟩ => ⟨S128x1282, .f32⟩
  | .local _ .vmem, ⟨12, _⟩ => ⟨S128x1282, .f32⟩
  | .local _ .vmem, ⟨13, _⟩ => ⟨S128x1282, .f32⟩
  | .local _ .vmem, ⟨14, _⟩ => ⟨S128x1282, .f32⟩
  | .local _ .vmem, ⟨15, _⟩ => ⟨S128x1282, .f32⟩
  | _, _ => ⟨S2048x1282, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "inv_left1" => some ((8388608 / 5463681 : ℝ) : EReal)
  | "inv_left2" => some ((268435456 / 2672307 : ℝ) : EReal)
  | _ => none

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1282 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1282 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1282 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x1282 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1282 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1282 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1282 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1282 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepWInIdeal.lean ====
abbrev S2048x1282 : Shape := ⟨2, ![2048, 1282]⟩
abbrev S8x2048x1282 : Shape := ⟨3, ![8, 2048, 1282]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x1282, .f32⟩
  | .hbm, ⟨1, _⟩ => ⟨S2048x1282, .f32⟩
  | .hbm, ⟨2, _⟩ => ⟨S2048x1282, .f32⟩
  | .hbm, ⟨3, _⟩ => ⟨S8x2048x1282, .bf16⟩
  | .hbm, ⟨4, _⟩ => ⟨S8x2048x1282, .f32⟩
  | .hbm, ⟨5, _⟩ => ⟨S_, .f32⟩
  | .hbm, ⟨6, _⟩ => ⟨S2048x1282, .f32⟩
  | .hbm, ⟨7, _⟩ => ⟨S_, .f32⟩
  | .hbm, ⟨8, _⟩ => ⟨S2048x1282, .f32⟩
  | .hbm, ⟨9, _⟩ => ⟨S2048x1282, .f32⟩
  | .hbm, ⟨10, _⟩ => ⟨S_, .f32⟩
  | .hbm, ⟨11, _⟩ => ⟨S2048x1282, .f32⟩
  | .hbm, ⟨12, _⟩ => ⟨S2048x1282, .f32⟩
  | .hbm, ⟨13, _⟩ => ⟨S2048x1282, .f32⟩
  | .hbm, ⟨14, _⟩ => ⟨S_, .f32⟩
  | .hbm, ⟨15, _⟩ => ⟨S2048x1282, .f32⟩
  | .hbm, ⟨16, _⟩ => ⟨S2048x1282, .f32⟩
  | .hbm, ⟨17, _⟩ => ⟨S2048x1282, .f32⟩
  | .hbm, ⟨18, _⟩ => ⟨S_, .f32⟩
  | .hbm, ⟨19, _⟩ => ⟨S2048x1282, .f32⟩
  | .hbm, ⟨20, _⟩ => ⟨S2048x1282, .f32⟩
  | .hbm, ⟨21, _⟩ => ⟨S2048x1282, .f32⟩
  | .hbm, ⟨22, _⟩ => ⟨S_, .f32⟩
  | .hbm, ⟨23, _⟩ => ⟨S2048x1282, .f32⟩
  | .hbm, ⟨24, _⟩ => ⟨S2048x1282, .f32⟩
  | .hbm, ⟨25, _⟩ => ⟨S_, .f32⟩
  | .hbm, ⟨26, _⟩ => ⟨S2048x1282, .f32⟩
  | .hbm, ⟨27, _⟩ => ⟨S2048x1282, .f32⟩
  | .hbm, ⟨28, _⟩ => ⟨S2048x1282, .f32⟩
  | .hbm, ⟨29, _⟩ => ⟨S_, .f32⟩
  | .hbm, ⟨30, _⟩ => ⟨S2048x1282, .f32⟩
  | .hbm, ⟨31, _⟩ => ⟨S2048x1282, .f32⟩
  | .hbm, ⟨32, _⟩ => ⟨S2048x1282, .f32⟩
  | .hbm, ⟨33, _⟩ => ⟨S_, .f32⟩
  | .hbm, ⟨34, _⟩ => ⟨S2048x1282, .f32⟩
  | .hbm, ⟨35, _⟩ => ⟨S2048x1282, .f32⟩
  | .hbm, ⟨36, _⟩ => ⟨S2048x1282, .f32⟩
  | .hbm, ⟨37, _⟩ => ⟨S_, .f32⟩
  | .hbm, ⟨38, _⟩ => ⟨S2048x1282, .f32⟩
  | .hbm, ⟨39, _⟩ => ⟨S2048x1282, .f32⟩
  | _, _ => ⟨S2048x1282, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamS5WGlu.lean ====
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S8x128x1024, .bf16⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S8x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamS5WGluIdeal.lean ====
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S8x128x1024, .bf16⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S8x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "inv_left1" => some ((8388608 / 5463681 : ℝ) : EReal)
  | "inv_left2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== StepS5WGluIdeal.lean ====
abbrev S128x1024 : Shape := ⟨2, ![128, 1024]⟩
abbrev S8x128x1024 : Shape := ⟨3, ![8, 128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S8x128x1024, .bf16⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamS5WUp.lean ====
abbrev S1024x256 : Shape := ⟨2, ![1024, 256]⟩
abbrev S8x1024x256 : Shape := ⟨3, ![8, 1024, 256]⟩
abbrev S1x1024x256 : Shape := ⟨3, ![1, 1024, 256]⟩

abbrev nBuf : Space → Nat
  | .hbm => 8
  | .vmem => 8
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S8x1024x256, .bf16⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S8x1024x256, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamS5WUpIdeal.lean ====
abbrev S1024x256 : Shape := ⟨2, ![1024, 256]⟩
abbrev S8x1024x256 : Shape := ⟨3, ![8, 1024, 256]⟩
abbrev S1x1024x256 : Shape := ⟨3, ![1, 1024, 256]⟩

abbrev nBuf : Space → Nat
  | .hbm => 8
  | .vmem => 8
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S8x1024x256, .bf16⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S8x1024x256, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "inv_left1" => some ((8388608 / 5463681 : ℝ) : EReal)
  | "inv_left2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== StepS5WUpIdeal.lean ====
abbrev S1024x256 : Shape := ⟨2, ![1024, 256]⟩
abbrev S8x1024x256 : Shape := ⟨3, ![8, 1024, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S8x1024x256, .bf16⟩
  | .hbm, ⟨4, _⟩ => ⟨S8x1024x256, .f32⟩
  | .hbm, ⟨5, _⟩ => ⟨S_, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S_, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S_, .f32⟩
  | .hbm, ⟨15, _⟩ => ⟨S1024x256, .f32⟩
  | .hbm, ⟨16, _⟩ => ⟨S1024x256, .f32⟩
  | .hbm, ⟨17, _⟩ => ⟨S1024x256, .f32⟩
  | .hbm, ⟨18, _⟩ => ⟨S_, .f32⟩
  | .hbm, ⟨19, _⟩ => ⟨S1024x256, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S_, .f32⟩
  | .hbm, ⟨26, _⟩ => ⟨S1024x256, .f32⟩
  | .hbm, ⟨27, _⟩ => ⟨S1024x256, .f32⟩
  | .hbm, ⟨28, _⟩ => ⟨S1024x256, .f32⟩
  | .hbm, ⟨29, _⟩ => ⟨S_, .f32⟩
  | .hbm, ⟨30, _⟩ => ⟨S1024x256, .f32⟩
  | .hbm, ⟨31, _⟩ => ⟨S1024x256, .f32⟩
  | .hbm, ⟨32, _⟩ => ⟨S1024x256, .f32⟩
  | .hbm, ⟨33, _⟩ => ⟨S_, .f32⟩
  | .hbm, ⟨34, _⟩ => ⟨S1024x256, .f32⟩
  | .hbm, ⟨35, _⟩ => ⟨S1024x256, .f32⟩
  | .hbm, ⟨36, _⟩ => ⟨S1024x256, .f32⟩
  | .hbm, ⟨37, _⟩ => ⟨S_, .f32⟩
  | .hbm, ⟨38, _⟩ => ⟨S1024x256, .f32⟩
  | .hbm, ⟨39, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamWOut.lean ====
abbrev S256x2048 : Shape := ⟨2, ![256, 2048]⟩
abbrev S8x256x2048 : Shape := ⟨3, ![8, 256, 2048]⟩
abbrev S128x2048 : Shape := ⟨2, ![128, 2048]⟩
abbrev S8x128x2048 : Shape := ⟨3, ![8, 128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S8x256x2048, .bf16⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S8x128x2048, .bf16⟩
  | .local _ .vmem, ⟨7, _⟩ => ⟨S8x128x2048, .bf16⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWOutIdeal.lean ====
abbrev S256x2048 : Shape := ⟨2, ![256, 2048]⟩
abbrev S8x256x2048 : Shape := ⟨3, ![8, 256, 2048]⟩
abbrev S128x2048 : Shape := ⟨2, ![128, 2048]⟩
abbrev S8x128x2048 : Shape := ⟨3, ![8, 128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S8x256x2048, .bf16⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S8x128x2048, .bf16⟩
  | .local _ .vmem, ⟨7, _⟩ => ⟨S8x128x2048, .bf16⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "inv_left1" => some ((8388608 / 5463681 : ℝ) : EReal)
  | "inv_left2" => some ((268435456 / 2672307 : ℝ) : EReal)
  | _ => none

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepWOutIdeal.lean ====
abbrev S256x2048 : Shape := ⟨2, ![256, 2048]⟩
abbrev S8x256x2048 : Shape := ⟨3, ![8, 256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S8x256x2048, .bf16⟩
  | .hbm, ⟨4, _⟩ => ⟨S8x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamSmall.lean ====
abbrev S2304x128 : Shape := ⟨2, ![2304, 128]⟩
abbrev S1x2304x128 : Shape := ⟨3, ![1, 2304, 128]⟩
abbrev S256x128 : Shape := ⟨2, ![256, 128]⟩
abbrev S1x256x128 : Shape := ⟨3, ![1, 256, 128]⟩

abbrev nBuf : Space → Nat
  | .hbm => 8
  | .vmem => 16
  | .smem => 0
  | _ => 0

abbrev bufTy : (tb : Table) → Fin (tcTables nBuf tb) → BufTy
  | .hbm, ⟨0, _⟩ => ⟨S2304x128, .f32⟩
  | .hbm, ⟨1, _⟩ => ⟨S2304x128, .f32⟩
  | .hbm, ⟨2, _⟩ => ⟨S2304x128, .f32⟩
  | .hbm, ⟨3, _⟩ => ⟨S1x2304x128, .f32⟩
  | .hbm, ⟨4, _⟩ => ⟨S2304x128, .f32⟩
  | .hbm, ⟨5, _⟩ => ⟨S2304x128, .f32⟩
  | .hbm, ⟨6, _⟩ => ⟨S2304x128, .f32⟩
  | .hbm, ⟨7, _⟩ => ⟨S2304x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x256x128, .f32⟩
  | .local _ .vmem, ⟨7, _⟩ => ⟨S1x256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S2304x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamSmallIdeal.lean ====
abbrev S2304x128 : Shape := ⟨2, ![2304, 128]⟩
abbrev S1x2304x128 : Shape := ⟨3, ![1, 2304, 128]⟩
abbrev S256x128 : Shape := ⟨2, ![256, 128]⟩
abbrev S1x256x128 : Shape := ⟨3, ![1, 256, 128]⟩

abbrev nBuf : Space → Nat
  | .hbm => 8
  | .vmem => 16
  | .smem => 0
  | _ => 0

abbrev bufTy : (tb : Table) → Fin (tcTables nBuf tb) → BufTy
  | .hbm, ⟨0, _⟩ => ⟨S2304x128, .f32⟩
  | .hbm, ⟨1, _⟩ => ⟨S2304x128, .f32⟩
  | .hbm, ⟨2, _⟩ => ⟨S2304x128, .f32⟩
  | .hbm, ⟨3, _⟩ => ⟨S1x2304x128, .f32⟩
  | .hbm, ⟨4, _⟩ => ⟨S2304x128, .f32⟩
  | .hbm, ⟨5, _⟩ => ⟨S2304x128, .f32⟩
  | .hbm, ⟨6, _⟩ => ⟨S2304x128, .f32⟩
  | .hbm, ⟨7, _⟩ => ⟨S2304x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x256x128, .f32⟩
  | .local _ .vmem, ⟨7, _⟩ => ⟨S1x256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S2304x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "inv_left1" => some ((8388608 / 5463681 : ℝ) : EReal)
  | "inv_left2" => some ((268435456 / 2672307 : ℝ) : EReal)
  | _ => none

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepSmallIdeal.lean ====
abbrev S2304x128 : Shape := ⟨2, ![2304, 128]⟩
abbrev S1x2304x128 : Shape := ⟨3, ![1, 2304, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2304x128, .f32⟩
  | .hbm, ⟨1, _⟩ => ⟨S2304x128, .f32⟩
  | .hbm, ⟨2, _⟩ => ⟨S2304x128, .f32⟩
  | .hbm, ⟨3, _⟩ => ⟨S1x2304x128, .f32⟩
  | .hbm, ⟨4, _⟩ => ⟨S_, .f32⟩
  | .hbm, ⟨5, _⟩ => ⟨S2304x128, .f32⟩
  | .hbm, ⟨6, _⟩ => ⟨S_, .f32⟩
  | .hbm, ⟨7, _⟩ => ⟨S2304x128, .f32⟩
  | .hbm, ⟨8, _⟩ => ⟨S2304x128, .f32⟩
  | .hbm, ⟨9, _⟩ => ⟨S_, .f32⟩
  | .hbm, ⟨10, _⟩ => ⟨S2304x128, .f32⟩
  | .hbm, ⟨11, _⟩ => ⟨S2304x128, .f32⟩
  | .hbm, ⟨12, _⟩ => ⟨S2304x128, .f32⟩
  | .hbm, ⟨13, _⟩ => ⟨S_, .f32⟩
  | .hbm, ⟨14, _⟩ => ⟨S2304x128, .f32⟩
  | .hbm, ⟨15, _⟩ => ⟨S2304x128, .f32⟩
  | .hbm, ⟨16, _⟩ => ⟨S2304x128, .f32⟩
  | .hbm, ⟨17, _⟩ => ⟨S_, .f32⟩
  | .hbm, ⟨18, _⟩ => ⟨S2304x128, .f32⟩
  | .hbm, ⟨19, _⟩ => ⟨S2304x128, .f32⟩
  | .hbm, ⟨20, _⟩ => ⟨S2304x128, .f32⟩
  | .hbm, ⟨21, _⟩ => ⟨S_, .f32⟩
  | .hbm, ⟨22, _⟩ => ⟨S2304x128, .f32⟩
  | .hbm, ⟨23, _⟩ => ⟨S2304x128, .f32⟩
  | .hbm, ⟨24, _⟩ => ⟨S_, .f32⟩
  | .hbm, ⟨25, _⟩ => ⟨S2304x128, .f32⟩
  | .hbm, ⟨26, _⟩ => ⟨S2304x128, .f32⟩
  | .hbm, ⟨27, _⟩ => ⟨S2304x128, .f32⟩
  | .hbm, ⟨28, _⟩ => ⟨S_, .f32⟩
  | .hbm, ⟨29, _⟩ => ⟨S2304x128, .f32⟩
  | .hbm, ⟨30, _⟩ => ⟨S2304x128, .f32⟩
  | .hbm, ⟨31, _⟩ => ⟨S2304x128, .f32⟩
  | .hbm, ⟨32, _⟩ => ⟨S_, .f32⟩
  | .hbm, ⟨33, _⟩ => ⟨S2304x128, .f32⟩
  | .hbm, ⟨34, _⟩ => ⟨S2304x128, .f32⟩
  | .hbm, ⟨35, _⟩ => ⟨S2304x128, .f32⟩
  | .hbm, ⟨36, _⟩ => ⟨S_, .f32⟩
  | .hbm, ⟨37, _⟩ => ⟨S2304x128, .f32⟩
  | .hbm, ⟨38, _⟩ => ⟨S2304x128, .f32⟩
  | _, _ => ⟨S2304x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== SumSmall.lean ====
abbrev S8x2304x128 : Shape := ⟨3, ![8, 2304, 128]⟩
abbrev S2304x128 : Shape := ⟨2, ![2304, 128]⟩
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x2304x128, .f32⟩
  | .hbm, ⟨1, _⟩ => ⟨S2304x128, .f32⟩
  | .local _ .vmem, ⟨0, _⟩ => ⟨S8x256x128, .f32⟩
  | .local _ .vmem, ⟨1, _⟩ => ⟨S8x256x128, .f32⟩
  | .local _ .vmem, ⟨2, _⟩ => ⟨S256x128, .f32⟩
  | .local _ .vmem, ⟨3, _⟩ => ⟨S256x128, .f32⟩
  | _, _ => ⟨S8x2304x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![9], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumSmallIdeal.lean ====
abbrev S8x2304x128 : Shape := ⟨3, ![8, 2304, 128]⟩
abbrev S2304x128 : Shape := ⟨2, ![2304, 128]⟩
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x2304x128, .f32⟩
  | .hbm, ⟨1, _⟩ => ⟨S2304x128, .f32⟩
  | .local _ .vmem, ⟨0, _⟩ => ⟨S8x256x128, .f32⟩
  | .local _ .vmem, ⟨1, _⟩ => ⟨S8x256x128, .f32⟩
  | .local _ .vmem, ⟨2, _⟩ => ⟨S256x128, .f32⟩
  | .local _ .vmem, ⟨3, _⟩ => ⟨S256x128, .f32⟩
  | _, _ => ⟨S8x2304x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![9], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== PlainSumIdeal.lean ====
abbrev S8x2304x128 : Shape := ⟨3, ![8, 2304, 128]⟩
abbrev S_ : Shape := ⟨0, ![]⟩
abbrev S2304x128 : Shape := ⟨2, ![2304, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x2304x128, .f32⟩
  | .hbm, ⟨1, _⟩ => ⟨S_, .f32⟩
  | .hbm, ⟨2, _⟩ => ⟨S2304x128, .f32⟩
  | _, _ => ⟨S8x2304x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GatherWeights.lean ====
abbrev S2048x1282 : Shape := ⟨2, ![2048, 1282]⟩
abbrev S128x1024 : Shape := ⟨2, ![128, 1024]⟩
abbrev S1024x256 : Shape := ⟨2, ![1024, 256]⟩
abbrev S256x2048 : Shape := ⟨2, ![256, 2048]⟩
abbrev S4x384 : Shape := ⟨2, ![4, 384]⟩
abbrev S8x2048x1282 : Shape := ⟨3, ![8, 2048, 1282]⟩
abbrev S8x128x1024 : Shape := ⟨3, ![8, 128, 1024]⟩
abbrev S8x1024x256 : Shape := ⟨3, ![8, 1024, 256]⟩
abbrev S8x256x2048 : Shape := ⟨3, ![8, 256, 2048]⟩
abbrev S8x4x384 : Shape := ⟨3, ![8, 4, 384]⟩
abbrev S6x7 : Shape := ⟨2, ![6, 7]⟩
abbrev S6 : Shape := ⟨1, ![6]⟩
abbrev S1 : Shape := ⟨1, ![1]⟩
abbrev S_ : Shape := ⟨0, ![]⟩
abbrev S1x2048x1282 : Shape := ⟨3, ![1, 2048, 1282]⟩
abbrev S1x128x1024 : Shape := ⟨3, ![1, 128, 1024]⟩
abbrev S1x1024x256 : Shape := ⟨3, ![1, 1024, 256]⟩
abbrev S1x256x2048 : Shape := ⟨3, ![1, 256, 2048]⟩
abbrev S1x4x384 : Shape := ⟨3, ![1, 4, 384]⟩
abbrev S1x1 : Shape := ⟨2, ![1, 1]⟩

abbrev nBuf : Space → Nat
  | .hbm => 12
  | .vmem => 0
  | .smem => 0
  | _ => 0

abbrev bufTy : (tb : Table) → Fin (tcTables nBuf tb) → BufTy
  | .hbm, ⟨0, _⟩ => ⟨S2048x1282, .bf16⟩
  | .hbm, ⟨1, _⟩ => ⟨S128x1024, .bf16⟩
  | .hbm, ⟨2, _⟩ => ⟨S1024x256, .bf16⟩
  | .hbm, ⟨3, _⟩ => ⟨S1024x256, .bf16⟩
  | .hbm, ⟨4, _⟩ => ⟨S256x2048, .bf16⟩
  | .hbm, ⟨5, _⟩ => ⟨S4x384, .f32⟩
  | .hbm, ⟨6, _⟩ => ⟨S8x2048x1282, .bf16⟩
  | .hbm, ⟨7, _⟩ => ⟨S8x128x1024, .bf16⟩
  | .hbm, ⟨8, _⟩ => ⟨S8x1024x256, .bf16⟩
  | .hbm, ⟨9, _⟩ => ⟨S8x1024x256, .bf16⟩
  | .hbm, ⟨10, _⟩ => ⟨S8x256x2048, .bf16⟩
  | .hbm, ⟨11, _⟩ => ⟨S8x4x384, .f32⟩
  | _, _ => ⟨S2048x1282, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32_20 : BitVec 32 := 0#32
  let c0_i32_21 : BitVec 32 := 0#32
  ![v17.toNat, 0, 0]
def k0_off2 (d0 : Dev nD) : Fin 3 → Nat :=
  let c4_i32_10 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.muli c4_i32_10 v2
  let c2_i32_11 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.muli c2_i32_11 v5
  let v20 : BitVec 32 := Scalar.addi v18 v19
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.addi v20 v8
  let c0_i32_23 : BitVec 32 := 0#32
  let c0_i32_24 : BitVec 32 := 0#32
  ![v21.toNat, 0, 0]
def k0_off3 (d0 : Dev nD) : Fin 3 → Nat :=
  let c4_i32_12 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.muli c4_i32_12 v2
  let c2_i32_13 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.muli c2_i32_13 v5
  let v24 : BitVec 32 := Scalar.addi v22 v23
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.addi v24 v8
  let c0_i32_26 : BitVec 32 := 0#32
  let c0_i32_27 : BitVec 32 := 0#32
  ![v25.toNat, 0, 0]
def k0_off4 (d0 : Dev nD) : Fin 3 → Nat :=
  let c4_i32_16 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v30 : BitVec 32 := Scalar.muli c4_i32_16 v2
  let c2_i32_17 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_17 v5
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v33 : BitVec 32 := Scalar.addi v32 v8
  let c0_i32_31 : BitVec 32 := 0#32
  let c0_i32_32 : BitVec 32 := 0#32
  ![v33.toNat, 0, 0]
def k0_off5 (d0 : Dev nD) : Fin 3 → Nat :=
  let c4_i32_18 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.muli c4_i32_18 v2
  let c2_i32_19 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v35 : BitVec 32 := Scalar.muli c2_i32_19 v5
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.addi v36 v8
  let c0_i32_33 : BitVec 32 := 0#32
  let c0_i32_34 : BitVec 32 := 0#32
  ![v37.toNat, 0, 0]
def k0_dev1 (d0 : Dev nD) : Nat :=
  let c0_i32_88 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_87 : BitVec 32 := 4#32
  let v158 : BitVec 32 := Scalar.muli v2 c4_i32_87
  let v159 : BitVec 32 := Scalar.addi c0_i32_88 v158
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_89 : BitVec 32 := 2#32
  let v160 : BitVec 32 := Scalar.muli v5 c2_i32_89
  let v161 : BitVec 32 := Scalar.addi v159 v160
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_90 : BitVec 32 := 1#32
  let v162 : BitVec 32 := Scalar.muli v9 c1_i32_90
  let v163 : BitVec 32 := Scalar.addi v161 v162
  v163.toNat
def k0_dev2 (d0 : Dev nD) : Nat :=
  let c0_i32_98 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_97 : BitVec 32 := 4#32
  let v170 : BitVec 32 := Scalar.muli v10 c4_i32_97
  let v171 : BitVec 32 := Scalar.addi c0_i32_98 v170
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_99 : BitVec 32 := 2#32
  let v172 : BitVec 32 := Scalar.muli v5 c2_i32_99
  let v173 : BitVec 32 := Scalar.addi v171 v172
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_100 : BitVec 32 := 1#32
  let v174 : BitVec 32 := Scalar.muli v8 c1_i32_100
  let v175 : BitVec 32 := Scalar.addi v173 v174
  v175.toNat
def k0_dev3 (d0 : Dev nD) : Nat :=
  let c0_i32_108 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_107 : BitVec 32 := 4#32
  let v182 : BitVec 32 := Scalar.muli v2 c4_i32_107
  let v183 : BitVec 32 := Scalar.addi c0_i32_108 v182
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_109 : BitVec 32 := 2#32
  let v184 : BitVec 32 := Scalar.muli v11 c2_i32_109
  let v185 : BitVec 32 := Scalar.addi v183 v184
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_110 : BitVec 32 := 1#32
  let v186 : BitVec 32 := Scalar.muli v8 c1_i32_110
  let v187 : BitVec 32 := Scalar.addi v185 v186
  v187.toNat
def k0_dev4 (d0 : Dev nD) : Nat :=
  let c0_i32_118 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_117 : BitVec 32 := 4#32
  let v194 : BitVec 32 := Scalar.muli v12 c4_i32_117
  let v195 : BitVec 32 := Scalar.addi c0_i32_118 v194
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_119 : BitVec 32 := 2#32
  let v196 : BitVec 32 := Scalar.muli v13 c2_i32_119
  let v197 : BitVec 32 := Scalar.addi v195 v196
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_120 : BitVec 32 := 1#32
  let v198 : BitVec 32 := Scalar.muli v8 c1_i32_120
  let v199 : BitVec 32 := Scalar.addi v197 v198
  v199.toNat
def k0_dev5 (d0 : Dev nD) : Nat :=
  let c0_i32_128 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_127 : BitVec 32 := 4#32
  let v206 : BitVec 32 := Scalar.muli v2 c4_i32_127
  let v207 : BitVec 32 := Scalar.addi c0_i32_128 v206
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_129 : BitVec 32 := 2#32
  let v208 : BitVec 32 := Scalar.muli v5 c2_i32_129
  let v209 : BitVec 32 := Scalar.addi v207 v208
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_130 : BitVec 32 := 1#32
  let v210 : BitVec 32 := Scalar.muli v9 c1_i32_130
  let v211 : BitVec 32 := Scalar.addi v209 v210
  v211.toNat
def k0_dev6 (d0 : Dev nD) : Nat :=
  let c0_i32_138 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_137 : BitVec 32 := 4#32
  let v218 : BitVec 32 := Scalar.muli v10 c4_i32_137
  let v219 : BitVec 32 := Scalar.addi c0_i32_138 v218
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_139 : BitVec 32 := 2#32
  let v220 : BitVec 32 := Scalar.muli v5 c2_i32_139
  let v221 : BitVec 32 := Scalar.addi v219 v220
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_140 : BitVec 32 := 1#32
  let v222 : BitVec 32 := Scalar.muli v8 c1_i32_140
  let v223 : BitVec 32 := Scalar.addi v221 v222
  v223.toNat
def k0_dev7 (d0 : Dev nD) : Nat :=
  let c0_i32_148 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_147 : BitVec 32 := 4#32
  let v230 : BitVec 32 := Scalar.muli v2 c4_i32_147
  let v231 : BitVec 32 := Scalar.addi c0_i32_148 v230
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_149 : BitVec 32 := 2#32
  let v232 : BitVec 32 := Scalar.muli v11 c2_i32_149
  let v233 : BitVec 32 := Scalar.addi v231 v232
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_150 : BitVec 32 := 1#32
  let v234 : BitVec 32 := Scalar.muli v8 c1_i32_150
  let v235 : BitVec 32 := Scalar.addi v233 v234
  v235.toNat
def k0_dev8 (d0 : Dev nD) : Nat :=
  let c0_i32_158 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_157 : BitVec 32 := 4#32
  let v242 : BitVec 32 := Scalar.muli v12 c4_i32_157
  let v243 : BitVec 32 := Scalar.addi c0_i32_158 v242
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_159 : BitVec 32 := 2#32
  let v244 : BitVec 32 := Scalar.muli v13 c2_i32_159
  let v245 : BitVec 32 := Scalar.addi v243 v244
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_160 : BitVec 32 := 1#32
  let v246 : BitVec 32 := Scalar.muli v8 c1_i32_160
  let v247 : BitVec 32 := Scalar.addi v245 v246
  v247.toNat
def k0_dev9 (d0 : Dev nD) : Nat :=
  let c0_i32_168 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_167 : BitVec 32 := 4#32
  let v254 : BitVec 32 := Scalar.muli v2 c4_i32_167
  let v255 : BitVec 32 := Scalar.addi c0_i32_168 v254
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_169 : BitVec 32 := 2#32
  let v256 : BitVec 32 := Scalar.muli v5 c2_i32_169
  let v257 : BitVec 32 := Scalar.addi v255 v256
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_170 : BitVec 32 := 1#32
  let v258 : BitVec 32 := Scalar.muli v9 c1_i32_170
  let v259 : BitVec 32 := Scalar.addi v257 v258
  v259.toNat
def k0_dev10 (d0 : Dev nD) : Nat :=
  let c0_i32_178 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_177 : BitVec 32 := 4#32
  let v266 : BitVec 32 := Scalar.muli v10 c4_i32_177
  let v267 : BitVec 32 := Scalar.addi c0_i32_178 v266
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_179 : BitVec 32 := 2#32
  let v268 : BitVec 32 := Scalar.muli v5 c2_i32_179
  let v269 : BitVec 32 := Scalar.addi v267 v268
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_180 : BitVec 32 := 1#32
  let v270 : BitVec 32 := Scalar.muli v8 c1_i32_180
  let v271 : BitVec 32 := Scalar.addi v269 v270
  v271.toNat
def k0_dev11 (d0 : Dev nD) : Nat :=
  let c0_i32_188 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_187 : BitVec 32 := 4#32
  let v278 : BitVec 32 := Scalar.muli v2 c4_i32_187
  let v279 : BitVec 32 := Scalar.addi c0_i32_188 v278
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_189 : BitVec 32 := 2#32
  let v280 : BitVec 32 := Scalar.muli v11 c2_i32_189
  let v281 : BitVec 32 := Scalar.addi v279 v280
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_190 : BitVec 32 := 1#32
  let v282 : BitVec 32 := Scalar.muli v8 c1_i32_190
  let v283 : BitVec 32 := Scalar.addi v281 v282
  v283.toNat
def k0_dev12 (d0 : Dev nD) : Nat :=
  let c0_i32_198 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_197 : BitVec 32 := 4#32
  let v290 : BitVec 32 := Scalar.muli v12 c4_i32_197
  let v291 : BitVec 32 := Scalar.addi c0_i32_198 v290
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_199 : BitVec 32 := 2#32
  let v292 : BitVec 32 := Scalar.muli v13 c2_i32_199
  let v293 : BitVec 32 := Scalar.addi v291 v292
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_200 : BitVec 32 := 1#32
  let v294 : BitVec 32 := Scalar.muli v8 c1_i32_200
  let v295 : BitVec 32 := Scalar.addi v293 v294
  v295.toNat
def k0_dev13 (d0 : Dev nD) : Nat :=
  let c0_i32_208 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_207 : BitVec 32 := 4#32
  let v302 : BitVec 32 := Scalar.muli v2 c4_i32_207
  let v303 : BitVec 32 := Scalar.addi c0_i32_208 v302
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_209 : BitVec 32 := 2#32
  let v304 : BitVec 32 := Scalar.muli v5 c2_i32_209
  let v305 : BitVec 32 := Scalar.addi v303 v304
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_210 : BitVec 32 := 1#32
  let v306 : BitVec 32 := Scalar.muli v9 c1_i32_210
  let v307 : BitVec 32 := Scalar.addi v305 v306
  v307.toNat
def k0_dev14 (d0 : Dev nD) : Nat :=
  let c0_i32_218 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_217 : BitVec 32 := 4#32
  let v314 : BitVec 32 := Scalar.muli v10 c4_i32_217
  let v315 : BitVec 32 := Scalar.addi c0_i32_218 v314
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_219 : BitVec 32 := 2#32
  let v316 : BitVec 32 := Scalar.muli v5 c2_i32_219
  let v317 : BitVec 32 := Scalar.addi v315 v316
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_220 : BitVec 32 := 1#32
  let v318 : BitVec 32 := Scalar.muli v8 c1_i32_220
  let v319 : BitVec 32 := Scalar.addi v317 v318
  v319.toNat
def k0_dev15 (d0 : Dev nD) : Nat :=
  let c0_i32_228 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_227 : BitVec 32 := 4#32
  let v326 : BitVec 32 := Scalar.muli v2 c4_i32_227
  let v327 : BitVec 32 := Scalar.addi c0_i32_228 v326
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_229 : BitVec 32 := 2#32
  let v328 : BitVec 32 := Scalar.muli v11 c2_i32_229
  let v329 : BitVec 32 := Scalar.addi v327 v328
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_230 : BitVec 32 := 1#32
  let v330 : BitVec 32 := Scalar.muli v8 c1_i32_230
  let v331 : BitVec 32 := Scalar.addi v329 v330
  v331.toNat
def k0_dev16 (d0 : Dev nD) : Nat :=
  let c0_i32_238 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_237 : BitVec 32 := 4#32
  let v338 : BitVec 32 := Scalar.muli v12 c4_i32_237
  let v339 : BitVec 32 := Scalar.addi c0_i32_238 v338
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_239 : BitVec 32 := 2#32
  let v340 : BitVec 32 := Scalar.muli v13 c2_i32_239
  let v341 : BitVec 32 := Scalar.addi v339 v340
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_240 : BitVec 32 := 1#32
  let v342 : BitVec 32 := Scalar.muli v8 c1_i32_240
  let v343 : BitVec 32 := Scalar.addi v341 v342
  v343.toNat
def k0_dev17 (d0 : Dev nD) : Nat :=
  let c0_i32_248 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_247 : BitVec 32 := 4#32
  let v350 : BitVec 32 := Scalar.muli v2 c4_i32_247
  let v351 : BitVec 32 := Scalar.addi c0_i32_248 v350
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_249 : BitVec 32 := 2#32
  let v352 : BitVec 32 := Scalar.muli v5 c2_i32_249
  let v353 : BitVec 32 := Scalar.addi v351 v352
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_250 : BitVec 32 := 1#32
  let v354 : BitVec 32 := Scalar.muli v9 c1_i32_250
  let v355 : BitVec 32 := Scalar.addi v353 v354
  v355.toNat
def k0_dev18 (d0 : Dev nD) : Nat :=
  let c0_i32_258 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_257 : BitVec 32 := 4#32
  let v362 : BitVec 32 := Scalar.muli v10 c4_i32_257
  let v363 : BitVec 32 := Scalar.addi c0_i32_258 v362
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_259 : BitVec 32 := 2#32
  let v364 : BitVec 32 := Scalar.muli v5 c2_i32_259
  let v365 : BitVec 32 := Scalar.addi v363 v364
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_260 : BitVec 32 := 1#32
  let v366 : BitVec 32 := Scalar.muli v8 c1_i32_260
  let v367 : BitVec 32 := Scalar.addi v365 v366
  v367.toNat
def k0_dev19 (d0 : Dev nD) : Nat :=
  let c0_i32_268 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_267 : BitVec 32 := 4#32
  let v374 : BitVec 32 := Scalar.muli v2 c4_i32_267
  let v375 : BitVec 32 := Scalar.addi c0_i32_268 v374
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_269 : BitVec 32 := 2#32
  let v376 : BitVec 32 := Scalar.muli v11 c2_i32_269
  let v377 : BitVec 32 := Scalar.addi v375 v376
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_270 : BitVec 32 := 1#32
  let v378 : BitVec 32 := Scalar.muli v8 c1_i32_270
  let v379 : BitVec 32 := Scalar.addi v377 v378
  v379.toNat
def k0_dev20 (d0 : Dev nD) : Nat :=
  let c0_i32_278 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_277 : BitVec 32 := 4#32
  let v386 : BitVec 32 := Scalar.muli v12 c4_i32_277
  let v387 : BitVec 32 := Scalar.addi c0_i32_278 v386
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_279 : BitVec 32 := 2#32
  let v388 : BitVec 32 := Scalar.muli v13 c2_i32_279
  let v389 : BitVec 32 := Scalar.addi v387 v388
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_280 : BitVec 32 := 1#32
  let v390 : BitVec 32 := Scalar.muli v8 c1_i32_280
  let v391 : BitVec 32 := Scalar.addi v389 v390
  v391.toNat
def k0_dev21 (d0 : Dev nD) : Nat :=
  let c0_i32_288 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_287 : BitVec 32 := 4#32
  let v398 : BitVec 32 := Scalar.muli v2 c4_i32_287
  let v399 : BitVec 32 := Scalar.addi c0_i32_288 v398
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_289 : BitVec 32 := 2#32
  let v400 : BitVec 32 := Scalar.muli v5 c2_i32_289
  let v401 : BitVec 32 := Scalar.addi v399 v400
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_290 : BitVec 32 := 1#32
  let v402 : BitVec 32 := Scalar.muli v9 c1_i32_290
  let v403 : BitVec 32 := Scalar.addi v401 v402
  v403.toNat
def k0_dev22 (d0 : Dev nD) : Nat :=
  let c0_i32_298 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_297 : BitVec 32 := 4#32
  let v410 : BitVec 32 := Scalar.muli v10 c4_i32_297
  let v411 : BitVec 32 := Scalar.addi c0_i32_298 v410
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_299 : BitVec 32 := 2#32
  let v412 : BitVec 32 := Scalar.muli v5 c2_i32_299
  let v413 : BitVec 32 := Scalar.addi v411 v412
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_300 : BitVec 32 := 1#32
  let v414 : BitVec 32 := Scalar.muli v8 c1_i32_300
  let v415 : BitVec 32 := Scalar.addi v413 v414
  v415.toNat
def k0_dev23 (d0 : Dev nD) : Nat :=
  let c0_i32_308 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_307 : BitVec 32 := 4#32
  let v422 : BitVec 32 := Scalar.muli v2 c4_i32_307
  let v423 : BitVec 32 := Scalar.addi c0_i32_308 v422
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_309 : BitVec 32 := 2#32
  let v424 : BitVec 32 := Scalar.muli v11 c2_i32_309
  let v425 : BitVec 32 := Scalar.addi v423 v424
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_310 : BitVec 32 := 1#32
  let v426 : BitVec 32 := Scalar.muli v8 c1_i32_310
  let v427 : BitVec 32 := Scalar.addi v425 v426
  v427.toNat
def k0_dev24 (d0 : Dev nD) : Nat :=
  let c0_i32_318 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_317 : BitVec 32 := 4#32
  let v434 : BitVec 32 := Scalar.muli v12 c4_i32_317
  let v435 : BitVec 32 := Scalar.addi c0_i32_318 v434
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_319 : BitVec 32 := 2#32
  let v436 : BitVec 32 := Scalar.muli v13 c2_i32_319
  let v437 : BitVec 32 := Scalar.addi v435 v436
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_320 : BitVec 32 := 1#32
  let v438 : BitVec 32 := Scalar.muli v8 c1_i32_320
  let v439 : BitVec 32 := Scalar.addi v437 v438
  v439.toNat
def k0_off6 (d0 : Dev nD) : Fin 3 → Nat :=
  let c4_i32_323 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v446 : BitVec 32 := Scalar.muli c4_i32_323 v10
  let c2_i32_324 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v447 : BitVec 32 := Scalar.muli c2_i32_324 v5
  let v448 : BitVec 32 := Scalar.addi v446 v447
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v449 : BitVec 32 := Scalar.addi v448 v8
  let c0_i32_333 : BitVec 32 := 0#32
  let c0_i32_334 : BitVec 32 := 0#32
  ![v449.toNat, 0, 0]
def k0_dev25 (d0 : Dev nD) : Nat :=
  let c0_i32_344 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_343 : BitVec 32 := 4#32
  let v466 : BitVec 32 := Scalar.muli v2 c4_i32_343
  let v467 : BitVec 32 := Scalar.addi c0_i32_344 v466
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_345 : BitVec 32 := 2#32
  let v468 : BitVec 32 := Scalar.muli v5 c2_i32_345
  let v469 : BitVec 32 := Scalar.addi v467 v468
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_346 : BitVec 32 := 1#32
  let v470 : BitVec 32 := Scalar.muli v9 c1_i32_346
  let v471 : BitVec 32 := Scalar.addi v469 v470
  v471.toNat
def k0_off7 (d0 : Dev nD) : Fin 3 → Nat :=
  let c4_i32_351 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v480 : BitVec 32 := Scalar.muli c4_i32_351 v10
  let c2_i32_352 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v481 : BitVec 32 := Scalar.muli c2_i32_352 v5
  let v482 : BitVec 32 := Scalar.addi v480 v481
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v483 : BitVec 32 := Scalar.addi v482 v8
  let c0_i32_361 : BitVec 32 := 0#32
  let c0_i32_362 : BitVec 32 := 0#32
  ![v483.toNat, 0, 0]
def k0_dev26 (d0 : Dev nD) : Nat :=
  let c0_i32_372 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_371 : BitVec 32 := 4#32
  let v500 : BitVec 32 := Scalar.muli v2 c4_i32_371
  let v501 : BitVec 32 := Scalar.addi c0_i32_372 v500
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_373 : BitVec 32 := 2#32
  let v502 : BitVec 32 := Scalar.muli v5 c2_i32_373
  let v503 : BitVec 32 := Scalar.addi v501 v502
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_374 : BitVec 32 := 1#32
  let v504 : BitVec 32 := Scalar.muli v9 c1_i32_374
  let v505 : BitVec 32 := Scalar.addi v503 v504
  v505.toNat
def k0_off8 (d0 : Dev nD) : Fin 3 → Nat :=
  let c4_i32_379 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v514 : BitVec 32 := Scalar.muli c4_i32_379 v10
  let c2_i32_380 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v515 : BitVec 32 := Scalar.muli c2_i32_380 v5
  let v516 : BitVec 32 := Scalar.addi v514 v515
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v517 : BitVec 32 := Scalar.addi v516 v8
  let c0_i32_389 : BitVec 32 := 0#32
  let c0_i32_390 : BitVec 32 := 0#32
  ![v517.toNat, 0, 0]
def k0_dev27 (d0 : Dev nD) : Nat :=
  let c0_i32_400 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_399 : BitVec 32 := 4#32
  let v534 : BitVec 32 := Scalar.muli v2 c4_i32_399
  let v535 : BitVec 32 := Scalar.addi c0_i32_400 v534
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_401 : BitVec 32 := 2#32
  let v536 : BitVec 32 := Scalar.muli v5 c2_i32_401
  let v537 : BitVec 32 := Scalar.addi v535 v536
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_402 : BitVec 32 := 1#32
  let v538 : BitVec 32 := Scalar.muli v9 c1_i32_402
  let v539 : BitVec 32 := Scalar.addi v537 v538
  v539.toNat
def k0_dev28 (d0 : Dev nD) : Nat :=
  let c0_i32_428 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_427 : BitVec 32 := 4#32
  let v568 : BitVec 32 := Scalar.muli v2 c4_i32_427
  let v569 : BitVec 32 := Scalar.addi c0_i32_428 v568
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_429 : BitVec 32 := 2#32
  let v570 : BitVec 32 := Scalar.muli v5 c2_i32_429
  let v571 : BitVec 32 := Scalar.addi v569 v570
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_430 : BitVec 32 := 1#32
  let v572 : BitVec 32 := Scalar.muli v9 c1_i32_430
  let v573 : BitVec 32 := Scalar.addi v571 v572
  v573.toNat
def k0_off9 (d0 : Dev nD) : Fin 3 → Nat :=
  let c4_i32_435 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v582 : BitVec 32 := Scalar.muli c4_i32_435 v10
  let c2_i32_436 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v583 : BitVec 32 := Scalar.muli c2_i32_436 v5
  let v584 : BitVec 32 := Scalar.addi v582 v583
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v585 : BitVec 32 := Scalar.addi v584 v8
  let c0_i32_445 : BitVec 32 := 0#32
  let c0_i32_446 : BitVec 32 := 0#32
  ![v585.toNat, 0, 0]
def k0_dev29 (d0 : Dev nD) : Nat :=
  let c0_i32_456 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_455 : BitVec 32 := 4#32
  let v602 : BitVec 32 := Scalar.muli v2 c4_i32_455
  let v603 : BitVec 32 := Scalar.addi c0_i32_456 v602
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_457 : BitVec 32 := 2#32
  let v604 : BitVec 32 := Scalar.muli v5 c2_i32_457
  let v605 : BitVec 32 := Scalar.addi v603 v604
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_458 : BitVec 32 := 1#32
  let v606 : BitVec 32 := Scalar.muli v9 c1_i32_458
  let v607 : BitVec 32 := Scalar.addi v605 v606
  v607.toNat
def k0_off10 (d0 : Dev nD) : Fin 3 → Nat :=
  let c4_i32_463 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v616 : BitVec 32 := Scalar.muli c4_i32_463 v10
  let c2_i32_464 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v617 : BitVec 32 := Scalar.muli c2_i32_464 v5
  let v618 : BitVec 32 := Scalar.addi v616 v617
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v619 : BitVec 32 := Scalar.addi v618 v8
  let c0_i32_473 : BitVec 32 := 0#32
  let c0_i32_474 : BitVec 32 := 0#32
  ![v619.toNat, 0, 0]
def k0_dev30 (d0 : Dev nD) : Nat :=
  let c0_i32_484 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_483 : BitVec 32 := 4#32
  let v636 : BitVec 32 := Scalar.muli v2 c4_i32_483
  let v637 : BitVec 32 := Scalar.addi c0_i32_484 v636
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_485 : BitVec 32 := 2#32
  let v638 : BitVec 32 := Scalar.muli v5 c2_i32_485
  let v639 : BitVec 32 := Scalar.addi v637 v638
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_486 : BitVec 32 := 1#32
  let v640 : BitVec 32 := Scalar.muli v9 c1_i32_486
  let v641 : BitVec 32 := Scalar.addi v639 v640
  v641.toNat
def k0_off11 (d0 : Dev nD) : Fin 3 → Nat :=
  let c4_i32_491 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v650 : BitVec 32 := Scalar.muli c4_i32_491 v2
  let c2_i32_492 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v651 : BitVec 32 := Scalar.muli c2_i32_492 v11
  let v652 : BitVec 32 := Scalar.addi v650 v651
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v653 : BitVec 32 := Scalar.addi v652 v8
  let c0_i32_501 : BitVec 32 := 0#32
  let c0_i32_502 : BitVec 32 := 0#32
  ![v653.toNat, 0, 0]
def k0_dev31 (d0 : Dev nD) : Nat :=
  let c0_i32_512 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_511 : BitVec 32 := 4#32
  let v670 : BitVec 32 := Scalar.muli v2 c4_i32_511
  let v671 : BitVec 32 := Scalar.addi c0_i32_512 v670
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_513 : BitVec 32 := 2#32
  let v672 : BitVec 32 := Scalar.muli v5 c2_i32_513
  let v673 : BitVec 32 := Scalar.addi v671 v672
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_514 : BitVec 32 := 1#32
  let v674 : BitVec 32 := Scalar.muli v9 c1_i32_514
  let v675 : BitVec 32 := Scalar.addi v673 v674
  v675.toNat
def k0_off12 (d0 : Dev nD) : Fin 3 → Nat :=
  let c4_i32_519 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v684 : BitVec 32 := Scalar.muli c4_i32_519 v2
  let c2_i32_520 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v685 : BitVec 32 := Scalar.muli c2_i32_520 v11
  let v686 : BitVec 32 := Scalar.addi v684 v685
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v687 : BitVec 32 := Scalar.addi v686 v8
  let c0_i32_529 : BitVec 32 := 0#32
  let c0_i32_530 : BitVec 32 := 0#32
  ![v687.toNat, 0, 0]
def k0_dev32 (d0 : Dev nD) : Nat :=
  let c0_i32_540 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_539 : BitVec 32 := 4#32
  let v704 : BitVec 32 := Scalar.muli v2 c4_i32_539
  let v705 : BitVec 32 := Scalar.addi c0_i32_540 v704
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_541 : BitVec 32 := 2#32
  let v706 : BitVec 32 := Scalar.muli v5 c2_i32_541
  let v707 : BitVec 32 := Scalar.addi v705 v706
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_542 : BitVec 32 := 1#32
  let v708 : BitVec 32 := Scalar.muli v9 c1_i32_542
  let v709 : BitVec 32 := Scalar.addi v707 v708
  v709.toNat
def k0_off13 (d0 : Dev nD) : Fin 3 → Nat :=
  let c4_i32_547 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v718 : BitVec 32 := Scalar.muli c4_i32_547 v2
  let c2_i32_548 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v719 : BitVec 32 := Scalar.muli c2_i32_548 v11
  let v720 : BitVec 32 := Scalar.addi v718 v719
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v721 : BitVec 32 := Scalar.addi v720 v8
  let c0_i32_557 : BitVec 32 := 0#32
  let c0_i32_558 : BitVec 32 := 0#32
  ![v721.toNat, 0, 0]
def k0_dev33 (d0 : Dev nD) : Nat :=
  let c0_i32_568 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_567 : BitVec 32 := 4#32
  let v738 : BitVec 32 := Scalar.muli v2 c4_i32_567
  let v739 : BitVec 32 := Scalar.addi c0_i32_568 v738
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_569 : BitVec 32 := 2#32
  let v740 : BitVec 32 := Scalar.muli v5 c2_i32_569
  let v741 : BitVec 32 := Scalar.addi v739 v740
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_570 : BitVec 32 := 1#32
  let v742 : BitVec 32 := Scalar.muli v9 c1_i32_570
  let v743 : BitVec 32 := Scalar.addi v741 v742
  v743.toNat
def k0_dev34 (d0 : Dev nD) : Nat :=
  let c0_i32_596 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_595 : BitVec 32 := 4#32
  let v772 : BitVec 32 := Scalar.muli v2 c4_i32_595
  let v773 : BitVec 32 := Scalar.addi c0_i32_596 v772
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_597 : BitVec 32 := 2#32
  let v774 : BitVec 32 := Scalar.muli v5 c2_i32_597
  let v775 : BitVec 32 := Scalar.addi v773 v774
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_598 : BitVec 32 := 1#32
  let v776 : BitVec 32 := Scalar.muli v9 c1_i32_598
  let v777 : BitVec 32 := Scalar.addi v775 v776
  v777.toNat
def k0_off14 (d0 : Dev nD) : Fin 3 → Nat :=
  let c4_i32_603 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v786 : BitVec 32 := Scalar.muli c4_i32_603 v2
  let c2_i32_604 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v787 : BitVec 32 := Scalar.muli c2_i32_604 v11
  let v788 : BitVec 32 := Scalar.addi v786 v787
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v789 : BitVec 32 := Scalar.addi v788 v8
  let c0_i32_613 : BitVec 32 := 0#32
  let c0_i32_614 : BitVec 32 := 0#32
  ![v789.toNat, 0, 0]
def k0_dev35 (d0 : Dev nD) : Nat :=
  let c0_i32_624 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_623 : BitVec 32 := 4#32
  let v806 : BitVec 32 := Scalar.muli v2 c4_i32_623
  let v807 : BitVec 32 := Scalar.addi c0_i32_624 v806
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_625 : BitVec 32 := 2#32
  let v808 : BitVec 32 := Scalar.muli v5 c2_i32_625
  let v809 : BitVec 32 := Scalar.addi v807 v808
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_626 : BitVec 32 := 1#32
  let v810 : BitVec 32 := Scalar.muli v9 c1_i32_626
  let v811 : BitVec 32 := Scalar.addi v809 v810
  v811.toNat
def k0_off15 (d0 : Dev nD) : Fin 3 → Nat :=
  let c4_i32_631 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v820 : BitVec 32 := Scalar.muli c4_i32_631 v2
  let c2_i32_632 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v821 : BitVec 32 := Scalar.muli c2_i32_632 v11
  let v822 : BitVec 32 := Scalar.addi v820 v821
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v823 : BitVec 32 := Scalar.addi v822 v8
  let c0_i32_641 : BitVec 32 := 0#32
  let c0_i32_642 : BitVec 32 := 0#32
  ![v823.toNat, 0, 0]
def k0_dev36 (d0 : Dev nD) : Nat :=
  let c0_i32_652 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_651 : BitVec 32 := 4#32
  let v840 : BitVec 32 := Scalar.muli v2 c4_i32_651
  let v841 : BitVec 32 := Scalar.addi c0_i32_652 v840
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_653 : BitVec 32 := 2#32
  let v842 : BitVec 32 := Scalar.muli v5 c2_i32_653
  let v843 : BitVec 32 := Scalar.addi v841 v842
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_654 : BitVec 32 := 1#32
  let v844 : BitVec 32 := Scalar.muli v9 c1_i32_654
  let v845 : BitVec 32 := Scalar.addi v843 v844
  v845.toNat
def k0_off16 (d0 : Dev nD) : Fin 3 → Nat :=
  let c4_i32_659 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v854 : BitVec 32 := Scalar.muli c4_i32_659 v12
  let c2_i32_660 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v855 : BitVec 32 := Scalar.muli c2_i32_660 v13
  let v856 : BitVec 32 := Scalar.addi v854 v855
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v857 : BitVec 32 := Scalar.addi v856 v8
  let c0_i32_669 : BitVec 32 := 0#32
  let c0_i32_670 : BitVec 32 := 0#32
  ![v857.toNat, 0, 0]
def k0_dev37 (d0 : Dev nD) : Nat :=
  let c0_i32_679 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_678 : BitVec 32 := 4#32
  let v874 : BitVec 32 := Scalar.muli v2 c4_i32_678
  let v875 : BitVec 32 := Scalar.addi c0_i32_679 v874
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_680 : BitVec 32 := 2#32
  let v876 : BitVec 32 := Scalar.muli v5 c2_i32_680
  let v877 : BitVec 32 := Scalar.addi v875 v876
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_681 : BitVec 32 := 1#32
  let v878 : BitVec 32 := Scalar.muli v9 c1_i32_681
  let v879 : BitVec 32 := Scalar.addi v877 v878
  v879.toNat
def k0_off17 (d0 : Dev nD) : Fin 3 → Nat :=
  let c4_i32_686 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v888 : BitVec 32 := Scalar.muli c4_i32_686 v12
  let c2_i32_687 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v889 : BitVec 32 := Scalar.muli c2_i32_687 v13
  let v890 : BitVec 32 := Scalar.addi v888 v889
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v891 : BitVec 32 := Scalar.addi v890 v8
  let c0_i32_696 : BitVec 32 := 0#32
  let c0_i32_697 : BitVec 32 := 0#32
  ![v891.toNat, 0, 0]
def k0_dev38 (d0 : Dev nD) : Nat :=
  let c0_i32_707 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_706 : BitVec 32 := 4#32
  let v908 : BitVec 32 := Scalar.muli v2 c4_i32_706
  let v909 : BitVec 32 := Scalar.addi c0_i32_707 v908
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_708 : BitVec 32 := 2#32
  let v910 : BitVec 32 := Scalar.muli v5 c2_i32_708
  let v911 : BitVec 32 := Scalar.addi v909 v910
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_709 : BitVec 32 := 1#32
  let v912 : BitVec 32 := Scalar.muli v9 c1_i32_709
  let v913 : BitVec 32 := Scalar.addi v911 v912
  v913.toNat
def k0_off18 (d0 : Dev nD) : Fin 3 → Nat :=
  let c4_i32_714 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v922 : BitVec 32 := Scalar.muli c4_i32_714 v12
  let c2_i32_715 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v923 : BitVec 32 := Scalar.muli c2_i32_715 v13
  let v924 : BitVec 32 := Scalar.addi v922 v923
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v925 : BitVec 32 := Scalar.addi v924 v8
  let c0_i32_724 : BitVec 32 := 0#32
  let c0_i32_725 : BitVec 32 := 0#32
  ![v925.toNat, 0, 0]
def k0_dev39 (d0 : Dev nD) : Nat :=
  let c0_i32_735 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_734 : BitVec 32 := 4#32
  let v942 : BitVec 32 := Scalar.muli v2 c4_i32_734
  let v943 : BitVec 32 := Scalar.addi c0_i32_735 v942
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_736 : BitVec 32 := 2#32
  let v944 : BitVec 32 := Scalar.muli v5 c2_i32_736
  let v945 : BitVec 32 := Scalar.addi v943 v944
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_737 : BitVec 32 := 1#32
  let v946 : BitVec 32 := Scalar.muli v9 c1_i32_737
  let v947 : BitVec 32 := Scalar.addi v945 v946
  v947.toNat
def k0_dev40 (d0 : Dev nD) : Nat :=
  let c0_i32_763 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_762 : BitVec 32 := 4#32
  let v976 : BitVec 32 := Scalar.muli v2 c4_i32_762
  let v977 : BitVec 32 := Scalar.addi c0_i32_763 v976
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_764 : BitVec 32 := 2#32
  let v978 : BitVec 32 := Scalar.muli v5 c2_i32_764
  let v979 : BitVec 32 := Scalar.addi v977 v978
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_765 : BitVec 32 := 1#32
  let v980 : BitVec 32 := Scalar.muli v9 c1_i32_765
  let v981 : BitVec 32 := Scalar.addi v979 v980
  v981.toNat
def k0_off19 (d0 : Dev nD) : Fin 3 → Nat :=
  let c4_i32_770 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v990 : BitVec 32 := Scalar.muli c4_i32_770 v12
  let c2_i32_771 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v991 : BitVec 32 := Scalar.muli c2_i32_771 v13
  let v992 : BitVec 32 := Scalar.addi v990 v991
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v993 : BitVec 32 := Scalar.addi v992 v8
  let c0_i32_780 : BitVec 32 := 0#32
  let c0_i32_781 : BitVec 32 := 0#32
  ![v993.toNat, 0, 0]
def k0_dev41 (d0 : Dev nD) : Nat :=
  let c0_i32_791 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_790 : BitVec 32 := 4#32
  let v1010 : BitVec 32 := Scalar.muli v2 c4_i32_790
  let v1011 : BitVec 32 := Scalar.addi c0_i32_791 v1010
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_792 : BitVec 32 := 2#32
  let v1012 : BitVec 32 := Scalar.muli v5 c2_i32_792
  let v1013 : BitVec 32 := Scalar.addi v1011 v1012
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_793 : BitVec 32 := 1#32
  let v1014 : BitVec 32 := Scalar.muli v9 c1_i32_793
  let v1015 : BitVec 32 := Scalar.addi v1013 v1014
  v1015.toNat
def k0_off20 (d0 : Dev nD) : Fin 3 → Nat :=
  let c4_i32_798 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1024 : BitVec 32 := Scalar.muli c4_i32_798 v12
  let c2_i32_799 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1025 : BitVec 32 := Scalar.muli c2_i32_799 v13
  let v1026 : BitVec 32 := Scalar.addi v1024 v1025
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1027 : BitVec 32 := Scalar.addi v1026 v8
  let c0_i32_808 : BitVec 32 := 0#32
  let c0_i32_809 : BitVec 32 := 0#32
  ![v1027.toNat, 0, 0]
def k0_dev42 (d0 : Dev nD) : Nat :=
  let c0_i32_819 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_818 : BitVec 32 := 4#32
  let v1044 : BitVec 32 := Scalar.muli v2 c4_i32_818
  let v1045 : BitVec 32 := Scalar.addi c0_i32_819 v1044
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_820 : BitVec 32 := 2#32
  let v1046 : BitVec 32 := Scalar.muli v5 c2_i32_820
  let v1047 : BitVec 32 := Scalar.addi v1045 v1046
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_821 : BitVec 32 := 1#32
  let v1048 : BitVec 32 := Scalar.muli v9 c1_i32_821
  let v1049 : BitVec 32 := Scalar.addi v1047 v1048
  v1049.toNat
def k0_off21 (d0 : Dev nD) : Fin 3 → Nat :=
  let c4_i32_826 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1058 : BitVec 32 := Scalar.muli c4_i32_826 v2
  let c2_i32_827 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1059 : BitVec 32 := Scalar.muli c2_i32_827 v5
  let v1060 : BitVec 32 := Scalar.addi v1058 v1059
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1061 : BitVec 32 := Scalar.addi v1060 v9
  let c0_i32_836 : BitVec 32 := 0#32
  let c0_i32_837 : BitVec 32 := 0#32
  ![v1061.toNat, 0, 0]
def k0_off22 (d0 : Dev nD) : Fin 3 → Nat :=
  let c4_i32_841 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1075 : BitVec 32 := Scalar.muli c4_i32_841 v10
  let c2_i32_842 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1076 : BitVec 32 := Scalar.muli c2_i32_842 v5
  let v1077 : BitVec 32 := Scalar.addi v1075 v1076
  let c1_i32_840 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1074 : BitVec 32 := Scalar.subi c1_i32_840 v8
  let v1078 : BitVec 32 := Scalar.addi v1077 v1074
  let c0_i32_851 : BitVec 32 := 0#32
  let c0_i32_852 : BitVec 32 := 0#32
  ![v1078.toNat, 0, 0]
def k0_off23 (d0 : Dev nD) : Fin 3 → Nat :=
  let c4_i32_856 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1092 : BitVec 32 := Scalar.muli c4_i32_856 v2
  let c2_i32_857 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1093 : BitVec 32 := Scalar.muli c2_i32_857 v11
  let v1094 : BitVec 32 := Scalar.addi v1092 v1093
  let c1_i32_855 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1091 : BitVec 32 := Scalar.subi c1_i32_855 v8
  let v1095 : BitVec 32 := Scalar.addi v1094 v1091
  let c0_i32_866 : BitVec 32 := 0#32
  let c0_i32_867 : BitVec 32 := 0#32
  ![v1095.toNat, 0, 0]
def k0_off24 (d0 : Dev nD) : Fin 3 → Nat :=
  let c4_i32_871 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1109 : BitVec 32 := Scalar.muli c4_i32_871 v12
  let c2_i32_872 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1110 : BitVec 32 := Scalar.muli c2_i32_872 v13
  let v1111 : BitVec 32 := Scalar.addi v1109 v1110
  let c1_i32_870 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1108 : BitVec 32 := Scalar.subi c1_i32_870 v8
  let v1112 : BitVec 32 := Scalar.addi v1111 v1108
  let c0_i32_881 : BitVec 32 := 0#32
  let c0_i32_882 : BitVec 32 := 0#32
  ![v1112.toNat, 0, 0]
def k0_off25 (d0 : Dev nD) : Fin 3 → Nat :=
  let c4_i32_885 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1125 : BitVec 32 := Scalar.muli c4_i32_885 v2
  let c2_i32_886 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1126 : BitVec 32 := Scalar.muli c2_i32_886 v5
  let v1127 : BitVec 32 := Scalar.addi v1125 v1126
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1128 : BitVec 32 := Scalar.addi v1127 v9
  let c0_i32_895 : BitVec 32 := 0#32
  let c0_i32_896 : BitVec 32 := 0#32
  ![v1128.toNat, 0, 0]
def k0_off26 (d0 : Dev nD) : Fin 3 → Nat :=
  let c4_i32_900 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1142 : BitVec 32 := Scalar.muli c4_i32_900 v10
  let c2_i32_901 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1143 : BitVec 32 := Scalar.muli c2_i32_901 v5
  let v1144 : BitVec 32 := Scalar.addi v1142 v1143
  let c1_i32_899 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1141 : BitVec 32 := Scalar.subi c1_i32_899 v8
  let v1145 : BitVec 32 := Scalar.addi v1144 v1141
  let c0_i32_910 : BitVec 32 := 0#32
  let c0_i32_911 : BitVec 32 := 0#32
  ![v1145.toNat, 0, 0]
def k0_off27 (d0 : Dev nD) : Fin 3 → Nat :=
  let c4_i32_915 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1159 : BitVec 32 := Scalar.muli c4_i32_915 v2
  let c2_i32_916 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1160 : BitVec 32 := Scalar.muli c2_i32_916 v11
  let v1161 : BitVec 32 := Scalar.addi v1159 v1160
  let c1_i32_914 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1158 : BitVec 32 := Scalar.subi c1_i32_914 v8
  let v1162 : BitVec 32 := Scalar.addi v1161 v1158
  let c0_i32_925 : BitVec 32 := 0#32
  let c0_i32_926 : BitVec 32 := 0#32
  ![v1162.toNat, 0, 0]
def k0_off28 (d0 : Dev nD) : Fin 3 → Nat :=
  let c4_i32_930 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1176 : BitVec 32 := Scalar.muli c4_i32_930 v12
  let c2_i32_931 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1177 : BitVec 32 := Scalar.muli c2_i32_931 v13
  let v1178 : BitVec 32 := Scalar.addi v1176 v1177
  let c1_i32_929 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1175 : BitVec 32 := Scalar.subi c1_i32_929 v8
  let v1179 : BitVec 32 := Scalar.addi v1178 v1175
  let c0_i32_940 : BitVec 32 := 0#32
  let c0_i32_941 : BitVec 32 := 0#32
  ![v1179.toNat, 0, 0]
def k0_off29 (d0 : Dev nD) : Fin 3 → Nat :=
  let c4_i32_944 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1192 : BitVec 32 := Scalar.muli c4_i32_944 v2
  let c2_i32_945 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1193 : BitVec 32 := Scalar.muli c2_i32_945 v5
  let v1194 : BitVec 32 := Scalar.addi v1192 v1193
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1195 : BitVec 32 := Scalar.addi v1194 v9
  let c0_i32_954 : BitVec 32 := 0#32
  let c0_i32_955 : BitVec 32 := 0#32
  ![v1195.toNat, 0, 0]
def k0_off30 (d0 : Dev nD) : Fin 3 → Nat :=
  let c4_i32_959 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1209 : BitVec 32 := Scalar.muli c4_i32_959 v10
  let c2_i32_960 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1210 : BitVec 32 := Scalar.muli c2_i32_960 v5
  let v1211 : BitVec 32 := Scalar.addi v1209 v1210
  let c1_i32_958 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1208 : BitVec 32 := Scalar.subi c1_i32_958 v8
  let v1212 : BitVec 32 := Scalar.addi v1211 v1208
  let c0_i32_969 : BitVec 32 := 0#32
  let c0_i32_970 : BitVec 32 := 0#32
  ![v1212.toNat, 0, 0]
def k0_off31 (d0 : Dev nD) : Fin 3 → Nat :=
  let c4_i32_974 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1226 : BitVec 32 := Scalar.muli c4_i32_974 v2
  let c2_i32_975 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1227 : BitVec 32 := Scalar.muli c2_i32_975 v11
  let v1228 : BitVec 32 := Scalar.addi v1226 v1227
  let c1_i32_973 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1225 : BitVec 32 := Scalar.subi c1_i32_973 v8
  let v1229 : BitVec 32 := Scalar.addi v1228 v1225
  let c0_i32_984 : BitVec 32 := 0#32
  let c0_i32_985 : BitVec 32 := 0#32
  ![v1229.toNat, 0, 0]
def k0_off32 (d0 : Dev nD) : Fin 3 → Nat :=
  let c4_i32_989 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1243 : BitVec 32 := Scalar.muli c4_i32_989 v12
  let c2_i32_990 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1244 : BitVec 32 := Scalar.muli c2_i32_990 v13
  let v1245 : BitVec 32 := Scalar.addi v1243 v1244
  let c1_i32_988 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1242 : BitVec 32 := Scalar.subi c1_i32_988 v8
  let v1246 : BitVec 32 := Scalar.addi v1245 v1242
  let c0_i32_999 : BitVec 32 := 0#32
  let c0_i32_1000 : BitVec 32 := 0#32
  ![v1246.toNat, 0, 0]
def k0_off33 (d0 : Dev nD) : Fin 3 → Nat :=
  let c4_i32_1062 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1326 : BitVec 32 := Scalar.muli c4_i32_1062 v2
  let c2_i32_1063 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1327 : BitVec 32 := Scalar.muli c2_i32_1063 v5
  let v1328 : BitVec 32 := Scalar.addi v1326 v1327
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1329 : BitVec 32 := Scalar.addi v1328 v9
  let c0_i32_1072 : BitVec 32 := 0#32
  let c0_i32_1073 : BitVec 32 := 0#32
  ![v1329.toNat, 0, 0]
def k0_off34 (d0 : Dev nD) : Fin 3 → Nat :=
  let c4_i32_1077 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1343 : BitVec 32 := Scalar.muli c4_i32_1077 v10
  let c2_i32_1078 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1344 : BitVec 32 := Scalar.muli c2_i32_1078 v5
  let v1345 : BitVec 32 := Scalar.addi v1343 v1344
  let c1_i32_1076 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1342 : BitVec 32 := Scalar.subi c1_i32_1076 v8
  let v1346 : BitVec 32 := Scalar.addi v1345 v1342
  let c0_i32_1087 : BitVec 32 := 0#32
  let c0_i32_1088 : BitVec 32 := 0#32
  ![v1346.toNat, 0, 0]
def k0_off35 (d0 : Dev nD) : Fin 3 → Nat :=
  let c4_i32_1092 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1360 : BitVec 32 := Scalar.muli c4_i32_1092 v2
  let c2_i32_1093 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1361 : BitVec 32 := Scalar.muli c2_i32_1093 v11
  let v1362 : BitVec 32 := Scalar.addi v1360 v1361
  let c1_i32_1091 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1359 : BitVec 32 := Scalar.subi c1_i32_1091 v8
  let v1363 : BitVec 32 := Scalar.addi v1362 v1359
  let c0_i32_1102 : BitVec 32 := 0#32
  let c0_i32_1103 : BitVec 32 := 0#32
  ![v1363.toNat, 0, 0]
def k0_off36 (d0 : Dev nD) : Fin 3 → Nat :=
  let c4_i32_1107 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1377 : BitVec 32 := Scalar.muli c4_i32_1107 v12
  let c2_i32_1108 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1378 : BitVec 32 := Scalar.muli c2_i32_1108 v13
  let v1379 : BitVec 32 := Scalar.addi v1377 v1378
  let c1_i32_1106 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1376 : BitVec 32 := Scalar.subi c1_i32_1106 v8
  let v1380 : BitVec 32 := Scalar.addi v1379 v1376
  let c0_i32_1117 : BitVec 32 := 0#32
  let c0_i32_1118 : BitVec 32 := 0#32
  ![v1380.toNat, 0, 0]
def k0_off37 (d0 : Dev nD) : Fin 3 → Nat :=
  let c4_i32_1121 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1393 : BitVec 32 := Scalar.muli c4_i32_1121 v2
  let c2_i32_1122 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1394 : BitVec 32 := Scalar.muli c2_i32_1122 v5
  let v1395 : BitVec 32 := Scalar.addi v1393 v1394
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1396 : BitVec 32 := Scalar.addi v1395 v9
  let c0_i32_1131 : BitVec 32 := 0#32
  let c0_i32_1132 : BitVec 32 := 0#32
  ![v1396.toNat, 0, 0]
def k0_off38 (d0 : Dev nD) : Fin 3 → Nat :=
  let c4_i32_1136 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1410 : BitVec 32 := Scalar.muli c4_i32_1136 v10
  let c2_i32_1137 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1411 : BitVec 32 := Scalar.muli c2_i32_1137 v5
  let v1412 : BitVec 32 := Scalar.addi v1410 v1411
  let c1_i32_1135 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1409 : BitVec 32 := Scalar.subi c1_i32_1135 v8
  let v1413 : BitVec 32 := Scalar.addi v1412 v1409
  let c0_i32_1146 : BitVec 32 := 0#32
  let c0_i32_1147 : BitVec 32 := 0#32
  ![v1413.toNat, 0, 0]
def k0_off39 (d0 : Dev nD) : Fin 3 → Nat :=
  let c4_i32_1151 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1427 : BitVec 32 := Scalar.muli c4_i32_1151 v2
  let c2_i32_1152 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1428 : BitVec 32 := Scalar.muli c2_i32_1152 v11
  let v1429 : BitVec 32 := Scalar.addi v1427 v1428
  let c1_i32_1150 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1426 : BitVec 32 := Scalar.subi c1_i32_1150 v8
  let v1430 : BitVec 32 := Scalar.addi v1429 v1426
  let c0_i32_1161 : BitVec 32 := 0#32
  let c0_i32_1162 : BitVec 32 := 0#32
  ![v1430.toNat, 0, 0]
def k0_off40 (d0 : Dev nD) : Fin 3 → Nat :=
  let c4_i32_1166 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1444 : BitVec 32 := Scalar.muli c4_i32_1166 v12
  let c2_i32_1167 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1445 : BitVec 32 := Scalar.muli c2_i32_1167 v13
  let v1446 : BitVec 32 := Scalar.addi v1444 v1445
  let c1_i32_1165 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1443 : BitVec 32 := Scalar.subi c1_i32_1165 v8
  let v1447 : BitVec 32 := Scalar.addi v1446 v1443
  let c0_i32_1176 : BitVec 32 := 0#32
  let c0_i32_1177 : BitVec 32 := 0#32
  ![v1447.toNat, 0, 0]
-- ==== GatherWeightsIdeal.lean ====
abbrev S2048x1282 : Shape := ⟨2, ![2048, 1282]⟩
abbrev S128x1024 : Shape := ⟨2, ![128, 1024]⟩
abbrev S1024x256 : Shape := ⟨2, ![1024, 256]⟩
abbrev S256x2048 : Shape := ⟨2, ![256, 2048]⟩
abbrev S4x384 : Shape := ⟨2, ![4, 384]⟩
abbrev S8x2048x1282 : Shape := ⟨3, ![8, 2048, 1282]⟩
abbrev S8x128x1024 : Shape := ⟨3, ![8, 128, 1024]⟩
abbrev S8x1024x256 : Shape := ⟨3, ![8, 1024, 256]⟩
abbrev S8x256x2048 : Shape := ⟨3, ![8, 256, 2048]⟩
abbrev S8x4x384 : Shape := ⟨3, ![8, 4, 384]⟩
abbrev S6x7 : Shape := ⟨2, ![6, 7]⟩
abbrev S6 : Shape := ⟨1, ![6]⟩
abbrev S1 : Shape := ⟨1, ![1]⟩
abbrev S_ : Shape := ⟨0, ![]⟩
abbrev S1x2048x1282 : Shape := ⟨3, ![1, 2048, 1282]⟩
abbrev S1x128x1024 : Shape := ⟨3, ![1, 128, 1024]⟩
abbrev S1x1024x256 : Shape := ⟨3, ![1, 1024, 256]⟩
abbrev S1x256x2048 : Shape := ⟨3, ![1, 256, 2048]⟩
abbrev S1x4x384 : Shape := ⟨3, ![1, 4, 384]⟩
abbrev S1x1 : Shape := ⟨2, ![1, 1]⟩

abbrev nBuf : Space → Nat
  | .hbm => 12
  | .vmem => 0
  | .smem => 0
  | _ => 0

abbrev bufTy : (tb : Table) → Fin (tcTables nBuf tb) → BufTy
  | .hbm, ⟨0, _⟩ => ⟨S2048x1282, .bf16⟩
  | .hbm, ⟨1, _⟩ => ⟨S128x1024, .bf16⟩
  | .hbm, ⟨2, _⟩ => ⟨S1024x256, .bf16⟩
  | .hbm, ⟨3, _⟩ => ⟨S1024x256, .bf16⟩
  | .hbm, ⟨4, _⟩ => ⟨S256x2048, .bf16⟩
  | .hbm, ⟨5, _⟩ => ⟨S4x384, .f32⟩
  | .hbm, ⟨6, _⟩ => ⟨S8x2048x1282, .bf16⟩
  | .hbm, ⟨7, _⟩ => ⟨S8x128x1024, .bf16⟩
  | .hbm, ⟨8, _⟩ => ⟨S8x1024x256, .bf16⟩
  | .hbm, ⟨9, _⟩ => ⟨S8x1024x256, .bf16⟩
  | .hbm, ⟨10, _⟩ => ⟨S8x256x2048, .bf16⟩
  | .hbm, ⟨11, _⟩ => ⟨S8x4x384, .f32⟩
  | _, _ => ⟨S2048x1282, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32_20 : BitVec 32 := 0#32
  let c0_i32_21 : BitVec 32 := 0#32
  ![v17.toNat, 0, 0]
def k0_off2 (d0 : Dev nD) : Fin 3 → Nat :=
  let c4_i32_10 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.muli c4_i32_10 v2
  let c2_i32_11 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.muli c2_i32_11 v5
  let v20 : BitVec 32 := Scalar.addi v18 v19
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.addi v20 v8
  let c0_i32_23 : BitVec 32 := 0#32
  let c0_i32_24 : BitVec 32 := 0#32
  ![v21.toNat, 0, 0]
def k0_off3 (d0 : Dev nD) : Fin 3 → Nat :=
  let c4_i32_12 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.muli c4_i32_12 v2
  let c2_i32_13 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.muli c2_i32_13 v5
  let v24 : BitVec 32 := Scalar.addi v22 v23
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.addi v24 v8
  let c0_i32_26 : BitVec 32 := 0#32
  let c0_i32_27 : BitVec 32 := 0#32
  ![v25.toNat, 0, 0]
def k0_off4 (d0 : Dev nD) : Fin 3 → Nat :=
  let c4_i32_16 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v30 : BitVec 32 := Scalar.muli c4_i32_16 v2
  let c2_i32_17 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_17 v5
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v33 : BitVec 32 := Scalar.addi v32 v8
  let c0_i32_31 : BitVec 32 := 0#32
  let c0_i32_32 : BitVec 32 := 0#32
  ![v33.toNat, 0, 0]
def k0_off5 (d0 : Dev nD) : Fin 3 → Nat :=
  let c4_i32_18 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.muli c4_i32_18 v2
  let c2_i32_19 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v35 : BitVec 32 := Scalar.muli c2_i32_19 v5
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.addi v36 v8
  let c0_i32_33 : BitVec 32 := 0#32
  let c0_i32_34 : BitVec 32 := 0#32
  ![v37.toNat, 0, 0]
def k0_dev1 (d0 : Dev nD) : Nat :=
  let c0_i32_88 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_87 : BitVec 32 := 4#32
  let v158 : BitVec 32 := Scalar.muli v2 c4_i32_87
  let v159 : BitVec 32 := Scalar.addi c0_i32_88 v158
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_89 : BitVec 32 := 2#32
  let v160 : BitVec 32 := Scalar.muli v5 c2_i32_89
  let v161 : BitVec 32 := Scalar.addi v159 v160
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_90 : BitVec 32 := 1#32
  let v162 : BitVec 32 := Scalar.muli v9 c1_i32_90
  let v163 : BitVec 32 := Scalar.addi v161 v162
  v163.toNat
def k0_dev2 (d0 : Dev nD) : Nat :=
  let c0_i32_98 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_97 : BitVec 32 := 4#32
  let v170 : BitVec 32 := Scalar.muli v10 c4_i32_97
  let v171 : BitVec 32 := Scalar.addi c0_i32_98 v170
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_99 : BitVec 32 := 2#32
  let v172 : BitVec 32 := Scalar.muli v5 c2_i32_99
  let v173 : BitVec 32 := Scalar.addi v171 v172
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_100 : BitVec 32 := 1#32
  let v174 : BitVec 32 := Scalar.muli v8 c1_i32_100
  let v175 : BitVec 32 := Scalar.addi v173 v174
  v175.toNat
def k0_dev3 (d0 : Dev nD) : Nat :=
  let c0_i32_108 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_107 : BitVec 32 := 4#32
  let v182 : BitVec 32 := Scalar.muli v2 c4_i32_107
  let v183 : BitVec 32 := Scalar.addi c0_i32_108 v182
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_109 : BitVec 32 := 2#32
  let v184 : BitVec 32 := Scalar.muli v11 c2_i32_109
  let v185 : BitVec 32 := Scalar.addi v183 v184
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_110 : BitVec 32 := 1#32
  let v186 : BitVec 32 := Scalar.muli v8 c1_i32_110
  let v187 : BitVec 32 := Scalar.addi v185 v186
  v187.toNat
def k0_dev4 (d0 : Dev nD) : Nat :=
  let c0_i32_118 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_117 : BitVec 32 := 4#32
  let v194 : BitVec 32 := Scalar.muli v12 c4_i32_117
  let v195 : BitVec 32 := Scalar.addi c0_i32_118 v194
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_119 : BitVec 32 := 2#32
  let v196 : BitVec 32 := Scalar.muli v13 c2_i32_119
  let v197 : BitVec 32 := Scalar.addi v195 v196
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_120 : BitVec 32 := 1#32
  let v198 : BitVec 32 := Scalar.muli v8 c1_i32_120
  let v199 : BitVec 32 := Scalar.addi v197 v198
  v199.toNat
def k0_dev5 (d0 : Dev nD) : Nat :=
  let c0_i32_128 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_127 : BitVec 32 := 4#32
  let v206 : BitVec 32 := Scalar.muli v2 c4_i32_127
  let v207 : BitVec 32 := Scalar.addi c0_i32_128 v206
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_129 : BitVec 32 := 2#32
  let v208 : BitVec 32 := Scalar.muli v5 c2_i32_129
  let v209 : BitVec 32 := Scalar.addi v207 v208
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_130 : BitVec 32 := 1#32
  let v210 : BitVec 32 := Scalar.muli v9 c1_i32_130
  let v211 : BitVec 32 := Scalar.addi v209 v210
  v211.toNat
def k0_dev6 (d0 : Dev nD) : Nat :=
  let c0_i32_138 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_137 : BitVec 32 := 4#32
  let v218 : BitVec 32 := Scalar.muli v10 c4_i32_137
  let v219 : BitVec 32 := Scalar.addi c0_i32_138 v218
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_139 : BitVec 32 := 2#32
  let v220 : BitVec 32 := Scalar.muli v5 c2_i32_139
  let v221 : BitVec 32 := Scalar.addi v219 v220
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_140 : BitVec 32 := 1#32
  let v222 : BitVec 32 := Scalar.muli v8 c1_i32_140
  let v223 : BitVec 32 := Scalar.addi v221 v222
  v223.toNat
def k0_dev7 (d0 : Dev nD) : Nat :=
  let c0_i32_148 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_147 : BitVec 32 := 4#32
  let v230 : BitVec 32 := Scalar.muli v2 c4_i32_147
  let v231 : BitVec 32 := Scalar.addi c0_i32_148 v230
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_149 : BitVec 32 := 2#32
  let v232 : BitVec 32 := Scalar.muli v11 c2_i32_149
  let v233 : BitVec 32 := Scalar.addi v231 v232
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_150 : BitVec 32 := 1#32
  let v234 : BitVec 32 := Scalar.muli v8 c1_i32_150
  let v235 : BitVec 32 := Scalar.addi v233 v234
  v235.toNat
def k0_dev8 (d0 : Dev nD) : Nat :=
  let c0_i32_158 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_157 : BitVec 32 := 4#32
  let v242 : BitVec 32 := Scalar.muli v12 c4_i32_157
  let v243 : BitVec 32 := Scalar.addi c0_i32_158 v242
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_159 : BitVec 32 := 2#32
  let v244 : BitVec 32 := Scalar.muli v13 c2_i32_159
  let v245 : BitVec 32 := Scalar.addi v243 v244
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_160 : BitVec 32 := 1#32
  let v246 : BitVec 32 := Scalar.muli v8 c1_i32_160
  let v247 : BitVec 32 := Scalar.addi v245 v246
  v247.toNat
def k0_dev9 (d0 : Dev nD) : Nat :=
  let c0_i32_168 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_167 : BitVec 32 := 4#32
  let v254 : BitVec 32 := Scalar.muli v2 c4_i32_167
  let v255 : BitVec 32 := Scalar.addi c0_i32_168 v254
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_169 : BitVec 32 := 2#32
  let v256 : BitVec 32 := Scalar.muli v5 c2_i32_169
  let v257 : BitVec 32 := Scalar.addi v255 v256
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_170 : BitVec 32 := 1#32
  let v258 : BitVec 32 := Scalar.muli v9 c1_i32_170
  let v259 : BitVec 32 := Scalar.addi v257 v258
  v259.toNat
def k0_dev10 (d0 : Dev nD) : Nat :=
  let c0_i32_178 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_177 : BitVec 32 := 4#32
  let v266 : BitVec 32 := Scalar.muli v10 c4_i32_177
  let v267 : BitVec 32 := Scalar.addi c0_i32_178 v266
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_179 : BitVec 32 := 2#32
  let v268 : BitVec 32 := Scalar.muli v5 c2_i32_179
  let v269 : BitVec 32 := Scalar.addi v267 v268
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_180 : BitVec 32 := 1#32
  let v270 : BitVec 32 := Scalar.muli v8 c1_i32_180
  let v271 : BitVec 32 := Scalar.addi v269 v270
  v271.toNat
def k0_dev11 (d0 : Dev nD) : Nat :=
  let c0_i32_188 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_187 : BitVec 32 := 4#32
  let v278 : BitVec 32 := Scalar.muli v2 c4_i32_187
  let v279 : BitVec 32 := Scalar.addi c0_i32_188 v278
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_189 : BitVec 32 := 2#32
  let v280 : BitVec 32 := Scalar.muli v11 c2_i32_189
  let v281 : BitVec 32 := Scalar.addi v279 v280
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_190 : BitVec 32 := 1#32
  let v282 : BitVec 32 := Scalar.muli v8 c1_i32_190
  let v283 : BitVec 32 := Scalar.addi v281 v282
  v283.toNat
def k0_dev12 (d0 : Dev nD) : Nat :=
  let c0_i32_198 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_197 : BitVec 32 := 4#32
  let v290 : BitVec 32 := Scalar.muli v12 c4_i32_197
  let v291 : BitVec 32 := Scalar.addi c0_i32_198 v290
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_199 : BitVec 32 := 2#32
  let v292 : BitVec 32 := Scalar.muli v13 c2_i32_199
  let v293 : BitVec 32 := Scalar.addi v291 v292
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_200 : BitVec 32 := 1#32
  let v294 : BitVec 32 := Scalar.muli v8 c1_i32_200
  let v295 : BitVec 32 := Scalar.addi v293 v294
  v295.toNat
def k0_dev13 (d0 : Dev nD) : Nat :=
  let c0_i32_208 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_207 : BitVec 32 := 4#32
  let v302 : BitVec 32 := Scalar.muli v2 c4_i32_207
  let v303 : BitVec 32 := Scalar.addi c0_i32_208 v302
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_209 : BitVec 32 := 2#32
  let v304 : BitVec 32 := Scalar.muli v5 c2_i32_209
  let v305 : BitVec 32 := Scalar.addi v303 v304
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_210 : BitVec 32 := 1#32
  let v306 : BitVec 32 := Scalar.muli v9 c1_i32_210
  let v307 : BitVec 32 := Scalar.addi v305 v306
  v307.toNat
def k0_dev14 (d0 : Dev nD) : Nat :=
  let c0_i32_218 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_217 : BitVec 32 := 4#32
  let v314 : BitVec 32 := Scalar.muli v10 c4_i32_217
  let v315 : BitVec 32 := Scalar.addi c0_i32_218 v314
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_219 : BitVec 32 := 2#32
  let v316 : BitVec 32 := Scalar.muli v5 c2_i32_219
  let v317 : BitVec 32 := Scalar.addi v315 v316
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_220 : BitVec 32 := 1#32
  let v318 : BitVec 32 := Scalar.muli v8 c1_i32_220
  let v319 : BitVec 32 := Scalar.addi v317 v318
  v319.toNat
def k0_dev15 (d0 : Dev nD) : Nat :=
  let c0_i32_228 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_227 : BitVec 32 := 4#32
  let v326 : BitVec 32 := Scalar.muli v2 c4_i32_227
  let v327 : BitVec 32 := Scalar.addi c0_i32_228 v326
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_229 : BitVec 32 := 2#32
  let v328 : BitVec 32 := Scalar.muli v11 c2_i32_229
  let v329 : BitVec 32 := Scalar.addi v327 v328
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_230 : BitVec 32 := 1#32
  let v330 : BitVec 32 := Scalar.muli v8 c1_i32_230
  let v331 : BitVec 32 := Scalar.addi v329 v330
  v331.toNat
def k0_dev16 (d0 : Dev nD) : Nat :=
  let c0_i32_238 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_237 : BitVec 32 := 4#32
  let v338 : BitVec 32 := Scalar.muli v12 c4_i32_237
  let v339 : BitVec 32 := Scalar.addi c0_i32_238 v338
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_239 : BitVec 32 := 2#32
  let v340 : BitVec 32 := Scalar.muli v13 c2_i32_239
  let v341 : BitVec 32 := Scalar.addi v339 v340
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_240 : BitVec 32 := 1#32
  let v342 : BitVec 32 := Scalar.muli v8 c1_i32_240
  let v343 : BitVec 32 := Scalar.addi v341 v342
  v343.toNat
def k0_dev17 (d0 : Dev nD) : Nat :=
  let c0_i32_248 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_247 : BitVec 32 := 4#32
  let v350 : BitVec 32 := Scalar.muli v2 c4_i32_247
  let v351 : BitVec 32 := Scalar.addi c0_i32_248 v350
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_249 : BitVec 32 := 2#32
  let v352 : BitVec 32 := Scalar.muli v5 c2_i32_249
  let v353 : BitVec 32 := Scalar.addi v351 v352
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_250 : BitVec 32 := 1#32
  let v354 : BitVec 32 := Scalar.muli v9 c1_i32_250
  let v355 : BitVec 32 := Scalar.addi v353 v354
  v355.toNat
def k0_dev18 (d0 : Dev nD) : Nat :=
  let c0_i32_258 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_257 : BitVec 32 := 4#32
  let v362 : BitVec 32 := Scalar.muli v10 c4_i32_257
  let v363 : BitVec 32 := Scalar.addi c0_i32_258 v362
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_259 : BitVec 32 := 2#32
  let v364 : BitVec 32 := Scalar.muli v5 c2_i32_259
  let v365 : BitVec 32 := Scalar.addi v363 v364
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_260 : BitVec 32 := 1#32
  let v366 : BitVec 32 := Scalar.muli v8 c1_i32_260
  let v367 : BitVec 32 := Scalar.addi v365 v366
  v367.toNat
def k0_dev19 (d0 : Dev nD) : Nat :=
  let c0_i32_268 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_267 : BitVec 32 := 4#32
  let v374 : BitVec 32 := Scalar.muli v2 c4_i32_267
  let v375 : BitVec 32 := Scalar.addi c0_i32_268 v374
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_269 : BitVec 32 := 2#32
  let v376 : BitVec 32 := Scalar.muli v11 c2_i32_269
  let v377 : BitVec 32 := Scalar.addi v375 v376
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_270 : BitVec 32 := 1#32
  let v378 : BitVec 32 := Scalar.muli v8 c1_i32_270
  let v379 : BitVec 32 := Scalar.addi v377 v378
  v379.toNat
def k0_dev20 (d0 : Dev nD) : Nat :=
  let c0_i32_278 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_277 : BitVec 32 := 4#32
  let v386 : BitVec 32 := Scalar.muli v12 c4_i32_277
  let v387 : BitVec 32 := Scalar.addi c0_i32_278 v386
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_279 : BitVec 32 := 2#32
  let v388 : BitVec 32 := Scalar.muli v13 c2_i32_279
  let v389 : BitVec 32 := Scalar.addi v387 v388
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_280 : BitVec 32 := 1#32
  let v390 : BitVec 32 := Scalar.muli v8 c1_i32_280
  let v391 : BitVec 32 := Scalar.addi v389 v390
  v391.toNat
def k0_dev21 (d0 : Dev nD) : Nat :=
  let c0_i32_288 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_287 : BitVec 32 := 4#32
  let v398 : BitVec 32 := Scalar.muli v2 c4_i32_287
  let v399 : BitVec 32 := Scalar.addi c0_i32_288 v398
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_289 : BitVec 32 := 2#32
  let v400 : BitVec 32 := Scalar.muli v5 c2_i32_289
  let v401 : BitVec 32 := Scalar.addi v399 v400
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_290 : BitVec 32 := 1#32
  let v402 : BitVec 32 := Scalar.muli v9 c1_i32_290
  let v403 : BitVec 32 := Scalar.addi v401 v402
  v403.toNat
def k0_dev22 (d0 : Dev nD) : Nat :=
  let c0_i32_298 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_297 : BitVec 32 := 4#32
  let v410 : BitVec 32 := Scalar.muli v10 c4_i32_297
  let v411 : BitVec 32 := Scalar.addi c0_i32_298 v410
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_299 : BitVec 32 := 2#32
  let v412 : BitVec 32 := Scalar.muli v5 c2_i32_299
  let v413 : BitVec 32 := Scalar.addi v411 v412
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_300 : BitVec 32 := 1#32
  let v414 : BitVec 32 := Scalar.muli v8 c1_i32_300
  let v415 : BitVec 32 := Scalar.addi v413 v414
  v415.toNat
def k0_dev23 (d0 : Dev nD) : Nat :=
  let c0_i32_308 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_307 : BitVec 32 := 4#32
  let v422 : BitVec 32 := Scalar.muli v2 c4_i32_307
  let v423 : BitVec 32 := Scalar.addi c0_i32_308 v422
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_309 : BitVec 32 := 2#32
  let v424 : BitVec 32 := Scalar.muli v11 c2_i32_309
  let v425 : BitVec 32 := Scalar.addi v423 v424
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_310 : BitVec 32 := 1#32
  let v426 : BitVec 32 := Scalar.muli v8 c1_i32_310
  let v427 : BitVec 32 := Scalar.addi v425 v426
  v427.toNat
def k0_dev24 (d0 : Dev nD) : Nat :=
  let c0_i32_318 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_317 : BitVec 32 := 4#32
  let v434 : BitVec 32 := Scalar.muli v12 c4_i32_317
  let v435 : BitVec 32 := Scalar.addi c0_i32_318 v434
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_319 : BitVec 32 := 2#32
  let v436 : BitVec 32 := Scalar.muli v13 c2_i32_319
  let v437 : BitVec 32 := Scalar.addi v435 v436
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_320 : BitVec 32 := 1#32
  let v438 : BitVec 32 := Scalar.muli v8 c1_i32_320
  let v439 : BitVec 32 := Scalar.addi v437 v438
  v439.toNat
def k0_off6 (d0 : Dev nD) : Fin 3 → Nat :=
  let c4_i32_323 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v446 : BitVec 32 := Scalar.muli c4_i32_323 v10
  let c2_i32_324 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v447 : BitVec 32 := Scalar.muli c2_i32_324 v5
  let v448 : BitVec 32 := Scalar.addi v446 v447
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v449 : BitVec 32 := Scalar.addi v448 v8
  let c0_i32_333 : BitVec 32 := 0#32
  let c0_i32_334 : BitVec 32 := 0#32
  ![v449.toNat, 0, 0]
def k0_dev25 (d0 : Dev nD) : Nat :=
  let c0_i32_344 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_343 : BitVec 32 := 4#32
  let v466 : BitVec 32 := Scalar.muli v2 c4_i32_343
  let v467 : BitVec 32 := Scalar.addi c0_i32_344 v466
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_345 : BitVec 32 := 2#32
  let v468 : BitVec 32 := Scalar.muli v5 c2_i32_345
  let v469 : BitVec 32 := Scalar.addi v467 v468
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_346 : BitVec 32 := 1#32
  let v470 : BitVec 32 := Scalar.muli v9 c1_i32_346
  let v471 : BitVec 32 := Scalar.addi v469 v470
  v471.toNat
def k0_off7 (d0 : Dev nD) : Fin 3 → Nat :=
  let c4_i32_351 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v480 : BitVec 32 := Scalar.muli c4_i32_351 v10
  let c2_i32_352 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v481 : BitVec 32 := Scalar.muli c2_i32_352 v5
  let v482 : BitVec 32 := Scalar.addi v480 v481
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v483 : BitVec 32 := Scalar.addi v482 v8
  let c0_i32_361 : BitVec 32 := 0#32
  let c0_i32_362 : BitVec 32 := 0#32
  ![v483.toNat, 0, 0]
def k0_dev26 (d0 : Dev nD) : Nat :=
  let c0_i32_372 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_371 : BitVec 32 := 4#32
  let v500 : BitVec 32 := Scalar.muli v2 c4_i32_371
  let v501 : BitVec 32 := Scalar.addi c0_i32_372 v500
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_373 : BitVec 32 := 2#32
  let v502 : BitVec 32 := Scalar.muli v5 c2_i32_373
  let v503 : BitVec 32 := Scalar.addi v501 v502
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_374 : BitVec 32 := 1#32
  let v504 : BitVec 32 := Scalar.muli v9 c1_i32_374
  let v505 : BitVec 32 := Scalar.addi v503 v504
  v505.toNat
def k0_off8 (d0 : Dev nD) : Fin 3 → Nat :=
  let c4_i32_379 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v514 : BitVec 32 := Scalar.muli c4_i32_379 v10
  let c2_i32_380 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v515 : BitVec 32 := Scalar.muli c2_i32_380 v5
  let v516 : BitVec 32 := Scalar.addi v514 v515
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v517 : BitVec 32 := Scalar.addi v516 v8
  let c0_i32_389 : BitVec 32 := 0#32
  let c0_i32_390 : BitVec 32 := 0#32
  ![v517.toNat, 0, 0]
def k0_dev27 (d0 : Dev nD) : Nat :=
  let c0_i32_400 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_399 : BitVec 32 := 4#32
  let v534 : BitVec 32 := Scalar.muli v2 c4_i32_399
  let v535 : BitVec 32 := Scalar.addi c0_i32_400 v534
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_401 : BitVec 32 := 2#32
  let v536 : BitVec 32 := Scalar.muli v5 c2_i32_401
  let v537 : BitVec 32 := Scalar.addi v535 v536
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_402 : BitVec 32 := 1#32
  let v538 : BitVec 32 := Scalar.muli v9 c1_i32_402
  let v539 : BitVec 32 := Scalar.addi v537 v538
  v539.toNat
def k0_dev28 (d0 : Dev nD) : Nat :=
  let c0_i32_428 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_427 : BitVec 32 := 4#32
  let v568 : BitVec 32 := Scalar.muli v2 c4_i32_427
  let v569 : BitVec 32 := Scalar.addi c0_i32_428 v568
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_429 : BitVec 32 := 2#32
  let v570 : BitVec 32 := Scalar.muli v5 c2_i32_429
  let v571 : BitVec 32 := Scalar.addi v569 v570
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_430 : BitVec 32 := 1#32
  let v572 : BitVec 32 := Scalar.muli v9 c1_i32_430
  let v573 : BitVec 32 := Scalar.addi v571 v572
  v573.toNat
def k0_off9 (d0 : Dev nD) : Fin 3 → Nat :=
  let c4_i32_435 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v582 : BitVec 32 := Scalar.muli c4_i32_435 v10
  let c2_i32_436 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v583 : BitVec 32 := Scalar.muli c2_i32_436 v5
  let v584 : BitVec 32 := Scalar.addi v582 v583
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v585 : BitVec 32 := Scalar.addi v584 v8
  let c0_i32_445 : BitVec 32 := 0#32
  let c0_i32_446 : BitVec 32 := 0#32
  ![v585.toNat, 0, 0]
def k0_dev29 (d0 : Dev nD) : Nat :=
  let c0_i32_456 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_455 : BitVec 32 := 4#32
  let v602 : BitVec 32 := Scalar.muli v2 c4_i32_455
  let v603 : BitVec 32 := Scalar.addi c0_i32_456 v602
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_457 : BitVec 32 := 2#32
  let v604 : BitVec 32 := Scalar.muli v5 c2_i32_457
  let v605 : BitVec 32 := Scalar.addi v603 v604
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_458 : BitVec 32 := 1#32
  let v606 : BitVec 32 := Scalar.muli v9 c1_i32_458
  let v607 : BitVec 32 := Scalar.addi v605 v606
  v607.toNat
def k0_off10 (d0 : Dev nD) : Fin 3 → Nat :=
  let c4_i32_463 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v616 : BitVec 32 := Scalar.muli c4_i32_463 v10
  let c2_i32_464 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v617 : BitVec 32 := Scalar.muli c2_i32_464 v5
  let v618 : BitVec 32 := Scalar.addi v616 v617
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v619 : BitVec 32 := Scalar.addi v618 v8
  let c0_i32_473 : BitVec 32 := 0#32
  let c0_i32_474 : BitVec 32 := 0#32
  ![v619.toNat, 0, 0]
def k0_dev30 (d0 : Dev nD) : Nat :=
  let c0_i32_484 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_483 : BitVec 32 := 4#32
  let v636 : BitVec 32 := Scalar.muli v2 c4_i32_483
  let v637 : BitVec 32 := Scalar.addi c0_i32_484 v636
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_485 : BitVec 32 := 2#32
  let v638 : BitVec 32 := Scalar.muli v5 c2_i32_485
  let v639 : BitVec 32 := Scalar.addi v637 v638
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_486 : BitVec 32 := 1#32
  let v640 : BitVec 32 := Scalar.muli v9 c1_i32_486
  let v641 : BitVec 32 := Scalar.addi v639 v640
  v641.toNat
def k0_off11 (d0 : Dev nD) : Fin 3 → Nat :=
  let c4_i32_491 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v650 : BitVec 32 := Scalar.muli c4_i32_491 v2
  let c2_i32_492 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v651 : BitVec 32 := Scalar.muli c2_i32_492 v11
  let v652 : BitVec 32 := Scalar.addi v650 v651
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v653 : BitVec 32 := Scalar.addi v652 v8
  let c0_i32_501 : BitVec 32 := 0#32
  let c0_i32_502 : BitVec 32 := 0#32
  ![v653.toNat, 0, 0]
def k0_dev31 (d0 : Dev nD) : Nat :=
  let c0_i32_512 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_511 : BitVec 32 := 4#32
  let v670 : BitVec 32 := Scalar.muli v2 c4_i32_511
  let v671 : BitVec 32 := Scalar.addi c0_i32_512 v670
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_513 : BitVec 32 := 2#32
  let v672 : BitVec 32 := Scalar.muli v5 c2_i32_513
  let v673 : BitVec 32 := Scalar.addi v671 v672
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_514 : BitVec 32 := 1#32
  let v674 : BitVec 32 := Scalar.muli v9 c1_i32_514
  let v675 : BitVec 32 := Scalar.addi v673 v674
  v675.toNat
def k0_off12 (d0 : Dev nD) : Fin 3 → Nat :=
  let c4_i32_519 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v684 : BitVec 32 := Scalar.muli c4_i32_519 v2
  let c2_i32_520 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v685 : BitVec 32 := Scalar.muli c2_i32_520 v11
  let v686 : BitVec 32 := Scalar.addi v684 v685
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v687 : BitVec 32 := Scalar.addi v686 v8
  let c0_i32_529 : BitVec 32 := 0#32
  let c0_i32_530 : BitVec 32 := 0#32
  ![v687.toNat, 0, 0]
def k0_dev32 (d0 : Dev nD) : Nat :=
  let c0_i32_540 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_539 : BitVec 32 := 4#32
  let v704 : BitVec 32 := Scalar.muli v2 c4_i32_539
  let v705 : BitVec 32 := Scalar.addi c0_i32_540 v704
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_541 : BitVec 32 := 2#32
  let v706 : BitVec 32 := Scalar.muli v5 c2_i32_541
  let v707 : BitVec 32 := Scalar.addi v705 v706
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_542 : BitVec 32 := 1#32
  let v708 : BitVec 32 := Scalar.muli v9 c1_i32_542
  let v709 : BitVec 32 := Scalar.addi v707 v708
  v709.toNat
def k0_off13 (d0 : Dev nD) : Fin 3 → Nat :=
  let c4_i32_547 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v718 : BitVec 32 := Scalar.muli c4_i32_547 v2
  let c2_i32_548 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v719 : BitVec 32 := Scalar.muli c2_i32_548 v11
  let v720 : BitVec 32 := Scalar.addi v718 v719
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v721 : BitVec 32 := Scalar.addi v720 v8
  let c0_i32_557 : BitVec 32 := 0#32
  let c0_i32_558 : BitVec 32 := 0#32
  ![v721.toNat, 0, 0]
def k0_dev33 (d0 : Dev nD) : Nat :=
  let c0_i32_568 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_567 : BitVec 32 := 4#32
  let v738 : BitVec 32 := Scalar.muli v2 c4_i32_567
  let v739 : BitVec 32 := Scalar.addi c0_i32_568 v738
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_569 : BitVec 32 := 2#32
  let v740 : BitVec 32 := Scalar.muli v5 c2_i32_569
  let v741 : BitVec 32 := Scalar.addi v739 v740
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_570 : BitVec 32 := 1#32
  let v742 : BitVec 32 := Scalar.muli v9 c1_i32_570
  let v743 : BitVec 32 := Scalar.addi v741 v742
  v743.toNat
def k0_dev34 (d0 : Dev nD) : Nat :=
  let c0_i32_596 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_595 : BitVec 32 := 4#32
  let v772 : BitVec 32 := Scalar.muli v2 c4_i32_595
  let v773 : BitVec 32 := Scalar.addi c0_i32_596 v772
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_597 : BitVec 32 := 2#32
  let v774 : BitVec 32 := Scalar.muli v5 c2_i32_597
  let v775 : BitVec 32 := Scalar.addi v773 v774
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_598 : BitVec 32 := 1#32
  let v776 : BitVec 32 := Scalar.muli v9 c1_i32_598
  let v777 : BitVec 32 := Scalar.addi v775 v776
  v777.toNat
def k0_off14 (d0 : Dev nD) : Fin 3 → Nat :=
  let c4_i32_603 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v786 : BitVec 32 := Scalar.muli c4_i32_603 v2
  let c2_i32_604 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v787 : BitVec 32 := Scalar.muli c2_i32_604 v11
  let v788 : BitVec 32 := Scalar.addi v786 v787
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v789 : BitVec 32 := Scalar.addi v788 v8
  let c0_i32_613 : BitVec 32 := 0#32
  let c0_i32_614 : BitVec 32 := 0#32
  ![v789.toNat, 0, 0]
def k0_dev35 (d0 : Dev nD) : Nat :=
  let c0_i32_624 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_623 : BitVec 32 := 4#32
  let v806 : BitVec 32 := Scalar.muli v2 c4_i32_623
  let v807 : BitVec 32 := Scalar.addi c0_i32_624 v806
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_625 : BitVec 32 := 2#32
  let v808 : BitVec 32 := Scalar.muli v5 c2_i32_625
  let v809 : BitVec 32 := Scalar.addi v807 v808
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_626 : BitVec 32 := 1#32
  let v810 : BitVec 32 := Scalar.muli v9 c1_i32_626
  let v811 : BitVec 32 := Scalar.addi v809 v810
  v811.toNat
def k0_off15 (d0 : Dev nD) : Fin 3 → Nat :=
  let c4_i32_631 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v820 : BitVec 32 := Scalar.muli c4_i32_631 v2
  let c2_i32_632 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v821 : BitVec 32 := Scalar.muli c2_i32_632 v11
  let v822 : BitVec 32 := Scalar.addi v820 v821
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v823 : BitVec 32 := Scalar.addi v822 v8
  let c0_i32_641 : BitVec 32 := 0#32
  let c0_i32_642 : BitVec 32 := 0#32
  ![v823.toNat, 0, 0]
def k0_dev36 (d0 : Dev nD) : Nat :=
  let c0_i32_652 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_651 : BitVec 32 := 4#32
  let v840 : BitVec 32 := Scalar.muli v2 c4_i32_651
  let v841 : BitVec 32 := Scalar.addi c0_i32_652 v840
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_653 : BitVec 32 := 2#32
  let v842 : BitVec 32 := Scalar.muli v5 c2_i32_653
  let v843 : BitVec 32 := Scalar.addi v841 v842
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_654 : BitVec 32 := 1#32
  let v844 : BitVec 32 := Scalar.muli v9 c1_i32_654
  let v845 : BitVec 32 := Scalar.addi v843 v844
  v845.toNat
def k0_off16 (d0 : Dev nD) : Fin 3 → Nat :=
  let c4_i32_659 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v854 : BitVec 32 := Scalar.muli c4_i32_659 v12
  let c2_i32_660 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v855 : BitVec 32 := Scalar.muli c2_i32_660 v13
  let v856 : BitVec 32 := Scalar.addi v854 v855
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v857 : BitVec 32 := Scalar.addi v856 v8
  let c0_i32_669 : BitVec 32 := 0#32
  let c0_i32_670 : BitVec 32 := 0#32
  ![v857.toNat, 0, 0]
def k0_dev37 (d0 : Dev nD) : Nat :=
  let c0_i32_679 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_678 : BitVec 32 := 4#32
  let v874 : BitVec 32 := Scalar.muli v2 c4_i32_678
  let v875 : BitVec 32 := Scalar.addi c0_i32_679 v874
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_680 : BitVec 32 := 2#32
  let v876 : BitVec 32 := Scalar.muli v5 c2_i32_680
  let v877 : BitVec 32 := Scalar.addi v875 v876
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_681 : BitVec 32 := 1#32
  let v878 : BitVec 32 := Scalar.muli v9 c1_i32_681
  let v879 : BitVec 32 := Scalar.addi v877 v878
  v879.toNat
def k0_off17 (d0 : Dev nD) : Fin 3 → Nat :=
  let c4_i32_686 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v888 : BitVec 32 := Scalar.muli c4_i32_686 v12
  let c2_i32_687 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v889 : BitVec 32 := Scalar.muli c2_i32_687 v13
  let v890 : BitVec 32 := Scalar.addi v888 v889
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v891 : BitVec 32 := Scalar.addi v890 v8
  let c0_i32_696 : BitVec 32 := 0#32
  let c0_i32_697 : BitVec 32 := 0#32
  ![v891.toNat, 0, 0]
def k0_dev38 (d0 : Dev nD) : Nat :=
  let c0_i32_707 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_706 : BitVec 32 := 4#32
  let v908 : BitVec 32 := Scalar.muli v2 c4_i32_706
  let v909 : BitVec 32 := Scalar.addi c0_i32_707 v908
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_708 : BitVec 32 := 2#32
  let v910 : BitVec 32 := Scalar.muli v5 c2_i32_708
  let v911 : BitVec 32 := Scalar.addi v909 v910
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_709 : BitVec 32 := 1#32
  let v912 : BitVec 32 := Scalar.muli v9 c1_i32_709
  let v913 : BitVec 32 := Scalar.addi v911 v912
  v913.toNat
def k0_off18 (d0 : Dev nD) : Fin 3 → Nat :=
  let c4_i32_714 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v922 : BitVec 32 := Scalar.muli c4_i32_714 v12
  let c2_i32_715 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v923 : BitVec 32 := Scalar.muli c2_i32_715 v13
  let v924 : BitVec 32 := Scalar.addi v922 v923
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v925 : BitVec 32 := Scalar.addi v924 v8
  let c0_i32_724 : BitVec 32 := 0#32
  let c0_i32_725 : BitVec 32 := 0#32
  ![v925.toNat, 0, 0]
def k0_dev39 (d0 : Dev nD) : Nat :=
  let c0_i32_735 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_734 : BitVec 32 := 4#32
  let v942 : BitVec 32 := Scalar.muli v2 c4_i32_734
  let v943 : BitVec 32 := Scalar.addi c0_i32_735 v942
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_736 : BitVec 32 := 2#32
  let v944 : BitVec 32 := Scalar.muli v5 c2_i32_736
  let v945 : BitVec 32 := Scalar.addi v943 v944
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_737 : BitVec 32 := 1#32
  let v946 : BitVec 32 := Scalar.muli v9 c1_i32_737
  let v947 : BitVec 32 := Scalar.addi v945 v946
  v947.toNat
def k0_dev40 (d0 : Dev nD) : Nat :=
  let c0_i32_763 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_762 : BitVec 32 := 4#32
  let v976 : BitVec 32 := Scalar.muli v2 c4_i32_762
  let v977 : BitVec 32 := Scalar.addi c0_i32_763 v976
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_764 : BitVec 32 := 2#32
  let v978 : BitVec 32 := Scalar.muli v5 c2_i32_764
  let v979 : BitVec 32 := Scalar.addi v977 v978
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_765 : BitVec 32 := 1#32
  let v980 : BitVec 32 := Scalar.muli v9 c1_i32_765
  let v981 : BitVec 32 := Scalar.addi v979 v980
  v981.toNat
def k0_off19 (d0 : Dev nD) : Fin 3 → Nat :=
  let c4_i32_770 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v990 : BitVec 32 := Scalar.muli c4_i32_770 v12
  let c2_i32_771 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v991 : BitVec 32 := Scalar.muli c2_i32_771 v13
  let v992 : BitVec 32 := Scalar.addi v990 v991
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v993 : BitVec 32 := Scalar.addi v992 v8
  let c0_i32_780 : BitVec 32 := 0#32
  let c0_i32_781 : BitVec 32 := 0#32
  ![v993.toNat, 0, 0]
def k0_dev41 (d0 : Dev nD) : Nat :=
  let c0_i32_791 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_790 : BitVec 32 := 4#32
  let v1010 : BitVec 32 := Scalar.muli v2 c4_i32_790
  let v1011 : BitVec 32 := Scalar.addi c0_i32_791 v1010
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_792 : BitVec 32 := 2#32
  let v1012 : BitVec 32 := Scalar.muli v5 c2_i32_792
  let v1013 : BitVec 32 := Scalar.addi v1011 v1012
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_793 : BitVec 32 := 1#32
  let v1014 : BitVec 32 := Scalar.muli v9 c1_i32_793
  let v1015 : BitVec 32 := Scalar.addi v1013 v1014
  v1015.toNat
def k0_off20 (d0 : Dev nD) : Fin 3 → Nat :=
  let c4_i32_798 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1024 : BitVec 32 := Scalar.muli c4_i32_798 v12
  let c2_i32_799 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1025 : BitVec 32 := Scalar.muli c2_i32_799 v13
  let v1026 : BitVec 32 := Scalar.addi v1024 v1025
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1027 : BitVec 32 := Scalar.addi v1026 v8
  let c0_i32_808 : BitVec 32 := 0#32
  let c0_i32_809 : BitVec 32 := 0#32
  ![v1027.toNat, 0, 0]
def k0_dev42 (d0 : Dev nD) : Nat :=
  let c0_i32_819 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_818 : BitVec 32 := 4#32
  let v1044 : BitVec 32 := Scalar.muli v2 c4_i32_818
  let v1045 : BitVec 32 := Scalar.addi c0_i32_819 v1044
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_820 : BitVec 32 := 2#32
  let v1046 : BitVec 32 := Scalar.muli v5 c2_i32_820
  let v1047 : BitVec 32 := Scalar.addi v1045 v1046
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_821 : BitVec 32 := 1#32
  let v1048 : BitVec 32 := Scalar.muli v9 c1_i32_821
  let v1049 : BitVec 32 := Scalar.addi v1047 v1048
  v1049.toNat
def k0_off21 (d0 : Dev nD) : Fin 3 → Nat :=
  let c4_i32_826 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1058 : BitVec 32 := Scalar.muli c4_i32_826 v2
  let c2_i32_827 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1059 : BitVec 32 := Scalar.muli c2_i32_827 v5
  let v1060 : BitVec 32 := Scalar.addi v1058 v1059
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1061 : BitVec 32 := Scalar.addi v1060 v9
  let c0_i32_836 : BitVec 32 := 0#32
  let c0_i32_837 : BitVec 32 := 0#32
  ![v1061.toNat, 0, 0]
def k0_off22 (d0 : Dev nD) : Fin 3 → Nat :=
  let c4_i32_841 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1075 : BitVec 32 := Scalar.muli c4_i32_841 v10
  let c2_i32_842 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1076 : BitVec 32 := Scalar.muli c2_i32_842 v5
  let v1077 : BitVec 32 := Scalar.addi v1075 v1076
  let c1_i32_840 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1074 : BitVec 32 := Scalar.subi c1_i32_840 v8
  let v1078 : BitVec 32 := Scalar.addi v1077 v1074
  let c0_i32_851 : BitVec 32 := 0#32
  let c0_i32_852 : BitVec 32 := 0#32
  ![v1078.toNat, 0, 0]
def k0_off23 (d0 : Dev nD) : Fin 3 → Nat :=
  let c4_i32_856 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1092 : BitVec 32 := Scalar.muli c4_i32_856 v2
  let c2_i32_857 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1093 : BitVec 32 := Scalar.muli c2_i32_857 v11
  let v1094 : BitVec 32 := Scalar.addi v1092 v1093
  let c1_i32_855 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1091 : BitVec 32 := Scalar.subi c1_i32_855 v8
  let v1095 : BitVec 32 := Scalar.addi v1094 v1091
  let c0_i32_866 : BitVec 32 := 0#32
  let c0_i32_867 : BitVec 32 := 0#32
  ![v1095.toNat, 0, 0]
def k0_off24 (d0 : Dev nD) : Fin 3 → Nat :=
  let c4_i32_871 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1109 : BitVec 32 := Scalar.muli c4_i32_871 v12
  let c2_i32_872 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1110 : BitVec 32 := Scalar.muli c2_i32_872 v13
  let v1111 : BitVec 32 := Scalar.addi v1109 v1110
  let c1_i32_870 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1108 : BitVec 32 := Scalar.subi c1_i32_870 v8
  let v1112 : BitVec 32 := Scalar.addi v1111 v1108
  let c0_i32_881 : BitVec 32 := 0#32
  let c0_i32_882 : BitVec 32 := 0#32
  ![v1112.toNat, 0, 0]
def k0_off25 (d0 : Dev nD) : Fin 3 → Nat :=
  let c4_i32_885 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1125 : BitVec 32 := Scalar.muli c4_i32_885 v2
  let c2_i32_886 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1126 : BitVec 32 := Scalar.muli c2_i32_886 v5
  let v1127 : BitVec 32 := Scalar.addi v1125 v1126
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1128 : BitVec 32 := Scalar.addi v1127 v9
  let c0_i32_895 : BitVec 32 := 0#32
  let c0_i32_896 : BitVec 32 := 0#32
  ![v1128.toNat, 0, 0]
def k0_off26 (d0 : Dev nD) : Fin 3 → Nat :=
  let c4_i32_900 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1142 : BitVec 32 := Scalar.muli c4_i32_900 v10
  let c2_i32_901 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1143 : BitVec 32 := Scalar.muli c2_i32_901 v5
  let v1144 : BitVec 32 := Scalar.addi v1142 v1143
  let c1_i32_899 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1141 : BitVec 32 := Scalar.subi c1_i32_899 v8
  let v1145 : BitVec 32 := Scalar.addi v1144 v1141
  let c0_i32_910 : BitVec 32 := 0#32
  let c0_i32_911 : BitVec 32 := 0#32
  ![v1145.toNat, 0, 0]
def k0_off27 (d0 : Dev nD) : Fin 3 → Nat :=
  let c4_i32_915 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1159 : BitVec 32 := Scalar.muli c4_i32_915 v2
  let c2_i32_916 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1160 : BitVec 32 := Scalar.muli c2_i32_916 v11
  let v1161 : BitVec 32 := Scalar.addi v1159 v1160
  let c1_i32_914 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1158 : BitVec 32 := Scalar.subi c1_i32_914 v8
  let v1162 : BitVec 32 := Scalar.addi v1161 v1158
  let c0_i32_925 : BitVec 32 := 0#32
  let c0_i32_926 : BitVec 32 := 0#32
  ![v1162.toNat, 0, 0]
def k0_off28 (d0 : Dev nD) : Fin 3 → Nat :=
  let c4_i32_930 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1176 : BitVec 32 := Scalar.muli c4_i32_930 v12
  let c2_i32_931 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1177 : BitVec 32 := Scalar.muli c2_i32_931 v13
  let v1178 : BitVec 32 := Scalar.addi v1176 v1177
  let c1_i32_929 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1175 : BitVec 32 := Scalar.subi c1_i32_929 v8
  let v1179 : BitVec 32 := Scalar.addi v1178 v1175
  let c0_i32_940 : BitVec 32 := 0#32
  let c0_i32_941 : BitVec 32 := 0#32
  ![v1179.toNat, 0, 0]
def k0_off29 (d0 : Dev nD) : Fin 3 → Nat :=
  let c4_i32_944 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1192 : BitVec 32 := Scalar.muli c4_i32_944 v2
  let c2_i32_945 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1193 : BitVec 32 := Scalar.muli c2_i32_945 v5
  let v1194 : BitVec 32 := Scalar.addi v1192 v1193
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1195 : BitVec 32 := Scalar.addi v1194 v9
  let c0_i32_954 : BitVec 32 := 0#32
  let c0_i32_955 : BitVec 32 := 0#32
  ![v1195.toNat, 0, 0]
def k0_off30 (d0 : Dev nD) : Fin 3 → Nat :=
  let c4_i32_959 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1209 : BitVec 32 := Scalar.muli c4_i32_959 v10
  let c2_i32_960 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1210 : BitVec 32 := Scalar.muli c2_i32_960 v5
  let v1211 : BitVec 32 := Scalar.addi v1209 v1210
  let c1_i32_958 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1208 : BitVec 32 := Scalar.subi c1_i32_958 v8
  let v1212 : BitVec 32 := Scalar.addi v1211 v1208
  let c0_i32_969 : BitVec 32 := 0#32
  let c0_i32_970 : BitVec 32 := 0#32
  ![v1212.toNat, 0, 0]
def k0_off31 (d0 : Dev nD) : Fin 3 → Nat :=
  let c4_i32_974 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1226 : BitVec 32 := Scalar.muli c4_i32_974 v2
  let c2_i32_975 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1227 : BitVec 32 := Scalar.muli c2_i32_975 v11
  let v1228 : BitVec 32 := Scalar.addi v1226 v1227
  let c1_i32_973 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1225 : BitVec 32 := Scalar.subi c1_i32_973 v8
  let v1229 : BitVec 32 := Scalar.addi v1228 v1225
  let c0_i32_984 : BitVec 32 := 0#32
  let c0_i32_985 : BitVec 32 := 0#32
  ![v1229.toNat, 0, 0]
def k0_off32 (d0 : Dev nD) : Fin 3 → Nat :=
  let c4_i32_989 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1243 : BitVec 32 := Scalar.muli c4_i32_989 v12
  let c2_i32_990 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1244 : BitVec 32 := Scalar.muli c2_i32_990 v13
  let v1245 : BitVec 32 := Scalar.addi v1243 v1244
  let c1_i32_988 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1242 : BitVec 32 := Scalar.subi c1_i32_988 v8
  let v1246 : BitVec 32 := Scalar.addi v1245 v1242
  let c0_i32_999 : BitVec 32 := 0#32
  let c0_i32_1000 : BitVec 32 := 0#32
  ![v1246.toNat, 0, 0]
def k0_off33 (d0 : Dev nD) : Fin 3 → Nat :=
  let c4_i32_1062 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1326 : BitVec 32 := Scalar.muli c4_i32_1062 v2
  let c2_i32_1063 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1327 : BitVec 32 := Scalar.muli c2_i32_1063 v5
  let v1328 : BitVec 32 := Scalar.addi v1326 v1327
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1329 : BitVec 32 := Scalar.addi v1328 v9
  let c0_i32_1072 : BitVec 32 := 0#32
  let c0_i32_1073 : BitVec 32 := 0#32
  ![v1329.toNat, 0, 0]
def k0_off34 (d0 : Dev nD) : Fin 3 → Nat :=
  let c4_i32_1077 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1343 : BitVec 32 := Scalar.muli c4_i32_1077 v10
  let c2_i32_1078 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1344 : BitVec 32 := Scalar.muli c2_i32_1078 v5
  let v1345 : BitVec 32 := Scalar.addi v1343 v1344
  let c1_i32_1076 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1342 : BitVec 32 := Scalar.subi c1_i32_1076 v8
  let v1346 : BitVec 32 := Scalar.addi v1345 v1342
  let c0_i32_1087 : BitVec 32 := 0#32
  let c0_i32_1088 : BitVec 32 := 0#32
  ![v1346.toNat, 0, 0]
def k0_off35 (d0 : Dev nD) : Fin 3 → Nat :=
  let c4_i32_1092 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1360 : BitVec 32 := Scalar.muli c4_i32_1092 v2
  let c2_i32_1093 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1361 : BitVec 32 := Scalar.muli c2_i32_1093 v11
  let v1362 : BitVec 32 := Scalar.addi v1360 v1361
  let c1_i32_1091 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1359 : BitVec 32 := Scalar.subi c1_i32_1091 v8
  let v1363 : BitVec 32 := Scalar.addi v1362 v1359
  let c0_i32_1102 : BitVec 32 := 0#32
  let c0_i32_1103 : BitVec 32 := 0#32
  ![v1363.toNat, 0, 0]
def k0_off36 (d0 : Dev nD) : Fin 3 → Nat :=
  let c4_i32_1107 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1377 : BitVec 32 := Scalar.muli c4_i32_1107 v12
  let c2_i32_1108 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1378 : BitVec 32 := Scalar.muli c2_i32_1108 v13
  let v1379 : BitVec 32 := Scalar.addi v1377 v1378
  let c1_i32_1106 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1376 : BitVec 32 := Scalar.subi c1_i32_1106 v8
  let v1380 : BitVec 32 := Scalar.addi v1379 v1376
  let c0_i32_1117 : BitVec 32 := 0#32
  let c0_i32_1118 : BitVec 32 := 0#32
  ![v1380.toNat, 0, 0]
def k0_off37 (d0 : Dev nD) : Fin 3 → Nat :=
  let c4_i32_1121 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1393 : BitVec 32 := Scalar.muli c4_i32_1121 v2
  let c2_i32_1122 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1394 : BitVec 32 := Scalar.muli c2_i32_1122 v5
  let v1395 : BitVec 32 := Scalar.addi v1393 v1394
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1396 : BitVec 32 := Scalar.addi v1395 v9
  let c0_i32_1131 : BitVec 32 := 0#32
  let c0_i32_1132 : BitVec 32 := 0#32
  ![v1396.toNat, 0, 0]
def k0_off38 (d0 : Dev nD) : Fin 3 → Nat :=
  let c4_i32_1136 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1410 : BitVec 32 := Scalar.muli c4_i32_1136 v10
  let c2_i32_1137 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1411 : BitVec 32 := Scalar.muli c2_i32_1137 v5
  let v1412 : BitVec 32 := Scalar.addi v1410 v1411
  let c1_i32_1135 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1409 : BitVec 32 := Scalar.subi c1_i32_1135 v8
  let v1413 : BitVec 32 := Scalar.addi v1412 v1409
  let c0_i32_1146 : BitVec 32 := 0#32
  let c0_i32_1147 : BitVec 32 := 0#32
  ![v1413.toNat, 0, 0]
def k0_off39 (d0 : Dev nD) : Fin 3 → Nat :=
  let c4_i32_1151 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1427 : BitVec 32 := Scalar.muli c4_i32_1151 v2
  let c2_i32_1152 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1428 : BitVec 32 := Scalar.muli c2_i32_1152 v11
  let v1429 : BitVec 32 := Scalar.addi v1427 v1428
  let c1_i32_1150 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1426 : BitVec 32 := Scalar.subi c1_i32_1150 v8
  let v1430 : BitVec 32 := Scalar.addi v1429 v1426
  let c0_i32_1161 : BitVec 32 := 0#32
  let c0_i32_1162 : BitVec 32 := 0#32
  ![v1430.toNat, 0, 0]
def k0_off40 (d0 : Dev nD) : Fin 3 → Nat :=
  let c4_i32_1166 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1444 : BitVec 32 := Scalar.muli c4_i32_1166 v12
  let c2_i32_1167 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1445 : BitVec 32 := Scalar.muli c2_i32_1167 v13
  let v1446 : BitVec 32 := Scalar.addi v1444 v1445
  let c1_i32_1165 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1443 : BitVec 32 := Scalar.subi c1_i32_1165 v8
  let v1447 : BitVec 32 := Scalar.addi v1446 v1443
  let c0_i32_1176 : BitVec 32 := 0#32
  let c0_i32_1177 : BitVec 32 := 0#32
  ![v1447.toNat, 0, 0]
-- ==== AllGatherWeightsIdeal.lean ====
abbrev S16384x1282 : Shape := ⟨2, ![16384, 1282]⟩
abbrev S1024x1024 : Shape := ⟨2, ![1024, 1024]⟩
abbrev S8192x256 : Shape := ⟨2, ![8192, 256]⟩
abbrev S2048x2048 : Shape := ⟨2, ![2048, 2048]⟩
abbrev S32x384 : Shape := ⟨2, ![32, 384]⟩
abbrev S8x2048x1282 : Shape := ⟨3, ![8, 2048, 1282]⟩
abbrev S8x128x1024 : Shape := ⟨3, ![8, 128, 1024]⟩
abbrev S8x1024x256 : Shape := ⟨3, ![8, 1024, 256]⟩
abbrev S8x256x2048 : Shape := ⟨3, ![8, 256, 2048]⟩
abbrev S8x4x384 : Shape := ⟨3, ![8, 4, 384]⟩

abbrev nBuf : Space → Nat
  | .hbm => 12
  | .vmem => 0
  | .smem => 0
  | _ => 0

abbrev bufTy : (tb : Table) → Fin (tcTables nBuf tb) → BufTy
  | .hbm, ⟨0, _⟩ => ⟨S16384x1282, .bf16⟩
  | .hbm, ⟨1, _⟩ => ⟨S1024x1024, .bf16⟩
  | .hbm, ⟨2, _⟩ => ⟨S8192x256, .bf16⟩
  | .hbm, ⟨3, _⟩ => ⟨S8192x256, .bf16⟩
  | .hbm, ⟨4, _⟩ => ⟨S2048x2048, .bf16⟩
  | .hbm, ⟨5, _⟩ => ⟨S32x384, .f32⟩
  | .hbm, ⟨6, _⟩ => ⟨S8x2048x1282, .bf16⟩
  | .hbm, ⟨7, _⟩ => ⟨S8x128x1024, .bf16⟩
  | .hbm, ⟨8, _⟩ => ⟨S8x1024x256, .bf16⟩
  | .hbm, ⟨9, _⟩ => ⟨S8x1024x256, .bf16⟩
  | .hbm, ⟨10, _⟩ => ⟨S8x256x2048, .bf16⟩
  | .hbm, ⟨11, _⟩ => ⟨S8x4x384, .f32⟩
  | _, _ => ⟨S16384x1282, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== AllGatherWeights.lean ====
abbrev S16384x1282 : Shape := ⟨2, ![16384, 1282]⟩
abbrev S1024x1024 : Shape := ⟨2, ![1024, 1024]⟩
abbrev S8192x256 : Shape := ⟨2, ![8192, 256]⟩
abbrev S2048x2048 : Shape := ⟨2, ![2048, 2048]⟩
abbrev S32x384 : Shape := ⟨2, ![32, 384]⟩
abbrev S8x2048x1282 : Shape := ⟨3, ![8, 2048, 1282]⟩
abbrev S8x128x1024 : Shape := ⟨3, ![8, 128, 1024]⟩
abbrev S8x1024x256 : Shape := ⟨3, ![8, 1024, 256]⟩
abbrev S8x256x2048 : Shape := ⟨3, ![8, 256, 2048]⟩
abbrev S8x4x384 : Shape := ⟨3, ![8, 4, 384]⟩

abbrev nBuf : Space → Nat
  | .hbm => 12
  | .vmem => 0
  | .smem => 0
  | _ => 0

abbrev bufTy : (tb : Table) → Fin (tcTables nBuf tb) → BufTy
  | .hbm, ⟨0, _⟩ => ⟨S16384x1282, .bf16⟩
  | .hbm, ⟨1, _⟩ => ⟨S1024x1024, .bf16⟩
  | .hbm, ⟨2, _⟩ => ⟨S8192x256, .bf16⟩
  | .hbm, ⟨3, _⟩ => ⟨S8192x256, .bf16⟩
  | .hbm, ⟨4, _⟩ => ⟨S2048x2048, .bf16⟩
  | .hbm, ⟨5, _⟩ => ⟨S32x384, .f32⟩
  | .hbm, ⟨6, _⟩ => ⟨S8x2048x1282, .bf16⟩
  | .hbm, ⟨7, _⟩ => ⟨S8x128x1024, .bf16⟩
  | .hbm, ⟨8, _⟩ => ⟨S8x1024x256, .bf16⟩
  | .hbm, ⟨9, _⟩ => ⟨S8x1024x256, .bf16⟩
  | .hbm, ⟨10, _⟩ => ⟨S8x256x2048, .bf16⟩
  | .hbm, ⟨11, _⟩ => ⟨S8x4x384, .f32⟩
  | _, _ => ⟨S16384x1282, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== GatherSmallGrads.lean ====
abbrev S2304x128 : Shape := ⟨2, ![2304, 128]⟩
abbrev S8x2304x128 : Shape := ⟨3, ![8, 2304, 128]⟩
abbrev S1x7 : Shape := ⟨2, ![1, 7]⟩
abbrev S1 : Shape := ⟨1, ![1]⟩
abbrev S_ : Shape := ⟨0, ![]⟩
abbrev S1x2304x128 : Shape := ⟨3, ![1, 2304, 128]⟩
abbrev S1x1 : Shape := ⟨2, ![1, 1]⟩

abbrev nBuf : Space → Nat
  | .hbm => 2
  | .vmem => 0
  | .smem => 0
  | _ => 0

abbrev bufTy : (tb : Table) → Fin (tcTables nBuf tb) → BufTy
  | .hbm, ⟨0, _⟩ => ⟨S2304x128, .f32⟩
  | .hbm, ⟨1, _⟩ => ⟨S8x2304x128, .f32⟩
  | _, _ => ⟨S2304x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32_10 : BitVec 32 := 0#32
  let c0_i32_11 : BitVec 32 := 0#32
  ![v17.toNat, 0, 0]
def k0_dev1 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v38 : BitVec 32 := Scalar.muli v2 c4_i32_24
  let v39 : BitVec 32 := Scalar.addi c0_i32_25 v38
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v40 : BitVec 32 := Scalar.muli v5 c2_i32_26
  let v41 : BitVec 32 := Scalar.addi v39 v40
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_27 : BitVec 32 := 1#32
  let v42 : BitVec 32 := Scalar.muli v9 c1_i32_27
  let v43 : BitVec 32 := Scalar.addi v41 v42
  v43.toNat
def k0_dev2 (d0 : Dev nD) : Nat :=
  let c0_i32_35 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_34 : BitVec 32 := 4#32
  let v50 : BitVec 32 := Scalar.muli v10 c4_i32_34
  let v51 : BitVec 32 := Scalar.addi c0_i32_35 v50
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_36 : BitVec 32 := 2#32
  let v52 : BitVec 32 := Scalar.muli v5 c2_i32_36
  let v53 : BitVec 32 := Scalar.addi v51 v52
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v54 : BitVec 32 := Scalar.muli v8 c1_i32_37
  let v55 : BitVec 32 := Scalar.addi v53 v54
  v55.toNat
def k0_dev3 (d0 : Dev nD) : Nat :=
  let c0_i32_45 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_44 : BitVec 32 := 4#32
  let v62 : BitVec 32 := Scalar.muli v2 c4_i32_44
  let v63 : BitVec 32 := Scalar.addi c0_i32_45 v62
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_46 : BitVec 32 := 2#32
  let v64 : BitVec 32 := Scalar.muli v11 c2_i32_46
  let v65 : BitVec 32 := Scalar.addi v63 v64
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v66 : BitVec 32 := Scalar.muli v8 c1_i32_47
  let v67 : BitVec 32 := Scalar.addi v65 v66
  v67.toNat
def k0_dev4 (d0 : Dev nD) : Nat :=
  let c0_i32_54 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_53 : BitVec 32 := 4#32
  let v74 : BitVec 32 := Scalar.muli v12 c4_i32_53
  let v75 : BitVec 32 := Scalar.addi c0_i32_54 v74
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_55 : BitVec 32 := 2#32
  let v76 : BitVec 32 := Scalar.muli v13 c2_i32_55
  let v77 : BitVec 32 := Scalar.addi v75 v76
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_56 : BitVec 32 := 1#32
  let v78 : BitVec 32 := Scalar.muli v8 c1_i32_56
  let v79 : BitVec 32 := Scalar.addi v77 v78
  v79.toNat
def k0_off2 (d0 : Dev nD) : Fin 3 → Nat :=
  let c4_i32_59 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v86 : BitVec 32 := Scalar.muli c4_i32_59 v10
  let c2_i32_60 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v87 : BitVec 32 := Scalar.muli c2_i32_60 v5
  let v88 : BitVec 32 := Scalar.addi v86 v87
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v89 : BitVec 32 := Scalar.addi v88 v8
  let c0_i32_69 : BitVec 32 := 0#32
  let c0_i32_70 : BitVec 32 := 0#32
  ![v89.toNat, 0, 0]
def k0_dev5 (d0 : Dev nD) : Nat :=
  let c0_i32_80 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_79 : BitVec 32 := 4#32
  let v106 : BitVec 32 := Scalar.muli v2 c4_i32_79
  let v107 : BitVec 32 := Scalar.addi c0_i32_80 v106
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_81 : BitVec 32 := 2#32
  let v108 : BitVec 32 := Scalar.muli v5 c2_i32_81
  let v109 : BitVec 32 := Scalar.addi v107 v108
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_82 : BitVec 32 := 1#32
  let v110 : BitVec 32 := Scalar.muli v9 c1_i32_82
  let v111 : BitVec 32 := Scalar.addi v109 v110
  v111.toNat
def k0_off3 (d0 : Dev nD) : Fin 3 → Nat :=
  let c4_i32_87 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v120 : BitVec 32 := Scalar.muli c4_i32_87 v2
  let c2_i32_88 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v121 : BitVec 32 := Scalar.muli c2_i32_88 v11
  let v122 : BitVec 32 := Scalar.addi v120 v121
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v123 : BitVec 32 := Scalar.addi v122 v8
  let c0_i32_97 : BitVec 32 := 0#32
  let c0_i32_98 : BitVec 32 := 0#32
  ![v123.toNat, 0, 0]
def k0_dev6 (d0 : Dev nD) : Nat :=
  let c0_i32_107 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_106 : BitVec 32 := 4#32
  let v140 : BitVec 32 := Scalar.muli v2 c4_i32_106
  let v141 : BitVec 32 := Scalar.addi c0_i32_107 v140
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_108 : BitVec 32 := 2#32
  let v142 : BitVec 32 := Scalar.muli v5 c2_i32_108
  let v143 : BitVec 32 := Scalar.addi v141 v142
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_109 : BitVec 32 := 1#32
  let v144 : BitVec 32 := Scalar.muli v9 c1_i32_109
  let v145 : BitVec 32 := Scalar.addi v143 v144
  v145.toNat
def k0_off4 (d0 : Dev nD) : Fin 3 → Nat :=
  let c4_i32_114 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v154 : BitVec 32 := Scalar.muli c4_i32_114 v12
  let c2_i32_115 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v155 : BitVec 32 := Scalar.muli c2_i32_115 v13
  let v156 : BitVec 32 := Scalar.addi v154 v155
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v157 : BitVec 32 := Scalar.addi v156 v8
  let c0_i32_124 : BitVec 32 := 0#32
  let c0_i32_125 : BitVec 32 := 0#32
  ![v157.toNat, 0, 0]
def k0_dev7 (d0 : Dev nD) : Nat :=
  let c0_i32_134 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_133 : BitVec 32 := 4#32
  let v174 : BitVec 32 := Scalar.muli v2 c4_i32_133
  let v175 : BitVec 32 := Scalar.addi c0_i32_134 v174
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_135 : BitVec 32 := 2#32
  let v176 : BitVec 32 := Scalar.muli v5 c2_i32_135
  let v177 : BitVec 32 := Scalar.addi v175 v176
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_136 : BitVec 32 := 1#32
  let v178 : BitVec 32 := Scalar.muli v9 c1_i32_136
  let v179 : BitVec 32 := Scalar.addi v177 v178
  v179.toNat
def k0_off5 (d0 : Dev nD) : Fin 3 → Nat :=
  let c4_i32_141 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v188 : BitVec 32 := Scalar.muli c4_i32_141 v2
  let c2_i32_142 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v189 : BitVec 32 := Scalar.muli c2_i32_142 v5
  let v190 : BitVec 32 := Scalar.addi v188 v189
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v191 : BitVec 32 := Scalar.addi v190 v9
  let c0_i32_151 : BitVec 32 := 0#32
  let c0_i32_152 : BitVec 32 := 0#32
  ![v191.toNat, 0, 0]
def k0_off6 (d0 : Dev nD) : Fin 3 → Nat :=
  let c4_i32_156 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v205 : BitVec 32 := Scalar.muli c4_i32_156 v10
  let c2_i32_157 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v206 : BitVec 32 := Scalar.muli c2_i32_157 v5
  let v207 : BitVec 32 := Scalar.addi v205 v206
  let c1_i32_155 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v204 : BitVec 32 := Scalar.subi c1_i32_155 v8
  let v208 : BitVec 32 := Scalar.addi v207 v204
  let c0_i32_166 : BitVec 32 := 0#32
  let c0_i32_167 : BitVec 32 := 0#32
  ![v208.toNat, 0, 0]
def k0_off7 (d0 : Dev nD) : Fin 3 → Nat :=
  let c4_i32_171 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v222 : BitVec 32 := Scalar.muli c4_i32_171 v2
  let c2_i32_172 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v223 : BitVec 32 := Scalar.muli c2_i32_172 v11
  let v224 : BitVec 32 := Scalar.addi v222 v223
  let c1_i32_170 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v221 : BitVec 32 := Scalar.subi c1_i32_170 v8
  let v225 : BitVec 32 := Scalar.addi v224 v221
  let c0_i32_181 : BitVec 32 := 0#32
  let c0_i32_182 : BitVec 32 := 0#32
  ![v225.toNat, 0, 0]
def k0_off8 (d0 : Dev nD) : Fin 3 → Nat :=
  let c4_i32_186 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v239 : BitVec 32 := Scalar.muli c4_i32_186 v12
  let c2_i32_187 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v240 : BitVec 32 := Scalar.muli c2_i32_187 v13
  let v241 : BitVec 32 := Scalar.addi v239 v240
  let c1_i32_185 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v238 : BitVec 32 := Scalar.subi c1_i32_185 v8
  let v242 : BitVec 32 := Scalar.addi v241 v238
  let c0_i32_196 : BitVec 32 := 0#32
  let c0_i32_197 : BitVec 32 := 0#32
  ![v242.toNat, 0, 0]
-- ==== AllGatherSmallGrads.lean ====
abbrev S18432x128 : Shape := ⟨2, ![18432, 128]⟩
abbrev S8x2304x128 : Shape := ⟨3, ![8, 2304, 128]⟩

abbrev nBuf : Space → Nat
  | .hbm => 2
  | .vmem => 0
  | .smem => 0
  | _ => 0

abbrev bufTy : (tb : Table) → Fin (tcTables nBuf tb) → BufTy
  | .hbm, ⟨0, _⟩ => ⟨S18432x128, .f32⟩
  | .hbm, ⟨1, _⟩ => ⟨S8x2304x128, .f32⟩
  | _, _ => ⟨S18432x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== RmsBwd.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== PulledBackIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 47
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Final.lean ====
abbrev S2048x2048 : Shape := ⟨2, ![2048, 2048]⟩
abbrev S1x2048 : Shape := ⟨2, ![1, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S2048 : Shape := ⟨1, ![2048]⟩
abbrev S1 : Shape := ⟨1, ![1]⟩

abbrev nBuf : Space → Nat
  | .hbm => 8
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S1x1, .f32⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x1, .f32⟩
  | .local _ .vmem, ⟨12, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== PlainFinalIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S1x1 : Shape := ⟨2, ![1, 1]⟩

abbrev nBuf : Space → Nat
  | .hbm => 72
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2048, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S_, .f32⟩
  | .hbm, ⟨55, _⟩ => ⟨S2048, .f32⟩
  | .hbm, ⟨56, _⟩ => ⟨S2048x1, .f32⟩
  | .hbm, ⟨57, _⟩ => ⟨S2048x2048, .f32⟩
  | .hbm, ⟨58, _⟩ => ⟨S2048x2048, .f32⟩
  | .hbm, ⟨59, _⟩ => ⟨S2048x1, .f32⟩
  | .hbm, ⟨60, _⟩ => ⟨S_, .f32⟩
  | .hbm, ⟨61, _⟩ => ⟨S2048x1, .f32⟩
  | .hbm, ⟨62, _⟩ => ⟨S2048x1, .f32⟩
  | .hbm, ⟨63, _⟩ => ⟨S_, .f32⟩
  | .hbm, ⟨64, _⟩ => ⟨S2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .bf16⟩
  | .hbm, ⟨71, _⟩ => ⟨S1x1, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_cst_8 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩
abbrev main_cst_10 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_11 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_13 : Ref sig .tc := ⟨.hbm, 60, rfl⟩
abbrev main_v42 : Ref sig .tc := ⟨.hbm, 61, rfl⟩
abbrev main_v43 : Ref sig .tc := ⟨.hbm, 62, rfl⟩
abbrev main_cst_14 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== Total.lean ====
abbrev S1x1 : Shape := ⟨2, ![1, 1]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S1x1, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | _, _ => ⟨S1x1, .f32⟩

abbrev bufScoped : (cs : CoreSpace) → Fin (nBuf (.core cs)) → Bool
  | _, _ => false

abbrev semScoped : Fin 1 → Bool
  | ⟨0, _⟩ => false
  | _ => false

abbrev dmaSemScoped : Fin 2 → Bool
  | ⟨0, _⟩ => false
  | ⟨1, _⟩ => false
  | _ => false

abbrev sig : RefSig :=
  ofTc nBuf bufTy 1 2 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_v2 : Ref sig .tc := ⟨.hbm, 2, rfl⟩
abbrev main_v2_s0 : Ref sig .tc := ⟨.hbm, 3, rfl⟩
abbrev main_v2_s1 : Ref sig .tc := ⟨.hbm, 4, rfl⟩
abbrev main_v2_s2 : Ref sig .tc := ⟨.hbm, 5, rfl⟩
abbrev main_v2_s3 : Ref sig .tc := ⟨.hbm, 6, rfl⟩
abbrev main_v2_s4 : Ref sig .tc := ⟨.hbm, 7, rfl⟩
abbrev main_v2_s5 : Ref sig .tc := ⟨.hbm, 8, rfl⟩
abbrev main_v2_s6 : Ref sig .tc := ⟨.hbm, 9, rfl⟩
abbrev main_v2_s7 : Ref sig .tc := ⟨.hbm, 10, rfl⟩
abbrev ar0_recv : DmaSem sig := 0
abbrev ar0_send : DmaSem sig := 1
abbrev ar0_barrier : Sem sig := 0

abbrev nD : Nat := 8
abbrev τ : Topo := Topo.v7x

variable {F : FTy → Type} [FloatOps F]

abbrev ar0_mem : Fin 1 × Fin 8 → Dev nD := fun q => (![![0, 1, 2, 3, 4, 5, 6, 7]] : Fin 1 → Fin 8 → Dev nD) q.1 q.2
abbrev ar0_pos : Dev nD → Fin 1 × Fin 8 := fun c => ((![0, 0, 0, 0, 0, 0, 0, 0] : Fin 8 → Fin 1) c, (![0, 1, 2, 3, 4, 5, 6, 7] : Fin 8 → Fin 8) c)
abbrev ar0_stage : Fin 8 → Ref sig .tc := fun | 0 => main_v2_s0 | 1 => main_v2_s1 | 2 => main_v2_s2 | 3 => main_v2_s3 | 4 => main_v2_s4 | 5 => main_v2_s5 | 6 => main_v2_s6 | 7 => main_v2_s7 | ⟨_ + 8, h⟩ => absurd h (Nat.not_lt.2 (Nat.le_add_left _ _))
-- ==== PlainTotalIdeal.lean ====
abbrev S8x1 : Shape := ⟨2, ![8, 1]⟩
abbrev S_ : Shape := ⟨0, ![]⟩

abbrev nBuf : Space → Nat
  | .hbm => 3
  | .vmem => 0
  | .smem => 0
  | _ => 0

abbrev bufTy : (tb : Table) → Fin (tcTables nBuf tb) → BufTy
  | .hbm, ⟨0, _⟩ => ⟨S8x1, .f32⟩
  | .hbm, ⟨1, _⟩ => ⟨S_, .f32⟩
  | .hbm, ⟨2, _⟩ => ⟨S_, .f32⟩
  | _, _ => ⟨S8x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ProductWOut.lean ====
abbrev S2048x2048 : Shape := ⟨2, ![2048, 2048]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductWOutIdeal.lean ====
abbrev S2048x2048 : Shape := ⟨2, ![2048, 2048]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PlainWOutIdeal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProductGradWOut.lean ====
abbrev S2048x2048 : Shape := ⟨2, ![2048, 2048]⟩
abbrev S2048x512 : Shape := ⟨2, ![2048, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S512x512, .bf16⟩
  | .local _ .vmem, ⟨5, _⟩ => ⟨S512x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductGradWOutIdeal.lean ====
abbrev S2048x2048 : Shape := ⟨2, ![2048, 2048]⟩
abbrev S2048x512 : Shape := ⟨2, ![2048, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S512x512, .bf16⟩
  | .local _ .vmem, ⟨5, _⟩ => ⟨S512x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PlainGradWOutIdeal.lean ====
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ProductDMixed.lean ====
abbrev S2048x2048 : Shape := ⟨2, ![2048, 2048]⟩
abbrev S512x2048 : Shape := ⟨2, ![512, 2048]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x512, .f32⟩
  | .local _ .vmem, ⟨5, _⟩ => ⟨S512x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductDMixedIdeal.lean ====
abbrev S2048x2048 : Shape := ⟨2, ![2048, 2048]⟩
abbrev S512x2048 : Shape := ⟨2, ![512, 2048]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x512, .f32⟩
  | .local _ .vmem, ⟨5, _⟩ => ⟨S512x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PlainDMixedIdeal.lean ====
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProductS5Up.lean ====
abbrev S2048x1024 : Shape := ⟨2, ![2048, 1024]⟩
abbrev S1024x2048 : Shape := ⟨2, ![1024, 2048]⟩
abbrev S2048x2048 : Shape := ⟨2, ![2048, 2048]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S2048x2048, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductS5UpIdeal.lean ====
abbrev S2048x1024 : Shape := ⟨2, ![2048, 1024]⟩
abbrev S1024x2048 : Shape := ⟨2, ![1024, 2048]⟩
abbrev S2048x2048 : Shape := ⟨2, ![2048, 2048]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S2048x2048, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PlainS5UpIdeal.lean ====
abbrev S2048x1024 : Shape := ⟨2, ![2048, 1024]⟩
abbrev S1024x2048 : Shape := ⟨2, ![1024, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S2048x1024, .f32⟩
  | .hbm, ⟨3, _⟩ => ⟨S1024x2048, .f32⟩
  | .hbm, ⟨4, _⟩ => ⟨S2048x2048, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProductGradS5Up.lean ====
abbrev S2048x1024 : Shape := ⟨2, ![2048, 1024]⟩
abbrev S2048x2048 : Shape := ⟨2, ![2048, 2048]⟩
abbrev S1024x2048 : Shape := ⟨2, ![1024, 2048]⟩
abbrev S2048x512 : Shape := ⟨2, ![2048, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S1024x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S512x512, .bf16⟩
  | .local _ .vmem, ⟨5, _⟩ => ⟨S512x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductGradS5UpIdeal.lean ====
abbrev S2048x1024 : Shape := ⟨2, ![2048, 1024]⟩
abbrev S2048x2048 : Shape := ⟨2, ![2048, 2048]⟩
abbrev S1024x2048 : Shape := ⟨2, ![1024, 2048]⟩
abbrev S2048x512 : Shape := ⟨2, ![2048, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S1024x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S512x512, .bf16⟩
  | .local _ .vmem, ⟨5, _⟩ => ⟨S512x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PlainGradS5UpIdeal.lean ====
abbrev S2048x1024 : Shape := ⟨2, ![2048, 1024]⟩
abbrev S2048x2048 : Shape := ⟨2, ![2048, 2048]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S2048x1024, .f32⟩
  | .hbm, ⟨3, _⟩ => ⟨S2048x2048, .f32⟩
  | .hbm, ⟨4, _⟩ => ⟨S1024x2048, .f32⟩
  | .hbm, ⟨5, _⟩ => ⟨S1024x2048, .f32⟩
  | .hbm, ⟨6, _⟩ => ⟨S1024x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ProductDOutS.lean ====
abbrev S2048x2048 : Shape := ⟨2, ![2048, 2048]⟩
abbrev S1024x2048 : Shape := ⟨2, ![1024, 2048]⟩
abbrev S2048x1024 : Shape := ⟨2, ![2048, 1024]⟩
abbrev S512x2048 : Shape := ⟨2, ![512, 2048]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S1024x2048, .bf16⟩
  | .hbm, ⟨2, _⟩ => ⟨S2048x1024, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x512, .f32⟩
  | .local _ .vmem, ⟨5, _⟩ => ⟨S512x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductDOutSIdeal.lean ====
abbrev S2048x2048 : Shape := ⟨2, ![2048, 2048]⟩
abbrev S1024x2048 : Shape := ⟨2, ![1024, 2048]⟩
abbrev S2048x1024 : Shape := ⟨2, ![2048, 1024]⟩
abbrev S512x2048 : Shape := ⟨2, ![512, 2048]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S1024x2048, .bf16⟩
  | .hbm, ⟨2, _⟩ => ⟨S2048x1024, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x512, .f32⟩
  | .local _ .vmem, ⟨5, _⟩ => ⟨S512x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PlainDOutSIdeal.lean ====
abbrev S2048x2048 : Shape := ⟨2, ![2048, 2048]⟩
abbrev S1024x2048 : Shape := ⟨2, ![1024, 2048]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1024x2048, .bf16⟩
  | .hbm, ⟨2, _⟩ => ⟨S2048x2048, .f32⟩
  | .hbm, ⟨3, _⟩ => ⟨S1024x2048, .f32⟩
  | .hbm, ⟨4, _⟩ => ⟨S2048x1024, .f32⟩
  | .hbm, ⟨5, _⟩ => ⟨S2048x1024, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProductProj.lean ====
abbrev S2048x2048 : Shape := ⟨2, ![2048, 2048]⟩
abbrev S2048x10752 : Shape := ⟨2, ![2048, 10752]⟩
abbrev S512x2048 : Shape := ⟨2, ![512, 2048]⟩
abbrev S2048x1536 : Shape := ⟨2, ![2048, 1536]⟩
abbrev S512x1536 : Shape := ⟨2, ![512, 1536]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x10752, .bf16⟩
  | .hbm, ⟨2, _⟩ => ⟨S2048x10752, .f32⟩
  | .local _ .vmem, ⟨0, _⟩ => ⟨S512x2048, .bf16⟩
  | .local _ .vmem, ⟨1, _⟩ => ⟨S512x2048, .bf16⟩
  | .local _ .vmem, ⟨2, _⟩ => ⟨S2048x1536, .bf16⟩
  | .local _ .vmem, ⟨3, _⟩ => ⟨S2048x1536, .bf16⟩
  | .local _ .vmem, ⟨4, _⟩ => ⟨S512x1536, .f32⟩
  | .local _ .vmem, ⟨5, _⟩ => ⟨S512x1536, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductProjIdeal.lean ====
abbrev S2048x2048 : Shape := ⟨2, ![2048, 2048]⟩
abbrev S2048x10752 : Shape := ⟨2, ![2048, 10752]⟩
abbrev S512x2048 : Shape := ⟨2, ![512, 2048]⟩
abbrev S2048x1536 : Shape := ⟨2, ![2048, 1536]⟩
abbrev S512x1536 : Shape := ⟨2, ![512, 1536]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x10752, .bf16⟩
  | .hbm, ⟨2, _⟩ => ⟨S2048x10752, .f32⟩
  | .local _ .vmem, ⟨0, _⟩ => ⟨S512x2048, .bf16⟩
  | .local _ .vmem, ⟨1, _⟩ => ⟨S512x2048, .bf16⟩
  | .local _ .vmem, ⟨2, _⟩ => ⟨S2048x1536, .bf16⟩
  | .local _ .vmem, ⟨3, _⟩ => ⟨S2048x1536, .bf16⟩
  | .local _ .vmem, ⟨4, _⟩ => ⟨S512x1536, .f32⟩
  | .local _ .vmem, ⟨5, _⟩ => ⟨S512x1536, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PlainProjIdeal.lean ====
abbrev S2048x2048 : Shape := ⟨2, ![2048, 2048]⟩
abbrev S2048x10752 : Shape := ⟨2, ![2048, 10752]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x10752, .bf16⟩
  | .hbm, ⟨2, _⟩ => ⟨S2048x2048, .f32⟩
  | .hbm, ⟨3, _⟩ => ⟨S2048x10752, .f32⟩
  | .hbm, ⟨4, _⟩ => ⟨S2048x10752, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProductGradWIn.lean ====
abbrev S2048x2048 : Shape := ⟨2, ![2048, 2048]⟩
abbrev S2048x10752 : Shape := ⟨2, ![2048, 10752]⟩
abbrev S2048x512 : Shape := ⟨2, ![2048, 512]⟩
abbrev S2048x1536 : Shape := ⟨2, ![2048, 1536]⟩
abbrev S512x1536 : Shape := ⟨2, ![512, 1536]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x10752, .bf16⟩
  | .hbm, ⟨2, _⟩ => ⟨S2048x10752, .bf16⟩
  | .local _ .vmem, ⟨0, _⟩ => ⟨S2048x512, .bf16⟩
  | .local _ .vmem, ⟨1, _⟩ => ⟨S2048x512, .bf16⟩
  | .local _ .vmem, ⟨2, _⟩ => ⟨S2048x1536, .bf16⟩
  | .local _ .vmem, ⟨3, _⟩ => ⟨S2048x1536, .bf16⟩
  | .local _ .vmem, ⟨4, _⟩ => ⟨S512x1536, .bf16⟩
  | .local _ .vmem, ⟨5, _⟩ => ⟨S512x1536, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductGradWInIdeal.lean ====
abbrev S2048x2048 : Shape := ⟨2, ![2048, 2048]⟩
abbrev S2048x10752 : Shape := ⟨2, ![2048, 10752]⟩
abbrev S2048x512 : Shape := ⟨2, ![2048, 512]⟩
abbrev S2048x1536 : Shape := ⟨2, ![2048, 1536]⟩
abbrev S512x1536 : Shape := ⟨2, ![512, 1536]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x10752, .bf16⟩
  | .hbm, ⟨2, _⟩ => ⟨S2048x10752, .bf16⟩
  | .local _ .vmem, ⟨0, _⟩ => ⟨S2048x512, .bf16⟩
  | .local _ .vmem, ⟨1, _⟩ => ⟨S2048x512, .bf16⟩
  | .local _ .vmem, ⟨2, _⟩ => ⟨S2048x1536, .bf16⟩
  | .local _ .vmem, ⟨3, _⟩ => ⟨S2048x1536, .bf16⟩
  | .local _ .vmem, ⟨4, _⟩ => ⟨S512x1536, .bf16⟩
  | .local _ .vmem, ⟨5, _⟩ => ⟨S512x1536, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PlainGradWInIdeal.lean ====
abbrev S2048x2048 : Shape := ⟨2, ![2048, 2048]⟩
abbrev S2048x10752 : Shape := ⟨2, ![2048, 10752]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x10752, .bf16⟩
  | .hbm, ⟨2, _⟩ => ⟨S2048x2048, .f32⟩
  | .hbm, ⟨3, _⟩ => ⟨S2048x10752, .f32⟩
  | .hbm, ⟨4, _⟩ => ⟨S2048x2048, .f32⟩
  | .hbm, ⟨5, _⟩ => ⟨S2048x10752, .f32⟩
  | .hbm, ⟨6, _⟩ => ⟨S2048x10752, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ProductDH.lean ====
abbrev S2048x10752 : Shape := ⟨2, ![2048, 10752]⟩
abbrev S2048x2048 : Shape := ⟨2, ![2048, 2048]⟩
abbrev S512x1536 : Shape := ⟨2, ![512, 1536]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x10752, .bf16⟩
  | .hbm, ⟨1, _⟩ => ⟨S2048x10752, .bf16⟩
  | .hbm, ⟨2, _⟩ => ⟨S2048x2048, .f32⟩
  | .local _ .vmem, ⟨0, _⟩ => ⟨S512x1536, .bf16⟩
  | .local _ .vmem, ⟨1, _⟩ => ⟨S512x1536, .bf16⟩
  | .local _ .vmem, ⟨2, _⟩ => ⟨S512x1536, .bf16⟩
  | .local _ .vmem, ⟨3, _⟩ => ⟨S512x1536, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2048x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 7], ![false, false, false]⟩

def k0_cond3 (i : grid0.Coords) : BitVec 1 :=
  let arg2 : BitVec 32 := BitVec.ofNat 32 (i 2).val
  let c6_i32 : BitVec 32 := 6#32
  let v9 : BitVec 1 := Scalar.cmpi .eq arg2 c6_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductDHIdeal.lean ====
abbrev S2048x10752 : Shape := ⟨2, ![2048, 10752]⟩
abbrev S2048x2048 : Shape := ⟨2, ![2048, 2048]⟩
abbrev S512x1536 : Shape := ⟨2, ![512, 1536]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x10752, .bf16⟩
  | .hbm, ⟨1, _⟩ => ⟨S2048x10752, .bf16⟩
  | .hbm, ⟨2, _⟩ => ⟨S2048x2048, .f32⟩
  | .local _ .vmem, ⟨0, _⟩ => ⟨S512x1536, .bf16⟩
  | .local _ .vmem, ⟨1, _⟩ => ⟨S512x1536, .bf16⟩
  | .local _ .vmem, ⟨2, _⟩ => ⟨S512x1536, .bf16⟩
  | .local _ .vmem, ⟨3, _⟩ => ⟨S512x1536, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2048x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 7], ![false, false, false]⟩

def k0_cond3 (i : grid0.Coords) : BitVec 1 :=
  let arg2 : BitVec 32 := BitVec.ofNat 32 (i 2).val
  let c6_i32 : BitVec 32 := 6#32
  let v9 : BitVec 1 := Scalar.cmpi .eq arg2 c6_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PlainDHIdeal.lean ====
abbrev S2048x10752 : Shape := ⟨2, ![2048, 10752]⟩
abbrev S10752x2048 : Shape := ⟨2, ![10752, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x10752, .bf16⟩
  | .hbm, ⟨1, _⟩ => ⟨S2048x10752, .bf16⟩
  | .hbm, ⟨2, _⟩ => ⟨S2048x10752, .f32⟩
  | .hbm, ⟨3, _⟩ => ⟨S2048x10752, .f32⟩
  | .hbm, ⟨4, _⟩ => ⟨S10752x2048, .f32⟩
  | .hbm, ⟨5, _⟩ => ⟨S2048x2048, .f32⟩
  | _, _ => ⟨S2048x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== RmsFwd.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormedIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== MergeFwd.lean ====
abbrev S2048x10752 : Shape := ⟨2, ![2048, 10752]⟩
abbrev S2048x2048 : Shape := ⟨2, ![2048, 2048]⟩
abbrev S256x512 : Shape := ⟨2, ![256, 512]⟩

abbrev nBuf : Space → Nat
  | .hbm => 4
  | .vmem => 10
  | .smem => 0
  | _ => 0

abbrev bufTy : (tb : Table) → Fin (tcTables nBuf tb) → BufTy
  | .hbm, ⟨0, _⟩ => ⟨S2048x10752, .f32⟩
  | .hbm, ⟨1, _⟩ => ⟨S2048x2048, .f32⟩
  | .hbm, ⟨2, _⟩ => ⟨S2048x2048, .f32⟩
  | .hbm, ⟨3, _⟩ => ⟨S2048x2048, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .bf16⟩
  | .local _ .vmem, ⟨9, _⟩ => ⟨S256x512, .bf16⟩
  | _, _ => ⟨S2048x10752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MergeFwdIdeal.lean ====
abbrev S2048x10752 : Shape := ⟨2, ![2048, 10752]⟩
abbrev S2048x2048 : Shape := ⟨2, ![2048, 2048]⟩
abbrev S256x512 : Shape := ⟨2, ![256, 512]⟩

abbrev nBuf : Space → Nat
  | .hbm => 4
  | .vmem => 10
  | .smem => 0
  | _ => 0

abbrev bufTy : (tb : Table) → Fin (tcTables nBuf tb) → BufTy
  | .hbm, ⟨0, _⟩ => ⟨S2048x10752, .f32⟩
  | .hbm, ⟨1, _⟩ => ⟨S2048x2048, .f32⟩
  | .hbm, ⟨2, _⟩ => ⟨S2048x2048, .f32⟩
  | .hbm, ⟨3, _⟩ => ⟨S2048x2048, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .bf16⟩
  | .local _ .vmem, ⟨9, _⟩ => ⟨S256x512, .bf16⟩
  | _, _ => ⟨S2048x10752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MergedIdeal.lean ====
abbrev S2048x10752 : Shape := ⟨2, ![2048, 10752]⟩
abbrev S2048x2048 : Shape := ⟨2, ![2048, 2048]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S2048x10752, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .bf16⟩
  | _, _ => ⟨S2048x10752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== MergeBwd.lean ====
abbrev S2048x10752 : Shape := ⟨2, ![2048, 10752]⟩
abbrev S2048x2048 : Shape := ⟨2, ![2048, 2048]⟩
abbrev S256x512 : Shape := ⟨2, ![256, 512]⟩

abbrev nBuf : Space → Nat
  | .hbm => 8
  | .vmem => 18
  | .smem => 0
  | _ => 0

abbrev bufTy : (tb : Table) → Fin (tcTables nBuf tb) → BufTy
  | .hbm, ⟨0, _⟩ => ⟨S2048x10752, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .bf16⟩
  | .hbm, ⟨5, _⟩ => ⟨S2048x2048, .bf16⟩
  | .hbm, ⟨6, _⟩ => ⟨S2048x2048, .bf16⟩
  | .hbm, ⟨7, _⟩ => ⟨S2048x2048, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | _, _ => ⟨S2048x10752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergePulledBackIdeal.lean ====
abbrev S2048x10752 : Shape := ⟨2, ![2048, 10752]⟩
abbrev S2048x2048 : Shape := ⟨2, ![2048, 2048]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S2048x10752, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S_, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .bf16⟩
  | .hbm, ⟨42, _⟩ => ⟨S2048x2048, .bf16⟩
  | .hbm, ⟨43, _⟩ => ⟨S2048x2048, .bf16⟩
  | .hbm, ⟨44, _⟩ => ⟨S2048x2048, .bf16⟩
  | _, _ => ⟨S2048x10752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Proof.Cells.lean ====
module

public import Idealize.ShloMosaic.Lib.Pipeline.Launch
public import Idealize.ShloMosaic.Lib.Tactic

/-!
# Cells that are credited once, and loops over transfers

A call that talks between devices has one cell per transfer it starts and one per transfer that arrives. Each cell is
credited exactly once, by the one transfer it belongs to, and waited on exactly once. What that credit hands the waiter is
left open here. Also here: loops of one or two operations per item of a list, and how what a device holds passes through them.
-/

@[expose] public section

noncomputable section

namespace Cert.Wire

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The rounds library's algebra over a machine's cells. -/
abbrev UR (nD : ℕ) (τ : Topo) (sig : RefSig) : Type := URounds (GSem nD τ sig) Unit

/-- Two copies of it: the pipelines' and the transfers'. -/
abbrev UU (nD : ℕ) (τ : Topo) (sig : RefSig) : Type := UR nD τ sig × UR nD τ sig

variable {nD : ℕ} {τ : Topo} {sig : RefSig} {Λ : Labels} {F : FTy → Type} [FloatOps F]

local notation "𝕄" => MT nD τ sig Unit (Elt F) ℕ (UU nD τ sig) ℕ

/-- The pipelines' copy, -/
def EP : Emb (UR nD τ sig) (MT nD τ sig Unit (Elt F) ℕ (UU nD τ sig) ℕ) :=
  (Emb.inl : Emb (UR nD τ sig) (UU nD τ sig)).trans
    (uEmb (nD := nD) (τ := τ) (sig := sig) (Ix := Unit) (Val := Elt F) (Name := ℕ) (U := UU nD τ sig) (Lvl := ℕ)).toEmb

/-- and the transfers'. -/
def ER : Emb (UR nD τ sig) (MT nD τ sig Unit (Elt F) ℕ (UU nD τ sig) ℕ) :=
  (Emb.inr : Emb (UR nD τ sig) (UU nD τ sig)).trans
    (uEmb (nD := nD) (τ := τ) (sig := sig) (Ix := Unit) (Val := Elt F) (Name := ℕ) (U := UU nD τ sig) (Lvl := ℕ)).toEmb

instance EP_landsIn : (EP : Emb (UR nD τ sig) 𝕄).LandsIn (upEmb : UEmb _ 𝕄) := by unfold EP; infer_instance
instance ER_landsIn : (ER : Emb (UR nD τ sig) 𝕄).LandsIn (upEmb : UEmb _ 𝕄) := by unfold ER; infer_instance

theorem own_split (a b : UR nD τ sig) : (ownU (a, b) : sProp 𝕄) ⊢ iprop(BI.own (EP a) ∗ BI.own (ER b)) :=
  BI.own_op_elim ((uEmb (nD := nD) (τ := τ) (sig := sig) (Ix := Unit) (Val := Elt F) (Name := ℕ) (U := UU nD τ sig) (Lvl := ℕ)).toEmb.op_of_mem
    (Prod.mk_mem_op (URA.mem_op_one a) (URA.mem_one_op b)))

/-! ## Loops -/

/-- The bodies' programs. -/
abbrev Prg (nD : ℕ) (τ : Topo) (sig : RefSig) (Λ : Labels) (F : FTy → Type) := Prog (TpuEff nD τ sig (Elt F) Λ .tc) PUnit

/-- Their operations without a result. -/
abbrev Op (nD : ℕ) (τ : Topo) (sig : RefSig) (Λ : Labels) (F : FTy → Type) := TpuEff nD τ sig (Elt F) Λ .tc PUnit

section Loops

/-- One operation for each item of a list, then `rest`. -/
def each {ι : Type} (e : ι → Op nD τ sig Λ F) : List ι → Prg nD τ sig Λ F → Prg nD τ sig Λ F
  | [], rest => rest
  | i :: l, rest => .op (e i) fun _ => each e l rest

/-- Two operations for each item of a list, then `rest`. -/
def each2 {ι : Type} (e e' : ι → Op nD τ sig Λ F) : List ι → Prg nD τ sig Λ F → Prg nD τ sig Λ F
  | [], rest => rest
  | i :: l, rest => .op (e i) fun _ => .op (e' i) fun _ => each2 e e' l rest

variable (defs : Defs nD τ sig (Elt F) Λ)

/-- A run of a device's program. No variant is needed: the kernels recurse nowhere. -/
abbrev runs (c : Dev nD) (p : Prg nD τ sig Λ F) (Q : PUnit → sProp 𝕄) : sProp 𝕄 :=
  wp frame (wpE defs Variants.none (c.tc : Thread nD τ) none) Set.univ p Q

/-- One resource for each item of a list. -/
def sepL {ι : Type} (P : ι → sProp 𝕄) : List ι → sProp 𝕄
  | [] => iprop(emp)
  | i :: l => iprop(P i ∗ sepL P l)

omit [FloatOps F] in
theorem sepL_eq {ι : Type} [DecidableEq ι] (P : ι → sProp 𝕄) (l : List ι) (h : l.Nodup) :
    sepL P l = bigSep l.toFinset P := by
  induction l with
  | nil => rfl
  | cons i l ih =>
    obtain ⟨hi, hl⟩ := List.nodup_cons.mp h
    rw [List.toFinset_cons, bigSep_insert (by rwa [List.mem_toFinset]), ← ih hl]
    rfl

omit [FloatOps F] in
theorem sepL_all {ι : Type} [Fintype ι] [DecidableEq ι] (P : ι → sProp 𝕄) (l : List ι) (h : l.Nodup) (hl : l.toFinset = Finset.univ) :
    sepL P l = bigSep Finset.univ P := by
  rw [sepL_eq P l h, hl]

omit [FloatOps F] in
/-- Two resources for each item of a list. -/
theorem sepL_sep {ι : Type} (P Q : ι → sProp 𝕄) (l : List ι) : iprop(sepL P l ∗ sepL Q l) ⊢ sepL (fun i => iprop(P i ∗ Q i)) l := by
  induction l with
  | nil => iintro -; unfold sepL; iempintro
  | cons i l ih =>
    unfold sepL
    iintro ⟨⟨H1, H2⟩, H3, H4⟩
    isplitl [H1 H3]
    · isplitl [H1] <;> iassumption
    iapply ih
    isplitl [H2] <;> iassumption

variable {defs}

/-- A loop of one operation: each takes its item from `P` to `Q`, and the loop's own state along. -/
theorem runs_each {ι : Type} (c : Dev nD) (e : ι → Op nD τ sig Λ F) (P Q : ι → sProp 𝕄) (S : List ι → sProp 𝕄) (Kt : PUnit → sProp 𝕄)
    (hstep : ∀ i l (k : PUnit → Prg nD τ sig Λ F), iprop(P i ∗ S (i :: l))
      ⊢ iprop((iprop(Q i ∗ S l) -∗ runs defs c (k ⟨⟩) Kt) -∗ runs defs c (.op (e i) k) Kt))
    (l : List ι) (rest : Prg nD τ sig Λ F) :
    iprop(sepL P l ∗ S l) ⊢ iprop((iprop(sepL Q l ∗ S []) -∗ runs defs c rest Kt) -∗ runs defs c (each e l rest) Kt) := by
  induction l with
  | nil =>
    iintro H Hk
    iapply Hk; iexact H
  | cons i l ih =>
    unfold sepL each
    iintro ⟨⟨HP, HL⟩, HS⟩ Hk
    iapply (hstep i l) $$ [HP HS]
    · isplitl [HP] <;> iassumption
    iintro ⟨HQ, HS⟩
    iapply ih $$ [HL HS]
    · isplitl [HL] <;> iassumption
    iintro ⟨HL, HS⟩
    iapply Hk
    isplitl [HQ HL]
    · isplitl [HQ] <;> iassumption
    iexact HS

/-- A loop of two operations. -/
theorem runs_each2 {ι : Type} (c : Dev nD) (e e' : ι → Op nD τ sig Λ F) (P Q : ι → sProp 𝕄) (S : List ι → sProp 𝕄) (Kt : PUnit → sProp 𝕄)
    (hstep : ∀ i l (k : PUnit → Prg nD τ sig Λ F), iprop(P i ∗ S (i :: l))
      ⊢ iprop((iprop(Q i ∗ S l) -∗ runs defs c (k ⟨⟩) Kt) -∗ runs defs c (.op (e i) fun _ => .op (e' i) k) Kt))
    (l : List ι) (rest : Prg nD τ sig Λ F) :
    iprop(sepL P l ∗ S l) ⊢ iprop((iprop(sepL Q l ∗ S []) -∗ runs defs c rest Kt) -∗ runs defs c (each2 e e' l rest) Kt) := by
  induction l with
  | nil =>
    iintro H Hk
    iapply Hk; iexact H
  | cons i l ih =>
    unfold sepL each2
    iintro ⟨⟨HP, HL⟩, HS⟩ Hk
    iapply (hstep i l) $$ [HP HS]
    · isplitl [HP] <;> iassumption
    iintro ⟨HQ, HS⟩
    iapply ih $$ [HL HS]
    · isplitl [HL] <;> iassumption
    iintro ⟨HL, HS⟩
    iapply Hk
    isplitl [HQ HL]
    · isplitl [HQ] <;> iassumption
    iexact HS

end Loops

/-! ## The schedule -/

/-- A device's cells: which semaphore each is, and what its one transfer credits. -/
structure Net (sig : RefSig) (Cell : Type) where
  sem : Cell ≃ DmaSem sig
  amount : Cell → ℕ
  pos : ∀ x, 0 < amount x

variable {Cell : Type} (A : Net sig Cell)

/-- Cell `x` of device `d`, in the machine. -/
abbrev gcell (d : Dev nD) (x : Cell) : GSem nD τ sig := ((d.tc : Thread nD τ), .dma (A.sem x))

theorem gcell_injective : Function.Injective fun y : Dev nD × Cell => (gcell A y.1 y.2 : GSem nD τ sig) := by
  rintro ⟨d, x⟩ ⟨d', x'⟩ h
  have h1 : d = d' := congrArg (fun g : GSem nD τ sig => g.1.1) h
  have h2 : A.sem x = A.sem x' := by
    have := congrArg (fun g : GSem nD τ sig => g.2) h
    exact SemLoc.dma.inj this
  rw [h1, A.sem.injective h2]

/-- What the one credit of each cell hands its waiter. -/
structure Pays (nD : ℕ) (τ : Topo) (sig : RefSig) (F : FTy → Type) (Cell : Type) where
  pay : Dev nD → Cell → sProp (MT nD τ sig Unit (Elt F) ℕ (UU nD τ sig) ℕ)
  storable : ∀ d x, BI.Storable (upEmb : UEmb _ (MT nD τ sig Unit (Elt F) ℕ (UU nD τ sig) ℕ)) (pay d x)

variable (P : Pays nD τ sig F Cell)

/-- The schedule: each cell is credited once, in its first round. -/
def Rd : Rounds.Schedule (GSem nD τ sig) Unit 𝕄 where
  duties g r := if r = 0 ∧ g.1.2 = .tc then {()} else ∅
  unitless _ := False
  amount g _ _ := match g.2 with | .dma i => A.amount (A.sem.symm i) | .reg _ => 1
  payload g _ _ := match g.2 with | .dma i => P.pay g.1.1 (A.sem.symm i) | .reg _ => iprop(emp)
  amount_pos g _ _ _ := by split; exacts [A.pos _, Nat.one_pos]

instance Rd_storable (g : GSem nD τ sig) (r : ℕ) (d : Unit) : BI.Storable (upEmb : UEmb _ 𝕄) ((Rd A P).payload g r d) := by
  show BI.Storable upEmb (match g.2 with | .dma i => P.pay g.1.1 (A.sem.symm i) | .reg _ => iprop(emp))
  split
  · exact P.storable _ _
  · infer_instance

theorem duties_zero (d : Dev nD) (x : Cell) : (Rd A P).duties (gcell A d x) 0 = {()} := by
  show (if 0 = 0 ∧ (gcell (τ := τ) A d x).1.2 = .tc then ({()} : Finset Unit) else ∅) = _
  exact if_pos ⟨rfl, rfl⟩

theorem mem_duties (d : Dev nD) (x : Cell) : () ∈ (Rd A P).duties (gcell A d x) 0 := by rw [duties_zero]; exact Finset.mem_singleton_self _

theorem duties_later (d : Dev nD) (x : Cell) (r : ℕ) (h : 1 ≤ r) : (Rd A P).duties (gcell A d x) r = ∅ := by
  unfold Rd
  exact if_neg fun h' => absurd h'.1 (by omega)

theorem amount_cell (d : Dev nD) (x : Cell) (r : ℕ) (u : Unit) : (Rd A P).amount (gcell A d x) r u = A.amount x := by
  show A.amount (A.sem.symm (A.sem x)) = _
  rw [A.sem.symm_apply_apply]

theorem payload_cell (d : Dev nD) (x : Cell) (r : ℕ) (u : Unit) : (Rd A P).payload (gcell A d x) r u = P.pay d x := by
  show P.pay d (A.sem.symm (A.sem x)) = _
  rw [A.sem.symm_apply_apply]

theorem expect_cell (d : Dev nD) (x : Cell) : (Rd A P).expect (gcell A d x) 0 = A.amount x := by
  unfold Schedule.expect Schedule.amountOf
  rw [duties_zero, Finset.sum_singleton, amount_cell]

theorem rest_cell (d : Dev nD) (x : Cell) :
    (bigSep ((Rd A P).duties (gcell A d x) 0 \ ∅) fun u => (Rd A P).payload (gcell A d x) 0 u : sProp 𝕄) = P.pay d x := by
  rw [duties_zero, Finset.sdiff_empty, BI.bigSep_singleton, payload_cell]

/-! ## A cell's states -/

variable (κ : GSem nD τ sig → ℕ)

/-- The cell's invariant. -/
abbrev inv (c : Dev nD) (x : Cell) : sProp 𝕄 := cellInv ER (Rd A P) (κ (gcell A c x)) (gcell A c x)
/-- The cell has not been waited on; -/
abbrev armed (c : Dev nD) (x : Cell) : sProp 𝕄 := atPos ER (gcell A c x) 0 ∅ 0
/-- it has been. -/
abbrev spent (c : Dev nD) (x : Cell) : sProp 𝕄 := atPos ER (gcell A c x) 1 ∅ 0
/-- The right to credit the cell. -/
abbrev tok (c : Dev nD) (x : Cell) : sProp 𝕄 := iprop(dutyTok ER (gcell A c x) 0 () ∗ reached ER (gcell A c x) 0)
/-- The right to wait on it. -/
abbrev due (c : Dev nD) (x : Cell) : sProp 𝕄 := cred (tallyAt (gcell A c x) () (A.amount x))

/-- The cell of a transfer that has not started, -/
def fresh (c : Dev nD) (x : Cell) : sProp 𝕄 := iprop(inv A P κ c x ∗ armed A c x ∗ tok A c x)
/-- of one that is under way, -/
def going (c : Dev nD) (x : Cell) : sProp 𝕄 := iprop(inv A P κ c x ∗ armed A c x ∗ due A c x)
/-- and of one that has been waited for. -/
def done (c : Dev nD) (x : Cell) : sProp 𝕄 := iprop(inv A P κ c x ∗ spent A c x)
/-- A transfer that has been waited for, and what it brought. -/
def got (c : Dev nD) (x : Cell) : sProp 𝕄 := iprop(done A P κ c x ∗ P.pay c x)
/-- The right to credit another device's cell. -/
def aim (c : Dev nD) (x : Cell) : sProp 𝕄 := iprop(inv A P κ c x ∗ tok A c x)

/-- The device owes `O`, whatever it has waited on. -/
abbrev owesSome (c : Dev nD) (O : CellTallies nD τ sig Unit) : sProp 𝕄 := iprop(∃ W, owes (c.tc : Thread nD τ) O W)

/-- What a device owes the cells `g` of a list. -/
def owed {ι : Type} (g : ι → GSem nD τ sig) (N : ι → ℕ) : List ι → CellTallies nD τ sig Unit
  | [] => 0
  | x :: l => owed g N l + tallyAt (g x) () (N x)

omit [FloatOps F] in
/-- It owes no other cell. -/
theorem owed_pos {ι : Type} (g : ι → GSem nD τ sig) (N : ι → ℕ) (l : List ι) (g' : GSem nD τ sig) (i : Unit) (h : 0 < owed g N l g' i) :
    ∃ x, g' = g x := by
  induction l with
  | nil => exact absurd h (Nat.lt_irrefl 0)
  | cons x l ih =>
    rcases Pipeline.add_pos_cases h with h | h
    · exact ih h
    · rw [tallyAt_apply] at h
      by_cases hg : g' = g x ∧ i = ()
      · exact ⟨x, hg.1⟩
      · rw [if_neg hg] at h; exact absurd h (Nat.lt_irrefl 0)

/-! ## Steps -/

section Steps

variable {defs : Defs nD τ sig (Elt F) Λ} {sp sp' : Space} {s : Shape} {e : EltTy}

/-- A copy on the device itself starts. -/
theorem step_copy (c : Dev nD) (x : Cell) {src : Memref sig .tc sp s e} {dst : Memref sig .tc sp' s e} {hsrc : src.view.WordExact} {hdst : dst.view.WordExact}
    {hsem : DmaTarget.Typed (nD := nD) sp (.dma (A.sem x)) (.here (p := (.tc : Proc τ)) dst)} {q : PosShare TreeShare}
    (fs : Buf (Elt F) (src.view.loc (c.tc : Thread nD τ))) (hN : dst.view.dmaCredit = A.amount x)
    (hpay : ∀ fd, iprop((dst.view.loc (c.tc : Thread nD τ) ↦[dst.view.set]{fullShare} dst.view.write (Elt F) fd (src.view.read (Elt F) fs) Finset.univ)
        ∗ (src.view.loc (c.tc : Thread nD τ) ↦[src.view.set]{q} fs)) ⊢ P.pay c x)
    (Kt : PUnit → sProp 𝕄) (k : PUnit → Prg nD τ sig Λ F) :
    iprop(fresh A P κ c x ∗ (src.view.loc (c.tc : Thread nD τ) ↦[src.view.set]{q} fs)
        ∗ ∃ fd, (dst.view.loc (c.tc : Thread nD τ) ↦[dst.view.set]{fullShare} fd))
      ⊢ iprop((going A P κ c x -∗ runs defs c (k ⟨⟩) Kt)
        -∗ runs defs c (.op (.enqueueDma src (.here dst) (.dma (A.sem x)) hsrc hdst hsem) k) Kt) := by
  unfold fresh going
  iintro ⟨⟨#HI, Hat, ⟨Htok, #Hr⟩⟩, Hin, ⟨%f, Hout⟩⟩ Hk
  iapply (Rounds.wp_copy_pointsTo Variants.none ER (Rd A P) (c.tc : Thread nD τ) none (src := src) (dst := dst)
    (sem := .dma (A.sem x)) (κ := κ (gcell A c x)) (r := 0) (d := ()) (fs := fs) (fd := f) (q := q)
    (mem_duties A P c x) () (A.amount x) hN (amount_cell A P c x 0 ())
    ((hpay f).trans (Entails.of_eq (payload_cell A P c x 0 ()).symm))) $$ [Hin Hout Htok]
  · isplitr; · iexact HI
    isplitl [Hin]; · iexact Hin
    isplitl [Hout]; · iexact Hout
    isplitl [Htok]; · iexact Htok
    iexact Hr
  iintro Hc
  iapply Hk
  isplitr; · iexact HI
  isplitl [Hat]; · iexact Hat
  iexact Hc

/-- A send starts, from cell `x` to cell `x'` of device `c'`. -/
theorem step_send (c c' n : Dev nD) (hn : n = c') (x x' : Cell) {src : Memref sig .tc sp s e} {dst : Memref sig .tc sp' s e}
    {hsc : (dst : Memref sig (Dev.tc n : Thread nD τ).2.kind sp' s e).view.ref.isScScratch = false}
    {hsrc : src.view.WordExact} {hdst : dst.view.WordExact}
    {hsem : DmaTarget.Typed sp (.dma (A.sem x')) (.remote (Dev.tc n : Thread nD τ) dst (.dma (A.sem x)) hsc)} {q : PosShare TreeShare}
    (fs : Buf (Elt F) (src.view.loc (c.tc : Thread nD τ))) (hN : dst.view.dmaCredit = A.amount x) (hx : A.amount x' = A.amount x)
    (O : CellTallies nD τ sig Unit)
    (hpay : (src.view.loc (c.tc : Thread nD τ) ↦[src.view.set]{q} fs) ⊢ P.pay c x)
    (hpay' : ∀ fd, (dst.view.loc (c'.tc : Thread nD τ) ↦[dst.view.set]{fullShare} dst.view.write (Elt F) fd (src.view.read (Elt F) fs) Finset.univ)
      ⊢ P.pay c' x')
    (Kt : PUnit → sProp 𝕄) (k : PUnit → Prg nD τ sig Λ F) :
    iprop((fresh A P κ c x ∗ aim A P κ c' x' ∗ (src.view.loc (c.tc : Thread nD τ) ↦[src.view.set]{q} fs)
        ∗ ∃ fd, (dst.view.loc (c'.tc : Thread nD τ) ↦[dst.view.set]{fullShare} fd)) ∗ owesSome c (O + tallyAt (gcell A c' x') () (A.amount x)))
      ⊢ iprop((iprop(going A P κ c x ∗ owesSome c O) -∗ runs defs c (k ⟨⟩) Kt)
        -∗ runs defs c (.op (.enqueueDma src (.remote (Dev.tc n : Thread nD τ) dst (.dma (A.sem x)) hsc) (.dma (A.sem x')) hsrc hdst hsem) k) Kt) := by
  subst hn
  unfold fresh going aim
  iintro ⟨⟨⟨#HI, Hat, ⟨HtS, #HrS⟩⟩, ⟨#HIp, ⟨HtP, #HrP⟩⟩, Hin, ⟨%f, Hout⟩⟩, ⟨%W, HO⟩⟩ Hk
  iapply (Rounds.wp_send_pointsTo Variants.none ER (Rd A P) (c.tc : Thread nD τ) none (c' := (n.tc : Thread nD τ))
    (src := src) (dst := dst) (κ₁ := κ (gcell A c x)) (κ₂ := κ (gcell A n x'))
    (r₁ := 0) (r₂ := 0) (d₁ := ()) (d₂ := ()) (fs := fs) (fd := f) (q := q)
    (mem_duties A P c x) (mem_duties A P n x')
    () () (A.amount x) hN (amount_cell A P c x 0 ()) ((amount_cell A P n x' 0 ()).trans hx) O rfl (W := W)
    (hpay.trans (Entails.of_eq (payload_cell A P c x 0 ()).symm))
    ((hpay' f).trans (Entails.of_eq (payload_cell A P n x' 0 ()).symm))) $$ [Hin Hout HO HtS HtP]
  · isplitr; · iexact HI
    isplitr; · iexact HIp
    isplitl [Hin]; · iexact Hin
    isplitl [Hout]; · iexact Hout
    isplitl [HO]; · iexact HO
    isplitl [HtS]; · iexact HtS
    isplitr; · iexact HrS
    isplitl [HtP]; · iexact HtP
    iexact HrP
  iintro ⟨Hc, HO⟩
  iapply Hk
  isplitl [Hat Hc]
  · isplitr; · iexact HI
    isplitl [Hat] <;> iassumption
  iexists W
  iexact HO

/-- A wait on a cell takes its one credit and hands over what the credit brought, where the device may wait for what it owes. -/
theorem step_wait_owing (c : Dev nD) (x : Cell) (O : CellTallies nD τ sig Unit) {w : Op nD τ sig Λ F}
    (hw : ∀ K : PUnit → sProp 𝕄, wpE defs Variants.none (c.tc : Thread nD τ) none Set.univ w K
      = waitSpec (c.tc : Thread nD τ) Set.univ (.dma (A.sem x)) (A.amount x) K)
    (Kt : PUnit → sProp 𝕄) (k : PUnit → Prg nD τ sig Λ F) :
    iprop(going A P κ c x ∗ owesSome c O ∗ MayWait (c.tc : Thread nD τ) (.dma (A.sem x)) () O)
      ⊢ iprop((iprop((done A P κ c x ∗ P.pay c x) ∗ owesSome c O) -∗ runs defs c (k ⟨⟩) Kt) -∗ runs defs c (.op w k) Kt) := by
  unfold going done
  iintro ⟨⟨#HI, Hat, Hd⟩, ⟨%W, HO⟩, HM⟩ Hk
  iapply (Rounds.wp_wait_rest_token Variants.none ER (Rd A P) (c.tc : Thread nD τ) none (κ := κ (gcell A c x)) (sm := .dma (A.sem x))
      hw (Set.mem_univ _) () (O := O) (W := W) (R := 0) (m := 0) (T := ∅)
      (by rw [Nat.zero_add]; exact (expect_cell A P c x).symm)) $$ [Hat Hd HO HM]
  · isplitr; · iexact HI
    isplitl [Hd]; · iexact Hd
    isplitl [HO]; · iexact HO
    isplitl [HM]; · iexact HM
    iexact Hat
  iintro ⟨HO, Hat, -, Hpay⟩
  ihave Hp := (Entails.of_eq (rest_cell A P c x)) $$ Hpay
  iapply Hk
  isplitl [Hat Hp]
  · isplitl [Hat]
    · isplitr; · iexact HI
      iexact Hat
    iexact Hp
  iexists _
  iexact HO

/-- A device that owes nothing may wait. -/
theorem step_wait (c : Dev nD) (x : Cell) {w : Op nD τ sig Λ F}
    (hw : ∀ K : PUnit → sProp 𝕄, wpE defs Variants.none (c.tc : Thread nD τ) none Set.univ w K
      = waitSpec (c.tc : Thread nD τ) Set.univ (.dma (A.sem x)) (A.amount x) K)
    (Kt : PUnit → sProp 𝕄) (k : PUnit → Prg nD τ sig Λ F) :
    iprop(going A P κ c x ∗ owesSome c 0)
      ⊢ iprop((iprop(got A P κ c x ∗ owesSome c 0) -∗ runs defs c (k ⟨⟩) Kt) -∗ runs defs c (.op w k) Kt) := by
  unfold got
  iintro ⟨H, HO⟩ Hk
  iapply (step_wait_owing A P κ c x 0 hw Kt k) $$ [H HO]
  · isplitl [H]; · iexact H
    isplitl [HO]; · iexact HO
    rw [MayWait_zero]; iempintro
  iexact Hk

end Steps

end Cert.Wire

end
-- ==== Proof.Slabs.lean ====
module

public import Idealize.ShloMosaic.Lib.ValueLayout
public import Idealize.ShloMosaic.Lib.Pipeline.Value
public import Idealize.ShloMosaic.Lib.Pipeline.ValueKit

/-!
# The eight slabs of an array

Where the elements of slab `s` sit in the whole array, that the eight slabs are disjoint and make up the whole, and what
reading and writing one of them means.
-/

@[expose] public section

noncomputable section

namespace Cert.Wire

open Idealize.ShloMosaic Idealize.ShloMosaic.TcCoe
open Idealize.SL Idealize.SL.Sem
open Idealize.ShloMosaic.Pipeline

variable {sig : RefSig} {e : EltTy}

/-- Eight slabs of `R` rows and `C` columns. -/
abbrev Slabs (R C : ℕ) : Shape := ⟨3, ![8, R, C]⟩

/-- One slab of `R` rows and `C` columns. -/
abbrev Slab (R C : ℕ) : Shape := ⟨2, ![R, C]⟩

/-- A slab at an offset `![s, 0, 0]` lies inside the array. -/
theorem off_inb {R C : ℕ} (off : Fin 3 → ℕ) (s : Fin 8) (h : off = ![s.val, 0, 0]) :
    ∀ x, off x + (⟨3, ![1, R, C]⟩ : Shape).size x ≤ (Slabs R C).size x := by
  subst h
  have := s.isLt
  intro x; fin_cases x
  · show s.val + 1 ≤ 8; omega
  · show 0 + R ≤ R; omega
  · show 0 + C ≤ C; omega

theorem squeezes_slab (R C : ℕ) : (⟨3, ![1, R, C]⟩ : Shape).Squeezes (Slab R C) := by
  show Shape.dropsOnes [C, R, 1] [C, R] = true
  simp [Shape.dropsOnes]

/-- Slab number `s` of an array of eight, reached by the printed offset. -/
abbrev slab {R C : ℕ} (M : Memref sig .tc .hbm (Slabs R C) e) (off : Fin 3 → ℕ) (s : Fin 8) (h : off = ![s.val, 0, 0]) :
    Memref sig .tc .hbm (Slab R C) e :=
  (M.slice (Rect.unit (s := Slabs R C) off (⟨3, ![1, R, C]⟩ : Shape).size (off_inb off s h)) (fun _ => rfl)).squeeze (Slab R C)
    (squeezes_slab R C)

variable {R C : ℕ} (M : Memref sig .tc .hbm (Slabs R C) e)

/-- Slab `s`, at its plain offset. -/
abbrev slabAt (s : Fin 8) : Memref sig .tc .hbm (Slab R C) e := slab M ![s.val, 0, 0] s rfl

/-- A printed offset names the same slab. -/
theorem slab_eq (off : Fin 3 → ℕ) (s : Fin 8) (h : off = ![s.val, 0, 0]) : slab M off s h = slabAt M s := by
  subst h; rfl

/-- The place in the whole array of row `x 0`, column `x 1` of slab `s`. -/
abbrev place (s : Fin 8) (x : (Slab R C).Idx) : (Slabs R C).Idx := ValueIdx.ix3 s (x 0) (x 1)

theorem slabAt_emb (s : Fin 8) (x : (Slab R C).Idx) : (slabAt M s).view.emb x = M.view.emb (place s x) := by
  refine congrArg M.view.emb ?_
  have hx : x = ValueIdx.ix2 (x 0) (x 1) := by funext i; fin_cases i <;> rfl
  have hr := (congrArg (Shape.reshapeEquiv (squeezes_slab R C).numel_eq) hx).trans
    (ValueIdx.reshapeEquiv_ix2_1ab (squeezes_slab R C).numel_eq (x 0) (x 1))
  funext i
  refine Fin.ext ?_
  refine (Idealize.ShloMosaic.ValueKit.rect_emb_unit_val _ _ _ _ i).trans ?_
  show ![s.val, 0, 0] i + (Shape.reshapeEquiv (squeezes_slab R C).numel_eq x i).val = (place s x i).val
  rw [hr]
  fin_cases i
  · show s.val + 0 = s.val; omega
  · show 0 + (x 0).val = (x 0).val; omega
  · show 0 + (x 1).val = (x 1).val; omega

/-- The elements of the array that slab `s` holds. -/
abbrev slabSet (s : Fin 8) : Finset M.view.ty.Idx := (slabAt M s).view.set

theorem slabSet_disjoint (s s' : Fin 8) (h : s ≠ s') : Disjoint (slabSet M s) (slabSet M s') := by
  rw [Finset.disjoint_left]
  intro i hi hi'
  obtain ⟨x, rfl⟩ := View.exists_emb_of_mem_set _ hi
  obtain ⟨x', hx'⟩ := View.exists_emb_of_mem_set _ hi'
  rw [slabAt_emb, slabAt_emb] at hx'
  have h0 : s' = s := congrFun (M.view.emb.injective hx') 0
  exact h h0.symm

theorem slabSet_union (hM : M.view.set = Finset.univ) : Finset.univ.biUnion (slabSet M) = Finset.univ := by
  ext i
  simp only [Finset.mem_biUnion, Finset.mem_univ, true_and, iff_true]
  obtain ⟨y, rfl⟩ := View.exists_emb_of_mem_set M.view (hM ▸ Finset.mem_univ i : i ∈ M.view.set)
  have h := View.emb_mem_set (slabAt M (y 0)).view (ValueIdx.ix2 (y 1) (y 2))
  refine ⟨y 0, ?_⟩
  have he : (slabAt M (y 0)).view.emb (ValueIdx.ix2 (y 1) (y 2)) = M.view.emb y :=
    (slabAt_emb M (y 0) (ValueIdx.ix2 (y 1) (y 2))).trans (congrArg M.view.emb (by funext i; fin_cases i <;> rfl))
  exact he ▸ h

variable {Val : EltTy → Type}

/-- Reading slab `s` is reading the array at the slab's places. -/
theorem slabAt_read (s : Fin 8) (f : M.view.ty.Contents Val) (x : (Slab R C).Idx) :
    (slabAt M s).view.read Val f x = M.view.read Val f (place s x) := by
  rw [View.read_apply, View.read_apply, slabAt_emb]

/-- Contents that read the same through a view agree on the view's elements with what is written through it. -/
theorem write_read_on {sp : Space} {s : Shape} (v : View sig .tc sp s e) (f g : v.ty.Contents Val) (w : s.Idx → Val e)
    (h : v.read Val g = w) : ∀ i ∈ v.set, v.write Val f w Finset.univ i = g i := by
  intro i hi
  obtain ⟨x, rfl⟩ := View.exists_emb_of_mem_set _ hi
  have h1 := congrFun (View.read_write_univ (v := v) f w) x
  rw [← congrFun h x, View.read_apply, View.read_apply] at h1
  exact (cast_inj _).mp h1

end Cert.Wire

end
-- ==== Proof.Lanes.lean ====
module

public import proofs.«01_k».proof.Proof.Cells
public import proofs.«01_k».proof.Proof.Slabs
public import proofs.«01_k».proof.Proof.Gen.KernelIdeal.Points
public import proofs.«01_k».proof.Proof.Gen.KernelIdeal.Skeleton

/-!
# The exchange, as loops over its five arrays and seven peers

The printed kernel body is a straight line: five copies of the device's own slab, then thirty-five remote copies
(for each of the seven peers, one slab of each of the five arrays), then the waits for all of them. Here the same
body is written as loops over the arrays (`Fin 5`) and the peers (`Fin 7`), so that the proof handles one copy
instead of forty.
-/

@[expose] public section

noncomputable section

namespace Cert.Exchange

open Cert.KernelIdeal Cert.Wire
open Idealize.ShloMosaic Idealize.ShloMosaic.TcCoe
open Idealize.SL Idealize.SL.Sem

variable {F : FTy → Type} [FloatOps F]

/-- The rows of one slab of array `a`. -/
abbrev rows : Fin 5 → ℕ
  | 0 => 2048 | 1 => 128 | 2 => 1024 | 3 => 1024 | 4 => 256

/-- The columns of one slab of array `a`. -/
abbrev cols : Fin 5 → ℕ
  | 0 => 1282 | 1 => 1024 | 2 => 256 | 3 => 256 | 4 => 2048

/-- The array sent: the partial gradients this device computed, slab `s` of them being what device `s` owns. -/
abbrev inM : (a : Fin 5) → Memref sig .tc .hbm (Slabs (rows a) (cols a)) .bf16
  | 0 => Memref.whole main_arg0 | 1 => Memref.whole main_arg1 | 2 => Memref.whole main_arg2
  | 3 => Memref.whole main_arg3 | 4 => Memref.whole main_arg4

/-- The array received: slab `s` of it is what device `s` sent. -/
abbrev outM : (a : Fin 5) → Memref sig .tc .hbm (Slabs (rows a) (cols a)) .bf16
  | 0 => Memref.whole main_v1_0 | 1 => Memref.whole main_v1_1 | 2 => Memref.whole main_v1_2
  | 3 => Memref.whole main_v1_3 | 4 => Memref.whole main_v1_4

/-- The offset of the device's own slab, as printed. -/
abbrev ownOff : Fin 5 → Dev nD → Fin 3 → ℕ
  | 0 => k0_off1 | 1 => k0_off2 | 2 => k0_off3 | 3 => k0_off3 | 4 => k0_off4

/-- The offset of the slab the `k`-th peer owns, as printed. -/
abbrev peerOff : Fin 5 → Fin 7 → Dev nD → Fin 3 → ℕ
  | 0, 0 => k0_off5 | 0, 1 => k0_off9 | 0, 2 => k0_off13 | 0, 3 => k0_off17 | 0, 4 => k0_off21 | 0, 5 => k0_off25 | 0, 6 => k0_off29
  | 1, 0 => k0_off6 | 1, 1 => k0_off10 | 1, 2 => k0_off14 | 1, 3 => k0_off18 | 1, 4 => k0_off22 | 1, 5 => k0_off26 | 1, 6 => k0_off30
  | 2, 0 => k0_off7 | 2, 1 => k0_off11 | 2, 2 => k0_off15 | 2, 3 => k0_off19 | 2, 4 => k0_off23 | 2, 5 => k0_off27 | 2, 6 => k0_off31
  | 3, 0 => k0_off7 | 3, 1 => k0_off11 | 3, 2 => k0_off15 | 3, 3 => k0_off19 | 3, 4 => k0_off23 | 3, 5 => k0_off27 | 3, 6 => k0_off31
  | 4, 0 => k0_off8 | 4, 1 => k0_off12 | 4, 2 => k0_off16 | 4, 3 => k0_off20 | 4, 4 => k0_off24 | 4, 5 => k0_off28 | 4, 6 => k0_off32

/-- The number of the `k`-th peer, as printed. -/
abbrev peerNo : Fin 5 → Fin 7 → Dev nD → ℕ
  | 0, 0 => k0_dev1 | 0, 1 => k0_dev6 | 0, 2 => k0_dev11 | 0, 3 => k0_dev16 | 0, 4 => k0_dev21 | 0, 5 => k0_dev26 | 0, 6 => k0_dev31
  | 1, 0 => k0_dev2 | 1, 1 => k0_dev7 | 1, 2 => k0_dev12 | 1, 3 => k0_dev17 | 1, 4 => k0_dev22 | 1, 5 => k0_dev27 | 1, 6 => k0_dev32
  | 2, 0 => k0_dev3 | 2, 1 => k0_dev8 | 2, 2 => k0_dev13 | 2, 3 => k0_dev18 | 2, 4 => k0_dev23 | 2, 5 => k0_dev28 | 2, 6 => k0_dev33
  | 3, 0 => k0_dev4 | 3, 1 => k0_dev9 | 3, 2 => k0_dev14 | 3, 3 => k0_dev19 | 3, 4 => k0_dev24 | 3, 5 => k0_dev29 | 3, 6 => k0_dev34
  | 4, 0 => k0_dev5 | 4, 1 => k0_dev10 | 4, 2 => k0_dev15 | 4, 3 => k0_dev20 | 4, 4 => k0_dev25 | 4, 5 => k0_dev30 | 4, 6 => k0_dev35

/-- The `k`-th peer of device `d`: the device whose number differs from `d`'s in the bits of `k + 1`. -/
def peer (k : Fin 7) (d : Dev nD) : Dev nD := ⟨d.val ^^^ (k.val + 1), by revert k d; decide⟩

theorem peer_peer (k : Fin 7) (d : Dev nD) : peer k (peer k d) = d := by revert k d; decide

theorem ownOff_eq (a : Fin 5) (d : Dev nD) : ownOff a d = ![d.val, 0, 0] := by revert a d; decide +kernel

theorem peerOff_eq (a : Fin 5) (k : Fin 7) (d : Dev nD) : peerOff a k d = ![(peer k d).val, 0, 0] := by
  revert a k d; decide +kernel

theorem peerNo_eq (a : Fin 5) (k : Fin 7) (d : Dev nD) : peerNo a k d = (peer k d).val := by
  revert a k d; decide +kernel

theorem peerNo_lt (a : Fin 5) (k : Fin 7) (d : Dev nD) : peerNo a k d < nD := by
  rw [peerNo_eq]; exact (peer k d).isLt

/-- The slab is whole words of memory, for each of the five arrays. -/
theorem off_words (a : Fin 5) (off : Fin 3 → ℕ) (s : Fin 8) (h : off = ![s.val, 0, 0]) :
    (Rect.unit (s := Slabs (rows a) (cols a)) off (⟨3, ![1, rows a, cols a]⟩ : Shape).size (off_inb off s h)).WholeWords
      (EltTy.packing .bf16) := by
  have hs := ownOff_eq a s
  rw [← h] at hs
  subst hs
  fin_cases a
  · exact Gen.facts.k0_off1_wordsbf16 s
  · exact Gen.facts.k0_off2_wordsbf16 s
  · exact Gen.facts.k0_off3_wordsbf16 s
  · exact Gen.facts.k0_off3_wordsbf16 s
  · exact Gen.facts.k0_off4_wordsbf16 s

theorem inM_isWhole (a : Fin 5) : (inM a).IsWhole := by fin_cases a <;> exact Memref.isWhole_whole _

theorem outM_isWhole (a : Fin 5) : (outM a).IsWhole := by fin_cases a <;> exact Memref.isWhole_whole _

/-- The device's own slab of the array it sends. -/
abbrev inOwn (a : Fin 5) (d : Dev nD) := slab (inM a) (ownOff a d) d (ownOff_eq a d)
/-- The device's own slab of the array it receives into. -/
abbrev outOwn (a : Fin 5) (d : Dev nD) := slab (outM a) (ownOff a d) d (ownOff_eq a d)
/-- The `k`-th peer's slab of the array the device sends. -/
abbrev inPeer (a : Fin 5) (k : Fin 7) (d : Dev nD) := slab (inM a) (peerOff a k d) (peer k d) (peerOff_eq a k d)

theorem slab_wordExact (a : Fin 5) (M : Memref sig .tc .hbm (Slabs (rows a) (cols a)) .bf16) (hM : M.IsWhole) (off : Fin 3 → ℕ)
    (s : Fin 8) (h : off = ![s.val, 0, 0]) : (slab M off s h).view.WordExact :=
  (hM.wordExact_slice rfl _ (off_words a off s h)).reshape _ _

theorem inOwn_wordExact (a : Fin 5) (d : Dev nD) : (inOwn a d).view.WordExact :=
  slab_wordExact a (inM a) (inM_isWhole a) (ownOff a d) d (ownOff_eq a d)
theorem outOwn_wordExact (a : Fin 5) (d : Dev nD) : (outOwn a d).view.WordExact :=
  slab_wordExact a (outM a) (outM_isWhole a) (ownOff a d) d (ownOff_eq a d)
theorem inPeer_wordExact (a : Fin 5) (k : Fin 7) (d : Dev nD) : (inPeer a k d).view.WordExact :=
  slab_wordExact a (inM a) (inM_isWhole a) (peerOff a k d) (peer k d) (peerOff_eq a k d)

/-- The semaphore the `k`-th send of array `a` completes on. -/
abbrev sendSem (a : Fin 5) (k : Fin 7) : DmaSem sig := ⟨7 * a.val + k.val, by revert a k; decide⟩
/-- The semaphore the `k`-th peer's slab of array `a` arrives on. -/
abbrev recvSem (a : Fin 5) (k : Fin 7) : DmaSem sig := ⟨35 + (7 * a.val + k.val), by revert a k; decide⟩
/-- The semaphore of the copy of the device's own slab of array `a`. -/
abbrev localSem (a : Fin 5) : DmaSem sig := ⟨70 + a.val, by revert a; decide⟩

/-- The cells of one device: its sends, its arrivals, its local copies. -/
abbrev Cell : Type := (Fin 7 × Fin 5) ⊕ (Fin 7 × Fin 5) ⊕ Fin 5

/-- A cell's semaphore. -/
def semOf : Cell → DmaSem sig
  | .inl x => sendSem x.2 x.1
  | .inr (.inl x) => recvSem x.2 x.1
  | .inr (.inr a) => localSem a

/-- The cell a semaphore is. -/
def cellOf (i : DmaSem sig) : Cell :=
  if i.val < 35 then .inl (⟨i.val % 7, Nat.mod_lt _ (by decide)⟩, ⟨i.val / 7 % 5, Nat.mod_lt _ (by decide)⟩)
  else if i.val < 70 then .inr (.inl (⟨(i.val - 35) % 7, Nat.mod_lt _ (by decide)⟩, ⟨(i.val - 35) / 7 % 5, Nat.mod_lt _ (by decide)⟩))
  else .inr (.inr ⟨(i.val - 70) % 5, Nat.mod_lt _ (by decide)⟩)

/-- Every semaphore is a cell. -/
def sems : Cell ≃ DmaSem sig := ⟨semOf, cellOf, by decide +kernel, by decide +kernel⟩

/-- Start the copy of the device's own slab. -/
abbrev startOwn (d : Dev nD) (a : Fin 5) : Op nD τ sig Λ₀ F :=
  .enqueueDma (inOwn a d) (.here (outOwn a d)) (.dma (sems (.inr (.inr a)))) (inOwn_wordExact a d)
    (outOwn_wordExact a d) ⟨Or.inl rfl, trivial⟩

/-- Start sending the peer's slab to it. -/
abbrev startSend (d : Dev nD) (x : Fin 7 × Fin 5) : Op nD τ sig Λ₀ F :=
  .enqueueDma (inPeer x.2 x.1 d)
    (.remote (Dev.tc (⟨peerNo x.2 x.1 d, peerNo_lt x.2 x.1 d⟩ : Dev nD)) (outOwn x.2 d) (.dma (sems (.inl x))))
    (.dma (sems (.inr (.inl x)))) (inPeer_wordExact x.2 x.1 d)
    (outOwn_wordExact x.2 d) ⟨⟨rfl, Or.inl rfl⟩, trivial⟩

/-- Wait until the send has left. -/
abbrev waitSend (d : Dev nD) (x : Fin 7 × Fin 5) : Op nD τ sig Λ₀ F :=
  .waitDma2 (sems (.inl x)) (outOwn x.2 d) (inPeer x.2 x.1 d) (outOwn_wordExact x.2 d)
    (inPeer_wordExact x.2 x.1 d)

/-- Wait until the peer's slab has arrived. -/
abbrev waitRecv (d : Dev nD) (x : Fin 7 × Fin 5) : Op nD τ sig Λ₀ F :=
  .waitDma2 (sems (.inr (.inl x))) (inPeer x.2 x.1 d) (outOwn x.2 d) (inPeer_wordExact x.2 x.1 d)
    (outOwn_wordExact x.2 d)

/-- Wait for the copy of the device's own slab. -/
abbrev waitOwn (d : Dev nD) (a : Fin 5) : Op nD τ sig Λ₀ F :=
  .waitDma2 (sems (.inr (.inr a))) (inOwn a d) (outOwn a d) (inOwn_wordExact a d)
    (outOwn_wordExact a d)

/-- The arrays in the order the body takes them. -/
abbrev lanes : List (Fin 5) := [0, 1, 2, 3, 4]

/-- The sends in the order the body starts them. -/
abbrev sends : List (Fin 7 × Fin 5) :=
  [(0, 0), (0, 1), (0, 2), (0, 3), (0, 4), (1, 0), (1, 1), (1, 2), (1, 3), (1, 4), (2, 0), (2, 1), (2, 2), (2, 3), (2, 4),
   (3, 0), (3, 1), (3, 2), (3, 3), (3, 4), (4, 0), (4, 1), (4, 2), (4, 3), (4, 4), (5, 0), (5, 1), (5, 2), (5, 3), (5, 4),
   (6, 0), (6, 1), (6, 2), (6, 3), (6, 4)]

/-- The body as loops. -/
def loops : Prg nD τ sig Λ₀ F :=
  .op .deviceId fun d =>
    each (startOwn d) lanes <| each (startSend d) sends <| each2 (waitSend d) (waitRecv d) sends <|
      each (waitOwn d) lanes (.ret ⟨⟩)

theorem body_eq_loops (t : Fin cfg0.N) : (Gen.bodyAt0 (F := F) t) = loops := rfl

end Cert.Exchange

end
-- ==== Proof.Protocol.lean ====
module

public import proofs.«01_k».proof.Proof.Lanes

/-!
# Who signals whom, and what each arrival hands over

Every device has one cell per send, per arrival and per local copy. Each cell is credited exactly once, by the one
transfer it belongs to, and waited on exactly once. A completed send gives the sender its slab back; an arrival gives
the receiver the slab of its result that the peer wrote, holding what the peer had for it; a completed local copy gives
both ends back. The slab of a result that a peer writes is in that peer's hands from the launch on.
-/

@[expose] public section

noncomputable section

namespace Cert.Exchange

open Cert.KernelIdeal Cert.Wire

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ sig) ℕ

/-! ## Cells -/

/-- The array a cell's transfer belongs to. -/
def laneOf : Cell → Fin 5
  | .inl x => x.2 | .inr (.inl x) => x.2 | .inr (.inr a) => a

/-- What the transfer of one slab of array `a` credits. -/
def N (a : Fin 5) : ℕ := (slabAt (outM a) 0).view.dmaCredit

theorem N_out (a : Fin 5) (off : Fin 3 → ℕ) (s : Fin 8) (h : off = ![s.val, 0, 0]) : (slab (outM a) off s h).view.dmaCredit = N a := rfl

theorem N_in (a : Fin 5) (off : Fin 3 → ℕ) (s : Fin 8) (h : off = ![s.val, 0, 0]) : (slab (inM a) off s h).view.dmaCredit = N a := by
  fin_cases a <;> rfl

theorem N_pos (a : Fin 5) : 0 < N a := by
  refine View.dmaCredit_pos _ ?_
  fin_cases a <;> decide +kernel

/-- A device's cells. -/
def net : Net sig Cell where
  sem := sems
  amount x := N (laneOf x)
  pos x := N_pos (laneOf x)

/-! ## Contents -/

variable (m : (ℓ : Loc nD τ sig) → Buf (Elt F) ℓ)

/-- What device `d` sends from array `a`. -/
abbrev sent (d : Dev nD) (a : Fin 5) : Buf (Elt F) ((inM a).view.loc (d.tc : Thread nD τ)) := m _

/-- What result `a` of device `d` holds at launch. -/
abbrev stale (d : Dev nD) (a : Fin 5) : Buf (Elt F) ((outM a).view.loc (d.tc : Thread nD τ)) := m _

/-- What device `d` ends with in result `a`: in slab `s`, row `r`, column `q`, what device `s` had in slab `d`. -/
def gathered (d : Dev nD) (a : Fin 5) : Buf (Elt F) ((outM a).view.loc (d.tc : Thread nD τ)) :=
  (outM a).view.write (Elt F) (stale m d a)
    (fun i => (inM a).view.read (Elt F) (sent m (i 0) a) (place d (ValueIdx.ix2 (i 1) (i 2)))) Finset.univ

/-- Slab `s` of the array `a` device `d` sends, held at what it had at launch. -/
abbrev inPts (d : Dev nD) (a : Fin 5) (s : Fin 8) : sProp 𝕄 :=
  (inM a).view.loc (d.tc : Thread nD τ) ↦[slabSet (inM a) s]{fullShare} sent m d a

/-- Slab `s` of the result `a` of device `d`, held at contents `f`. -/
abbrev outPts (d : Dev nD) (a : Fin 5) (s : Fin 8) (f : Buf (Elt F) ((outM a).view.loc (d.tc : Thread nD τ))) : sProp 𝕄 :=
  (outM a).view.loc (d.tc : Thread nD τ) ↦[slabSet (outM a) s]{fullShare} f

/-- Slab `s` of what device `d` ends with is slab `d` of what device `s` had. -/
theorem gathered_read (d s : Dev nD) (a : Fin 5) :
    (slabAt (outM a) s).view.read (Elt F) (gathered m d a) = (slabAt (inM a) d).view.read (Elt F) (sent m s a) := by
  funext x
  rw [slabAt_read, slabAt_read]
  unfold gathered
  rw [View.read_write_univ]
  rfl

/-- A slab of a result just written with a peer's slab is the slab it ends with. -/
theorem outPts_written (d s : Dev nD) (a : Fin 5) (fd : Buf (Elt F) ((outM a).view.loc (d.tc : Thread nD τ))) :
    ((outM a).view.loc (d.tc : Thread nD τ) ↦[slabSet (outM a) s]{fullShare}
        (slabAt (outM a) s).view.write (Elt F) fd ((slabAt (inM a) d).view.read (Elt F) (sent m s a)) Finset.univ : sProp 𝕄)
      = outPts d a s (gathered m d a) :=
  pointsTo_congr (write_read_on _ _ _ _ (gathered_read m d s a))

/-! ## The schedule -/

/-- What the one credit of a cell hands its waiter. -/
def pay (d : Dev nD) : Cell → sProp 𝕄
  | .inl x => inPts m d x.2 (peer x.1 d)
  | .inr (.inl x) => outPts d x.2 (peer x.1 d) (gathered m d x.2)
  | .inr (.inr a) => iprop(outPts d a d (gathered m d a) ∗ inPts m d a d)

/-- The schedule: what each cell's credit hands over can be handed over. -/
def pays : Pays nD τ sig F Cell where
  pay := pay m
  storable d x := by
    unfold pay inPts outPts
    split <;> infer_instance

end Cert.Exchange

end
-- ==== Proof.Call.lean ====
module

public import Idealize.ShloMosaic.Lib.Pipeline.Kit
public import Idealize.ShloMosaic.Lib.Pipeline.Regions
public import Idealize.ShloMosaic.Lib.Quiescent

/-!
# A call without windows

A call whose operands all stay where they are has one point and stages nothing: it runs its kernel's body once. What the
body does from what a device holds, the call does.
-/

@[expose] public section

noncomputable section

namespace Cert.Wire

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {nD : ℕ} {τ : Topo} {sig : RefSig} {Val : EltTy → Type} {Λ₀ : Labels}
variable {Ix : Type} [DecidableEq Ix] {Name : Type} [DecidableEq Name] {U : Type} [URA U] {Lvl : Type} [Preorder Lvl]

local notation "𝕄" => MT nD τ sig Ix Val Name U Lvl

variable (cfg : Pipeline.Cfg sig Λ₀) [IsEmpty (Fin cfg.W)] (defs₀ : Defs nD τ sig Val Λ₀)

/-- The one call's tables. -/
abbrev calls (_ : Fin 1) : Pipeline.PCfg sig Λ₀ Val := cfg.toPCfg

/-- No tables are prefetched. -/
abbrev adm (p : Fin 1) : (calls (Val := Val) cfg p).Adm := cfg.toPCfg_adm

/-- What a device holds before its one point, and after it; -/
def holds (H T : Dev nD → sProp 𝕄) (c : Dev nD) : ℕ → sProp 𝕄
  | 0 => H c
  | _ + 1 => iprop(scopedSems0 (c.tc : Thread nD τ) ∗ T c)

/-- and what it owes. -/
def owesThen (O : Dev nD → CellTallies nD τ sig Ix) (c : Dev nD) : ℕ → CellTallies nD τ sig Ix
  | 0 => O c
  | _ + 1 => 0

/-- Before its one point a device holds `H` and owes `O`, after it it holds `T` and owes nothing. -/
def rdats (H T : Dev nD → sProp 𝕄) (O : Dev nD → CellTallies nD τ sig Ix) (_ : Fin 1) (c : Dev nD) :
    RDat τ Val Ix Name U Lvl cfg c where
  A w := isEmptyElim w
  after w := isEmptyElim w
  Φ t := holds H T c t.val
  q w := isEmptyElim w
  owed t := owesThen O c t.val

theorem none_of_all (Φ : Fin cfg.W → sProp 𝕄) : bigSep Finset.univ Φ = iprop(emp) := by
  rw [Finset.univ_eq_empty, bigSep_empty]; rfl

/-- The body takes a device from `H` to `T`, and pays all that the device owes. -/
def BodyRuns (H T : Dev nD → sProp 𝕄) (O : Dev nD → CellTallies nD τ sig Ix) : Prop :=
  ∀ (c : Dev nD) (t : Fin cfg.N) (K : sProp 𝕄), iprop(H c ∗ ∃ W, owes (c.tc : Thread nD τ) (O c) W)
    ⊢ iprop((iprop(iprop(scopedSems0 (c.tc : Thread nD τ) ∗ T c) ∗ ∃ W, owes (c.tc : Thread nD τ) (0 : CellTallies nD τ sig Ix) W) -∗ |={Set.univ}=> K)
      -∗ wp frame (wpE defs₀ Variants.none (c.tc : Thread nD τ) none) Set.univ (defs₀ .tc cfg.body (cfg.bodyArgs t (cfg.slots t))) fun _ => K)

theorem body_obligation (H T : Dev nD → sProp 𝕄) (O : Dev nD → CellTallies nD τ sig Ix) (ι : Ix) (hN : cfg.N = 1) (hbody : BodyRuns cfg defs₀ H T O) (c : Dev nD) :
    (rdats cfg H T O 0 c).BodyObligation defs₀ Variants.none ι Set.univ := by
  intro t Y _
  have ht : t.val = 0 := by have := t.isLt; omega
  have h0 : (rdats cfg H T O 0 c).Φ t.castSucc = H c := by show holds H T c t.val = _; rw [ht]; rfl
  have h1 : (rdats cfg H T O 0 c).Φ t.succ = iprop(scopedSems0 (c.tc : Thread nD τ) ∗ T c) := rfl
  have o0 : (rdats cfg H T O 0 c).owed t.castSucc = O c := by show owesThen O c t.val = _; rw [ht]; rfl
  have o1 : (rdats cfg H T O 0 c).owed t.succ = 0 := rfl
  rw [h0, h1, none_of_all, none_of_all]
  unfold RDat.owesAt Pipeline.owesWithin
  rw [o0, o1]
  iintro ⟨H, ⟨%W, -, HO⟩, -⟩
  iapply (hbody c t _) $$ [H HO]
  · isplitl [H]; · iexact H
    iexists W; iexact HO
  iintro ⟨H, ⟨%W', HO⟩⟩
  imodintro
  isplitl [H]; · iexact H
  isplitl [HO]
  · iexists W'
    isplitr
    · ipureintro; exact fun _ _ => Or.inl trivial
    iexact HO
  · iempintro

/-- What the call takes of its pipeline: only what the device owes, as there is no window. -/
theorem entry_pre (H T : Dev nD → sProp 𝕄) (O : Dev nD → CellTallies nD τ sig Ix) (ι : Ix)
    (EP : Emb (URounds (GSem nD τ sig) Unit) 𝕄) (κ : GSem nD τ sig → Name) (c : Dev nD) :
    (owes (c.tc : Thread nD τ) (O c) ∅ : sProp 𝕄)
      ⊢ RDat.EntryPre (Pipeline.pin (calls (Val := Val) cfg) (adm cfg)) (rdats cfg H T O) ι EP κ 0 c := by
  have hO : (owes (c.tc : Thread nD τ) (O c) ∅ : sProp 𝕄) ⊢ (rdats cfg H T O 0 c).owesAt ι 0 := by
    unfold RDat.owesAt Pipeline.owesWithin
    rw [show (rdats cfg H T O 0 c).owed 0 = O c from rfl]
    iintro H
    iexists ∅
    isplitr
    · ipureintro; rw [Finset.coe_empty]; exact Set.empty_subset _
    iexact H
  have hno (Φ : Fin cfg.W → sProp 𝕄) : (iprop(emp) : sProp 𝕄) ⊢ bigSep Finset.univ Φ := Entails.of_eq (none_of_all cfg Φ).symm
  have h1 : (iprop(emp) : sProp 𝕄) ⊢ (rdats cfg H T O 0 c).arrays (rdats cfg H T O 0 c).A := hno _
  have h2 : (iprop(emp) : sProp 𝕄) ⊢ Pipeline.PerCore.RDat.cellsWaits (fun _ => Pipeline.pin (calls (Val := Val) cfg) (adm cfg)) (rdats cfg H T O) ι 0 c := hno _
  have h3 : (iprop(emp) : sProp 𝕄) ⊢ Pipeline.PerCore.RDat.cellsInit (fun _ => Pipeline.pin (calls (Val := Val) cfg) (adm cfg)) (rdats cfg H T O) EP κ 0 c := hno _
  have h4 : (iprop(emp) : sProp 𝕄) ⊢ Pipeline.PerCore.toksInit (fun _ => Pipeline.pin (calls (Val := Val) cfg) (adm cfg)) EP 0 c := hno _
  iintro HO
  unfold RDat.EntryPre Pipeline.PerCore.RDat.EntryPre
  isplitr; · iapply h1; iempintro
  isplitl; · iapply hO; iexact HO
  isplitr; · iapply h2; iempintro
  isplitr; · iapply h3; iempintro
  iapply h4; iempintro

/-- The call, taken as the whole of a device's program. -/
theorem run_windowless (H T : Dev nD → sProp 𝕄) (O : Dev nD → CellTallies nD τ sig Ix) (ι : Ix)
    (EP : Emb (URounds (GSem nD τ sig) Unit) 𝕄) (κ : GSem nD τ sig → Name)
    (hinj : Function.Injective (Pipeline.cellOf (nD := nD) (τ := τ) fun _ : Fin 1 => cfg))
    [∀ e, Nonempty (Val e)] (hN : cfg.N = 1) (hbody : BodyRuns cfg defs₀ H T O) (c : Dev nD)
    (hscoped : (scopedBufs (c.tc : Thread nD τ) : sProp 𝕄) = iprop(Dat.staging cfg c ∗ emp)) :
    iprop(scopedBufs (c.tc : Thread nD τ) ∗ opIdle (c.tc : Thread nD τ) ∗ H c ∗ owes (c.tc : Thread nD τ) (O c) ∅)
      ⊢ (wp frame (wpE (Pipeline.defs (calls cfg) defs₀) (Variants.lift Variants.none) (c.tc : Thread nD τ) none) Set.univ
          (.op (.customCall (Pipeline.entry 0) ()) fun _ => .ret (⟨⟩ : PUnit))
          fun _ => iprop(iprop(T c ∗ boundary (c.tc : Thread nD τ)) ∗ ∃ W, owes (c.tc : Thread nD τ) (0 : CellTallies nD τ sig Ix) W) : sProp 𝕄) := by
  have hfirst : (rdats cfg H T O 0 c).Φ 0 = H c := rfl
  have hlast : (rdats cfg H T O 0 c).Φ (Fin.last cfg.N) = iprop(scopedSems0 (c.tc : Thread nD τ) ∗ T c) := by
    show holds H T c cfg.N = _; rw [hN]; rfl
  have hpaid : (rdats cfg H T O 0 c).owed (Fin.last cfg.N) = 0 := by
    show owesThen O c cfg.N = _; rw [hN]; rfl
  have hpost : RDat.EntryPost (Pipeline.pin (calls (Val := Val) cfg) (adm cfg)) (rdats cfg H T O) ι 0 c
      ⊢ (iprop(∃ W, owes (c.tc : Thread nD τ) (0 : CellTallies nD τ sig Ix) W) : sProp 𝕄) := by
    unfold RDat.EntryPost Pipeline.PerCore.RDat.EntryPost RDat.owesAt Pipeline.owesWithin
    rw [hpaid]
    iintro ⟨-, ⟨%W, -, HW⟩⟩
    iexists W
    iexact HW
  have hpre : (iprop(emp) : sProp 𝕄) ⊢ Pipeline.prefHeld (calls (Val := Val) cfg 0).pre c (fun k => k.elim0) (adm (Val := Val) cfg 0).1 := Entails.of_eq rfl
  have hrun := RDat.wp_customCall_entry_frame (calls (Val := Val) cfg) (adm cfg) (rdats cfg H T O) ι EP κ hinj (0 : Fin 1) defs₀ Variants.none
    (fun k => k.elim0) c Set.univ (fun _ _ => Set.mem_univ _) (body_obligation cfg defs₀ H T O ι hN hbody c) (fun w => isEmptyElim w) none
    (fun u h => nomatch h) (X := H c) (Y := T c) (R := iprop(emp)) (I := iprop(emp)) (Entails.of_eq hscoped)
    (by
      rw [hfirst]
      iintro ⟨H, -, -⟩
      iexact H)
    (by
      show iprop((rdats cfg H T O 0 c).Φ (Fin.last cfg.N) ∗ Pipeline.cellsSems0 (Pipeline.pin (calls (Val := Val) cfg) (adm cfg)) 0 c
        ∗ Dat.staging cfg c ∗ emp) ⊢ _
      rw [hlast, hscoped]
      iintro ⟨⟨Hs, Hf⟩, -, Hb, -⟩
      isplitl [Hf]; · iexact Hf
      isplitl [Hs]; · iexact Hs
      isplitl [Hb]; · iexact Hb
      iempintro)
    (k := fun _ => .ret (⟨⟩ : PUnit))
    (Q := fun _ => iprop(iprop(T c ∗ boundary (c.tc : Thread nD τ)) ∗ ∃ W, owes (c.tc : Thread nD τ) (0 : CellTallies nD τ sig Ix) W))
  iintro ⟨Hsc, Hidle, Hheld, HO⟩
  iapply hrun $$ [Hsc Hheld HO]
  · isplitl [HO]; · iapply (entry_pre cfg H T O ι EP κ c); iexact HO
    isplitr
    · iapply hpre; iempintro
    isplitl [Hheld]; · iexact Hheld
    isplitr; · iempintro
    iexact Hsc
  iintro ⟨Hpost, Hf, Hs, Hb⟩
  rw [wp_ret]; imodintro
  isplitr [Hpost]
  · isplitl [Hf]; · iexact Hf
    unfold boundary
    isplitl [Hb]; · iexact Hb
    isplitl [Hs] <;> iassumption
  iapply hpost; iexact Hpost

end Cert.Wire

end
-- ==== Proof.Fund.lean ====
module

public import proofs.«01_k».proof.Proof.Cells
public import proofs.«01_k».proof.Proof.Slabs

/-!
# From the launch to the cells and back

At launch a device's scoped semaphores are its cells, and from the launch's ghost state every cell gets its invariant and
every right there is to it. A cell that has been waited on can be closed again. Also here: what devices owe each other's
arrivals is what each is due, and a whole array is its eight slabs.
-/

@[expose] public section

noncomputable section

namespace Cert.Wire

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : ℕ} {τ : Topo} {sig : RefSig} {F : FTy → Type} [FloatOps F]

local notation "𝕄" => MT nD τ sig Unit (Elt F) ℕ (UU nD τ sig) ℕ

variable {Cell : Type} (A : Net sig Cell) (P : Pays nD τ sig F Cell) (κ : GSem nD τ sig → ℕ)

/-! ## Regroupings -/

section Regroup

omit [FloatOps F]

theorem sum_roles {α β γ : Type} [Fintype α] [Fintype β] [Fintype γ] (Φ : α ⊕ β ⊕ γ → sProp 𝕄) :
    bigSep Finset.univ Φ = iprop((bigSep Finset.univ fun x => Φ (.inl x)) ∗ (bigSep Finset.univ fun x => Φ (.inr (.inl x)))
      ∗ bigSep Finset.univ fun x => Φ (.inr (.inr x))) := by
  rw [bigSep_univ_sum, bigSep_univ_sum]
  rfl

/-- What is dealt per device and cell, by the cells' roles. -/
theorem deal_roles {α β γ : Type} [Fintype α] [Fintype β] [Fintype γ] (Φ : Dev nD → α ⊕ β ⊕ γ → sProp 𝕄) :
    (bigSep Finset.univ fun d => bigSep Finset.univ fun x => Φ d x)
      = iprop((bigSep Finset.univ fun d => bigSep Finset.univ fun x => Φ d (.inl x))
        ∗ (bigSep Finset.univ fun d => bigSep Finset.univ fun x => Φ d (.inr (.inl x)))
        ∗ bigSep Finset.univ fun d => bigSep Finset.univ fun x => Φ d (.inr (.inr x))) := by
  rw [← bigSep_sep', ← bigSep_sep']
  exact bigSep_congr fun d _ => sum_roles (Φ d)

/-- What is dealt per device and link may be dealt to the devices at the other ends instead. -/
theorem deal_ends {ι : Type} [Fintype ι] (dest : ι → Dev nD → Dev nD) (h : ∀ i d, dest i (dest i d) = d) (Φ : Dev nD → ι → sProp 𝕄) :
    (bigSep Finset.univ fun d => bigSep Finset.univ fun i => Φ d i) = bigSep Finset.univ fun d => bigSep Finset.univ fun i => Φ (dest i d) i := by
  rw [bigSep_univ_comm, bigSep_univ_comm (fun d i => Φ (dest i d) i)]
  exact bigSep_congr fun i _ => bigSep_univ_equiv ⟨dest i, dest i, h i, h i⟩ fun d => Φ d i

end Regroup

/-! ## Closing -/

/-- A cell that has been waited on can be closed: its counter is at zero. -/
theorem close_cell (d : Dev nD) (x : Cell) : done A P κ d x ⊢ (iprop(|={(Set.univ : Set ℕ)}=> semVal (gcell A d x) 0) : sProp 𝕄) :=
  Rounds.cell_close ER (Rd A P) (Set.mem_univ (κ (gcell A d x))) (fun h => h) (R := 1) (fun r hr => duties_later A P d x r hr)

theorem close_cells {ι : Type} [Fintype ι] (d : Dev nD) (x : ι → Cell) :
    (bigSep Finset.univ fun i => done A P κ d (x i))
      ⊢ (iprop(|={(Set.univ : Set ℕ)}=> bigSep Finset.univ fun i => semVal (gcell A d (x i)) 0) : sProp 𝕄) :=
  (bigSep_mono fun i _ => close_cell A P κ d (x i)).trans (bigSep_fupd _ _)

/-! ## The launch -/

variable [Fintype Cell]

omit [FloatOps F] in
/-- Where every semaphore is a scoped DMA semaphore, the scoped semaphores are the cells. -/
theorem sems_eq (hsc : ∀ sm : SemLoc sig, sm.isScoped .tc = true ∧ ∃ i, sm = .dma i) (d : Dev nD) :
    (scopedSems0 (d.tc : Thread nD τ) : sProp 𝕄) = bigSep Finset.univ fun x : Cell => semVal (gcell A d x) 0 := by
  rw [scopedSems0_tc, show (Finset.univ.filter fun sm : SemLoc sig => sm.isScoped .tc)
      = Finset.univ.map ⟨fun x : Cell => (SemLoc.dma (A.sem x) : SemLoc sig), fun x y h => A.sem.injective (SemLoc.dma.inj h)⟩ from ?_, bigSep_map]
  · rfl
  · ext sm
    constructor
    · intro _
      obtain ⟨i, rfl⟩ := (hsc sm).2
      exact Finset.mem_map.mpr ⟨A.sem.symm i, Finset.mem_univ _, congrArg SemLoc.dma (A.sem.apply_symm_apply i)⟩
    · intro h
      obtain ⟨x, -, rfl⟩ := Finset.mem_map.mp h
      exact Finset.mem_filter.mpr ⟨Finset.mem_univ _, (hsc _).1⟩

/-- Every device's cells. -/
def cells : Finset (GSem nD τ sig) := Finset.univ.map ⟨fun y : Dev nD × Cell => gcell A y.1 y.2, gcell_injective A⟩

/-- The right to credit each of them once. -/
def toks : Finset (GSem nD τ sig × ℕ × Unit) :=
  Finset.univ.map ⟨fun y : Dev nD × Cell => (gcell A y.1 y.2, 0, ()), fun _ _ h => gcell_injective A (congrArg Prod.fst h)⟩

omit [FloatOps F] in
theorem bigSep_cells (Φ : GSem nD τ sig → sProp 𝕄) :
    bigSep (cells A) Φ = bigSep Finset.univ fun d => bigSep Finset.univ fun x => Φ (gcell A d x) := by
  unfold cells
  rw [bigSep_map, bigSep_univ_prod]
  rfl

omit [FloatOps F] in
theorem bigSep_toks (Φ : GSem nD τ sig × ℕ × Unit → sProp 𝕄) :
    bigSep (toks A) Φ = bigSep Finset.univ fun d => bigSep Finset.univ fun x => Φ (gcell A d x, 0, ()) := by
  unfold toks
  rw [bigSep_map, bigSep_univ_prod]
  rfl

/-- The ghost state the launch starts from. -/
def ghost : UU nD τ sig := (launchOf ∅ ∅ ∅, launchOf (cells A) ∅ (toks A))

/-- Every cell's invariant and the rights to it, from its counter at zero. -/
theorem fund :
    iprop((bigSep Finset.univ fun d : Dev nD => bigSep Finset.univ fun x : Cell => semVal (gcell A d x) 0) ∗ ownU (ghost A))
      ⊢ (iprop(|={(Set.univ : Set ℕ)}=> ∃ κ : GSem nD τ sig → ℕ,
        (bigSep Finset.univ fun d => bigSep Finset.univ fun x => inv A P κ d x)
        ∗ (bigSep Finset.univ fun d => bigSep Finset.univ fun x => reached ER (gcell A d x) 0)
        ∗ (bigSep Finset.univ fun d => bigSep Finset.univ fun x => armed A d x)
        ∗ (bigSep Finset.univ fun d => bigSep Finset.univ fun x => dutyTok ER (gcell A d x) 0 ())) : sProp 𝕄) := by
  have hown := own_split (F := F) (launchOf ∅ ∅ ∅) (launchOf (cells (nD := nD) (τ := τ) A) ∅ (toks A))
  have hfund := fund_launch (Name := ℕ) ER (Rd A P) (S := cells A) (Sd := ∅) (Finset.disjoint_empty_right _) (fun g h => absurd h (Finset.notMem_empty g)) (toks A)
    (Es := Set.univ)
  simp only [Finset.union_empty, bigSep_toks, bigSep_cells] at hfund
  unfold ghost
  iintro ⟨Hsem, HU⟩
  ihave HU' := hown $$ HU
  icases HU' with ⟨-, HR⟩
  imod hfund $$ [Hsem HR] with ⟨%κ, -, Hinv, Hr, Hat, -, Htok⟩
  · isplitl [Hsem] <;> iassumption
  imodintro
  iexists κ
  isplitl [Hinv]; · iexact Hinv
  isplitl [Hr]; · iexact Hr
  isplitl [Hat] <;> iassumption

/-! ## Credit -/

omit [FloatOps F] [Fintype Cell] in
/-- What the devices owe the arrivals of one link is what each device is due there. -/
theorem due_one (c : Dev nD) (x : Cell) (dest : Dev nD → Dev nD) (hdest : ∀ d, dest (dest d) = d) :
    (Pipeline.launchCred (fun d => tallyAt (gcell A (dest d) x) () (A.amount x)) c : sProp 𝕄) ⊢ due A c x := by
  refine (Pipeline.launchCred_elim _ c (.dma (A.sem x))).trans (Entails.of_eq (congrArg cred ?_))
  show _ = tallyOn (gcell A c x) (Finsupp.single () (A.amount x))
  refine congrArg (tallyOn (gcell A c x)) (Finsupp.ext fun u => ?_)
  cases u
  rw [Pipeline.launchCredit_owing, Finsupp.single_eq_same, Finset.sum_eq_single (dest c)]
  · rw [hdest, tallyAt_apply, if_pos ⟨rfl, rfl⟩]
  · intro d _ h
    rw [tallyAt_apply, if_neg]
    rintro ⟨h1, -⟩
    apply h
    rw [← hdest d]
    exact congrArg dest (congrArg (fun g : GSem nD τ sig => g.1.1) h1).symm
  · exact fun h => absurd (Finset.mem_univ _) h

omit [FloatOps F] [Fintype Cell] in
theorem due_all {ι : Type} (c : Dev nD) (x : ι → Cell) (dest : ι → Dev nD → Dev nD) (hdest : ∀ i d, dest i (dest i d) = d) (l : List ι) :
    (Pipeline.launchCred (fun d => owed (fun i => gcell A (dest i d) (x i)) (fun i => A.amount (x i)) l) c : sProp 𝕄)
      ⊢ sepL (fun i => due A c (x i)) l := by
  induction l with
  | nil => exact Entails.of_eq (Pipeline.launchCred_zero c)
  | cons i l ih =>
    unfold owed sepL
    rw [Pipeline.launchCred_add]
    iintro ⟨H1, H2⟩
    isplitl [H2]
    · iapply (due_one A c (x i) (dest i) (hdest i)); iexact H2
    · iapply ih; iexact H1

/-! ## Arrays -/

omit [FloatOps F] in
/-- A whole array is its eight slabs. -/
theorem whole_slabs {R C : ℕ} {e : EltTy} (M : Memref sig .tc .hbm (Slabs R C) e) (hM : M.IsWhole) (d : Dev nD)
    (f : Buf (Elt F) (M.view.loc (d.tc : Thread nD τ))) :
    (M.view.loc (d.tc : Thread nD τ) ↦{fullShare} f : sProp 𝕄)
      = bigSep Finset.univ fun s : Fin 8 => M.view.loc (d.tc : Thread nD τ) ↦[slabSet M s]{fullShare} f := by
  refine Eq.trans ?_ (pointsTo_biUnion (ℓ := M.view.loc (d.tc : Thread nD τ)) Finset.univ (slabSet M) fun s _ s' _ h => slabSet_disjoint M s s' h)
  rw [slabSet_union M hM.set_eq_univ]

omit [FloatOps F] in
/-- A slab of an array at some contents. -/
theorem some_contents {R C : ℕ} {e : EltTy} {m : Memref sig .tc .hbm (Slabs R C) e} {d : Dev nD} (s : Fin 8)
    (f : Buf (Elt F) (m.view.loc (d.tc : Thread nD τ))) :
    (m.view.loc (d.tc : Thread nD τ) ↦[slabSet m s]{fullShare} f : sProp 𝕄)
      ⊢ iprop(∃ f, m.view.loc (d.tc : Thread nD τ) ↦[slabSet m s]{fullShare} f) := by
  iintro H
  iexists f
  iexact H

end Cert.Wire

end
-- ==== Proof.Launch.lean ====
module

public import Idealize.ShloMosaic.Lib.Pipeline.Regions
public import Idealize.ShloMosaic.Lib.Quiescent

/-!
# Launching devices that deal each other memory

A launch rule in which the memory, the semaphore counters and the ghost state of ALL devices are dealt at once, before
any device starts: what one device will write on another can so be handed to the writer from the beginning.
-/

@[expose] public section

noncomputable section

namespace Cert.Wire

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline

variable {nD : Nat} {τ : Topo} {sig : RefSig} {Val : EltTy → Type}
variable {Ix : Type} [DecidableEq Ix] {Name : Type} [DecidableEq Name] [Infinite Name] {U : Type} [URA U] {Lvl : Type} [Preorder Lvl]
variable {Λ : Labels}

local notation "𝕄" => MT nD τ sig Ix Val Name U Lvl

/-- What a device holds at launch: its scoped memory and semaphores at rest, its arrays at the launch contents, what it
    owes others, the right to give its semaphores levels, and what others owe it. -/
def atLaunch (m : (ℓ : Loc nD τ sig) → Buf Val ℓ) (g : Dev nD → PrngReg) (O₀ : Dev nD → CellTallies nD τ sig Ix) (c : Dev nD) : sProp 𝕄 :=
  iprop(boundary (c.tc : Thread nD τ) ∗ unscopedBufs c (fun b => m ((c.tc : Thread nD τ).loc b))
    ∗ owes (c.tc : Thread nD τ) (O₀ c) ∅ ∗ levels0 c ∗ launchCred O₀ c)

/-- If what all devices hold at launch can be dealt to them as `T₀`, and each device runs from its share `T₀ c` to `Tₙ c`
    with its scoped memory and semaphores at rest again and nothing owed, then the program ends with every scoped
    counter at zero and the memory as `Tₙ` tells. -/
theorem run_dealt (𝔻 : Defs nD τ sig Val Λ) (𝕍 : Variants)
    (m : (ℓ : Loc nD τ sig) → Buf Val ℓ) (g : Dev nD → PrngReg)
    (main : Dev nD → Prog (TpuEff nD τ sig Val Λ .tc) PUnit)
    (O₀ : Dev nD → CellTallies nD τ sig Ix) (u₀ : U) (T₀ Tₙ : Dev nD → sProp 𝕄)
    (hdeal : iprop((bigSep Finset.univ fun c : Dev nD => atLaunch m g O₀ c) ∗ ownU u₀) ⊢ |={Set.univ}=> bigSep Finset.univ T₀)
    (hrun : ∀ c, T₀ c ⊢ wp frame (wpE 𝔻 𝕍 (c.tc : Thread nD τ) none) Set.univ (main c)
      fun _ => iprop(iprop(Tₙ c ∗ boundary (c.tc : Thread nD τ)) ∗ ∃ W, owes (c.tc : Thread nD τ) (0 : CellTallies nD τ sig Ix) W))
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  let fin : Dev nD → sProp 𝕄 := fun c => iprop(Tₙ c ∗ boundary (c.tc : Thread nD τ))
  refine (θ_run 𝔻 _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀ (fun _ => T₀) (fun _ => fin)
      (fun _ => iprop(emp)) Set.univ ?_ (fun _ c => ?_) fun _ => ?_))
  · have hcores : (bigSep Finset.univ fun d : Dev nD =>
          coreInit (Ix := Ix) (Name := Name) (U := U) (Lvl := Lvl) (owing O₀) 0 (⟨m, fun _ => 0, g⟩ : MemSt nD τ sig Val) (d.tc : Thread nD τ))
        ⊢ bigSep Finset.univ fun c : Dev nD => (atLaunch m g O₀ c : sProp 𝕄) :=
      bigSep_mono fun c _ => (coreInit_boundary_owing O₀ m g c).trans (by
        unfold atLaunch
        iintro ⟨Hb, Hub, -, HL, Hlv, -, Hcr⟩
        isplitl [Hb]; · iexact Hb
        isplitl [Hub]; · iexact Hub
        isplitl [HL]; · iexact HL
        isplitl [Hlv] <;> iassumption)
    iintro ⟨Hcores, Hu⟩
    ihave Hc := hcores $$ Hcores
    imod hdeal $$ [Hc Hu] with HT
    · isplitl [Hc] <;> iassumption
    imodintro
    iexists ()
    isplitl
    · iexact HT
    · iempintro
  · refine (hrun c).trans (wp_mono _ _ _ fun _ => ?_)
    unfold post
    simp only [liftTc_tc, fin]
    exact BI.Entails.refl _
  · iintro ⟨H, -, Hsc⟩ %s' HSI
    ihave %hsc := (scSems_read_zero m g s') $$ [Hsc HSI]
    · isplitl [Hsc] <;> iassumption
    imod (posts_fupd Finset.univ (fun c s' => boundary_read c s' (hfin c s')) s') $$ [H HSI] with %h
    · isplitl [H] <;> iassumption
    imodintro
    ipureintro
    exact ⟨fun c => h c (Finset.mem_univ c), hsc⟩

end Cert.Wire

end
-- ==== Proof.Whole.lean ====
module

public import proofs.«01_k».proof.Proof.Call
public import proofs.«01_k».proof.Proof.Fund
public import proofs.«01_k».proof.Proof.Launch
public import Idealize.ShloMosaic.Harness.Basic

/-!
# A program that is one talking call

The whole of such a program, from the launch of every device to the end: what has to be said of the call is how what the
launch hands out is dealt to the devices, that the body runs from there, and what it leaves.
-/

@[expose] public section

noncomputable section

namespace Cert.Wire

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {nD : ℕ} {τ : Topo} {sig : RefSig} {Λ₀ : Labels} {F : FTy → Type} [FloatOps F]

local notation "𝕄" => MT nD τ sig Unit (Elt F) ℕ (UU nD τ sig) ℕ

variable {Cell : Type} [Fintype Cell] (A : Net sig Cell) (P : Pays nD τ sig F Cell)
variable (m : (ℓ : Loc nD τ sig) → Buf (Elt F) ℓ) (g : Dev nD → PrngReg)
variable (O : Dev nD → CellTallies nD τ sig Unit) (lv : GSem nD τ sig → Unit → ℕ)

/-- The cells that have a level: every TensorCore's. -/
abbrev leveled (g : GSem nD τ sig) : Finset Unit := if g.1.2 = .tc then {()} else ∅

/-- What a device runs its call from, besides what the body starts from. -/
def calm (d : Dev nD) : sProp 𝕄 :=
  iprop(scopedBufs (d.tc : Thread nD τ) ∗ opIdle (d.tc : Thread nD τ) ∗ owes (d.tc : Thread nD τ) (O d) ∅)

/-- What a device runs its call from: the levels, and what it was dealt. -/
def dealt (start : (GSem nD τ sig → ℕ) → Dev nD → sProp 𝕄) (d : Dev nD) : sProp 𝕄 := iprop(∃ κ : GSem nD τ sig → ℕ, calm O d ∗ levAts leveled lv ∗ start κ d)

/-- What a device holds at launch, sorted by kind. -/
theorem launch_one (hsc : ∀ sm : SemLoc sig, sm.isScoped .tc = true ∧ ∃ i, sm = .dma i) (d : Dev nD) :
    (atLaunch m g O d : sProp 𝕄)
      ⊢ iprop(calm O d ∗ (bigSep Finset.univ fun x : Cell => semVal (gcell A d x) 0)
        ∗ iprop(unscopedBufs d (fun b => m ((d.tc : Thread nD τ).loc b)) ∗ Pipeline.launchCred O d)
        ∗ bigSep Finset.univ fun sm : SemLoc sig => levels ((d.tc : Thread nD τ), sm) ∅) := by
  unfold atLaunch boundary levels0 calm
  rw [sems_eq A hsc]
  iintro ⟨⟨Hsc, Hsem, Hid⟩, Hub, HO, Hlv, Hcr⟩
  isplitl [Hsc Hid HO]
  · isplitl [Hsc]; · iexact Hsc
    isplitl [Hid] <;> iassumption
  isplitl [Hsem]; · iexact Hsem
  isplitl [Hub Hcr]
  · isplitl [Hub] <;> iassumption
  iexact Hlv

omit [FloatOps F] in
/-- Every device may be told what all know. -/
theorem tell (R : sProp 𝕄) [BI.Persistent R] : R ⊢ bigSep Finset.univ fun _ : Dev nD => R := by
  suffices h : ∀ S : Finset (Dev nD), R ⊢ bigSep S fun _ => R from h _
  intro S
  induction S using Finset.induction_on with
  | empty => rw [bigSep_empty]; iintro -; iempintro
  | insert d S hd ih =>
    rw [bigSep_insert hd]
    show R ⊢ iprop(R ∗ bigSep S fun _ => R)
    iintro #H
    isplitr; · iexact H
    iapply ih; iexact H

theorem dealt_intro (start : (GSem nD τ sig → ℕ) → Dev nD → sProp 𝕄) (κ : GSem nD τ sig → ℕ) (d : Dev nD) :
    (iprop(levAts leveled lv ∗ calm O d ∗ start κ d) : sProp 𝕄) ⊢ dealt O lv start d := by
  unfold dealt
  iintro ⟨HL, Hc, Hh⟩
  iexists κ
  isplitl [Hc]; · iexact Hc
  isplitl [HL] <;> iassumption

theorem dealt_all (start : (GSem nD τ sig → ℕ) → Dev nD → sProp 𝕄) (κ : GSem nD τ sig → ℕ) :
    (iprop(levAts leveled lv ∗ (bigSep Finset.univ fun d : Dev nD => calm O d) ∗ bigSep Finset.univ fun d => start κ d) : sProp 𝕄)
      ⊢ bigSep Finset.univ fun d => dealt O lv start d := by
  refine (sep_mono_left (tell (levAts leveled lv))).trans ?_
  rw [← bigSep_sep', ← bigSep_sep']
  exact bigSep_mono fun d _ => dealt_intro O lv start κ d

/-- What the devices hold at launch, dealt. -/
theorem deal_launch (start : (GSem nD τ sig → ℕ) → Dev nD → sProp 𝕄) (hsc : ∀ sm : SemLoc sig, sm.isScoped .tc = true ∧ ∃ i, sm = .dma i)
    (hdeal : ∀ κ, iprop((bigSep Finset.univ fun d => bigSep Finset.univ fun x => inv A P κ d x)
        ∗ (bigSep Finset.univ fun d => bigSep Finset.univ fun x => reached ER (gcell A d x) 0)
        ∗ (bigSep Finset.univ fun d => bigSep Finset.univ fun x => armed A d x)
        ∗ (bigSep Finset.univ fun d => bigSep Finset.univ fun x => dutyTok ER (gcell A d x) 0 ())
        ∗ bigSep Finset.univ fun d : Dev nD => iprop(unscopedBufs d (fun b => m ((d.tc : Thread nD τ).loc b)) ∗ Pipeline.launchCred O d))
      ⊢ bigSep Finset.univ fun d => start κ d) :
    iprop((bigSep Finset.univ fun d => atLaunch m g O d) ∗ ownU (ghost A))
      ⊢ (iprop(|={(Set.univ : Set ℕ)}=> bigSep Finset.univ fun d => dealt O lv start d) : sProp 𝕄) := by
  have hone : (bigSep Finset.univ fun d => atLaunch m g O d : sProp 𝕄) ⊢ _ := bigSep_mono fun d _ => launch_one A m g O hsc d
  simp only [bigSep_sep'] at hone
  iintro ⟨HL, HU⟩
  ihave H := hone $$ HL
  icases H with ⟨Hcalm, Hsem, Hrest, Hlv⟩
  imod (Smoke.lev_assign_devs (fun _ => {()}) lv) $$ Hlv with ⟨-, HL⟩
  imod (fund A P) $$ [Hsem HU] with ⟨%κ, Hinv, Hr, Hat, Htok⟩
  · isplitl [Hsem] <;> iassumption
  imodintro
  iapply (dealt_all O lv start κ)
  isplitl [HL]; · iexact HL
  isplitl [Hcalm]; · iexact Hcalm
  iapply (hdeal κ)
  isplitl [Hinv]; · iexact Hinv
  isplitl [Hr]; · iexact Hr
  isplitl [Hat]; · iexact Hat
  isplitl [Htok]; · iexact Htok
  rw [bigSep_sep']
  iexact Hrest

omit [FloatOps F] in
/-- A body known to be another, up to the type of what it returns, runs as that one does. -/
theorem runs_same {defs₀ : Defs nD τ sig (Elt F) Λ₀} {T : Type} (hT : T = PUnit) (p : Prog (TpuEff nD τ sig (Elt F) Λ₀ .tc) T) (q : Prg nD τ sig Λ₀ F)
    (h : HEq p q) (c : Dev nD) (Kt : sProp 𝕄) :
    (wp frame (wpE defs₀ Variants.none (c.tc : Thread nD τ) none) Set.univ q fun _ => Kt)
      ⊢ wp frame (wpE defs₀ Variants.none (c.tc : Thread nD τ) none) Set.univ p fun _ => Kt := by
  subst hT
  cases h
  exact .rfl

variable (cfg : Pipeline.Cfg sig Λ₀) [IsEmpty (Fin cfg.W)] (defs₀ : Defs nD τ sig (Elt F) Λ₀)

/-- Every run of the program: if all that devices hold at launch is dealt to them, the body runs from there and pays what is
    owed, and what it leaves is the semaphores at rest and `final`, then the run ends with memory as `final` tells and every
    counter at zero. -/
theorem run_whole (start after : (GSem nD τ sig → ℕ) → Dev nD → sProp 𝕄) (final : Dev nD → sProp 𝕄)
    (hsc : ∀ sm : SemLoc sig, sm.isScoped .tc = true ∧ ∃ i, sm = .dma i)
    (hN : cfg.N = 1) (hinj : Function.Injective (Pipeline.cellOf (nD := nD) (τ := τ) fun _ : Fin 1 => cfg))
    (hscoped : ∀ c : Dev nD, (scopedBufs (c.tc : Thread nD τ) : sProp 𝕄) = iprop(Dat.staging cfg c ∗ emp))
    (hdeal : ∀ κ, iprop((bigSep Finset.univ fun d => bigSep Finset.univ fun x => inv A P κ d x)
        ∗ (bigSep Finset.univ fun d => bigSep Finset.univ fun x => reached ER (gcell A d x) 0)
        ∗ (bigSep Finset.univ fun d => bigSep Finset.univ fun x => armed A d x)
        ∗ (bigSep Finset.univ fun d => bigSep Finset.univ fun x => dutyTok ER (gcell A d x) 0 ())
        ∗ bigSep Finset.univ fun d : Dev nD => iprop(unscopedBufs d (fun b => m ((d.tc : Thread nD τ).loc b)) ∗ Pipeline.launchCred O d))
      ⊢ bigSep Finset.univ fun d => start κ d)
    (body : Prg nD τ sig Λ₀ F) (hres : Λ₀.Result cfg.body = PUnit) (hprint : ∀ t, HEq (defs₀ .tc cfg.body (cfg.bodyArgs t (cfg.slots t))) body)
    (hbody : ∀ κ (c : Dev nD) (Kt : PUnit → sProp 𝕄), iprop((levAts leveled lv ∗ start κ c) ∗ owesSome c (O c))
      ⊢ iprop((iprop(after κ c ∗ owesSome c 0) -∗ |={Set.univ}=> Kt ⟨⟩) -∗ runs defs₀ c body Kt))
    (hend : ∀ κ d, after κ d ⊢ iprop(|={(Set.univ : Set ℕ)}=> iprop(scopedSems0 (d.tc : Thread nD τ) ∗ final d)))
    (QY : Dev nD → MemSt nD τ sig (Elt F) → Prop)
    (hfin : ∀ c (s' : Phys nD τ sig (Elt F)), iprop(final c ∗ SI s') ⊢ |={Set.univ}=> iprop(⌜QY c s'.mem⌝ ∗ SI s')) :
    θ_run (Pipeline.defs (calls cfg) defs₀) (onTc fun _ => .op (.customCall (Pipeline.entry 0) ()) fun _ => .ret ⟨⟩) ⟨m, fun _ => 0, g⟩
      fun r => (∀ d, QY d r.2) ∧ r.2.sem = fun _ => 0 := by
  refine run_dealt _ (Variants.lift Variants.none) m g _ O (ghost A) (dealt O lv start) final (deal_launch A P m g O lv start hsc hdeal)
    (fun c => ?_) QY hfin fun s h hs => ⟨h, sem_eq_zero_of_scoped (fun sm => (hsc sm).1) hs⟩
  unfold dealt calm
  iintro ⟨%κ, ⟨Hsc, Hid, HO⟩, HL, Hh⟩
  iapply (run_windowless cfg defs₀ (fun c => iprop(levAts leveled lv ∗ start κ c)) final O () EP κ hinj hN
    (fun c t K => by
      iintro H Hk
      iapply (runs_same hres _ body (hprint t) c K)
      iapply (hbody κ c fun _ => K) $$ H
      iintro ⟨H, HO⟩
      imod (hend κ c) $$ H with H
      iapply Hk
      isplitl [H] <;> iassumption) c (hscoped c))
  isplitl [Hsc]; · iexact Hsc
  isplitl [Hid]; · iexact Hid
  isplitl [HL Hh]
  · isplitl [HL] <;> iassumption
  iexact HO

end Cert.Wire

end
-- ==== Proof.Body.lean ====
module

public import proofs.«01_k».proof.Proof.Protocol
public import proofs.«01_k».proof.Proof.Whole

/-!
# The body, one operation of each loop at a time

What a device holds for one of its local copies, and for one of its peers and arrays, passes through three states: before
the transfer starts, while it is under way, and once it has been waited for. Each loop moves every item of its list one
state on; all sends are started before the first wait, so a waiting device owes nothing.
-/

@[expose] public section

noncomputable section

namespace Cert.Exchange

open Cert.KernelIdeal Cert.Wire

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ sig) ℕ

variable (m : (ℓ : Loc nD τ sig) → Buf (Elt F) ℓ) (κ : GSem nD τ sig → ℕ)

/-- What a device owes the arrivals its sends cause. -/
abbrev debts (c : Dev nD) : List (Fin 7 × Fin 5) → CellTallies nD τ sig Unit :=
  owed (fun x => gcell net (peer x.1 c) (.inr (.inl x))) fun x => net.amount (.inr (.inl x))

/-- A local copy before it starts. -/
def own0 (c : Dev nD) (a : Fin 5) : sProp 𝕄 :=
  iprop(fresh net (pays m) κ c (.inr (.inr a)) ∗ inPts m c a c ∗ ∃ f, outPts c a c f)

/-- What a device needs for a send before it starts. -/
def ready (c : Dev nD) (x : Fin 7 × Fin 5) : sProp 𝕄 :=
  iprop(fresh net (pays m) κ c (.inl x) ∗ aim net (pays m) κ (peer x.1 c) (.inr (.inl x))
    ∗ inPts m c x.2 (peer x.1 c) ∗ ∃ f, outPts (peer x.1 c) x.2 c f)

/-- What a device holds when the body starts, besides what it owes; -/
def held0 (c : Dev nD) : sProp 𝕄 :=
  iprop(sepL (own0 m κ c) lanes ∗ sepL (ready m κ c) sends ∗ sepL (fun x => going net (pays m) κ c (.inr (.inl x))) sends)

/-- and when it ends. -/
def held2 (c : Dev nD) : sProp 𝕄 :=
  iprop(sepL (fun a => got net (pays m) κ c (.inr (.inr a))) lanes
    ∗ sepL (fun x => iprop(got net (pays m) κ c (.inl x) ∗ got net (pays m) κ c (.inr (.inl x)))) sends)

/-! ## Steps -/

theorem step_startOwn (c : Dev nD) (a : Fin 5) (off : Fin 3 → ℕ) (h : off = ![c.val, 0, 0])
    {hsrc : (slab (inM a) off c h).view.WordExact} {hdst : (slab (outM a) off c h).view.WordExact}
    {hsem : DmaTarget.Typed (nD := nD) .hbm (.dma (sems (.inr (.inr a)))) (.here (p := (.tc : Proc τ)) (slab (outM a) off c h))}
    (Kt : PUnit → sProp 𝕄) (k : PUnit → Prg nD τ sig Λ₀ F) :
    own0 m κ c a ⊢ iprop((going net (pays m) κ c (.inr (.inr a)) -∗ runs defs₀ c (k ⟨⟩) Kt)
      -∗ runs defs₀ c (.op (.enqueueDma (slab (inM a) off c h) (.here (slab (outM a) off c h)) (.dma (sems (.inr (.inr a)))) hsrc hdst hsem) k) Kt) := by
  subst h
  exact step_copy net (pays m) κ c (.inr (.inr a)) (src := slabAt (inM a) c) (dst := slabAt (outM a) c) (q := fullShare) (sent m c a) rfl
    (fun fd => sep_mono (Entails.of_eq (outPts_written m c c a fd)) (Entails.of_eq rfl)) Kt k

theorem step_startSend (c : Dev nD) (x : Fin 7 × Fin 5) (O : CellTallies nD τ sig Unit) (off off' : Fin 3 → ℕ) (h : off = ![c.val, 0, 0])
    (h' : off' = ![(peer x.1 c).val, 0, 0]) (d : Dev nD) (hd : d = peer x.1 c)
    {hsc : (slab (outM x.2) off c h : Memref sig (Dev.tc d : Thread nD τ).2.kind .hbm _ _).view.ref.isScScratch = false}
    {hsrc : (slab (inM x.2) off' (peer x.1 c) h').view.WordExact} {hdst : (slab (outM x.2) off c h).view.WordExact}
    {hsem : DmaTarget.Typed .hbm (.dma (sems (.inr (.inl x))))
      (.remote (Dev.tc d : Thread nD τ) (slab (outM x.2) off c h) (.dma (sems (.inl x))) hsc)}
    (Kt : PUnit → sProp 𝕄) (k : PUnit → Prg nD τ sig Λ₀ F) :
    iprop(ready m κ c x ∗ owesSome c (O + tallyAt (gcell net (peer x.1 c) (.inr (.inl x))) () (net.amount (.inr (.inl x)))))
      ⊢ iprop((iprop(going net (pays m) κ c (.inl x) ∗ owesSome c O) -∗ runs defs₀ c (k ⟨⟩) Kt)
        -∗ runs defs₀ c (.op (.enqueueDma (slab (inM x.2) off' (peer x.1 c) h')
          (.remote (Dev.tc d : Thread nD τ) (slab (outM x.2) off c h) (.dma (sems (.inl x))) hsc) (.dma (sems (.inr (.inl x)))) hsrc hdst hsem) k) Kt) := by
  subst h h'
  exact step_send net (pays m) κ c (peer x.1 c) d hd (.inl x) (.inr (.inl x)) (src := slabAt (inM x.2) (peer x.1 c))
    (dst := slabAt (outM x.2) c) (q := fullShare) (sent m c x.2) rfl rfl O (Entails.of_eq rfl)
    (fun fd => by
      show _ ⊢ outPts (peer x.1 c) x.2 (peer x.1 (peer x.1 c)) (gathered m (peer x.1 c) x.2)
      rw [peer_peer]
      exact Entails.of_eq (outPts_written m (peer x.1 c) c x.2 fd)) Kt k

/-- Both waits for a peer and array. -/
theorem step_waits (c : Dev nD) (x : Fin 7 × Fin 5) (Kt : PUnit → sProp 𝕄) (k : PUnit → Prg nD τ sig Λ₀ F) :
    iprop(iprop(going net (pays m) κ c (.inl x) ∗ going net (pays m) κ c (.inr (.inl x))) ∗ owesSome c 0)
      ⊢ iprop((iprop(iprop(got net (pays m) κ c (.inl x) ∗ got net (pays m) κ c (.inr (.inl x))) ∗ owesSome c 0) -∗ runs defs₀ c (k ⟨⟩) Kt)
        -∗ runs defs₀ c (.op (waitSend c x) fun _ => .op (waitRecv c x) k) Kt) := by
  iintro ⟨⟨HS, HR⟩, HO⟩ Hk
  iapply (step_wait net (pays m) κ c (.inl x) (w := waitSend c x)
    (fun K => (wpE_waitDma2_eq Variants.none (c.tc : Thread nD τ) none Set.univ K).trans
      (congrArg (fun v => waitSpec (c.tc : Thread nD τ) Set.univ (.dma (sems (.inl x))) v K) (N_in x.2 _ _ (peerOff_eq x.2 x.1 c))))) $$ [HS HO]
  · isplitl [HS] <;> iassumption
  iintro ⟨HS, HO⟩
  iapply (step_wait net (pays m) κ c (.inr (.inl x)) (w := waitRecv c x) (wpE_waitDma2_eq Variants.none (c.tc : Thread nD τ) none Set.univ)) $$ [HR HO]
  · isplitl [HR] <;> iassumption
  iintro ⟨HR, HO⟩
  iapply Hk
  isplitr [HO]
  · isplitl [HS] <;> iassumption
  iexact HO

/-! ## The body -/

theorem runs_loops (c : Dev nD) (Kt : PUnit → sProp 𝕄) :
    iprop(held0 m κ c ∗ owesSome c (debts c sends))
      ⊢ iprop((iprop(held2 m κ c ∗ owesSome c 0) -∗ |={Set.univ}=> Kt ⟨⟩) -∗ runs defs₀ c loops Kt) := by
  unfold held0 held2 loops
  iintro ⟨⟨Hown, Hsend, Harr⟩, HO⟩ Hk
  simp only [wp_deviceId]
  iapply (runs_each c (startOwn c) (own0 m κ c) (fun a => going net (pays m) κ c (.inr (.inr a))) (fun _ => iprop(emp)) Kt
    (fun a l k => by
      iintro ⟨H, -⟩ Hk
      iapply (step_startOwn m κ c a (ownOff a c) (ownOff_eq a c) Kt k) $$ H
      iintro H
      iapply Hk
      isplitl; · iexact H
      iempintro) lanes) $$ [Hown]
  · isplitl; · iexact Hown
    iempintro
  iintro ⟨Hown, -⟩
  iapply (runs_each c (startSend c) (ready m κ c) (fun x => going net (pays m) κ c (.inl x)) (fun l => owesSome c (debts c l)) Kt
    (fun x l k => step_startSend m κ c x (debts c l) (ownOff x.2 c) (peerOff x.2 x.1 c) (ownOff_eq x.2 c) (peerOff_eq x.2 x.1 c)
      ⟨peerNo x.2 x.1 c, peerNo_lt x.2 x.1 c⟩ (Fin.ext (peerNo_eq x.2 x.1 c)) Kt k) sends) $$ [Hsend HO]
  · isplitl [Hsend] <;> iassumption
  iintro ⟨Hsend, HO⟩
  ihave Hpair := (sepL_sep (fun x => going net (pays m) κ c (.inl x)) (fun x => going net (pays m) κ c (.inr (.inl x))) sends) $$ [Hsend Harr]
  · isplitl [Hsend] <;> iassumption
  iapply (runs_each2 c (waitSend c) (waitRecv c) _ (fun x => iprop(got net (pays m) κ c (.inl x) ∗ got net (pays m) κ c (.inr (.inl x))))
    (fun _ => owesSome c 0) Kt (fun x _ k => step_waits m κ c x Kt k) sends) $$ [Hpair HO]
  · isplitl [Hpair]; · iexact Hpair
    iexact HO
  iintro ⟨Hpair, HO⟩
  iapply (runs_each c (waitOwn c) (fun a => going net (pays m) κ c (.inr (.inr a))) (fun a => got net (pays m) κ c (.inr (.inr a)))
    (fun _ => owesSome c 0) Kt
    (fun a _ k => step_wait net (pays m) κ c (.inr (.inr a)) (w := waitOwn c a) (wpE_waitDma2_eq Variants.none (c.tc : Thread nD τ) none Set.univ) Kt k)
    lanes) $$ [Hown HO]
  · isplitl [Hown] <;> iassumption
  iintro ⟨Hown, HO⟩
  unfold runs
  rw [wp_ret]
  iapply Hk
  isplitr [HO]
  · isplitl [Hown] <;> iassumption
  iexact HO

end Cert.Exchange

end
-- ==== Proof.Deal.lean ====
module

public import proofs.«01_k».proof.Proof.Body
public import proofs.«01_k».proof.Proof.Gen.KernelIdeal.Launch

/-!
# The whole exchange

At launch each device holds its own arrays and semaphores. Its result slabs go to the devices that will write them, and
the rights to credit its arrival cells to the devices that will send. When the body has ended, each device's slabs make up
its arrays again. So every run ends with the arrays sent as they were, every result gathered, and every semaphore at zero.
-/

@[expose] public section

noncomputable section

namespace Cert.Exchange

open Cert.KernelIdeal Cert.Wire

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ sig) ℕ

/-! ## Regroupings -/

section Regroup

omit [FloatOps F]

/-- What is dealt per device, peer and array may be dealt to the peers instead. -/
theorem deal_peers (Φ : Dev nD → Fin 7 × Fin 5 → sProp 𝕄) :
    (bigSep Finset.univ fun d => bigSep Finset.univ fun x => Φ d x)
      = bigSep Finset.univ fun d => bigSep Finset.univ fun x => Φ (peer x.1 d) x :=
  deal_ends (fun x => peer x.1) (fun x => peer_peer x.1) Φ

/-- A device's number and its peers' are all the slabs. -/
theorem slabs_image (d : Fin 8) :
    (Finset.univ : Finset (Fin 8)) = insert d (Finset.univ.map ⟨fun k => (peer k d : Fin 8), by revert d; decide⟩) := by
  revert d; decide

theorem deal_slab (d : Dev nD) (Φ : Fin 8 → sProp 𝕄) :
    bigSep Finset.univ Φ = iprop(Φ d ∗ bigSep Finset.univ fun k : Fin 7 => Φ (peer k d)) := by
  rw [slabs_image d, bigSep_insert (by revert d; decide), bigSep_map]
  rfl

theorem deal_slabs (d : Dev nD) (Φ : Fin 5 → Fin 8 → sProp 𝕄) :
    (bigSep Finset.univ fun a => bigSep Finset.univ fun s => Φ a s)
      = iprop((bigSep Finset.univ fun a => Φ a d) ∗ bigSep Finset.univ fun x : Fin 7 × Fin 5 => Φ x.2 (peer x.1 d)) := by
  rw [bigSep_univ_prod, bigSep_univ_comm (fun (k : Fin 7) (a : Fin 5) => Φ a (peer k d)), ← bigSep_sep']
  exact bigSep_congr fun a _ => deal_slab d (Φ a)

theorem lanes_all (P : Fin 5 → sProp 𝕄) : sepL P lanes = bigSep Finset.univ P := sepL_all P lanes (by decide) (by decide)

theorem sends_all (P : Fin 7 × Fin 5 → sProp 𝕄) : sepL P sends = bigSep Finset.univ P := sepL_all P sends (by decide) (by decide)

end Regroup

/-! ## Arrays -/

/-- The arrays of the program: five sent, five received. -/
def arrRef : Fin 5 ⊕ Fin 5 → Ref sig .tc
  | .inl a => (inM a).view.ref
  | .inr a => (outM a).view.ref

theorem arrRef_injective : Function.Injective arrRef := by decide +kernel

theorem arrays_eq (d : Dev nD) (V : (b : Ref sig .tc) → Buf (Elt F) ((d.tc : Thread nD τ).loc b)) :
    (unscopedBufs d V : sProp 𝕄)
      = iprop((bigSep Finset.univ fun a => (inM a).view.loc (d.tc : Thread nD τ) ↦{fullShare} V (inM a).view.ref)
        ∗ bigSep Finset.univ fun a => (outM a).view.loc (d.tc : Thread nD τ) ↦{fullShare} V (outM a).view.ref) := by
  unfold unscopedBufs
  rw [show (Finset.univ.filter fun b : Ref sig .tc => ¬ b.isScoped) = Finset.univ.map ⟨arrRef, arrRef_injective⟩ by decide +kernel,
    bigSep_map, bigSep_univ_sum]
  rfl

variable (m : (ℓ : Loc nD τ sig) → Buf (Elt F) ℓ)

/-- A device's arrays, slab by slab: its own and its peers'. -/
theorem arrays_slabs (d : Dev nD) (f : (a : Fin 5) → Buf (Elt F) ((outM a).view.loc (d.tc : Thread nD τ))) :
    (iprop((bigSep Finset.univ fun a => (inM a).view.loc (d.tc : Thread nD τ) ↦{fullShare} sent m d a)
        ∗ bigSep Finset.univ fun a => (outM a).view.loc (d.tc : Thread nD τ) ↦{fullShare} f a) : sProp 𝕄)
      = iprop(((bigSep Finset.univ fun a => inPts m d a d) ∗ bigSep Finset.univ fun x : Fin 7 × Fin 5 => inPts m d x.2 (peer x.1 d))
        ∗ ((bigSep Finset.univ fun a => outPts d a d (f a)) ∗ bigSep Finset.univ fun x : Fin 7 × Fin 5 => outPts d x.2 (peer x.1 d) (f x.2))) := by
  rw [bigSep_congr fun a _ => whole_slabs (inM a) (inM_isWhole a) d (sent m d a), bigSep_congr fun a _ => whole_slabs (outM a) (outM_isWhole a) d (f a), deal_slabs d fun a s => inPts m d a s, deal_slabs d fun a s => outPts d a s (f a)]

/-! ## The deal -/

/-- What the devices owe is what each device is due. -/
theorem due_arrivals (c : Dev nD) :
    (Pipeline.launchCred (fun d => debts d sends) c : sProp 𝕄) ⊢ bigSep Finset.univ fun x : Fin 7 × Fin 5 => due net c (.inr (.inl x)) := by
  have h := due_all (F := F) (τ := τ) net c (fun x : Fin 7 × Fin 5 => .inr (.inl x)) (fun x => peer x.1) (fun x => peer_peer x.1) sends
  rw [sends_all] at h
  exact h

variable (κ : GSem nD τ sig → ℕ)

/-- What is left of a device's launch: its arrays, slab by slab, and what it is due. -/
theorem rest_one (d : Dev nD) :
    (iprop(unscopedBufs d (fun b => m ((d.tc : Thread nD τ).loc b)) ∗ Pipeline.launchCred (fun d => debts d sends) d) : sProp 𝕄)
      ⊢ iprop(iprop(((bigSep Finset.univ fun a => inPts m d a d) ∗ bigSep Finset.univ fun x : Fin 7 × Fin 5 => inPts m d x.2 (peer x.1 d))
        ∗ ((bigSep Finset.univ fun a => outPts d a d (stale m d a)) ∗ bigSep Finset.univ fun x : Fin 7 × Fin 5 => outPts d x.2 (peer x.1 d) (stale m d x.2)))
        ∗ bigSep Finset.univ fun x : Fin 7 × Fin 5 => due net d (.inr (.inl x))) := by
  rw [arrays_eq]
  exact BIClass.sep_mono (Entails.of_eq (arrays_slabs m d (stale m d))) (due_arrivals d)

/-- A device's own slabs, at some contents; -/
theorem some_own : (bigSep Finset.univ fun d => bigSep Finset.univ fun a : Fin 5 => outPts d a d (stale m d a) : sProp 𝕄)
    ⊢ bigSep Finset.univ fun d => bigSep Finset.univ fun a : Fin 5 => iprop(∃ f, outPts d a d f) :=
  bigSep_mono fun d _ => bigSep_mono fun a _ => some_contents _ _

/-- and the slabs the peers write, at theirs. -/
theorem some_out : (bigSep Finset.univ fun d => bigSep Finset.univ fun x : Fin 7 × Fin 5 => outPts d x.2 (peer x.1 d) (stale m d x.2) : sProp 𝕄)
    ⊢ bigSep Finset.univ fun d => bigSep Finset.univ fun x : Fin 7 × Fin 5 => iprop(∃ f, outPts (peer x.1 d) x.2 d f) := by
  rw [deal_peers fun d x => outPts d x.2 (peer x.1 d) (stale m d x.2)]
  refine bigSep_mono fun d _ => bigSep_mono fun x _ => ?_
  rw [peer_peer]
  exact some_contents _ _

/-- From every cell's invariant, positions and rights, every array and every arrival's credit, each device has what its body
    starts from. -/
theorem deal_held :
    iprop((bigSep Finset.univ fun d => bigSep Finset.univ fun x => inv net (pays m) κ d x)
        ∗ (bigSep Finset.univ fun d => bigSep Finset.univ fun x => reached ER (gcell net d x) 0)
        ∗ (bigSep Finset.univ fun d => bigSep Finset.univ fun x => armed net d x)
        ∗ (bigSep Finset.univ fun d => bigSep Finset.univ fun x => dutyTok ER (gcell net d x) 0 ())
        ∗ bigSep Finset.univ fun d : Dev nD => iprop(unscopedBufs d (fun b => m ((d.tc : Thread nD τ).loc b)) ∗ Pipeline.launchCred (fun d => debts d sends) d))
      ⊢ (bigSep Finset.univ fun d => held0 m κ d : sProp 𝕄) := by
  have hrest : (bigSep Finset.univ fun d : Dev nD => iprop(unscopedBufs d (fun b => m ((d.tc : Thread nD τ).loc b)) ∗ Pipeline.launchCred (fun d => debts d sends) d) : sProp 𝕄) ⊢ _ :=
    bigSep_mono fun d _ => rest_one m d
  have hown := some_own m
  have hout := some_out m
  have hinv := deal_peers fun d x => inv net (pays m) κ d (.inr (.inl x))
  have hr := deal_peers (F := F) fun d x => reached ER (gcell net d (.inr (.inl x))) 0
  have ht := deal_peers (F := F) fun d x => dutyTok ER (gcell net d (.inr (.inl x))) 0 ()
  unfold held0 own0 ready fresh aim going
  simp only [lanes_all, sends_all, bigSep_sep'] at hrest ⊢
  iintro ⟨HI, HR, HA, HT, Hub, Hcr⟩
  ihave HI' := (Entails.of_eq (deal_roles fun d x => inv net (pays m) κ d x)) $$ HI
  ihave HR' := (Entails.of_eq (deal_roles fun d x => reached ER (gcell net d x) 0)) $$ HR
  ihave HA' := (Entails.of_eq (deal_roles fun d x => armed net d x)) $$ HA
  ihave HT' := (Entails.of_eq (deal_roles fun d x => dutyTok ER (gcell net d x) 0 ())) $$ HT
  icases HI' with ⟨#I1, #I2, #I3⟩
  icases HR' with ⟨#R1, #R2, #R3⟩
  icases HA' with ⟨A1, A2, A3⟩
  icases HT' with ⟨T1, T2, T3⟩
  ihave Hrest' := hrest $$ [Hub Hcr]
  · isplitl [Hub] <;> iassumption
  icases Hrest' with ⟨⟨⟨S1, S2⟩, S3, S4⟩, HD⟩
  ihave #I2' := (Entails.of_eq hinv) $$ I2
  ihave #R2' := (Entails.of_eq hr) $$ R2
  ihave T2' := (Entails.of_eq ht) $$ T2
  ihave S3' := hown $$ S3
  ihave S4' := hout $$ S4
  isplitl [A3 T3 S1 S3']
  · isplitl [A3 T3]
    · isplitr; · iexact I3
      isplitl [A3]; · iexact A3
      isplitl [T3]; · iexact T3
      iexact R3
    isplitl [S1]; · iexact S1
    iexact S3'
  isplitl [A1 T1 T2' S2 S4']
  · isplitl [A1 T1]
    · isplitr; · iexact I1
      isplitl [A1]; · iexact A1
      isplitl [T1]; · iexact T1
      iexact R1
    isplitl [T2']
    · isplitr; · iexact I2'
      isplitl [T2']; · iexact T2'
      iexact R2'
    isplitl [S2]; · iexact S2
    iexact S4'
  isplitr; · iexact I2
  isplitl [A2]; · iexact A2
  iexact HD

/-! ## The end -/

/-- A device's arrays when the body has ended. -/
def final (d : Dev nD) : sProp 𝕄 :=
  iprop((bigSep Finset.univ fun a => (inM a).view.loc (d.tc : Thread nD τ) ↦{fullShare} sent m d a)
    ∗ bigSep Finset.univ fun a => (outM a).view.loc (d.tc : Thread nD τ) ↦{fullShare} gathered m d a)

/-- Every semaphore is a scoped DMA semaphore. -/
theorem all_scoped (sm : SemLoc sig) : sm.isScoped .tc = true ∧ ∃ i, sm = .dma i := by
  cases sm with
  | reg i => exact i.elim0
  | dma i => exact ⟨by revert i; decide +kernel, i, rfl⟩

/-- When the body has ended the device's semaphores are at rest and its arrays whole. -/
theorem finish (d : Dev nD) :
    held2 m κ d ⊢ (iprop(|={(Set.univ : Set ℕ)}=> iprop(scopedSems0 (d.tc : Thread nD τ) ∗ final m d)) : sProp 𝕄) := by
  have hown (a : Fin 5) : (pays m).pay d (.inr (.inr a)) = iprop(outPts d a d (gathered m d a) ∗ inPts m d a d) := rfl
  have hsend (x : Fin 7 × Fin 5) : (pays m).pay d (.inl x) = inPts m d x.2 (peer x.1 d) := rfl
  have harr (x : Fin 7 × Fin 5) : (pays m).pay d (.inr (.inl x)) = outPts d x.2 (peer x.1 d) (gathered m d x.2) := rfl
  unfold held2 got final
  rw [sems_eq net all_scoped, sum_roles, arrays_slabs m d (gathered m d)]
  simp only [lanes_all, sends_all, hown, hsend, harr, bigSep_sep']
  iintro ⟨⟨C3, O3, S3⟩, ⟨C1, S1⟩, C2, O1⟩
  imod (close_cells net (pays m) κ d fun x => .inl x) $$ C1 with H1
  imod (close_cells net (pays m) κ d fun x => .inr (.inl x)) $$ C2 with H2
  imod (close_cells net (pays m) κ d fun a => .inr (.inr a)) $$ C3 with H3
  imodintro
  isplitl [H1 H2 H3]
  · isplitl [H1]; · iexact H1
    isplitl [H2] <;> iassumption
  isplitl [S1 S3]
  · isplitl [S3] <;> iassumption
  isplitl [O3] <;> iassumption

/-- What the end of a device's run says of its arrays. -/
theorem read_final (d : Dev nD) (s' : Phys nD τ sig (Elt F)) :
    (iprop(final m d ∗ SI s') : sProp 𝕄)
      ⊢ |={(Set.univ : Set ℕ)}=> iprop(⌜(∀ a, s'.mem.mem ((inM a).view.loc (d.tc : Thread nD τ)) = sent m d a)
          ∧ ∀ a, s'.mem.mem ((outM a).view.loc (d.tc : Thread nD τ)) = gathered m d a⌝ ∗ SI s') := by
  unfold final
  iintro ⟨⟨H1, H2⟩, HS⟩
  ihave H := (pointsTo_read_all Finset.univ (fun a => (inM a).view.loc (d.tc : Thread nD τ)) (sent m d) s') $$ [H1 HS]
  · isplitl [H1] <;> iassumption
  icases H with ⟨%h1, HS⟩
  ihave H := (pointsTo_read_all Finset.univ (fun a => (outM a).view.loc (d.tc : Thread nD τ)) (gathered m d) s') $$ [H2 HS]
  · isplitl [H2] <;> iassumption
  icases H with ⟨%h2, HS⟩
  imodintro
  isplitr
  · ipureintro; exact ⟨fun a => h1 a (Finset.mem_univ a), fun a => h2 a (Finset.mem_univ a)⟩
  iexact HS

/-- The scoped memory is what the call stages through: nothing. -/
theorem scoped_staging (d : Dev nD) :
    (scopedBufs (d.tc : Thread nD τ) : sProp 𝕄) = iprop(Pipeline.Dat.staging (cfg0) d ∗ emp) := by
  rw [Pipeline.scopedBufs_split (cfgs) (0 : Fin 1) (fun k => k.1.elim0) (fun k => k.1.elim0) (fun w => w.elim0) d, Gen.scopedRest0_eq]
  rfl

instance : IsEmpty (Fin (cfg0).W) := ⟨fun w => w.elim0⟩

/-- Every run of the program, from any memory: the arrays sent are as they were, every result is gathered, and every
    semaphore is at zero. -/
theorem run_main (g : Dev nD → PrngReg) :
    θ_run (defs (F := F)) (onTc main) ⟨m, fun _ => 0, g⟩ fun r =>
      (∀ d : Dev nD, (∀ a, r.2.mem ((inM a).view.loc (d.tc : Thread nD τ)) = sent m d a)
        ∧ ∀ a, r.2.mem ((outM a).view.loc (d.tc : Thread nD τ)) = gathered m d a) ∧ r.2.sem = fun _ => 0 :=
  run_whole net (pays m) m g (fun d => debts d sends) (fun _ _ => 0) cfg0 defs₀ (held0 m) (held2 m) (final m) all_scoped rfl Gen.cellOf_inj
    scoped_staging (deal_held m) loops rfl (fun t => heq_of_eq (body_eq_loops t))
    (fun κ c Kt => by
      iintro ⟨⟨-, H⟩, HO⟩
      iapply (runs_loops m κ c Kt)
      isplitl [H] <;> iassumption)
    (finish m)
    (fun d s => (∀ a, s.mem ((inM a).view.loc (d.tc : Thread nD τ)) = sent m d a)
      ∧ ∀ a, s.mem ((outM a).view.loc (d.tc : Thread nD τ)) = gathered m d a)
    (read_final m)

end Cert.Exchange

end
-- ==== Proof.Swap.lean ====
module

public import proofs.«01_k».proof.Proof.Deal
public import Idealize.ShloMosaic.Lib.Layout

/-!
# What the exchange computes

Read as one whole array of eight times eight slabs, the array sent is transposed: slab `s` of device `d` becomes slab `d` of
device `s`. Here that transposition, as it is stated of whole arrays, is read at one device's block.
-/

@[expose] public section

noncomputable section

namespace Cert.Exchange

open Cert.Wire
open Idealize.ShloMosaic
open Idealize.ShloMosaic.TcCoe
open Idealize.SL.Sem
open Cert.KernelIdeal (nD τ sig main_arg0 main_arg1 main_arg2 main_arg3 main_arg4 main_v1_0 main_v1_1 main_v1_2 main_v1_3 main_v1_4)

/-- All devices' slabs in one array, -/
abbrev All (R C : ℕ) : Shape := ⟨3, ![64, R, C]⟩
/-- and with the device and the slab on axes of their own. -/
abbrev Pairs (R C : ℕ) : Shape := ⟨4, ![8, 8, R, C]⟩

section Swap

variable {α : Type} {R C : ℕ}

/-- Device and slab change places. -/
def swap (X : (All R C).Idx → α) (h₁ : (All R C).ShapeCasts (Pairs R C)) (h₂ : (Pairs R C).Transposes [1, 0, 2, 3] (Pairs R C))
    (h₃ : (Pairs R C).ShapeCasts (All R C)) : (All R C).Idx → α :=
  shapeCast (All R C) (transpose (Pairs R C) [1, 0, 2, 3] (shapeCast (Pairs R C) X h₁) h₂) h₃

/-- Slab `s` of device `d`. -/
abbrev slabNo (d s : Fin 8) : Fin 64 := ⟨d.val * 8 + s.val, by omega⟩

theorem swap_apply (X : (All R C).Idx → α) (h₁ : (All R C).ShapeCasts (Pairs R C)) (h₂ : (Pairs R C).Transposes [1, 0, 2, 3] (Pairs R C))
    (h₃ : (Pairs R C).ShapeCasts (All R C)) (d s : Fin 8) (r : Fin R) (c : Fin C) :
    swap X h₁ h₂ h₃ (ValueIdx.ix3 (slabNo d s) r c) = X (ValueIdx.ix3 (slabNo s d) r c) := by
  unfold swap
  refine (shapeCast_apply _ h₃ _ (ValueIdx.ix4 d s r c) ?_).trans ?_
  · rw [Shape.rowMajor_val_four, Shape.rowMajor_val_three]; rfl
  refine (transpose_apply _ _ h₂ (ValueIdx.ix4 d s r c) (ValueIdx.ix4 s d r c) (fun b => match b with | ⟨0, _⟩ => rfl | ⟨1, _⟩ => rfl | ⟨2, _⟩ => rfl | ⟨3, _⟩ => rfl)).trans ?_
  refine shapeCast_apply _ h₁ _ _ ?_
  rw [Shape.rowMajor_val_four, Shape.rowMajor_val_three]; rfl

theorem block_at (X : (All R C).Idx → α) (h : Layout.Tiles (Slabs R C) (All R C) 0 8) (d : Fin 8) (i : (Slabs R C).Idx) :
    Layout.block (Slabs R C) (All R C) 0 8 d X h i = X (ValueIdx.ix3 (slabNo d (i 0)) (i 1) (i 2)) := by
  refine congrArg X (funext fun b => Fin.ext ?_)
  fin_cases b <;> rfl

/-- Device `d`'s block of the swapped array, slab by slab: slab `d` of each device's block. -/
theorem swap_block (X : (All R C).Idx → α) (h₁ : (All R C).ShapeCasts (Pairs R C)) (h₂ : (Pairs R C).Transposes [1, 0, 2, 3] (Pairs R C))
    (h₃ : (Pairs R C).ShapeCasts (All R C)) (h : Layout.Tiles (Slabs R C) (All R C) 0 8) (d : Fin 8) :
    (fun i : (Slabs R C).Idx => Layout.block (Slabs R C) (All R C) 0 8 (i 0) X h (ValueIdx.ix3 d (i 1) (i 2)))
      = Layout.block (Slabs R C) (All R C) 0 8 d (swap X h₁ h₂ h₃) h := by
  funext i
  refine (block_at X h (i 0 : Fin 8) _).trans (Eq.trans ?_ (block_at _ h d i).symm)
  exact (swap_apply X h₁ h₂ h₃ d (i 0 : Fin 8) (i 1) (i 2)).symm

end Swap

variable {F : FTy → Type} [FloatOps F]

/-- What device `d` gathered of array `a`, where the devices' arrays are the blocks of `X`. -/
theorem gathered_swap (m : (ℓ : Loc nD τ sig) → Buf (Elt F) ℓ) (d : Dev nD) (a : Fin 5) (X : (All (rows a) (cols a)).Idx → Elt F .bf16)
    (h : Layout.Tiles (Slabs (rows a) (cols a)) (All (rows a) (cols a)) 0 8)
    (hX : ∀ c : Dev nD, (inM a).view.read (Elt F) (sent m c a) = Layout.block (Slabs (rows a) (cols a)) (All (rows a) (cols a)) 0 8 c X h)
    (h₁ : (All (rows a) (cols a)).ShapeCasts (Pairs (rows a) (cols a))) (h₂ : (Pairs (rows a) (cols a)).Transposes [1, 0, 2, 3] (Pairs (rows a) (cols a)))
    (h₃ : (Pairs (rows a) (cols a)).ShapeCasts (All (rows a) (cols a))) :
    (outM a).view.read (Elt F) (gathered m d a) = Layout.block (Slabs (rows a) (cols a)) (All (rows a) (cols a)) 0 8 d (swap X h₁ h₂ h₃) h := by
  unfold gathered
  rw [View.read_write_univ, ← swap_block]
  funext i
  exact congrFun (hX (i 0 : Dev nD)) _

/-- Every run of the program from the blocks of five whole arrays ends with each result at its block of the swapped array. -/
theorem run_value (m : (ℓ : Loc nD τ sig) → Buf (Elt F) ℓ) (g : Dev nD → PrngReg)
    (X : (a : Fin 5) → (All (rows a) (cols a)).Idx → Elt F .bf16)
    (h : ∀ a, Layout.Tiles (Slabs (rows a) (cols a)) (All (rows a) (cols a)) 0 8)
    (hX : ∀ (c : Dev nD) a, (inM a).view.read (Elt F) (sent m c a) = Layout.block (Slabs (rows a) (cols a)) (All (rows a) (cols a)) 0 8 c (X a) (h a))
    (h₁ : ∀ a, (All (rows a) (cols a)).ShapeCasts (Pairs (rows a) (cols a)))
    (h₂ : ∀ a, (Pairs (rows a) (cols a)).Transposes [1, 0, 2, 3] (Pairs (rows a) (cols a)))
    (h₃ : ∀ a, (Pairs (rows a) (cols a)).ShapeCasts (All (rows a) (cols a))) :
    θ_run (Cert.KernelIdeal.defs (F := F)) (onTc Cert.KernelIdeal.main) ⟨m, fun _ => 0, g⟩ fun r =>
      ∀ c : Dev nD, (∀ a, (outM a).view.read (Elt F) (r.2.mem ((outM a).view.loc (c.tc : Thread nD τ)))
          = Layout.block (Slabs (rows a) (cols a)) (All (rows a) (cols a)) 0 8 c (swap (X a) (h₁ a) (h₂ a) (h₃ a)) (h a))
        ∧ ∀ a, r.2.mem ((inM a).view.loc (c.tc : Thread nD τ)) = sent m c a :=
  (θ_run _ _ _).mono (fun r hr c => ⟨fun a => by
    rw [(hr.1 c).2 a]; exact gathered_swap m c a (X a) (h a) (fun c => hX c a) (h₁ a) (h₂ a) (h₃ a), (hr.1 c).1⟩) (run_main m g)

end Cert.Exchange

end
-- ==== Proof.Blocks.lean ====
module

public import proofs.«01_k».proof.Proof.Swap
public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Gen.Reference.Run

/-!
# The claims

The run of the program, stated array by array, closes the claims: over the words of the machine, where the program as
printed and as idealized have the same text, and over the extended reals.
-/

@[expose] public section

noncomputable section

namespace Cert.Exchange

open Cert.Wire
open Idealize.ShloMosaic
open Idealize.ShloMosaic.TcCoe
open Idealize.SL.Sem
open Cert.KernelIdeal (nD τ sig main_arg0 main_arg1 main_arg2 main_arg3 main_arg4 main_v1_0 main_v1_1 main_v1_2 main_v1_3 main_v1_4)

theorem tiles (a : Fin 5) : Layout.Tiles (Slabs (rows a) (cols a)) (All (rows a) (cols a)) 0 8 := by
  fin_cases a <;> decide

theorem casts (a : Fin 5) : (All (rows a) (cols a)).ShapeCasts (Pairs (rows a) (cols a)) := by
  fin_cases a <;> decide

theorem casts_back (a : Fin 5) : (Pairs (rows a) (cols a)).ShapeCasts (All (rows a) (cols a)) := by
  fin_cases a <;> decide

theorem transposes (a : Fin 5) : (Pairs (rows a) (cols a)).Transposes [1, 0, 2, 3] (Pairs (rows a) (cols a)) := by
  fin_cases a <;> decide

variable {F : FTy → Type} [FloatOps F]

/-- The whole arrays the devices' arrays are the blocks of. -/
abbrev wholes (X0 : (All 2048 1282).Idx → Elt F .bf16) (X1 : (All 128 1024).Idx → Elt F .bf16) (X2 : (All 1024 256).Idx → Elt F .bf16)
    (X3 : (All 1024 256).Idx → Elt F .bf16) (X4 : (All 256 2048).Idx → Elt F .bf16) :
    (a : Fin 5) → (All (rows a) (cols a)).Idx → Elt F .bf16
  | 0 => X0 | 1 => X1 | 2 => X2 | 3 => X3 | 4 => X4

/-- The whole result an array's blocks make up. -/
abbrev swapped (a : Fin 5) (X : (All (rows a) (cols a)).Idx → Elt F .bf16) : (All (rows a) (cols a)).Idx → Elt F .bf16 :=
  swap X (casts a) (transposes a) (casts_back a)

/-- `run_value`, array by array. -/
theorem run_blocks (m : (ℓ : Loc nD τ sig) → Buf (Elt F) ℓ) (g : Dev nD → PrngReg)
    (X0 : (All 2048 1282).Idx → Elt F .bf16) (X1 : (All 128 1024).Idx → Elt F .bf16) (X2 : (All 1024 256).Idx → Elt F .bf16)
    (X3 : (All 1024 256).Idx → Elt F .bf16) (X4 : (All 256 2048).Idx → Elt F .bf16)
    (h : ∀ c : Dev nD,
      m ((c.tc : Thread nD τ).loc main_arg0) = Layout.block ⟨3, ![8, 2048, 1282]⟩ ⟨3, ![64, 2048, 1282]⟩ 0 8 c X0
      ∧ m ((c.tc : Thread nD τ).loc main_arg1) = Layout.block ⟨3, ![8, 128, 1024]⟩ ⟨3, ![64, 128, 1024]⟩ 0 8 c X1
      ∧ m ((c.tc : Thread nD τ).loc main_arg2) = Layout.block ⟨3, ![8, 1024, 256]⟩ ⟨3, ![64, 1024, 256]⟩ 0 8 c X2
      ∧ m ((c.tc : Thread nD τ).loc main_arg3) = Layout.block ⟨3, ![8, 1024, 256]⟩ ⟨3, ![64, 1024, 256]⟩ 0 8 c X3
      ∧ m ((c.tc : Thread nD τ).loc main_arg4) = Layout.block ⟨3, ![8, 256, 2048]⟩ ⟨3, ![64, 256, 2048]⟩ 0 8 c X4) :
    θ_run (Cert.KernelIdeal.defs (F := F)) (onTc Cert.KernelIdeal.main) ⟨m, fun _ => 0, g⟩ fun r => ∀ c : Dev nD,
      r.2.mem ((c.tc : Thread nD τ).loc main_v1_0) = Layout.block ⟨3, ![8, 2048, 1282]⟩ ⟨3, ![64, 2048, 1282]⟩ 0 8 c (swapped (F := F) 0 X0)
      ∧ r.2.mem ((c.tc : Thread nD τ).loc main_v1_1) = Layout.block ⟨3, ![8, 128, 1024]⟩ ⟨3, ![64, 128, 1024]⟩ 0 8 c (swapped (F := F) 1 X1)
      ∧ r.2.mem ((c.tc : Thread nD τ).loc main_v1_2) = Layout.block ⟨3, ![8, 1024, 256]⟩ ⟨3, ![64, 1024, 256]⟩ 0 8 c (swapped (F := F) 2 X2)
      ∧ r.2.mem ((c.tc : Thread nD τ).loc main_v1_3) = Layout.block ⟨3, ![8, 1024, 256]⟩ ⟨3, ![64, 1024, 256]⟩ 0 8 c (swapped (F := F) 3 X3)
      ∧ r.2.mem ((c.tc : Thread nD τ).loc main_v1_4) = Layout.block ⟨3, ![8, 256, 2048]⟩ ⟨3, ![64, 256, 2048]⟩ 0 8 c (swapped (F := F) 4 X4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun _ hr c => ⟨(hr c).1 0, (hr c).1 1, (hr c).1 2, (hr c).1 3, (hr c).1 4,
      (hr c).2 0, (hr c).2 1, (hr c).2 2, (hr c).2 3, (hr c).2 4⟩)
    (run_value m g (wholes X0 X1 X2 X3 X4) tiles (fun c a => by
      match a with
      | 0 => exact (h c).1
      | 1 => exact (h c).2.1
      | 2 => exact (h c).2.2.1
      | 3 => exact (h c).2.2.2.1
      | 4 => exact (h c).2.2.2.2) casts transposes casts_back)

/-- Every run ends with the arguments unchanged and every semaphore at zero. -/
theorem run_frame (m : (ℓ : Loc nD τ sig) → Buf (Elt F) ℓ) (g : Dev nD → PrngReg) :
    θ_run (Cert.KernelIdeal.defs (F := F)) (onTc Cert.KernelIdeal.main) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  (θ_run _ _ _).mono (fun _ hr => ⟨fun c => ⟨(hr.1 c).1 0, (hr.1 c).1 1, (hr.1 c).1 2, (hr.1 c).1 3, (hr.1 c).1 4⟩, hr.2⟩) (run_main m g)

theorem frame_kernelIdeal : Cert.quiescent_KernelIdeal := fun m g _ => run_frame m g

theorem frame_kernel : Cert.quiescent_Kernel := fun m g _ => run_frame (F := Bits) m g

theorem frame_referenceIdeal : Cert.quiescent_ReferenceIdeal := fun m g _ =>
  (θ_run _ _ _).mono (fun r hr => ⟨fun c => (hr c).2.2.2.2.2, sem_eq_zero_of_no_sems (by decide) r.2⟩) (Cert.ReferenceIdeal.Value.run m g)

theorem frame_reference : Cert.quiescent_Reference := fun m g _ =>
  (θ_run _ _ _).mono (fun r hr => ⟨fun c => (hr c).2.2.2.2.2, sem_eq_zero_of_no_sems (by decide) r.2⟩) (Cert.Reference.Value.run m g)

theorem algebraic : Cert.algebraic_KernelIdeal_ReferenceIdeal := fun m g m' g' _ h =>
  ⟨_, _, _, _, _, run_blocks m g _ _ _ _ _ h,
    (θ_run _ _ _).mono (fun _ hr => hr 0) (Cert.ReferenceIdeal.Value.run m' g')⟩

theorem bitexact : Cert.bitexact_Kernel_Reference := fun m g m' g' _ h =>
  ⟨_, _, _, _, _, run_blocks (F := Bits) m g _ _ _ _ _ h,
    (θ_run _ _ _).mono (fun _ hr => hr 0) (Cert.Reference.Value.run m' g')⟩

end Cert.Exchange

end
-- ==== Proof.Step.lean ====
module

public import Idealize.ShloMosaic.Lib.IdealHost
public import Idealize.ShloMosaic.Lib.Pipeline.Value
public import Idealize.ShloMosaic.PureOps.Ideal
public import Idealize.ShloMosaic.PureOps.Ideal.Laws

/-!
# The AdamW step of one weight, element by element

The gradient is the sum of the eight slabs; the two moments and the change of the weight are functions of one element each.
Here they are for a weight of any two extents, in the order of the kernel's operations and over any float values; then, over
the extended reals, they are set beside the terms that the plain step is made of.
-/

@[expose] public section

noncomputable section

namespace Cert.Step

open Idealize.ShloMosaic

variable {F : FTy → Type} [FloatOps F]
variable {r c : ℕ}

/-- A weight's shape. -/
abbrev Sheet (r c : ℕ) : Shape := ⟨2, ![r, c]⟩
/-- Slabs of that shape. -/
abbrev Slabs (n r c : ℕ) : Shape := ⟨3, ![n, r, c]⟩

/-- One slab with its unit axis. -/
abbrev Slab (r c : ℕ) : Shape := ⟨3, ![1, r, c]⟩

/-- Element `i` of slab `s`. -/
abbrev at_ {n : ℕ} (s : Fin n) (i : (Sheet r c).Idx) : (Slabs n r c).Idx := fun a => match a with
  | ⟨0, _⟩ => s
  | ⟨1, _⟩ => i 0
  | ⟨2, _⟩ => i 1

/-- Eight numbers added up, the first two first. -/
def sum (p : Fin 8 → F .f32) : F .f32 :=
  FloatOps.addf (FloatOps.addf (FloatOps.addf (FloatOps.addf (FloatOps.addf (FloatOps.addf (FloatOps.addf (p 0) (p 1)) (p 2)) (p 3)) (p 4)) (p 5)) (p 6)) (p 7)

/-- The sum of eight slabs of bf16 values. -/
def total (a : (Slabs 8 r c).Idx → F .bf16) : (Sheet r c).Idx → F .f32 := fun i =>
  sum fun s => FloatOps.extf .f32 (by decide : FTy.bits .bf16 < FTy.bits .f32) (a (at_ s i))

/-- The sum of eight slabs of f32 values. -/
def total₃₂ (a : (Slabs 8 r c).Idx → F .f32) : (Sheet r c).Idx → F .f32 := fun i => sum fun s => a (at_ s i)

/-- The new first moment. -/
def first (m g : F .f32) : F .f32 :=
  FloatOps.addf (FloatOps.mulf (Scalar.ofBits .f32 0x3F666666#32) m) (FloatOps.mulf (Scalar.ofBits .f32 0x3DCCCCCD#32) g)

/-- The new second moment. -/
def second (v g : F .f32) : F .f32 :=
  FloatOps.addf (FloatOps.mulf (Scalar.ofBits .f32 0x3F7FBE77#32) v) (FloatOps.mulf (Scalar.ofBits .f32 0x3A83126F#32) (FloatOps.mulf g g))

/-- The change of the weight `w`, from the new moments and the two factors that correct them. -/
def change (k₁ k₂ w m v : F .f32) : F .f32 :=
  FloatOps.mulf (Scalar.ofBits .f32 0xBA83126F#32)
    (FloatOps.addf
      (FloatOps.divf (FloatOps.mulf m k₁) (FloatOps.addf (FloatOps.sqrt (FloatOps.mulf v k₂)) (Scalar.ofBits .f32 0x322BCC77#32)))
      (FloatOps.mulf (Scalar.ofBits .f32 0x3C23D70A#32) w))

theorem origin : (![0, 0] : Fin 2 → ℕ) = fun _ => 0 := funext fun a => by fin_cases a <;> rfl

/-! ## The kernel's sum of a loaded tile -/

/-- Slab `s` of a tile, as the kernel loads it, without its unit axis. -/
theorem load_slab {n : ℕ} {e : EltTy} (X : Vec F (Slabs n r c) e) (s : Fin n) (inb) (h : (Slab r c).ShapeCasts (Sheet r c)) (y : (Sheet r c).Idx) :
    shapeCast (Sheet r c) (View.ld (Val := Elt F) X (Rect.unit (s := Slabs n r c) ![s, 0, 0] (Slab r c).size inb)) h y = X (at_ s y) := by
  refine (shapeCast_dropUnit_apply ![r, c] _ h y).trans (congrArg X (funext fun a => Fin.ext ?_))
  fin_cases a
  · show (s : ℕ) + 1 * 0 = s; omega
  · show 0 + 1 * (y 0 : ℕ) = y 0; omega
  · show 0 + 1 * (y 1 : ℕ) = y 1; omega

/-- The eight loaded slabs of a tile, added up in the kernel's order. -/
theorem total_load (hlt : FTy.bits .bf16 < FTy.bits .f32) (X : Vec F (Slabs 8 r c) .bf16) (i0 i1 i2 i3 i4 i5 i6 i7)
    (h : (Slab r c).ShapeCasts (Sheet r c)) :
    let p := fun (s : Fin 8) inb => extf .f32 (shapeCast (Sheet r c) (View.ld (Val := Elt F) (e' := .bf16) X (Rect.unit (s := Slabs 8 r c) ![s, 0, 0] (Slab r c).size inb)) h) hlt
    addf (addf (addf (addf (addf (addf (addf (p 0 i0) (p 1 i1)) (p 2 i2)) (p 3 i3)) (p 4 i4)) (p 5 i5)) (p 6 i6)) (p 7 i7) = total X := by
  intro p
  have e : ∀ s inb, p s inb = fun y => FloatOps.extf .f32 hlt (X (at_ s y)) := fun s inb =>
    funext fun y => congrArg (FloatOps.extf .f32 hlt) (load_slab X s inb h y)
  simp only [e]
  rfl

/-- The same of slabs that are f32 already. -/
theorem total₃₂_load (X : Vec F (Slabs 8 r c) .f32) (i0 i1 i2 i3 i4 i5 i6 i7) (h : (Slab r c).ShapeCasts (Sheet r c)) :
    let p := fun (s : Fin 8) inb => shapeCast (Sheet r c) (View.ld (Val := Elt F) (e' := .f32) X (Rect.unit (s := Slabs 8 r c) ![s, 0, 0] (Slab r c).size inb)) h
    addf (addf (addf (addf (addf (addf (addf (p 0 i0) (p 1 i1)) (p 2 i2)) (p 3 i3)) (p 4 i4)) (p 5 i5)) (p 6 i6)) (p 7 i7) = total₃₂ (F := F) X := by
  intro p
  have e : ∀ s inb, p s inb = fun y => X (at_ s y) := fun s inb => funext (load_slab X s inb h)
  simp only [e]
  rfl

/-- Sums of slabs agree where the slabs do. -/
theorem total_congr {r' c' : ℕ} {X : (Slabs 8 r c).Idx → F .bf16} {Y : (Slabs 8 r' c').Idx → F .bf16} {y : (Sheet r c).Idx} {z : (Sheet r' c').Idx}
    (h : ∀ s, X (at_ s y) = Y (at_ s z)) : total X y = total Y z := by
  simp only [total, h]

theorem total₃₂_congr {r' c' : ℕ} {X : (Slabs 8 r c).Idx → F .f32} {Y : (Slabs 8 r' c').Idx → F .f32} {y : (Sheet r c).Idx} {z : (Sheet r' c').Idx}
    (h : ∀ s, X (at_ s y) = Y (at_ s z)) : total₃₂ X y = total₃₂ Y z := by
  simp only [total₃₂, h]

/-- An element lies in the tile of whole rows that its row belongs to. -/
theorem mem_rows {n : ℕ} (hn : 0 < n) (i : (Sheet r c).Idx) (off : Fin 2 → ℕ) (inb) (h0 : off 0 = (i 0 : ℕ) / n * n) (h1 : off 1 = 0) :
    i ∈ (Rect.unit (s := Sheet r c) off ![n, c] inb).set := by
  rw [Rect.mem_set_unit]
  intro a
  fin_cases a
  · show off 0 ≤ (i 0 : ℕ) ∧ (i 0 : ℕ) < off 0 + n
    rw [h0]
    have := Nat.div_add_mod' (i 0 : ℕ) n
    have := Nat.mod_lt (i 0 : ℕ) hn
    omega
  · show off 1 ≤ (i 1 : ℕ) ∧ (i 1 : ℕ) < off 1 + c
    have : (i 1 : ℕ) < c := (i 1).isLt
    omega

/-! ## Over the extended reals -/

/-- The correction of the first moment, as the plain step's float32 holds it. -/
theorem left₁ : Ideal.ofBits .f32 0x3F26BD02#32 = ((5463681 / 8388608 : ℝ) : EReal) := by
  simp [Ideal.ofBits, Ideal.ieee, -EReal.coe_mul]; norm_num

/-- The correction of the second moment, as the plain step's float32 holds it. -/
theorem left₂ : Ideal.ofBits .f32 0x3C231ACC#32 = ((2672307 / 268435456 : ℝ) : EReal) := by
  simp [Ideal.ofBits, Ideal.ieee, -EReal.coe_mul]; norm_num

/-- The word of zeros is zero. -/
theorem ofBits_zero : Ideal.ofBits .f32 0x00000000#32 = 0 := by
  simp [Ideal.ofBits, Ideal.ieee]

/-- Dividing by the first correction multiplies by the kernel's factor. -/
theorem div_left₁ (x : EReal) : Ideal.div x (Ideal.ofBits .f32 0x3F26BD02#32) = x * ((8388608 / 5463681 : ℝ) : EReal) := by
  rw [left₁, Ideal.div_coe (by norm_num)]; norm_num

/-- Dividing by the second correction multiplies by the kernel's factor. -/
theorem div_left₂ (x : EReal) : Ideal.div x (Ideal.ofBits .f32 0x3C231ACC#32) = x * ((268435456 / 2672307 : ℝ) : EReal) := by
  rw [left₂, Ideal.div_coe (by norm_num)]; norm_num

/-- A value without axes. -/
abbrev Point : Shape := ⟨0, ![]⟩

/-- The host's sum over slabs. -/
theorem sum_host {n : ℕ} (h : (Slabs n r c).ReducesTo [0] (Sheet r c)) (hu : 0 < Point.numel) (a : FVec Ideal (Slabs n r c) .f32) (i : (Sheet r c).Idx) :
    Host.reduceAdd a (constant Point .f32 0x00000000#32) h hu i = ∑ s : Fin n, a (at_ s i) := by
  have h' : (Slabs n r c).Reduces [0] (Sheet r c) := ⟨h.1, Nat.succ_pos _, h.2⟩
  have e : ∀ s : Fin n, h'.lift i s = at_ s i := fun s => by
    funext a; fin_cases a <;> rfl
  rw [ValueIdx.hostReduceAdd_apply, Ideal.hostReduceAdd_single h h', show constant (F := Ideal) Point .f32 0x00000000#32 (Shape.Idx.first hu) = 0 from ofBits_zero, zero_add]
  exact Finset.sum_congr rfl fun s _ => congrArg a (e s)

/-- The host's sum over eight slabs is the kernel's. -/
theorem total_host (hlt : FTy.bits .bf16 < FTy.bits .f32) (h : (Slabs 8 r c).ReducesTo [0] (Sheet r c)) (hu : 0 < Point.numel)
    (a : FVec Ideal (Slabs 8 r c) .bf16) :
    Host.reduceAdd (extf .f32 a hlt) (constant Point .f32 0x00000000#32) h hu = total (F := Ideal) a :=
  funext fun i => (sum_host h hu _ i).trans (Fin.sum_univ_eight _)

theorem total₃₂_host (h : (Slabs 8 r c).ReducesTo [0] (Sheet r c)) (hu : 0 < Point.numel) (a : FVec Ideal (Slabs 8 r c) .f32) :
    Host.reduceAdd a (constant Point .f32 0x00000000#32) h hu = total₃₂ (F := Ideal) a :=
  funext fun i => (sum_host h hu _ i).trans (Fin.sum_univ_eight _)

/-- The host's sum of one slab is that slab. -/
theorem one_host (h : (Slabs 1 r c).ReducesTo [0] (Sheet r c)) (hu : 0 < Point.numel) (a : FVec Ideal (Slabs 1 r c) .f32) :
    Host.reduceAdd a (constant Point .f32 0x00000000#32) h hu = fun i => a (at_ 0 i) :=
  funext fun i => (sum_host h hu a i).trans (Fin.sum_univ_one _)

variable (hb : Point.BroadcastsInDim (Sheet r c) ![])

theorem first_host (m g : FVec Ideal (Sheet r c) .f32) :
    addf (mulf (broadcastInDim (Sheet r c) ![] hb (constant Point .f32 0x3F666666#32)) m)
      (mulf (broadcastInDim (Sheet r c) ![] hb (constant Point .f32 0x3DCCCCCD#32)) g) = fun i => first (F := Ideal) (m i) (g i) := rfl

theorem second_host (v g : FVec Ideal (Sheet r c) .f32) :
    addf (mulf (broadcastInDim (Sheet r c) ![] hb (constant Point .f32 0x3F7FBE77#32)) v)
      (mulf (broadcastInDim (Sheet r c) ![] hb (constant Point .f32 0x3A83126F#32)) (mulf g g)) = fun i => second (F := Ideal) (v i) (g i) := rfl

theorem change_host (w m v : FVec Ideal (Sheet r c) .f32) :
    mulf (broadcastInDim (Sheet r c) ![] hb (constant Point .f32 0xBA83126F#32))
      (addf (Host.divf (Host.divf m (broadcastInDim (Sheet r c) ![] hb (constant Point .f32 0x3F26BD02#32)))
          (addf (Host.sqrt (Host.divf v (broadcastInDim (Sheet r c) ![] hb (constant Point .f32 0x3C231ACC#32))))
            (broadcastInDim (Sheet r c) ![] hb (constant Point .f32 0x322BCC77#32))))
        (mulf (broadcastInDim (Sheet r c) ![] hb (constant Point .f32 0x3C23D70A#32)) w))
      = fun i => change (F := Ideal) ((8388608 / 5463681 : ℝ) : EReal) ((268435456 / 2672307 : ℝ) : EReal) (w i) (m i) (v i) := by
  funext i
  show _ * (Ideal.div (Ideal.div (m i) (Ideal.ofBits .f32 0x3F26BD02#32)) (Ideal.sqrt (Ideal.div (v i) (Ideal.ofBits .f32 0x3C231ACC#32)) + _) + _) = _
  rw [div_left₁, div_left₂]
  rfl

end Cert.Step

end
-- ==== Proof.SumSmall.lean ====
module

public import proofs.«01_k».proof.Defs
public import proofs.«01_k».proof.Proof.Step
public import proofs.«01_k».proof.Proof.Gen.SumSmall.Frame
public import proofs.«01_k».proof.Proof.Gen.SumSmallIdeal.Value
public import proofs.«01_k».proof.Proof.Gen.PlainSumIdeal.Run

/-!
# The sum of the small gradients

Every tile that a grid point writes back is that tile of the sum of the eight devices' rows, and the tiles cover the result.
-/

@[expose] public section

noncomputable section

namespace Cert.SumSmallIdeal.Whole

open Cert.SumSmallIdeal Cert.SumSmallIdeal.Gen Cert.Step Idealize.ShloMosaic Idealize.ShloMosaic.TcCoe Idealize.SL.Sem

variable {F : FTy → Type} [FloatOps F] [Named F]
variable (m : (ℓ : Loc nD τ sig) → Buf (Elt F) ℓ) (ρ : Dev nD → PrngReg)

/-- Point `t` writes the rows of tile `t`, and loads the same rows of every slab. -/
theorem index_tile : ∀ t : Fin grid0.N, win0_1.index t 0 = t ∧ win0_1.index t 1 = 0
    ∧ win0_0.index t 0 = 0 ∧ win0_0.index t 1 = t ∧ win0_0.index t 2 = 0 := by
  decide +kernel

/-- Slab `s` of the loaded tile sits in slab `s` of the array, where the written tile sits in the result. -/
theorem slab_at (t : Fin cfg0.N) (y : S256x128.Idx) (s : Fin 8) :
    ((cfg0.win 0).blk t).view.emb (at_ (r := 256) (c := 128) (n := 8) s y) = at_ s (((cfg0.win 1).blk t).view.emb y) := by
  obtain ⟨w0, w1, l0, l1, l2⟩ := index_tile t
  funext a
  apply Fin.ext
  fin_cases a
  · exact (win0_0.rect_emb_val t _ 0).trans (by rw [l0]; show 0 * 8 + (s : ℕ) = s; omega)
  · exact (win0_0.rect_emb_val t _ 1).trans ((by rw [l1, w0] : win0_0.index t 1 * 256 + (y 0 : ℕ) = win0_1.index t 0 * 256 + y 0).trans (win0_1.rect_emb_val t y 0).symm)
  · exact (win0_0.rect_emb_val t _ 2).trans ((by rw [l2, w1] : win0_0.index t 2 * 128 + (y 1 : ℕ) = win0_1.index t 1 * 128 + y 1).trans (win0_1.rect_emb_val t y 1).symm)

/-- The points' tiles cover the result. -/
theorem covered (i : S2304x128.Idx) : ∃ t : Fin cfg0.N, i ∈ (win0_1.rect t).set := by
  have h0 : (i 0 : ℕ) < 2304 := (i 0).isLt
  have hN : grid0.N = 9 := N_0
  have e := index_tile ⟨(i 0 : ℕ) / 256, by omega⟩
  exact ⟨_, mem_rows (by decide) i _ _ (congrArg (· * 256) e.1) (by show _ * 128 = 0; rw [e.2.1, Nat.zero_mul])⟩

/-- The result is the sum of the slabs. -/
theorem final (d : Dev nD) : (dats m 0 d).arrAt 1 cfg0.N = total₃₂ (F := F) (m ((d : Thread nD τ).loc main_arg0)) :=
  (dats m 0 d).arrAt_eq_of_cover 1 _
    (fun t _ => by
      rw [Value.flushed1]
      unfold out0_1
      rw [View.canon_unit_zero origin]
      exact funext fun y => (congrFun (total₃₂_load (iblk m d 0 t) _ _ _ _ _ _ _ _ shapeCasts_S1x256x128_S256x128) y).trans
        (total₃₂_congr (F := F) fun s => congrArg (m ((d : Thread nD τ).loc main_arg0)) (slab_at t y s)))
    fun i => (covered i).imp fun t h => ⟨flush0_1 t, (View.set_slice_whole (Pipeline.arrRef spec0 1) (win0_1.rect t)).symm ▸ h⟩

theorem run : θ_run defs (onTc (τ := τ) (main (F := F))) ⟨m, fun _ => 0, ρ⟩ fun r => ∀ c : Dev nD,
      r.2.mem ((c : Thread nD τ).loc main_v0) = total₃₂ (F := F) (m ((c : Thread nD τ).loc main_arg0))
      ∧ r.2.mem ((c : Thread nD τ).loc main_arg0) = m ((c : Thread nD τ).loc main_arg0) :=
  (θ_run defs _ _).mono (fun _ h c => ⟨(h c).1.trans (final m c), (h c).2⟩) (Value.run_blocks m ρ)

/-! ## The claims -/

theorem frame_sum : Cert.quiescent_PlainSumIdeal := fun m ρ _ =>
  (θ_run Cert.PlainSumIdeal.defs _ _).mono (fun r h => ⟨fun c => (h c).2, sem_eq_zero_of_no_sems (by decide) r.2⟩)
    (Cert.PlainSumIdeal.Value.run (F := Ideal) m ρ)

theorem algebraic : Cert.algebraic_SumSmallIdeal_PlainSumIdeal := by
  intro m ρ m' ρ' _ agree
  refine ⟨_, run (F := Ideal) m ρ, ?_⟩
  refine (θ_run Cert.PlainSumIdeal.defs _ _).mono (fun _ h c => ⟨(h c).1.trans ?_, (h c).2⟩) (Cert.PlainSumIdeal.Value.run (F := Ideal) m' ρ')
  rw [agree c]
  exact total₃₂_host _ _ _

end Cert.SumSmallIdeal.Whole

end
-- ==== Proof.Norm.lean ====
module

public import proofs.«01_k».proof.Proof.Step
public import Idealize.ShloMosaic.Lib.ValueLayout
public import Idealize.ShloMosaic.Lib.ValueLayoutCasts
public import Idealize.ShloMosaic.Lib.KernelVsHost

/-!
# The derivative of the norm, row by row

A row's gradient is a function of that row of each argument and of the weight; the weight's gradient is a sum over the rows.
Here are both over the extended reals, and the reductions and broadcasts they are made of, read at an index of a sheet of any
two extents: as the kernel spells them and as the host does.
-/

@[expose] public section

noncomputable section

namespace Cert.Norm

open Cert.Step Idealize.ShloMosaic Idealize.ShloMosaic.ValueIdx
open scoped BigOperators

variable {r c : ℕ}

/-- A row of a sheet. -/
abbrev row (v : (Sheet r c).Idx → EReal) (a : Fin r) : Fin c → EReal := fun k => v (ix2 a k)

/-- The mean square of a row of 2048 elements, and the small constant. -/
def square (x : Fin c → EReal) : EReal :=
  Ideal.div (∑ k, x k * x k) (Ideal.ofBits .f32 0x45000000#32) + Ideal.ofBits .f32 0x358637BD#32

/-- The factor that the norm scales a row by. -/
def scale (x : Fin c → EReal) : EReal := Ideal.rsqrt (square x)

/-- The gradient of half the mean square. -/
def pull (x w g : Fin c → EReal) : EReal :=
  Ideal.div ((∑ k, x k * (g k * w k)) * (Ideal.ofBits .f32 0xBF000000#32 * Ideal.div (scale x) (square x))) (Ideal.ofBits .f32 0x45000000#32)

/-- The gradient of a row. -/
def turn (x w g : Fin c → EReal) (k : Fin c) : EReal :=
  g k * w k * scale x + x k * pull x w g + pull x w g * x k

/-- The gradient of a row, and what arrives past the norm. -/
def back (x w g q : Fin c → EReal) (k : Fin c) : EReal := turn x w g k + q k

/-- What a row adds to the gradient of the weight. -/
def share (x g : Fin c → EReal) (k : Fin c) : EReal := x k * scale x * g k

/-! ## At an index -/

variable {α : Type}

/-- A column spread over the rows' elements. -/
theorem spread_col (v : (Sheet r 1).Idx → α) (h : (Sheet r 1).Broadcasts (Sheet r c)) (a : Fin r) (k : Fin c) :
    broadcastTo (Sheet r c) v h (ix2 a k) = v (ix2 a 0) := by
  refine broadcastTo_apply v h _ _ fun x => ?_
  fin_cases x
  · show (a : ℕ) = if r = 1 then 0 else (a : ℕ)
    split <;> omega
  · rfl

theorem spread_col_host (v : (Sheet r 1).Idx → α) (h : (Sheet r 1).BroadcastsInDim (Sheet r c) ![0, 1]) (a : Fin r) (k : Fin c) :
    broadcastInDim (Sheet r c) ![0, 1] h v (ix2 a k) = v (ix2 a 0) := by
  refine broadcastInDim_apply _ h v _ _ fun x => ?_
  fin_cases x
  · show (a : ℕ) = if r = 1 then 0 else (a : ℕ)
    split <;> omega
  · rfl

/-- One number per row, spread over the row's elements. -/
theorem spread_vec_host (v : (⟨1, ![r]⟩ : Shape).Idx → α) (h : (⟨1, ![r]⟩ : Shape).BroadcastsInDim (Sheet r c) ![0]) (a : Fin r) (k : Fin c) :
    broadcastInDim (Sheet r c) ![0] h v (ix2 a k) = v (ix1 a) := by
  refine broadcastInDim_apply _ h v _ _ fun x => ?_
  fin_cases x
  show (a : ℕ) = if r = 1 then 0 else (a : ℕ)
  split <;> omega

/-- The kernel's sum of each row. -/
theorem sum_row (v : FVec Ideal (Sheet r c) .f32) (h : (Sheet r c).Reduces [1] ⟨1, ![r]⟩) (a : Fin r) :
    multiReduction .add [1] ⟨1, ![r]⟩ v 0x00000000#32 h (.inl rfl) rfl (ix1 a) = ∑ k : Fin c, v (ix2 a k) := by
  refine (Ideal.multiReduction_add_single v _ h _ _ _).trans ?_
  exact Finset.sum_congr rfl fun k _ => congrArg v (funext fun x => by fin_cases x <;> rfl)

/-- The kernel's sum of each column. -/
theorem sum_col (v : FVec Ideal (Sheet r c) .f32) (h : (Sheet r c).Reduces [0] ⟨1, ![c]⟩) (k : Fin c) :
    multiReduction .add [0] ⟨1, ![c]⟩ v 0x00000000#32 h (.inl rfl) rfl (ix1 k) = ∑ a : Fin r, v (ix2 a k) := by
  refine (Ideal.multiReduction_add_single v _ h _ _ _).trans ?_
  exact Finset.sum_congr rfl fun a _ => congrArg v (funext fun x => by fin_cases x <;> rfl)

/-- The host's sum of each row. -/
theorem sum_row_host (v : FVec Ideal (Sheet r c) .f32) (h : (Sheet r c).ReducesTo [1] ⟨1, ![r]⟩) (hu : 0 < Point.numel) (a : Fin r) :
    Host.reduceAdd v (constant Point .f32 0x00000000#32) h hu (ix1 a) = ∑ k : Fin c, v (ix2 a k) := by
  rw [hostReduceAdd_apply, Ideal.hostReduceAdd_single h ⟨h.1, Nat.succ_pos _, h.2⟩, show constant (F := Ideal) Point .f32 0x00000000#32 (Shape.Idx.first hu) = 0 from ofBits_zero, zero_add]
  exact Finset.sum_congr rfl fun k _ => congrArg v (funext fun x => by fin_cases x <;> rfl)

/-- The host's sum of each row, spread over a row of any length. -/
theorem sum_spread_host {n : ℕ} (v : FVec Ideal (Sheet r c) .f32) (h : (Sheet r c).ReducesTo [1] ⟨1, ![r]⟩) (hu : 0 < Point.numel)
    (hb : (⟨1, ![r]⟩ : Shape).BroadcastsInDim (Sheet r n) ![0]) (a : Fin r) (k : Fin n) :
    broadcastInDim (Sheet r n) ![0] hb (Host.reduceAdd v (constant Point .f32 0x00000000#32) h hu) (ix2 a k) = ∑ k : Fin c, v (ix2 a k) := by
  rw [spread_vec_host, sum_row_host]

/-- The host's sum of each column. -/
theorem sum_col_host (v : FVec Ideal (Sheet r c) .f32) (h : (Sheet r c).ReducesTo [0] ⟨1, ![c]⟩) (hu : 0 < Point.numel) (k : Fin c) :
    Host.reduceAdd v (constant Point .f32 0x00000000#32) h hu (ix1 k) = ∑ a : Fin r, v (ix2 a k) := by
  rw [hostReduceAdd_apply, Ideal.hostReduceAdd_single h ⟨h.1, Nat.succ_pos _, h.2⟩, show constant (F := Ideal) Point .f32 0x00000000#32 (Shape.Idx.first hu) = 0 from ofBits_zero, zero_add]
  exact Finset.sum_congr rfl fun a _ => congrArg v (funext fun x => by fin_cases x <;> rfl)

/-! ## The derivative of a sheet -/

/-- How a program moves between a sheet and its columns: it sums each row for the mean square, sums each row again, spreads a
column over the rows, spreads a column that it first sums over its one element, and repeats the weight in every row. -/
structure Moves (r c : ℕ) where
  sums : FVec Ideal (Sheet r c) .f32 → FVec Ideal (Sheet r 1) .f32
  sums_at : ∀ v a, sums v (ix2 a 0) = ∑ k : Fin c, v (ix2 a k)
  again : FVec Ideal (Sheet r c) .f32 → FVec Ideal (Sheet r 1) .f32
  again_at : ∀ v a, again v (ix2 a 0) = ∑ k : Fin c, v (ix2 a k)
  spread : FVec Ideal (Sheet r 1) .f32 → FVec Ideal (Sheet r c) .f32
  spread_at : ∀ v a k, spread v (ix2 a k) = v (ix2 a 0)
  summed : FVec Ideal (Sheet r 1) .f32 → FVec Ideal (Sheet r c) .f32
  summed_at : ∀ v a k, summed v (ix2 a k) = v (ix2 a 0)
  down : FVec Ideal (Sheet 1 c) .f32 → FVec Ideal (Sheet r c) .f32
  down_at : ∀ v a k, down v (ix2 a k) = v (ix2 0 k)

namespace Moves

variable (M : Moves r c) (x : FVec Ideal (Sheet r c) .f32) (w : FVec Ideal (Sheet 1 c) .f32) (g q : FVec Ideal (Sheet r c) .f32)

/-- Every row's mean square. -/
def squares : FVec Ideal (Sheet r 1) .f32 :=
  addf (divf (M.sums (mulf x x)) (broadcast (Sheet r 1) (Scalar.ofBits .f32 0x45000000#32))) (broadcast (Sheet r 1) (Scalar.ofBits .f32 0x358637BD#32))

/-- Every row's factor. -/
def scales : FVec Ideal (Sheet r 1) .f32 := rsqrt (M.squares x)

/-- Every row's gradient of half the mean square. -/
def pulls : FVec Ideal (Sheet r 1) .f32 :=
  divf (mulf (M.again (mulf x (mulf g (M.down w)))) (mulf (broadcast (Sheet r 1) (Scalar.ofBits .f32 0xBF000000#32)) (divf (M.scales x) (M.squares x))))
    (broadcast (Sheet r 1) (Scalar.ofBits .f32 0x45000000#32))

/-- The gradient of the sheet. -/
def turns : FVec Ideal (Sheet r c) .f32 :=
  addf (addf (mulf (mulf g (M.down w)) (M.spread (M.scales x))) (mulf x (M.summed (M.pulls x w g)))) (mulf (M.summed (M.pulls x w g)) x)

/-- The gradient of the sheet, and what arrives past the norm. -/
def backs : FVec Ideal (Sheet r c) .f32 := addf (M.turns x w g) q

/-- What every row adds to the gradient of the weight. -/
def shares : FVec Ideal (Sheet r c) .f32 := mulf (mulf x (M.spread (M.scales x))) g

theorem squares_at (a : Fin r) : M.squares x (ix2 a 0) = square (row x a) :=
  congrArg (fun s => Ideal.div s _ + _) (M.sums_at _ a)

theorem scales_at (a : Fin r) : M.scales x (ix2 a 0) = scale (row x a) := congrArg Ideal.rsqrt (M.squares_at x a)

theorem pulls_at (a : Fin r) : M.pulls x w g (ix2 a 0) = pull (row x a) (row w 0) (row g a) := by
  unfold pulls
  simp only [divf_apply, mulf_apply, M.again_at, M.down_at, M.scales_at, M.squares_at]
  rfl

theorem turns_at (a : Fin r) (k : Fin c) : M.turns x w g (ix2 a k) = turn (row x a) (row w 0) (row g a) k := by
  unfold turns
  simp only [addf_apply, mulf_apply, M.down_at, M.spread_at, M.summed_at, M.scales_at, M.pulls_at]
  rfl

theorem backs_at (a : Fin r) (k : Fin c) : M.backs x w g q (ix2 a k) = back (row x a) (row w 0) (row g a) (row q a) k :=
  congrArg (· + q (ix2 a k)) (M.turns_at x w g a k)

theorem shares_at (a : Fin r) (k : Fin c) : M.shares x g (ix2 a k) = share (row x a) (row g a) k := by
  unfold shares
  simp only [mulf_apply, M.spread_at, M.scales_at]
  rfl

/-- The host's moves. -/
def host (hr : (Sheet r c).ReducesTo [1] ⟨1, ![r]⟩) (h₁ : (Sheet r 1).ReducesTo [1] ⟨1, ![r]⟩) (hu : 0 < Point.numel)
    (hb : (⟨1, ![r]⟩ : Shape).BroadcastsInDim (Sheet r 1) ![0]) (hc : (⟨1, ![r]⟩ : Shape).ShapeCasts (Sheet r 1))
    (hs : (Sheet r 1).BroadcastsInDim (Sheet r c) ![0, 1]) (hv : (⟨1, ![r]⟩ : Shape).BroadcastsInDim (Sheet r c) ![0])
    (hd : (Sheet 1 c).BroadcastsInDim (Sheet r c) ![0, 1]) : Moves r c where
  sums v := broadcastInDim (Sheet r 1) ![0] hb (Host.reduceAdd v (constant Point .f32 0x00000000#32) hr hu)
  sums_at v a := by have e := sum_spread_host v hr hu hb a 0; exact e
  again v := shapeCast (Sheet r 1) (Host.reduceAdd v (constant Point .f32 0x00000000#32) hr hu) hc
  again_at v a := (shapeCast_a_a1_apply _ hc a 0).trans (sum_row_host v hr hu a)
  spread v := broadcastInDim (Sheet r c) ![0, 1] hs v
  spread_at v a k := spread_col_host v hs a k
  summed v := broadcastInDim (Sheet r c) ![0] hv (Host.reduceAdd v (constant Point .f32 0x00000000#32) h₁ hu)
  summed_at v a k := by have e := sum_spread_host v h₁ hu hv a k; exact e.trans (Fin.sum_univ_one _)
  down v := broadcastInDim (Sheet r c) ![0, 1] hd v
  down_at v a k := broadcastInDim_oneRow_apply hd v a k

end Moves

end Cert.Norm

end
-- ==== Proof.RmsBwd.lean ====
module

public import proofs.«01_k».proof.Defs
public import proofs.«01_k».proof.Proof.Norm
public import proofs.«01_k».proof.Proof.Gen.RmsBwd.Frame
public import proofs.«01_k».proof.Proof.Gen.RmsBwdIdeal.Value
public import proofs.«01_k».proof.Proof.Gen.PulledBackIdeal.Run
public import Idealize.ShloMosaic.Lib.Tactic
public import Idealize.ShloMosaic.Lib.Pipeline.Value

/-!
# The derivative of the norm

Every grid point writes its tile of rows of the first result, and adds its rows' share to the second result, which is written
back after the last point.
-/

@[expose] public section

noncomputable section

namespace Cert.RmsBwdIdeal.Whole

open Cert.RmsBwdIdeal Cert.RmsBwdIdeal.Gen Cert.Step Cert.Norm Idealize.ShloMosaic Idealize.ShloMosaic.TcCoe Idealize.ShloMosaic.ValueIdx Idealize.SL.Sem
open scoped BigOperators

/-! ## What the body leaves, from what the windows hold -/

section Body

variable {F : FTy → Type} [FloatOps F]
variable (d : Dev nD) (i : grid0.Coords)
  (b0 : Memref sig .tc .vmem S256x2048 .f32) (h0 : b0.IsWhole) (b1 : Memref sig .tc .vmem S1x2048 .f32) (h1 : b1.IsWhole)
  (b2 : Memref sig .tc .vmem S256x2048 .f32) (h2 : b2.IsWhole) (b3 : Memref sig .tc .vmem S256x2048 .f32) (h3 : b3.IsWhole)
  (b4 : Memref sig .tc .vmem S256x2048 .f32) (h4 : b4.IsWhole) (b5 : Memref sig .tc .vmem S1x2048 .f32) (h5 : b5.IsWhole)
  (x : Vec F S256x2048 .f32) (w : Vec F S1x2048 .f32) (g q : Vec F S256x2048 .f32) (o : Vec F S1x2048 .f32)

theorem rows_first (hc : cond0_0 i) : out0_A_4 d i b0 h0 b1 h1 b2 h2 b3 h3 b4 h4 b5 h5 hc x w g q = k0_pay6 x w g q := by
  unfold out0_A_4
  rw [View.read_writes_eq_canon _ _ _ (cover0_A_4 d i b0 h0 b1 h1 b2 h2 b3 h3 b4 h4 b5 h5 hc x w g q)]
  unfold kernelRun0_A
  dsimp only
  sl_unfold_words
  rw [View.canon_unit_zero origin]
  simp only [View.readAt_eq_ld, h0.read_unread, h1.read_unread, h2.read_unread, h3.read_unread,
    View.ld_unit_zero (S := S256x2048) origin, View.ld_unit_zero (S := S1x2048) origin]

theorem rows_later (hc : ¬cond0_0 i) : out0_B_4 d i b0 h0 b1 h1 b2 h2 b3 h3 b4 h4 b5 h5 hc x w g q o = k0_pay6 x w g q := by
  unfold out0_B_4
  rw [View.read_writes_eq_canon _ _ _ (cover0_B_4 d i b0 h0 b1 h1 b2 h2 b3 h3 b4 h4 b5 h5 hc x w g q o)]
  unfold kernelRun0_B
  dsimp only
  sl_unfold_words
  rw [View.canon_unit_zero origin]
  simp only [View.readAt_eq_ld, h0.read_unread, h1.read_unread, h2.read_unread, h3.read_unread,
    View.ld_unit_zero (S := S256x2048) origin, View.ld_unit_zero (S := S1x2048) origin]

theorem weight_first (hc : cond0_0 i) : out0_A_5 d i b0 h0 b1 h1 b2 h2 b3 h3 b4 h4 b5 h5 hc x w g q = addf k0_pay1 (k0_pay5 x g) := by
  unfold out0_A_5
  rw [View.read_writes_eq_canon _ _ _ (cover0_A_5 d i b0 h0 b1 h1 b2 h2 b3 h3 b4 h4 b5 h5 hc x w g q)]
  unfold kernelRun0_A
  dsimp only
  sl_unfold_words
  rw [View.canon_cons_unit_zero (S := S1x2048) origin, View.readCov_unit_zero (S := S1x2048) _ origin]
  unfold k0_pay2
  simp only [View.readAt_eq_ld, h0.read_unread, h2.read_unread, View.ld_unit_zero (S := S256x2048) origin, shapeCast_self]

theorem weight_later (hc : ¬cond0_0 i) : out0_B_5 d i b0 h0 b1 h1 b2 h2 b3 h3 b4 h4 b5 h5 hc x w g q o = addf o (k0_pay5 x g) := by
  unfold out0_B_5
  rw [View.read_writes_eq_canon _ _ _ (cover0_B_5 d i b0 h0 b1 h1 b2 h2 b3 h3 b4 h4 b5 h5 hc x w g q o)]
  unfold kernelRun0_B
  dsimp only
  sl_unfold_words
  rw [View.canon_unit_zero origin]
  unfold k0_pay2
  simp only [View.readAt_eq_ld, h0.read_unread, h2.read_unread, h5.read_unread, View.ld_unit_zero (S := S256x2048) origin,
    View.ld_unit_zero (S := S1x2048) origin, shapeCast_self]

end Body

/-! ## The body's values, row by row -/

section Rows

variable (x : FVec Ideal S256x2048 .f32) (w : FVec Ideal S1x2048 .f32) (g q : FVec Ideal S256x2048 .f32)

/-- The body's moves on a tile. -/
def tile : Moves 256 2048 where
  sums v := shapeCast S256x1 (multiReduction .add [1] S256 v 0x00000000#32 reduces_S256x2048_S256 (.inl rfl) rfl) shapeCasts_S256_S256x1
  sums_at v a := (shapeCast_a_a1_apply _ _ a 0).trans (sum_row v _ a)
  again v := shapeCast S256x1 (multiReduction .add [1] S256 v 0x00000000#32 reduces_S256x2048_S256 (.inl rfl) rfl) shapeCasts_S256_S256x1
  again_at v a := (shapeCast_a_a1_apply _ _ a 0).trans (sum_row v _ a)
  spread v := broadcastTo S256x2048 v broadcasts_S256x1_S256x2048
  spread_at v a k := spread_col v _ a k
  summed v := broadcastTo S256x2048 (shapeCast S256x1 (multiReduction .add [1] S256 v 0x00000000#32 reduces_S256x1_S256 (.inl rfl) rfl) shapeCasts_S256_S256x1) broadcasts_S256x1_S256x2048
  summed_at v a k := (spread_col _ _ a k).trans ((shapeCast_a_a1_apply _ _ a 0).trans ((sum_row v _ a).trans (Fin.sum_univ_one _)))
  down v := broadcastTo S256x2048 v broadcasts_S1x2048_S256x2048
  down_at v a k := broadcastTo_1b_ab_apply v _ a k

theorem back_tile (a : Fin 256) (k : Fin 2048) :
    k0_pay6 (F := Ideal) x w g q (ix2 a k) = back (row x a) (row w 0) (row g a) (row q a) k :=
  (congrFun (rfl : k0_pay6 (F := Ideal) x w g q = tile.backs x w g q) _).trans (tile.backs_at x w g q a k)

theorem share_tile (k : Fin 2048) : k0_pay5 (F := Ideal) x g (ix2 0 k) = ∑ a : Fin 256, share (row x a) (row g a) k :=
  (shapeCast_a_1a_apply _ _ 0 k).trans ((sum_col (tile.shares x g) _ k).trans (Finset.sum_congr rfl fun a _ => tile.shares_at x g a k))

end Rows

/-! ## Where the tiles sit -/

section Tiles

/-- Point `t` holds the rows of tile `t`, and the whole of the weight and of its gradient. -/
theorem index_tile : ∀ t : Fin grid0.N, (win0_0.index t 0 = t ∧ win0_0.index t 1 = 0) ∧ (win0_1.index t 0 = 0 ∧ win0_1.index t 1 = 0)
    ∧ (win0_2.index t 0 = t ∧ win0_2.index t 1 = 0) ∧ (win0_3.index t 0 = t ∧ win0_3.index t 1 = 0)
    ∧ (win0_4.index t 0 = t ∧ win0_4.index t 1 = 0) ∧ (win0_5.index t 0 = 0 ∧ win0_5.index t 1 = 0) := by
  decide +kernel

/-- Row `a` of tile `t`. -/
def line (t : Fin cfg0.N) (a : Fin 256) : Fin 2048 := ⟨t * 256 + a, by have := N_0; have : (t : ℕ) < 8 := lt_of_lt_of_eq t.isLt N_0; omega⟩

variable (t : Fin cfg0.N) (a : Fin 256) (k : Fin 2048)

theorem x_at : ((cfg0.win 0).blk t).view.emb (ix2 a k) = ix2 (line t a) k := funext fun e => Fin.ext (by
  fin_cases e
  · exact (win0_0.rect_emb_val t _ 0).trans (by rw [(index_tile t).1.1]; rfl)
  · exact (win0_0.rect_emb_val t _ 1).trans (by rw [(index_tile t).1.2]; exact Nat.zero_add _))

theorem w_at : ((cfg0.win 1).blk t).view.emb (ix2 0 k) = ix2 0 k := funext fun e => Fin.ext (by
  fin_cases e
  · exact (win0_1.rect_emb_val t _ 0).trans (by rw [(index_tile t).2.1.1]; rfl)
  · exact (win0_1.rect_emb_val t _ 1).trans (by rw [(index_tile t).2.1.2]; exact Nat.zero_add _))

theorem g_at : ((cfg0.win 2).blk t).view.emb (ix2 a k) = ix2 (line t a) k := funext fun e => Fin.ext (by
  fin_cases e
  · exact (win0_2.rect_emb_val t _ 0).trans (by rw [(index_tile t).2.2.1.1]; rfl)
  · exact (win0_2.rect_emb_val t _ 1).trans (by rw [(index_tile t).2.2.1.2]; exact Nat.zero_add _))

theorem q_at : ((cfg0.win 3).blk t).view.emb (ix2 a k) = ix2 (line t a) k := funext fun e => Fin.ext (by
  fin_cases e
  · exact (win0_3.rect_emb_val t _ 0).trans (by rw [(index_tile t).2.2.2.1.1]; rfl)
  · exact (win0_3.rect_emb_val t _ 1).trans (by rw [(index_tile t).2.2.2.1.2]; exact Nat.zero_add _))

theorem rows_at : ((cfg0.win 4).blk t).view.emb (ix2 a k) = ix2 (line t a) k := funext fun e => Fin.ext (by
  fin_cases e
  · exact (win0_4.rect_emb_val t _ 0).trans (by rw [(index_tile t).2.2.2.2.1.1]; rfl)
  · exact (win0_4.rect_emb_val t _ 1).trans (by rw [(index_tile t).2.2.2.2.1.2]; exact Nat.zero_add _))

theorem weight_at : ((cfg0.win 5).blk t).view.emb (ix2 0 k) = ix2 0 k := funext fun e => Fin.ext (by
  fin_cases e
  · exact (win0_5.rect_emb_val t _ 0).trans (by rw [(index_tile t).2.2.2.2.2.1]; rfl)
  · exact (win0_5.rect_emb_val t _ 1).trans (by rw [(index_tile t).2.2.2.2.2.2]; exact Nat.zero_add _))

/-- The points' tiles cover the first result. -/
theorem covered (i : S2048x2048.Idx) : ∃ t : Fin cfg0.N, i ∈ (win0_4.rect t).set := by
  have h0 : (i 0 : ℕ) < 2048 := (i 0).isLt
  have hN : grid0.N = 8 := N_0
  have e := (index_tile ⟨(i 0 : ℕ) / 256, by omega⟩).2.2.2.2.1
  exact ⟨_, mem_rows (by decide) i _ _ (congrArg (· * 256) e.1) (by show _ * 2048 = 0; rw [e.2, Nat.zero_mul])⟩

/-- Every point's block covers the second result. -/
theorem covered_weight (i : S1x2048.Idx) : i ∈ (win0_5.rect t).set := by
  have h0 : (i 0 : ℕ) < 1 := (i 0).isLt
  have e := (index_tile t).2.2.2.2.2
  exact mem_rows (r := 1) (c := 2048) (n := 1) (by decide) i _ _ (by show win0_5.index t 0 * 1 = _; rw [e.1]; omega) (by show win0_5.index t 1 * 2048 = 0; rw [e.2, Nat.zero_mul])

end Tiles

/-! ## The results -/

variable (m : (ℓ : Loc nD τ sig) → Buf (Elt Ideal) ℓ) (ρ : Dev nD → PrngReg) (d : Dev nD)

abbrev x : FVec Ideal S2048x2048 .f32 := m ((d : Thread nD τ).loc main_arg0)
abbrev w : FVec Ideal S1x2048 .f32 := m ((d : Thread nD τ).loc main_arg1)
abbrev g : FVec Ideal S2048x2048 .f32 := m ((d : Thread nD τ).loc main_arg2)
abbrev q : FVec Ideal S2048x2048 .f32 := m ((d : Thread nD τ).loc main_arg3)

/-- The gradient of the norm's argument, and what arrives past the norm. -/
def dx : FVec Ideal S2048x2048 .f32 := fun i => back (row (x m d) (i 0)) (row (w m d) 0) (row (g m d) (i 0)) (row (q m d) (i 0)) (i 1)

/-- What row `l` adds to element `k` of the weight's gradient. -/
def part (k : Fin 2048) (l : ℕ) : EReal := if h : l < 2048 then share (row (x m d) ⟨l, h⟩) (row (g m d) ⟨l, h⟩) k else 0

/-- The gradient of the weight. -/
def dw : FVec Ideal S1x2048 .f32 := fun i => ∑ a : Fin 2048, share (row (x m d) a) (row (g m d) a) (i 1)

theorem x_tile (t : Fin cfg0.N) (a : Fin 256) : row (r := 256) (c := 2048) (iblk m d 0 t) a = row (x m d) (line t a) := funext fun k => congrArg (x m d) (x_at t a k)
theorem w_tile (t : Fin cfg0.N) : row (r := 1) (c := 2048) (iblk m d 1 t) 0 = row (w m d) 0 := funext fun k => congrArg (w m d) (w_at t k)
theorem g_tile (t : Fin cfg0.N) (a : Fin 256) : row (r := 256) (c := 2048) (iblk m d 2 t) a = row (g m d) (line t a) := funext fun k => congrArg (g m d) (g_at t a k)
theorem q_tile (t : Fin cfg0.N) (a : Fin 256) : row (r := 256) (c := 2048) (iblk m d 3 t) a = row (q m d) (line t a) := funext fun k => congrArg (q m d) (q_at t a k)

/-- Every point leaves its rows of the first result. -/
theorem rows_point (t : Fin cfg0.N) : (outsAt0 m d t.val t.isLt).1 = k0_pay6 (iblk m d 0 t) (iblk m d 1 t) (iblk m d 2 t) (iblk m d 3 t) := by
  by_cases h : t.val % 8 = 0
  · rw [outsAt0_A m d t h, rows_first]
  · rw [outsAt0_B m d t h, rows_later]

theorem final_dx : (dats m 0 d).arrAt 4 cfg0.N = dx m d :=
  (dats m 0 d).arrAt_eq_of_cover 4 (dx m d)
    (fun t _ => by
      rw [Value.flushed4, rows_point]
      refine funext fun y => ?_
      obtain ⟨a, k, rfl⟩ : ∃ (a : Fin 256) (k : Fin 2048), y = ix2 a k := ⟨y 0, y 1, eq_ix2 y⟩
      refine (back_tile (iblk m d 0 t) (iblk m d 1 t) (iblk m d 2 t) (iblk m d 3 t) a k).trans ?_
      rw [x_tile, w_tile, g_tile, q_tile]
      exact (congrArg (dx m d) (rows_at t a k)).symm)
    fun i => (covered i).imp fun t h => ⟨flush0_4 t, (View.set_slice_whole (Pipeline.arrRef spec0 4) (win0_4.rect t)).symm ▸ h⟩

/-- What a point's rows add. -/
theorem share_point (t : Fin cfg0.N) (k : Fin 2048) :
    k0_pay5 (F := Ideal) (iblk m d 0 t) (iblk m d 2 t) (ix2 0 k) = ∑ l ∈ Finset.range 256, part m d k (t * 256 + l) := by
  rw [Finset.sum_range]
  refine (share_tile (iblk m d 0 t) (iblk m d 2 t) k).trans (Finset.sum_congr rfl fun a _ => ?_)
  rw [x_tile, g_tile]
  unfold part
  rw [dif_pos (show (t : ℕ) * 256 + a < 2048 from (line t a).isLt)]
  rfl

/-- After a point the second result holds what the rows so far add up to. -/
theorem weight_point (k : Fin 2048) : ∀ (n : ℕ) (h : n < cfg0.N), (outsAt0 m d n h).2 (ix2 0 k) = ∑ l ∈ Finset.range ((n + 1) * 256), part m d k l
  | 0, h => by
    rw [show outsAt0 m d 0 h = _ from outsAt0_A m d ⟨0, h⟩ rfl, weight_first]
    show Ideal.ofBits .f32 0x00000000#32 + _ = _
    rw [ofBits_zero, zero_add, share_point]
    simp
  | n + 1, h => by
    have hB : ¬(⟨n + 1, h⟩ : Fin cfg0.N).val % 8 = 0 := by
      have : n + 1 < 8 := lt_of_lt_of_eq h N_0
      dsimp only; omega
    rw [show outsAt0 m d (n + 1) h = _ from outsAt0_B m d ⟨n + 1, h⟩ hB, weight_later, show (n + 1 + 1) * 256 = (n + 1) * 256 + 256 from by omega, Finset.sum_range_add]
    exact congrArg₂ (· + ·) (weight_point k n _) (share_point m d ⟨n + 1, h⟩ k)

theorem final_dw : (dats m 0 d).arrAt 5 cfg0.N = dw m d :=
  (dats m 0 d).arrAt_eq_of_cover 5 (dw m d)
    (fun t hf => by
      have h7 : t.val = 7 := by have := (flush0_5 t).mp hf; have : (t : ℕ) < 8 := lt_of_lt_of_eq t.isLt N_0; omega
      rw [Value.flushed5]
      refine funext fun y => ?_
      obtain ⟨u, k, rfl⟩ : ∃ (u : Fin 1) (k : Fin 2048), y = ix2 u k := ⟨y 0, y 1, eq_ix2 y⟩
      obtain rfl : u = 0 := Subsingleton.elim _ _
      refine (weight_point m d k t.val t.isLt).trans ?_
      rw [h7, Finset.sum_range]
      refine (Finset.sum_congr rfl fun a _ => dif_pos a.isLt).trans ?_
      exact (congrArg (dw m d) (weight_at t k)).symm)
    fun i => ⟨t0_7, (flush0_5 t0_7).mpr rfl, (View.set_slice_whole (Pipeline.arrRef spec0 5) (win0_5.rect t0_7)).symm ▸ covered_weight t0_7 i⟩

/-- The run leaves the two gradients in the results, and the arguments as they were. -/
theorem run : θ_run defs (onTc (τ := τ) (main (F := Ideal))) ⟨m, fun _ => 0, ρ⟩ fun r => ∀ c : Dev nD,
      r.2.mem ((c : Thread nD τ).loc main_v0_0) = dx m c
      ∧ r.2.mem ((c : Thread nD τ).loc main_v0_1) = dw m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_dx m c), (h c).2.1.trans (final_dw m c), (h c).2.2⟩) (Value.run_blocks m ρ)

/-! ## The plain derivative -/

/-- The host's moves on the whole sheet. -/
abbrev sheet : Moves 2048 2048 :=
  .host Cert.PulledBackIdeal.Gen.reducesTo_S2048x2048_S2048_d1 Cert.PulledBackIdeal.Gen.reducesTo_S2048x1_S2048_d1 Cert.PulledBackIdeal.Gen.h_S_
    Cert.PulledBackIdeal.Gen.bcast_S2048_S2048x1_0 Cert.PulledBackIdeal.Gen.shapeCasts_S2048_S2048x1 Cert.PulledBackIdeal.Gen.bcast_S2048x1_S2048x2048_0_1
    Cert.PulledBackIdeal.Gen.bcast_S2048_S2048x2048_0 Cert.PulledBackIdeal.Gen.bcast_S1x2048_S2048x2048_0_1

theorem dx_host : sheet.backs (x m d) (w m d) (g m d) (q m d) = dx m d := funext fun i => by
  obtain ⟨a, k, rfl⟩ : ∃ (a : Fin 2048) (k : Fin 2048), i = ix2 a k := ⟨i 0, i 1, eq_ix2 i⟩
  exact sheet.backs_at _ _ _ _ a k

theorem dw_host : shapeCast S1x2048 (Host.reduceAdd (sheet.shares (x m d) (g m d)) (constant Point .f32 0x00000000#32)
    Cert.PulledBackIdeal.Gen.reducesTo_S2048x2048_S2048_d0 Cert.PulledBackIdeal.Gen.h_S_) Cert.PulledBackIdeal.Gen.shapeCasts_S2048_S1x2048 = dw m d := funext fun i => by
  obtain ⟨u, k, rfl⟩ : ∃ (u : Fin 1) (k : Fin 2048), i = ix2 u k := ⟨i 0, i 1, eq_ix2 i⟩
  exact (shapeCast_a_1a_apply _ _ u k).trans ((sum_col_host _ _ _ k).trans (Finset.sum_congr rfl fun a _ => sheet.shares_at _ _ a k))

/-! ## The claims -/

theorem frame_pulled : Cert.quiescent_PulledBackIdeal := fun m ρ _ =>
  (θ_run Cert.PulledBackIdeal.defs _ _).mono (fun r h => ⟨fun c => (h c).2.2, sem_eq_zero_of_no_sems (by decide) r.2⟩)
    (Cert.PulledBackIdeal.Value.run (F := Ideal) m ρ)

theorem algebraic : Cert.algebraic_RmsBwdIdeal_PulledBackIdeal := by
  intro m ρ m' ρ' _ agree
  refine ⟨_, _, run m ρ, ?_⟩
  refine (θ_run Cert.PulledBackIdeal.defs _ _).mono (fun _ h c => ?_) (Cert.PulledBackIdeal.Value.run (F := Ideal) m' ρ')
  obtain ⟨a0, a1, a2, a3⟩ := agree c
  have p := (h c).1; have s := (h c).2.1
  rw [a0, a1, a2, a3] at p
  rw [a0, a2] at s
  exact ⟨p.trans (dx_host m c), s.trans (dw_host m c), (h c).2.2⟩

end Cert.RmsBwdIdeal.Whole

end
-- ==== Proof.Final.lean ====
module

public import proofs.«01_k».proof.Defs
public import proofs.«01_k».proof.Proof.Norm
public import proofs.«01_k».proof.Proof.RmsBwd
public import proofs.«01_k».proof.Proof.Gen.Final.Frame
public import proofs.«01_k».proof.Proof.Gen.FinalIdeal.Value
public import proofs.«01_k».proof.Proof.Gen.PlainFinalIdeal.Run
public import Idealize.ShloMosaic.Lib.Tactic
public import Idealize.ShloMosaic.Lib.Pipeline.Value

/-!
# The loss of a device and its gradients

Every grid point writes its tile of rows of the gradient in two formats, and adds its rows' share to the loss and to the
gradient of the weight, which are written back after the last point.
-/

@[expose] public section

noncomputable section

namespace Cert.Norm

open Cert.Step Idealize.ShloMosaic Idealize.ShloMosaic.ValueIdx
open scoped BigOperators

variable {r c : ℕ}

/-! ## A row's loss -/

/-- What a row of the norm misses its target by. -/
def miss (x w t : Fin c → EReal) (k : Fin c) : EReal := x k * scale x * w k - t k

/-- The mean square of that. -/
def lost (x w t : Fin c → EReal) : EReal := Ideal.div (∑ k, miss x w t k * miss x w t k) (Ideal.ofBits .f32 0x45000000#32)

/-- The derivative of half a mean of 2048 elements by one of them. -/
def weigh : EReal := Ideal.div (Ideal.ofBits .f32 0x3F000000#32 * Ideal.ofBits .f32 0x3F800000#32) (Ideal.ofBits .f32 0x45000000#32)

/-- The gradient of the row's loss by what it misses. -/
def arrive (x w t : Fin c → EReal) (k : Fin c) : EReal := weigh * (Ideal.ofBits .f32 0x40000000#32 * miss x w t k)

theorem double (a : EReal) : a + a = ((2 : ℝ) : EReal) * a := by
  induction a with
  | bot => rw [EReal.coe_mul_bot_of_pos two_pos]; rfl
  | coe x => rw [← EReal.coe_add, ← EReal.coe_mul, two_mul]
  | top => rw [EReal.coe_mul_top_of_pos two_pos]; rfl

theorem ofBits_two : Ideal.ofBits .f32 0x40000000#32 = ((2 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

/-- The product rule of a square's two factors gives twice one of them. -/
theorem both (a e : EReal) : e * a + a * e = a * (Ideal.ofBits .f32 0x40000000#32 * e) := by
  rw [mul_comm e a, double, ofBits_two, mul_left_comm]

/-- Half of a sum is the sum of the halves. -/
theorem halves {ι : Type} (s : Finset ι) (f : ι → EReal) :
    ∑ i ∈ s, Ideal.ofBits .f32 0x3F000000#32 * f i = Ideal.ofBits .f32 0x3F000000#32 * ∑ i ∈ s, f i := by
  classical
  rw [ofBits_half]
  induction s using Finset.induction_on with
  | empty => simp
  | insert a s h ih =>
    rw [Finset.sum_insert h, Finset.sum_insert h, ih]
    exact (EReal.left_distrib_of_nonneg_of_ne_top (EReal.coe_nonneg.mpr (by norm_num)) (EReal.coe_ne_top _) _ _).symm

namespace Moves

variable (M : Moves r c) (x : FVec Ideal (Sheet r c) .f32) (w : FVec Ideal (Sheet 1 c) .f32) (t : FVec Ideal (Sheet r c) .f32)

/-- What the sheet misses its target by. -/
def misses : FVec Ideal (Sheet r c) .f32 := subf (mulf (mulf x (M.spread (M.scales x))) (M.down w)) t

/-- A derivative spread over the sheet after a sum over one element. -/
def weighs : FVec Ideal (Sheet r c) .f32 :=
  M.summed (divf (mulf (broadcast (Sheet r 1) (Scalar.ofBits .f32 0x3F000000#32)) (broadcast (Sheet r 1) (Scalar.ofBits .f32 0x3F800000#32)))
    (broadcast (Sheet r 1) (Scalar.ofBits .f32 0x45000000#32)))

/-- The gradient of the rows' losses by what they miss, by the product rule. -/
def arrives : FVec Ideal (Sheet r c) .f32 := addf (mulf (M.misses x w t) M.weighs) (mulf M.weighs (M.misses x w t))

/-- Half of each row's mean square. -/
def losts : FVec Ideal (Sheet r 1) .f32 :=
  mulf (broadcast (Sheet r 1) (Scalar.ofBits .f32 0x3F000000#32))
    (divf (M.sums (mulf (M.misses x w t) (M.misses x w t))) (broadcast (Sheet r 1) (Scalar.ofBits .f32 0x45000000#32)))

theorem misses_at (a : Fin r) (k : Fin c) : M.misses x w t (ix2 a k) = miss (row x a) (row w 0) (row t a) k := by
  unfold misses
  simp only [subf_apply, mulf_apply, M.down_at, M.spread_at, M.scales_at]
  rfl

theorem weighs_at (a : Fin r) (k : Fin c) : M.weighs (ix2 a k) = weigh := (M.summed_at _ a k).trans rfl

theorem arrives_at (a : Fin r) (k : Fin c) : M.arrives x w t (ix2 a k) = arrive (row x a) (row w 0) (row t a) k := by
  refine (both (M.weighs (ix2 a k)) (M.misses x w t (ix2 a k))).trans ?_
  rw [weighs_at, misses_at]
  rfl

theorem losts_at (a : Fin r) : M.losts x w t (ix2 a 0) = Ideal.ofBits .f32 0x3F000000#32 * lost (row x a) (row w 0) (row t a) := by
  refine congrArg (fun s => Ideal.ofBits .f32 0x3F000000#32 * Ideal.div s (Ideal.ofBits .f32 0x45000000#32)) ((M.sums_at _ a).trans ?_)
  exact Finset.sum_congr rfl fun k _ => congrArg (fun e => e * e) (M.misses_at x w t a k)

end Moves

end Cert.Norm

namespace Cert.FinalIdeal.Whole

open Cert.FinalIdeal Cert.FinalIdeal.Gen Cert.Step Cert.Norm Idealize.ShloMosaic Idealize.ShloMosaic.TcCoe Idealize.ShloMosaic.ValueIdx Idealize.SL.Sem
open Cert.RmsBwdIdeal.Whole (tile sheet)
open scoped BigOperators

/-! ## What the body leaves, from what the windows hold -/

section Body

variable {F : FTy → Type} [FloatOps F]
variable (d : Dev nD) (i : grid0.Coords)
  (b0 : Memref sig .tc .vmem S256x2048 .f32) (h0 : b0.IsWhole) (b1 : Memref sig .tc .vmem S256x2048 .f32) (h1 : b1.IsWhole)
  (b2 : Memref sig .tc .vmem S1x2048 .f32) (h2 : b2.IsWhole) (b3 : Memref sig .tc .vmem S256x2048 .f32) (h3 : b3.IsWhole)
  (b4 : Memref sig .tc .vmem S256x2048 .f32) (h4 : b4.IsWhole) (b5 : Memref sig .tc .vmem S256x2048 .bf16) (h5 : b5.IsWhole)
  (b6 : Memref sig .tc .vmem S1x1 .f32) (h6 : b6.IsWhole) (b7 : Memref sig .tc .vmem S1x2048 .f32) (h7 : b7.IsWhole)
  (x r : Vec F S256x2048 .f32) (w : Vec F S1x2048 .f32) (t : Vec F S256x2048 .f32) (s : Vec F S1x1 .f32) (o : Vec F S1x2048 .f32)

theorem rows_first (hc : cond0_0 i) : out0_A_4 d i b0 h0 b1 h1 b2 h2 b3 h3 b4 h4 b5 h5 b6 h6 b7 h7 hc x r w t = k0_pay10 (k0_pay1 x r) w (k0_pay3 x r) (k0_pay4 x r) (k0_pay8 x r t w) := by
  unfold out0_A_4
  rw [View.read_writes_eq_canon _ _ _ (cover0_A_4 d i b0 h0 b1 h1 b2 h2 b3 h3 b4 h4 b5 h5 b6 h6 b7 h7 hc x r w t)]
  unfold kernelRun0_A
  dsimp only
  sl_unfold_words
  rw [View.canon_unit_zero origin]
  simp only [View.readAt_eq_ld, h0.read_unread, h1.read_unread, h2.read_unread, h3.read_unread,
    View.ld_unit_zero (S := S256x2048) origin, View.ld_unit_zero (S := S1x2048) origin]

theorem rows_later (hc : ¬cond0_0 i) : out0_B_4 d i b0 h0 b1 h1 b2 h2 b3 h3 b4 h4 b5 h5 b6 h6 b7 h7 hc x r w t s o = k0_pay10 (k0_pay1 x r) w (k0_pay3 x r) (k0_pay4 x r) (k0_pay8 x r t w) := by
  unfold out0_B_4
  rw [View.read_writes_eq_canon _ _ _ (cover0_B_4 d i b0 h0 b1 h1 b2 h2 b3 h3 b4 h4 b5 h5 b6 h6 b7 h7 hc x r w t s o)]
  unfold kernelRun0_B
  dsimp only
  sl_unfold_words
  rw [View.canon_unit_zero origin]
  simp only [View.readAt_eq_ld, h0.read_unread, h1.read_unread, h2.read_unread, h3.read_unread,
    View.ld_unit_zero (S := S256x2048) origin, View.ld_unit_zero (S := S1x2048) origin]

theorem cast_first (hc : cond0_0 i) : out0_A_5 d i b0 h0 b1 h1 b2 h2 b3 h3 b4 h4 b5 h5 b6 h6 b7 h7 hc x r w t = k0_pay11 (k0_pay1 x r) w (k0_pay3 x r) (k0_pay4 x r) (k0_pay8 x r t w) := by
  unfold out0_A_5
  rw [View.read_writes_eq_canon _ _ _ (cover0_A_5 d i b0 h0 b1 h1 b2 h2 b3 h3 b4 h4 b5 h5 b6 h6 b7 h7 hc x r w t)]
  unfold kernelRun0_A
  dsimp only
  sl_unfold_words
  rw [View.canon_unit_zero origin]
  simp only [View.readAt_eq_ld, h0.read_unread, h1.read_unread, h2.read_unread, h3.read_unread,
    View.ld_unit_zero (S := S256x2048) origin, View.ld_unit_zero (S := S1x2048) origin]

theorem cast_later (hc : ¬cond0_0 i) : out0_B_5 d i b0 h0 b1 h1 b2 h2 b3 h3 b4 h4 b5 h5 b6 h6 b7 h7 hc x r w t s o = k0_pay11 (k0_pay1 x r) w (k0_pay3 x r) (k0_pay4 x r) (k0_pay8 x r t w) := by
  unfold out0_B_5
  rw [View.read_writes_eq_canon _ _ _ (cover0_B_5 d i b0 h0 b1 h1 b2 h2 b3 h3 b4 h4 b5 h5 b6 h6 b7 h7 hc x r w t s o)]
  unfold kernelRun0_B
  dsimp only
  sl_unfold_words
  rw [View.canon_unit_zero origin]
  simp only [View.readAt_eq_ld, h0.read_unread, h1.read_unread, h2.read_unread, h3.read_unread,
    View.ld_unit_zero (S := S256x2048) origin, View.ld_unit_zero (S := S1x2048) origin]

theorem loss_first (hc : cond0_0 i) : out0_A_6 d i b0 h0 b1 h1 b2 h2 b3 h3 b4 h4 b5 h5 b6 h6 b7 h7 hc x r w t = k0_pay15 (k0_pay7 x r t w) k0_pay13 := by
  unfold out0_A_6
  rw [View.read_writes_eq_canon _ _ _ (cover0_A_6 d i b0 h0 b1 h1 b2 h2 b3 h3 b4 h4 b5 h5 b6 h6 b7 h7 hc x r w t)]
  unfold kernelRun0_A
  dsimp only
  sl_unfold_words
  rw [View.canon_cons_unit_zero (S := S1x1) origin, View.readCov_unit_zero (S := S1x1) _ origin]
  simp only [View.readAt_eq_ld, h0.read_unread, h1.read_unread, h2.read_unread, h3.read_unread,
    View.ld_unit_zero (S := S256x2048) origin, View.ld_unit_zero (S := S1x2048) origin, shapeCast_self]

theorem loss_later (hc : ¬cond0_0 i) : out0_B_6 d i b0 h0 b1 h1 b2 h2 b3 h3 b4 h4 b5 h5 b6 h6 b7 h7 hc x r w t s o = k0_pay15 (k0_pay7 x r t w) s := by
  unfold out0_B_6
  rw [View.read_writes_eq_canon _ _ _ (cover0_B_6 d i b0 h0 b1 h1 b2 h2 b3 h3 b4 h4 b5 h5 b6 h6 b7 h7 hc x r w t s o)]
  unfold kernelRun0_B
  dsimp only
  sl_unfold_words
  rw [View.canon_unit_zero origin]
  simp only [View.readAt_eq_ld, h0.read_unread, h1.read_unread, h2.read_unread, h3.read_unread, h6.read_unread, h7.read_unread,
    View.ld_unit_zero (S := S256x2048) origin, View.ld_unit_zero (S := S1x2048) origin, View.ld_unit_zero (S := S1x1) origin, shapeCast_self]

theorem weight_first (hc : cond0_0 i) : out0_A_7 d i b0 h0 b1 h1 b2 h2 b3 h3 b4 h4 b5 h5 b6 h6 b7 h7 hc x r w t = k0_pay14 (k0_pay9 x r t w) k0_pay12 := by
  unfold out0_A_7
  rw [View.read_writes_eq_canon _ _ _ (cover0_A_7 d i b0 h0 b1 h1 b2 h2 b3 h3 b4 h4 b5 h5 b6 h6 b7 h7 hc x r w t)]
  unfold kernelRun0_A
  dsimp only
  sl_unfold_words
  rw [View.canon_cons_unit_zero (S := S1x2048) origin, View.readCov_unit_zero (S := S1x2048) _ origin]
  simp only [View.readAt_eq_ld, h0.read_unread, h1.read_unread, h2.read_unread, h3.read_unread,
    View.ld_unit_zero (S := S256x2048) origin, View.ld_unit_zero (S := S1x2048) origin, shapeCast_self]

theorem weight_later (hc : ¬cond0_0 i) : out0_B_7 d i b0 h0 b1 h1 b2 h2 b3 h3 b4 h4 b5 h5 b6 h6 b7 h7 hc x r w t s o = k0_pay14 (k0_pay9 x r t w) o := by
  unfold out0_B_7
  rw [View.read_writes_eq_canon _ _ _ (cover0_B_7 d i b0 h0 b1 h1 b2 h2 b3 h3 b4 h4 b5 h5 b6 h6 b7 h7 hc x r w t s o)]
  unfold kernelRun0_B
  dsimp only
  sl_unfold_words
  rw [View.canon_unit_zero origin]
  simp only [View.readAt_eq_ld, h0.read_unread, h1.read_unread, h2.read_unread, h3.read_unread, h6.read_unread, h7.read_unread,
    View.ld_unit_zero (S := S256x2048) origin, View.ld_unit_zero (S := S1x2048) origin, View.ld_unit_zero (S := S1x1) origin, shapeCast_self]

end Body

/-! ## The body's values, row by row -/

section Rows

variable (x r : FVec Ideal S256x2048 .f32) (w : FVec Ideal S1x2048 .f32) (t : FVec Ideal S256x2048 .f32)

/-- The norm's argument on a tile. -/
abbrev sums : FVec Ideal S256x2048 .f32 := addf x r

theorem arrives_tile (a : Fin 256) : row (k0_pay8 (F := Ideal) x r t w) a = arrive (row (sums x r) a) (row w 0) (row t a) :=
  funext fun k => (congrFun (rfl : k0_pay8 (F := Ideal) x r t w = tile.arrives (sums x r) w t) _).trans (tile.arrives_at (sums x r) w t a k)

theorem rows_tile (a : Fin 256) (k : Fin 2048) :
    k0_pay10 (F := Ideal) (k0_pay1 x r) w (k0_pay3 x r) (k0_pay4 x r) (k0_pay8 x r t w) (ix2 a k) = turn (row (sums x r) a) (row w 0) (arrive (row (sums x r) a) (row w 0) (row t a)) k :=
  (congrFun (rfl : k0_pay10 (F := Ideal) (k0_pay1 x r) w (k0_pay3 x r) (k0_pay4 x r) (k0_pay8 x r t w) = tile.turns (sums x r) w (k0_pay8 x r t w)) _).trans
    ((tile.turns_at (sums x r) w (k0_pay8 x r t w) a k).trans (by rw [arrives_tile]))

theorem weight_tile (o : FVec Ideal S1x2048 .f32) (k : Fin 2048) : k0_pay14 (F := Ideal) (k0_pay9 x r t w) o (ix2 0 k)
    = o (ix2 0 k) + ∑ a : Fin 256, share (row (sums x r) a) (arrive (row (sums x r) a) (row w 0) (row t a)) k := by
  unfold k0_pay14
  dsimp only
  rw [shapeCast_self]
  refine congrArg (o (ix2 0 k) + ·) ((shapeCast_a_1a_apply _ _ 0 k).trans ((sum_col (tile.shares (sums x r) (k0_pay8 x r t w)) _ k).trans
    (Finset.sum_congr rfl fun a _ => (tile.shares_at (sums x r) (k0_pay8 x r t w) a k).trans (by rw [arrives_tile]))))

theorem loss_tile (s : FVec Ideal S1x1 .f32) : k0_pay15 (F := Ideal) (k0_pay7 x r t w) s (ix2 0 0)
    = s (ix2 0 0) + ∑ a : Fin 256, Ideal.ofBits .f32 0x3F000000#32 * lost (row (sums x r) a) (row w 0) (row t a) := by
  unfold k0_pay15
  dsimp only
  rw [shapeCast_self]
  refine congrArg (s (ix2 0 0) + ·) ((shapeCast_a_1a_apply _ _ 0 0).trans ((sum_col (tile.losts (sums x r) w t) _ 0).trans
    (Finset.sum_congr rfl fun a _ => tile.losts_at (sums x r) w t a)))

end Rows

/-! ## Where the tiles sit -/

section Tiles

/-- Point `p` holds the rows of tile `p`, and the whole of the weight, of the loss and of the weight's gradient. -/
theorem index_tile : ∀ p : Fin grid0.N, (win0_0.index p 0 = p ∧ win0_0.index p 1 = 0) ∧
    (win0_1.index p 0 = p ∧ win0_1.index p 1 = 0) ∧
    (win0_2.index p 0 = 0 ∧ win0_2.index p 1 = 0) ∧
    (win0_3.index p 0 = p ∧ win0_3.index p 1 = 0) ∧
    (win0_4.index p 0 = p ∧ win0_4.index p 1 = 0) ∧
    (win0_5.index p 0 = p ∧ win0_5.index p 1 = 0) ∧
    (win0_6.index p 0 = 0 ∧ win0_6.index p 1 = 0) ∧
    (win0_7.index p 0 = 0 ∧ win0_7.index p 1 = 0) := by
  decide +kernel

/-- Row `a` of tile `p`. -/
def line (p : Fin cfg0.N) (a : Fin 256) : Fin 2048 := ⟨p * 256 + a, by have : (p : ℕ) < 8 := lt_of_lt_of_eq p.isLt N_0; omega⟩

variable (p : Fin cfg0.N) (a : Fin 256) (k : Fin 2048)

theorem x_at : ((cfg0.win 0).blk p).view.emb (ix2 a k) = ix2 (line p a) k := funext fun e => Fin.ext (by
  fin_cases e
  · exact (win0_0.rect_emb_val p _ 0).trans (by rw [(index_tile p).1.1]; rfl)
  · exact (win0_0.rect_emb_val p _ 1).trans (by rw [(index_tile p).1.2]; exact Nat.zero_add _))

theorem r_at : ((cfg0.win 1).blk p).view.emb (ix2 a k) = ix2 (line p a) k := funext fun e => Fin.ext (by
  fin_cases e
  · exact (win0_1.rect_emb_val p _ 0).trans (by rw [(index_tile p).2.1.1]; rfl)
  · exact (win0_1.rect_emb_val p _ 1).trans (by rw [(index_tile p).2.1.2]; exact Nat.zero_add _))

theorem w_at : ((cfg0.win 2).blk p).view.emb (ix2 0 k) = ix2 0 k := funext fun e => Fin.ext (by
  fin_cases e
  · exact (win0_2.rect_emb_val p _ 0).trans (by rw [(index_tile p).2.2.1.1]; rfl)
  · exact (win0_2.rect_emb_val p _ 1).trans (by rw [(index_tile p).2.2.1.2]; exact Nat.zero_add _))

theorem t_at : ((cfg0.win 3).blk p).view.emb (ix2 a k) = ix2 (line p a) k := funext fun e => Fin.ext (by
  fin_cases e
  · exact (win0_3.rect_emb_val p _ 0).trans (by rw [(index_tile p).2.2.2.1.1]; rfl)
  · exact (win0_3.rect_emb_val p _ 1).trans (by rw [(index_tile p).2.2.2.1.2]; exact Nat.zero_add _))

theorem rows_at : ((cfg0.win 4).blk p).view.emb (ix2 a k) = ix2 (line p a) k := funext fun e => Fin.ext (by
  fin_cases e
  · exact (win0_4.rect_emb_val p _ 0).trans (by rw [(index_tile p).2.2.2.2.1.1]; rfl)
  · exact (win0_4.rect_emb_val p _ 1).trans (by rw [(index_tile p).2.2.2.2.1.2]; exact Nat.zero_add _))

theorem cast_at : ((cfg0.win 5).blk p).view.emb (ix2 a k) = ix2 (line p a) k := funext fun e => Fin.ext (by
  fin_cases e
  · exact (win0_5.rect_emb_val p _ 0).trans (by rw [(index_tile p).2.2.2.2.2.1.1]; rfl)
  · exact (win0_5.rect_emb_val p _ 1).trans (by rw [(index_tile p).2.2.2.2.2.1.2]; exact Nat.zero_add _))

theorem loss_at : ((cfg0.win 6).blk p).view.emb (ix2 0 0) = ix2 0 0 := funext fun e => Fin.ext (by
  fin_cases e
  · exact (win0_6.rect_emb_val p _ 0).trans (by rw [(index_tile p).2.2.2.2.2.2.1.1]; rfl)
  · exact (win0_6.rect_emb_val p _ 1).trans (by rw [(index_tile p).2.2.2.2.2.2.1.2]; exact Nat.zero_add _))

theorem weight_at : ((cfg0.win 7).blk p).view.emb (ix2 0 k) = ix2 0 k := funext fun e => Fin.ext (by
  fin_cases e
  · exact (win0_7.rect_emb_val p _ 0).trans (by rw [(index_tile p).2.2.2.2.2.2.2.1]; rfl)
  · exact (win0_7.rect_emb_val p _ 1).trans (by rw [(index_tile p).2.2.2.2.2.2.2.2]; exact Nat.zero_add _))

/-- The points' tiles cover the gradient, in either format. -/
theorem covered (i : S2048x2048.Idx) : ∃ p : Fin cfg0.N, i ∈ (win0_4.rect p).set ∧ i ∈ (win0_5.rect p).set := by
  have h0 : (i 0 : ℕ) < 2048 := (i 0).isLt
  have hN : grid0.N = 8 := N_0
  have e := (index_tile ⟨(i 0 : ℕ) / 256, by omega⟩).2.2.2.2.1
  have e' := (index_tile ⟨(i 0 : ℕ) / 256, by omega⟩).2.2.2.2.2.1
  exact ⟨_, mem_rows (by decide) i _ _ (congrArg (· * 256) e.1) (by show _ * 2048 = 0; rw [e.2, Nat.zero_mul]),
    mem_rows (by decide) i _ _ (congrArg (· * 256) e'.1) (by show _ * 2048 = 0; rw [e'.2, Nat.zero_mul])⟩

/-- Every point's block covers the loss. -/
theorem covered_loss (i : S1x1.Idx) : i ∈ (win0_6.rect p).set := by
  have h0 : (i 0 : ℕ) < 1 := (i 0).isLt
  have e := (index_tile p).2.2.2.2.2.2.1
  exact mem_rows (r := 1) (c := 1) (n := 1) (by decide) i _ _ (by show win0_6.index p 0 * 1 = _; rw [e.1]; omega) (by show win0_6.index p 1 * 1 = 0; rw [e.2, Nat.zero_mul])

/-- Every point's block covers the gradient of the weight. -/
theorem covered_weight (i : S1x2048.Idx) : i ∈ (win0_7.rect p).set := by
  have h0 : (i 0 : ℕ) < 1 := (i 0).isLt
  have e := (index_tile p).2.2.2.2.2.2.2
  exact mem_rows (r := 1) (c := 2048) (n := 1) (by decide) i _ _ (by show win0_7.index p 0 * 1 = _; rw [e.1]; omega) (by show win0_7.index p 1 * 2048 = 0; rw [e.2, Nat.zero_mul])

end Tiles

/-! ## The results -/

variable (m : (ℓ : Loc nD τ sig) → Buf (Elt Ideal) ℓ) (ρ : Dev nD → PrngReg) (d : Dev nD)

abbrev x : FVec Ideal S2048x2048 .f32 := m ((d : Thread nD τ).loc main_arg0)
abbrev r : FVec Ideal S2048x2048 .f32 := m ((d : Thread nD τ).loc main_arg1)
abbrev w : FVec Ideal S1x2048 .f32 := m ((d : Thread nD τ).loc main_arg2)
abbrev t : FVec Ideal S2048x2048 .f32 := m ((d : Thread nD τ).loc main_arg3)
abbrev y : FVec Ideal S2048x2048 .f32 := addf (x m d) (r m d)

/-- What arrives at row `a`, and what it loses. -/
abbrev arrived (a : Fin 2048) : Fin 2048 → EReal := arrive (row (y m d) a) (row (w m d) 0) (row (t m d) a)
abbrev loses (a : Fin 2048) : EReal := lost (row (y m d) a) (row (w m d) 0) (row (t m d) a)

/-- The gradient of the norm's argument, the loss, and the gradient of the weight. -/
def dx : FVec Ideal S2048x2048 .f32 := fun i => turn (row (y m d) (i 0)) (row (w m d) 0) (arrived m d (i 0)) (i 1)
def loss : FVec Ideal S1x1 .f32 := fun _ => Ideal.ofBits .f32 0x3F000000#32 * ∑ a : Fin 2048, loses m d a
def dw : FVec Ideal S1x2048 .f32 := fun i => ∑ a : Fin 2048, share (row (y m d) a) (arrived m d a) (i 1)

/-- What row `l` adds to the loss and to element `k` of the weight's gradient. -/
def lossPart (l : ℕ) : EReal := if h : l < 2048 then Ideal.ofBits .f32 0x3F000000#32 * loses m d ⟨l, h⟩ else 0
def part (k : Fin 2048) (l : ℕ) : EReal := if h : l < 2048 then share (row (y m d) ⟨l, h⟩) (arrived m d ⟨l, h⟩) k else 0

theorem y_tile (p : Fin cfg0.N) (a : Fin 256) : row (sums (iblk m d 0 p) (iblk m d 1 p)) a = row (y m d) (line p a) :=
  funext fun k => congrArg₂ (· + ·) (congrArg (x m d) (x_at p a k)) (congrArg (r m d) (r_at p a k))
theorem w_tile (p : Fin cfg0.N) : row (r := 1) (c := 2048) (iblk m d 2 p) 0 = row (w m d) 0 := funext fun k => congrArg (w m d) (w_at p k)
theorem t_tile (p : Fin cfg0.N) (a : Fin 256) : row (r := 256) (c := 2048) (iblk m d 3 p) a = row (t m d) (line p a) := funext fun k => congrArg (t m d) (t_at p a k)

/-- What a point writes of the gradient. -/
abbrev written (p : Fin cfg0.N) : FVec Ideal S256x2048 .f32 :=
  k0_pay10 (k0_pay1 (iblk m d 0 p) (iblk m d 1 p)) (iblk m d 2 p) (k0_pay3 (iblk m d 0 p) (iblk m d 1 p)) (k0_pay4 (iblk m d 0 p) (iblk m d 1 p))
    (k0_pay8 (iblk m d 0 p) (iblk m d 1 p) (iblk m d 3 p) (iblk m d 2 p))

theorem written_at (p : Fin cfg0.N) (a : Fin 256) (k : Fin 2048) : written m d p (ix2 a k) = dx m d (ix2 (line p a) k) := by
  refine (rows_tile (iblk m d 0 p) (iblk m d 1 p) (iblk m d 2 p) (iblk m d 3 p) a k).trans ?_
  rw [y_tile, w_tile, t_tile]
  rfl

theorem rows_point (p : Fin cfg0.N) : (outsAt0 m d p.val p.isLt).1 = written m d p := by
  by_cases h : p.val % 8 = 0
  · rw [outsAt0_A m d p h, rows_first]
  · rw [outsAt0_B m d p h, rows_later]

theorem cast_point (p : Fin cfg0.N) : (outsAt0 m d p.val p.isLt).2.1 = truncf .bf16 (written m d p) bitsLt_bf16_f32 := by
  by_cases h : p.val % 8 = 0
  · rw [outsAt0_A m d p h]; dsimp only; rw [cast_first]; rfl
  · rw [outsAt0_B m d p h]; dsimp only; rw [cast_later]; rfl

theorem final_dx : (dats m 0 d).arrAt 4 cfg0.N = dx m d :=
  (dats m 0 d).arrAt_eq_of_cover 4 (dx m d)
    (fun p _ => by
      rw [Value.flushed4, rows_point]
      refine funext fun y => ?_
      obtain ⟨a, k, rfl⟩ : ∃ (a : Fin 256) (k : Fin 2048), y = ix2 a k := ⟨y 0, y 1, eq_ix2 y⟩
      exact (written_at m d p a k).trans (congrArg (dx m d) (rows_at p a k)).symm)
    fun i => (covered i).imp fun p h => ⟨flush0_4 p, (View.set_slice_whole (Pipeline.arrRef spec0 4) (win0_4.rect p)).symm ▸ h.1⟩

theorem final_cast : (dats m 0 d).arrAt 5 cfg0.N = truncf .bf16 (dx m d) bitsLt_bf16_f32 :=
  (dats m 0 d).arrAt_eq_of_cover 5 (truncf .bf16 (dx m d) bitsLt_bf16_f32)
    (fun p _ => by
      rw [Value.flushed5, cast_point]
      refine funext fun y => ?_
      obtain ⟨a, k, rfl⟩ : ∃ (a : Fin 256) (k : Fin 2048), y = ix2 a k := ⟨y 0, y 1, eq_ix2 y⟩
      exact (written_at m d p a k).trans (congrArg (dx m d) (cast_at p a k)).symm)
    fun i => (covered i).imp fun p h => ⟨flush0_5 p, (View.set_slice_whole (Pipeline.arrRef spec0 5) (win0_5.rect p)).symm ▸ h.2⟩

/-- A point's step of the loss. -/
theorem loss_step (p : Fin cfg0.N) (s : FVec Ideal S1x1 .f32) :
    k0_pay15 (F := Ideal) (k0_pay7 (iblk m d 0 p) (iblk m d 1 p) (iblk m d 3 p) (iblk m d 2 p)) s (ix2 0 0)
      = s (ix2 0 0) + ∑ l ∈ Finset.range 256, lossPart m d (p * 256 + l) := by
  rw [Finset.sum_range]
  refine (loss_tile (iblk m d 0 p) (iblk m d 1 p) (iblk m d 2 p) (iblk m d 3 p) s).trans (congrArg _ (Finset.sum_congr rfl fun a _ => ?_))
  rw [y_tile, w_tile, t_tile]
  unfold lossPart
  rw [dif_pos (show (p : ℕ) * 256 + a < 2048 from (line p a).isLt)]
  rfl

/-- A point's step of the weight's gradient. -/
theorem weight_step (p : Fin cfg0.N) (o : FVec Ideal S1x2048 .f32) (k : Fin 2048) :
    k0_pay14 (F := Ideal) (k0_pay9 (iblk m d 0 p) (iblk m d 1 p) (iblk m d 3 p) (iblk m d 2 p)) o (ix2 0 k)
      = o (ix2 0 k) + ∑ l ∈ Finset.range 256, part m d k (p * 256 + l) := by
  rw [Finset.sum_range]
  refine (weight_tile (iblk m d 0 p) (iblk m d 1 p) (iblk m d 2 p) (iblk m d 3 p) o k).trans (congrArg _ (Finset.sum_congr rfl fun a _ => ?_))
  rw [y_tile, w_tile, t_tile]
  unfold part
  rw [dif_pos (show (p : ℕ) * 256 + a < 2048 from (line p a).isLt)]
  rfl

theorem later (n : ℕ) (h : n + 1 < cfg0.N) : ¬(⟨n + 1, h⟩ : Fin cfg0.N).val % 8 = 0 := by
  have : n + 1 < 8 := lt_of_lt_of_eq h N_0
  dsimp only; omega

/-- After a point the loss is what the rows so far add up to. -/
theorem loss_point : ∀ (n : ℕ) (h : n < cfg0.N), (outsAt0 m d n h).2.2.1 (ix2 0 0) = ∑ l ∈ Finset.range ((n + 1) * 256), lossPart m d l
  | 0, h => by
    rw [show outsAt0 m d 0 h = _ from outsAt0_A m d ⟨0, h⟩ rfl]
    dsimp only
    rw [loss_first]
    refine (loss_step m d ⟨0, h⟩ k0_pay13).trans ?_
    rw [show k0_pay13 (F := Ideal) (ix2 0 0) = 0 from ofBits_zero, zero_add]
    simp
  | n + 1, h => by
    rw [show outsAt0 m d (n + 1) h = _ from outsAt0_B m d ⟨n + 1, h⟩ (later n h)]
    dsimp only
    rw [loss_later, show (n + 1 + 1) * 256 = (n + 1) * 256 + 256 from by omega, Finset.sum_range_add]
    refine (loss_step m d ⟨n + 1, h⟩ _).trans ?_
    exact congrArg (· + _) (loss_point n _)

/-- After a point the weight's gradient is what the rows so far add up to. -/
theorem weight_point (k : Fin 2048) : ∀ (n : ℕ) (h : n < cfg0.N), (outsAt0 m d n h).2.2.2 (ix2 0 k) = ∑ l ∈ Finset.range ((n + 1) * 256), part m d k l
  | 0, h => by
    rw [show outsAt0 m d 0 h = _ from outsAt0_A m d ⟨0, h⟩ rfl]
    dsimp only
    rw [weight_first]
    refine (weight_step m d ⟨0, h⟩ k0_pay12 k).trans ?_
    rw [show k0_pay12 (F := Ideal) (ix2 0 k) = 0 from ofBits_zero, zero_add]
    simp
  | n + 1, h => by
    rw [show outsAt0 m d (n + 1) h = _ from outsAt0_B m d ⟨n + 1, h⟩ (later n h)]
    dsimp only
    rw [weight_later, show (n + 1 + 1) * 256 = (n + 1) * 256 + 256 from by omega, Finset.sum_range_add]
    refine (weight_step m d ⟨n + 1, h⟩ _ k).trans ?_
    exact congrArg (· + _) (weight_point k n _)

theorem last_point (p : Fin cfg0.N) (h : p.val % 8 = 7) : p.val = 7 := by have : (p : ℕ) < 8 := lt_of_lt_of_eq p.isLt N_0; omega

theorem final_loss : (dats m 0 d).arrAt 6 cfg0.N = loss m d :=
  (dats m 0 d).arrAt_eq_of_cover 6 (loss m d)
    (fun p hf => by
      rw [Value.flushed6]
      refine funext fun y => ?_
      obtain rfl : y = ix2 0 0 := (eq_ix2 y).trans (congrArg₂ ix2 (Subsingleton.elim (α := Fin 1) _ _) (Subsingleton.elim (α := Fin 1) _ _))
      refine (loss_point m d p.val p.isLt).trans ?_
      rw [last_point p ((flush0_6 p).mp hf), Finset.sum_range]
      exact (Finset.sum_congr rfl fun a _ => dif_pos a.isLt).trans (halves Finset.univ (loses m d)))
    fun i => ⟨t0_7, (flush0_6 t0_7).mpr rfl, (View.set_slice_whole (Pipeline.arrRef spec0 6) (win0_6.rect t0_7)).symm ▸ covered_loss t0_7 i⟩

theorem final_dw : (dats m 0 d).arrAt 7 cfg0.N = dw m d :=
  (dats m 0 d).arrAt_eq_of_cover 7 (dw m d)
    (fun p hf => by
      rw [Value.flushed7]
      refine funext fun y => ?_
      obtain ⟨u, k, rfl⟩ : ∃ (u : Fin 1) (k : Fin 2048), y = ix2 u k := ⟨y 0, y 1, eq_ix2 y⟩
      obtain rfl : u = 0 := Subsingleton.elim _ _
      refine (weight_point m d k p.val p.isLt).trans ?_
      rw [last_point p ((flush0_7 p).mp hf), Finset.sum_range]
      refine (Finset.sum_congr rfl fun a _ => dif_pos a.isLt).trans ?_
      exact (congrArg (dw m d) (weight_at p k)).symm)
    fun i => ⟨t0_7, (flush0_7 t0_7).mpr rfl, (View.set_slice_whole (Pipeline.arrRef spec0 7) (win0_7.rect t0_7)).symm ▸ covered_weight t0_7 i⟩

/-- The run leaves the gradients and the loss in the results, and the arguments as they were. -/
theorem run : θ_run defs (onTc (τ := τ) (main (F := Ideal))) ⟨m, fun _ => 0, ρ⟩ fun r => ∀ c : Dev nD,
      r.2.mem ((c : Thread nD τ).loc main_v0_0) = dx m c
      ∧ r.2.mem ((c : Thread nD τ).loc main_v0_1) = truncf .bf16 (dx m c) bitsLt_bf16_f32
      ∧ r.2.mem ((c : Thread nD τ).loc main_v0_2) = loss m c
      ∧ r.2.mem ((c : Thread nD τ).loc main_v0_3) = dw m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_dx m c), (h c).2.1.trans (final_cast m c), (h c).2.2.1.trans (final_loss m c),
    (h c).2.2.2.1.trans (final_dw m c), (h c).2.2.2.2⟩) (Value.run_blocks m ρ)

/-! ## The plain loss -/

/-- What arrives, as the host spells it. -/
def arrives_host : FVec Ideal S2048x2048 .f32 :=
  mulf (broadcastInDim S2048x2048 ![0] Cert.PlainFinalIdeal.Gen.bcast_S2048_S2048x2048_0
      (Host.divf (broadcastInDim Cert.PlainFinalIdeal.S2048 ![] Cert.PlainFinalIdeal.Gen.bcast_S_S2048 (mulf (constant Point .f32 0x3F000000#32) (constant Point .f32 0x3F800000#32)))
        (broadcastInDim Cert.PlainFinalIdeal.S2048 ![] Cert.PlainFinalIdeal.Gen.bcast_S_S2048 (constant Point .f32 0x45000000#32))))
    (mulf (broadcastInDim S2048x2048 ![] Cert.PlainFinalIdeal.Gen.bcast_S_S2048x2048 (constant Point .f32 0x40000000#32)) (sheet.misses (y m d) (w m d) (t m d)))

theorem arrives_host_at (a : Fin 2048) : row (arrives_host m d) a = arrived m d a :=
  funext fun k => congrArg (fun e => weigh * (Ideal.ofBits .f32 0x40000000#32 * e)) (sheet.misses_at (y m d) (w m d) (t m d) a k)

theorem dx_host : sheet.turns (y m d) (w m d) (arrives_host m d) = dx m d := funext fun i => by
  obtain ⟨a, k, rfl⟩ : ∃ (a : Fin 2048) (k : Fin 2048), i = ix2 a k := ⟨i 0, i 1, eq_ix2 i⟩
  refine (sheet.turns_at _ _ _ a k).trans ?_
  rw [arrives_host_at]
  rfl

theorem dw_host : shapeCast S1x2048 (Host.reduceAdd (sheet.shares (y m d) (arrives_host m d)) (constant Point .f32 0x00000000#32)
    Cert.PlainFinalIdeal.Gen.reducesTo_S2048x2048_S2048_d0 Cert.PlainFinalIdeal.Gen.h_S_) Cert.PlainFinalIdeal.Gen.shapeCasts_S2048_S1x2048 = dw m d := funext fun i => by
  obtain ⟨u, k, rfl⟩ : ∃ (u : Fin 1) (k : Fin 2048), i = ix2 u k := ⟨i 0, i 1, eq_ix2 i⟩
  refine (shapeCast_a_1a_apply _ _ u k).trans ((sum_col_host _ _ _ k).trans (Finset.sum_congr rfl fun a _ => (sheet.shares_at _ _ a k).trans ?_))
  rw [arrives_host_at]

/-- The host's sum of a vector. -/
theorem sum_vec_host {n : ℕ} (v : FVec Ideal (⟨1, ![n]⟩ : Shape) .f32) (h : (⟨1, ![n]⟩ : Shape).ReducesTo [0] Point) (hu : 0 < Point.numel) (i : Point.Idx) :
    Host.reduceAdd v (constant Point .f32 0x00000000#32) h hu i = ∑ a : Fin n, v (ix1 a) := by
  refine (congrArg₂ (· + ·) ofBits_zero ?_).trans (zero_add _)
  rw [Finset.filter_true_of_mem fun x _ => funext fun a => a.elim0]
  exact (Fintype.sum_bijective (fun a : Fin n => (ix1 a : (⟨1, ![n]⟩ : Shape).Idx)) ⟨fun a b e => congrFun e 0, fun x => ⟨x 0, (eq_ix1 x).symm⟩⟩ _ _ fun _ => rfl).symm

theorem loss_host : shapeCast S1x1 (mulf (constant (F := Ideal) Point .f32 0x3F000000#32)
    (Host.reduceAdd (Host.divf (Host.reduceAdd (mulf (sheet.misses (y m d) (w m d) (t m d)) (sheet.misses (y m d) (w m d) (t m d))) (constant Point .f32 0x00000000#32)
        Cert.PlainFinalIdeal.Gen.reducesTo_S2048x2048_S2048_d1 Cert.PlainFinalIdeal.Gen.h_S_)
      (broadcastInDim Cert.PlainFinalIdeal.S2048 ![] Cert.PlainFinalIdeal.Gen.bcast_S_S2048 (constant Point .f32 0x45000000#32)))
      (constant Point .f32 0x00000000#32) Cert.PlainFinalIdeal.Gen.reducesTo_S2048_S_d0 Cert.PlainFinalIdeal.Gen.h_S_)) Cert.PlainFinalIdeal.Gen.shapeCasts_S_S1x1 = loss m d := funext fun i => by
  refine congrArg (Ideal.ofBits .f32 0x3F000000#32 * ·) ((sum_vec_host _ _ _ _).trans (Finset.sum_congr rfl fun a _ => ?_))
  refine congrArg (fun s => Ideal.div s (Ideal.ofBits .f32 0x45000000#32)) ((sum_row_host _ _ _ a).trans ?_)
  exact Finset.sum_congr rfl fun k _ => congrArg (fun e => e * e) (sheet.misses_at (y m d) (w m d) (t m d) a k)

/-! ## The claims -/

theorem frame_plain : Cert.quiescent_PlainFinalIdeal := fun m ρ _ =>
  (θ_run Cert.PlainFinalIdeal.defs _ _).mono (fun r h => ⟨fun c => (h c).2.2.2.2, sem_eq_zero_of_no_sems (by decide) r.2⟩)
    (Cert.PlainFinalIdeal.Value.run (F := Ideal) m ρ)

theorem algebraic : Cert.algebraic_FinalIdeal_PlainFinalIdeal := by
  intro m ρ m' ρ' _ agree
  refine ⟨_, _, _, _, run m ρ, ?_⟩
  refine (θ_run Cert.PlainFinalIdeal.defs _ _).mono (fun _ h c => ?_) (Cert.PlainFinalIdeal.Value.run (F := Ideal) m' ρ')
  obtain ⟨a0, a1, a2, a3⟩ := agree c
  obtain ⟨p, q, l, s, k⟩ := h c
  unfold Cert.PlainFinalIdeal.Value.res_main_v49 at p
  unfold Cert.PlainFinalIdeal.Value.res_main_v50 at q
  rw [a0, a1, a2, a3] at p q l s
  exact ⟨p.trans (dx_host m c), q.trans (congrArg (fun v => truncf .bf16 v bitsLt_bf16_f32) (dx_host m c)), l.trans (loss_host m c), s.trans (dw_host m c), k⟩

end Cert.FinalIdeal.Whole

end
-- ==== Proof.Total.lean ====
module

public import proofs.«01_k».proof.Defs
public import proofs.«01_k».proof.Proof.Gen.Total
public import proofs.«01_k».proof.Proof.Gen.TotalIdeal
public import proofs.«01_k».proof.Proof.Gen.Total.Launch
public import proofs.«01_k».proof.Proof.Gen.TotalIdeal.Launch
public import proofs.«01_k».proof.Proof.Gen.PlainTotalIdeal.Run
public import Idealize.ShloMosaic.Lib.Pipeline.FrameTail
public import Idealize.ShloMosaic.Lib.ValueLayout
public import Idealize.ShloMosaic.Lib.KernelVsHost

/-!
# The loss of the eight devices

Each device reads its entry of the array as a scalar, and the eight scalars are added on every device in the devices' order.
-/

@[expose] public section

noncomputable section

namespace Cert.Total.Whole

open Cert.Total Cert.Total.Gen Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open scoped BigOperators

/-- Ghost state: a part that belongs to no pipeline, and the exchange's. -/
abbrev Ghosts : Type := Rounds.URounds (GSem nD τ sig) Unit × Sites.UC

variable {F : FTy → Type} [FloatOps F]

local notation "𝕄" => MT nD τ sig ℕ (Elt F) ℕ Ghosts ℕ

variable (m : (ℓ : Loc nD τ sig) → Buf (Elt F) ℓ) (ρ : Dev nD → PrngReg)

abbrev none_ : (p : Fin 0) → (pcfgs (F := F) p).Adm := fun p => p.elim0
abbrev noData : (p : Fin 0) → (c : Dev nD) → Pipeline.Dat τ (Elt F) ℕ ℕ Ghosts ℕ (Pipeline.pin (pcfgs (F := F)) none_ p) c := fun p => p.elim0
abbrev mine : Emb Sites.UC 𝕄 := embR

/-- What a device's buffers hold at the start, when the scalar has been read, and when the eight have been added. -/
abbrev start (c : Dev nD) : Valuation τ sig (Elt F) := fun b => m (c, b)
abbrev scalar (c : Dev nD) : Valuation τ sig (Elt F) := StableHlo.after (hostOps0 (F := F)) (start m c)
abbrev summed (c : Dev nD) : Valuation τ sig (Elt F) := (ar0 (F := F)).after₀ (scalar m) c

/-- The exchange's semaphores stay under their invariants. -/
abbrev kept : sProp 𝕄 := iprop(∃ κ, (AllReduce.Dat.once (ar0 (F := F)) (scalar m)).cellInvs mine κ)

def reading : Pipeline.HostSeg (Ix := ℕ) (Name := ℕ) (U := Ghosts) (Lvl := ℕ) (pcfgs (F := F)) defs₀ Variants.none Sites.L Sites.lv :=
  Pipeline.HostSeg.ofOps _ _ _ _ _ (Pipeline.ucRefs τ sig) (hostOps0 (F := F))
    (fun op h => Pipeline.sub_ucRefs op (List.forall_iff_forall_mem.mp hostOps0_sub op h))
    (fun op h => by obtain rfl := List.mem_singleton.mp h; rfl)
    (start m) (Sites.Es mine (scalar m) 0)

def adding : Pipeline.HostSeg (Ix := ℕ) (Name := ℕ) (U := Ghosts) (Lvl := ℕ) (pcfgs (F := F)) defs₀ Variants.none Sites.L Sites.lv :=
  Sites.seg0 mine Variants.none (scalar m) (Sites.Rest0 (scalar m) fun _ => kept m)

abbrev segs : List (Pipeline.Seg (pcfgs (F := F)) none_ noData 0 defs₀ Variants.none Sites.L Sites.lv) := [.host (reading m), .host (adding m)]

abbrev last (c : Dev nD) : sProp 𝕄 :=
  iprop(StableHlo.held (c : Thread nD τ) (Pipeline.ucRefs τ sig) (summed m c) ∗ (kept m ∗ Sites.Ghost0 mine c))

theorem read_add (c : Dev nD) : (reading m).post c ⊢ (adding m).pre c := by
  refine BIBase.Entails.trans ?_ (Sites.pre0 mine Variants.none (scalar m) (fun _ => kept m) c)
  dsimp only [reading, Pipeline.HostSeg.ofOps]
  rw [Sites.Es_0]
  iintro ⟨Hh, Ho, Hp, Hr⟩
  ihave #Hk := (show Sites.rides0 mine (scalar m) c ⊢ kept m from by
    unfold Sites.rides0 AllReduce.Dat.rides; iintro ⟨H, -⟩; iexact H) $$ Hr
  isplitl [Hh]; · iexact Hh
  isplitr []
  · isplitl [Ho]; · iexact Ho
    isplitl [Hp] <;> iassumption
  iexact Hk

theorem add_last (c : Dev nD) : (adding m).post c ⊢ iprop(last m c ∗ ∃ W, owes (c : Thread nD τ) (0 : CellTallies nD τ sig ℕ) W) := by
  refine (Sites.post0 mine Variants.none (scalar m) (fun _ => kept m) c).trans ?_
  iintro ⟨Hh, He, Hg, Hk⟩
  ihave HO := (Sites.hE_last mine (scalar m) c) $$ He
  isplitr [HO]; swap; · iexact HO
  isplitl [Hh]; · iexact Hh
  isplitl [Hk] <;> iassumption

theorem deal :
    iprop((bigSep Finset.univ fun c : Dev nD => iprop(unscopedBufs c (fun b => m ((c : Thread nD τ).loc b)) ∗ unscopedSems0 c
          ∗ owes (c : Thread nD τ) (Sites.O0 (F := F) c) ∅ ∗ Pipeline.launchCred (Sites.O0 (F := F)) c ∗ prngReg c (ρ c) ∗ Sites.G mine (scalar m) c)) ∗ levAts Sites.L Sites.lv)
      ⊢ (|={Set.univ}=> bigSep Finset.univ (reading m).pre : sProp 𝕄) := by
  rw [bigSep_sep']
  iintro ⟨⟨Hb, Hr⟩, Hl⟩
  imod (Sites.hE0 mine (scalar m) ρ) $$ [Hr Hl] with He
  · isplitl [Hr] <;> iassumption
  imodintro
  iapply (show iprop((bigSep Finset.univ fun c : Dev nD => unscopedBufs c (fun b => m ((c : Thread nD τ).loc b)))
      ∗ bigSep Finset.univ (Sites.Es mine (scalar m) 0)) ⊢ (bigSep Finset.univ (reading m).pre : sProp 𝕄) from by
    rw [← bigSep_sep']
    exact bigSep_mono fun c _ => by
      dsimp only [reading, Pipeline.HostSeg.ofOps]
      rw [← Pipeline.unscopedBufs_held c (start m c)]
      exact Entails.refl _)
  isplitl [Hb] <;> iassumption

/-- The argument is none of the exchange's slots. -/
theorem apart : ∀ j : Fin 8, main_arg0 ≠ ar0_stage j := by decide

/-- A buffer out of those a device holds. -/
theorem take (c : Dev nD) (b : Ref sig .tc) (S : Finset (DevRef τ sig)) (h : (Proc.devRef .tc b : DevRef τ sig) ∈ S) (W : Valuation τ sig (Elt F)) :
    (StableHlo.held (c : Thread nD τ) S W : sProp 𝕄)
      = iprop((((c : Thread nD τ).loc b) ↦{fullShare} W b) ∗ StableHlo.held (c : Thread nD τ) (S.erase (Proc.devRef .tc b)) W) := by
  unfold StableHlo.held
  conv_lhs => rw [← Finset.insert_erase h]
  exact bigSep_insert (Finset.notMem_erase _ _)

set_option backward.isDefEq.respectTransparency.types false in
theorem run : θ_run defs (onTc (τ := τ) (main (F := F))) ⟨m, fun _ => 0, ρ⟩ fun r =>
    (∀ c : Dev nD, r.2.mem ((c : Thread nD τ).loc main_v2) = summed m c main_v2
      ∧ r.2.mem ((c : Thread nD τ).loc main_arg0) = m ((c : Thread nD τ).loc main_arg0)) ∧ r.2.sem = fun _ => 0 :=
  Pipeline.θ_run_regions_kit_sems (pcfgs (F := F)) none_ noData 0 cellOf_inj embL defs₀ Variants.none Sites.L Sites.lv m ρ main (segs m)
    (fun c Q => by rw [main_segs none_ noData 0 Variants.none Sites.L Sites.lv (reading m) (adding m) rfl rfl c])
    (by simp only [segs, Pipeline.Seg.pipes_host, Pipeline.Seg.pipes_nil]; exact List.nodup_nil)
    (O₀ := Sites.O0 (F := F)) (hL := Sites.hL) (G := Sites.G mine (scalar m))
    (u₀ := (Rounds.initOf (Pipeline.cells (Pipeline.pin (pcfgs (F := F)) none_) cellOf_inj) (Pipeline.launchToks (Pipeline.pin (pcfgs (F := F)) none_) cellOf_inj),
      Sites.uC (U := Ghosts) (scalar m)))
    (hu₀ := by
      iintro Hu
      ihave H := (ownU_pair _ _) $$ Hu
      icases H with ⟨HP, HX⟩
      imodintro
      isplitl [HP]; · iexact HP
      rw [Sites.bigSep_G]; iexact HX)
    (T₀ := (reading m).pre) (Tₙ := last m)
    (hch := ⟨fun _ => .rfl, read_add m, add_last m⟩)
    (hinit := deal m ρ)
    (QY := fun c s => (s.mem ((c : Thread nD τ).loc main_v2) = summed m c main_v2 ∧ s.mem ((c : Thread nD τ).loc main_arg0) = summed m c main_arg0)
      ∧ s.sem ((ar0 (F := F)).barrierCell c) = 0 ∧ s.sem ((ar0 (F := F)).recvCell c) = 0 ∧ s.sem ((ar0 (F := F)).sendCell c) = 0)
    (hfin := fun c s' => by
      unfold last
      rw [take c main_v2 _ (Pipeline.devRef_mem_ucRefs rfl), take c main_arg0 _ (Finset.mem_erase.mpr ⟨by decide, Pipeline.devRef_mem_ucRefs rfl⟩)]
      iintro ⟨⟨⟨H2, H0, -⟩, Hk⟩, HSI⟩
      icombine HSI H2 gives %h2
      icombine HSI H0 gives %h0
      imod ((AllReduce.Dat.once (ar0 (F := F)) (scalar m)).ghostAfter_read mine c (k := 0) le_rfl s') $$ [Hk HSI] with ⟨%hz, HSI⟩
      · isplitl [Hk] <;> iassumption
      imodintro
      isplitr; · ipureintro; exact ⟨⟨Buf.eq_of_forall_mem_univ h2, Buf.eq_of_forall_mem_univ h0⟩, hz⟩
      iexact HSI)
    (hQ := fun s h hs => ⟨fun c => ⟨(h c).1.1, (h c).1.2.trans (((ar0 (F := F)).after₀_off_siteRefs (scalar m) c (by
        intro hb
        rcases (ar0 (F := F)).mem_siteRefs.mp hb with hb | hb | ⟨j, hb⟩
        · exact (by decide : main_arg0 ≠ main_v2) (Proc.devRef_injective _ hb)
        · exact (by decide : main_arg0 ≠ main_v1) (Proc.devRef_injective _ hb)
        · exact apart j (Proc.devRef_injective _ hb))).trans (by after_results))⟩,
      sem_eq_zero hs fun c sm hsm => by
        have hl : ∀ sm : SemLoc sig, sm.isScoped .tc = false → sm = .reg ar0_barrier ∨ sm = .dma ar0_recv ∨ sm = .dma ar0_send := by decide
        rcases hl sm hsm with rfl | rfl | rfl
        exacts [(h c).2.1, (h c).2.2.1, (h c).2.2.2]⟩)

/-! ## The sum over the extended reals -/

section Value

open Idealize.ShloMosaic.ValueIdx

variable (n : (ℓ : Loc nD τ sig) → Buf (Elt Ideal) ℓ)

/-- What each device brings: its one entry. -/
abbrev entry (d : Dev nD) : EReal := (n ((d : Thread nD τ).loc main_arg0) : S1x1.Idx → EReal) (ix2 0 0)

theorem scalar_at (d : Dev nD) (i : S_.Idx) : (scalar n d main_v1 : S_.Idx → EReal) i = entry n d := by
  have e : scalar n d main_v1 = (shapeCast S_ (n ((d : Thread nD τ).loc main_arg0)) Facts₀.shapeCasts_S1x1_S_ : S_.Idx → EReal) := by after_results; rfl
  refine (congrFun e i).trans (congrArg (n ((d : Thread nD τ).loc main_arg0) : S1x1.Idx → EReal) (funext fun a => ?_))
  fin_cases a <;> exact Subsingleton.elim (α := Fin 1) _ _

theorem peers : ∀ c j : Fin 8, ar0_mem ((ar0_pos c).1, j) = j := by decide

/-- Every device ends with the sum of the eight entries. -/
theorem summed_at (c : Dev nD) (i : S_.Idx) : (summed n c main_v2 : S_.Idx → EReal) i = ∑ d : Dev nD, entry n d := by
  refine (congrFun ((ar0 (F := Ideal)).after₀_result (scalar n) c) i).trans ?_
  have e : ∀ j : Fin 8, (scalar n (ar0_mem ((ar0_pos c).1, j)) main_v1 : S_.Idx → EReal) i = entry n j := fun j => by rw [peers]; exact scalar_at n j i
  refine Eq.trans (b := ((List.finRange 8).drop 1).foldl (fun (a : EReal) j => a + entry n j) (entry n (0 : Fin 8))) ?_ ?_
  · refine Eq.trans (b := ((List.finRange 8).drop 1).foldl (fun (a : EReal) j => a + (scalar n (ar0_mem ((ar0_pos c).1, j)) main_v1 : S_.Idx → EReal) i)
      ((scalar n (ar0_mem ((ar0_pos c).1, 0)) main_v1 : S_.Idx → EReal) i)) rfl ?_
    rw [e 0]
    exact congrArg (fun f : EReal → Fin 8 → EReal => ((List.finRange 8).drop 1).foldl f (entry n (0 : Fin 8))) (funext fun a => funext fun j => by rw [e j])
  · exact (Fin.sum_univ_eight fun d : Fin 8 => entry n d).symm

end Value

end Cert.Total.Whole

namespace Cert.TotalIdeal.Whole

open Cert.TotalIdeal Cert.TotalIdeal.Gen Idealize.ShloMosaic Idealize.ShloMosaic.TcCoe Idealize.ShloMosaic.ValueIdx Idealize.SL.Sem
open scoped BigOperators

/-- The host's sum of a column. -/
theorem column (v : FVec Ideal (⟨2, ![8, 1]⟩ : Shape) .f32) (z : FVec Ideal ⟨0, ![]⟩ .f32) (h : (⟨2, ![8, 1]⟩ : Shape).ReducesTo [0, 1] ⟨0, ![]⟩)
    (hu : 0 < (⟨0, ![]⟩ : Shape).numel) (i : (⟨0, ![]⟩ : Shape).Idx) :
    Host.reduceAdd v z h hu i = z (Shape.Idx.first hu) + ∑ k : Fin 8, v (ix2 k 0) := by
  refine congrArg (z (Shape.Idx.first hu) + ·) ?_
  rw [Finset.filter_true_of_mem fun x _ => funext fun a => a.elim0]
  refine (Fintype.sum_bijective (fun k : Fin 8 => (ix2 k 0 : (⟨2, ![8, 1]⟩ : Shape).Idx)) ⟨fun a b e => congrFun e 0, fun x => ⟨x 0, ?_⟩⟩ _ _ fun _ => rfl).symm
  refine (eq_ix2 x).symm ▸ ?_
  exact congrArg (ix2 _) (Subsingleton.elim (α := Fin 1) _ _)

theorem frame : Cert.quiescent_Total := fun m ρ _ =>
  (θ_run Cert.Total.defs _ _).mono (fun _ h => ⟨fun c => (h.1 c).2, h.2⟩) (Cert.Total.Whole.run (F := Bits) m ρ)

theorem frame_ideal : Cert.quiescent_TotalIdeal := fun m ρ _ =>
  (θ_run Cert.Total.defs _ _).mono (fun _ h => ⟨fun c => (h.1 c).2, h.2⟩) (Cert.Total.Whole.run (F := Ideal) m ρ)

theorem frame_plain : Cert.quiescent_PlainTotalIdeal := fun m ρ _ =>
  (θ_run Cert.PlainTotalIdeal.defs _ _).mono (fun r h => ⟨fun c => (h c).2, sem_eq_zero_of_no_sems (by decide) r.2⟩)
    (Cert.PlainTotalIdeal.Value.run (F := Ideal) m ρ)

theorem algebraic : Cert.algebraic_TotalIdeal_PlainTotalIdeal := by
  intro m ρ m' ρ' _ agree
  refine ⟨_, ?_, (θ_run Cert.PlainTotalIdeal.defs _ _).mono (fun _ h => h 0) (Cert.PlainTotalIdeal.Value.run (F := Ideal) m' ρ')⟩
  refine (θ_run Cert.Total.defs _ _).mono (fun _ h c => ⟨(h.1 c).1.trans (funext fun i => ?_), (h.1 c).2⟩) (Cert.Total.Whole.run (F := Ideal) m ρ)
  refine (Cert.Total.Whole.summed_at m c i).trans (((column _ _ _ _ i).trans ?_).symm)
  rw [show constant (F := Ideal) ⟨0, ![]⟩ .f32 0x00000000#32 (Shape.Idx.first _) = 0 from Ideal.ofBits_zero_f32, zero_add]
  refine Finset.sum_congr rfl fun d _ => ((congrFun (agree d) (ix2 0 0)).trans ?_).symm
  refine congrArg (m' (((0 : Dev Cert.PlainTotalIdeal.nD).tc : Thread Cert.PlainTotalIdeal.nD Cert.PlainTotalIdeal.τ).loc Cert.PlainTotalIdeal.main_arg0) : (⟨2, ![8, 1]⟩ : Shape).Idx → EReal) (funext fun a => Fin.ext ?_)
  fin_cases a
  · show (d : ℕ) * 1 + 0 = d; omega
  · rfl

end Cert.TotalIdeal.Whole

end
-- ==== Proof.Gather.lean ====
module

public import proofs.«01_k».proof.Proof.Fund

/-!
# A gather in three hops

Each of eight devices gathers every device's array, slab by slab: slab `s` of its result is what device `s` had. A device
copies its own array to its own slab and sends it over four links; over three more it passes on slabs that have arrived.
This is stated of any number of arrays of any sizes: a printed program is given by its tables.
-/

@[expose] public section

noncomputable section

namespace Cert.Wire

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Links -/

/-- A device's links: four it sends its own array over, three it passes on what arrived over the links `1`, `2`, `3`. -/
abbrev Lnk : Type := Fin 4 ⊕ Fin 3

/-- The device at the other end: its number differs in one bit, or in the last two. -/
def hop (l : Lnk) (d : Fin 8) : Fin 8 := ⟨d.val ^^^ (match l with | .inl k => ![1, 4, 2, 6] k | .inr _ => 1), by revert l d; decide⟩

/-- The device whose slab arrives over the link. -/
def blk (l : Lnk) (d : Fin 8) : Fin 8 := ⟨d.val ^^^ (match l with | .inl k => ![1, 4, 2, 6] k | .inr j => ![5, 3, 7] j), by revert l d; decide⟩

/-- The device whose slab is sent over it. -/
def load : Lnk → Fin 8 → Fin 8
  | .inl _, d => d
  | .inr j, d => blk (.inl j.succ) d

theorem hop_hop (l : Lnk) (d : Fin 8) : hop l (hop l d) = d := by revert l d; decide

theorem blk_hop (l : Lnk) (d : Fin 8) : blk l (hop l d) = load l d := by revert l d; decide

theorem blk_injective (d : Fin 8) : Function.Injective fun l => blk l d := by revert d; decide

/-- A device's own slab and those that arrive are all the slabs. -/
theorem blk_image (d : Fin 8) : (Finset.univ : Finset (Fin 8)) = insert d (Finset.univ.map ⟨fun l => blk l d, blk_injective d⟩) := by
  revert d; decide

theorem blk_ne (d : Fin 8) : d ∉ Finset.univ.map ⟨fun l => blk l d, blk_injective d⟩ := by revert d; decide

/-- The links whose arrivals are not passed on. -/
def late : Fin 4 → Lnk := ![.inl 0, .inr 0, .inr 1, .inr 2]

/-- A device's cells, with `n` arrays: its sends, its arrivals, its local copies. -/
abbrev GCell (n : ℕ) : Type := (Lnk × Fin n) ⊕ (Lnk × Fin n) ⊕ Fin n

/-! ## A printed gather -/

/-- The tables of a printed gather of `n` arrays. -/
structure Gather (sig : RefSig) (n : ℕ) where
  rows : Fin n → ℕ
  cols : Fin n → ℕ
  elt : Fin n → EltTy
  inM (a : Fin n) : Memref sig .tc .hbm (Slab (rows a) (cols a)) (elt a)
  outM (a : Fin n) : Memref sig .tc .hbm (Slabs (rows a) (cols a)) (elt a)
  sem : GCell n ≃ DmaSem sig
  ownOff : Fin n → Fin 8 → Fin 3 → ℕ
  arrOff : Fin n → Lnk → Fin 8 → Fin 3 → ℕ
  devNo : Fin n → Lnk → Fin 8 → ℕ
  lanes : List (Fin n)
  inWhole (a : Fin n) : (inM a).IsWhole
  outWhole (a : Fin n) : (outM a).IsWhole
  slabExact (a : Fin n) (s : Fin 8) : (slabAt (outM a) s).view.WordExact
  credit (a : Fin n) : (inM a).view.dmaCredit = (slabAt (outM a) 0).view.dmaCredit
  pos (a : Fin n) : 0 < (slabAt (outM a) 0).view.dmaCredit
  ownOff_eq (a : Fin n) (d : Fin 8) : ownOff a d = ![d.val, 0, 0]
  arrOff_eq (a : Fin n) (l : Lnk) (d : Fin 8) : arrOff a l d = ![(blk l d).val, 0, 0]
  devNo_eq (a : Fin n) (l : Lnk) (d : Fin 8) : devNo a l d = (hop l d).val
  lanes_nodup : lanes.Nodup
  lanes_univ : lanes.toFinset = Finset.univ
  allScoped (sm : SemLoc sig) : sm.isScoped .tc = true ∧ ∃ i, sm = .dma i
  refs_injective : Function.Injective (Sum.elim (fun a => (inM a).view.ref) fun a => (outM a).view.ref)
  refs_univ : (Finset.univ.filter fun b : Ref sig .tc => ¬ b.isScoped) = Finset.univ.map ⟨_, refs_injective⟩

namespace Gather

variable {τ : Topo} {sig : RefSig} {n : ℕ} {Λ : Labels} {F : FTy → Type} [FloatOps F] (D : Gather sig n)

/-- What the transfer of one slab of array `a` credits. -/
abbrev N (a : Fin n) : ℕ := (slabAt (D.outM a) 0).view.dmaCredit

/-- The cells. -/
def net : Net sig (GCell n) where
  sem := D.sem
  amount x := match x with | .inl x => D.N x.2 | .inr (.inl x) => D.N x.2 | .inr (.inr a) => D.N a
  pos x := by split <;> exact D.pos _

/-- The device's own slab of its result, by the printed offset, -/
abbrev outOwn (a : Fin n) (d : Fin 8) := slab (D.outM a) (D.ownOff a d) d (D.ownOff_eq a d)
/-- and the slab that arrives over link `l`. -/
abbrev outArr (a : Fin n) (l : Lnk) (d : Fin 8) := slab (D.outM a) (D.arrOff a l d) (blk l d) (D.arrOff_eq a l d)

omit [FloatOps F] in
theorem slab_exact (a : Fin n) (off : Fin 3 → ℕ) (s : Fin 8) (h : off = ![s.val, 0, 0]) : (slab (D.outM a) off s h).view.WordExact := by
  subst h; exact D.slabExact a s

theorem own_exact (a : Fin n) (d : Fin 8) : (D.outOwn a d).view.WordExact := D.slab_exact a _ d (D.ownOff_eq a d)
theorem arr_exact (a : Fin n) (l : Lnk) (d : Fin 8) : (D.outArr a l d).view.WordExact := D.slab_exact a _ (blk l d) (D.arrOff_eq a l d)
theorem in_exact (a : Fin n) : (D.inM a).view.WordExact := (D.inWhole a).wordExact

theorem devNo_lt (a : Fin n) (l : Lnk) (d : Fin 8) : D.devNo a l d < 8 := by rw [D.devNo_eq]; exact (hop l d).isLt

/-! ## The body -/

/-- Start the copy of the device's own array. -/
abbrev startOwn (d : Fin 8) (a : Fin n) : Op 8 τ sig Λ F :=
  .enqueueDma (D.inM a) (.here (D.outOwn a d)) (.dma (D.sem (.inr (.inr a)))) (D.in_exact a) (D.own_exact a d) ⟨Or.inl rfl, trivial⟩

/-- Start sending the device's own array. -/
abbrev startFirst (d : Fin 8) (x : Fin n × Fin 4) : Op 8 τ sig Λ F :=
  .enqueueDma (D.inM x.1) (.remote (Dev.tc (⟨D.devNo x.1 (.inl x.2) d, D.devNo_lt _ _ _⟩ : Dev 8)) (D.outOwn x.1 d) (.dma (D.sem (.inl (.inl x.2, x.1)))))
    (.dma (D.sem (.inr (.inl (.inl x.2, x.1))))) (D.in_exact x.1) (D.own_exact x.1 d) ⟨⟨rfl, Or.inl rfl⟩, trivial⟩

/-- Wait for a slab to be passed on, -/
abbrev waitPass (d : Fin 8) (x : Fin 3 × Fin n) : Op 8 τ sig Λ F :=
  .waitDma2 (D.sem (.inr (.inl (.inl x.1.succ, x.2)))) (D.outArr x.2 (.inl x.1.succ) d) (D.outArr x.2 (.inl x.1.succ) d)
    (D.arr_exact x.2 _ d) (D.arr_exact x.2 _ d)

/-- and start sending it. -/
abbrev startPass (d : Fin 8) (x : Fin 3 × Fin n) : Op 8 τ sig Λ F :=
  .enqueueDma (D.outArr x.2 (.inl x.1.succ) d)
    (.remote (Dev.tc (⟨D.devNo x.2 (.inr x.1) d, D.devNo_lt _ _ _⟩ : Dev 8)) (D.outArr x.2 (.inl x.1.succ) d) (.dma (D.sem (.inl (.inr x.1, x.2)))))
    (.dma (D.sem (.inr (.inl (.inr x.1, x.2))))) (D.arr_exact x.2 _ d) (D.arr_exact x.2 _ d) ⟨⟨rfl, Or.inl rfl⟩, trivial⟩

/-- Wait for a slab that is not passed on. -/
abbrev waitLate (d : Fin 8) (x : Fin n × Fin 4) : Op 8 τ sig Λ F :=
  .waitDma2 (D.sem (.inr (.inl (late x.2, x.1)))) (D.outArr x.1 (late x.2) d) (D.outArr x.1 (late x.2) d) (D.arr_exact x.1 _ d) (D.arr_exact x.1 _ d)

/-- Wait until the device's own array has left. -/
abbrev waitFirst (d : Fin 8) (x : Fin n × Fin 4) : Op 8 τ sig Λ F :=
  .waitDma2 (D.sem (.inl (.inl x.2, x.1))) (D.outOwn x.1 d) (D.inM x.1) (D.own_exact x.1 d) (D.in_exact x.1)

/-- Wait until a slab passed on has left. -/
abbrev waitPassed (d : Fin 8) (x : Fin 3 × Fin n) : Op 8 τ sig Λ F :=
  .waitDma2 (D.sem (.inl (.inr x.1, x.2))) (D.outArr x.2 (.inl x.1.succ) d) (D.outArr x.2 (.inl x.1.succ) d) (D.arr_exact x.2 _ d) (D.arr_exact x.2 _ d)

/-- Wait for the copy of the device's own array. -/
abbrev waitOwn (d : Fin 8) (a : Fin n) : Op 8 τ sig Λ F :=
  .waitDma2 (D.sem (.inr (.inr a))) (D.inM a) (D.outOwn a d) (D.in_exact a) (D.own_exact a d)

/-- Every array with each of four links, -/
abbrev quads : List (Fin n × Fin 4) := D.lanes ×ˢ [0, 1, 2, 3]
/-- and each of three links with every array, in the order the body takes them. -/
abbrev triples : List (Fin 3 × Fin n) := [0, 1, 2] ×ˢ D.lanes

/-- The body as loops. -/
def loops : Prg 8 τ sig Λ F :=
  .op .deviceId fun d =>
    each (D.startOwn d) D.lanes <| each (D.startFirst d) D.quads <| each2 (D.waitPass d) (D.startPass d) D.triples <|
      each (D.waitLate d) D.quads <| each (D.waitFirst d) D.quads <| each (D.waitPassed d) D.triples <|
      each (D.waitOwn d) D.lanes (.ret ⟨⟩)

/-! ## Contents -/

local notation "𝕄" => MT 8 τ sig Unit (Elt F) ℕ (UU 8 τ sig) ℕ

variable (m : (ℓ : Loc 8 τ sig) → Buf (Elt F) ℓ)

/-- What device `d` has of array `a`. -/
abbrev sent (d : Dev 8) (a : Fin n) : Buf (Elt F) ((D.inM a).view.loc (d.tc : Thread 8 τ)) := m _

/-- What result `a` of device `d` holds at launch. -/
abbrev stale (d : Dev 8) (a : Fin n) : Buf (Elt F) ((D.outM a).view.loc (d.tc : Thread 8 τ)) := m _

/-- What device `d` ends with in result `a`: in slab `s` what device `s` had. -/
def gathered (d : Dev 8) (a : Fin n) : Buf (Elt F) ((D.outM a).view.loc (d.tc : Thread 8 τ)) :=
  (D.outM a).view.write (Elt F) (D.stale m d a)
    (fun i => (D.inM a).view.read (Elt F) (D.sent m (i 0) a) (ValueIdx.ix2 (i 1) (i 2))) Finset.univ

/-- A share of the array `a` of device `d`, at what it had at launch. -/
abbrev inPts (q : PosShare TreeShare) (d : Dev 8) (a : Fin n) : sProp 𝕄 :=
  (D.inM a).view.loc (d.tc : Thread 8 τ) ↦[(D.inM a).view.set]{q} D.sent m d a

/-- Slab `s` of the result `a` of device `d`, held at contents `f`. -/
abbrev outPts (d : Dev 8) (a : Fin n) (s : Fin 8) (f : Buf (Elt F) ((D.outM a).view.loc (d.tc : Thread 8 τ))) : sProp 𝕄 :=
  (D.outM a).view.loc (d.tc : Thread 8 τ) ↦[slabSet (D.outM a) s]{fullShare} f

/-- Slab `s` of what device `d` ends with is what device `s` had. -/
theorem gathered_read (d s : Dev 8) (a : Fin n) :
    (slabAt (D.outM a) s).view.read (Elt F) (D.gathered m d a) = (D.inM a).view.read (Elt F) (D.sent m s a) := by
  funext x
  rw [slabAt_read]
  unfold gathered
  rw [View.read_write_univ]
  exact congrArg ((D.inM a).view.read (Elt F) (D.sent m s a)) (by funext i; fin_cases i <;> rfl)

/-- A slab of a result just written with what that device had is the slab it ends with. -/
theorem outPts_written (d s : Dev 8) (a : Fin n) (fd : Buf (Elt F) ((D.outM a).view.loc (d.tc : Thread 8 τ)))
    (w : (Slab (D.rows a) (D.cols a)).Idx → Elt F (D.elt a)) (hw : w = (D.inM a).view.read (Elt F) (D.sent m s a)) :
    ((D.outM a).view.loc (d.tc : Thread 8 τ) ↦[slabSet (D.outM a) s]{fullShare} (slabAt (D.outM a) s).view.write (Elt F) fd w Finset.univ : sProp 𝕄)
      = D.outPts d a s (D.gathered m d a) :=
  pointsTo_congr (write_read_on _ _ _ _ ((D.gathered_read m d s a).trans hw.symm))

/-- The share of its array a device keeps for its own copy, -/
abbrev kept : PosShare TreeShare := fullShare.left
/-- and those it lends to its four sends. -/
abbrev lent : Fin 4 → PosShare TreeShare
  | 0 => fullShare.right.left.left | 1 => fullShare.right.left.right | 2 => fullShare.right.right.left | 3 => fullShare.right.right.right

/-- What the one credit of a cell hands its waiter: a completed send what it read, an arrival the slab that arrived, a local
    copy both its ends. -/
def pays : Pays 8 τ sig F (GCell n) where
  pay d x := match x with
    | .inl (.inl k, a) => D.inPts m (lent k) d a
    | .inl (.inr j, a) => D.outPts d a (blk (.inl j.succ) d) (D.gathered m d a)
    | .inr (.inl (l, a)) => D.outPts d a (blk l d) (D.gathered m d a)
    | .inr (.inr a) => iprop(D.outPts d a d (D.gathered m d a) ∗ D.inPts m kept d a)
  storable d x := by
    unfold inPts outPts
    split <;> infer_instance

end Gather

end Cert.Wire

end
-- ==== Proof.GatherBody.lean ====
module

public import proofs.«01_k».proof.Proof.Gather
public import proofs.«01_k».proof.Proof.Whole

/-!
# The body of a gather, one operation of each loop at a time

A device waits for slabs to pass on while others still wait for slabs from it. A wait is allowed as each cell has a level:
the arrivals of what was passed on are above all others, and they are all a device owes once its own array is on its way.
-/

@[expose] public section

noncomputable section

namespace Cert.Wire

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The cell of a send, -/
abbrev sendC {n : ℕ} (l : Lnk) (a : Fin n) : GCell n := .inl (l, a)
/-- of an arrival, -/
abbrev arrC {n : ℕ} (l : Lnk) (a : Fin n) : GCell n := .inr (.inl (l, a))
/-- and of a device's own copy. -/
abbrev ownC {n : ℕ} (a : Fin n) : GCell n := .inr (.inr a)

namespace Gather

variable {τ : Topo} {sig : RefSig} {n : ℕ} {Λ : Labels} {F : FTy → Type} [FloatOps F] (D : Gather sig n)

local notation "𝕄" => MT 8 τ sig Unit (Elt F) ℕ (UU 8 τ sig) ℕ

/-! ## Levels -/

/-- The level of a cell. -/
def rank : GCell n → ℕ
  | .inr (.inl (.inr _, _)) => 1
  | _ => 0

/-- The level of a cell, in the machine. -/
def lev (g : GSem 8 τ sig) (_ : Unit) : ℕ :=
  match g.2 with
  | .dma i => rank (D.sem.symm i)
  | .reg _ => 0

theorem lev_cell (d : Dev 8) (x : GCell n) : D.lev (gcell (τ := τ) D.net d x) () = rank x := by
  show rank (D.sem.symm (D.sem x)) = _
  rw [D.sem.symm_apply_apply]

/-- What a device owes the arrivals of its own array, -/
abbrev owedFirst (c : Dev 8) : List (Fin n × Fin 4) → CellTallies 8 τ sig Unit :=
  owed (fun x => gcell D.net (hop (.inl x.2) c) (arrC (.inl x.2) x.1)) fun x => D.net.amount (arrC (.inl x.2) x.1)
/-- and of what it passes on. -/
abbrev owedPass (c : Dev 8) : List (Fin 3 × Fin n) → CellTallies 8 τ sig Unit :=
  owed (fun x => gcell D.net (hop (.inr x.1) c) (arrC (.inr x.1) x.2)) fun x => D.net.amount (arrC (.inr x.1) x.2)

/-- All it owes at launch. -/
def owesAll (c : Dev 8) : CellTallies 8 τ sig Unit := D.owedPass c D.triples + D.owedFirst c D.quads

/-- A device that owes only what it passes on may wait for a slab to pass on. -/
theorem mayPass (c : Dev 8) (k : Fin 4) (a : Fin n) (l : List (Fin 3 × Fin n)) :
    (levAts leveled D.lev : sProp 𝕄) ⊢ MayWait (c.tc : Thread 8 τ) (.dma (D.net.sem (arrC (.inl k) a))) () (D.owedPass c l) := by
  refine Pipeline.mayWait_of_levAts (by rw [leveled, if_pos rfl]; exact Finset.mem_singleton_self _) fun g i h => ?_
  obtain ⟨x, rfl⟩ := owed_pos _ _ l g i h
  refine ⟨by rw [leveled, if_pos rfl]; exact Finset.mem_singleton_self _, ?_⟩
  have h1 := D.lev_cell (τ := τ) c (arrC (.inl k) a)
  have h2 := D.lev_cell (τ := τ) (hop (.inr x.1) c) (arrC (.inr x.1) x.2)
  show D.lev (gcell (τ := τ) D.net c (arrC (.inl k) a)) () < D.lev (gcell (τ := τ) D.net (hop (.inr x.1) c) (arrC (.inr x.1) x.2)) ()
  rw [h1, h2]
  exact Nat.zero_lt_one

/-! ## States -/

variable (m : (ℓ : Loc 8 τ sig) → Buf (Elt F) ℓ) (κ : GSem 8 τ sig → ℕ)

/-- The copy of a device's own array before it starts. -/
def own0 (c : Dev 8) (a : Fin n) : sProp 𝕄 :=
  iprop(fresh D.net (D.pays m) κ c (ownC a) ∗ D.inPts m kept c a ∗ ∃ f, D.outPts c a c f)

/-- What a device needs to send over a link, besides what it sends. -/
def ready (c : Dev 8) (l : Lnk) (a : Fin n) : sProp 𝕄 :=
  iprop(fresh D.net (D.pays m) κ c (sendC l a) ∗ aim D.net (D.pays m) κ (hop l c) (arrC l a) ∗ ∃ f, D.outPts (hop l c) a (load l c) f)

/-- The send of its own array before it starts. -/
def first0 (c : Dev 8) (x : Fin n × Fin 4) : sProp 𝕄 := iprop(D.ready m κ c (.inl x.2) x.1 ∗ D.inPts m (lent x.2) c x.1)

/-- A slab to pass on before it has arrived, -/
def pass0 (c : Dev 8) (x : Fin 3 × Fin n) : sProp 𝕄 :=
  iprop(going D.net (D.pays m) κ c (arrC (.inl x.1.succ) x.2) ∗ D.ready m κ c (.inr x.1) x.2)
/-- being passed on, -/
def pass1 (c : Dev 8) (x : Fin 3 × Fin n) : sProp 𝕄 :=
  iprop(done D.net (D.pays m) κ c (arrC (.inl x.1.succ) x.2) ∗ going D.net (D.pays m) κ c (sendC (.inr x.1) x.2))
/-- and passed on. -/
def pass2 (c : Dev 8) (x : Fin 3 × Fin n) : sProp 𝕄 :=
  iprop(done D.net (D.pays m) κ c (arrC (.inl x.1.succ) x.2) ∗ got D.net (D.pays m) κ c (sendC (.inr x.1) x.2))

/-- What a device holds when the body starts, besides what it owes and the levels; -/
def held0 (c : Dev 8) : sProp 𝕄 :=
  iprop(sepL (D.own0 m κ c) D.lanes ∗ sepL (D.first0 m κ c) D.quads ∗ sepL (D.pass0 m κ c) D.triples
    ∗ sepL (fun x => going D.net (D.pays m) κ c (arrC (late x.2) x.1)) D.quads)

/-- and when it ends. -/
def held2 (c : Dev 8) : sProp 𝕄 :=
  iprop(sepL (fun a => got D.net (D.pays m) κ c (ownC a)) D.lanes ∗ sepL (fun x => got D.net (D.pays m) κ c (sendC (.inl x.2) x.1)) D.quads
    ∗ sepL (D.pass2 m κ c) D.triples ∗ sepL (fun x => got D.net (D.pays m) κ c (arrC (late x.2) x.1)) D.quads)

/-! ## Steps -/

variable {defs : Defs 8 τ sig (Elt F) Λ}

/-- The copy of a device's own array starts, its slab reached by an offset that is the device's own. -/
theorem step_startOwn (c : Dev 8) (a : Fin n) (off : Fin 3 → ℕ) (h : off = ![c.val, 0, 0])
    {hsrc : (D.inM a).view.WordExact} {hdst : (slab (D.outM a) off c h).view.WordExact}
    {hsem : DmaTarget.Typed (nD := 8) .hbm (.dma (D.sem (ownC a))) (.here (p := (.tc : Proc τ)) (slab (D.outM a) off c h))}
    (Kt : PUnit → sProp 𝕄) (k : PUnit → Prg 8 τ sig Λ F) :
    D.own0 m κ c a ⊢ iprop((going D.net (D.pays m) κ c (ownC a) -∗ runs defs c (k ⟨⟩) Kt)
      -∗ runs defs c (.op (.enqueueDma (D.inM a) (.here (slab (D.outM a) off c h)) (.dma (D.sem (ownC a))) hsrc hdst hsem) k) Kt) := by
  subst h
  exact step_copy D.net (D.pays m) κ c (ownC a) (src := D.inM a) (dst := slabAt (D.outM a) c) (q := kept) (D.sent m c a) rfl
    (fun fd => sep_mono (Entails.of_eq (D.outPts_written m c c a fd _ rfl)) (Entails.of_eq rfl)) Kt k

/-- The send of a device's own array starts. -/
theorem step_startFirst (c : Dev 8) (x : Fin n × Fin 4) (O : CellTallies 8 τ sig Unit) (off : Fin 3 → ℕ) (h : off = ![c.val, 0, 0])
    (d : Dev 8) (hd : d = hop (.inl x.2) c)
    {hsc : (slab (D.outM x.1) off c h : Memref sig (Dev.tc d : Thread 8 τ).2.kind .hbm _ _).view.ref.isScScratch = false}
    {hsrc : (D.inM x.1).view.WordExact} {hdst : (slab (D.outM x.1) off c h).view.WordExact}
    {hsem : DmaTarget.Typed .hbm (.dma (D.sem (arrC (.inl x.2) x.1)))
      (.remote (Dev.tc d : Thread 8 τ) (slab (D.outM x.1) off c h) (.dma (D.sem (sendC (.inl x.2) x.1))) hsc)}
    (Kt : PUnit → sProp 𝕄) (k : PUnit → Prg 8 τ sig Λ F) :
    iprop(D.first0 m κ c x ∗ owesSome c (O + tallyAt (gcell D.net (hop (.inl x.2) c) (arrC (.inl x.2) x.1)) () (D.net.amount (arrC (.inl x.2) x.1))))
      ⊢ iprop((iprop(going D.net (D.pays m) κ c (sendC (.inl x.2) x.1) ∗ owesSome c O) -∗ runs defs c (k ⟨⟩) Kt)
        -∗ runs defs c (.op (.enqueueDma (D.inM x.1) (.remote (Dev.tc d : Thread 8 τ) (slab (D.outM x.1) off c h) (.dma (D.sem (sendC (.inl x.2) x.1))) hsc)
          (.dma (D.sem (arrC (.inl x.2) x.1))) hsrc hdst hsem) k) Kt) := by
  subst h
  unfold first0 ready
  iintro ⟨⟨⟨HF, HA, Hout⟩, Hin⟩, HO⟩ Hk
  iapply (step_send D.net (D.pays m) κ c (hop (.inl x.2) c) d hd (sendC (.inl x.2) x.1) (arrC (.inl x.2) x.1) (src := D.inM x.1)
    (dst := slabAt (D.outM x.1) c) (q := lent x.2) (D.sent m c x.1) rfl rfl O (Entails.of_eq rfl)
    (fun fd => by
      show _ ⊢ D.outPts (hop (.inl x.2) c) x.1 (blk (.inl x.2) (hop (.inl x.2) c)) (D.gathered m (hop (.inl x.2) c) x.1)
      rw [blk_hop]
      exact Entails.of_eq (D.outPts_written m (hop (.inl x.2) c) c x.1 fd _ rfl)) Kt k) $$ [HF HA Hout Hin HO]
  · isplitr [HO]
    · isplitl [HF]; · iexact HF
      isplitl [HA]; · iexact HA
      isplitl [Hin]; · iexact Hin
      iexact Hout
    iexact HO
  iexact Hk

/-- A slab that has arrived is passed on. -/
theorem step_startPass (c : Dev 8) (x : Fin 3 × Fin n) (O : CellTallies 8 τ sig Unit) (off : Fin 3 → ℕ) (h : off = ![(blk (.inl x.1.succ) c).val, 0, 0])
    (d : Dev 8) (hd : d = hop (.inr x.1) c)
    {hsc : (slab (D.outM x.2) off (blk (.inl x.1.succ) c) h : Memref sig (Dev.tc d : Thread 8 τ).2.kind .hbm _ _).view.ref.isScScratch = false}
    {hsrc hdst : (slab (D.outM x.2) off (blk (.inl x.1.succ) c) h).view.WordExact}
    {hsem : DmaTarget.Typed .hbm (.dma (D.sem (arrC (.inr x.1) x.2)))
      (.remote (Dev.tc d : Thread 8 τ) (slab (D.outM x.2) off (blk (.inl x.1.succ) c) h) (.dma (D.sem (sendC (.inr x.1) x.2))) hsc)}
    (Kt : PUnit → sProp 𝕄) (k : PUnit → Prg 8 τ sig Λ F) :
    iprop((D.ready m κ c (.inr x.1) x.2 ∗ (D.pays m).pay c (arrC (.inl x.1.succ) x.2))
        ∗ owesSome c (O + tallyAt (gcell D.net (hop (.inr x.1) c) (arrC (.inr x.1) x.2)) () (D.net.amount (arrC (.inr x.1) x.2))))
      ⊢ iprop((iprop(going D.net (D.pays m) κ c (sendC (.inr x.1) x.2) ∗ owesSome c O) -∗ runs defs c (k ⟨⟩) Kt)
        -∗ runs defs c (.op (.enqueueDma (slab (D.outM x.2) off (blk (.inl x.1.succ) c) h)
          (.remote (Dev.tc d : Thread 8 τ) (slab (D.outM x.2) off (blk (.inl x.1.succ) c) h) (.dma (D.sem (sendC (.inr x.1) x.2))) hsc)
          (.dma (D.sem (arrC (.inr x.1) x.2))) hsrc hdst hsem) k) Kt) := by
  subst h
  unfold ready
  rw [show (D.pays m).pay c (arrC (.inl x.1.succ) x.2) = D.outPts c x.2 (blk (.inl x.1.succ) c) (D.gathered m c x.2) from rfl]
  iintro ⟨⟨⟨HF, HA, Hout⟩, Hin⟩, HO⟩ Hk
  iapply (step_send D.net (D.pays m) κ c (hop (.inr x.1) c) d hd (sendC (.inr x.1) x.2) (arrC (.inr x.1) x.2)
    (src := slabAt (D.outM x.2) (blk (.inl x.1.succ) c))
    (dst := slabAt (D.outM x.2) (blk (.inl x.1.succ) c)) (q := fullShare) (D.gathered m c x.2) rfl rfl O (Entails.of_eq rfl)
    (fun fd => by
      show _ ⊢ D.outPts (hop (.inr x.1) c) x.2 (blk (.inr x.1) (hop (.inr x.1) c)) (D.gathered m (hop (.inr x.1) c) x.2)
      rw [blk_hop]
      exact Entails.of_eq (D.outPts_written m (hop (.inr x.1) c) (blk (.inl x.1.succ) c) x.2 fd _ (D.gathered_read m c _ x.2))) Kt k) $$ [HF HA Hout Hin HO]
  · isplitr [HO]
    · isplitl [HF]; · iexact HF
      isplitl [HA]; · iexact HA
      isplitl [Hin]; · iexact Hin
      iexact Hout
    iexact HO
  iexact Hk

/-- A slab is waited for and passed on. -/
theorem step_pass (c : Dev 8) (x : Fin 3 × Fin n) (l : List (Fin 3 × Fin n)) (Kt : PUnit → sProp 𝕄) (k : PUnit → Prg 8 τ sig Λ F) :
    iprop(D.pass0 m κ c x ∗ levAts leveled D.lev ∗ owesSome c (D.owedPass c (x :: l)))
      ⊢ iprop((iprop(D.pass1 m κ c x ∗ levAts leveled D.lev ∗ owesSome c (D.owedPass c l)) -∗ runs defs c (k ⟨⟩) Kt)
        -∗ runs defs c (.op (D.waitPass c x) fun _ => .op (D.startPass c x) k) Kt) := by
  unfold pass0 pass1
  iintro ⟨⟨HG, HR⟩, #HL, HO⟩ Hk
  iapply (step_wait_owing D.net (D.pays m) κ c (arrC (.inl x.1.succ) x.2) (D.owedPass c (x :: l)) (w := D.waitPass c x)
    (wpE_waitDma2_eq Variants.none (c.tc : Thread 8 τ) none Set.univ)) $$ [HG HO]
  · isplitl [HG]; · iexact HG
    isplitl [HO]; · iexact HO
    iapply (D.mayPass c x.1.succ x.2 (x :: l)); iexact HL
  iintro ⟨⟨HD, Hp⟩, HO⟩
  iapply (D.step_startPass m κ c x (D.owedPass c l) (D.arrOff x.2 (.inl x.1.succ) c) (D.arrOff_eq x.2 (.inl x.1.succ) c)
    ⟨D.devNo x.2 (.inr x.1) c, D.devNo_lt _ _ _⟩ (Fin.ext (D.devNo_eq x.2 (.inr x.1) c)) Kt k) $$ [HR Hp HO]
  · isplitr [HO]
    · isplitl [HR] <;> iassumption
    iexact HO
  iintro ⟨HG, HO⟩
  iapply Hk
  isplitl [HD HG]
  · isplitl [HD] <;> iassumption
  isplitr; · iexact HL
  iexact HO

/-! ## The body -/

theorem runs_loops (c : Dev 8) (Kt : PUnit → sProp 𝕄) :
    iprop((levAts leveled D.lev ∗ D.held0 m κ c) ∗ owesSome c (D.owesAll c))
      ⊢ iprop((iprop(D.held2 m κ c ∗ owesSome c 0) -∗ |={Set.univ}=> Kt ⟨⟩) -∗ runs defs c D.loops Kt) := by
  unfold held0 held2 loops owesAll
  iintro ⟨⟨#HL, Hown, Hfirst, Hpass, Hlate⟩, HO⟩ Hk
  simp only [wp_deviceId]
  iapply (runs_each c (D.startOwn c) (D.own0 m κ c) (fun a => going D.net (D.pays m) κ c (ownC a)) (fun _ => iprop(emp)) Kt
    (fun a l k => by
      iintro ⟨H, -⟩ Hk
      iapply (D.step_startOwn m κ c a (D.ownOff a c) (D.ownOff_eq a c) Kt k) $$ H
      iintro H
      iapply Hk
      isplitl; · iexact H
      iempintro) D.lanes) $$ [Hown]
  · isplitl; · iexact Hown
    iempintro
  iintro ⟨Hown, -⟩
  iapply (runs_each c (D.startFirst c) (D.first0 m κ c) (fun x => going D.net (D.pays m) κ c (sendC (.inl x.2) x.1))
    (fun l => owesSome c (D.owedPass c D.triples + D.owedFirst c l)) Kt
    (fun x l k => by
      have h := D.step_startFirst m κ (defs := defs) c x (D.owedPass c D.triples + D.owedFirst c l) (D.ownOff x.1 c) (D.ownOff_eq x.1 c)
        ⟨D.devNo x.1 (.inl x.2) c, D.devNo_lt _ _ _⟩ (Fin.ext (D.devNo_eq x.1 (.inl x.2) c)) (hsc := rfl) (hsrc := D.in_exact x.1) (hdst := D.own_exact x.1 c)
        (hsem := ⟨⟨rfl, Or.inl rfl⟩, trivial⟩) Kt k
      rw [add_assoc] at h
      exact h) D.quads) $$ [Hfirst HO]
  · isplitl [Hfirst] <;> iassumption
  iintro ⟨Hfirst, HO⟩
  rw [show D.owedPass c D.triples + D.owedFirst c [] = D.owedPass (τ := τ) c D.triples from add_zero _]
  iapply (runs_each2 c (D.waitPass c) (D.startPass c) (D.pass0 m κ c) (D.pass1 m κ c)
    (fun l => iprop(levAts leveled D.lev ∗ owesSome c (D.owedPass c l))) Kt
    (fun x l k => D.step_pass m κ c x l Kt k) D.triples) $$ [Hpass HO]
  · isplitl [Hpass]; · iexact Hpass
    isplitr; · iexact HL
    iexact HO
  iintro ⟨Hpass, -, HO⟩
  iapply (runs_each c (D.waitLate c) (fun x => going D.net (D.pays m) κ c (arrC (late x.2) x.1)) (fun x => got D.net (D.pays m) κ c (arrC (late x.2) x.1))
    (fun _ => owesSome c 0) Kt
    (fun x _ k => step_wait D.net (D.pays m) κ c (arrC (late x.2) x.1) (w := D.waitLate c x) (wpE_waitDma2_eq Variants.none (c.tc : Thread 8 τ) none Set.univ) Kt k) D.quads) $$ [Hlate HO]
  · isplitl [Hlate]; · iexact Hlate
    iexact HO
  iintro ⟨Hlate, HO⟩
  iapply (runs_each c (D.waitFirst c) (fun x => going D.net (D.pays m) κ c (sendC (.inl x.2) x.1)) (fun x => got D.net (D.pays m) κ c (sendC (.inl x.2) x.1))
    (fun _ => owesSome c 0) Kt
    (fun x _ k => step_wait D.net (D.pays m) κ c (sendC (.inl x.2) x.1) (w := D.waitFirst c x)
      (fun K => (wpE_waitDma2_eq Variants.none (c.tc : Thread 8 τ) none Set.univ K).trans (by rw [D.credit]; rfl)) Kt k) D.quads) $$ [Hfirst HO]
  · isplitl [Hfirst] <;> iassumption
  iintro ⟨Hfirst, HO⟩
  iapply (runs_each c (D.waitPassed c) (D.pass1 m κ c) (D.pass2 m κ c) (fun _ => owesSome c 0) Kt
    (fun x _ k => by
      unfold pass1 pass2
      iintro ⟨⟨HD, HG⟩, HO⟩ Hk
      iapply (step_wait D.net (D.pays m) κ c (sendC (.inr x.1) x.2) (w := D.waitPassed c x)
        (wpE_waitDma2_eq Variants.none (c.tc : Thread 8 τ) none Set.univ) Kt k) $$ [HG HO]
      · isplitl [HG] <;> iassumption
      iintro ⟨HG, HO⟩
      iapply Hk
      isplitl [HD HG]
      · isplitl [HD] <;> iassumption
      iexact HO) D.triples) $$ [Hpass HO]
  · isplitl [Hpass] <;> iassumption
  iintro ⟨Hpass, HO⟩
  iapply (runs_each c (D.waitOwn c) (fun a => going D.net (D.pays m) κ c (ownC a)) (fun a => got D.net (D.pays m) κ c (ownC a)) (fun _ => owesSome c 0) Kt
    (fun a _ k => step_wait D.net (D.pays m) κ c (ownC a) (w := D.waitOwn c a) (wpE_waitDma2_eq Variants.none (c.tc : Thread 8 τ) none Set.univ) Kt k) D.lanes) $$ [Hown HO]
  · isplitl [Hown] <;> iassumption
  iintro ⟨Hown, HO⟩
  unfold runs
  rw [wp_ret]
  iapply Hk
  isplitr [HO]
  · isplitl [Hown]; · iexact Hown
    isplitl [Hfirst]; · iexact Hfirst
    isplitl [Hpass] <;> iassumption
  iexact HO

end Gather

end Cert.Wire

end
-- ==== Proof.GatherDeal.lean ====
module

public import proofs.«01_k».proof.Proof.GatherBody

/-!
# The whole gather

At launch each device holds its own arrays and semaphores. Its result slabs go to the devices that will write them, and the
rights to credit its arrival cells to the devices that will send. When the body has ended, each device's shares and slabs
make up its arrays again.
-/

@[expose] public section

noncomputable section

namespace Cert.Wire

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

namespace Gather

variable {τ : Topo} {sig : RefSig} {n : ℕ} {Λ : Labels} {F : FTy → Type} [FloatOps F] (D : Gather sig n)

local notation "𝕄" => MT 8 τ sig Unit (Elt F) ℕ (UU 8 τ sig) ℕ

/-! ## Regroupings -/

section Regroup

omit [FloatOps F]

/-- Every link with every array: the four links of a device's own array, and the three it passes on over. -/
theorem deal_links (Φ : Lnk × Fin n → sProp 𝕄) :
    bigSep Finset.univ Φ = iprop((bigSep Finset.univ fun x : Fin n × Fin 4 => Φ (.inl x.2, x.1)) ∗ bigSep Finset.univ fun x : Fin 3 × Fin n => Φ (.inr x.1, x.2)) := by
  rw [bigSep_univ_prod, bigSep_univ_sum, bigSep_univ_prod, bigSep_univ_prod, bigSep_univ_comm fun (a : Fin n) (k : Fin 4) => Φ (.inl k, a)]
  rfl

/-- The arrivals that are not passed on, then those that are. -/
def lateFirst : Lnk ≃ Lnk := Equiv.ofBijective (Sum.elim late fun j => .inl j.succ) (by decide)

theorem deal_late (Φ : Lnk × Fin n → sProp 𝕄) :
    bigSep Finset.univ Φ = iprop((bigSep Finset.univ fun x : Fin n × Fin 4 => Φ (late x.2, x.1)) ∗ bigSep Finset.univ fun x : Fin 3 × Fin n => Φ (.inl x.1.succ, x.2)) :=
  (bigSep_univ_equiv (lateFirst.prodCongr (Equiv.refl (Fin n))) Φ).trans (deal_links fun y => Φ (lateFirst y.1, y.2))

/-- What is dealt per device, link and array may be dealt to the devices at the other ends instead. -/
theorem deal_hops (Φ : Dev 8 → Lnk × Fin n → sProp 𝕄) :
    (bigSep Finset.univ fun d => bigSep Finset.univ fun y => Φ d y)
      = bigSep Finset.univ fun d => bigSep Finset.univ fun y => Φ (hop y.1 d) y :=
  deal_ends (fun y => hop y.1) (fun y => hop_hop y.1) Φ

theorem deal_slabs (d : Dev 8) (Φ : Fin n → Fin 8 → sProp 𝕄) :
    (bigSep Finset.univ fun a => bigSep Finset.univ fun s => Φ a s)
      = iprop((bigSep Finset.univ fun a => Φ a d) ∗ bigSep Finset.univ fun y : Lnk × Fin n => Φ y.2 (blk y.1 d)) := by
  rw [bigSep_univ_prod, bigSep_univ_comm (fun (l : Lnk) (a : Fin n) => Φ a (blk l d)), ← bigSep_sep']
  refine bigSep_congr fun a _ => ?_
  rw [blk_image d, bigSep_insert (blk_ne d), bigSep_map]
  rfl

theorem lanes_all (P : Fin n → sProp 𝕄) : sepL P D.lanes = bigSep Finset.univ P := sepL_all P _ D.lanes_nodup D.lanes_univ

theorem quads_all (P : Fin n × Fin 4 → sProp 𝕄) : sepL P D.quads = bigSep Finset.univ P :=
  sepL_all P _ (D.lanes_nodup.product (by decide)) (by
    ext x
    have h : x.1 ∈ D.lanes := List.mem_toFinset.mp (D.lanes_univ ▸ Finset.mem_univ x.1)
    have h2 : ∀ k : Fin 4, k ∈ ([0, 1, 2, 3] : List (Fin 4)) := by decide
    exact ⟨fun _ => Finset.mem_univ x, fun _ => List.mem_toFinset.mpr (List.mem_product.mpr ⟨h, h2 x.2⟩)⟩)

theorem triples_all (P : Fin 3 × Fin n → sProp 𝕄) : sepL P D.triples = bigSep Finset.univ P :=
  sepL_all P _ (List.Nodup.product (by decide) D.lanes_nodup) (by
    ext x
    have h : x.2 ∈ D.lanes := List.mem_toFinset.mp (D.lanes_univ ▸ Finset.mem_univ x.2)
    have h2 : ∀ k : Fin 3, k ∈ ([0, 1, 2] : List (Fin 3)) := by decide
    exact ⟨fun _ => Finset.mem_univ x, fun _ => List.mem_toFinset.mpr (List.mem_product.mpr ⟨h2 x.1, h⟩)⟩)

end Regroup

/-! ## Arrays -/

variable (m : (ℓ : Loc 8 τ sig) → Buf (Elt F) ℓ)

omit [FloatOps F] in
theorem regroup (H H0 H1 H2 H3 : sProp 𝕄) : iprop(H ∗ (H0 ∗ H1) ∗ H2 ∗ H3) = iprop(H ∗ H0 ∗ H1 ∗ H2 ∗ H3 ∗ emp) := by
  have h1 : iprop(H ∗ (H0 ∗ H1) ∗ H2 ∗ H3) ⊢ iprop(H ∗ H0 ∗ H1 ∗ H2 ∗ H3 ∗ emp) := by
    iintro ⟨H, ⟨H0, H1⟩, H2, H3⟩
    isplitl [H]; · iexact H
    isplitl [H0]; · iexact H0
    isplitl [H1]; · iexact H1
    isplitl [H2]; · iexact H2
    isplitl [H3]; · iexact H3
    iempintro
  have h2 : iprop(H ∗ H0 ∗ H1 ∗ H2 ∗ H3 ∗ emp) ⊢ iprop(H ∗ (H0 ∗ H1) ∗ H2 ∗ H3) := by
    iintro ⟨H, H0, H1, H2, H3, -⟩
    isplitl [H]; · iexact H
    isplitl [H0 H1]
    · isplitl [H0] <;> iassumption
    isplitl [H2] <;> iassumption
  exact BI.Entails.antisymm h1 h2

omit [FloatOps F] in
theorem inPts_halves (q : PosShare TreeShare) (d : Dev 8) (a : Fin n) : D.inPts m q d a = iprop(D.inPts m q.left d a ∗ D.inPts m q.right d a) :=
  BI.Entails.antisymm (pointsTo_share (PosShare.mem_left_op_right q)).1 (pointsTo_share (PosShare.mem_left_op_right q)).2

omit [FloatOps F] in
/-- An array is the share of it that is kept and those that are lent. -/
theorem in_shares (d : Dev 8) (a : Fin n) :
    ((D.inM a).view.loc (d.tc : Thread 8 τ) ↦{fullShare} D.sent m d a : sProp 𝕄)
      = iprop(D.inPts m kept d a ∗ bigSep Finset.univ fun k => D.inPts m (lent k) d a) := by
  have hset : ((D.inM a).view.loc (d.tc : Thread 8 τ) ↦{fullShare} D.sent m d a : sProp 𝕄) = D.inPts m fullShare d a := by
    unfold inPts; rw [(D.inWhole a).set_eq_univ]
  rw [hset, inPts_halves, inPts_halves D m fullShare.right, inPts_halves D m fullShare.right.left, inPts_halves D m fullShare.right.right,
    ← sepL_all (fun k => D.inPts m (lent k) d a) [0, 1, 2, 3] (by decide) (by decide)]
  exact regroup _ _ _ _ _

omit [FloatOps F] in
/-- A device's arrays: the shares of what it sends, and its results slab by slab, its own and those that arrive. -/
theorem arrays_slabs (d : Dev 8) (f : (a : Fin n) → Buf (Elt F) ((D.outM a).view.loc (d.tc : Thread 8 τ))) :
    (iprop((bigSep Finset.univ fun a => (D.inM a).view.loc (d.tc : Thread 8 τ) ↦{fullShare} D.sent m d a)
        ∗ bigSep Finset.univ fun a => (D.outM a).view.loc (d.tc : Thread 8 τ) ↦{fullShare} f a) : sProp 𝕄)
      = iprop(((bigSep Finset.univ fun a => D.inPts m kept d a) ∗ bigSep Finset.univ fun x : Fin n × Fin 4 => D.inPts m (lent x.2) d x.1)
        ∗ ((bigSep Finset.univ fun a => D.outPts d a d (f a)) ∗ bigSep Finset.univ fun y : Lnk × Fin n => D.outPts d y.2 (blk y.1 d) (f y.2))) := by
  rw [bigSep_congr fun a _ => D.in_shares m d a, bigSep_congr fun a _ => whole_slabs (D.outM a) (D.outWhole a) d (f a), bigSep_sep',
    deal_slabs d fun a s => D.outPts d a s (f a), bigSep_univ_prod (fun x : Fin n × Fin 4 => D.inPts m (lent x.2) d x.1)]

omit [FloatOps F] in
theorem arrays_eq (d : Dev 8) (V : (b : Ref sig .tc) → Buf (Elt F) ((d.tc : Thread 8 τ).loc b)) :
    (unscopedBufs d V : sProp 𝕄)
      = iprop((bigSep Finset.univ fun a => (D.inM a).view.loc (d.tc : Thread 8 τ) ↦{fullShare} V (D.inM a).view.ref)
        ∗ bigSep Finset.univ fun a => (D.outM a).view.loc (d.tc : Thread 8 τ) ↦{fullShare} V (D.outM a).view.ref) := by
  unfold unscopedBufs
  rw [D.refs_univ, bigSep_map, bigSep_univ_sum]
  rfl

/-! ## The deal -/

omit [FloatOps F] in
/-- What all devices owe is what each is due. -/
theorem due_arrivals (c : Dev 8) :
    (Pipeline.launchCred D.owesAll c : sProp 𝕄) ⊢ bigSep Finset.univ fun y : Lnk × Fin n => due D.net c (arrC y.1 y.2) := by
  have h1 := due_all (F := F) (τ := τ) D.net c (fun x : Fin 3 × Fin n => arrC (.inr x.1) x.2) (fun x => hop (.inr x.1)) (fun x => hop_hop _) D.triples
  have h2 := due_all (F := F) (τ := τ) D.net c (fun x : Fin n × Fin 4 => arrC (.inl x.2) x.1) (fun x => hop (.inl x.2)) (fun x => hop_hop _) D.quads
  rw [D.triples_all] at h1
  rw [D.quads_all] at h2
  rw [deal_links]
  show Pipeline.launchCred (fun d => D.owedPass d D.triples + D.owedFirst d D.quads) c ⊢ _
  rw [Pipeline.launchCred_add]
  iintro ⟨H1, H2⟩
  isplitl [H2]
  · iapply h2; iexact H2
  · iapply h1; iexact H1

variable (κ : GSem 8 τ sig → ℕ)

theorem held0_of (c : Dev 8) :
    iprop((bigSep Finset.univ fun a => D.own0 m κ c a) ∗ (bigSep Finset.univ fun y : Lnk × Fin n => D.ready m κ c y.1 y.2)
        ∗ (bigSep Finset.univ fun x : Fin n × Fin 4 => D.inPts m (lent x.2) c x.1)
        ∗ bigSep Finset.univ fun y : Lnk × Fin n => going D.net (D.pays m) κ c (arrC y.1 y.2))
      ⊢ D.held0 m κ c := by
  unfold held0 first0 pass0
  rw [lanes_all, quads_all, triples_all, quads_all, deal_links fun y : Lnk × Fin n => D.ready m κ c y.1 y.2,
    deal_late fun y : Lnk × Fin n => going D.net (D.pays m) κ c (arrC y.1 y.2)]
  simp only [bigSep_sep']
  iintro ⟨H1, ⟨H2, H3⟩, H4, H5, H6⟩
  isplitl [H1]; · iexact H1
  isplitl [H2 H4]
  · isplitl [H2] <;> iassumption
  isplitl [H3 H6]
  · isplitl [H6] <;> iassumption
  iexact H5

/-- A device's own slabs, at some contents; -/
theorem some_own : (bigSep Finset.univ fun d => bigSep Finset.univ fun a => D.outPts d a d (D.stale m d a) : sProp 𝕄)
    ⊢ bigSep Finset.univ fun d => bigSep Finset.univ fun a => iprop(∃ f, D.outPts d a d f) :=
  bigSep_mono fun d _ => bigSep_mono fun a _ => some_contents _ _

/-- and the slabs others write, at theirs. -/
theorem some_out : (bigSep Finset.univ fun d => bigSep Finset.univ fun y : Lnk × Fin n => D.outPts d y.2 (blk y.1 d) (D.stale m d y.2) : sProp 𝕄)
    ⊢ bigSep Finset.univ fun d => bigSep Finset.univ fun y : Lnk × Fin n => iprop(∃ f, D.outPts (hop y.1 d) y.2 (load y.1 d) f) := by
  rw [deal_hops fun d y => D.outPts d y.2 (blk y.1 d) (D.stale m d y.2)]
  refine bigSep_mono fun d _ => bigSep_mono fun y _ => ?_
  rw [blk_hop]
  exact some_contents _ _

/-- What is left of a device's launch: its arrays, piece by piece, and what it is due. -/
theorem rest_one (d : Dev 8) :
    (iprop(unscopedBufs d (fun b => m ((d.tc : Thread 8 τ).loc b)) ∗ Pipeline.launchCred D.owesAll d) : sProp 𝕄)
      ⊢ iprop(iprop(((bigSep Finset.univ fun a => D.inPts m kept d a) ∗ bigSep Finset.univ fun x : Fin n × Fin 4 => D.inPts m (lent x.2) d x.1)
        ∗ ((bigSep Finset.univ fun a => D.outPts d a d (D.stale m d a)) ∗ bigSep Finset.univ fun y : Lnk × Fin n => D.outPts d y.2 (blk y.1 d) (D.stale m d y.2)))
        ∗ bigSep Finset.univ fun y : Lnk × Fin n => due D.net d (arrC y.1 y.2)) := by
  rw [D.arrays_eq]
  exact BIClass.sep_mono (Entails.of_eq (D.arrays_slabs m d (D.stale m d))) (D.due_arrivals d)

/-- From every cell's invariant, positions and rights, every array and every arrival's credit, each device has what its body
    starts from. -/
theorem deal_held :
    iprop((bigSep Finset.univ fun d => bigSep Finset.univ fun x => inv D.net (D.pays m) κ d x)
        ∗ (bigSep Finset.univ fun d => bigSep Finset.univ fun x => reached ER (gcell D.net d x) 0)
        ∗ (bigSep Finset.univ fun d => bigSep Finset.univ fun x => armed D.net d x)
        ∗ (bigSep Finset.univ fun d => bigSep Finset.univ fun x => dutyTok ER (gcell D.net d x) 0 ())
        ∗ bigSep Finset.univ fun d : Dev 8 => iprop(unscopedBufs d (fun b => m ((d.tc : Thread 8 τ).loc b)) ∗ Pipeline.launchCred D.owesAll d))
      ⊢ (bigSep Finset.univ fun d => D.held0 m κ d : sProp 𝕄) := by
  have hrest : (bigSep Finset.univ fun d : Dev 8 => iprop(unscopedBufs d (fun b => m ((d.tc : Thread 8 τ).loc b)) ∗ Pipeline.launchCred D.owesAll d) : sProp 𝕄) ⊢ _ :=
    bigSep_mono fun d _ => D.rest_one m d
  have hown := D.some_own m
  have hout := D.some_out m
  have hheld : _ ⊢ (bigSep Finset.univ fun d => D.held0 m κ d : sProp 𝕄) := bigSep_mono fun d _ => D.held0_of m κ d
  have hinv := deal_hops (n := n) fun d y => inv D.net (D.pays m) κ d (arrC y.1 y.2)
  have hr := deal_hops (F := F) (n := n) (τ := τ) fun d y => reached ER (gcell D.net d (arrC y.1 y.2)) 0
  have ht := deal_hops (F := F) (n := n) (τ := τ) fun d y => dutyTok ER (gcell D.net d (arrC y.1 y.2)) 0 ()
  unfold own0 ready fresh aim going at hheld
  simp only [bigSep_sep'] at hrest hheld ⊢
  iintro ⟨HI, HR, HA, HT, Hub, Hcr⟩
  ihave HI' := (Entails.of_eq (deal_roles fun d x => inv D.net (D.pays m) κ d x)) $$ HI
  ihave HR' := (Entails.of_eq (deal_roles fun d x => reached ER (gcell D.net d x) 0)) $$ HR
  ihave HA' := (Entails.of_eq (deal_roles fun d x => armed D.net d x)) $$ HA
  ihave HT' := (Entails.of_eq (deal_roles fun d x => dutyTok ER (gcell D.net d x) 0 ())) $$ HT
  icases HI' with ⟨#I1, #I2, #I3⟩
  icases HR' with ⟨#R1, #R2, #R3⟩
  icases HA' with ⟨A1, A2, A3⟩
  icases HT' with ⟨T1, T2, T3⟩
  ihave Hrest' := hrest $$ [Hub Hcr]
  · isplitl [Hub] <;> iassumption
  icases Hrest' with ⟨⟨⟨S1, S2⟩, S3, S4⟩, HD⟩
  ihave #I2' := (Entails.of_eq hinv) $$ I2
  ihave #R2' := (Entails.of_eq hr) $$ R2
  ihave T2' := (Entails.of_eq ht) $$ T2
  ihave S3' := hown $$ S3
  ihave S4' := hout $$ S4
  iapply hheld
  isplitl [A3 T3 S1 S3']
  · isplitl [A3 T3]
    · isplitr; · iexact I3
      isplitl [A3]; · iexact A3
      isplitl [T3]; · iexact T3
      iexact R3
    isplitl [S1]; · iexact S1
    iexact S3'
  isplitl [A1 T1 T2' S4']
  · isplitl [A1 T1]
    · isplitr; · iexact I1
      isplitl [A1]; · iexact A1
      isplitl [T1]; · iexact T1
      iexact R1
    isplitl [T2']
    · isplitr; · iexact I2'
      isplitl [T2']; · iexact T2'
      iexact R2'
    iexact S4'
  isplitl [S2]; · iexact S2
  isplitr; · iexact I2
  isplitl [A2]; · iexact A2
  iexact HD

/-! ## The end -/

/-- A device's arrays when the body has ended. -/
def final (d : Dev 8) : sProp 𝕄 :=
  iprop((bigSep Finset.univ fun a => (D.inM a).view.loc (d.tc : Thread 8 τ) ↦{fullShare} D.sent m d a)
    ∗ bigSep Finset.univ fun a => (D.outM a).view.loc (d.tc : Thread 8 τ) ↦{fullShare} D.gathered m d a)

/-- What a device holds when the body has ended, by kind. -/
theorem of_held2 (c : Dev 8) :
    D.held2 m κ c ⊢ iprop(((bigSep Finset.univ fun y : Lnk × Fin n => done D.net (D.pays m) κ c (sendC y.1 y.2))
          ∗ (bigSep Finset.univ fun y : Lnk × Fin n => done D.net (D.pays m) κ c (arrC y.1 y.2))
          ∗ bigSep Finset.univ fun a => done D.net (D.pays m) κ c (ownC a))
        ∗ ((bigSep Finset.univ fun a => D.inPts m kept c a) ∗ bigSep Finset.univ fun x : Fin n × Fin 4 => D.inPts m (lent x.2) c x.1)
        ∗ ((bigSep Finset.univ fun a => D.outPts c a c (D.gathered m c a)) ∗ bigSep Finset.univ fun y : Lnk × Fin n => D.outPts c y.2 (blk y.1 c) (D.gathered m c y.2))) := by
  have hown (a : Fin n) : (D.pays (τ := τ) m).pay c (ownC a) = iprop(D.outPts c a c (D.gathered m c a) ∗ D.inPts m kept c a) := rfl
  have hfirst (x : Fin n × Fin 4) : (D.pays (τ := τ) m).pay c (sendC (.inl x.2) x.1) = D.inPts m (lent x.2) c x.1 := rfl
  have hpass (x : Fin 3 × Fin n) : (D.pays (τ := τ) m).pay c (sendC (.inr x.1) x.2) = D.outPts c x.2 (blk (.inl x.1.succ) c) (D.gathered m c x.2) := rfl
  have hlate (x : Fin n × Fin 4) : (D.pays (τ := τ) m).pay c (arrC (late x.2) x.1) = D.outPts c x.1 (blk (late x.2) c) (D.gathered m c x.1) := rfl
  unfold held2 pass2 got
  rw [lanes_all, quads_all, triples_all, quads_all, deal_links fun y : Lnk × Fin n => done D.net (D.pays m) κ c (sendC y.1 y.2),
    deal_late fun y : Lnk × Fin n => done D.net (D.pays m) κ c (arrC y.1 y.2),
    deal_late fun y : Lnk × Fin n => D.outPts c y.2 (blk y.1 c) (D.gathered m c y.2)]
  simp only [hown, hfirst, hpass, hlate, bigSep_sep']
  iintro ⟨⟨C1, S1, K1⟩, ⟨C2, K2⟩, ⟨C3, C4, S4⟩, C5, S5⟩
  isplitl [C1 C2 C3 C4 C5]
  · isplitl [C2 C4]
    · isplitl [C2] <;> iassumption
    isplitl [C3 C5]
    · isplitl [C5] <;> iassumption
    iexact C1
  isplitl [K1 K2]
  · isplitl [K1] <;> iassumption
  isplitl [S1]; · iexact S1
  isplitl [S5] <;> iassumption

/-- When the body has ended the device's semaphores are at rest and its arrays whole. -/
theorem finish (d : Dev 8) :
    D.held2 m κ d ⊢ (iprop(|={(Set.univ : Set ℕ)}=> iprop(scopedSems0 (d.tc : Thread 8 τ) ∗ D.final m d)) : sProp 𝕄) := by
  unfold final
  rw [sems_eq D.net D.allScoped, sum_roles, D.arrays_slabs m d (D.gathered m d)]
  refine (D.of_held2 m κ d).trans ?_
  iintro ⟨⟨C1, C2, C3⟩, HS⟩
  imod (close_cells D.net (D.pays m) κ d fun y : Lnk × Fin n => sendC y.1 y.2) $$ C1 with H1
  imod (close_cells D.net (D.pays m) κ d fun y : Lnk × Fin n => arrC y.1 y.2) $$ C2 with H2
  imod (close_cells D.net (D.pays m) κ d fun a => ownC a) $$ C3 with H3
  imodintro
  isplitl [H1 H2 H3]
  · isplitl [H1]; · iexact H1
    isplitl [H2] <;> iassumption
  iexact HS

/-- What the end of a device's run says of its arrays. -/
theorem read_final (d : Dev 8) (s' : Phys 8 τ sig (Elt F)) :
    (iprop(D.final m d ∗ SI s') : sProp 𝕄)
      ⊢ |={(Set.univ : Set ℕ)}=> iprop(⌜(∀ a, s'.mem.mem ((D.inM a).view.loc (d.tc : Thread 8 τ)) = D.sent m d a)
          ∧ ∀ a, s'.mem.mem ((D.outM a).view.loc (d.tc : Thread 8 τ)) = D.gathered m d a⌝ ∗ SI s') := by
  unfold final
  iintro ⟨⟨H1, H2⟩, HS⟩
  ihave H := (pointsTo_read_all Finset.univ (fun a => (D.inM a).view.loc (d.tc : Thread 8 τ)) (D.sent m d) s') $$ [H1 HS]
  · isplitl [H1] <;> iassumption
  icases H with ⟨%h1, HS⟩
  ihave H := (pointsTo_read_all Finset.univ (fun a => (D.outM a).view.loc (d.tc : Thread 8 τ)) (D.gathered m d) s') $$ [H2 HS]
  · isplitl [H2] <;> iassumption
  icases H with ⟨%h2, HS⟩
  imodintro
  isplitr
  · ipureintro; exact ⟨fun a => h1 a (Finset.mem_univ a), fun a => h2 a (Finset.mem_univ a)⟩
  iexact HS

/-- Every run of a program that is this gather, from any memory: the arrays sent are as they were, every result is gathered,
    and every semaphore is at zero. -/
theorem run_gather (g : Dev 8 → PrngReg) (cfg : Pipeline.Cfg sig Λ) [IsEmpty (Fin cfg.W)] (defs₀ : Defs 8 τ sig (Elt F) Λ)
    (hN : cfg.N = 1) (hinj : Function.Injective (Pipeline.cellOf (nD := 8) (τ := τ) fun _ : Fin 1 => cfg))
    (hscoped : ∀ c : Dev 8, (scopedBufs (c.tc : Thread 8 τ) : sProp 𝕄) = iprop(Dat.staging cfg c ∗ emp))
    (hres : Λ.Result cfg.body = PUnit)
    (hbody : ∀ t : Fin cfg.N, HEq (defs₀ .tc cfg.body (cfg.bodyArgs t (cfg.slots t))) (D.loops : Prg 8 τ sig Λ F)) :
    θ_run (Pipeline.defs (calls cfg) defs₀) (onTc fun _ => .op (.customCall (Pipeline.entry 0) ()) fun _ => .ret ⟨⟩) ⟨m, fun _ => 0, g⟩ fun r =>
      (∀ d : Dev 8, (∀ a, r.2.mem ((D.inM a).view.loc (d.tc : Thread 8 τ)) = D.sent m d a)
        ∧ ∀ a, r.2.mem ((D.outM a).view.loc (d.tc : Thread 8 τ)) = D.gathered m d a) ∧ r.2.sem = fun _ => 0 :=
  run_whole D.net (D.pays m) m g D.owesAll D.lev cfg defs₀ (D.held0 m) (D.held2 m) (D.final m) D.allScoped hN hinj hscoped (D.deal_held m)
    D.loops hres hbody (fun κ c Kt => D.runs_loops m κ c Kt)
    (D.finish m)
    (fun d s => (∀ a, s.mem ((D.inM a).view.loc (d.tc : Thread 8 τ)) = D.sent m d a)
      ∧ ∀ a, s.mem ((D.outM a).view.loc (d.tc : Thread 8 τ)) = D.gathered m d a)
    (D.read_final m)

end Gather

end Cert.Wire

end
-- ==== Proof.GatherValue.lean ====
module

public import proofs.«01_k».proof.Proof.GatherDeal
public import Idealize.ShloMosaic.Lib.Layout

/-!
# What a gather computes

The devices' arrays are the eight blocks of rows of one whole array. Every device gathers that whole array, its rows in
eight slabs.
-/

@[expose] public section

noncomputable section

namespace Cert.Wire

open Idealize.ShloMosaic
open Idealize.ShloMosaic.TcCoe
open Idealize.SL.Sem

/-- Eight blocks of `R` rows. -/
abbrev Rows (R C : ℕ) : Shape := ⟨2, ![8 * R, C]⟩

theorem rows_tiles (R C : ℕ) : Layout.Tiles (Slab R C) (Rows R C) 0 8 := ⟨rfl, fun b => by fin_cases b <;> rfl⟩

theorem rows_casts (R C : ℕ) : (Rows R C).ShapeCasts (Slabs R C) := by
  simp [Shape.ShapeCasts, Shape.numel, Fin.prod_univ_succ, Nat.mul_assoc]

/-- The rows of the whole array, in slabs. -/
def stack {α : Type} {R C : ℕ} (X : (Rows R C).Idx → α) : (Slabs R C).Idx → α := shapeCast (Slabs R C) X (rows_casts R C)

/-- A block of the whole array. -/
abbrev rowsOf {α : Type} {R C : ℕ} (c : Fin 8) (X : (Rows R C).Idx → α) : (Slab R C).Idx → α := Layout.block (Slab R C) (Rows R C) 0 8 c X (rows_tiles R C)

/-- The rows in eight slabs: slab `s` is block `s`. -/
theorem stack_apply {α : Type} {R C : ℕ} (X : (Rows R C).Idx → α) (i : (Slabs R C).Idx) :
    rowsOf (i 0) X (ValueIdx.ix2 (i 1) (i 2)) = stack X i := by
  refine (shapeCast_apply _ (rows_casts R C) i _ ?_).symm
  rw [Shape.rowMajor_val_three, Shape.rowMajor_val_two]
  rfl

namespace Gather

variable {τ : Topo} {sig : RefSig} {n : ℕ} {Λ : Labels} {F : FTy → Type} [FloatOps F] (D : Gather sig n)
  (m : (ℓ : Loc 8 τ sig) → Buf (Elt F) ℓ)

/-- What device `d` gathered of array `a`, where the devices' arrays are the blocks of `X`. -/
theorem gathered_stack (d : Dev 8) (a : Fin n) (X : (Rows (D.rows a) (D.cols a)).Idx → Elt F (D.elt a))
    (hX : ∀ c : Dev 8, (D.inM a).view.read (Elt F) (D.sent m c a) = rowsOf c X) :
    (D.outM a).view.read (Elt F) (D.gathered m d a) = stack X := by
  unfold gathered
  rw [View.read_write_univ]
  funext i
  exact (congrFun (hX (i 0 : Dev 8)) _).trans (stack_apply X i)

/-- From the run of a gather, array by array. -/
theorem run_stack {defs : Defs 8 τ sig (Elt F) Λ} {main : Dev 8 → Prg 8 τ sig Λ F} {g : Dev 8 → PrngReg}
    (hrun : θ_run defs (onTc main) ⟨m, fun _ => 0, g⟩ fun r =>
      (∀ d : Dev 8, (∀ a, r.2.mem ((D.inM a).view.loc (d.tc : Thread 8 τ)) = D.sent m d a)
        ∧ ∀ a, r.2.mem ((D.outM a).view.loc (d.tc : Thread 8 τ)) = D.gathered m d a) ∧ r.2.sem = fun _ => 0)
    (X : (a : Fin n) → (Rows (D.rows a) (D.cols a)).Idx → Elt F (D.elt a))
    (hX : ∀ (c : Dev 8) a, (D.inM a).view.read (Elt F) (D.sent m c a) = rowsOf c (X a)) :
    θ_run defs (onTc main) ⟨m, fun _ => 0, g⟩ fun r => ∀ c : Dev 8,
      (∀ a, (D.outM a).view.read (Elt F) (r.2.mem ((D.outM a).view.loc (c.tc : Thread 8 τ))) = stack (X a))
        ∧ ∀ a, r.2.mem ((D.inM a).view.loc (c.tc : Thread 8 τ)) = D.sent m c a :=
  (θ_run _ _ _).mono (fun r hr c => ⟨fun a => by
    rw [(hr.1 c).2 a]; exact D.gathered_stack m c a (X a) (fun c => hX c a), (hr.1 c).1⟩) hrun

end Gather

end Cert.Wire

end
-- ==== Proof.GatherWhole.lean ====
module

public import proofs.«01_k».proof.Proof.GatherValue
public import proofs.«01_k».proof.Defs
public import proofs.«01_k».proof.Proof.Gen.GatherWeights
public import proofs.«01_k».proof.Proof.Gen.GatherWeightsIdeal
public import proofs.«01_k».proof.Proof.Gen.GatherWeightsIdeal.Points
public import proofs.«01_k».proof.Proof.Gen.GatherWeightsIdeal.Launch
public import proofs.«01_k».proof.Proof.Gen.AllGatherWeightsIdeal.Run
public import proofs.«01_k».proof.Proof.Gen.AllGatherWeights.Run

/-!
# The gather of the weights

Six arrays.
-/

@[expose] public section

noncomputable section

namespace Cert.GatherWeightsIdeal.Whole

open Cert.Wire
open Idealize.ShloMosaic Idealize.ShloMosaic.TcCoe
open Idealize.SL Idealize.SL.BI Idealize.SL.Sem
open scoped Idealize.SL.BI
open Idealize.SL.BI.BIBase Idealize.SL.BI.Laws Idealize.SL.ProofMode

variable {F : FTy → Type} [FloatOps F]

/-- A cell's semaphore. -/
def semOf : GCell 6 → DmaSem sig
  | .inl (.inl k, a) => ⟨7 * a.val + k.val, by revert k a; decide⟩
  | .inl (.inr j, a) => ⟨7 * a.val + (4 + j.val), by revert j a; decide⟩
  | .inr (.inl (.inl k, a)) => ⟨42 + (7 * a.val + k.val), by revert k a; decide⟩
  | .inr (.inl (.inr j, a)) => ⟨42 + (7 * a.val + (4 + j.val)), by revert j a; decide⟩
  | .inr (.inr a) => ⟨84 + a.val, by revert a; decide⟩

/-- The link a semaphore's place among an array's seven stands for. -/
def linkOf (r : ℕ) : Lnk := if r % 7 < 4 then .inl ⟨r % 7 % 4, Nat.mod_lt _ (by decide)⟩ else .inr ⟨(r % 7 - 4) % 3, Nat.mod_lt _ (by decide)⟩

/-- The cell a semaphore is. -/
def cellOf (i : DmaSem sig) : GCell 6 :=
  if i.val < 42 then .inl (linkOf i.val, ⟨i.val / 7 % 6, Nat.mod_lt _ (by decide)⟩)
  else if i.val < 84 then .inr (.inl (linkOf (i.val - 42), ⟨(i.val - 42) / 7 % 6, Nat.mod_lt _ (by decide)⟩))
  else .inr (.inr ⟨(i.val - 84) % 6, Nat.mod_lt _ (by decide)⟩)

abbrev rows : Fin 6 → ℕ
  | 0 => 2048 | 1 => 128 | 2 => 1024 | 3 => 1024 | 4 => 256 | 5 => 4

abbrev cols : Fin 6 → ℕ
  | 0 => 1282 | 1 => 1024 | 2 => 256 | 3 => 256 | 4 => 2048 | 5 => 384

abbrev elt : Fin 6 → EltTy
  | 0 => .bf16 | 1 => .bf16 | 2 => .bf16 | 3 => .bf16 | 4 => .bf16 | 5 => .f32

abbrev inM : (a : Fin 6) → Memref sig .tc .hbm (Slab (rows a) (cols a)) (elt a)
  | 0 => Memref.whole main_arg0 | 1 => Memref.whole main_arg1 | 2 => Memref.whole main_arg2
  | 3 => Memref.whole main_arg3 | 4 => Memref.whole main_arg4 | 5 => Memref.whole main_arg5

abbrev outM : (a : Fin 6) → Memref sig .tc .hbm (Slabs (rows a) (cols a)) (elt a)
  | 0 => Memref.whole main_v1_0 | 1 => Memref.whole main_v1_1 | 2 => Memref.whole main_v1_2
  | 3 => Memref.whole main_v1_3 | 4 => Memref.whole main_v1_4 | 5 => Memref.whole main_v1_5

abbrev ownOff : Fin 6 → Fin 8 → Fin 3 → ℕ
  | 0 => k0_off1 | 1 => k0_off2 | 2 => k0_off3 | 3 => k0_off3 | 4 => k0_off4 | 5 => k0_off5

abbrev arrOff : Fin 6 → Lnk → Fin 8 → Fin 3 → ℕ
  | 0, .inl 0 => k0_off21 | 0, .inl 1 => k0_off6 | 0, .inl 2 => k0_off11 | 0, .inl 3 => k0_off16
  | 0, .inr 0 => k0_off22 | 0, .inr 1 => k0_off23 | 0, .inr 2 => k0_off24
  | 1, .inl 0 => k0_off25 | 1, .inl 1 => k0_off7 | 1, .inl 2 => k0_off12 | 1, .inl 3 => k0_off17
  | 1, .inr 0 => k0_off26 | 1, .inr 1 => k0_off27 | 1, .inr 2 => k0_off28
  | 2, .inl 0 => k0_off29 | 2, .inl 1 => k0_off8 | 2, .inl 2 => k0_off13 | 2, .inl 3 => k0_off18
  | 2, .inr 0 => k0_off30 | 2, .inr 1 => k0_off31 | 2, .inr 2 => k0_off32
  | 3, .inl 0 => k0_off29 | 3, .inl 1 => k0_off8 | 3, .inl 2 => k0_off13 | 3, .inl 3 => k0_off18
  | 3, .inr 0 => k0_off30 | 3, .inr 1 => k0_off31 | 3, .inr 2 => k0_off32
  | 4, .inl 0 => k0_off33 | 4, .inl 1 => k0_off9 | 4, .inl 2 => k0_off14 | 4, .inl 3 => k0_off19
  | 4, .inr 0 => k0_off34 | 4, .inr 1 => k0_off35 | 4, .inr 2 => k0_off36
  | 5, .inl 0 => k0_off37 | 5, .inl 1 => k0_off10 | 5, .inl 2 => k0_off15 | 5, .inl 3 => k0_off20
  | 5, .inr 0 => k0_off38 | 5, .inr 1 => k0_off39 | 5, .inr 2 => k0_off40

abbrev devNo : Fin 6 → Lnk → Fin 8 → ℕ
  | 0, .inl 0 => k0_dev1 | 0, .inl 1 => k0_dev2 | 0, .inl 2 => k0_dev3 | 0, .inl 3 => k0_dev4
  | 1, .inl 0 => k0_dev5 | 1, .inl 1 => k0_dev6 | 1, .inl 2 => k0_dev7 | 1, .inl 3 => k0_dev8
  | 2, .inl 0 => k0_dev9 | 2, .inl 1 => k0_dev10 | 2, .inl 2 => k0_dev11 | 2, .inl 3 => k0_dev12
  | 3, .inl 0 => k0_dev13 | 3, .inl 1 => k0_dev14 | 3, .inl 2 => k0_dev15 | 3, .inl 3 => k0_dev16
  | 4, .inl 0 => k0_dev17 | 4, .inl 1 => k0_dev18 | 4, .inl 2 => k0_dev19 | 4, .inl 3 => k0_dev20
  | 5, .inl 0 => k0_dev21 | 5, .inl 1 => k0_dev22 | 5, .inl 2 => k0_dev23 | 5, .inl 3 => k0_dev24
  | 0, .inr 0 => k0_dev25 | 1, .inr 0 => k0_dev26 | 2, .inr 0 => k0_dev27 | 3, .inr 0 => k0_dev28 | 4, .inr 0 => k0_dev29 | 5, .inr 0 => k0_dev30
  | 0, .inr 1 => k0_dev31 | 1, .inr 1 => k0_dev32 | 2, .inr 1 => k0_dev33 | 3, .inr 1 => k0_dev34 | 4, .inr 1 => k0_dev35 | 5, .inr 1 => k0_dev36
  | 0, .inr 2 => k0_dev37 | 1, .inr 2 => k0_dev38 | 2, .inr 2 => k0_dev39 | 3, .inr 2 => k0_dev40 | 4, .inr 2 => k0_dev41 | 5, .inr 2 => k0_dev42

theorem ownOff_eq (a : Fin 6) (d : Fin 8) : ownOff a d = ![d.val, 0, 0] := by revert a d; decide +kernel

theorem outM_isWhole (a : Fin 6) : (outM a).IsWhole := by fin_cases a <;> exact Memref.isWhole_whole _

/-- Every slab is whole words of memory. -/
theorem slab_words (a : Fin 6) (off : Fin 3 → ℕ) (s : Fin 8) (h : off = ![s.val, 0, 0]) : (slab (outM a) off s h).view.WordExact := by
  have hs := ownOff_eq a s
  rw [← h] at hs
  subst hs
  match a with
  | 0 => exact ((outM_isWhole 0).wordExact_slice rfl _ (Gen.facts.k0_off1_wordsbf16 s)).reshape _ _
  | 1 => exact ((outM_isWhole 1).wordExact_slice rfl _ (Gen.facts.k0_off2_wordsbf16 s)).reshape _ _
  | 2 => exact ((outM_isWhole 2).wordExact_slice rfl _ (Gen.facts.k0_off3_wordsbf16 s)).reshape _ _
  | 3 => exact ((outM_isWhole 3).wordExact_slice rfl _ (Gen.facts.k0_off3_wordsbf16 s)).reshape _ _
  | 4 => exact ((outM_isWhole 4).wordExact_slice rfl _ (Gen.facts.k0_off4_wordsbf16 s)).reshape _ _
  | 5 => exact (View.wordExact_bits rfl).reshape _ _

def tables : Gather sig 6 where
  rows := rows
  cols := cols
  elt := elt
  inM := inM
  outM := outM
  sem := ⟨semOf, cellOf, by decide +kernel, by decide +kernel⟩
  ownOff := ownOff
  arrOff := arrOff
  devNo := devNo
  lanes := [0, 1, 2, 3, 4, 5]
  inWhole a := by fin_cases a <;> exact Memref.isWhole_whole _
  outWhole := outM_isWhole
  slabExact a s := slab_words a _ s rfl
  credit a := by fin_cases a <;> rfl
  pos a := View.dmaCredit_pos _ (by fin_cases a <;> decide +kernel)
  ownOff_eq := ownOff_eq
  arrOff_eq a l d := by revert a l d; decide +kernel
  devNo_eq a l d := by revert a l d; decide +kernel
  lanes_nodup := by decide
  lanes_univ := by decide
  allScoped sm := by
    match sm with
    | .reg i => exact i.elim0
    | .dma i => exact ⟨by revert i; decide +kernel, i, rfl⟩
  refs_injective := by decide +kernel
  refs_univ := by decide +kernel

set_option maxRecDepth 20000 in
/-- The printed body is the gather's loops. -/
theorem body_eq (t : Fin cfg0.N) : defs₀ (F := F) .tc cfg0.body (cfg0.bodyArgs t (cfg0.slots t)) = tables.loops :=
  (show _ = Gen.bodyAt0 t from rfl).trans rfl

instance : IsEmpty (Fin cfg0.W) := ⟨fun w => w.elim0⟩

/-- The scoped memory is what the call stages through: nothing. -/
theorem scoped_staging (c : Dev nD) :
    (scopedBufs (c.tc : Thread nD τ) : sProp (MT nD τ sig Unit (Elt F) ℕ (UU nD τ sig) ℕ)) = iprop(Pipeline.Dat.staging cfg0 c ∗ emp) := by
  rw [Pipeline.scopedBufs_split (cfgs) (0 : Fin 1) (fun k => k.1.elim0) (fun k => k.1.elim0) (fun w => w.elim0) c, Gen.scopedRest0_eq]
  rfl

/-- Every run of the program: the arrays sent are as they were, every result is gathered, and every semaphore is at zero. -/
theorem run_main (m : (ℓ : Loc nD τ sig) → Buf (Elt F) ℓ) (g : Dev nD → PrngReg) :
    θ_run (defs (F := F)) (onTc main) ⟨m, fun _ => 0, g⟩ fun r =>
      (∀ d : Dev nD, (∀ a, r.2.mem ((tables.inM a).view.loc (d.tc : Thread nD τ)) = tables.sent m d a)
        ∧ ∀ a, r.2.mem ((tables.outM a).view.loc (d.tc : Thread nD τ)) = tables.gathered m d a) ∧ r.2.sem = fun _ => 0 :=
  tables.run_gather m g cfg0 defs₀ rfl Gen.cellOf_inj scoped_staging rfl fun t => heq_of_eq (body_eq t)

/-- Every run ends with the arguments unchanged and every semaphore at zero. -/
theorem run_frame (m : (ℓ : Loc nD τ sig) → Buf (Elt F) ℓ) (g : Dev nD → PrngReg) :
    θ_run (defs (F := F)) (onTc main) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0 :=
  (θ_run _ _ _).mono (fun _ hr => ⟨fun c => ⟨(hr.1 c).1 0, (hr.1 c).1 1, (hr.1 c).1 2, (hr.1 c).1 3, (hr.1 c).1 4, (hr.1 c).1 5⟩, hr.2⟩) (run_main m g)

/-- Every run from the blocks of six whole arrays ends with those arrays gathered on every device. -/
theorem run_blocks (m : (ℓ : Loc nD τ sig) → Buf (Elt F) ℓ) (g : Dev nD → PrngReg)
    (X0 : (Rows 2048 1282).Idx → Elt F .bf16)
    (X1 : (Rows 128 1024).Idx → Elt F .bf16)
    (X2 : (Rows 1024 256).Idx → Elt F .bf16)
    (X3 : (Rows 1024 256).Idx → Elt F .bf16)
    (X4 : (Rows 256 2048).Idx → Elt F .bf16)
    (X5 : (Rows 4 384).Idx → Elt F .f32)
    (h : ∀ c : Dev nD,
      m ((c.tc : Thread nD τ).loc main_arg0) = Layout.block ⟨2, ![2048, 1282]⟩ ⟨2, ![16384, 1282]⟩ 0 8 c X0
      ∧ m ((c.tc : Thread nD τ).loc main_arg1) = Layout.block ⟨2, ![128, 1024]⟩ ⟨2, ![1024, 1024]⟩ 0 8 c X1
      ∧ m ((c.tc : Thread nD τ).loc main_arg2) = Layout.block ⟨2, ![1024, 256]⟩ ⟨2, ![8192, 256]⟩ 0 8 c X2
      ∧ m ((c.tc : Thread nD τ).loc main_arg3) = Layout.block ⟨2, ![1024, 256]⟩ ⟨2, ![8192, 256]⟩ 0 8 c X3
      ∧ m ((c.tc : Thread nD τ).loc main_arg4) = Layout.block ⟨2, ![256, 2048]⟩ ⟨2, ![2048, 2048]⟩ 0 8 c X4
      ∧ m ((c.tc : Thread nD τ).loc main_arg5) = Layout.block ⟨2, ![4, 384]⟩ ⟨2, ![32, 384]⟩ 0 8 c X5) :
    θ_run (defs (F := F)) (onTc main) ⟨m, fun _ => 0, g⟩ fun r => ∀ c : Dev nD,
      r.2.mem ((c.tc : Thread nD τ).loc main_v1_0) = stack (R := 2048) (C := 1282) X0
      ∧ r.2.mem ((c.tc : Thread nD τ).loc main_v1_1) = stack (R := 128) (C := 1024) X1
      ∧ r.2.mem ((c.tc : Thread nD τ).loc main_v1_2) = stack (R := 1024) (C := 256) X2
      ∧ r.2.mem ((c.tc : Thread nD τ).loc main_v1_3) = stack (R := 1024) (C := 256) X3
      ∧ r.2.mem ((c.tc : Thread nD τ).loc main_v1_4) = stack (R := 256) (C := 2048) X4
      ∧ r.2.mem ((c.tc : Thread nD τ).loc main_v1_5) = stack (R := 4) (C := 384) X5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun _ hr c => ⟨(hr c).1 0, (hr c).1 1, (hr c).1 2, (hr c).1 3, (hr c).1 4, (hr c).1 5,
      (hr c).2 0, (hr c).2 1, (hr c).2 2, (hr c).2 3, (hr c).2 4, (hr c).2 5⟩)
    (tables.run_stack m (run_main m g) (fun a => match a with | 0 => X0 | 1 => X1 | 2 => X2 | 3 => X3 | 4 => X4 | 5 => X5) fun c a => by
      match a with
      | 0 => exact (h c).1
      | 1 => exact (h c).2.1
      | 2 => exact (h c).2.2.1
      | 3 => exact (h c).2.2.2.1
      | 4 => exact (h c).2.2.2.2.1
      | 5 => exact (h c).2.2.2.2.2)

theorem frame_ideal : Cert.quiescent_GatherWeightsIdeal := fun m g _ => run_frame m g

theorem frame : Cert.quiescent_GatherWeights := fun m g _ => run_frame (F := Bits) m g

theorem frame_plain : Cert.quiescent_AllGatherWeightsIdeal := fun m g _ =>
  (θ_run _ _ _).mono (fun r hr => ⟨fun c => (hr c).2.2.2.2.2.2, sem_eq_zero_of_no_sems (by decide) r.2⟩) (Cert.AllGatherWeightsIdeal.Value.run m g)

theorem frame_plain_bits : Cert.quiescent_AllGatherWeights := fun m g _ =>
  (θ_run _ _ _).mono (fun r hr => ⟨fun c => (hr c).2.2.2.2.2.2, sem_eq_zero_of_no_sems (by decide) r.2⟩) (Cert.AllGatherWeights.Value.run m g)

theorem algebraic : Cert.algebraic_GatherWeightsIdeal_AllGatherWeightsIdeal := fun m g m' g' _ h =>
  ⟨_, _, _, _, _, _, run_blocks m g _ _ _ _ _ _ h, (θ_run _ _ _).mono (fun _ hr => hr 0) (Cert.AllGatherWeightsIdeal.Value.run m' g')⟩

theorem bitexact : Cert.bitexact_GatherWeights_AllGatherWeights := fun m g m' g' _ h =>
  ⟨_, _, _, _, _, _, run_blocks (F := Bits) m g _ _ _ _ _ _ h, (θ_run _ _ _).mono (fun _ hr => hr 0) (Cert.AllGatherWeights.Value.run m' g')⟩

end Cert.GatherWeightsIdeal.Whole

end
-- ==== Proof.GatherSmall.lean ====
module

public import proofs.«01_k».proof.Proof.GatherValue
public import proofs.«01_k».proof.Defs
public import proofs.«01_k».proof.Proof.Gen.GatherSmallGrads
public import proofs.«01_k».proof.Proof.Gen.GatherSmallGradsIdeal
public import proofs.«01_k».proof.Proof.Gen.GatherSmallGradsIdeal.Points
public import proofs.«01_k».proof.Proof.Gen.GatherSmallGradsIdeal.Launch
public import proofs.«01_k».proof.Proof.Gen.AllGatherSmallGradsIdeal.Run
public import proofs.«01_k».proof.Proof.Gen.AllGatherSmallGrads.Run

/-!
# The gather of the small gradients

One array.
-/

@[expose] public section

noncomputable section

namespace Cert.GatherSmallGradsIdeal.Whole

open Cert.Wire
open Idealize.ShloMosaic Idealize.ShloMosaic.TcCoe
open Idealize.SL Idealize.SL.BI Idealize.SL.Sem
open scoped Idealize.SL.BI
open Idealize.SL.BI.BIBase Idealize.SL.BI.Laws Idealize.SL.ProofMode

variable {F : FTy → Type} [FloatOps F]

/-- A cell's semaphore. -/
def semOf : GCell 1 → DmaSem sig
  | .inl (.inl k, _) => ⟨k.val, by revert k; decide⟩
  | .inl (.inr j, _) => ⟨4 + j.val, by revert j; decide⟩
  | .inr (.inl (.inl k, _)) => ⟨7 + k.val, by revert k; decide⟩
  | .inr (.inl (.inr j, _)) => ⟨11 + j.val, by revert j; decide⟩
  | .inr (.inr _) => ⟨14, by decide⟩

/-- The cell a semaphore is. -/
def cellOf (i : DmaSem sig) : GCell 1 :=
  if i.val < 4 then .inl (.inl ⟨i.val % 4, Nat.mod_lt _ (by decide)⟩, 0)
  else if i.val < 7 then .inl (.inr ⟨(i.val - 4) % 3, Nat.mod_lt _ (by decide)⟩, 0)
  else if i.val < 11 then .inr (.inl (.inl ⟨(i.val - 7) % 4, Nat.mod_lt _ (by decide)⟩, 0))
  else if i.val < 14 then .inr (.inl (.inr ⟨(i.val - 11) % 3, Nat.mod_lt _ (by decide)⟩, 0))
  else .inr (.inr 0)

abbrev arrOff : Lnk → Fin 8 → Fin 3 → ℕ
  | .inl 0 => k0_off5 | .inl 1 => k0_off2 | .inl 2 => k0_off3 | .inl 3 => k0_off4
  | .inr 0 => k0_off6 | .inr 1 => k0_off7 | .inr 2 => k0_off8

abbrev devNo : Lnk → Fin 8 → ℕ
  | .inl 0 => k0_dev1 | .inl 1 => k0_dev2 | .inl 2 => k0_dev3 | .inl 3 => k0_dev4
  | .inr 0 => k0_dev5 | .inr 1 => k0_dev6 | .inr 2 => k0_dev7

def tables : Gather sig 1 where
  rows _ := 2304
  cols _ := 128
  elt _ := .f32
  inM _ := Memref.whole main_arg0
  outM _ := Memref.whole main_v1
  sem := ⟨semOf, cellOf, by decide +kernel, by decide +kernel⟩
  ownOff _ := k0_off1
  arrOff _ := arrOff
  devNo _ := devNo
  lanes := [0]
  inWhole _ := Memref.isWhole_whole _
  outWhole _ := Memref.isWhole_whole _
  slabExact _ _ := (View.wordExact_bits rfl).reshape _ _
  credit _ := rfl
  pos _ := View.dmaCredit_pos _ (by decide +kernel)
  ownOff_eq _ d := by revert d; decide +kernel
  arrOff_eq _ l d := by revert l d; decide +kernel
  devNo_eq _ l d := by revert l d; decide +kernel
  lanes_nodup := by decide
  lanes_univ := by decide
  allScoped sm := by
    match sm with
    | .reg i => exact i.elim0
    | .dma i => exact ⟨by revert i; decide +kernel, i, rfl⟩
  refs_injective := by decide +kernel
  refs_univ := by decide +kernel

set_option maxRecDepth 20000 in
/-- The printed body is the gather's loops. -/
theorem body_eq (t : Fin cfg0.N) : defs₀ (F := F) .tc cfg0.body (cfg0.bodyArgs t (cfg0.slots t)) = tables.loops :=
  (show _ = Gen.bodyAt0 t from rfl).trans rfl

instance : IsEmpty (Fin cfg0.W) := ⟨fun w => w.elim0⟩

/-- The scoped memory is what the call stages through: nothing. -/
theorem scoped_staging (c : Dev nD) :
    (scopedBufs (c.tc : Thread nD τ) : sProp (MT nD τ sig Unit (Elt F) ℕ (UU nD τ sig) ℕ)) = iprop(Pipeline.Dat.staging cfg0 c ∗ emp) := by
  rw [Pipeline.scopedBufs_split (cfgs) (0 : Fin 1) (fun k => k.1.elim0) (fun k => k.1.elim0) (fun w => w.elim0) c, Gen.scopedRest0_eq]
  rfl

/-- Every run of the program: the array sent is as it was, the result is gathered, and every semaphore is at zero. -/
theorem run_main (m : (ℓ : Loc nD τ sig) → Buf (Elt F) ℓ) (g : Dev nD → PrngReg) :
    θ_run (defs (F := F)) (onTc main) ⟨m, fun _ => 0, g⟩ fun r =>
      (∀ d : Dev nD, (∀ a, r.2.mem ((tables.inM a).view.loc (d.tc : Thread nD τ)) = tables.sent m d a)
        ∧ ∀ a, r.2.mem ((tables.outM a).view.loc (d.tc : Thread nD τ)) = tables.gathered m d a) ∧ r.2.sem = fun _ => 0 :=
  tables.run_gather m g cfg0 defs₀ rfl Gen.cellOf_inj scoped_staging rfl fun t => heq_of_eq (body_eq t)

/-- Every run ends with the argument unchanged and every semaphore at zero. -/
theorem run_frame (m : (ℓ : Loc nD τ sig) → Buf (Elt F) ℓ) (g : Dev nD → PrngReg) :
    θ_run (defs (F := F)) (onTc main) ⟨m, fun _ => 0, g⟩ fun r =>
      (∀ c : Dev nD, r.2.mem ((c.tc : Thread nD τ).loc main_arg0) = m ((c.tc : Thread nD τ).loc main_arg0)) ∧ r.2.sem = fun _ => 0 :=
  (θ_run _ _ _).mono (fun _ hr => ⟨fun c => (hr.1 c).1 0, hr.2⟩) (run_main m g)

/-- Every run from the blocks of a whole array ends with that array gathered on every device. -/
theorem run_blocks (m : (ℓ : Loc nD τ sig) → Buf (Elt F) ℓ) (g : Dev nD → PrngReg) (X : (Rows 2304 128).Idx → Elt F .f32)
    (h : ∀ c : Dev nD, m ((c.tc : Thread nD τ).loc main_arg0) = Layout.block ⟨2, ![2304, 128]⟩ ⟨2, ![18432, 128]⟩ 0 8 c X) :
    θ_run (defs (F := F)) (onTc main) ⟨m, fun _ => 0, g⟩ fun r => ∀ c : Dev nD,
      r.2.mem ((c.tc : Thread nD τ).loc main_v1) = stack (R := 2304) (C := 128) X
      ∧ r.2.mem ((c.tc : Thread nD τ).loc main_arg0) = m ((c.tc : Thread nD τ).loc main_arg0) :=
  (θ_run _ _ _).mono (fun _ hr c => ⟨(hr c).1 0, (hr c).2 0⟩)
    (tables.run_stack m (run_main m g) (fun _ => X) fun c _ => h c)

theorem frame_ideal : Cert.quiescent_GatherSmallGradsIdeal := fun m g _ => run_frame m g

theorem frame : Cert.quiescent_GatherSmallGrads := fun m g _ => run_frame (F := Bits) m g

theorem frame_plain : Cert.quiescent_AllGatherSmallGradsIdeal := fun m g _ =>
  (θ_run _ _ _).mono (fun r hr => ⟨fun c => (hr c).2, sem_eq_zero_of_no_sems (by decide) r.2⟩) (Cert.AllGatherSmallGradsIdeal.Value.run m g)

theorem frame_plain_bits : Cert.quiescent_AllGatherSmallGrads := fun m g _ =>
  (θ_run _ _ _).mono (fun r hr => ⟨fun c => (hr c).2, sem_eq_zero_of_no_sems (by decide) r.2⟩) (Cert.AllGatherSmallGrads.Value.run m g)

theorem algebraic : Cert.algebraic_GatherSmallGradsIdeal_AllGatherSmallGradsIdeal := fun m g m' g' _ h =>
  ⟨_, run_blocks m g _ h, (θ_run _ _ _).mono (fun _ hr => hr 0) (Cert.AllGatherSmallGradsIdeal.Value.run m' g')⟩

theorem bitexact : Cert.bitexact_GatherSmallGrads_AllGatherSmallGrads := fun m g m' g' _ h =>
  ⟨_, run_blocks (F := Bits) m g _ h, (θ_run _ _ _).mono (fun _ hr => hr 0) (Cert.AllGatherSmallGrads.Value.run m' g')⟩

end Cert.GatherSmallGradsIdeal.Whole

end
-- ==== Proof.AdamWIn.lean ====
module

public import proofs.«01_k».proof.Defs
public import proofs.«01_k».proof.Proof.Step
public import proofs.«01_k».proof.Proof.Gen.AdamWIn.Frame
public import proofs.«01_k».proof.Proof.Gen.AdamWInIdeal.Value
public import proofs.«01_k».proof.Proof.Gen.StepWInIdeal.Run

/-!
# The update of `w_in`

Every tile that a grid point writes back is that tile of the step of the whole arrays, and the tiles cover each result.
-/

@[expose] public section

noncomputable section

namespace Cert.AdamWInIdeal.Whole

open Cert.AdamWInIdeal Cert.AdamWInIdeal.Gen Cert.Step Idealize.ShloMosaic Idealize.ShloMosaic.TcCoe Idealize.SL.Sem

variable {F : FTy → Type} [FloatOps F] [Named F]
variable (m : (ℓ : Loc nD τ sig) → Buf (Elt F) ℓ) (ρ : Dev nD → PrngReg)

/-- The gradient. -/
abbrev grad (d : Dev nD) : FVec F S2048x1282 .f32 := total (m ((d : Thread nD τ).loc main_arg3))
/-- The new moments. -/
abbrev fst (d : Dev nD) : FVec F S2048x1282 .f32 := fun i => first (m ((d : Thread nD τ).loc main_arg1) i) (grad m d i)
abbrev snd (d : Dev nD) : FVec F S2048x1282 .f32 := fun i => second (m ((d : Thread nD τ).loc main_arg2) i) (grad m d i)
/-- The change of the weight. -/
abbrev delta (d : Dev nD) : FVec F S2048x1282 .f32 := fun i =>
  change (Named.named κ "inv_left1" 0x3FC48605#32) (Named.named κ "inv_left2" 0x42C8E6D3#32) (m ((d : Thread nD τ).loc main_arg0) i) (fst m d i) (snd m d i)

/-- Point `t` writes the rows of tile `t`, and loads the same rows of every slab. -/
theorem index_tile : ∀ t : Fin grid0.N, win0_4.index t 0 = t ∧ win0_4.index t 1 = 0
    ∧ win0_3.index t 0 = 0 ∧ win0_3.index t 1 = t ∧ win0_3.index t 2 = 0 := by
  decide +kernel

/-- Slab `s` of the loaded tile sits in slab `s` of the array, where the written tile sits in the result. -/
theorem slab_at (t : Fin cfg0.N) (y : S128x1282.Idx) (s : Fin 8) :
    ((cfg0.win 3).blk t).view.emb (at_ (r := 128) (c := 1282) (n := 8) s y) = at_ s (((cfg0.win 4).blk t).view.emb y) := by
  obtain ⟨w0, w1, l0, l1, l2⟩ := index_tile t
  funext a
  apply Fin.ext
  fin_cases a
  · exact (win0_3.rect_emb_val t _ 0).trans (by rw [l0]; show 0 * 8 + (s : ℕ) = s; omega)
  · exact (win0_3.rect_emb_val t _ 1).trans ((by rw [l1, w0] : win0_3.index t 1 * 128 + (y 0 : ℕ) = win0_4.index t 0 * 128 + y 0).trans (win0_4.rect_emb_val t y 0).symm)
  · exact (win0_3.rect_emb_val t _ 2).trans ((by rw [l2, w1] : win0_3.index t 2 * 1282 + (y 1 : ℕ) = win0_4.index t 1 * 1282 + y 1).trans (win0_4.rect_emb_val t y 1).symm)

/-- The sum of the loaded slabs is the tile of the gradient. -/
theorem sum_tile (d : Dev nD) (t : Fin cfg0.N) (y : S128x1282.Idx) :
    k0_pay5 (iblk m d 0 t) (iblk m d 1 t) (iblk m d 2 t) (iblk m d 3 t) y = grad m d (((cfg0.win 4).blk t).view.emb y) :=
  (congrFun (total_load bitsLt_bf16_f32 (iblk m d 3 t) _ _ _ _ _ _ _ _ shapeCasts_S1x128x1282_S128x1282) y).trans
    (total_congr fun s => congrArg (m ((d : Thread nD τ).loc main_arg3)) (slab_at t y s))

/-- The points' tiles cover an array of the results' shape. -/
theorem covered (i : S2048x1282.Idx) : ∃ t : Fin cfg0.N, i ∈ (win0_4.rect t).set := by
  have h0 : (i 0 : ℕ) < 2048 := (i 0).isLt
  have hN : grid0.N = 16 := N_0
  have e := index_tile ⟨(i 0 : ℕ) / 128, by omega⟩
  exact ⟨_, mem_rows (by decide) i _ _ (congrArg (· * 128) e.1) (by show _ * 1282 = 0; rw [e.2.1, Nat.zero_mul])⟩

/-! ## The results are the step of the whole arrays -/

theorem final_grad (d : Dev nD) : (dats m 0 d).arrAt 4 cfg0.N = grad m d :=
  (dats m 0 d).arrAt_eq_of_cover 4 (grad m d)
    (fun t _ => by
      rw [Value.flushed4]
      unfold out0_4
      rw [View.canon_unit_zero origin]
      exact funext fun y => sum_tile m d t y)
    fun i => (covered i).imp fun t h => ⟨flush0_4 t, (View.set_slice_whole (Pipeline.arrRef spec0 4) (win0_4.rect t)).symm ▸ h⟩

theorem final_delta (d : Dev nD) : (dats m 0 d).arrAt 5 cfg0.N = delta m d :=
  (dats m 0 d).arrAt_eq_of_cover 5 (delta m d)
    (fun t _ => by
      rw [Value.flushed5]
      unfold out0_5
      rw [View.canon_unit_zero origin, View.ld_unit_zero origin, View.ld_unit_zero origin, View.ld_unit_zero origin]
      exact funext fun y => congrArg (fun g => change (Named.named κ "inv_left1" 0x3FC48605#32) (Named.named κ "inv_left2" 0x42C8E6D3#32)
        (iblk m d 0 t y) (first (iblk m d 1 t y) g) (second (iblk m d 2 t y) g)) (sum_tile m d t y))
    fun i => (covered i).imp fun t h => ⟨flush0_5 t, (View.set_slice_whole (Pipeline.arrRef spec0 5) (win0_5.rect t)).symm ▸ h⟩

theorem final_fst (d : Dev nD) : (dats m 0 d).arrAt 6 cfg0.N = fst m d :=
  (dats m 0 d).arrAt_eq_of_cover 6 (fst m d)
    (fun t _ => by
      rw [Value.flushed6]
      unfold out0_6
      rw [View.canon_unit_zero origin, View.ld_unit_zero origin]
      exact funext fun y => congrArg (first (iblk m d 1 t y)) (sum_tile m d t y))
    fun i => (covered i).imp fun t h => ⟨flush0_6 t, (View.set_slice_whole (Pipeline.arrRef spec0 6) (win0_6.rect t)).symm ▸ h⟩

theorem final_snd (d : Dev nD) : (dats m 0 d).arrAt 7 cfg0.N = snd m d :=
  (dats m 0 d).arrAt_eq_of_cover 7 (snd m d)
    (fun t _ => by
      rw [Value.flushed7]
      unfold out0_7
      rw [View.canon_unit_zero origin, View.ld_unit_zero origin]
      exact funext fun y => congrArg (second (iblk m d 2 t y)) (sum_tile m d t y))
    fun i => (covered i).imp fun t h => ⟨flush0_7 t, (View.set_slice_whole (Pipeline.arrRef spec0 7) (win0_7.rect t)).symm ▸ h⟩

/-- The run leaves the step of the whole arrays in the results, and the arguments as they were. -/
theorem run : θ_run defs (onTc (τ := τ) (main (F := F))) ⟨m, fun _ => 0, ρ⟩ fun r => ∀ c : Dev nD,
      r.2.mem ((c : Thread nD τ).loc main_v0_0) = grad m c
      ∧ r.2.mem ((c : Thread nD τ).loc main_v0_1) = delta m c
      ∧ r.2.mem ((c : Thread nD τ).loc main_v0_2) = fst m c
      ∧ r.2.mem ((c : Thread nD τ).loc main_v0_3) = snd m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_grad m c), (h c).2.1.trans (final_delta m c),
    (h c).2.2.1.trans (final_fst m c), (h c).2.2.2.1.trans (final_snd m c), (h c).2.2.2.2⟩) (Value.run_blocks m ρ)

/-! ## The claims -/

theorem frame_step : Cert.quiescent_StepWInIdeal := fun m ρ _ =>
  (θ_run Cert.StepWInIdeal.defs _ _).mono (fun r h => ⟨fun c => (h c).2.2.2.2, sem_eq_zero_of_no_sems (by decide) r.2⟩)
    (Cert.StepWInIdeal.Value.run (F := Ideal) m ρ)

theorem preserves : Cert.preserves_AdamWIn_AdamWInIdeal :=
  ⟨IdealRules.named_const.statement κ "inv_left1" .f32 0x3FC48605#32 _ rfl, IdealRules.named_const.statement κ "inv_left2" .f32 0x42C8E6D3#32 _ rfl⟩

/-- Over the extended reals the two factors are the reciprocals that they are named. -/
theorem delta_ideal (m : (ℓ : Loc nD τ sig) → Buf (Elt Ideal) ℓ) (d : Dev nD) : delta m d = fun i =>
    change (F := Ideal) ((8388608 / 5463681 : ℝ) : EReal) ((268435456 / 2672307 : ℝ) : EReal) (m ((d : Thread nD τ).loc main_arg0) i) (fst m d i) (snd m d i) := by
  have e₁ : Named.named (F := Ideal) κ "inv_left1" (φ := .f32) 0x3FC48605#32 = ((8388608 / 5463681 : ℝ) : EReal) :=
    IdealRules.named_const.ideal_named_scalar _ _ _ _ rfl
  have e₂ : Named.named (F := Ideal) κ "inv_left2" (φ := .f32) 0x42C8E6D3#32 = ((268435456 / 2672307 : ℝ) : EReal) :=
    IdealRules.named_const.ideal_named_scalar _ _ _ _ rfl
  unfold delta
  rw [e₁, e₂]
  rfl

theorem algebraic : Cert.algebraic_AdamWInIdeal_StepWInIdeal := by
  intro m ρ m' ρ' _ agree
  refine ⟨_, _, _, _, run (F := Ideal) m ρ, ?_⟩
  refine (θ_run Cert.StepWInIdeal.defs _ _).mono (fun _ h c => ?_) (Cert.StepWInIdeal.Value.run (F := Ideal) m' ρ')
  obtain ⟨a0, a1, a2, a3⟩ := agree c
  have g := (h c).1; have p := (h c).2.1; have f := (h c).2.2.1; have s := (h c).2.2.2.1
  rw [a3, total_host] at g
  rw [a0, a1, a2, a3, total_host, first_host, second_host, change_host] at p
  rw [a1, a3, total_host, first_host] at f
  rw [a2, a3, total_host, second_host] at s
  exact ⟨g, p.trans (delta_ideal m c).symm, f, s, (h c).2.2.2.2⟩

end Cert.AdamWInIdeal.Whole

end
-- ==== Proof.AdamS5WGlu.lean ====
module

public import proofs.«01_k».proof.Defs
public import proofs.«01_k».proof.Proof.Step
public import proofs.«01_k».proof.Proof.Gen.AdamS5WGlu.Frame
public import proofs.«01_k».proof.Proof.Gen.AdamS5WGluIdeal.Value
public import proofs.«01_k».proof.Proof.Gen.StepS5WGluIdeal.Run

/-!
# The update of `s5_w_glu`

Every tile that a grid point writes back is that tile of the step of the whole arrays, and the tiles cover each result.
-/

@[expose] public section

noncomputable section

namespace Cert.AdamS5WGluIdeal.Whole

open Cert.AdamS5WGluIdeal Cert.AdamS5WGluIdeal.Gen Cert.Step Idealize.ShloMosaic Idealize.ShloMosaic.TcCoe Idealize.SL.Sem

variable {F : FTy → Type} [FloatOps F] [Named F]
variable (m : (ℓ : Loc nD τ sig) → Buf (Elt F) ℓ) (ρ : Dev nD → PrngReg)

/-- The gradient. -/
abbrev grad (d : Dev nD) : FVec F S128x1024 .f32 := total (m ((d : Thread nD τ).loc main_arg3))
/-- The new moments. -/
abbrev fst (d : Dev nD) : FVec F S128x1024 .f32 := fun i => first (m ((d : Thread nD τ).loc main_arg1) i) (grad m d i)
abbrev snd (d : Dev nD) : FVec F S128x1024 .f32 := fun i => second (m ((d : Thread nD τ).loc main_arg2) i) (grad m d i)
/-- The change of the weight. -/
abbrev delta (d : Dev nD) : FVec F S128x1024 .f32 := fun i =>
  change (Named.named κ "inv_left1" 0x3FC48605#32) (Named.named κ "inv_left2" 0x42C8E6D3#32) (m ((d : Thread nD τ).loc main_arg0) i) (fst m d i) (snd m d i)

/-- Point `t` writes the rows of tile `t`, and loads the same rows of every slab. -/
theorem index_tile : ∀ t : Fin grid0.N, win0_4.index t 0 = t ∧ win0_4.index t 1 = 0
    ∧ win0_3.index t 0 = 0 ∧ win0_3.index t 1 = t ∧ win0_3.index t 2 = 0 := by
  decide +kernel

/-- Slab `s` of the loaded tile sits in slab `s` of the array, where the written tile sits in the result. -/
theorem slab_at (t : Fin cfg0.N) (y : S128x1024.Idx) (s : Fin 8) :
    ((cfg0.win 3).blk t).view.emb (at_ (r := 128) (c := 1024) (n := 8) s y) = at_ s (((cfg0.win 4).blk t).view.emb y) := by
  obtain ⟨w0, w1, l0, l1, l2⟩ := index_tile t
  funext a
  apply Fin.ext
  fin_cases a
  · exact (win0_3.rect_emb_val t _ 0).trans (by rw [l0]; show 0 * 8 + (s : ℕ) = s; omega)
  · exact (win0_3.rect_emb_val t _ 1).trans ((by rw [l1, w0] : win0_3.index t 1 * 128 + (y 0 : ℕ) = win0_4.index t 0 * 128 + y 0).trans (win0_4.rect_emb_val t y 0).symm)
  · exact (win0_3.rect_emb_val t _ 2).trans ((by rw [l2, w1] : win0_3.index t 2 * 1024 + (y 1 : ℕ) = win0_4.index t 1 * 1024 + y 1).trans (win0_4.rect_emb_val t y 1).symm)

/-- The sum of the loaded slabs is the tile of the gradient. -/
theorem sum_tile (d : Dev nD) (t : Fin cfg0.N) (y : S128x1024.Idx) :
    k0_pay5 (iblk m d 0 t) (iblk m d 1 t) (iblk m d 2 t) (iblk m d 3 t) y = grad m d (((cfg0.win 4).blk t).view.emb y) :=
  (congrFun (total_load bitsLt_bf16_f32 (iblk m d 3 t) _ _ _ _ _ _ _ _ shapeCasts_S1x128x1024_S128x1024) y).trans
    (total_congr fun s => congrArg (m ((d : Thread nD τ).loc main_arg3)) (slab_at t y s))

/-- The points' tiles cover an array of the results' shape. -/
theorem covered (i : S128x1024.Idx) : ∃ t : Fin cfg0.N, i ∈ (win0_4.rect t).set := by
  have h0 : (i 0 : ℕ) < 128 := (i 0).isLt
  have hN : grid0.N = 1 := N_0
  have e := index_tile ⟨(i 0 : ℕ) / 128, by omega⟩
  exact ⟨_, mem_rows (by decide) i _ _ (congrArg (· * 128) e.1) (by show _ * 1024 = 0; rw [e.2.1, Nat.zero_mul])⟩

/-! ## The results are the step of the whole arrays -/

theorem final_grad (d : Dev nD) : (dats m 0 d).arrAt 4 cfg0.N = grad m d :=
  (dats m 0 d).arrAt_eq_of_cover 4 (grad m d)
    (fun t _ => by
      rw [Value.flushed4]
      unfold out0_4
      rw [View.canon_unit_zero origin]
      exact funext fun y => sum_tile m d t y)
    fun i => (covered i).imp fun t h => ⟨flush0_4 t, (View.set_slice_whole (Pipeline.arrRef spec0 4) (win0_4.rect t)).symm ▸ h⟩

theorem final_delta (d : Dev nD) : (dats m 0 d).arrAt 5 cfg0.N = delta m d :=
  (dats m 0 d).arrAt_eq_of_cover 5 (delta m d)
    (fun t _ => by
      rw [Value.flushed5]
      unfold out0_5
      rw [View.canon_unit_zero origin, View.ld_unit_zero origin, View.ld_unit_zero origin, View.ld_unit_zero origin]
      exact funext fun y => congrArg (fun g => change (Named.named κ "inv_left1" 0x3FC48605#32) (Named.named κ "inv_left2" 0x42C8E6D3#32)
        (iblk m d 0 t y) (first (iblk m d 1 t y) g) (second (iblk m d 2 t y) g)) (sum_tile m d t y))
    fun i => (covered i).imp fun t h => ⟨flush0_5 t, (View.set_slice_whole (Pipeline.arrRef spec0 5) (win0_5.rect t)).symm ▸ h⟩

theorem final_fst (d : Dev nD) : (dats m 0 d).arrAt 6 cfg0.N = fst m d :=
  (dats m 0 d).arrAt_eq_of_cover 6 (fst m d)
    (fun t _ => by
      rw [Value.flushed6]
      unfold out0_6
      rw [View.canon_unit_zero origin, View.ld_unit_zero origin]
      exact funext fun y => congrArg (first (iblk m d 1 t y)) (sum_tile m d t y))
    fun i => (covered i).imp fun t h => ⟨flush0_6 t, (View.set_slice_whole (Pipeline.arrRef spec0 6) (win0_6.rect t)).symm ▸ h⟩

theorem final_snd (d : Dev nD) : (dats m 0 d).arrAt 7 cfg0.N = snd m d :=
  (dats m 0 d).arrAt_eq_of_cover 7 (snd m d)
    (fun t _ => by
      rw [Value.flushed7]
      unfold out0_7
      rw [View.canon_unit_zero origin, View.ld_unit_zero origin]
      exact funext fun y => congrArg (second (iblk m d 2 t y)) (sum_tile m d t y))
    fun i => (covered i).imp fun t h => ⟨flush0_7 t, (View.set_slice_whole (Pipeline.arrRef spec0 7) (win0_7.rect t)).symm ▸ h⟩

/-- The run leaves the step of the whole arrays in the results, and the arguments as they were. -/
theorem run : θ_run defs (onTc (τ := τ) (main (F := F))) ⟨m, fun _ => 0, ρ⟩ fun r => ∀ c : Dev nD,
      r.2.mem ((c : Thread nD τ).loc main_v0_0) = grad m c
      ∧ r.2.mem ((c : Thread nD τ).loc main_v0_1) = delta m c
      ∧ r.2.mem ((c : Thread nD τ).loc main_v0_2) = fst m c
      ∧ r.2.mem ((c : Thread nD τ).loc main_v0_3) = snd m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_grad m c), (h c).2.1.trans (final_delta m c),
    (h c).2.2.1.trans (final_fst m c), (h c).2.2.2.1.trans (final_snd m c), (h c).2.2.2.2⟩) (Value.run_blocks m ρ)

/-! ## The claims -/

theorem frame_step : Cert.quiescent_StepS5WGluIdeal := fun m ρ _ =>
  (θ_run Cert.StepS5WGluIdeal.defs _ _).mono (fun r h => ⟨fun c => (h c).2.2.2.2, sem_eq_zero_of_no_sems (by decide) r.2⟩)
    (Cert.StepS5WGluIdeal.Value.run (F := Ideal) m ρ)

theorem preserves : Cert.preserves_AdamS5WGlu_AdamS5WGluIdeal :=
  ⟨IdealRules.named_const.statement κ "inv_left1" .f32 0x3FC48605#32 _ rfl, IdealRules.named_const.statement κ "inv_left2" .f32 0x42C8E6D3#32 _ rfl⟩

/-- Over the extended reals the two factors are the reciprocals that they are named. -/
theorem delta_ideal (m : (ℓ : Loc nD τ sig) → Buf (Elt Ideal) ℓ) (d : Dev nD) : delta m d = fun i =>
    change (F := Ideal) ((8388608 / 5463681 : ℝ) : EReal) ((268435456 / 2672307 : ℝ) : EReal) (m ((d : Thread nD τ).loc main_arg0) i) (fst m d i) (snd m d i) := by
  have e₁ : Named.named (F := Ideal) κ "inv_left1" (φ := .f32) 0x3FC48605#32 = ((8388608 / 5463681 : ℝ) : EReal) :=
    IdealRules.named_const.ideal_named_scalar _ _ _ _ rfl
  have e₂ : Named.named (F := Ideal) κ "inv_left2" (φ := .f32) 0x42C8E6D3#32 = ((268435456 / 2672307 : ℝ) : EReal) :=
    IdealRules.named_const.ideal_named_scalar _ _ _ _ rfl
  unfold delta
  rw [e₁, e₂]
  rfl

theorem algebraic : Cert.algebraic_AdamS5WGluIdeal_StepS5WGluIdeal := by
  intro m ρ m' ρ' _ agree
  refine ⟨_, _, _, _, run (F := Ideal) m ρ, ?_⟩
  refine (θ_run Cert.StepS5WGluIdeal.defs _ _).mono (fun _ h c => ?_) (Cert.StepS5WGluIdeal.Value.run (F := Ideal) m' ρ')
  obtain ⟨a0, a1, a2, a3⟩ := agree c
  have g := (h c).1; have p := (h c).2.1; have f := (h c).2.2.1; have s := (h c).2.2.2.1
  rw [a3, total_host] at g
  rw [a0, a1, a2, a3, total_host, first_host, second_host, change_host] at p
  rw [a1, a3, total_host, first_host] at f
  rw [a2, a3, total_host, second_host] at s
  exact ⟨g, p.trans (delta_ideal m c).symm, f, s, (h c).2.2.2.2⟩

end Cert.AdamS5WGluIdeal.Whole

end
-- ==== Proof.AdamS5WUp.lean ====
module

public import proofs.«01_k».proof.Defs
public import proofs.«01_k».proof.Proof.Step
public import proofs.«01_k».proof.Proof.Gen.AdamS5WUp.Frame
public import proofs.«01_k».proof.Proof.Gen.AdamS5WUpIdeal.Value
public import proofs.«01_k».proof.Proof.Gen.StepS5WUpIdeal.Run

/-!
# The update of `s5_w_up` and of `dn_w_up`, which have one shape

Every tile that a grid point writes back is that tile of the step of the whole arrays, and the tiles cover each result.
-/

@[expose] public section

noncomputable section

namespace Cert.AdamS5WUpIdeal.Whole

open Cert.AdamS5WUpIdeal Cert.AdamS5WUpIdeal.Gen Cert.Step Idealize.ShloMosaic Idealize.ShloMosaic.TcCoe Idealize.SL.Sem

variable {F : FTy → Type} [FloatOps F] [Named F]
variable (m : (ℓ : Loc nD τ sig) → Buf (Elt F) ℓ) (ρ : Dev nD → PrngReg)

/-- The gradient. -/
abbrev grad (d : Dev nD) : FVec F S1024x256 .f32 := total (m ((d : Thread nD τ).loc main_arg3))
/-- The new moments. -/
abbrev fst (d : Dev nD) : FVec F S1024x256 .f32 := fun i => first (m ((d : Thread nD τ).loc main_arg1) i) (grad m d i)
abbrev snd (d : Dev nD) : FVec F S1024x256 .f32 := fun i => second (m ((d : Thread nD τ).loc main_arg2) i) (grad m d i)
/-- The change of the weight. -/
abbrev delta (d : Dev nD) : FVec F S1024x256 .f32 := fun i =>
  change (Named.named κ "inv_left1" 0x3FC48605#32) (Named.named κ "inv_left2" 0x42C8E6D3#32) (m ((d : Thread nD τ).loc main_arg0) i) (fst m d i) (snd m d i)

/-- Point `t` writes the rows of tile `t`, and loads the same rows of every slab. -/
theorem index_tile : ∀ t : Fin grid0.N, win0_4.index t 0 = t ∧ win0_4.index t 1 = 0
    ∧ win0_3.index t 0 = 0 ∧ win0_3.index t 1 = t ∧ win0_3.index t 2 = 0 := by
  decide +kernel

/-- Slab `s` of the loaded tile sits in slab `s` of the array, where the written tile sits in the result. -/
theorem slab_at (t : Fin cfg0.N) (y : S1024x256.Idx) (s : Fin 8) :
    ((cfg0.win 3).blk t).view.emb (at_ (r := 1024) (c := 256) (n := 8) s y) = at_ s (((cfg0.win 4).blk t).view.emb y) := by
  obtain ⟨w0, w1, l0, l1, l2⟩ := index_tile t
  funext a
  apply Fin.ext
  fin_cases a
  · exact (win0_3.rect_emb_val t _ 0).trans (by rw [l0]; show 0 * 8 + (s : ℕ) = s; omega)
  · exact (win0_3.rect_emb_val t _ 1).trans ((by rw [l1, w0] : win0_3.index t 1 * 1024 + (y 0 : ℕ) = win0_4.index t 0 * 1024 + y 0).trans (win0_4.rect_emb_val t y 0).symm)
  · exact (win0_3.rect_emb_val t _ 2).trans ((by rw [l2, w1] : win0_3.index t 2 * 256 + (y 1 : ℕ) = win0_4.index t 1 * 256 + y 1).trans (win0_4.rect_emb_val t y 1).symm)

/-- The sum of the loaded slabs is the tile of the gradient. -/
theorem sum_tile (d : Dev nD) (t : Fin cfg0.N) (y : S1024x256.Idx) :
    k0_pay5 (iblk m d 0 t) (iblk m d 1 t) (iblk m d 2 t) (iblk m d 3 t) y = grad m d (((cfg0.win 4).blk t).view.emb y) :=
  (congrFun (total_load bitsLt_bf16_f32 (iblk m d 3 t) _ _ _ _ _ _ _ _ shapeCasts_S1x1024x256_S1024x256) y).trans
    (total_congr fun s => congrArg (m ((d : Thread nD τ).loc main_arg3)) (slab_at t y s))

/-- The points' tiles cover an array of the results' shape. -/
theorem covered (i : S1024x256.Idx) : ∃ t : Fin cfg0.N, i ∈ (win0_4.rect t).set := by
  have h0 : (i 0 : ℕ) < 1024 := (i 0).isLt
  have hN : grid0.N = 1 := N_0
  have e := index_tile ⟨(i 0 : ℕ) / 1024, by omega⟩
  exact ⟨_, mem_rows (by decide) i _ _ (congrArg (· * 1024) e.1) (by show _ * 256 = 0; rw [e.2.1, Nat.zero_mul])⟩

/-! ## The results are the step of the whole arrays -/

theorem final_grad (d : Dev nD) : (dats m 0 d).arrAt 4 cfg0.N = grad m d :=
  (dats m 0 d).arrAt_eq_of_cover 4 (grad m d)
    (fun t _ => by
      rw [Value.flushed4]
      unfold out0_4
      rw [View.canon_unit_zero origin]
      exact funext fun y => sum_tile m d t y)
    fun i => (covered i).imp fun t h => ⟨flush0_4 t, (View.set_slice_whole (Pipeline.arrRef spec0 4) (win0_4.rect t)).symm ▸ h⟩

theorem final_delta (d : Dev nD) : (dats m 0 d).arrAt 5 cfg0.N = delta m d :=
  (dats m 0 d).arrAt_eq_of_cover 5 (delta m d)
    (fun t _ => by
      rw [Value.flushed5]
      unfold out0_5
      rw [View.canon_unit_zero origin, View.ld_unit_zero origin, View.ld_unit_zero origin, View.ld_unit_zero origin]
      exact funext fun y => congrArg (fun g => change (Named.named κ "inv_left1" 0x3FC48605#32) (Named.named κ "inv_left2" 0x42C8E6D3#32)
        (iblk m d 0 t y) (first (iblk m d 1 t y) g) (second (iblk m d 2 t y) g)) (sum_tile m d t y))
    fun i => (covered i).imp fun t h => ⟨flush0_5 t, (View.set_slice_whole (Pipeline.arrRef spec0 5) (win0_5.rect t)).symm ▸ h⟩

theorem final_fst (d : Dev nD) : (dats m 0 d).arrAt 6 cfg0.N = fst m d :=
  (dats m 0 d).arrAt_eq_of_cover 6 (fst m d)
    (fun t _ => by
      rw [Value.flushed6]
      unfold out0_6
      rw [View.canon_unit_zero origin, View.ld_unit_zero origin]
      exact funext fun y => congrArg (first (iblk m d 1 t y)) (sum_tile m d t y))
    fun i => (covered i).imp fun t h => ⟨flush0_6 t, (View.set_slice_whole (Pipeline.arrRef spec0 6) (win0_6.rect t)).symm ▸ h⟩

theorem final_snd (d : Dev nD) : (dats m 0 d).arrAt 7 cfg0.N = snd m d :=
  (dats m 0 d).arrAt_eq_of_cover 7 (snd m d)
    (fun t _ => by
      rw [Value.flushed7]
      unfold out0_7
      rw [View.canon_unit_zero origin, View.ld_unit_zero origin]
      exact funext fun y => congrArg (second (iblk m d 2 t y)) (sum_tile m d t y))
    fun i => (covered i).imp fun t h => ⟨flush0_7 t, (View.set_slice_whole (Pipeline.arrRef spec0 7) (win0_7.rect t)).symm ▸ h⟩

/-- The run leaves the step of the whole arrays in the results, and the arguments as they were. -/
theorem run : θ_run defs (onTc (τ := τ) (main (F := F))) ⟨m, fun _ => 0, ρ⟩ fun r => ∀ c : Dev nD,
      r.2.mem ((c : Thread nD τ).loc main_v0_0) = grad m c
      ∧ r.2.mem ((c : Thread nD τ).loc main_v0_1) = delta m c
      ∧ r.2.mem ((c : Thread nD τ).loc main_v0_2) = fst m c
      ∧ r.2.mem ((c : Thread nD τ).loc main_v0_3) = snd m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_grad m c), (h c).2.1.trans (final_delta m c),
    (h c).2.2.1.trans (final_fst m c), (h c).2.2.2.1.trans (final_snd m c), (h c).2.2.2.2⟩) (Value.run_blocks m ρ)

/-! ## The claims -/

theorem frame_step : Cert.quiescent_StepS5WUpIdeal := fun m ρ _ =>
  (θ_run Cert.StepS5WUpIdeal.defs _ _).mono (fun r h => ⟨fun c => (h c).2.2.2.2, sem_eq_zero_of_no_sems (by decide) r.2⟩)
    (Cert.StepS5WUpIdeal.Value.run (F := Ideal) m ρ)

theorem preserves : Cert.preserves_AdamS5WUp_AdamS5WUpIdeal :=
  ⟨IdealRules.named_const.statement κ "inv_left1" .f32 0x3FC48605#32 _ rfl, IdealRules.named_const.statement κ "inv_left2" .f32 0x42C8E6D3#32 _ rfl⟩

/-- Over the extended reals the two factors are the reciprocals that they are named. -/
theorem delta_ideal (m : (ℓ : Loc nD τ sig) → Buf (Elt Ideal) ℓ) (d : Dev nD) : delta m d = fun i =>
    change (F := Ideal) ((8388608 / 5463681 : ℝ) : EReal) ((268435456 / 2672307 : ℝ) : EReal) (m ((d : Thread nD τ).loc main_arg0) i) (fst m d i) (snd m d i) := by
  have e₁ : Named.named (F := Ideal) κ "inv_left1" (φ := .f32) 0x3FC48605#32 = ((8388608 / 5463681 : ℝ) : EReal) :=
    IdealRules.named_const.ideal_named_scalar _ _ _ _ rfl
  have e₂ : Named.named (F := Ideal) κ "inv_left2" (φ := .f32) 0x42C8E6D3#32 = ((268435456 / 2672307 : ℝ) : EReal) :=
    IdealRules.named_const.ideal_named_scalar _ _ _ _ rfl
  unfold delta
  rw [e₁, e₂]
  rfl

theorem algebraic : Cert.algebraic_AdamS5WUpIdeal_StepS5WUpIdeal := by
  intro m ρ m' ρ' _ agree
  refine ⟨_, _, _, _, run (F := Ideal) m ρ, ?_⟩
  refine (θ_run Cert.StepS5WUpIdeal.defs _ _).mono (fun _ h c => ?_) (Cert.StepS5WUpIdeal.Value.run (F := Ideal) m' ρ')
  obtain ⟨a0, a1, a2, a3⟩ := agree c
  have g := (h c).1; have p := (h c).2.1; have f := (h c).2.2.1; have s := (h c).2.2.2.1
  rw [a3, total_host] at g
  rw [a0, a1, a2, a3, total_host, first_host, second_host, change_host] at p
  rw [a1, a3, total_host, first_host] at f
  rw [a2, a3, total_host, second_host] at s
  exact ⟨g, p.trans (delta_ideal m c).symm, f, s, (h c).2.2.2.2⟩

end Cert.AdamS5WUpIdeal.Whole

end
-- ==== Proof.AdamWOut.lean ====
module

public import proofs.«01_k».proof.Defs
public import proofs.«01_k».proof.Proof.Step
public import proofs.«01_k».proof.Proof.Gen.AdamWOut.Frame
public import proofs.«01_k».proof.Proof.Gen.AdamWOutIdeal.Value
public import proofs.«01_k».proof.Proof.Gen.StepWOutIdeal.Run

/-!
# The update of `w_out`

Every tile that a grid point writes back is that tile of the step of the whole arrays, and the tiles cover each result.
-/

@[expose] public section

noncomputable section

namespace Cert.AdamWOutIdeal.Whole

open Cert.AdamWOutIdeal Cert.AdamWOutIdeal.Gen Cert.Step Idealize.ShloMosaic Idealize.ShloMosaic.TcCoe Idealize.SL.Sem

variable {F : FTy → Type} [FloatOps F] [Named F]
variable (m : (ℓ : Loc nD τ sig) → Buf (Elt F) ℓ) (ρ : Dev nD → PrngReg)

/-- The gradient. -/
abbrev grad (d : Dev nD) : FVec F S256x2048 .f32 := total (m ((d : Thread nD τ).loc main_arg3))
/-- The new moments. -/
abbrev fst (d : Dev nD) : FVec F S256x2048 .f32 := fun i => first (m ((d : Thread nD τ).loc main_arg1) i) (grad m d i)
abbrev snd (d : Dev nD) : FVec F S256x2048 .f32 := fun i => second (m ((d : Thread nD τ).loc main_arg2) i) (grad m d i)
/-- The change of the weight. -/
abbrev delta (d : Dev nD) : FVec F S256x2048 .f32 := fun i =>
  change (Named.named κ "inv_left1" 0x3FC48605#32) (Named.named κ "inv_left2" 0x42C8E6D3#32) (m ((d : Thread nD τ).loc main_arg0) i) (fst m d i) (snd m d i)

/-- Point `t` writes the rows of tile `t`, and loads the same rows of every slab. -/
theorem index_tile : ∀ t : Fin grid0.N, win0_4.index t 0 = t ∧ win0_4.index t 1 = 0
    ∧ win0_3.index t 0 = 0 ∧ win0_3.index t 1 = t ∧ win0_3.index t 2 = 0 := by
  decide +kernel

/-- Slab `s` of the loaded tile sits in slab `s` of the array, where the written tile sits in the result. -/
theorem slab_at (t : Fin cfg0.N) (y : S128x2048.Idx) (s : Fin 8) :
    ((cfg0.win 3).blk t).view.emb (at_ (r := 128) (c := 2048) (n := 8) s y) = at_ s (((cfg0.win 4).blk t).view.emb y) := by
  obtain ⟨w0, w1, l0, l1, l2⟩ := index_tile t
  funext a
  apply Fin.ext
  fin_cases a
  · exact (win0_3.rect_emb_val t _ 0).trans (by rw [l0]; show 0 * 8 + (s : ℕ) = s; omega)
  · exact (win0_3.rect_emb_val t _ 1).trans ((by rw [l1, w0] : win0_3.index t 1 * 128 + (y 0 : ℕ) = win0_4.index t 0 * 128 + y 0).trans (win0_4.rect_emb_val t y 0).symm)
  · exact (win0_3.rect_emb_val t _ 2).trans ((by rw [l2, w1] : win0_3.index t 2 * 2048 + (y 1 : ℕ) = win0_4.index t 1 * 2048 + y 1).trans (win0_4.rect_emb_val t y 1).symm)

/-- The sum of the loaded slabs is the tile of the gradient. -/
theorem sum_tile (d : Dev nD) (t : Fin cfg0.N) (y : S128x2048.Idx) :
    k0_pay5 (iblk m d 0 t) (iblk m d 1 t) (iblk m d 2 t) (iblk m d 3 t) y = grad m d (((cfg0.win 4).blk t).view.emb y) :=
  (congrFun (total_load bitsLt_bf16_f32 (iblk m d 3 t) _ _ _ _ _ _ _ _ shapeCasts_S1x128x2048_S128x2048) y).trans
    (total_congr fun s => congrArg (m ((d : Thread nD τ).loc main_arg3)) (slab_at t y s))

/-- The points' tiles cover an array of the results' shape. -/
theorem covered (i : S256x2048.Idx) : ∃ t : Fin cfg0.N, i ∈ (win0_4.rect t).set := by
  have h0 : (i 0 : ℕ) < 256 := (i 0).isLt
  have hN : grid0.N = 2 := N_0
  have e := index_tile ⟨(i 0 : ℕ) / 128, by omega⟩
  exact ⟨_, mem_rows (by decide) i _ _ (congrArg (· * 128) e.1) (by show _ * 2048 = 0; rw [e.2.1, Nat.zero_mul])⟩

/-! ## The results are the step of the whole arrays -/

theorem final_grad (d : Dev nD) : (dats m 0 d).arrAt 4 cfg0.N = grad m d :=
  (dats m 0 d).arrAt_eq_of_cover 4 (grad m d)
    (fun t _ => by
      rw [Value.flushed4]
      unfold out0_4
      rw [View.canon_unit_zero origin]
      exact funext fun y => sum_tile m d t y)
    fun i => (covered i).imp fun t h => ⟨flush0_4 t, (View.set_slice_whole (Pipeline.arrRef spec0 4) (win0_4.rect t)).symm ▸ h⟩

theorem final_delta (d : Dev nD) : (dats m 0 d).arrAt 5 cfg0.N = delta m d :=
  (dats m 0 d).arrAt_eq_of_cover 5 (delta m d)
    (fun t _ => by
      rw [Value.flushed5]
      unfold out0_5
      rw [View.canon_unit_zero origin, View.ld_unit_zero origin, View.ld_unit_zero origin, View.ld_unit_zero origin]
      exact funext fun y => congrArg (fun g => change (Named.named κ "inv_left1" 0x3FC48605#32) (Named.named κ "inv_left2" 0x42C8E6D3#32)
        (iblk m d 0 t y) (first (iblk m d 1 t y) g) (second (iblk m d 2 t y) g)) (sum_tile m d t y))
    fun i => (covered i).imp fun t h => ⟨flush0_5 t, (View.set_slice_whole (Pipeline.arrRef spec0 5) (win0_5.rect t)).symm ▸ h⟩

theorem final_fst (d : Dev nD) : (dats m 0 d).arrAt 6 cfg0.N = fst m d :=
  (dats m 0 d).arrAt_eq_of_cover 6 (fst m d)
    (fun t _ => by
      rw [Value.flushed6]
      unfold out0_6
      rw [View.canon_unit_zero origin, View.ld_unit_zero origin]
      exact funext fun y => congrArg (first (iblk m d 1 t y)) (sum_tile m d t y))
    fun i => (covered i).imp fun t h => ⟨flush0_6 t, (View.set_slice_whole (Pipeline.arrRef spec0 6) (win0_6.rect t)).symm ▸ h⟩

theorem final_snd (d : Dev nD) : (dats m 0 d).arrAt 7 cfg0.N = snd m d :=
  (dats m 0 d).arrAt_eq_of_cover 7 (snd m d)
    (fun t _ => by
      rw [Value.flushed7]
      unfold out0_7
      rw [View.canon_unit_zero origin, View.ld_unit_zero origin]
      exact funext fun y => congrArg (second (iblk m d 2 t y)) (sum_tile m d t y))
    fun i => (covered i).imp fun t h => ⟨flush0_7 t, (View.set_slice_whole (Pipeline.arrRef spec0 7) (win0_7.rect t)).symm ▸ h⟩

/-- The run leaves the step of the whole arrays in the results, and the arguments as they were. -/
theorem run : θ_run defs (onTc (τ := τ) (main (F := F))) ⟨m, fun _ => 0, ρ⟩ fun r => ∀ c : Dev nD,
      r.2.mem ((c : Thread nD τ).loc main_v0_0) = grad m c
      ∧ r.2.mem ((c : Thread nD τ).loc main_v0_1) = delta m c
      ∧ r.2.mem ((c : Thread nD τ).loc main_v0_2) = fst m c
      ∧ r.2.mem ((c : Thread nD τ).loc main_v0_3) = snd m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_grad m c), (h c).2.1.trans (final_delta m c),
    (h c).2.2.1.trans (final_fst m c), (h c).2.2.2.1.trans (final_snd m c), (h c).2.2.2.2⟩) (Value.run_blocks m ρ)

/-! ## The claims -/

theorem frame_step : Cert.quiescent_StepWOutIdeal := fun m ρ _ =>
  (θ_run Cert.StepWOutIdeal.defs _ _).mono (fun r h => ⟨fun c => (h c).2.2.2.2, sem_eq_zero_of_no_sems (by decide) r.2⟩)
    (Cert.StepWOutIdeal.Value.run (F := Ideal) m ρ)

theorem preserves : Cert.preserves_AdamWOut_AdamWOutIdeal :=
  ⟨IdealRules.named_const.statement κ "inv_left1" .f32 0x3FC48605#32 _ rfl, IdealRules.named_const.statement κ "inv_left2" .f32 0x42C8E6D3#32 _ rfl⟩

/-- Over the extended reals the two factors are the reciprocals that they are named. -/
theorem delta_ideal (m : (ℓ : Loc nD τ sig) → Buf (Elt Ideal) ℓ) (d : Dev nD) : delta m d = fun i =>
    change (F := Ideal) ((8388608 / 5463681 : ℝ) : EReal) ((268435456 / 2672307 : ℝ) : EReal) (m ((d : Thread nD τ).loc main_arg0) i) (fst m d i) (snd m d i) := by
  have e₁ : Named.named (F := Ideal) κ "inv_left1" (φ := .f32) 0x3FC48605#32 = ((8388608 / 5463681 : ℝ) : EReal) :=
    IdealRules.named_const.ideal_named_scalar _ _ _ _ rfl
  have e₂ : Named.named (F := Ideal) κ "inv_left2" (φ := .f32) 0x42C8E6D3#32 = ((268435456 / 2672307 : ℝ) : EReal) :=
    IdealRules.named_const.ideal_named_scalar _ _ _ _ rfl
  unfold delta
  rw [e₁, e₂]
  rfl

theorem algebraic : Cert.algebraic_AdamWOutIdeal_StepWOutIdeal := by
  intro m ρ m' ρ' _ agree
  refine ⟨_, _, _, _, run (F := Ideal) m ρ, ?_⟩
  refine (θ_run Cert.StepWOutIdeal.defs _ _).mono (fun _ h c => ?_) (Cert.StepWOutIdeal.Value.run (F := Ideal) m' ρ')
  obtain ⟨a0, a1, a2, a3⟩ := agree c
  have g := (h c).1; have p := (h c).2.1; have f := (h c).2.2.1; have s := (h c).2.2.2.1
  rw [a3, total_host] at g
  rw [a0, a1, a2, a3, total_host, first_host, second_host, change_host] at p
  rw [a1, a3, total_host, first_host] at f
  rw [a2, a3, total_host, second_host] at s
  exact ⟨g, p.trans (delta_ideal m c).symm, f, s, (h c).2.2.2.2⟩

end Cert.AdamWOutIdeal.Whole

end
-- ==== Proof.AdamSmall.lean ====
module

public import proofs.«01_k».proof.Defs
public import proofs.«01_k».proof.Proof.Step
public import proofs.«01_k».proof.Proof.Gen.AdamSmall.Frame
public import proofs.«01_k».proof.Proof.Gen.AdamSmallIdeal.Value
public import proofs.«01_k».proof.Proof.Gen.StepSmallIdeal.Run

/-!
# The update of the small weights, packed into rows

Every tile that a grid point writes back is that tile of the step of the whole arrays, and the tiles cover each result.
-/

@[expose] public section

noncomputable section

namespace Cert.AdamSmallIdeal.Whole

open Cert.AdamSmallIdeal Cert.AdamSmallIdeal.Gen Cert.Step Idealize.ShloMosaic Idealize.ShloMosaic.TcCoe Idealize.SL.Sem

variable {F : FTy → Type} [FloatOps F] [Named F]
variable (m : (ℓ : Loc nD τ sig) → Buf (Elt F) ℓ) (ρ : Dev nD → PrngReg)

/-- The gradient. -/
abbrev grad (d : Dev nD) : FVec F S2304x128 .f32 := fun i => m ((d : Thread nD τ).loc main_arg3) (at_ (0 : Fin 1) i)
/-- The new moments. -/
abbrev fst (d : Dev nD) : FVec F S2304x128 .f32 := fun i => first (m ((d : Thread nD τ).loc main_arg1) i) (grad m d i)
abbrev snd (d : Dev nD) : FVec F S2304x128 .f32 := fun i => second (m ((d : Thread nD τ).loc main_arg2) i) (grad m d i)
/-- The change of the weight. -/
abbrev delta (d : Dev nD) : FVec F S2304x128 .f32 := fun i =>
  change (Named.named κ "inv_left1" 0x3FC48605#32) (Named.named κ "inv_left2" 0x42C8E6D3#32) (m ((d : Thread nD τ).loc main_arg0) i) (fst m d i) (snd m d i)

/-- Point `t` writes the rows of tile `t`, and loads the same rows of the gradient. -/
theorem index_tile : ∀ t : Fin grid0.N, win0_4.index t 0 = t ∧ win0_4.index t 1 = 0
    ∧ win0_3.index t 0 = 0 ∧ win0_3.index t 1 = t ∧ win0_3.index t 2 = 0 := by
  decide +kernel

/-- The loaded tile of the gradient sits where the written tile sits in the result. -/
theorem slab_at (t : Fin cfg0.N) (y : S256x128.Idx) (s : Fin 1) :
    ((cfg0.win 3).blk t).view.emb (at_ (r := 256) (c := 128) (n := 1) s y) = at_ s (((cfg0.win 4).blk t).view.emb y) := by
  obtain ⟨w0, w1, l0, l1, l2⟩ := index_tile t
  funext a
  apply Fin.ext
  fin_cases a
  · exact (win0_3.rect_emb_val t _ 0).trans (by rw [l0]; show 0 * 1 + (s : ℕ) = s; omega)
  · exact (win0_3.rect_emb_val t _ 1).trans ((by rw [l1, w0] : win0_3.index t 1 * 256 + (y 0 : ℕ) = win0_4.index t 0 * 256 + y 0).trans (win0_4.rect_emb_val t y 0).symm)
  · exact (win0_3.rect_emb_val t _ 2).trans ((by rw [l2, w1] : win0_3.index t 2 * 128 + (y 1 : ℕ) = win0_4.index t 1 * 128 + y 1).trans (win0_4.rect_emb_val t y 1).symm)

/-- The loaded gradient is the tile of the gradient. -/
theorem grad_tile (d : Dev nD) (t : Fin cfg0.N) (y : S256x128.Idx) :
    k0_pay1 (View.ld (iblk m d 3 t) r0_0) y = grad m d (((cfg0.win 4).blk t).view.emb y) :=
  (load_slab (e := .f32) (iblk m d 3 t) (0 : Fin 1) _ shapeCasts_S1x256x128_S256x128 y).trans
    (congrArg (m ((d : Thread nD τ).loc main_arg3)) (slab_at t y 0))

/-- The points' tiles cover an array of the results' shape. -/
theorem covered (i : S2304x128.Idx) : ∃ t : Fin cfg0.N, i ∈ (win0_4.rect t).set := by
  have h0 : (i 0 : ℕ) < 2304 := (i 0).isLt
  have hN : grid0.N = 9 := N_0
  have e := index_tile ⟨(i 0 : ℕ) / 256, by omega⟩
  exact ⟨_, mem_rows (by decide) i _ _ (congrArg (· * 256) e.1) (by show _ * 128 = 0; rw [e.2.1, Nat.zero_mul])⟩

/-! ## The results are the step of the whole arrays -/

theorem final_grad (d : Dev nD) : (dats m 0 d).arrAt 4 cfg0.N = grad m d :=
  (dats m 0 d).arrAt_eq_of_cover 4 (grad m d)
    (fun t _ => by
      rw [Value.flushed4]
      unfold out0_4
      rw [View.canon_unit_zero origin]
      exact funext fun y => grad_tile m d t y)
    fun i => (covered i).imp fun t h => ⟨flush0_4 t, (View.set_slice_whole (Pipeline.arrRef spec0 4) (win0_4.rect t)).symm ▸ h⟩

theorem final_delta (d : Dev nD) : (dats m 0 d).arrAt 5 cfg0.N = delta m d :=
  (dats m 0 d).arrAt_eq_of_cover 5 (delta m d)
    (fun t _ => by
      rw [Value.flushed5]
      unfold out0_5
      rw [View.canon_unit_zero origin, View.ld_unit_zero (S := S256x128) origin, View.ld_unit_zero (S := S256x128) origin, View.ld_unit_zero (S := S256x128) origin]
      exact funext fun y => congrArg (fun g => change (Named.named κ "inv_left1" 0x3FC48605#32) (Named.named κ "inv_left2" 0x42C8E6D3#32)
        (iblk m d 0 t y) (first (iblk m d 1 t y) g) (second (iblk m d 2 t y) g)) (grad_tile m d t y))
    fun i => (covered i).imp fun t h => ⟨flush0_5 t, (View.set_slice_whole (Pipeline.arrRef spec0 5) (win0_5.rect t)).symm ▸ h⟩

theorem final_fst (d : Dev nD) : (dats m 0 d).arrAt 6 cfg0.N = fst m d :=
  (dats m 0 d).arrAt_eq_of_cover 6 (fst m d)
    (fun t _ => by
      rw [Value.flushed6]
      unfold out0_6
      rw [View.canon_unit_zero origin, View.ld_unit_zero (S := S256x128) origin]
      exact funext fun y => congrArg (first (iblk m d 1 t y)) (grad_tile m d t y))
    fun i => (covered i).imp fun t h => ⟨flush0_6 t, (View.set_slice_whole (Pipeline.arrRef spec0 6) (win0_6.rect t)).symm ▸ h⟩

theorem final_snd (d : Dev nD) : (dats m 0 d).arrAt 7 cfg0.N = snd m d :=
  (dats m 0 d).arrAt_eq_of_cover 7 (snd m d)
    (fun t _ => by
      rw [Value.flushed7]
      unfold out0_7
      rw [View.canon_unit_zero origin, View.ld_unit_zero (S := S256x128) origin]
      exact funext fun y => congrArg (second (iblk m d 2 t y)) (grad_tile m d t y))
    fun i => (covered i).imp fun t h => ⟨flush0_7 t, (View.set_slice_whole (Pipeline.arrRef spec0 7) (win0_7.rect t)).symm ▸ h⟩

/-- The run leaves the step of the whole arrays in the results, and the arguments as they were. -/
theorem run : θ_run defs (onTc (τ := τ) (main (F := F))) ⟨m, fun _ => 0, ρ⟩ fun r => ∀ c : Dev nD,
      r.2.mem ((c : Thread nD τ).loc main_v0_0) = grad m c
      ∧ r.2.mem ((c : Thread nD τ).loc main_v0_1) = delta m c
      ∧ r.2.mem ((c : Thread nD τ).loc main_v0_2) = fst m c
      ∧ r.2.mem ((c : Thread nD τ).loc main_v0_3) = snd m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_grad m c), (h c).2.1.trans (final_delta m c),
    (h c).2.2.1.trans (final_fst m c), (h c).2.2.2.1.trans (final_snd m c), (h c).2.2.2.2⟩) (Value.run_blocks m ρ)

/-! ## The claims -/

theorem frame_step : Cert.quiescent_StepSmallIdeal := fun m ρ _ =>
  (θ_run Cert.StepSmallIdeal.defs _ _).mono (fun r h => ⟨fun c => (h c).2.2.2.2, sem_eq_zero_of_no_sems (by decide) r.2⟩)
    (Cert.StepSmallIdeal.Value.run (F := Ideal) m ρ)

theorem preserves : Cert.preserves_AdamSmall_AdamSmallIdeal :=
  ⟨IdealRules.named_const.statement κ "inv_left1" .f32 0x3FC48605#32 _ rfl, IdealRules.named_const.statement κ "inv_left2" .f32 0x42C8E6D3#32 _ rfl⟩

/-- Over the extended reals the two factors are the reciprocals that they are named. -/
theorem delta_ideal (m : (ℓ : Loc nD τ sig) → Buf (Elt Ideal) ℓ) (d : Dev nD) : delta m d = fun i =>
    change (F := Ideal) ((8388608 / 5463681 : ℝ) : EReal) ((268435456 / 2672307 : ℝ) : EReal) (m ((d : Thread nD τ).loc main_arg0) i) (fst m d i) (snd m d i) := by
  have e₁ : Named.named (F := Ideal) κ "inv_left1" (φ := .f32) 0x3FC48605#32 = ((8388608 / 5463681 : ℝ) : EReal) :=
    IdealRules.named_const.ideal_named_scalar _ _ _ _ rfl
  have e₂ : Named.named (F := Ideal) κ "inv_left2" (φ := .f32) 0x42C8E6D3#32 = ((268435456 / 2672307 : ℝ) : EReal) :=
    IdealRules.named_const.ideal_named_scalar _ _ _ _ rfl
  unfold delta
  rw [e₁, e₂]
  rfl

theorem algebraic : Cert.algebraic_AdamSmallIdeal_StepSmallIdeal := by
  intro m ρ m' ρ' _ agree
  refine ⟨_, _, _, _, run (F := Ideal) m ρ, ?_⟩
  refine (θ_run Cert.StepSmallIdeal.defs _ _).mono (fun _ h c => ?_) (Cert.StepSmallIdeal.Value.run (F := Ideal) m' ρ')
  obtain ⟨a0, a1, a2, a3⟩ := agree c
  have g := (h c).1; have p := (h c).2.1; have f := (h c).2.2.1; have s := (h c).2.2.2.1
  rw [a3, one_host] at g
  rw [a0, a1, a2, a3, one_host, first_host, second_host, change_host] at p
  rw [a1, a3, one_host, first_host] at f
  rw [a2, a3, one_host, second_host] at s
  exact ⟨g, p.trans (delta_ideal m c).symm, f, s, (h c).2.2.2.2⟩

end Cert.AdamSmallIdeal.Whole

end
-- ==== Proof.Product.lean ====
module

public import proofs.«01_k».proof.Proof.Step
public import Idealize.ShloMosaic.Lib.MatmulPlain
public import Idealize.ShloMosaic.Lib.StackMember
public import Idealize.ShloMosaic.Lib.ValueLayout

/-!
# A product cut into tiles

An element of a product is the sum of a line of one array times a line of the other, each line running along the axis over
which the product is taken. The kernel's products come in three forms, by which axis that is. Here are their elements as the
kernel and as the host take them, and how an element lies in a tile.
-/

@[expose] public section

noncomputable section

namespace Cert.Product

open Cert.Step Idealize.ShloMosaic Idealize.ShloMosaic.ValueIdx
open scoped BigOperators

variable {M N K p q : ℕ}

/-- Rows of the first array with columns of the second. -/
def ahead (a : (Sheet M K).Idx → EReal) (b : (Sheet K N).Idx → EReal) : (Sheet M N).Idx → EReal := fun i => ∑ k : Fin K, a (ix2 (i 0) k) * b (ix2 k (i 1))

/-- Columns of the first array with columns of the second. -/
def weights (a : (Sheet K M).Idx → EReal) (g : (Sheet K N).Idx → EReal) : (Sheet M N).Idx → EReal := fun i => ∑ k : Fin K, a (ix2 k (i 0)) * g (ix2 k (i 1))

/-- Rows of the first array with rows of the second. -/
def inputs (g : (Sheet M K).Idx → EReal) (b : (Sheet N K).Idx → EReal) : (Sheet M N).Idx → EReal := fun i => ∑ k : Fin K, g (ix2 (i 0) k) * b (ix2 (i 1) k)

/-! ## The kernel's products -/

section Kernel

variable {φ₁ φ₂ : FTy} (prec : Option ContractPrecision)

theorem zero_first (s : Shape) (i : s.Idx) (v : EReal) : constant (F := Ideal) s .f32 0x00000000#32 i + v = v := by
  rw [show constant (F := Ideal) s .f32 0x00000000#32 i = 0 from Ideal.ofBits_zero_f32, zero_add]

theorem ahead_tile (x : FVec Ideal (Sheet M K) φ₁) (y : FVec Ideal (Sheet K N) φ₂) :
    matmul (DotDims.plain M K N) prec x y (constant (Sheet M N) .f32 0x00000000#32) = ahead x y := funext fun i => by
  obtain ⟨a, b, rfl⟩ : ∃ (a : Fin M) (b : Fin N), i = ix2 a b := ⟨i 0, i 1, eq_ix2 i⟩
  exact (Ideal.matmul_plain_apply prec x y _ a b).trans (zero_first _ _ _)

theorem inputs_tile (x : FVec Ideal (Sheet M K) φ₁) (y : FVec Ideal (Sheet N K) φ₂) :
    matmul (DotDims.transposedRhs M K N) prec x y (constant (Sheet M N) .f32 0x00000000#32) = inputs x y := funext fun i => by
  obtain ⟨a, b, rfl⟩ : ∃ (a : Fin M) (b : Fin N), i = ix2 a b := ⟨i 0, i 1, eq_ix2 i⟩
  exact (Ideal.matmul_transposedRhs_apply prec x y _ a b).trans (zero_first _ _ _)

theorem weights_tile (w : DotDims.WF (Sheet K M) (Sheet K N) (Sheet M N) [0] [0] [1] [1] [] []) (x : FVec Ideal (Sheet K M) φ₁) (y : FVec Ideal (Sheet K N) φ₂) :
    matmul (⟨[0], [0], [1], [1], [], [], w⟩ : DotDims _ _ _) prec x y (constant (Sheet M N) .f32 0x00000000#32) = weights x y := funext fun i => by
  let D : DotDims (Sheet K M) (Sheet K N) (Sheet M N) := ⟨[0], [0], [1], [1], [], [], w⟩
  refine ((Ideal.matmul_apply D prec x y _ i).trans (zero_first _ _ _)).trans ?_
  rw [← Equiv.sum_comp (contrEquiv1 D K rfl rfl).symm]
  refine Finset.sum_congr rfl fun k _ => ?_
  have e := contrEquiv1_symm_val D K rfl rfl k
  have l : D.lhsIdx i ((contrEquiv1 D K rfl rfl).symm k) = ix2 k (i 0) := funext fun a => Fin.ext (by
    match a with
    | ⟨0, _⟩ => exact e
    | ⟨1, _⟩ => rfl)
  have r : D.rhsIdx i ((contrEquiv1 D K rfl rfl).symm k) = ix2 k (i 1) := funext fun a => Fin.ext (by
    match a with
    | ⟨0, _⟩ => exact e
    | ⟨1, _⟩ => rfl)
  rw [l, r]
  rfl

end Kernel

/-! ## The host's products -/

section Host

variable (prec : Option ContractPrecision)

theorem ahead_host (a : FVec Ideal (Sheet M K) .f32) (b : FVec Ideal (Sheet K N) .f32) : Host.dotGeneral (DotDims.plain M K N) prec a b = ahead a b :=
  funext fun i => by
    obtain ⟨r, c, rfl⟩ : ∃ (r : Fin M) (c : Fin N), i = ix2 r c := ⟨i 0, i 1, eq_ix2 i⟩
    exact StackMember.dotGeneral_plain_apply prec a b r c

theorem weights_host (a : FVec Ideal (Sheet K M) .f32) (g : FVec Ideal (Sheet K N) .f32) (h) :
    Host.dotGeneral (DotDims.plain M K N) prec (transpose (Sheet M K) [1, 0] a h) g = weights a g :=
  (ahead_host prec _ _).trans (funext fun i => Finset.sum_congr rfl fun k _ => congrArg (· * g (ix2 k (i 1))) (transpose_ix2_apply a h (i 0) k))

theorem inputs_host (g : FVec Ideal (Sheet M K) .f32) (b : FVec Ideal (Sheet N K) .f32) (h) :
    Host.dotGeneral (DotDims.plain M K N) prec g (transpose (Sheet K N) [1, 0] b h) = inputs g b :=
  (ahead_host prec _ _).trans (funext fun i => Finset.sum_congr rfl fun k _ => congrArg (g (ix2 (i 0) k) * ·) (transpose_ix2_apply b h k (i 1)))

end Host

/-! ## Tiles -/

section Tile

variable (o : (Sheet p q).Idx → (Sheet M N).Idx)

/-- A tile of the product is the product of what the tiles of the two arrays hold. -/
theorem ahead_part (a : (Sheet M K).Idx → EReal) (b : (Sheet K N).Idx → EReal) (l : (Sheet p K).Idx → (Sheet M K).Idx) (r : (Sheet K q).Idx → (Sheet K N).Idx)
    (hl : ∀ (y : (Sheet p q).Idx) (k : Fin K), l (ix2 (y 0) k) = ix2 (o y 0) k) (hr : ∀ (y : (Sheet p q).Idx) (k : Fin K), r (ix2 k (y 1)) = ix2 k (o y 1)) :
    ahead (fun y => a (l y)) (fun y => b (r y)) = fun y => ahead a b (o y) :=
  funext fun y => Finset.sum_congr rfl fun k _ => congrArg₂ (· * ·) (congrArg a (hl y k)) (congrArg b (hr y k))

theorem weights_part (a : (Sheet K M).Idx → EReal) (g : (Sheet K N).Idx → EReal) (l : (Sheet K p).Idx → (Sheet K M).Idx) (r : (Sheet K q).Idx → (Sheet K N).Idx)
    (hl : ∀ (y : (Sheet p q).Idx) (k : Fin K), l (ix2 k (y 0)) = ix2 k (o y 0)) (hr : ∀ (y : (Sheet p q).Idx) (k : Fin K), r (ix2 k (y 1)) = ix2 k (o y 1)) :
    weights (fun y => a (l y)) (fun y => g (r y)) = fun y => weights a g (o y) :=
  funext fun y => Finset.sum_congr rfl fun k _ => congrArg₂ (· * ·) (congrArg a (hl y k)) (congrArg g (hr y k))

theorem inputs_part (g : (Sheet M K).Idx → EReal) (b : (Sheet N K).Idx → EReal) (l : (Sheet p K).Idx → (Sheet M K).Idx) (r : (Sheet q K).Idx → (Sheet N K).Idx)
    (hl : ∀ (y : (Sheet p q).Idx) (k : Fin K), l (ix2 (y 0) k) = ix2 (o y 0) k) (hr : ∀ (y : (Sheet p q).Idx) (k : Fin K), r (ix2 (y 1) k) = ix2 (o y 1) k) :
    inputs (fun y => g (l y)) (fun y => b (r y)) = fun y => inputs g b (o y) :=
  funext fun y => Finset.sum_congr rfl fun k _ => congrArg₂ (· * ·) (congrArg g (hl y k)) (congrArg b (hr y k))

/-- An index with the given coordinates. -/
theorem eq_at (i : (Sheet M N).Idx) (r : Fin M) (c : Fin N) (h0 : (i 0 : ℕ) = r) (h1 : (i 1 : ℕ) = c) : i = ix2 r c :=
  funext fun a => Fin.ext (by fin_cases a <;> assumption)

variable {e f z w y : ℕ}

/-- Two arrays cut into as many rows, one of them into whole rows, are at one row in one tile. -/
theorem eq_row {i : (Sheet M K).Idx} {r : Fin M} {k : Fin K} (h0 : (i 0 : ℕ) = e * p + y) (hr : (r : ℕ) = f * p + y) (hef : e = f)
    (h1 : (i 1 : ℕ) = z * w + k) (hz : z = 0) : i = ix2 r k :=
  eq_at i r k (by rw [h0, hr, hef]) (by rw [h1, hz, Nat.zero_mul, Nat.zero_add])

/-- And so at one column where one is cut into whole columns. -/
theorem eq_column {i : (Sheet K N).Idx} {k : Fin K} {c : Fin N} (h0 : (i 0 : ℕ) = z * w + k) (hz : z = 0)
    (h1 : (i 1 : ℕ) = e * q + y) (hc : (c : ℕ) = f * q + y) (hef : e = f) : i = ix2 k c :=
  eq_at i k c (by rw [h0, hz, Nat.zero_mul, Nat.zero_add]) (by rw [h1, hc, hef])

/-- An element lies in the tile that its row and its column belong to. -/
theorem mem_tile (hp : 0 < p) (hq : 0 < q) (i : (Sheet M N).Idx) (off : Fin 2 → ℕ) (inb) (h0 : off 0 = (i 0 : ℕ) / p * p) (h1 : off 1 = (i 1 : ℕ) / q * q) :
    i ∈ (Rect.unit (s := Sheet M N) off ![p, q] inb).set := by
  rw [Rect.mem_set_unit]
  intro a
  fin_cases a
  · show off 0 ≤ (i 0 : ℕ) ∧ (i 0 : ℕ) < off 0 + p
    rw [h0]
    have := Nat.div_add_mod' (i 0 : ℕ) p
    have := Nat.mod_lt (i 0 : ℕ) hp
    omega
  · show off 1 ≤ (i 1 : ℕ) ∧ (i 1 : ℕ) < off 1 + q
    rw [h1]
    have := Nat.div_add_mod' (i 1 : ℕ) q
    have := Nat.mod_lt (i 1 : ℕ) hq
    omega

end Tile

end Cert.Product

end
-- ==== Proof.ProductWOut.lean ====
module

public import proofs.«01_k».proof.Defs
public import proofs.«01_k».proof.Proof.Product
public import proofs.«01_k».proof.Proof.Gen.ProductWOut.Frame
public import proofs.«01_k».proof.Proof.Gen.ProductWOutIdeal.Value
public import proofs.«01_k».proof.Proof.Gen.PlainWOutIdeal.Run

/-!
# The product with w_out

Each of the sixteen grid points writes one tile of the product, and the tiles cover the result.
-/

@[expose] public section

noncomputable section

namespace Cert.ProductWOutIdeal.Whole

open Cert.ProductWOutIdeal Cert.ProductWOutIdeal.Gen Cert.Step Cert.Product Idealize.ShloMosaic Idealize.ShloMosaic.TcCoe Idealize.ShloMosaic.ValueIdx Idealize.SL.Sem

variable (m : (ℓ : Loc nD τ sig) → Buf (Elt Ideal) ℓ) (ρ : Dev nD → PrngReg)

/-- Point `t` writes the tile in the row `t / 4` and the column `t % 4` of tiles. -/
theorem index_tile : ∀ t : Fin grid0.N, (win0_0.index t 0 = t / 4 ∧ win0_0.index t 1 = 0) ∧ (win0_1.index t 0 = 0 ∧ win0_1.index t 1 = t % 4)
    ∧ (win0_2.index t 0 = t / 4 ∧ win0_2.index t 1 = t % 4) := by
  decide +kernel

theorem left_at (t : Fin cfg0.N) (y : S512x512.Idx) (k : Fin 2048) :
    ((cfg0.win 0).blk t).view.emb (ix2 (y 0) k) = ix2 (((cfg0.win 2).blk t).view.emb y 0) k := by
  obtain ⟨⟨l0, l1⟩, _, w0, _⟩ := index_tile t
  exact eq_row (win0_0.rect_emb_val t _ 0) (win0_2.rect_emb_val t y 0) (l0.trans w0.symm) (win0_0.rect_emb_val t _ 1) l1

theorem right_at (t : Fin cfg0.N) (y : S512x512.Idx) (k : Fin 2048) :
    ((cfg0.win 1).blk t).view.emb (ix2 k (y 1)) = ix2 k (((cfg0.win 2).blk t).view.emb y 1) := by
  obtain ⟨_, ⟨r0, r1⟩, _, w1⟩ := index_tile t
  exact eq_column (win0_1.rect_emb_val t _ 0) r0 (win0_1.rect_emb_val t _ 1) (win0_2.rect_emb_val t y 1) (r1.trans w1.symm)

theorem covered (i : S2048x2048.Idx) : ∃ t : Fin cfg0.N, i ∈ (win0_2.rect t).set := by
  have h0 : (i 0 : ℕ) < 2048 := (i 0).isLt
  have h1 : (i 1 : ℕ) < 2048 := (i 1).isLt
  have hN : grid0.N = 16 := N_0
  obtain ⟨w0, w1⟩ := (index_tile ⟨(i 0 : ℕ) / 512 * 4 + (i 1 : ℕ) / 512, by omega⟩).2.2
  refine ⟨_, mem_tile (p := 512) (q := 512) (by decide) (by decide) i _ _ (congrArg (· * 512) (w0.trans ?_)) (congrArg (· * 512) (w1.trans ?_))⟩
  · dsimp only; omega
  · dsimp only; omega

theorem final (d : Dev nD) : (dats m 0 d).arrAt 2 cfg0.N = ahead (m ((d : Thread nD τ).loc main_arg0)) (m ((d : Thread nD τ).loc main_arg1)) :=
  (dats m 0 d).arrAt_eq_of_cover 2 _
    (fun t _ => by
      rw [Value.flushed2]
      unfold out0_2
      rw [View.canon_unit_zero origin, View.ld_unit_zero (S := S512x2048) origin, View.ld_unit_zero (S := S2048x512) origin]
      exact (ahead_tile none _ _).trans (ahead_part _ _ _ _ _ (left_at t) (right_at t)))
    fun i => (covered i).imp fun t h => ⟨flush0_2 t, (View.set_slice_whole (Pipeline.arrRef spec0 2) (win0_2.rect t)).symm ▸ h⟩

theorem run : θ_run defs (onTc (τ := τ) (main (F := Ideal))) ⟨m, fun _ => 0, ρ⟩ fun r => ∀ c : Dev nD,
      r.2.mem ((c : Thread nD τ).loc main_v0) = ahead (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

theorem frame_plain : Cert.quiescent_PlainWOutIdeal := fun m ρ _ =>
  (θ_run Cert.PlainWOutIdeal.defs _ _).mono (fun r h => ⟨fun c => (h c).2, sem_eq_zero_of_no_sems (by decide) r.2⟩)
    (Cert.PlainWOutIdeal.Value.run (F := Ideal) m ρ)

theorem algebraic : Cert.algebraic_ProductWOutIdeal_PlainWOutIdeal := by
  intro m ρ m' ρ' _ agree
  refine ⟨_, run m ρ, ?_⟩
  refine (θ_run Cert.PlainWOutIdeal.defs _ _).mono (fun _ h c => ⟨(h c).1.trans ?_, (h c).2⟩) (Cert.PlainWOutIdeal.Value.run (F := Ideal) m' ρ')
  rw [(agree c).1, (agree c).2]
  exact ahead_host none _ _

end Cert.ProductWOutIdeal.Whole

end
-- ==== Proof.ProductGradWOut.lean ====
module

public import proofs.«01_k».proof.Defs
public import proofs.«01_k».proof.Proof.Product
public import proofs.«01_k».proof.Proof.Gen.ProductGradWOut.Frame
public import proofs.«01_k».proof.Proof.Gen.ProductGradWOutIdeal.Value
public import proofs.«01_k».proof.Proof.Gen.PlainGradWOutIdeal.Run

/-!
# The gradient of w_out

Each of the sixteen grid points writes one tile of the product, and the tiles cover the result.
-/

@[expose] public section

noncomputable section

namespace Cert.ProductGradWOutIdeal.Whole

open Cert.ProductGradWOutIdeal Cert.ProductGradWOutIdeal.Gen Cert.Step Cert.Product Idealize.ShloMosaic Idealize.ShloMosaic.TcCoe Idealize.ShloMosaic.ValueIdx Idealize.SL.Sem

variable (m : (ℓ : Loc nD τ sig) → Buf (Elt Ideal) ℓ) (ρ : Dev nD → PrngReg)

/-- Point `t` writes the tile in the row `t / 4` and the column `t % 4` of tiles. -/
theorem index_tile : ∀ t : Fin grid0.N, (win0_0.index t 0 = 0 ∧ win0_0.index t 1 = t / 4) ∧ (win0_1.index t 0 = 0 ∧ win0_1.index t 1 = t % 4)
    ∧ (win0_2.index t 0 = t / 4 ∧ win0_2.index t 1 = t % 4) := by
  decide +kernel

theorem left_at (t : Fin cfg0.N) (y : S512x512.Idx) (k : Fin 2048) :
    ((cfg0.win 0).blk t).view.emb (ix2 k (y 0)) = ix2 k (((cfg0.win 2).blk t).view.emb y 0) := by
  obtain ⟨⟨l0, l1⟩, _, w0, _⟩ := index_tile t
  exact eq_column (win0_0.rect_emb_val t _ 0) l0 (win0_0.rect_emb_val t _ 1) (win0_2.rect_emb_val t y 0) (l1.trans w0.symm)

theorem right_at (t : Fin cfg0.N) (y : S512x512.Idx) (k : Fin 2048) :
    ((cfg0.win 1).blk t).view.emb (ix2 k (y 1)) = ix2 k (((cfg0.win 2).blk t).view.emb y 1) := by
  obtain ⟨_, ⟨r0, r1⟩, _, w1⟩ := index_tile t
  exact eq_column (win0_1.rect_emb_val t _ 0) r0 (win0_1.rect_emb_val t _ 1) (win0_2.rect_emb_val t y 1) (r1.trans w1.symm)

theorem covered (i : S2048x2048.Idx) : ∃ t : Fin cfg0.N, i ∈ (win0_2.rect t).set := by
  have h0 : (i 0 : ℕ) < 2048 := (i 0).isLt
  have h1 : (i 1 : ℕ) < 2048 := (i 1).isLt
  have hN : grid0.N = 16 := N_0
  obtain ⟨w0, w1⟩ := (index_tile ⟨(i 0 : ℕ) / 512 * 4 + (i 1 : ℕ) / 512, by omega⟩).2.2
  refine ⟨_, mem_tile (p := 512) (q := 512) (by decide) (by decide) i _ _ (congrArg (· * 512) (w0.trans ?_)) (congrArg (· * 512) (w1.trans ?_))⟩
  · dsimp only; omega
  · dsimp only; omega

theorem final (d : Dev nD) : (dats m 0 d).arrAt 2 cfg0.N = weights (m ((d : Thread nD τ).loc main_arg0)) (m ((d : Thread nD τ).loc main_arg1)) :=
  (dats m 0 d).arrAt_eq_of_cover 2 _
    (fun t _ => by
      rw [Value.flushed2]
      unfold out0_2
      rw [View.canon_unit_zero origin, View.ld_unit_zero (S := S2048x512) origin, View.ld_unit_zero (S := S2048x512) origin]
      exact (weights_tile (φ₁ := .bf16) (φ₂ := .bf16) none _ _ _).trans (weights_part _ _ _ _ _ (left_at t) (right_at t)))
    fun i => (covered i).imp fun t h => ⟨flush0_2 t, (View.set_slice_whole (Pipeline.arrRef spec0 2) (win0_2.rect t)).symm ▸ h⟩

theorem run : θ_run defs (onTc (τ := τ) (main (F := Ideal))) ⟨m, fun _ => 0, ρ⟩ fun r => ∀ c : Dev nD,
      r.2.mem ((c : Thread nD τ).loc main_v0) = weights (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

theorem frame_plain : Cert.quiescent_PlainGradWOutIdeal := fun m ρ _ =>
  (θ_run Cert.PlainGradWOutIdeal.defs _ _).mono (fun r h => ⟨fun c => (h c).2, sem_eq_zero_of_no_sems (by decide) r.2⟩)
    (Cert.PlainGradWOutIdeal.Value.run (F := Ideal) m ρ)

theorem algebraic : Cert.algebraic_ProductGradWOutIdeal_PlainGradWOutIdeal := by
  intro m ρ m' ρ' _ agree
  refine ⟨_, run m ρ, ?_⟩
  refine (θ_run Cert.PlainGradWOutIdeal.defs _ _).mono (fun _ h c => ⟨(h c).1.trans ?_, (h c).2⟩) (Cert.PlainGradWOutIdeal.Value.run (F := Ideal) m' ρ')
  rw [(agree c).1, (agree c).2]
  exact weights_host none _ _ _

end Cert.ProductGradWOutIdeal.Whole

end
-- ==== Proof.ProductDMixed.lean ====
module

public import proofs.«01_k».proof.Defs
public import proofs.«01_k».proof.Proof.Product
public import proofs.«01_k».proof.Proof.Gen.ProductDMixed.Frame
public import proofs.«01_k».proof.Proof.Gen.ProductDMixedIdeal.Value
public import proofs.«01_k».proof.Proof.Gen.PlainDMixedIdeal.Run

/-!
# The gradient of the mixed rows

Each of the sixteen grid points writes one tile of the product, and the tiles cover the result.
-/

@[expose] public section

noncomputable section

namespace Cert.ProductDMixedIdeal.Whole

open Cert.ProductDMixedIdeal Cert.ProductDMixedIdeal.Gen Cert.Step Cert.Product Idealize.ShloMosaic Idealize.ShloMosaic.TcCoe Idealize.ShloMosaic.ValueIdx Idealize.SL.Sem

variable (m : (ℓ : Loc nD τ sig) → Buf (Elt Ideal) ℓ) (ρ : Dev nD → PrngReg)

/-- Point `t` writes the tile in the row `t / 4` and the column `t % 4` of tiles. -/
theorem index_tile : ∀ t : Fin grid0.N, (win0_0.index t 0 = t / 4 ∧ win0_0.index t 1 = 0) ∧ (win0_1.index t 0 = t % 4 ∧ win0_1.index t 1 = 0)
    ∧ (win0_2.index t 0 = t / 4 ∧ win0_2.index t 1 = t % 4) := by
  decide +kernel

theorem left_at (t : Fin cfg0.N) (y : S512x512.Idx) (k : Fin 2048) :
    ((cfg0.win 0).blk t).view.emb (ix2 (y 0) k) = ix2 (((cfg0.win 2).blk t).view.emb y 0) k := by
  obtain ⟨⟨l0, l1⟩, _, w0, _⟩ := index_tile t
  exact eq_row (win0_0.rect_emb_val t _ 0) (win0_2.rect_emb_val t y 0) (l0.trans w0.symm) (win0_0.rect_emb_val t _ 1) l1

theorem right_at (t : Fin cfg0.N) (y : S512x512.Idx) (k : Fin 2048) :
    ((cfg0.win 1).blk t).view.emb (ix2 (y 1) k) = ix2 (((cfg0.win 2).blk t).view.emb y 1) k := by
  obtain ⟨_, ⟨r0, r1⟩, _, w1⟩ := index_tile t
  exact eq_row (win0_1.rect_emb_val t _ 0) (win0_2.rect_emb_val t y 1) (r0.trans w1.symm) (win0_1.rect_emb_val t _ 1) r1

theorem covered (i : S2048x2048.Idx) : ∃ t : Fin cfg0.N, i ∈ (win0_2.rect t).set := by
  have h0 : (i 0 : ℕ) < 2048 := (i 0).isLt
  have h1 : (i 1 : ℕ) < 2048 := (i 1).isLt
  have hN : grid0.N = 16 := N_0
  obtain ⟨w0, w1⟩ := (index_tile ⟨(i 0 : ℕ) / 512 * 4 + (i 1 : ℕ) / 512, by omega⟩).2.2
  refine ⟨_, mem_tile (p := 512) (q := 512) (by decide) (by decide) i _ _ (congrArg (· * 512) (w0.trans ?_)) (congrArg (· * 512) (w1.trans ?_))⟩
  · dsimp only; omega
  · dsimp only; omega

theorem final (d : Dev nD) : (dats m 0 d).arrAt 2 cfg0.N = inputs (m ((d : Thread nD τ).loc main_arg0)) (m ((d : Thread nD τ).loc main_arg1)) :=
  (dats m 0 d).arrAt_eq_of_cover 2 _
    (fun t _ => by
      rw [Value.flushed2]
      unfold out0_2
      rw [View.canon_unit_zero origin, View.ld_unit_zero (S := S512x2048) origin, View.ld_unit_zero (S := S512x2048) origin]
      exact (inputs_tile none _ _).trans (inputs_part _ _ _ _ _ (left_at t) (right_at t)))
    fun i => (covered i).imp fun t h => ⟨flush0_2 t, (View.set_slice_whole (Pipeline.arrRef spec0 2) (win0_2.rect t)).symm ▸ h⟩

theorem run : θ_run defs (onTc (τ := τ) (main (F := Ideal))) ⟨m, fun _ => 0, ρ⟩ fun r => ∀ c : Dev nD,
      r.2.mem ((c : Thread nD τ).loc main_v0) = inputs (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

theorem frame_plain : Cert.quiescent_PlainDMixedIdeal := fun m ρ _ =>
  (θ_run Cert.PlainDMixedIdeal.defs _ _).mono (fun r h => ⟨fun c => (h c).2, sem_eq_zero_of_no_sems (by decide) r.2⟩)
    (Cert.PlainDMixedIdeal.Value.run (F := Ideal) m ρ)

theorem algebraic : Cert.algebraic_ProductDMixedIdeal_PlainDMixedIdeal := by
  intro m ρ m' ρ' _ agree
  refine ⟨_, run m ρ, ?_⟩
  refine (θ_run Cert.PlainDMixedIdeal.defs _ _).mono (fun _ h c => ⟨(h c).1.trans ?_, (h c).2⟩) (Cert.PlainDMixedIdeal.Value.run (F := Ideal) m' ρ')
  rw [(agree c).1, (agree c).2]
  exact inputs_host none _ _ _

end Cert.ProductDMixedIdeal.Whole

end
-- ==== Proof.ProductS5Up.lean ====
module

public import proofs.«01_k».proof.Defs
public import proofs.«01_k».proof.Proof.Product
public import proofs.«01_k».proof.Proof.Gen.ProductS5Up.Frame
public import proofs.«01_k».proof.Proof.Gen.ProductS5UpIdeal.Value
public import proofs.«01_k».proof.Proof.Gen.PlainS5UpIdeal.Run

/-!
# The product with the weight of the first half

Each of the sixteen grid points writes one tile of the product, and the tiles cover the result.
-/

@[expose] public section

noncomputable section

namespace Cert.ProductS5UpIdeal.Whole

open Cert.ProductS5UpIdeal Cert.ProductS5UpIdeal.Gen Cert.Step Cert.Product Idealize.ShloMosaic Idealize.ShloMosaic.TcCoe Idealize.ShloMosaic.ValueIdx Idealize.SL.Sem

variable (m : (ℓ : Loc nD τ sig) → Buf (Elt Ideal) ℓ) (ρ : Dev nD → PrngReg)

/-- Point `t` writes the tile in the row `t / 4` and the column `t % 4` of tiles. -/
theorem index_tile : ∀ t : Fin grid0.N, (win0_0.index t 0 = t / 4 ∧ win0_0.index t 1 = 0) ∧ (win0_1.index t 0 = 0 ∧ win0_1.index t 1 = t % 4)
    ∧ (win0_2.index t 0 = t / 4 ∧ win0_2.index t 1 = t % 4) := by
  decide +kernel

theorem left_at (t : Fin cfg0.N) (y : S512x512.Idx) (k : Fin 1024) :
    ((cfg0.win 0).blk t).view.emb (ix2 (y 0) k) = ix2 (((cfg0.win 2).blk t).view.emb y 0) k := by
  obtain ⟨⟨l0, l1⟩, _, w0, _⟩ := index_tile t
  exact eq_row (win0_0.rect_emb_val t _ 0) (win0_2.rect_emb_val t y 0) (l0.trans w0.symm) (win0_0.rect_emb_val t _ 1) l1

theorem right_at (t : Fin cfg0.N) (y : S512x512.Idx) (k : Fin 1024) :
    ((cfg0.win 1).blk t).view.emb (ix2 k (y 1)) = ix2 k (((cfg0.win 2).blk t).view.emb y 1) := by
  obtain ⟨_, ⟨r0, r1⟩, _, w1⟩ := index_tile t
  exact eq_column (win0_1.rect_emb_val t _ 0) r0 (win0_1.rect_emb_val t _ 1) (win0_2.rect_emb_val t y 1) (r1.trans w1.symm)

theorem covered (i : S2048x2048.Idx) : ∃ t : Fin cfg0.N, i ∈ (win0_2.rect t).set := by
  have h0 : (i 0 : ℕ) < 2048 := (i 0).isLt
  have h1 : (i 1 : ℕ) < 2048 := (i 1).isLt
  have hN : grid0.N = 16 := N_0
  obtain ⟨w0, w1⟩ := (index_tile ⟨(i 0 : ℕ) / 512 * 4 + (i 1 : ℕ) / 512, by omega⟩).2.2
  refine ⟨_, mem_tile (p := 512) (q := 512) (by decide) (by decide) i _ _ (congrArg (· * 512) (w0.trans ?_)) (congrArg (· * 512) (w1.trans ?_))⟩
  · dsimp only; omega
  · dsimp only; omega

theorem final (d : Dev nD) : (dats m 0 d).arrAt 2 cfg0.N = ahead (m ((d : Thread nD τ).loc main_arg0)) (m ((d : Thread nD τ).loc main_arg1)) :=
  (dats m 0 d).arrAt_eq_of_cover 2 _
    (fun t _ => by
      rw [Value.flushed2]
      unfold out0_2
      rw [View.canon_unit_zero origin, View.ld_unit_zero (S := S512x1024) origin, View.ld_unit_zero (S := S1024x512) origin]
      exact (ahead_tile none _ _).trans (ahead_part _ _ _ _ _ (left_at t) (right_at t)))
    fun i => (covered i).imp fun t h => ⟨flush0_2 t, (View.set_slice_whole (Pipeline.arrRef spec0 2) (win0_2.rect t)).symm ▸ h⟩

theorem run : θ_run defs (onTc (τ := τ) (main (F := Ideal))) ⟨m, fun _ => 0, ρ⟩ fun r => ∀ c : Dev nD,
      r.2.mem ((c : Thread nD τ).loc main_v0) = ahead (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

theorem frame_plain : Cert.quiescent_PlainS5UpIdeal := fun m ρ _ =>
  (θ_run Cert.PlainS5UpIdeal.defs _ _).mono (fun r h => ⟨fun c => (h c).2, sem_eq_zero_of_no_sems (by decide) r.2⟩)
    (Cert.PlainS5UpIdeal.Value.run (F := Ideal) m ρ)

theorem algebraic : Cert.algebraic_ProductS5UpIdeal_PlainS5UpIdeal := by
  intro m ρ m' ρ' _ agree
  refine ⟨_, run m ρ, ?_⟩
  refine (θ_run Cert.PlainS5UpIdeal.defs _ _).mono (fun _ h c => ⟨(h c).1.trans ?_, (h c).2⟩) (Cert.PlainS5UpIdeal.Value.run (F := Ideal) m' ρ')
  rw [(agree c).1, (agree c).2]
  exact ahead_host none _ _

end Cert.ProductS5UpIdeal.Whole

end
-- ==== Proof.ProductGradS5Up.lean ====
module

public import proofs.«01_k».proof.Defs
public import proofs.«01_k».proof.Proof.Product
public import proofs.«01_k».proof.Proof.Gen.ProductGradS5Up.Frame
public import proofs.«01_k».proof.Proof.Gen.ProductGradS5UpIdeal.Value
public import proofs.«01_k».proof.Proof.Gen.PlainGradS5UpIdeal.Run

/-!
# The gradient of a half's weight

Each of the eight grid points writes one tile of the product, and the tiles cover the result.
-/

@[expose] public section

noncomputable section

namespace Cert.ProductGradS5UpIdeal.Whole

open Cert.ProductGradS5UpIdeal Cert.ProductGradS5UpIdeal.Gen Cert.Step Cert.Product Idealize.ShloMosaic Idealize.ShloMosaic.TcCoe Idealize.ShloMosaic.ValueIdx Idealize.SL.Sem

variable (m : (ℓ : Loc nD τ sig) → Buf (Elt Ideal) ℓ) (ρ : Dev nD → PrngReg)

/-- Point `t` writes the tile in the row `t / 4` and the column `t % 4` of tiles. -/
theorem index_tile : ∀ t : Fin grid0.N, (win0_0.index t 0 = 0 ∧ win0_0.index t 1 = t / 4) ∧ (win0_1.index t 0 = 0 ∧ win0_1.index t 1 = t % 4)
    ∧ (win0_2.index t 0 = t / 4 ∧ win0_2.index t 1 = t % 4) := by
  decide +kernel

theorem left_at (t : Fin cfg0.N) (y : S512x512.Idx) (k : Fin 2048) :
    ((cfg0.win 0).blk t).view.emb (ix2 k (y 0)) = ix2 k (((cfg0.win 2).blk t).view.emb y 0) := by
  obtain ⟨⟨l0, l1⟩, _, w0, _⟩ := index_tile t
  exact eq_column (win0_0.rect_emb_val t _ 0) l0 (win0_0.rect_emb_val t _ 1) (win0_2.rect_emb_val t y 0) (l1.trans w0.symm)

theorem right_at (t : Fin cfg0.N) (y : S512x512.Idx) (k : Fin 2048) :
    ((cfg0.win 1).blk t).view.emb (ix2 k (y 1)) = ix2 k (((cfg0.win 2).blk t).view.emb y 1) := by
  obtain ⟨_, ⟨r0, r1⟩, _, w1⟩ := index_tile t
  exact eq_column (win0_1.rect_emb_val t _ 0) r0 (win0_1.rect_emb_val t _ 1) (win0_2.rect_emb_val t y 1) (r1.trans w1.symm)

theorem covered (i : S1024x2048.Idx) : ∃ t : Fin cfg0.N, i ∈ (win0_2.rect t).set := by
  have h0 : (i 0 : ℕ) < 1024 := (i 0).isLt
  have h1 : (i 1 : ℕ) < 2048 := (i 1).isLt
  have hN : grid0.N = 8 := N_0
  obtain ⟨w0, w1⟩ := (index_tile ⟨(i 0 : ℕ) / 512 * 4 + (i 1 : ℕ) / 512, by omega⟩).2.2
  refine ⟨_, mem_tile (p := 512) (q := 512) (by decide) (by decide) i _ _ (congrArg (· * 512) (w0.trans ?_)) (congrArg (· * 512) (w1.trans ?_))⟩
  · dsimp only; omega
  · dsimp only; omega

theorem final (d : Dev nD) : (dats m 0 d).arrAt 2 cfg0.N = weights (m ((d : Thread nD τ).loc main_arg0)) (m ((d : Thread nD τ).loc main_arg1)) :=
  (dats m 0 d).arrAt_eq_of_cover 2 _
    (fun t _ => by
      rw [Value.flushed2]
      unfold out0_2
      rw [View.canon_unit_zero origin, View.ld_unit_zero (S := S2048x512) origin, View.ld_unit_zero (S := S2048x512) origin]
      exact (weights_tile (φ₁ := .bf16) (φ₂ := .bf16) none _ _ _).trans (weights_part _ _ _ _ _ (left_at t) (right_at t)))
    fun i => (covered i).imp fun t h => ⟨flush0_2 t, (View.set_slice_whole (Pipeline.arrRef spec0 2) (win0_2.rect t)).symm ▸ h⟩

theorem run : θ_run defs (onTc (τ := τ) (main (F := Ideal))) ⟨m, fun _ => 0, ρ⟩ fun r => ∀ c : Dev nD,
      r.2.mem ((c : Thread nD τ).loc main_v0) = weights (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

theorem frame_plain : Cert.quiescent_PlainGradS5UpIdeal := fun m ρ _ =>
  (θ_run Cert.PlainGradS5UpIdeal.defs _ _).mono (fun r h => ⟨fun c => (h c).2, sem_eq_zero_of_no_sems (by decide) r.2⟩)
    (Cert.PlainGradS5UpIdeal.Value.run (F := Ideal) m ρ)

theorem algebraic : Cert.algebraic_ProductGradS5UpIdeal_PlainGradS5UpIdeal := by
  intro m ρ m' ρ' _ agree
  refine ⟨_, run m ρ, ?_⟩
  refine (θ_run Cert.PlainGradS5UpIdeal.defs _ _).mono (fun _ h c => ⟨(h c).1.trans ?_, (h c).2⟩) (Cert.PlainGradS5UpIdeal.Value.run (F := Ideal) m' ρ')
  rw [(agree c).1, (agree c).2]
  exact weights_host none _ _ _

end Cert.ProductGradS5UpIdeal.Whole

end
-- ==== Proof.ProductDOutS.lean ====
module

public import proofs.«01_k».proof.Defs
public import proofs.«01_k».proof.Proof.Product
public import proofs.«01_k».proof.Proof.Gen.ProductDOutS.Frame
public import proofs.«01_k».proof.Proof.Gen.ProductDOutSIdeal.Value
public import proofs.«01_k».proof.Proof.Gen.PlainDOutSIdeal.Run

/-!
# The gradient of a half's rows

Each of the eight grid points writes one tile of the product, and the tiles cover the result.
-/

@[expose] public section

noncomputable section

namespace Cert.ProductDOutSIdeal.Whole

open Cert.ProductDOutSIdeal Cert.ProductDOutSIdeal.Gen Cert.Step Cert.Product Idealize.ShloMosaic Idealize.ShloMosaic.TcCoe Idealize.ShloMosaic.ValueIdx Idealize.SL.Sem

variable (m : (ℓ : Loc nD τ sig) → Buf (Elt Ideal) ℓ) (ρ : Dev nD → PrngReg)

/-- Point `t` writes the tile in the row `t / 2` and the column `t % 2` of tiles. -/
theorem index_tile : ∀ t : Fin grid0.N, (win0_0.index t 0 = t / 2 ∧ win0_0.index t 1 = 0) ∧ (win0_1.index t 0 = t % 2 ∧ win0_1.index t 1 = 0)
    ∧ (win0_2.index t 0 = t / 2 ∧ win0_2.index t 1 = t % 2) := by
  decide +kernel

theorem left_at (t : Fin cfg0.N) (y : S512x512.Idx) (k : Fin 2048) :
    ((cfg0.win 0).blk t).view.emb (ix2 (y 0) k) = ix2 (((cfg0.win 2).blk t).view.emb y 0) k := by
  obtain ⟨⟨l0, l1⟩, _, w0, _⟩ := index_tile t
  exact eq_row (win0_0.rect_emb_val t _ 0) (win0_2.rect_emb_val t y 0) (l0.trans w0.symm) (win0_0.rect_emb_val t _ 1) l1

theorem right_at (t : Fin cfg0.N) (y : S512x512.Idx) (k : Fin 2048) :
    ((cfg0.win 1).blk t).view.emb (ix2 (y 1) k) = ix2 (((cfg0.win 2).blk t).view.emb y 1) k := by
  obtain ⟨_, ⟨r0, r1⟩, _, w1⟩ := index_tile t
  exact eq_row (win0_1.rect_emb_val t _ 0) (win0_2.rect_emb_val t y 1) (r0.trans w1.symm) (win0_1.rect_emb_val t _ 1) r1

theorem covered (i : S2048x1024.Idx) : ∃ t : Fin cfg0.N, i ∈ (win0_2.rect t).set := by
  have h0 : (i 0 : ℕ) < 2048 := (i 0).isLt
  have h1 : (i 1 : ℕ) < 1024 := (i 1).isLt
  have hN : grid0.N = 8 := N_0
  obtain ⟨w0, w1⟩ := (index_tile ⟨(i 0 : ℕ) / 512 * 2 + (i 1 : ℕ) / 512, by omega⟩).2.2
  refine ⟨_, mem_tile (p := 512) (q := 512) (by decide) (by decide) i _ _ (congrArg (· * 512) (w0.trans ?_)) (congrArg (· * 512) (w1.trans ?_))⟩
  · dsimp only; omega
  · dsimp only; omega

theorem final (d : Dev nD) : (dats m 0 d).arrAt 2 cfg0.N = inputs (m ((d : Thread nD τ).loc main_arg0)) (m ((d : Thread nD τ).loc main_arg1)) :=
  (dats m 0 d).arrAt_eq_of_cover 2 _
    (fun t _ => by
      rw [Value.flushed2]
      unfold out0_2
      rw [View.canon_unit_zero origin, View.ld_unit_zero (S := S512x2048) origin, View.ld_unit_zero (S := S512x2048) origin]
      exact (inputs_tile none _ _).trans (inputs_part _ _ _ _ _ (left_at t) (right_at t)))
    fun i => (covered i).imp fun t h => ⟨flush0_2 t, (View.set_slice_whole (Pipeline.arrRef spec0 2) (win0_2.rect t)).symm ▸ h⟩

theorem run : θ_run defs (onTc (τ := τ) (main (F := Ideal))) ⟨m, fun _ => 0, ρ⟩ fun r => ∀ c : Dev nD,
      r.2.mem ((c : Thread nD τ).loc main_v0) = inputs (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

theorem frame_plain : Cert.quiescent_PlainDOutSIdeal := fun m ρ _ =>
  (θ_run Cert.PlainDOutSIdeal.defs _ _).mono (fun r h => ⟨fun c => (h c).2, sem_eq_zero_of_no_sems (by decide) r.2⟩)
    (Cert.PlainDOutSIdeal.Value.run (F := Ideal) m ρ)

theorem algebraic : Cert.algebraic_ProductDOutSIdeal_PlainDOutSIdeal := by
  intro m ρ m' ρ' _ agree
  refine ⟨_, run m ρ, ?_⟩
  refine (θ_run Cert.PlainDOutSIdeal.defs _ _).mono (fun _ h c => ⟨(h c).1.trans ?_, (h c).2⟩) (Cert.PlainDOutSIdeal.Value.run (F := Ideal) m' ρ')
  rw [(agree c).1, (agree c).2]
  exact inputs_host none _ _ _

end Cert.ProductDOutSIdeal.Whole

end
-- ==== Proof.ProductProj.lean ====
module

public import proofs.«01_k».proof.Defs
public import proofs.«01_k».proof.Proof.Product
public import proofs.«01_k».proof.Proof.Gen.ProductProj.Frame
public import proofs.«01_k».proof.Proof.Gen.ProductProjIdeal.Value
public import proofs.«01_k».proof.Proof.Gen.PlainProjIdeal.Run

/-!
# The projection of the normalised rows

Each of the twenty-eight grid points writes one tile of the product, and the tiles cover the result.
-/

@[expose] public section

noncomputable section

namespace Cert.ProductProjIdeal.Whole

open Cert.ProductProjIdeal Cert.ProductProjIdeal.Gen Cert.Step Cert.Product Idealize.ShloMosaic Idealize.ShloMosaic.TcCoe Idealize.ShloMosaic.ValueIdx Idealize.SL.Sem

variable (m : (ℓ : Loc nD τ sig) → Buf (Elt Ideal) ℓ) (ρ : Dev nD → PrngReg)

/-- Point `t` writes the tile in the row `t / 7` and the column `t % 7` of tiles. -/
theorem index_tile : ∀ t : Fin grid0.N, (win0_0.index t 0 = t / 7 ∧ win0_0.index t 1 = 0) ∧ (win0_1.index t 0 = 0 ∧ win0_1.index t 1 = t % 7)
    ∧ (win0_2.index t 0 = t / 7 ∧ win0_2.index t 1 = t % 7) := by
  decide +kernel

theorem left_at (t : Fin cfg0.N) (y : S512x1536.Idx) (k : Fin 2048) :
    ((cfg0.win 0).blk t).view.emb (ix2 (y 0) k) = ix2 (((cfg0.win 2).blk t).view.emb y 0) k := by
  obtain ⟨⟨l0, l1⟩, _, w0, _⟩ := index_tile t
  exact eq_row (win0_0.rect_emb_val t _ 0) (win0_2.rect_emb_val t y 0) (l0.trans w0.symm) (win0_0.rect_emb_val t _ 1) l1

theorem right_at (t : Fin cfg0.N) (y : S512x1536.Idx) (k : Fin 2048) :
    ((cfg0.win 1).blk t).view.emb (ix2 k (y 1)) = ix2 k (((cfg0.win 2).blk t).view.emb y 1) := by
  obtain ⟨_, ⟨r0, r1⟩, _, w1⟩ := index_tile t
  exact eq_column (win0_1.rect_emb_val t _ 0) r0 (win0_1.rect_emb_val t _ 1) (win0_2.rect_emb_val t y 1) (r1.trans w1.symm)

theorem covered (i : S2048x10752.Idx) : ∃ t : Fin cfg0.N, i ∈ (win0_2.rect t).set := by
  have h0 : (i 0 : ℕ) < 2048 := (i 0).isLt
  have h1 : (i 1 : ℕ) < 10752 := (i 1).isLt
  have hN : grid0.N = 28 := N_0
  obtain ⟨w0, w1⟩ := (index_tile ⟨(i 0 : ℕ) / 512 * 7 + (i 1 : ℕ) / 1536, by omega⟩).2.2
  refine ⟨_, mem_tile (p := 512) (q := 1536) (by decide) (by decide) i _ _ (congrArg (· * 512) (w0.trans ?_)) (congrArg (· * 1536) (w1.trans ?_))⟩
  · dsimp only; omega
  · dsimp only; omega

theorem final (d : Dev nD) : (dats m 0 d).arrAt 2 cfg0.N = ahead (m ((d : Thread nD τ).loc main_arg0)) (m ((d : Thread nD τ).loc main_arg1)) :=
  (dats m 0 d).arrAt_eq_of_cover 2 _
    (fun t _ => by
      rw [Value.flushed2]
      unfold out0_2
      rw [View.canon_unit_zero origin, View.ld_unit_zero (S := S512x2048) origin, View.ld_unit_zero (S := S2048x1536) origin]
      exact (ahead_tile none _ _).trans (ahead_part _ _ _ _ _ (left_at t) (right_at t)))
    fun i => (covered i).imp fun t h => ⟨flush0_2 t, (View.set_slice_whole (Pipeline.arrRef spec0 2) (win0_2.rect t)).symm ▸ h⟩

theorem run : θ_run defs (onTc (τ := τ) (main (F := Ideal))) ⟨m, fun _ => 0, ρ⟩ fun r => ∀ c : Dev nD,
      r.2.mem ((c : Thread nD τ).loc main_v0) = ahead (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

theorem frame_plain : Cert.quiescent_PlainProjIdeal := fun m ρ _ =>
  (θ_run Cert.PlainProjIdeal.defs _ _).mono (fun r h => ⟨fun c => (h c).2, sem_eq_zero_of_no_sems (by decide) r.2⟩)
    (Cert.PlainProjIdeal.Value.run (F := Ideal) m ρ)

theorem algebraic : Cert.algebraic_ProductProjIdeal_PlainProjIdeal := by
  intro m ρ m' ρ' _ agree
  refine ⟨_, run m ρ, ?_⟩
  refine (θ_run Cert.PlainProjIdeal.defs _ _).mono (fun _ h c => ⟨(h c).1.trans ?_, (h c).2⟩) (Cert.PlainProjIdeal.Value.run (F := Ideal) m' ρ')
  rw [(agree c).1, (agree c).2]
  exact ahead_host none _ _

end Cert.ProductProjIdeal.Whole

end
-- ==== Proof.ProductGradWIn.lean ====
module

public import proofs.«01_k».proof.Defs
public import proofs.«01_k».proof.Proof.Product
public import proofs.«01_k».proof.Proof.Gen.ProductGradWIn.Frame
public import proofs.«01_k».proof.Proof.Gen.ProductGradWInIdeal.Value
public import proofs.«01_k».proof.Proof.Gen.PlainGradWInIdeal.Run

/-!
# The gradient of w_in

Each of the twenty-eight grid points writes one tile of the product, and the tiles cover the result.
-/

@[expose] public section

noncomputable section

namespace Cert.ProductGradWInIdeal.Whole

open Cert.ProductGradWInIdeal Cert.ProductGradWInIdeal.Gen Cert.Step Cert.Product Idealize.ShloMosaic Idealize.ShloMosaic.TcCoe Idealize.ShloMosaic.ValueIdx Idealize.SL.Sem

variable (m : (ℓ : Loc nD τ sig) → Buf (Elt Ideal) ℓ) (ρ : Dev nD → PrngReg)

/-- Point `t` writes the tile in the row `t / 7` and the column `t % 7` of tiles. -/
theorem index_tile : ∀ t : Fin grid0.N, (win0_0.index t 0 = 0 ∧ win0_0.index t 1 = t / 7) ∧ (win0_1.index t 0 = 0 ∧ win0_1.index t 1 = t % 7)
    ∧ (win0_2.index t 0 = t / 7 ∧ win0_2.index t 1 = t % 7) := by
  decide +kernel

theorem left_at (t : Fin cfg0.N) (y : S512x1536.Idx) (k : Fin 2048) :
    ((cfg0.win 0).blk t).view.emb (ix2 k (y 0)) = ix2 k (((cfg0.win 2).blk t).view.emb y 0) := by
  obtain ⟨⟨l0, l1⟩, _, w0, _⟩ := index_tile t
  exact eq_column (win0_0.rect_emb_val t _ 0) l0 (win0_0.rect_emb_val t _ 1) (win0_2.rect_emb_val t y 0) (l1.trans w0.symm)

theorem right_at (t : Fin cfg0.N) (y : S512x1536.Idx) (k : Fin 2048) :
    ((cfg0.win 1).blk t).view.emb (ix2 k (y 1)) = ix2 k (((cfg0.win 2).blk t).view.emb y 1) := by
  obtain ⟨_, ⟨r0, r1⟩, _, w1⟩ := index_tile t
  exact eq_column (win0_1.rect_emb_val t _ 0) r0 (win0_1.rect_emb_val t _ 1) (win0_2.rect_emb_val t y 1) (r1.trans w1.symm)

theorem covered (i : S2048x10752.Idx) : ∃ t : Fin cfg0.N, i ∈ (win0_2.rect t).set := by
  have h0 : (i 0 : ℕ) < 2048 := (i 0).isLt
  have h1 : (i 1 : ℕ) < 10752 := (i 1).isLt
  have hN : grid0.N = 28 := N_0
  obtain ⟨w0, w1⟩ := (index_tile ⟨(i 0 : ℕ) / 512 * 7 + (i 1 : ℕ) / 1536, by omega⟩).2.2
  refine ⟨_, mem_tile (p := 512) (q := 1536) (by decide) (by decide) i _ _ (congrArg (· * 512) (w0.trans ?_)) (congrArg (· * 1536) (w1.trans ?_))⟩
  · dsimp only; omega
  · dsimp only; omega

theorem final (d : Dev nD) : (dats m 0 d).arrAt 2 cfg0.N = weights (m ((d : Thread nD τ).loc main_arg0)) (m ((d : Thread nD τ).loc main_arg1)) :=
  (dats m 0 d).arrAt_eq_of_cover 2 _
    (fun t _ => by
      rw [Value.flushed2]
      unfold out0_2
      rw [View.canon_unit_zero origin, View.ld_unit_zero (S := S2048x512) origin, View.ld_unit_zero (S := S2048x1536) origin]
      exact (weights_tile (φ₁ := .bf16) (φ₂ := .bf16) none _ _ _).trans (weights_part _ _ _ _ _ (left_at t) (right_at t)))
    fun i => (covered i).imp fun t h => ⟨flush0_2 t, (View.set_slice_whole (Pipeline.arrRef spec0 2) (win0_2.rect t)).symm ▸ h⟩

theorem run : θ_run defs (onTc (τ := τ) (main (F := Ideal))) ⟨m, fun _ => 0, ρ⟩ fun r => ∀ c : Dev nD,
      r.2.mem ((c : Thread nD τ).loc main_v0) = weights (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

theorem frame_plain : Cert.quiescent_PlainGradWInIdeal := fun m ρ _ =>
  (θ_run Cert.PlainGradWInIdeal.defs _ _).mono (fun r h => ⟨fun c => (h c).2, sem_eq_zero_of_no_sems (by decide) r.2⟩)
    (Cert.PlainGradWInIdeal.Value.run (F := Ideal) m ρ)

theorem algebraic : Cert.algebraic_ProductGradWInIdeal_PlainGradWInIdeal := by
  intro m ρ m' ρ' _ agree
  refine ⟨_, run m ρ, ?_⟩
  refine (θ_run Cert.PlainGradWInIdeal.defs _ _).mono (fun _ h c => ⟨(h c).1.trans ?_, (h c).2⟩) (Cert.PlainGradWInIdeal.Value.run (F := Ideal) m' ρ')
  rw [(agree c).1, (agree c).2]
  exact weights_host none _ _ _

end Cert.ProductGradWInIdeal.Whole

end
-- ==== Proof.ProductDH.lean ====
module

public import proofs.«01_k».proof.Defs
public import proofs.«01_k».proof.Proof.Product
public import proofs.«01_k».proof.Proof.Gen.ProductDH.Frame
public import proofs.«01_k».proof.Proof.Gen.ProductDHIdeal.Value
public import proofs.«01_k».proof.Proof.Gen.PlainDHIdeal.Run
public import Idealize.ShloMosaic.Lib.Tactic

/-!
# The gradient of the normalised rows

The long contraction is cut into seven parts. Seven points in a row add up one tile of the product in scratch memory, and the last of them
writes it out.
-/

@[expose] public section

noncomputable section

namespace Cert.ProductDHIdeal.Whole

open Cert.ProductDHIdeal Cert.ProductDHIdeal.Gen Cert.Step Cert.Product Idealize.ShloMosaic Idealize.ShloMosaic.TcCoe Idealize.ShloMosaic.ValueIdx Idealize.SL.Sem

/-! ## What a point leaves -/

section Body

variable {F : FTy → Type} [FloatOps F]
variable (d : Dev nD) (i : grid0.Coords)
  (b0 : Memref sig .tc .vmem S512x1536 .bf16) (h0 : b0.IsWhole) (b1 : Memref sig .tc .vmem S512x1536 .bf16) (h1 : b1.IsWhole)
  (b2 : Memref sig .tc .vmem S512x512 .f32) (h2 : b2.IsWhole) (b3 : Memref sig .tc .vmem S512x512 .f32) (h3 : b3.IsWhole)
  (x y : Vec F S512x1536 .bf16) (s : Vec F S512x512 .f32)

theorem first (hc0 : cond0_0 i) (hc1 : ¬cond0_1 i) (hc2 : ¬cond0_2 i) : sout0_A_0 d i b0 h0 b1 h1 b2 h2 b3 h3 hc0 hc1 hc2 x y = k0_pay1 x y := by
  unfold sout0_A_0
  rw [View.read_writes_eq_canon _ _ _ (scover0_A_0 d i b0 h0 b1 h1 b2 h2 b3 h3 hc0 hc1 hc2 x y)]
  unfold kernelRun0_A
  dsimp only
  sl_unfold_words
  rw [View.canon_unit_zero origin]
  unfold k0_pay2
  simp only [View.readAt_eq_ld, h0.read_unread, h1.read_unread, View.ld_unit_zero (S := S512x1536) origin, shapeCast_self]

theorem later (hc0 : ¬cond0_0 i) (hc1 : cond0_1 i) (hc2 : ¬cond0_2 i) : sout0_B_0 d i b0 h0 b1 h1 b2 h2 b3 h3 hc0 hc1 hc2 x y s = addf s (k0_pay1 x y) := by
  unfold sout0_B_0
  rw [View.read_writes_eq_canon _ _ _ (scover0_B_0 d i b0 h0 b1 h1 b2 h2 b3 h3 hc0 hc1 hc2 x y s)]
  unfold kernelRun0_B
  dsimp only
  sl_unfold_words
  rw [View.canon_unit_zero origin]
  unfold k0_pay3
  simp only [View.readAt_eq_ld, h0.read_unread, h1.read_unread, h3.read_unread, View.ld_unit_zero (S := S512x1536) origin,
    View.ld_unit_zero (S := S512x512) origin, shapeCast_self]

theorem last_kept (hc0 : ¬cond0_0 i) (hc1 : cond0_1 i) (hc2 : cond0_2 i) : sout0_C_0 d i b0 h0 b1 h1 b2 h2 b3 h3 hc0 hc1 hc2 x y s = addf s (k0_pay1 x y) := by
  unfold sout0_C_0
  rw [View.read_writes_eq_canon _ _ _ (scover0_C_0 d i b0 h0 b1 h1 b2 h2 b3 h3 hc0 hc1 hc2 x y s)]
  unfold kernelRun0_C
  dsimp only
  sl_unfold_words
  rw [View.canon_unit_zero origin]
  unfold k0_pay3
  simp only [View.readAt_eq_ld, h0.read_unread, h1.read_unread, h3.read_unread, View.ld_unit_zero (S := S512x1536) origin,
    View.ld_unit_zero (S := S512x512) origin, shapeCast_self]

theorem last_written (hc0 : ¬cond0_0 i) (hc1 : cond0_1 i) (hc2 : cond0_2 i) : out0_C_2 d i b0 h0 b1 h1 b2 h2 b3 h3 hc0 hc1 hc2 x y s = addf s (k0_pay1 x y) := by
  unfold out0_C_2
  rw [View.read_writes_eq_canon _ _ _ (cover0_C_2 d i b0 h0 b1 h1 b2 h2 b3 h3 hc0 hc1 hc2 x y s)]
  unfold kernelRun0_C
  dsimp only
  sl_unfold_words
  rw [View.canon_unit_zero origin, View.readCov_unit_zero (S := S512x512) _ origin]
  unfold k0_pay3
  simp only [View.readAt_eq_ld, h0.read_unread, h1.read_unread, h3.read_unread, View.ld_unit_zero (S := S512x1536) origin,
    View.ld_unit_zero (S := S512x512) origin, shapeCast_self]

end Body

theorem part_tile (x y : FVec Ideal S512x1536 .bf16) : k0_pay1 (F := Ideal) x y = inputs x y := inputs_tile none x y

/-! ## Where the tiles sit -/

/-- The seven points from `7 * u` on hold the tile in the row `u / 4` and the column `u % 4` of tiles. -/
theorem index_tile : ∀ t : Fin grid0.N, (win0_0.index t 0 = t / 28 ∧ win0_0.index t 1 = t % 7) ∧ (win0_1.index t 0 = t / 7 % 4 ∧ win0_1.index t 1 = t % 7)
    ∧ (win0_2.index t 0 = t / 28 ∧ win0_2.index t 1 = t / 7 % 4) := by
  decide +kernel

section Tiles

variable (t : Fin cfg0.N) (y : S512x512.Idx) (k : Fin 1536)

/-- Term `k` of part `t % 7` of the contraction. -/
def term (t : Fin cfg0.N) (k : Fin 1536) : Fin 10752 := ⟨(t : ℕ) % 7 * 1536 + k, by omega⟩

theorem left_at : ((cfg0.win 0).blk t).view.emb (ix2 (y 0) k) = ix2 (((cfg0.win 2).blk t).view.emb y 0) (term t k) := by
  obtain ⟨⟨l0, l1⟩, _, w0, _⟩ := index_tile t
  exact eq_at _ _ _ ((win0_0.rect_emb_val t _ 0).trans ((by rw [l0, w0] : win0_0.index t 0 * 512 + (y 0 : ℕ) = win0_2.index t 0 * 512 + y 0).trans (win0_2.rect_emb_val t y 0).symm))
    ((win0_0.rect_emb_val t _ 1).trans (congrArg (· * 1536 + (k : ℕ)) l1))

theorem right_at : ((cfg0.win 1).blk t).view.emb (ix2 (y 1) k) = ix2 (((cfg0.win 2).blk t).view.emb y 1) (term t k) := by
  obtain ⟨_, ⟨r0, r1⟩, _, w1⟩ := index_tile t
  exact eq_at _ _ _ ((win0_1.rect_emb_val t _ 0).trans ((by rw [r0, w1] : win0_1.index t 0 * 512 + (y 1 : ℕ) = win0_2.index t 1 * 512 + y 1).trans (win0_2.rect_emb_val t y 1).symm))
    ((win0_1.rect_emb_val t _ 1).trans (congrArg (· * 1536 + (k : ℕ)) r1))

/-- Points that hold one tile hold it in one place. -/
theorem one_place (u : Fin cfg0.N) (h : (t : ℕ) / 7 = u / 7) : ((cfg0.win 2).blk t).view.emb y = ((cfg0.win 2).blk u).view.emb y := by
  obtain ⟨_, _, w0, w1⟩ := index_tile t
  obtain ⟨_, _, v0, v1⟩ := index_tile u
  funext a
  refine Fin.ext ((win0_2.rect_emb_val t y a).trans (Eq.trans ?_ (win0_2.rect_emb_val u y a).symm))
  fin_cases a
  · exact congrArg (· * 512 + (y 0 : ℕ)) (w0.trans (Eq.trans (by omega) v0.symm))
  · exact congrArg (· * 512 + (y 1 : ℕ)) (w1.trans (Eq.trans (by rw [h]) v1.symm))

end Tiles

theorem covered (i : S2048x2048.Idx) : ∃ t : Fin cfg0.N, (t : ℕ) % 7 = 6 ∧ i ∈ (win0_2.rect t).set := by
  have h0 : (i 0 : ℕ) < 2048 := (i 0).isLt
  have h1 : (i 1 : ℕ) < 2048 := (i 1).isLt
  have hN : grid0.N = 112 := N_0
  obtain ⟨w0, w1⟩ := (index_tile ⟨((i 0 : ℕ) / 512 * 4 + (i 1 : ℕ) / 512) * 7 + 6, by omega⟩).2.2
  refine ⟨_, ?_, mem_tile (p := 512) (q := 512) (by decide) (by decide) i _ _ (congrArg (· * 512) (w0.trans ?_)) (congrArg (· * 512) (w1.trans ?_))⟩
  all_goals dsimp only; omega

/-! ## The results -/

variable (m : (ℓ : Loc nD τ sig) → Buf (Elt Ideal) ℓ) (ρ : Dev nD → PrngReg) (d : Dev nD)

abbrev g : FVec Ideal S2048x10752 .bf16 := m ((d : Thread nD τ).loc main_arg0)
abbrev b : FVec Ideal S2048x10752 .bf16 := m ((d : Thread nD τ).loc main_arg1)

/-- Term `j` of the product at `i`. -/
def piece (i : S2048x2048.Idx) (j : ℕ) : EReal :=
  if h : j < 10752 then g m d (ix2 (i 0) ⟨j, h⟩) * b m d (ix2 (i 1) ⟨j, h⟩) else 0

/-- What a point adds. -/
theorem point (t : Fin cfg0.N) (y : S512x512.Idx) :
    inputs (M := 512) (K := 1536) (N := 512) (iblk m d 0 t) (iblk m d 1 t) y = ∑ k ∈ Finset.range 1536, piece m d (((cfg0.win 2).blk t).view.emb y) ((t : ℕ) % 7 * 1536 + k) := by
  rw [Finset.sum_range]
  refine Finset.sum_congr rfl fun k _ => Eq.trans ?_ (dif_pos (term t k).isLt).symm
  exact congrArg₂ (· * ·) (congrArg (g m d) (left_at t y k)) (congrArg (b m d) (right_at t y k))

/-- What a later point leaves over what the point before it left. -/
theorem grown (n : ℕ) (h : n + 1 < cfg0.N) (hn : (n + 1) % 7 ≠ 0) (s : FVec Ideal S512x512 .f32)
    (hs : s = fun y => ∑ j ∈ Finset.range ((n % 7 + 1) * 1536), piece m d (((cfg0.win 2).blk ⟨n, Nat.lt_of_succ_lt h⟩).view.emb y) j) :
    addf s (inputs (M := 512) (K := 1536) (N := 512) (iblk m d 0 ⟨n + 1, h⟩) (iblk m d 1 ⟨n + 1, h⟩))
      = fun y => ∑ j ∈ Finset.range (((n + 1) % 7 + 1) * 1536), piece m d (((cfg0.win 2).blk ⟨n + 1, h⟩).view.emb y) j := by
  funext y
  refine (congrArg₂ (· + ·) (congrFun hs y) (point m d ⟨n + 1, h⟩ y)).trans ?_
  dsimp only
  rw [one_place ⟨n, Nat.lt_of_succ_lt h⟩ y ⟨n + 1, h⟩ (by dsimp only; omega), (by omega : n % 7 + 1 = (n + 1) % 7), Nat.succ_mul]
  exact (Finset.sum_range_add _ _ _).symm

/-- What the scratch holds after a point. -/
theorem held : ∀ (n : ℕ) (h : n < cfg0.N),
    (outsAt0 m d n h).2 = fun y => ∑ j ∈ Finset.range ((n % 7 + 1) * 1536), piece m d (((cfg0.win 2).blk ⟨n, h⟩).view.emb y) j := by
  have reset : ∀ (n : ℕ) (h : n < cfg0.N), n % 7 = 0 →
      (outsAt0 m d n h).2 = fun y => ∑ j ∈ Finset.range ((n % 7 + 1) * 1536), piece m d (((cfg0.win 2).blk ⟨n, h⟩).view.emb y) j := fun n h hn => by
    rw [outsAt0_A m d ⟨n, h⟩ hn (by dsimp only; omega) (by dsimp only; omega)]
    dsimp only
    rw [first, part_tile (iblk m d 0 _) (iblk m d 1 _)]
    funext y
    rw [point]
    dsimp only
    rw [hn]
    simp only [Nat.zero_mul, Nat.zero_add, Nat.one_mul]
  intro n
  induction n with
  | zero => exact fun h => reset 0 h rfl
  | succ n ih =>
    intro h
    by_cases hn : (n + 1) % 7 = 0
    · exact reset _ h hn
    · by_cases h6 : (n + 1) % 7 = 6
      · rw [outsAt0_C m d ⟨n + 1, h⟩ hn (by dsimp only; omega) h6]
        dsimp only
        rw [last_kept, part_tile (iblk m d 0 _) (iblk m d 1 _)]
        exact grown m d n h hn _ (ih _)
      · rw [outsAt0_B m d ⟨n + 1, h⟩ hn (by dsimp only; omega) h6]
        dsimp only
        rw [later, part_tile (iblk m d 0 _) (iblk m d 1 _)]
        exact grown m d n h hn _ (ih _)

/-- What the last point of a tile writes out. -/
theorem written (n : ℕ) (h : n + 1 < cfg0.N) (h6 : (n + 1) % 7 = 6) :
    (outsAt0 m d (n + 1) h).1 = fun y => inputs (g m d) (b m d) (((cfg0.win 2).blk ⟨n + 1, h⟩).view.emb y) := by
  rw [outsAt0_C m d ⟨n + 1, h⟩ (by dsimp only; omega) (by dsimp only; omega) h6]
  dsimp only
  rw [last_written, part_tile (iblk m d 0 _) (iblk m d 1 _)]
  refine (grown m d n h (by omega) _ (held m d n _)).trans (funext fun y => ?_)
  rw [h6, Finset.sum_range]
  exact Finset.sum_congr rfl fun k _ => dif_pos k.isLt

theorem final : (dats m 0 d).arrAt 2 cfg0.N = inputs (g m d) (b m d) :=
  (dats m 0 d).arrAt_eq_of_cover 2 _
    (fun t ht => by
      obtain ⟨n, h⟩ := t
      have h6 : n % 7 = 6 := (flush0_2 ⟨n, h⟩).mp ht
      cases n with
      | zero => exact absurd h6 (by decide)
      | succ n =>
        rw [Value.flushed2, show (outsAt0 m d (n + 1) h).1 = _ from written m d n h h6]
        generalize inputs (g m d) (b m d) = r
        rfl)
    fun i => by
      obtain ⟨t, h6, h⟩ := covered i
      exact ⟨t, (flush0_2 t).mpr h6, (View.set_slice_whole (Pipeline.arrRef spec0 2) (win0_2.rect t)).symm ▸ h⟩

theorem run : θ_run defs (onTc (τ := τ) (main (F := Ideal))) ⟨m, fun _ => 0, ρ⟩ fun r => ∀ c : Dev nD,
      r.2.mem ((c : Thread nD τ).loc main_v0) = inputs (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

theorem frame_plain : Cert.quiescent_PlainDHIdeal := fun m ρ _ =>
  (θ_run Cert.PlainDHIdeal.defs _ _).mono (fun r h => ⟨fun c => (h c).2, sem_eq_zero_of_no_sems (by decide) r.2⟩)
    (Cert.PlainDHIdeal.Value.run (F := Ideal) m ρ)

theorem algebraic : Cert.algebraic_ProductDHIdeal_PlainDHIdeal := by
  intro m ρ m' ρ' _ agree
  refine ⟨_, run m ρ, ?_⟩
  refine (θ_run Cert.PlainDHIdeal.defs _ _).mono (fun _ h c => ⟨(h c).1.trans ?_, (h c).2⟩) (Cert.PlainDHIdeal.Value.run (F := Ideal) m' ρ')
  rw [(agree c).1, (agree c).2]
  exact inputs_host none _ _ _

end Cert.ProductDHIdeal.Whole

end
-- ==== Proof.Merge.lean ====
module

public import proofs.«01_k».proof.Proof.Product
public import Idealize.ShloMosaic.Lib.IdealHost
public import Idealize.ShloMosaic.Lib.Pipeline.Value

/-!
# The gates of the merge

The projection holds two gates beside each other. A gate is the logistic function of an element of it. The kernel differentiates
the quotient that defines the function; the reference has the derivative in terms of the function's value. Over the extended
reals the two agree, at the infinities too.
-/

@[expose] public section

noncomputable section

namespace Cert.Merge

open Cert.Step Cert.Product Idealize.ShloMosaic Idealize.ShloMosaic.ValueIdx

abbrev one : EReal := Ideal.ofBits .f32 0x3F800000#32
abbrev zero : EReal := Ideal.ofBits .f32 0x00000000#32

theorem one_eq : one = 1 := Ideal.ofBits_one_f32
theorem zero_eq : zero = 0 := Ideal.ofBits_zero_f32

/-- The kernel's gate. -/
theorem gate_kernel (x : EReal) : Ideal.div one (one + Ideal.exp (zero - x)) = Ideal.logistic x := by
  rw [one_eq, zero_eq, zero_sub]
  rfl

/-- The host's gate. -/
theorem gate_host (x : EReal) : Ideal.div one (one + Ideal.exp (-x)) = Ideal.logistic x := by
  rw [one_eq]
  rfl

/-- The derivative of the quotient is the one in terms of its value. -/
theorem slope (x : EReal) :
    Ideal.div 1 ((1 + Ideal.exp (-x)) * (1 + Ideal.exp (-x))) * Ideal.exp (-x) = Ideal.logistic x * (1 - Ideal.logistic x) := by
  unfold Ideal.logistic
  induction x using EReal.rec with
  | bot =>
    have h : (1 : EReal) + ⊤ = ⊤ := rfl
    simp [Ideal.div, h]
  | top =>
    have h : (1 : EReal) - 1 = 0 := EReal.sub_self (EReal.coe_ne_top 1) (EReal.coe_ne_bot 1)
    simp [Ideal.div, h]
  | coe r =>
    have h : (1 + Real.exp (-r)) ≠ 0 := by positivity
    rw [← EReal.coe_neg, Ideal.exp_coe, ← EReal.coe_one, ← EReal.coe_add, ← EReal.coe_mul, Ideal.div_coe (mul_ne_zero h h), Ideal.div_coe h,
      ← EReal.coe_mul, ← EReal.coe_mul, ← EReal.coe_mul, ← EReal.coe_sub, ← EReal.coe_mul]
    congr 1
    field_simp
    ring

/-- The kernel's gradient of a gate's argument. -/
theorem slope_kernel (a x : EReal) :
    zero - (zero - a * Ideal.div one ((one + Ideal.exp (zero - x)) * (one + Ideal.exp (zero - x))) * one) * Ideal.exp (zero - x)
      = a * (Ideal.logistic x * (1 - Ideal.logistic x)) := by
  rw [one_eq, zero_eq]
  simp only [zero_sub, mul_one, EReal.neg_mul, neg_neg]
  rw [mul_assoc, slope]

/-- The host's gradient of a gate's argument. -/
theorem slope_host (a x : EReal) :
    a * (Ideal.div one (one + Ideal.exp (-x)) * (one - Ideal.div one (one + Ideal.exp (-x)))) = a * (Ideal.logistic x * (1 - Ideal.logistic x)) := by
  rw [gate_host, one_eq]

/-! ## Where the gates are in the projection -/

variable {α : Type}

/-- The element of the projection beside the element `i`, in the columns from `o` on. -/
def beside (o : ℕ) (ho : o + 2048 ≤ 10752) (i : (Sheet 2048 2048).Idx) : (Sheet 2048 10752).Idx :=
  ix2 (i 0) ⟨o + (i 1 : ℕ), by have : (i 1 : ℕ) < 2048 := (i 1).isLt; omega⟩

theorem slice_host (p : (Sheet 2048 10752).Idx → α) (o : ℕ) (ho : o + 2048 ≤ 10752) (h : (Sheet 2048 10752).Slices ![0, o] (Sheet 2048 2048))
    (i : (Sheet 2048 2048).Idx) : extractStridedSlice (Sheet 2048 2048) ![0, o] p h i = p (beside o ho i) :=
  extractStridedSlice_apply ![0, o] p h i _ fun a => by
    fin_cases a
    · exact (Nat.zero_add _).symm
    · rfl

end Cert.Merge

end
-- ==== Proof.MergeBwd.lean ====
module

public import proofs.«01_k».proof.Defs
public import proofs.«01_k».proof.Proof.Merge
public import proofs.«01_k».proof.Proof.Gen.MergeBwd.Frame
public import proofs.«01_k».proof.Proof.Gen.MergeBwdIdeal.Value
public import proofs.«01_k».proof.Proof.Gen.MergePulledBackIdeal.Run

/-!
# The derivative of the merge

Every grid point writes its tile of the four gradients: of the two gates' arguments and of the two branches. The tiles cover
every result.
-/

@[expose] public section

noncomputable section

namespace Cert.MergeBwdIdeal.Whole

open Cert.MergeBwdIdeal Cert.MergeBwdIdeal.Gen Cert.Step Cert.Merge Cert.Product Idealize.ShloMosaic Idealize.ShloMosaic.TcCoe Idealize.ShloMosaic.ValueIdx Idealize.SL.Sem

/-! ## The gradients -/

section Gradients

variable {S : Shape} (x a g : S.Idx → EReal)

/-- The gradient of a gate's argument, the gate's branch being `a`. -/
def turned (i : S.Idx) : EReal := g i * a i * (Ideal.logistic (x i) * (1 - Ideal.logistic (x i)))

/-- The gradient of a branch. -/
def passed (i : S.Idx) : EReal := Ideal.logistic (x i) * g i

end Gradients

section Tile

variable (x a g : FVec Ideal S256x512 .f32) (i : S256x512.Idx)

theorem turned_first : k0_pay1 (F := Ideal) a (k0_pay5 x) (k0_pay8 x) (k0_pay11 g) i = turned x a g i := by
  unfold k0_pay11
  rw [shapeCast_self]
  exact slope_kernel _ _

theorem turned_second : k0_pay2 (F := Ideal) (k0_pay14 x a g) i = turned x a g i := by
  unfold k0_pay14 k0_pay12
  rw [shapeCast_self]
  exact slope_kernel _ _

theorem passed_first : k0_pay3 (F := Ideal) (k0_pay7 x) (k0_pay11 g) i = passed x g i := by
  unfold k0_pay11
  rw [shapeCast_self]
  exact congrArg (· * g i) (gate_kernel _)

theorem passed_second : k0_pay4 (F := Ideal) (k0_pay13 x g) i = passed x g i := by
  unfold k0_pay13 k0_pay12
  rw [shapeCast_self]
  exact congrArg (· * g i) (gate_kernel _)

end Tile

/-! ## Where the tiles sit -/

/-- Point `t` is at the row `t / 4` and the column `t % 4` of tiles; the gates are 13 and 17 tiles further in the projection. -/
theorem index_gates : ∀ t : Fin grid0.N, (win0_0.index t 0 = t / 4 ∧ win0_0.index t 1 = 13 + t % 4) ∧ (win0_1.index t 0 = t / 4 ∧ win0_1.index t 1 = 17 + t % 4) := by
  decide +kernel

theorem index_tile : ∀ t : Fin grid0.N, (win0_2.index t 0 = t / 4 ∧ win0_2.index t 1 = t % 4) ∧ (win0_3.index t 0 = t / 4 ∧ win0_3.index t 1 = t % 4)
    ∧ (win0_4.index t 0 = t / 4 ∧ win0_4.index t 1 = t % 4) ∧ (win0_5.index t 0 = t / 4 ∧ win0_5.index t 1 = t % 4)
    ∧ (win0_6.index t 0 = t / 4 ∧ win0_6.index t 1 = t % 4) ∧ (win0_7.index t 0 = t / 4 ∧ win0_7.index t 1 = t % 4)
    ∧ (win0_8.index t 0 = t / 4 ∧ win0_8.index t 1 = t % 4) := by
  decide +kernel

/-- Element `y` of tile `t`. -/
def spot (t : Fin cfg0.N) (y : S256x512.Idx) : S2048x2048.Idx :=
  ix2 ⟨t / 4 * 256 + y 0, by have : (t : ℕ) < 32 := lt_of_lt_of_eq t.isLt N_0; have : (y 0 : ℕ) < 256 := (y 0).isLt; omega⟩
    ⟨t % 4 * 512 + y 1, by have : (y 1 : ℕ) < 512 := (y 1).isLt; omega⟩

/-- The point whose tile holds an element. -/
def point (i : S2048x2048.Idx) : Fin cfg0.N :=
  ⟨(i 0 : ℕ) / 256 * 4 + (i 1 : ℕ) / 512, by have h0 : (i 0 : ℕ) < 2048 := (i 0).isLt; have h1 : (i 1 : ℕ) < 2048 := (i 1).isLt; have : grid0.N = 32 := N_0; show _ < grid0.N; omega⟩

theorem point_row (i : S2048x2048.Idx) : (point i : ℕ) / 4 = (i 0 : ℕ) / 256 := by
  have h1 : (i 1 : ℕ) < 2048 := (i 1).isLt
  unfold point; dsimp only; omega

theorem point_column (i : S2048x2048.Idx) : (point i : ℕ) % 4 = (i 1 : ℕ) / 512 := by
  have h1 : (i 1 : ℕ) < 2048 := (i 1).isLt
  unfold point; dsimp only; omega

/-- A tile at the point's place holds the element. -/
theorem mem_point (i : S2048x2048.Idx) (off : Fin 2 → ℕ) (inb) {r c : ℕ} (hr : off 0 = r * 256) (hc : off 1 = c * 512)
    (h : r = point i / 4 ∧ c = point i % 4) : i ∈ (Rect.unit (s := S2048x2048) off ![256, 512] inb).set :=
  mem_tile (p := 256) (q := 512) (by decide) (by decide) i off inb (by rw [hr, h.1, point_row]) (by rw [hc, h.2, point_column])

variable (t : Fin cfg0.N) (y : S256x512.Idx)

/-- An element of a block at the point's place. -/
theorem eq_spot {i : S2048x2048.Idx} {r c : ℕ} (h0 : (i 0 : ℕ) = r * 256 + y 0) (h1 : (i 1 : ℕ) = c * 512 + y 1) (h : r = t / 4 ∧ c = t % 4) : i = spot t y :=
  eq_at i _ _ (by rw [h0, h.1]) (by rw [h1, h.2])

theorem gate_first : ((cfg0.win 0).blk t).view.emb y = beside 6656 (by decide) (spot t y) :=
  eq_at _ _ _ ((win0_0.rect_emb_val t y 0).trans (by rw [(index_gates t).1.1]; rfl))
    ((win0_0.rect_emb_val t y 1).trans (by rw [(index_gates t).1.2]; show (13 + t % 4) * 512 + (y 1 : ℕ) = 6656 + (t % 4 * 512 + y 1); omega))

theorem gate_second : ((cfg0.win 1).blk t).view.emb y = beside 8704 (by decide) (spot t y) :=
  eq_at _ _ _ ((win0_1.rect_emb_val t y 0).trans (by rw [(index_gates t).2.1]; rfl))
    ((win0_1.rect_emb_val t y 1).trans (by rw [(index_gates t).2.2]; show (17 + t % 4) * 512 + (y 1 : ℕ) = 8704 + (t % 4 * 512 + y 1); omega))

theorem spot_2 : ((cfg0.win 2).blk t).view.emb y = spot t y :=
  eq_spot t y (win0_2.rect_emb_val t y 0) (win0_2.rect_emb_val t y 1) (index_tile t).1

theorem spot_3 : ((cfg0.win 3).blk t).view.emb y = spot t y :=
  eq_spot t y (win0_3.rect_emb_val t y 0) (win0_3.rect_emb_val t y 1) (index_tile t).2.1

theorem spot_4 : ((cfg0.win 4).blk t).view.emb y = spot t y :=
  eq_spot t y (win0_4.rect_emb_val t y 0) (win0_4.rect_emb_val t y 1) (index_tile t).2.2.1

theorem spot_5 : ((cfg0.win 5).blk t).view.emb y = spot t y :=
  eq_spot t y (win0_5.rect_emb_val t y 0) (win0_5.rect_emb_val t y 1) (index_tile t).2.2.2.1

theorem spot_6 : ((cfg0.win 6).blk t).view.emb y = spot t y :=
  eq_spot t y (win0_6.rect_emb_val t y 0) (win0_6.rect_emb_val t y 1) (index_tile t).2.2.2.2.1

theorem spot_7 : ((cfg0.win 7).blk t).view.emb y = spot t y :=
  eq_spot t y (win0_7.rect_emb_val t y 0) (win0_7.rect_emb_val t y 1) (index_tile t).2.2.2.2.2.1

theorem spot_8 : ((cfg0.win 8).blk t).view.emb y = spot t y :=
  eq_spot t y (win0_8.rect_emb_val t y 0) (win0_8.rect_emb_val t y 1) (index_tile t).2.2.2.2.2.2

/-! ## The results -/

variable (m : (ℓ : Loc nD τ sig) → Buf (Elt Ideal) ℓ) (ρ : Dev nD → PrngReg) (d : Dev nD)

abbrev p : FVec Ideal S2048x10752 .f32 := m ((d : Thread nD τ).loc main_arg0)
abbrev a : FVec Ideal S2048x2048 .f32 := m ((d : Thread nD τ).loc main_arg1)
abbrev b : FVec Ideal S2048x2048 .f32 := m ((d : Thread nD τ).loc main_arg2)
abbrev g : FVec Ideal S2048x2048 .f32 := m ((d : Thread nD τ).loc main_arg3)

/-- The arguments of the two gates. -/
abbrev u (i : S2048x2048.Idx) : EReal := p m d (beside 6656 (by decide) i)
abbrev v (i : S2048x2048.Idx) : EReal := p m d (beside 8704 (by decide) i)

theorem u_tile : (iblk m d 0 t : S256x512.Idx → EReal) y = u m d (spot t y) := congrArg (p m d) (gate_first t y)
theorem v_tile : (iblk m d 1 t : S256x512.Idx → EReal) y = v m d (spot t y) := congrArg (p m d) (gate_second t y)
theorem a_tile : (iblk m d 2 t : S256x512.Idx → EReal) y = a m d (spot t y) := congrArg (a m d) (spot_2 t y)
theorem b_tile : (iblk m d 3 t : S256x512.Idx → EReal) y = b m d (spot t y) := congrArg (b m d) (spot_3 t y)
theorem g_tile : (iblk m d 4 t : S256x512.Idx → EReal) y = g m d (spot t y) := congrArg (g m d) (spot_4 t y)

theorem final_du : (dats m 0 d).arrAt 5 cfg0.N = turned (u m d) (a m d) (g m d) :=
  (dats m 0 d).arrAt_eq_of_cover 5 (turned (u m d) (a m d) (g m d))
    (fun t _ => by
      rw [Value.flushed5]
      unfold out0_5 k0_pay15
      rw [View.canon_unit_zero origin]
      simp only [View.ld_unit_zero (S := S256x512) origin]
      refine funext fun y => (turned_first (iblk m d 0 t) (iblk m d 2 t) (iblk m d 4 t) y).trans (Eq.trans ?_ (congrArg (turned (u m d) (a m d) (g m d)) (spot_5 t y)).symm)
      unfold turned
      rw [u_tile, a_tile, g_tile])
    fun i =>
      have h : i ∈ (win0_5.rect (point i)).set := mem_point i _ _ rfl rfl (index_tile _).2.2.2.1
      ⟨point i, flush0_5 _, (View.set_slice_whole (Pipeline.arrRef spec0 5) (win0_5.rect (point i))).symm ▸ h⟩

theorem final_dv : (dats m 0 d).arrAt 6 cfg0.N = turned (v m d) (b m d) (g m d) :=
  (dats m 0 d).arrAt_eq_of_cover 6 (turned (v m d) (b m d) (g m d))
    (fun t _ => by
      rw [Value.flushed6]
      unfold out0_6
      rw [View.canon_unit_zero origin]
      simp only [View.ld_unit_zero (S := S256x512) origin]
      refine funext fun y => (turned_second (iblk m d 1 t) (iblk m d 3 t) (iblk m d 4 t) y).trans (Eq.trans ?_ (congrArg (turned (v m d) (b m d) (g m d)) (spot_6 t y)).symm)
      unfold turned
      rw [v_tile, b_tile, g_tile])
    fun i =>
      have h : i ∈ (win0_6.rect (point i)).set := mem_point i _ _ rfl rfl (index_tile _).2.2.2.2.1
      ⟨point i, flush0_6 _, (View.set_slice_whole (Pipeline.arrRef spec0 6) (win0_6.rect (point i))).symm ▸ h⟩

theorem final_da : (dats m 0 d).arrAt 7 cfg0.N = passed (u m d) (g m d) :=
  (dats m 0 d).arrAt_eq_of_cover 7 (passed (u m d) (g m d))
    (fun t _ => by
      rw [Value.flushed7]
      unfold out0_7 k0_pay15
      rw [View.canon_unit_zero origin]
      simp only [View.ld_unit_zero (S := S256x512) origin]
      refine funext fun y => (passed_first (iblk m d 0 t) (iblk m d 4 t) y).trans (Eq.trans ?_ (congrArg (passed (u m d) (g m d)) (spot_7 t y)).symm)
      unfold passed
      rw [u_tile, g_tile])
    fun i =>
      have h : i ∈ (win0_7.rect (point i)).set := mem_point i _ _ rfl rfl (index_tile _).2.2.2.2.2.1
      ⟨point i, flush0_7 _, (View.set_slice_whole (Pipeline.arrRef spec0 7) (win0_7.rect (point i))).symm ▸ h⟩

theorem final_db : (dats m 0 d).arrAt 8 cfg0.N = passed (v m d) (g m d) :=
  (dats m 0 d).arrAt_eq_of_cover 8 (passed (v m d) (g m d))
    (fun t _ => by
      rw [Value.flushed8]
      unfold out0_8
      rw [View.canon_unit_zero origin]
      simp only [View.ld_unit_zero (S := S256x512) origin]
      refine funext fun y => (passed_second (iblk m d 1 t) (iblk m d 4 t) y).trans (Eq.trans ?_ (congrArg (passed (v m d) (g m d)) (spot_8 t y)).symm)
      unfold passed
      rw [v_tile, g_tile])
    fun i =>
      have h : i ∈ (win0_8.rect (point i)).set := mem_point i _ _ rfl rfl (index_tile _).2.2.2.2.2.2
      ⟨point i, flush0_8 _, (View.set_slice_whole (Pipeline.arrRef spec0 8) (win0_8.rect (point i))).symm ▸ h⟩

theorem run : θ_run defs (onTc (τ := τ) (main (F := Ideal))) ⟨m, fun _ => 0, ρ⟩ fun r => ∀ c : Dev nD,
      r.2.mem ((c : Thread nD τ).loc main_v0_0) = turned (u m c) (a m c) (g m c)
      ∧ r.2.mem ((c : Thread nD τ).loc main_v0_1) = turned (v m c) (b m c) (g m c)
      ∧ r.2.mem ((c : Thread nD τ).loc main_v0_2) = passed (u m c) (g m c)
      ∧ r.2.mem ((c : Thread nD τ).loc main_v0_3) = passed (v m c) (g m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_du m c), (h c).2.1.trans (final_dv m c), (h c).2.2.1.trans (final_da m c),
    (h c).2.2.2.1.trans (final_db m c), (h c).2.2.2.2⟩) (Value.run_blocks m ρ)

/-! ## The plain derivative -/

section Plain

variable (p : FVec Ideal S2048x10752 .f32) (a g : FVec Ideal S2048x2048 .f32) (o : ℕ) (ho : o + 2048 ≤ 10752)
  (hs : S2048x10752.Slices ![0, o] S2048x2048) (h1 : Point.BroadcastsInDim S2048x2048 ![]) (hg : S2048x2048.ShapeCasts S2048x2048) (hb : FTy.bf16.bits < FTy.f32.bits)

/-- The host's gate. -/
abbrev gates : FVec Ideal S2048x2048 .f32 :=
  Host.divf (broadcastInDim S2048x2048 ![] h1 (constant Point .f32 0x3F800000#32))
    (addf (broadcastInDim S2048x2048 ![] h1 (constant Point .f32 0x3F800000#32)) (Host.exp (Host.negf (extractStridedSlice S2048x2048 ![0, o] p hs))))

theorem gates_at (i : S2048x2048.Idx) : gates p o hs h1 i = Ideal.logistic (p (beside o ho i)) :=
  (gate_host _).trans (congrArg Ideal.logistic (slice_host p o ho hs i))

theorem turned_host : (truncf .bf16 (mulf (mulf (shapeCast S2048x2048 g hg) a)
      (mulf (gates p o hs h1) (subf (broadcastInDim S2048x2048 ![] h1 (constant Point .f32 0x3F800000#32)) (gates p o hs h1)))) hb : FVec Ideal S2048x2048 .bf16)
    = turned (fun i => p (beside o ho i)) a g := by
  rw [shapeCast_self]
  funext i
  show g i * a i * (gates p o hs h1 i * (one - gates p o hs h1 i)) = _
  rw [gates_at p o ho, one_eq]
  rfl

theorem passed_host : (truncf .bf16 (mulf (gates p o hs h1) (shapeCast S2048x2048 g hg)) hb : FVec Ideal S2048x2048 .bf16) = passed (fun i => p (beside o ho i)) g := by
  rw [shapeCast_self]
  funext i
  exact congrArg (· * g i) (gates_at p o ho hs h1 i)

end Plain

/-! ## The claims -/

theorem frame_pulled : Cert.quiescent_MergePulledBackIdeal := fun m ρ _ =>
  (θ_run Cert.MergePulledBackIdeal.defs _ _).mono (fun r h => ⟨fun c => (h c).2.2.2.2, sem_eq_zero_of_no_sems (by decide) r.2⟩)
    (Cert.MergePulledBackIdeal.Value.run (F := Ideal) m ρ)

theorem algebraic : Cert.algebraic_MergeBwdIdeal_MergePulledBackIdeal := by
  intro m ρ m' ρ' _ agree
  refine ⟨_, _, _, _, run m ρ, ?_⟩
  refine (θ_run Cert.MergePulledBackIdeal.defs _ _).mono (fun _ h c => ?_) (Cert.MergePulledBackIdeal.Value.run (F := Ideal) m' ρ')
  obtain ⟨a0, a1, a2, a3⟩ := agree c
  obtain ⟨e0, e1, e2, e3, k⟩ := h c
  rw [a0, a1, a3] at e0
  rw [a0, a2, a3] at e1
  rw [a0, a3] at e2 e3
  exact ⟨e0.trans (turned_host (p m c) (a m c) (g m c) 6656 (by decide) _ _ _ _), e1.trans (turned_host (p m c) (b m c) (g m c) 8704 (by decide) _ _ _ _),
    e2.trans (passed_host (p m c) (g m c) 6656 (by decide) _ _ _ _), e3.trans (passed_host (p m c) (g m c) 8704 (by decide) _ _ _ _), k⟩

end Cert.MergeBwdIdeal.Whole

end
-- ==== Proof.MergeFwd.lean ====
module

public import proofs.«01_k».proof.Defs
public import proofs.«01_k».proof.Proof.Merge
public import proofs.«01_k».proof.Proof.Gen.MergeFwd.Frame
public import proofs.«01_k».proof.Proof.Gen.MergeFwdIdeal.Value
public import proofs.«01_k».proof.Proof.Gen.MergedIdeal.Run

/-!
# The merge

Every element of the result is one gate times the element of one branch plus the other gate times the element of the other.
-/

@[expose] public section

noncomputable section

namespace Cert.MergeFwdIdeal.Whole

open Cert.MergeFwdIdeal Cert.MergeFwdIdeal.Gen Cert.Step Cert.Merge Idealize.ShloMosaic Idealize.ShloMosaic.TcCoe Idealize.ShloMosaic.ValueIdx Idealize.SL.Sem

variable (p : FVec Ideal S2048x10752 .f32) (a b : FVec Ideal S2048x2048 .f32)

/-- The merge of the branches `a` and `b`. -/
def merge : FVec Ideal S2048x2048 .bf16 := fun i =>
  Ideal.logistic (p (beside 6656 (by decide) i)) * a i + Ideal.logistic (p (beside 8704 (by decide) i)) * b i

theorem merge_kernel : Value.G4 (F := Ideal) p p a b = merge p a b := funext fun i => by
  have e : Value.inIdx4_0 i = beside 6656 (by decide) i := Cert.Product.eq_at _ _ _ rfl (Nat.add_comm _ _)
  have f : Value.inIdx4_1 i = beside 8704 (by decide) i := Cert.Product.eq_at _ _ _ rfl (Nat.add_comm _ _)
  show Ideal.div one (one + Ideal.exp (zero - p (Value.inIdx4_0 i))) * a i + Ideal.div one (one + Ideal.exp (zero - p (Value.inIdx4_1 i))) * b i = _
  rw [gate_kernel, gate_kernel, e, f]
  rfl

theorem frame_plain : Cert.quiescent_MergedIdeal := fun m ρ _ =>
  (θ_run Cert.MergedIdeal.defs _ _).mono (fun r h => ⟨fun c => (h c).2, sem_eq_zero_of_no_sems (by decide) r.2⟩)
    (Cert.MergedIdeal.Value.run (F := Ideal) m ρ)

theorem algebraic : Cert.algebraic_MergeFwdIdeal_MergedIdeal := by
  intro m ρ m' ρ' _ agree
  refine ⟨_, Value.run m ρ, ?_⟩
  refine (θ_run Cert.MergedIdeal.defs _ _).mono (fun _ h c => ⟨(h c).1.trans ?_, (h c).2⟩) (Cert.MergedIdeal.Value.run (F := Ideal) m' ρ')
  obtain ⟨a0, a1, a2⟩ := agree c
  rw [a0, a1, a2, merge_kernel]
  generalize m ((c : Thread nD τ).loc main_arg0) = p
  generalize m ((c : Thread nD τ).loc main_arg1) = a
  generalize m ((c : Thread nD τ).loc main_arg2) = b
  funext i
  refine (congrArg₂ (fun s t => Ideal.div one (one + Ideal.exp (-s)) * a i + Ideal.div one (one + Ideal.exp (-t)) * b i)
    (slice_host p 6656 (by decide) Cert.MergedIdeal.Gen.slices_S2048x10752_S2048x2048_0_6656 i)
    (slice_host p 8704 (by decide) Cert.MergedIdeal.Gen.slices_S2048x10752_S2048x2048_0_8704 i)).trans ?_
  rw [gate_host, gate_host]
  rfl

end Cert.MergeFwdIdeal.Whole

end
-- ==== Proof.RmsFwd.lean ====
module

public import proofs.«01_k».proof.Defs
public import proofs.«01_k».proof.Proof.Product
public import proofs.«01_k».proof.Proof.RmsBwd
public import proofs.«01_k».proof.Proof.Gen.RmsFwd.Frame
public import proofs.«01_k».proof.Proof.Gen.RmsFwdIdeal.Value
public import proofs.«01_k».proof.Proof.Gen.NormedIdeal.Run

/-!
# The norm

Every grid point writes its tile of rows, each row scaled by its own factor and by the weight.
-/

@[expose] public section

noncomputable section

namespace Cert.Norm.Moves

variable {r c : ℕ} (M : Moves r c)

open Cert.Step Idealize.ShloMosaic Idealize.ShloMosaic.ValueIdx

/-- The sheet with every row scaled by its factor and by the weight. -/
def norms (x : FVec Ideal (Sheet r c) .f32) (w : FVec Ideal (Sheet 1 c) .f32) : FVec Ideal (Sheet r c) .f32 :=
  mulf (mulf x (M.spread (M.scales x))) (M.down w)

theorem norms_at (x : FVec Ideal (Sheet r c) .f32) (w : FVec Ideal (Sheet 1 c) .f32) (a : Fin r) (k : Fin c) :
    M.norms x w (ix2 a k) = x (ix2 a k) * scale (row x a) * w (ix2 0 k) := by
  unfold norms
  simp only [mulf_apply, M.down_at, M.spread_at, M.scales_at]

end Cert.Norm.Moves

namespace Cert.RmsFwdIdeal.Whole

open Cert.RmsFwdIdeal Cert.RmsFwdIdeal.Gen Cert.Step Cert.Norm Idealize.ShloMosaic Idealize.ShloMosaic.TcCoe Idealize.ShloMosaic.ValueIdx Idealize.SL.Sem
open Cert.RmsBwdIdeal.Whole (tile sheet)

/-- Point `t` holds the rows of tile `t`, and the whole of the weight. -/
theorem index_tile : ∀ t : Fin grid0.N, (win0_0.index t 0 = t ∧ win0_0.index t 1 = 0) ∧ (win0_1.index t 0 = 0 ∧ win0_1.index t 1 = 0)
    ∧ (win0_2.index t 0 = t ∧ win0_2.index t 1 = 0) := by
  decide +kernel

/-- Row `a` of tile `t`. -/
def line (t : Fin cfg0.N) (a : Fin 256) : Fin 2048 := ⟨t * 256 + a, by have : (t : ℕ) < 8 := lt_of_lt_of_eq t.isLt N_0; omega⟩

section Tiles

variable (t : Fin cfg0.N) (a : Fin 256) (k : Fin 2048)

theorem x_at : ((cfg0.win 0).blk t).view.emb (ix2 a k) = ix2 (line t a) k :=
  Cert.Product.eq_row (p := 256) (win0_0.rect_emb_val t _ 0) rfl (index_tile t).1.1 (win0_0.rect_emb_val t _ 1) (index_tile t).1.2

theorem w_at : ((cfg0.win 1).blk t).view.emb (ix2 0 k) = ix2 0 k :=
  Cert.Product.eq_row (p := 1) (f := 0) (win0_1.rect_emb_val t _ 0) rfl (index_tile t).2.1.1 (win0_1.rect_emb_val t _ 1) (index_tile t).2.1.2

theorem y_at : ((cfg0.win 2).blk t).view.emb (ix2 a k) = ix2 (line t a) k :=
  Cert.Product.eq_row (p := 256) (win0_2.rect_emb_val t _ 0) rfl (index_tile t).2.2.1 (win0_2.rect_emb_val t _ 1) (index_tile t).2.2.2

theorem covered (i : S2048x2048.Idx) : ∃ t : Fin cfg0.N, i ∈ (win0_2.rect t).set := by
  have h0 : (i 0 : ℕ) < 2048 := (i 0).isLt
  have hN : grid0.N = 8 := N_0
  have e := (index_tile ⟨(i 0 : ℕ) / 256, by omega⟩).2.2
  exact ⟨_, mem_rows (by decide) i _ _ (congrArg (· * 256) e.1) (by show _ * 2048 = 0; rw [e.2, Nat.zero_mul])⟩

end Tiles

variable (m : (ℓ : Loc nD τ sig) → Buf (Elt Ideal) ℓ) (ρ : Dev nD → PrngReg) (d : Dev nD)

abbrev x : FVec Ideal S2048x2048 .f32 := m ((d : Thread nD τ).loc main_arg0)
abbrev w : FVec Ideal S1x2048 .f32 := m ((d : Thread nD τ).loc main_arg1)

/-- The result. -/
def y : FVec Ideal S2048x2048 .bf16 := fun i => x m d (ix2 (i 0) (i 1)) * scale (row (x m d) (i 0)) * w m d (ix2 0 (i 1))

theorem x_tile (t : Fin cfg0.N) (a : Fin 256) : row (r := 256) (c := 2048) (iblk m d 0 t) a = row (x m d) (line t a) :=
  funext fun k => congrArg (x m d) (x_at t a k)

theorem final : (dats m 0 d).arrAt 2 cfg0.N = y m d :=
  (dats m 0 d).arrAt_eq_of_cover 2 (y m d)
    (fun t _ => by
      rw [Value.flushed2]
      unfold out0_2
      rw [View.canon_unit_zero origin, View.ld_unit_zero (S := S256x2048) origin, View.ld_unit_zero (S := S1x2048) origin]
      refine funext fun i => ?_
      obtain ⟨a, k, rfl⟩ : ∃ (a : Fin 256) (k : Fin 2048), i = ix2 a k := ⟨i 0, i 1, eq_ix2 i⟩
      refine (tile.norms_at (iblk m d 0 t) (iblk m d 1 t) a k).trans ?_
      refine Eq.trans ?_ (congrArg (y m d) (y_at t a k)).symm
      rw [x_tile]
      exact congrArg₂ (fun u v => u * scale (row (x m d) (line t a)) * v) (congrArg (x m d) (x_at t a k)) (congrArg (w m d) (w_at t k)))
    fun i => (covered i).imp fun t h => ⟨flush0_2 t, (View.set_slice_whole (Pipeline.arrRef spec0 2) (win0_2.rect t)).symm ▸ h⟩

theorem run : θ_run defs (onTc (τ := τ) (main (F := Ideal))) ⟨m, fun _ => 0, ρ⟩ fun r => ∀ c : Dev nD,
      r.2.mem ((c : Thread nD τ).loc main_v0) = y m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

theorem y_host : sheet.norms (x m d) (w m d) = y m d := funext fun i => by
  obtain ⟨a, k, rfl⟩ : ∃ (a : Fin 2048) (k : Fin 2048), i = ix2 a k := ⟨i 0, i 1, eq_ix2 i⟩
  exact sheet.norms_at _ _ a k

theorem frame_normed : Cert.quiescent_NormedIdeal := fun m ρ _ =>
  (θ_run Cert.NormedIdeal.defs _ _).mono (fun r h => ⟨fun c => (h c).2, sem_eq_zero_of_no_sems (by decide) r.2⟩)
    (Cert.NormedIdeal.Value.run (F := Ideal) m ρ)

theorem algebraic : Cert.algebraic_RmsFwdIdeal_NormedIdeal := by
  intro m ρ m' ρ' _ agree
  refine ⟨_, run m ρ, ?_⟩
  refine (θ_run Cert.NormedIdeal.defs _ _).mono (fun _ h c => ⟨(h c).1.trans ?_, (h c).2⟩) (Cert.NormedIdeal.Value.run (F := Ideal) m' ρ')
  rw [(agree c).1, (agree c).2]
  exact y_host m c

end Cert.RmsFwdIdeal.Whole

end
-- ==== Proof.lean ====
module

public import proofs.«01_k».proof.Defs
public import proofs.«01_k».proof.Proof.Blocks
public import proofs.«01_k».proof.Proof.Gen.Kernel
public import proofs.«01_k».proof.Proof.Gen.KernelIdeal
public import proofs.«01_k».proof.Proof.Gen.ReferenceIdeal.Run
public import proofs.«01_k».proof.Proof.Gen.Reference.Run
public import proofs.«01_k».proof.Proof.SumSmall
public import proofs.«01_k».proof.Proof.RmsBwd
public import proofs.«01_k».proof.Proof.Final
public import proofs.«01_k».proof.Proof.Total
public import proofs.«01_k».proof.Proof.Gen.RmsBwd
public import proofs.«01_k».proof.Proof.Gen.RmsBwdIdeal
public import proofs.«01_k».proof.Proof.Gen.PulledBackIdeal
public import proofs.«01_k».proof.Proof.Gen.RmsBwd.Frame
public import proofs.«01_k».proof.Proof.Gen.RmsBwdIdeal.Value
public import proofs.«01_k».proof.Proof.Gen.RmsBwdIdeal.Frame
public import proofs.«01_k».proof.Proof.Gen.PulledBackIdeal.Run
public import proofs.«01_k».proof.Proof.GatherWhole
public import proofs.«01_k».proof.Proof.GatherSmall
public import proofs.«01_k».proof.Proof.Gen.GatherWeights
public import proofs.«01_k».proof.Proof.Gen.GatherWeightsIdeal
public import proofs.«01_k».proof.Proof.Gen.AllGatherWeightsIdeal.Run
public import proofs.«01_k».proof.Proof.Gen.AllGatherWeights.Run
public import proofs.«01_k».proof.Proof.Gen.GatherSmallGrads
public import proofs.«01_k».proof.Proof.Gen.GatherSmallGradsIdeal
public import proofs.«01_k».proof.Proof.Gen.AllGatherSmallGradsIdeal.Run
public import proofs.«01_k».proof.Proof.Gen.AllGatherSmallGrads.Run
public import proofs.«01_k».proof.Proof.Gen.SumSmall
public import proofs.«01_k».proof.Proof.Gen.SumSmallIdeal
public import proofs.«01_k».proof.Proof.Gen.SumSmallIdeal.Frame
public import proofs.«01_k».proof.Proof.Gen.PlainSumIdeal
public import proofs.«01_k».proof.Proof.AdamWIn
public import proofs.«01_k».proof.Proof.AdamS5WGlu
public import proofs.«01_k».proof.Proof.AdamS5WUp
public import proofs.«01_k».proof.Proof.AdamWOut
public import proofs.«01_k».proof.Proof.AdamSmall
public import proofs.«01_k».proof.Proof.Gen.AdamWIn
public import proofs.«01_k».proof.Proof.Gen.AdamWInIdeal
public import proofs.«01_k».proof.Proof.Gen.AdamWInIdeal.Frame
public import proofs.«01_k».proof.Proof.Gen.StepWInIdeal
public import proofs.«01_k».proof.Proof.Gen.AdamS5WGlu
public import proofs.«01_k».proof.Proof.Gen.AdamS5WGluIdeal
public import proofs.«01_k».proof.Proof.Gen.AdamS5WGluIdeal.Frame
public import proofs.«01_k».proof.Proof.Gen.StepS5WGluIdeal
public import proofs.«01_k».proof.Proof.Gen.AdamS5WUp
public import proofs.«01_k».proof.Proof.Gen.AdamS5WUpIdeal
public import proofs.«01_k».proof.Proof.Gen.AdamS5WUpIdeal.Frame
public import proofs.«01_k».proof.Proof.Gen.StepS5WUpIdeal
public import proofs.«01_k».proof.Proof.Gen.AdamWOut
public import proofs.«01_k».proof.Proof.Gen.AdamWOutIdeal
public import proofs.«01_k».proof.Proof.Gen.AdamWOutIdeal.Frame
public import proofs.«01_k».proof.Proof.Gen.StepWOutIdeal
public import proofs.«01_k».proof.Proof.Gen.AdamSmall
public import proofs.«01_k».proof.Proof.Gen.AdamSmallIdeal
public import proofs.«01_k».proof.Proof.Gen.AdamSmallIdeal.Frame
public import proofs.«01_k».proof.Proof.Gen.StepSmallIdeal
public import proofs.«01_k».proof.Proof.ProductWOut
public import proofs.«01_k».proof.Proof.Gen.ProductWOut
public import proofs.«01_k».proof.Proof.Gen.ProductWOutIdeal
public import proofs.«01_k».proof.Proof.Gen.ProductWOutIdeal.Frame
public import proofs.«01_k».proof.Proof.Gen.PlainWOutIdeal
public import proofs.«01_k».proof.Proof.ProductGradWOut
public import proofs.«01_k».proof.Proof.Gen.ProductGradWOut
public import proofs.«01_k».proof.Proof.Gen.ProductGradWOutIdeal
public import proofs.«01_k».proof.Proof.Gen.ProductGradWOutIdeal.Frame
public import proofs.«01_k».proof.Proof.Gen.PlainGradWOutIdeal
public import proofs.«01_k».proof.Proof.ProductDMixed
public import proofs.«01_k».proof.Proof.Gen.ProductDMixed
public import proofs.«01_k».proof.Proof.Gen.ProductDMixedIdeal
public import proofs.«01_k».proof.Proof.Gen.ProductDMixedIdeal.Frame
public import proofs.«01_k».proof.Proof.Gen.PlainDMixedIdeal
public import proofs.«01_k».proof.Proof.ProductS5Up
public import proofs.«01_k».proof.Proof.Gen.ProductS5Up
public import proofs.«01_k».proof.Proof.Gen.ProductS5UpIdeal
public import proofs.«01_k».proof.Proof.Gen.ProductS5UpIdeal.Frame
public import proofs.«01_k».proof.Proof.Gen.PlainS5UpIdeal
public import proofs.«01_k».proof.Proof.ProductGradS5Up
public import proofs.«01_k».proof.Proof.Gen.ProductGradS5Up
public import proofs.«01_k».proof.Proof.Gen.ProductGradS5UpIdeal
public import proofs.«01_k».proof.Proof.Gen.ProductGradS5UpIdeal.Frame
public import proofs.«01_k».proof.Proof.Gen.PlainGradS5UpIdeal
public import proofs.«01_k».proof.Proof.ProductDOutS
public import proofs.«01_k».proof.Proof.Gen.ProductDOutS
public import proofs.«01_k».proof.Proof.Gen.ProductDOutSIdeal
public import proofs.«01_k».proof.Proof.Gen.ProductDOutSIdeal.Frame
public import proofs.«01_k».proof.Proof.Gen.PlainDOutSIdeal
public import proofs.«01_k».proof.Proof.ProductProj
public import proofs.«01_k».proof.Proof.Gen.ProductProj
public import proofs.«01_k».proof.Proof.Gen.ProductProjIdeal
public import proofs.«01_k».proof.Proof.Gen.ProductProjIdeal.Frame
public import proofs.«01_k».proof.Proof.Gen.PlainProjIdeal
public import proofs.«01_k».proof.Proof.ProductGradWIn
public import proofs.«01_k».proof.Proof.Gen.ProductGradWIn
public import proofs.«01_k».proof.Proof.Gen.ProductGradWInIdeal
public import proofs.«01_k».proof.Proof.Gen.ProductGradWInIdeal.Frame
public import proofs.«01_k».proof.Proof.Gen.PlainGradWInIdeal
public import proofs.«01_k».proof.Proof.ProductDH
public import proofs.«01_k».proof.Proof.Gen.ProductDH
public import proofs.«01_k».proof.Proof.Gen.ProductDHIdeal
public import proofs.«01_k».proof.Proof.Gen.ProductDHIdeal.Frame
public import proofs.«01_k».proof.Proof.Gen.PlainDHIdeal
public import proofs.«01_k».proof.Proof.MergeBwd
public import proofs.«01_k».proof.Proof.Gen.MergeBwd
public import proofs.«01_k».proof.Proof.Gen.MergeBwdIdeal
public import proofs.«01_k».proof.Proof.Gen.MergeBwdIdeal.Frame
public import proofs.«01_k».proof.Proof.Gen.MergePulledBackIdeal
public import proofs.«01_k».proof.Proof.MergeFwd
public import proofs.«01_k».proof.Proof.Gen.MergeFwd
public import proofs.«01_k».proof.Proof.Gen.MergeFwdIdeal
public import proofs.«01_k».proof.Proof.Gen.MergeFwdIdeal.Frame
public import proofs.«01_k».proof.Proof.Gen.MergedIdeal
public import proofs.«01_k».proof.Proof.RmsFwd
public import proofs.«01_k».proof.Proof.Gen.RmsFwd
public import proofs.«01_k».proof.Proof.Gen.RmsFwdIdeal
public import proofs.«01_k».proof.Proof.Gen.RmsFwdIdeal.Frame
public import proofs.«01_k».proof.Proof.Gen.NormedIdeal

/-!
# The exchange of the gradients, the updates of the weights, the gathers, the norm and its derivative, the merge and its derivative, the loss and the products

Both printings of the exchange and of its reference run to a quiet end with their arguments unchanged, and on every device
each result is its block of the reference's, over the machine's words and over the extended reals alike. So do both gathers
and their references. So do the updates, the sum of the small gradients, the norm and its derivative, the merge and its
derivative, the loss of a device with its gradients, the sum of the devices' losses, the products of the forward and backward pass and their plain counterparts, with equal results over the extended reals.
-/

@[expose] public section

noncomputable section

namespace Cert.Proof

theorem claim : Cert.Claim := ⟨Cert.Kernel.Gen.facts, Cert.KernelIdeal.Gen.facts, Cert.ReferenceIdeal.Gen.facts, Cert.Reference.Gen.facts,
  Cert.AdamWIn.Gen.facts, Cert.AdamWInIdeal.Gen.facts, Cert.StepWInIdeal.Gen.facts,
  Cert.AdamS5WGlu.Gen.facts, Cert.AdamS5WGluIdeal.Gen.facts, Cert.StepS5WGluIdeal.Gen.facts,
  Cert.AdamS5WUp.Gen.facts, Cert.AdamS5WUpIdeal.Gen.facts, Cert.StepS5WUpIdeal.Gen.facts,
  Cert.AdamWOut.Gen.facts, Cert.AdamWOutIdeal.Gen.facts, Cert.StepWOutIdeal.Gen.facts,
  Cert.AdamSmall.Gen.facts, Cert.AdamSmallIdeal.Gen.facts, Cert.StepSmallIdeal.Gen.facts,
  Cert.SumSmall.Gen.facts, Cert.SumSmallIdeal.Gen.facts, Cert.PlainSumIdeal.Gen.facts,
  Cert.GatherWeights.Gen.facts, Cert.GatherWeightsIdeal.Gen.facts, Cert.AllGatherWeightsIdeal.Gen.facts, Cert.AllGatherWeights.Gen.facts,
  Cert.GatherSmallGrads.Gen.facts, Cert.GatherSmallGradsIdeal.Gen.facts, Cert.AllGatherSmallGradsIdeal.Gen.facts, Cert.AllGatherSmallGrads.Gen.facts,
  Cert.RmsBwd.Gen.facts, Cert.RmsBwdIdeal.Gen.facts, Cert.PulledBackIdeal.Gen.facts,
  Cert.Final.Gen.facts, Cert.FinalIdeal.Gen.facts, Cert.PlainFinalIdeal.Gen.facts,
  Cert.Total.Gen.facts, Cert.TotalIdeal.Gen.facts, Cert.PlainTotalIdeal.Gen.facts,
  Cert.ProductWOut.Gen.facts, Cert.ProductWOutIdeal.Gen.facts, Cert.PlainWOutIdeal.Gen.facts,
  Cert.ProductGradWOut.Gen.facts, Cert.ProductGradWOutIdeal.Gen.facts, Cert.PlainGradWOutIdeal.Gen.facts,
  Cert.ProductDMixed.Gen.facts, Cert.ProductDMixedIdeal.Gen.facts, Cert.PlainDMixedIdeal.Gen.facts,
  Cert.ProductS5Up.Gen.facts, Cert.ProductS5UpIdeal.Gen.facts, Cert.PlainS5UpIdeal.Gen.facts,
  Cert.ProductGradS5Up.Gen.facts, Cert.ProductGradS5UpIdeal.Gen.facts, Cert.PlainGradS5UpIdeal.Gen.facts,
  Cert.ProductDOutS.Gen.facts, Cert.ProductDOutSIdeal.Gen.facts, Cert.PlainDOutSIdeal.Gen.facts,
  Cert.ProductProj.Gen.facts, Cert.ProductProjIdeal.Gen.facts, Cert.PlainProjIdeal.Gen.facts,
  Cert.ProductGradWIn.Gen.facts, Cert.ProductGradWInIdeal.Gen.facts, Cert.PlainGradWInIdeal.Gen.facts,
  Cert.ProductDH.Gen.facts, Cert.ProductDHIdeal.Gen.facts, Cert.PlainDHIdeal.Gen.facts,
 Cert.RmsFwd.Gen.facts, Cert.RmsFwdIdeal.Gen.facts, Cert.NormedIdeal.Gen.facts,
 Cert.MergeFwd.Gen.facts, Cert.MergeFwdIdeal.Gen.facts, Cert.MergedIdeal.Gen.facts,
 Cert.MergeBwd.Gen.facts, Cert.MergeBwdIdeal.Gen.facts, Cert.MergePulledBackIdeal.Gen.facts,
  Cert.Exchange.frame_kernel, Cert.Exchange.frame_kernelIdeal, Cert.Exchange.frame_referenceIdeal, Cert.Exchange.frame_reference,
  fun m ρ _ => Cert.AdamWIn.Gen.frame m ρ, fun m ρ _ => Cert.AdamWInIdeal.Gen.frame m ρ, Cert.AdamWInIdeal.Whole.frame_step,
  fun m ρ _ => Cert.AdamS5WGlu.Gen.frame m ρ, fun m ρ _ => Cert.AdamS5WGluIdeal.Gen.frame m ρ, Cert.AdamS5WGluIdeal.Whole.frame_step,
  fun m ρ _ => Cert.AdamS5WUp.Gen.frame m ρ, fun m ρ _ => Cert.AdamS5WUpIdeal.Gen.frame m ρ, Cert.AdamS5WUpIdeal.Whole.frame_step,
  fun m ρ _ => Cert.AdamWOut.Gen.frame m ρ, fun m ρ _ => Cert.AdamWOutIdeal.Gen.frame m ρ, Cert.AdamWOutIdeal.Whole.frame_step,
  fun m ρ _ => Cert.AdamSmall.Gen.frame m ρ, fun m ρ _ => Cert.AdamSmallIdeal.Gen.frame m ρ, Cert.AdamSmallIdeal.Whole.frame_step,
  fun m ρ _ => Cert.SumSmall.Gen.frame m ρ, fun m ρ _ => Cert.SumSmallIdeal.Gen.frame m ρ, Cert.SumSmallIdeal.Whole.frame_sum,
  Cert.GatherWeightsIdeal.Whole.frame, Cert.GatherWeightsIdeal.Whole.frame_ideal, Cert.GatherWeightsIdeal.Whole.frame_plain, Cert.GatherWeightsIdeal.Whole.frame_plain_bits,
  Cert.GatherSmallGradsIdeal.Whole.frame, Cert.GatherSmallGradsIdeal.Whole.frame_ideal, Cert.GatherSmallGradsIdeal.Whole.frame_plain, Cert.GatherSmallGradsIdeal.Whole.frame_plain_bits,
  fun m ρ _ => Cert.RmsBwd.Gen.frame m ρ, fun m ρ _ => Cert.RmsBwdIdeal.Gen.frame m ρ, Cert.RmsBwdIdeal.Whole.frame_pulled,
  fun m ρ _ => Cert.Final.Gen.frame m ρ, fun m ρ _ => Cert.FinalIdeal.Gen.frame m ρ, Cert.FinalIdeal.Whole.frame_plain,
  Cert.TotalIdeal.Whole.frame, Cert.TotalIdeal.Whole.frame_ideal, Cert.TotalIdeal.Whole.frame_plain,
  fun m ρ _ => Cert.ProductWOut.Gen.frame m ρ, fun m ρ _ => Cert.ProductWOutIdeal.Gen.frame m ρ, Cert.ProductWOutIdeal.Whole.frame_plain,
  fun m ρ _ => Cert.ProductGradWOut.Gen.frame m ρ, fun m ρ _ => Cert.ProductGradWOutIdeal.Gen.frame m ρ, Cert.ProductGradWOutIdeal.Whole.frame_plain,
  fun m ρ _ => Cert.ProductDMixed.Gen.frame m ρ, fun m ρ _ => Cert.ProductDMixedIdeal.Gen.frame m ρ, Cert.ProductDMixedIdeal.Whole.frame_plain,
  fun m ρ _ => Cert.ProductS5Up.Gen.frame m ρ, fun m ρ _ => Cert.ProductS5UpIdeal.Gen.frame m ρ, Cert.ProductS5UpIdeal.Whole.frame_plain,
  fun m ρ _ => Cert.ProductGradS5Up.Gen.frame m ρ, fun m ρ _ => Cert.ProductGradS5UpIdeal.Gen.frame m ρ, Cert.ProductGradS5UpIdeal.Whole.frame_plain,
  fun m ρ _ => Cert.ProductDOutS.Gen.frame m ρ, fun m ρ _ => Cert.ProductDOutSIdeal.Gen.frame m ρ, Cert.ProductDOutSIdeal.Whole.frame_plain,
  fun m ρ _ => Cert.ProductProj.Gen.frame m ρ, fun m ρ _ => Cert.ProductProjIdeal.Gen.frame m ρ, Cert.ProductProjIdeal.Whole.frame_plain,
  fun m ρ _ => Cert.ProductGradWIn.Gen.frame m ρ, fun m ρ _ => Cert.ProductGradWInIdeal.Gen.frame m ρ, Cert.ProductGradWInIdeal.Whole.frame_plain,
  fun m ρ _ => Cert.ProductDH.Gen.frame m ρ, fun m ρ _ => Cert.ProductDHIdeal.Gen.frame m ρ, Cert.ProductDHIdeal.Whole.frame_plain,
  fun m ρ _ => Cert.RmsFwd.Gen.frame m ρ, fun m ρ _ => Cert.RmsFwdIdeal.Gen.frame m ρ, Cert.RmsFwdIdeal.Whole.frame_normed,
  fun m ρ _ => Cert.MergeFwd.Gen.frame m ρ, fun m ρ _ => Cert.MergeFwdIdeal.Gen.frame m ρ, Cert.MergeFwdIdeal.Whole.frame_plain,
  fun m ρ _ => Cert.MergeBwd.Gen.frame m ρ, fun m ρ _ => Cert.MergeBwdIdeal.Gen.frame m ρ, Cert.MergeBwdIdeal.Whole.frame_pulled,
  trivial, Cert.Exchange.algebraic, Cert.Exchange.bitexact,
  Cert.AdamWInIdeal.Whole.preserves, Cert.AdamWInIdeal.Whole.algebraic,
  Cert.AdamS5WGluIdeal.Whole.preserves, Cert.AdamS5WGluIdeal.Whole.algebraic,
  Cert.AdamS5WUpIdeal.Whole.preserves, Cert.AdamS5WUpIdeal.Whole.algebraic,
  Cert.AdamWOutIdeal.Whole.preserves, Cert.AdamWOutIdeal.Whole.algebraic,
  Cert.AdamSmallIdeal.Whole.preserves, Cert.AdamSmallIdeal.Whole.algebraic,
  trivial, Cert.SumSmallIdeal.Whole.algebraic,
  trivial, Cert.GatherWeightsIdeal.Whole.algebraic, Cert.GatherWeightsIdeal.Whole.bitexact,
  trivial, Cert.GatherSmallGradsIdeal.Whole.algebraic, Cert.GatherSmallGradsIdeal.Whole.bitexact,
  trivial, Cert.RmsBwdIdeal.Whole.algebraic,
  trivial, Cert.FinalIdeal.Whole.algebraic,
  trivial, Cert.TotalIdeal.Whole.algebraic,
  trivial, Cert.ProductWOutIdeal.Whole.algebraic,
  trivial, Cert.ProductGradWOutIdeal.Whole.algebraic,
  trivial, Cert.ProductDMixedIdeal.Whole.algebraic,
  trivial, Cert.ProductS5UpIdeal.Whole.algebraic,
  trivial, Cert.ProductGradS5UpIdeal.Whole.algebraic,
  trivial, Cert.ProductDOutSIdeal.Whole.algebraic,
  trivial, Cert.ProductProjIdeal.Whole.algebraic,
  trivial, Cert.ProductGradWInIdeal.Whole.algebraic,
  trivial, Cert.ProductDHIdeal.Whole.algebraic,
  trivial, Cert.RmsFwdIdeal.Whole.algebraic,
  trivial, Cert.MergeFwdIdeal.Whole.algebraic,
  trivial, Cert.MergeBwdIdeal.Whole.algebraic⟩

end Cert.Proof

end
